-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_RefUpDwIdeal (m : (ℓ : Loc Cert.RefUpDwIdeal.nD Cert.RefUpDwIdeal.τ Cert.RefUpDwIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_RefOutDxIdeal (m : (ℓ : Loc Cert.RefOutDxIdeal.nD Cert.RefOutDxIdeal.τ Cert.RefOutDxIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_RefGluDxIdeal (m : (ℓ : Loc Cert.RefGluDxIdeal.nD Cert.RefGluDxIdeal.τ Cert.RefGluDxIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_RefGluDwIdeal (m : (ℓ : Loc Cert.RefGluDwIdeal.nD Cert.RefGluDwIdeal.τ Cert.RefGluDwIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_RefInFwdIdeal (m : (ℓ : Loc Cert.RefInFwdIdeal.nD Cert.RefInFwdIdeal.τ Cert.RefInFwdIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_RefGluFwdIdeal (m : (ℓ : Loc Cert.RefGluFwdIdeal.nD Cert.RefGluFwdIdeal.τ Cert.RefGluFwdIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_RefOutFwdIdeal (m : (ℓ : Loc Cert.RefOutFwdIdeal.nD Cert.RefOutFwdIdeal.τ Cert.RefOutFwdIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_RefUpFwdIdeal (m : (ℓ : Loc Cert.RefUpFwdIdeal.nD Cert.RefUpFwdIdeal.τ Cert.RefUpFwdIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_RefDownFwdIdeal (m : (ℓ : Loc Cert.RefDownFwdIdeal.nD Cert.RefDownFwdIdeal.τ Cert.RefDownFwdIdeal.sig) → Buf (Elt Ideal) ℓ) : Prop :=
  True

def Pre_ResBwd (m : (ℓ : Loc Cert.ResBwd.nD Cert.ResBwd.τ Cert.ResBwd.sig) → Buf (Elt Bits) ℓ) : Prop :=
  True

def Pre_ResBwdIdeal (m : (ℓ : Loc Cert.ResBwdIdeal.nD Cert.ResBwdIdeal.τ Cert.ResBwdIdeal.sig) → Buf (Elt Ideal) ℓ) : Prop :=
  True

def Pre_RefResBwdIdeal (m : (ℓ : Loc Cert.RefResBwdIdeal.nD Cert.RefResBwdIdeal.τ Cert.RefResBwdIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_RefModBwdIdeal (m : (ℓ : Loc Cert.RefModBwdIdeal.nD Cert.RefModBwdIdeal.τ Cert.RefModBwdIdeal.sig) → Buf (Elt Ideal) ℓ) : Prop :=
  True

def Pre_ModResBwd (m : (ℓ : Loc Cert.ModResBwd.nD Cert.ModResBwd.τ Cert.ModResBwd.sig) → Buf (Elt Bits) ℓ) : Prop :=
  True

def Pre_ModResBwdIdeal (m : (ℓ : Loc Cert.ModResBwdIdeal.nD Cert.ModResBwdIdeal.τ Cert.ModResBwdIdeal.sig) → Buf (Elt Ideal) ℓ) : Prop :=
  True

def Pre_RefModResBwdIdeal (m : (ℓ : Loc Cert.RefModResBwdIdeal.nD Cert.RefModResBwdIdeal.τ Cert.RefModResBwdIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_RefMergeBwdIdeal (m : (ℓ : Loc Cert.RefMergeBwdIdeal.nD Cert.RefMergeBwdIdeal.τ Cert.RefMergeBwdIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_RefModFwdIdeal (m : (ℓ : Loc Cert.RefModFwdIdeal.nD Cert.RefModFwdIdeal.τ Cert.RefModFwdIdeal.sig) → Buf (Elt Ideal) ℓ) : Prop :=
  True

def Pre_ResModFwd (m : (ℓ : Loc Cert.ResModFwd.nD Cert.ResModFwd.τ Cert.ResModFwd.sig) → Buf (Elt Bits) ℓ) : Prop :=
  True

def Pre_ResModFwdIdeal (m : (ℓ : Loc Cert.ResModFwdIdeal.nD Cert.ResModFwdIdeal.τ Cert.ResModFwdIdeal.sig) → Buf (Elt Ideal) ℓ) : Prop :=
  True

def Pre_RefResModFwdIdeal (m : (ℓ : Loc Cert.RefResModFwdIdeal.nD Cert.RefResModFwdIdeal.τ Cert.RefResModFwdIdeal.sig) → Buf (Elt Ideal) ℓ) : Prop :=
  True

def Pre_ResLoss (m : (ℓ : Loc Cert.ResLoss.nD Cert.ResLoss.τ Cert.ResLoss.sig) → Buf (Elt Bits) ℓ) : Prop :=
  True

def Pre_ResLossIdeal (m : (ℓ : Loc Cert.ResLossIdeal.nD Cert.ResLossIdeal.τ Cert.ResLossIdeal.sig) → Buf (Elt Ideal) ℓ) : Prop :=
  True

def Pre_RefResLossIdeal (m : (ℓ : Loc Cert.RefResLossIdeal.nD Cert.RefResLossIdeal.τ Cert.RefResLossIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_RefMergeFwdIdeal (m : (ℓ : Loc Cert.RefMergeFwdIdeal.nD Cert.RefMergeFwdIdeal.τ Cert.RefMergeFwdIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_RefAdaFwdIdeal (m : (ℓ : Loc Cert.RefAdaFwdIdeal.nD Cert.RefAdaFwdIdeal.τ Cert.RefAdaFwdIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_RefAdaDwIdeal (m : (ℓ : Loc Cert.RefAdaDwIdeal.nD Cert.RefAdaDwIdeal.τ Cert.RefAdaDwIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_RefGateFwdIdeal (m : (ℓ : Loc Cert.RefGateFwdIdeal.nD Cert.RefGateFwdIdeal.τ Cert.RefGateFwdIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_RefAdamWInIdeal (m : (ℓ : Loc Cert.RefAdamWInIdeal.nD Cert.RefAdamWInIdeal.τ Cert.RefAdamWInIdeal.sig) → Buf (Elt Ideal) ℓ) : Prop :=
  True

def Pre_AdamWGlu (m : (ℓ : Loc Cert.AdamWGlu.nD Cert.AdamWGlu.τ Cert.AdamWGlu.sig) → Buf (Elt Bits) ℓ) : Prop :=
  True

def Pre_AdamWGluIdeal (m : (ℓ : Loc Cert.AdamWGluIdeal.nD Cert.AdamWGluIdeal.τ Cert.AdamWGluIdeal.sig) → Buf (Elt Ideal) ℓ) : Prop :=
  True

def Pre_RefAdamWGluIdeal (m : (ℓ : Loc Cert.RefAdamWGluIdeal.nD Cert.RefAdamWGluIdeal.τ Cert.RefAdamWGluIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_RefAdamWOutIdeal (m : (ℓ : Loc Cert.RefAdamWOutIdeal.nD Cert.RefAdamWOutIdeal.τ Cert.RefAdamWOutIdeal.sig) → Buf (Elt Ideal) ℓ) : Prop :=
  True

def Pre_AdamWUp (m : (ℓ : Loc Cert.AdamWUp.nD Cert.AdamWUp.τ Cert.AdamWUp.sig) → Buf (Elt Bits) ℓ) : Prop :=
  True

def Pre_AdamWUpIdeal (m : (ℓ : Loc Cert.AdamWUpIdeal.nD Cert.AdamWUpIdeal.τ Cert.AdamWUpIdeal.sig) → Buf (Elt Ideal) ℓ) : Prop :=
  True

def Pre_RefAdamWUpIdeal (m : (ℓ : Loc Cert.RefAdamWUpIdeal.nD Cert.RefAdamWUpIdeal.τ Cert.RefAdamWUpIdeal.sig) → Buf (Elt Ideal) ℓ) : Prop :=
  True

def Pre_AdamWDown (m : (ℓ : Loc Cert.AdamWDown.nD Cert.AdamWDown.τ Cert.AdamWDown.sig) → Buf (Elt Bits) ℓ) : Prop :=
  True

def Pre_AdamWDownIdeal (m : (ℓ : Loc Cert.AdamWDownIdeal.nD Cert.AdamWDownIdeal.τ Cert.AdamWDownIdeal.sig) → Buf (Elt Ideal) ℓ) : Prop :=
  True

def Pre_RefAdamWDownIdeal (m : (ℓ : Loc Cert.RefAdamWDownIdeal.nD Cert.RefAdamWDownIdeal.τ Cert.RefAdamWDownIdeal.sig) → Buf (Elt Ideal) ℓ) : Prop :=
  True

def Pre_AdamWAda (m : (ℓ : Loc Cert.AdamWAda.nD Cert.AdamWAda.τ Cert.AdamWAda.sig) → Buf (Elt Bits) ℓ) : Prop :=
  True

def Pre_AdamWAdaIdeal (m : (ℓ : Loc Cert.AdamWAdaIdeal.nD Cert.AdamWAdaIdeal.τ Cert.AdamWAdaIdeal.sig) → Buf (Elt Ideal) ℓ) : Prop :=
  True

def Pre_RefAdamWAdaIdeal (m : (ℓ : Loc Cert.RefAdamWAdaIdeal.nD Cert.RefAdamWAdaIdeal.τ Cert.RefAdamWAdaIdeal.sig) → Buf (Elt Ideal) ℓ) : Prop :=
  True

def Pre_SsmParBwd (m : (ℓ : Loc Cert.SsmParBwd.nD Cert.SsmParBwd.τ Cert.SsmParBwd.sig) → Buf (Elt Bits) ℓ) : Prop :=
  True

def Pre_SsmParBwdIdeal (m : (ℓ : Loc Cert.SsmParBwdIdeal.nD Cert.SsmParBwdIdeal.τ Cert.SsmParBwdIdeal.sig) → Buf (Elt Ideal) ℓ) : Prop :=
  True

def Pre_RefSsmParBwdIdeal (m : (ℓ : Loc Cert.RefSsmParBwdIdeal.nD Cert.RefSsmParBwdIdeal.τ Cert.RefSsmParBwdIdeal.sig) → Buf (Elt Ideal) ℓ) : Prop :=
  True

def Pre_SsmParFwd (m : (ℓ : Loc Cert.SsmParFwd.nD Cert.SsmParFwd.τ Cert.SsmParFwd.sig) → Buf (Elt Bits) ℓ) : Prop :=
  True

def Pre_SsmParFwdIdeal (m : (ℓ : Loc Cert.SsmParFwdIdeal.nD Cert.SsmParFwdIdeal.τ Cert.SsmParFwdIdeal.sig) → Buf (Elt Ideal) ℓ) : Prop :=
  True

def Pre_RefSsmParFwdIdeal (m : (ℓ : Loc Cert.RefSsmParFwdIdeal.nD Cert.RefSsmParFwdIdeal.τ Cert.RefSsmParFwdIdeal.sig) → Buf (Elt Ideal) ℓ) : Prop :=
  True

def Pre_AdamSmallA (m : (ℓ : Loc Cert.AdamSmallA.nD Cert.AdamSmallA.τ Cert.AdamSmallA.sig) → Buf (Elt Bits) ℓ) : Prop :=
  True

def Pre_AdamSmallAIdeal (m : (ℓ : Loc Cert.AdamSmallAIdeal.nD Cert.AdamSmallAIdeal.τ Cert.AdamSmallAIdeal.sig) → Buf (Elt Ideal) ℓ) : Prop :=
  True

def Pre_RefAdamSmallAIdeal (m : (ℓ : Loc Cert.RefAdamSmallAIdeal.nD Cert.RefAdamSmallAIdeal.τ Cert.RefAdamSmallAIdeal.sig) → Buf (Elt Ideal) ℓ) : Prop :=
  True

def Pre_AdamSmallB (m : (ℓ : Loc Cert.AdamSmallB.nD Cert.AdamSmallB.τ Cert.AdamSmallB.sig) → Buf (Elt Bits) ℓ) : Prop :=
  True

def Pre_AdamSmallBIdeal (m : (ℓ : Loc Cert.AdamSmallBIdeal.nD Cert.AdamSmallBIdeal.τ Cert.AdamSmallBIdeal.sig) → Buf (Elt Ideal) ℓ) : Prop :=
  True

def Pre_RefAdamSmallBIdeal (m : (ℓ : Loc Cert.RefAdamSmallBIdeal.nD Cert.RefAdamSmallBIdeal.τ Cert.RefAdamSmallBIdeal.sig) → Buf (Elt Ideal) ℓ) : Prop :=
  True

def Pre_AdamSmallC (m : (ℓ : Loc Cert.AdamSmallC.nD Cert.AdamSmallC.τ Cert.AdamSmallC.sig) → Buf (Elt Bits) ℓ) : Prop :=
  True

def Pre_AdamSmallCIdeal (m : (ℓ : Loc Cert.AdamSmallCIdeal.nD Cert.AdamSmallCIdeal.τ Cert.AdamSmallCIdeal.sig) → Buf (Elt Ideal) ℓ) : Prop :=
  True

def Pre_RefAdamSmallCIdeal (m : (ℓ : Loc Cert.RefAdamSmallCIdeal.nD Cert.RefAdamSmallCIdeal.τ Cert.RefAdamSmallCIdeal.sig) → Buf (Elt Ideal) ℓ) : Prop :=
  True

def Pre_AdamSmallD (m : (ℓ : Loc Cert.AdamSmallD.nD Cert.AdamSmallD.τ Cert.AdamSmallD.sig) → Buf (Elt Bits) ℓ) : Prop :=
  True

def Pre_AdamSmallDIdeal (m : (ℓ : Loc Cert.AdamSmallDIdeal.nD Cert.AdamSmallDIdeal.τ Cert.AdamSmallDIdeal.sig) → Buf (Elt Ideal) ℓ) : Prop :=
  True

def Pre_RefAdamSmallDIdeal (m : (ℓ : Loc Cert.RefAdamSmallDIdeal.nD Cert.RefAdamSmallDIdeal.τ Cert.RefAdamSmallDIdeal.sig) → Buf (Elt Ideal) ℓ) : Prop :=
  True

def Pre_AdamSmallE (m : (ℓ : Loc Cert.AdamSmallE.nD Cert.AdamSmallE.τ Cert.AdamSmallE.sig) → Buf (Elt Bits) ℓ) : Prop :=
  True

def Pre_AdamSmallEIdeal (m : (ℓ : Loc Cert.AdamSmallEIdeal.nD Cert.AdamSmallEIdeal.τ Cert.AdamSmallEIdeal.sig) → Buf (Elt Ideal) ℓ) : Prop :=
  True

def Pre_RefAdamSmallEIdeal (m : (ℓ : Loc Cert.RefAdamSmallEIdeal.nD Cert.RefAdamSmallEIdeal.τ Cert.RefAdamSmallEIdeal.sig) → Buf (Elt Ideal) ℓ) : Prop :=
  True

def Pre_AdamSmallF (m : (ℓ : Loc Cert.AdamSmallF.nD Cert.AdamSmallF.τ Cert.AdamSmallF.sig) → Buf (Elt Bits) ℓ) : Prop :=
  True

def Pre_AdamSmallFIdeal (m : (ℓ : Loc Cert.AdamSmallFIdeal.nD Cert.AdamSmallFIdeal.τ Cert.AdamSmallFIdeal.sig) → Buf (Elt Ideal) ℓ) : Prop :=
  True

def Pre_RefAdamSmallFIdeal (m : (ℓ : Loc Cert.RefAdamSmallFIdeal.nD Cert.RefAdamSmallFIdeal.τ Cert.RefAdamSmallFIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_RefUpDwIdeal [hRefUpDwIdeal : Cert.RefUpDwIdeal.Facts] : Prop :=
  ∀ (m : (ℓ : Loc Cert.RefUpDwIdeal.nD Cert.RefUpDwIdeal.τ Cert.RefUpDwIdeal.sig) → Buf (Elt Ideal) ℓ) (g : Dev Cert.RefUpDwIdeal.nD → PrngReg), Pre_RefUpDwIdeal m →
    θ_run (Cert.RefUpDwIdeal.defs (F := Ideal)) (onTc (τ := Cert.RefUpDwIdeal.τ) (Cert.RefUpDwIdeal.main (F := Ideal))) ⟨m, fun _ => 0, g⟩ (fun r => (∀ c : Dev Cert.RefUpDwIdeal.nD,
      r.2.mem ((c.tc : Thread Cert.RefUpDwIdeal.nD Cert.RefUpDwIdeal.τ).loc Cert.RefUpDwIdeal.main_arg0) = m ((c.tc : Thread Cert.RefUpDwIdeal.nD Cert.RefUpDwIdeal.τ).loc Cert.RefUpDwIdeal.main_arg0)
      ∧ r.2.mem ((c.tc : Thread Cert.RefUpDwIdeal.nD Cert.RefUpDwIdeal.τ).loc Cert.RefUpDwIdeal.main_arg1) = m ((c.tc : Thread Cert.RefUpDwIdeal.nD Cert.RefUpDwIdeal.τ).loc Cert.RefUpDwIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_RefOutDxIdeal [hRefOutDxIdeal : Cert.RefOutDxIdeal.Facts] : Prop :=
  ∀ (m : (ℓ : Loc Cert.RefOutDxIdeal.nD Cert.RefOutDxIdeal.τ Cert.RefOutDxIdeal.sig) → Buf (Elt Ideal) ℓ) (g : Dev Cert.RefOutDxIdeal.nD → PrngReg), Pre_RefOutDxIdeal m →
    θ_run (Cert.RefOutDxIdeal.defs (F := Ideal)) (onTc (τ := Cert.RefOutDxIdeal.τ) (Cert.RefOutDxIdeal.main (F := Ideal))) ⟨m, fun _ => 0, g⟩ (fun r => (∀ c : Dev Cert.RefOutDxIdeal.nD,
      r.2.mem ((c.tc : Thread Cert.RefOutDxIdeal.nD Cert.RefOutDxIdeal.τ).loc Cert.RefOutDxIdeal.main_arg0) = m ((c.tc : Thread Cert.RefOutDxIdeal.nD Cert.RefOutDxIdeal.τ).loc Cert.RefOutDxIdeal.main_arg0)
      ∧ r.2.mem ((c.tc : Thread Cert.RefOutDxIdeal.nD Cert.RefOutDxIdeal.τ).loc Cert.RefOutDxIdeal.main_arg1) = m ((c.tc : Thread Cert.RefOutDxIdeal.nD Cert.RefOutDxIdeal.τ).loc Cert.RefOutDxIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_RefGluDxIdeal [hRefGluDxIdeal : Cert.RefGluDxIdeal.Facts] : Prop :=
  ∀ (m : (ℓ : Loc Cert.RefGluDxIdeal.nD Cert.RefGluDxIdeal.τ Cert.RefGluDxIdeal.sig) → Buf (Elt Ideal) ℓ) (g : Dev Cert.RefGluDxIdeal.nD → PrngReg), Pre_RefGluDxIdeal m →
    θ_run (Cert.RefGluDxIdeal.defs (F := Ideal)) (onTc (τ := Cert.RefGluDxIdeal.τ) (Cert.RefGluDxIdeal.main (F := Ideal))) ⟨m, fun _ => 0, g⟩ (fun r => (∀ c : Dev Cert.RefGluDxIdeal.nD,
      r.2.mem ((c.tc : Thread Cert.RefGluDxIdeal.nD Cert.RefGluDxIdeal.τ).loc Cert.RefGluDxIdeal.main_arg0) = m ((c.tc : Thread Cert.RefGluDxIdeal.nD Cert.RefGluDxIdeal.τ).loc Cert.RefGluDxIdeal.main_arg0)
      ∧ r.2.mem ((c.tc : Thread Cert.RefGluDxIdeal.nD Cert.RefGluDxIdeal.τ).loc Cert.RefGluDxIdeal.main_arg1) = m ((c.tc : Thread Cert.RefGluDxIdeal.nD Cert.RefGluDxIdeal.τ).loc Cert.RefGluDxIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_RefGluDwIdeal [hRefGluDwIdeal : Cert.RefGluDwIdeal.Facts] : Prop :=
  ∀ (m : (ℓ : Loc Cert.RefGluDwIdeal.nD Cert.RefGluDwIdeal.τ Cert.RefGluDwIdeal.sig) → Buf (Elt Ideal) ℓ) (g : Dev Cert.RefGluDwIdeal.nD → PrngReg), Pre_RefGluDwIdeal m →
    θ_run (Cert.RefGluDwIdeal.defs (F := Ideal)) (onTc (τ := Cert.RefGluDwIdeal.τ) (Cert.RefGluDwIdeal.main (F := Ideal))) ⟨m, fun _ => 0, g⟩ (fun r => (∀ c : Dev Cert.RefGluDwIdeal.nD,
      r.2.mem ((c.tc : Thread Cert.RefGluDwIdeal.nD Cert.RefGluDwIdeal.τ).loc Cert.RefGluDwIdeal.main_arg0) = m ((c.tc : Thread Cert.RefGluDwIdeal.nD Cert.RefGluDwIdeal.τ).loc Cert.RefGluDwIdeal.main_arg0)
      ∧ r.2.mem ((c.tc : Thread Cert.RefGluDwIdeal.nD Cert.RefGluDwIdeal.τ).loc Cert.RefGluDwIdeal.main_arg1) = m ((c.tc : Thread Cert.RefGluDwIdeal.nD Cert.RefGluDwIdeal.τ).loc Cert.RefGluDwIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_RefInFwdIdeal [hRefInFwdIdeal : Cert.RefInFwdIdeal.Facts] : Prop :=
  ∀ (m : (ℓ : Loc Cert.RefInFwdIdeal.nD Cert.RefInFwdIdeal.τ Cert.RefInFwdIdeal.sig) → Buf (Elt Ideal) ℓ) (g : Dev Cert.RefInFwdIdeal.nD → PrngReg), Pre_RefInFwdIdeal m →
    θ_run (Cert.RefInFwdIdeal.defs (F := Ideal)) (onTc (τ := Cert.RefInFwdIdeal.τ) (Cert.RefInFwdIdeal.main (F := Ideal))) ⟨m, fun _ => 0, g⟩ (fun r => (∀ c : Dev Cert.RefInFwdIdeal.nD,
      r.2.mem ((c.tc : Thread Cert.RefInFwdIdeal.nD Cert.RefInFwdIdeal.τ).loc Cert.RefInFwdIdeal.main_arg0) = m ((c.tc : Thread Cert.RefInFwdIdeal.nD Cert.RefInFwdIdeal.τ).loc Cert.RefInFwdIdeal.main_arg0)
      ∧ r.2.mem ((c.tc : Thread Cert.RefInFwdIdeal.nD Cert.RefInFwdIdeal.τ).loc Cert.RefInFwdIdeal.main_arg1) = m ((c.tc : Thread Cert.RefInFwdIdeal.nD Cert.RefInFwdIdeal.τ).loc Cert.RefInFwdIdeal.main_arg1))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_RefGluFwdIdeal [hRefGluFwdIdeal : Cert.RefGluFwdIdeal.Facts] : Prop :=
  ∀ (m : (ℓ : Loc Cert.RefGluFwdIdeal.nD Cert.RefGluFwdIdeal.τ Cert.RefGluFwdIdeal.sig) → Buf (Elt Ideal) ℓ) (g : Dev Cert.RefGluFwdIdeal.nD → PrngReg), Pre_RefGluFwdIdeal m →
    θ_run (Cert.RefGluFwdIdeal.defs (F := Ideal)) (onTc (τ := Cert.RefGluFwdIdeal.τ) (Cert.RefGluFwdIdeal.main (F := Ideal))) ⟨m, fun _ => 0, g⟩ (fun r => (∀ c : Dev Cert.RefGluFwdIdeal.nD,
      r.2.mem ((c.tc : Thread Cert.RefGluFwdIdeal.nD Cert.RefGluFwdIdeal.τ).loc Cert.RefGluFwdIdeal.main_arg0) = m ((c.tc : Thread Cert.RefGluFwdIdeal.nD Cert.RefGluFwdIdeal.τ).loc Cert.RefGluFwdIdeal.main_arg0)
      ∧ r.2.mem ((c.tc : Thread Cert.RefGluFwdIdeal.nD Cert.RefGluFwdIdeal.τ).loc Cert.RefGluFwdIdeal.main_arg1) = m ((c.tc : Thread Cert.RefGluFwdIdeal.nD Cert.RefGluFwdIdeal.τ).loc Cert.RefGluFwdIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_RefOutFwdIdeal [hRefOutFwdIdeal : Cert.RefOutFwdIdeal.Facts] : Prop :=
  ∀ (m : (ℓ : Loc Cert.RefOutFwdIdeal.nD Cert.RefOutFwdIdeal.τ Cert.RefOutFwdIdeal.sig) → Buf (Elt Ideal) ℓ) (g : Dev Cert.RefOutFwdIdeal.nD → PrngReg), Pre_RefOutFwdIdeal m →
    θ_run (Cert.RefOutFwdIdeal.defs (F := Ideal)) (onTc (τ := Cert.RefOutFwdIdeal.τ) (Cert.RefOutFwdIdeal.main (F := Ideal))) ⟨m, fun _ => 0, g⟩ (fun r => (∀ c : Dev Cert.RefOutFwdIdeal.nD,
      r.2.mem ((c.tc : Thread Cert.RefOutFwdIdeal.nD Cert.RefOutFwdIdeal.τ).loc Cert.RefOutFwdIdeal.main_arg0) = m ((c.tc : Thread Cert.RefOutFwdIdeal.nD Cert.RefOutFwdIdeal.τ).loc Cert.RefOutFwdIdeal.main_arg0)
      ∧ r.2.mem ((c.tc : Thread Cert.RefOutFwdIdeal.nD Cert.RefOutFwdIdeal.τ).loc Cert.RefOutFwdIdeal.main_arg1) = m ((c.tc : Thread Cert.RefOutFwdIdeal.nD Cert.RefOutFwdIdeal.τ).loc Cert.RefOutFwdIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_RefUpFwdIdeal [hRefUpFwdIdeal : Cert.RefUpFwdIdeal.Facts] : Prop :=
  ∀ (m : (ℓ : Loc Cert.RefUpFwdIdeal.nD Cert.RefUpFwdIdeal.τ Cert.RefUpFwdIdeal.sig) → Buf (Elt Ideal) ℓ) (g : Dev Cert.RefUpFwdIdeal.nD → PrngReg), Pre_RefUpFwdIdeal m →
    θ_run (Cert.RefUpFwdIdeal.defs (F := Ideal)) (onTc (τ := Cert.RefUpFwdIdeal.τ) (Cert.RefUpFwdIdeal.main (F := Ideal))) ⟨m, fun _ => 0, g⟩ (fun r => (∀ c : Dev Cert.RefUpFwdIdeal.nD,
      r.2.mem ((c.tc : Thread Cert.RefUpFwdIdeal.nD Cert.RefUpFwdIdeal.τ).loc Cert.RefUpFwdIdeal.main_arg0) = m ((c.tc : Thread Cert.RefUpFwdIdeal.nD Cert.RefUpFwdIdeal.τ).loc Cert.RefUpFwdIdeal.main_arg0)
      ∧ r.2.mem ((c.tc : Thread Cert.RefUpFwdIdeal.nD Cert.RefUpFwdIdeal.τ).loc Cert.RefUpFwdIdeal.main_arg1) = m ((c.tc : Thread Cert.RefUpFwdIdeal.nD Cert.RefUpFwdIdeal.τ).loc Cert.RefUpFwdIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_RefDownFwdIdeal [hRefDownFwdIdeal : Cert.RefDownFwdIdeal.Facts] : Prop :=
  ∀ (m : (ℓ : Loc Cert.RefDownFwdIdeal.nD Cert.RefDownFwdIdeal.τ Cert.RefDownFwdIdeal.sig) → Buf (Elt Ideal) ℓ) (g : Dev Cert.RefDownFwdIdeal.nD → PrngReg), Pre_RefDownFwdIdeal m →
    θ_run (Cert.RefDownFwdIdeal.defs (F := Ideal)) (onTc (τ := Cert.RefDownFwdIdeal.τ) (Cert.RefDownFwdIdeal.main (F := Ideal))) ⟨m, fun _ => 0, g⟩ (fun r => (∀ c : Dev Cert.RefDownFwdIdeal.nD,
      r.2.mem ((c.tc : Thread Cert.RefDownFwdIdeal.nD Cert.RefDownFwdIdeal.τ).loc Cert.RefDownFwdIdeal.main_arg0) = m ((c.tc : Thread Cert.RefDownFwdIdeal.nD Cert.RefDownFwdIdeal.τ).loc Cert.RefDownFwdIdeal.main_arg0)
      ∧ r.2.mem ((c.tc : Thread Cert.RefDownFwdIdeal.nD Cert.RefDownFwdIdeal.τ).loc Cert.RefDownFwdIdeal.main_arg1) = m ((c.tc : Thread Cert.RefDownFwdIdeal.nD Cert.RefDownFwdIdeal.τ).loc Cert.RefDownFwdIdeal.main_arg1))
      ∧ r.2.sem = fun _ => 0)

def quiescent_ResBwd [hResBwd : Cert.ResBwd.Facts] : Prop :=
  ∀ (m : (ℓ : Loc Cert.ResBwd.nD Cert.ResBwd.τ Cert.ResBwd.sig) → Buf (Elt Bits) ℓ) (g : Dev Cert.ResBwd.nD → PrngReg), Pre_ResBwd m →
    θ_run (Cert.ResBwd.defs (F := Bits)) (onTc (τ := Cert.ResBwd.τ) (Cert.ResBwd.main (F := Bits))) ⟨m, fun _ => 0, g⟩ (fun r => (∀ c : Dev Cert.ResBwd.nD,
      r.2.mem ((c.tc : Thread Cert.ResBwd.nD Cert.ResBwd.τ).loc Cert.ResBwd.main_arg0) = m ((c.tc : Thread Cert.ResBwd.nD Cert.ResBwd.τ).loc Cert.ResBwd.main_arg0)
      ∧ r.2.mem ((c.tc : Thread Cert.ResBwd.nD Cert.ResBwd.τ).loc Cert.ResBwd.main_arg1) = m ((c.tc : Thread Cert.ResBwd.nD Cert.ResBwd.τ).loc Cert.ResBwd.main_arg1)
      ∧ r.2.mem ((c.tc : Thread Cert.ResBwd.nD Cert.ResBwd.τ).loc Cert.ResBwd.main_arg2) = m ((c.tc : Thread Cert.ResBwd.nD Cert.ResBwd.τ).loc Cert.ResBwd.main_arg2)
      ∧ r.2.mem ((c.tc : Thread Cert.ResBwd.nD Cert.ResBwd.τ).loc Cert.ResBwd.main_arg3) = m ((c.tc : Thread Cert.ResBwd.nD Cert.ResBwd.τ).loc Cert.ResBwd.main_arg3))
      ∧ r.2.sem = fun _ => 0)

def quiescent_ResBwdIdeal [hResBwdIdeal : Cert.ResBwdIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg), Pre_ResBwdIdeal m →
    θ_run (Cert.ResBwdIdeal.defs (F := Ideal)) (onTc (τ := Cert.ResBwdIdeal.τ) (Cert.ResBwdIdeal.main (F := Ideal))) ⟨m, fun _ => 0, g⟩ (fun r => (∀ c : Dev Cert.ResBwdIdeal.nD,
      r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
      ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
      ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2)
      ∧ r.2.mem ((c.tc : Thread Cert.ResBwdIdeal.nD Cert.ResBwdIdeal.τ).loc Cert.ResBwdIdeal.main_arg3) = m ((c.tc : Thread Cert.ResBwdIdeal.nD Cert.ResBwdIdeal.τ).loc Cert.ResBwdIdeal.main_arg3))
      ∧ r.2.sem = fun _ => 0)

def quiescent_RefResBwdIdeal [hRefResBwdIdeal : Cert.RefResBwdIdeal.Facts] : Prop :=
  ∀ (m : (ℓ : Loc Cert.RefResBwdIdeal.nD Cert.RefResBwdIdeal.τ Cert.RefResBwdIdeal.sig) → Buf (Elt Ideal) ℓ) (g : Dev Cert.RefResBwdIdeal.nD → PrngReg), Pre_RefResBwdIdeal m →
    θ_run (Cert.RefResBwdIdeal.defs (F := Ideal)) (onTc (τ := Cert.RefResBwdIdeal.τ) (Cert.RefResBwdIdeal.main (F := Ideal))) ⟨m, fun _ => 0, g⟩ (fun r => (∀ c : Dev Cert.RefResBwdIdeal.nD,
      r.2.mem ((c.tc : Thread Cert.RefResBwdIdeal.nD Cert.RefResBwdIdeal.τ).loc Cert.RefResBwdIdeal.main_arg0) = m ((c.tc : Thread Cert.RefResBwdIdeal.nD Cert.RefResBwdIdeal.τ).loc Cert.RefResBwdIdeal.main_arg0)
      ∧ r.2.mem ((c.tc : Thread Cert.RefResBwdIdeal.nD Cert.RefResBwdIdeal.τ).loc Cert.RefResBwdIdeal.main_arg1) = m ((c.tc : Thread Cert.RefResBwdIdeal.nD Cert.RefResBwdIdeal.τ).loc Cert.RefResBwdIdeal.main_arg1)
      ∧ r.2.mem ((c.tc : Thread Cert.RefResBwdIdeal.nD Cert.RefResBwdIdeal.τ).loc Cert.RefResBwdIdeal.main_arg2) = m ((c.tc : Thread Cert.RefResBwdIdeal.nD Cert.RefResBwdIdeal.τ).loc Cert.RefResBwdIdeal.main_arg2)
      ∧ r.2.mem ((c.tc : Thread Cert.RefResBwdIdeal.nD Cert.RefResBwdIdeal.τ).loc Cert.RefResBwdIdeal.main_arg3) = m ((c.tc : Thread Cert.RefResBwdIdeal.nD Cert.RefResBwdIdeal.τ).loc Cert.RefResBwdIdeal.main_arg3))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3)
      ∧ r.2.mem ((c.tc : Thread Cert.ModBwd.nD Cert.ModBwd.τ).loc Cert.ModBwd.main_arg4) = m ((c.tc : Thread Cert.ModBwd.nD Cert.ModBwd.τ).loc Cert.ModBwd.main_arg4))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
      ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ r.2.sem = fun _ => 0)

def quiescent_RefModBwdIdeal [hRefModBwdIdeal : Cert.RefModBwdIdeal.Facts] : Prop :=
  ∀ (m : (ℓ : Loc Cert.RefModBwdIdeal.nD Cert.RefModBwdIdeal.τ Cert.RefModBwdIdeal.sig) → Buf (Elt Ideal) ℓ) (g : Dev Cert.RefModBwdIdeal.nD → PrngReg), Pre_RefModBwdIdeal m →
    θ_run (Cert.RefModBwdIdeal.defs (F := Ideal)) (onTc (τ := Cert.RefModBwdIdeal.τ) (Cert.RefModBwdIdeal.main (F := Ideal))) ⟨m, fun _ => 0, g⟩ (fun r => (∀ c : Dev Cert.RefModBwdIdeal.nD,
      r.2.mem ((c.tc : Thread Cert.RefModBwdIdeal.nD Cert.RefModBwdIdeal.τ).loc Cert.RefModBwdIdeal.main_arg0) = m ((c.tc : Thread Cert.RefModBwdIdeal.nD Cert.RefModBwdIdeal.τ).loc Cert.RefModBwdIdeal.main_arg0)
      ∧ r.2.mem ((c.tc : Thread Cert.RefModBwdIdeal.nD Cert.RefModBwdIdeal.τ).loc Cert.RefModBwdIdeal.main_arg1) = m ((c.tc : Thread Cert.RefModBwdIdeal.nD Cert.RefModBwdIdeal.τ).loc Cert.RefModBwdIdeal.main_arg1)
      ∧ r.2.mem ((c.tc : Thread Cert.RefModBwdIdeal.nD Cert.RefModBwdIdeal.τ).loc Cert.RefModBwdIdeal.main_arg2) = m ((c.tc : Thread Cert.RefModBwdIdeal.nD Cert.RefModBwdIdeal.τ).loc Cert.RefModBwdIdeal.main_arg2)
      ∧ r.2.mem ((c.tc : Thread Cert.RefModBwdIdeal.nD Cert.RefModBwdIdeal.τ).loc Cert.RefModBwdIdeal.main_arg3) = m ((c.tc : Thread Cert.RefModBwdIdeal.nD Cert.RefModBwdIdeal.τ).loc Cert.RefModBwdIdeal.main_arg3)
      ∧ r.2.mem ((c.tc : Thread Cert.RefModBwdIdeal.nD Cert.RefModBwdIdeal.τ).loc Cert.RefModBwdIdeal.main_arg4) = m ((c.tc : Thread Cert.RefModBwdIdeal.nD Cert.RefModBwdIdeal.τ).loc Cert.RefModBwdIdeal.main_arg4))
      ∧ r.2.sem = fun _ => 0)

def quiescent_ModResBwd [hModResBwd : Cert.ModResBwd.Facts] : Prop :=
  ∀ (m : (ℓ : Loc Cert.ModResBwd.nD Cert.ModResBwd.τ Cert.ModResBwd.sig) → Buf (Elt Bits) ℓ) (g : Dev Cert.ModResBwd.nD → PrngReg), Pre_ModResBwd m →
    θ_run (Cert.ModResBwd.defs (F := Bits)) (onTc (τ := Cert.ModResBwd.τ) (Cert.ModResBwd.main (F := Bits))) ⟨m, fun _ => 0, g⟩ (fun r => (∀ c : Dev Cert.ModResBwd.nD,
      r.2.mem ((c.tc : Thread Cert.ModResBwd.nD Cert.ModResBwd.τ).loc Cert.ModResBwd.main_arg0) = m ((c.tc : Thread Cert.ModResBwd.nD Cert.ModResBwd.τ).loc Cert.ModResBwd.main_arg0)
      ∧ r.2.mem ((c.tc : Thread Cert.ModResBwd.nD Cert.ModResBwd.τ).loc Cert.ModResBwd.main_arg1) = m ((c.tc : Thread Cert.ModResBwd.nD Cert.ModResBwd.τ).loc Cert.ModResBwd.main_arg1)
      ∧ r.2.mem ((c.tc : Thread Cert.ModResBwd.nD Cert.ModResBwd.τ).loc Cert.ModResBwd.main_arg2) = m ((c.tc : Thread Cert.ModResBwd.nD Cert.ModResBwd.τ).loc Cert.ModResBwd.main_arg2)
      ∧ r.2.mem ((c.tc : Thread Cert.ModResBwd.nD Cert.ModResBwd.τ).loc Cert.ModResBwd.main_arg3) = m ((c.tc : Thread Cert.ModResBwd.nD Cert.ModResBwd.τ).loc Cert.ModResBwd.main_arg3)
      ∧ r.2.mem ((c.tc : Thread Cert.ModResBwd.nD Cert.ModResBwd.τ).loc Cert.ModResBwd.main_arg4) = m ((c.tc : Thread Cert.ModResBwd.nD Cert.ModResBwd.τ).loc Cert.ModResBwd.main_arg4)
      ∧ r.2.mem ((c.tc : Thread Cert.ModResBwd.nD Cert.ModResBwd.τ).loc Cert.ModResBwd.main_arg5) = m ((c.tc : Thread Cert.ModResBwd.nD Cert.ModResBwd.τ).loc Cert.ModResBwd.main_arg5)
      ∧ r.2.mem ((c.tc : Thread Cert.ModResBwd.nD Cert.ModResBwd.τ).loc Cert.ModResBwd.main_arg6) = m ((c.tc : Thread Cert.ModResBwd.nD Cert.ModResBwd.τ).loc Cert.ModResBwd.main_arg6)
      ∧ r.2.mem ((c.tc : Thread Cert.ModResBwd.nD Cert.ModResBwd.τ).loc Cert.ModResBwd.main_arg7) = m ((c.tc : Thread Cert.ModResBwd.nD Cert.ModResBwd.τ).loc Cert.ModResBwd.main_arg7))
      ∧ r.2.sem = fun _ => 0)

def quiescent_ModResBwdIdeal [hModResBwdIdeal : Cert.ModResBwdIdeal.Facts] : Prop :=
  ∀ (m : (ℓ : Loc Cert.ModResBwdIdeal.nD Cert.ModResBwdIdeal.τ Cert.ModResBwdIdeal.sig) → Buf (Elt Ideal) ℓ) (g : Dev Cert.ModResBwdIdeal.nD → PrngReg), Pre_ModResBwdIdeal m →
    θ_run (Cert.ModResBwdIdeal.defs (F := Ideal)) (onTc (τ := Cert.ModResBwdIdeal.τ) (Cert.ModResBwdIdeal.main (F := Ideal))) ⟨m, fun _ => 0, g⟩ (fun r => (∀ c : Dev Cert.ModResBwdIdeal.nD,
      r.2.mem ((c.tc : Thread Cert.ModResBwdIdeal.nD Cert.ModResBwdIdeal.τ).loc Cert.ModResBwdIdeal.main_arg0) = m ((c.tc : Thread Cert.ModResBwdIdeal.nD Cert.ModResBwdIdeal.τ).loc Cert.ModResBwdIdeal.main_arg0)
      ∧ r.2.mem ((c.tc : Thread Cert.ModResBwdIdeal.nD Cert.ModResBwdIdeal.τ).loc Cert.ModResBwdIdeal.main_arg1) = m ((c.tc : Thread Cert.ModResBwdIdeal.nD Cert.ModResBwdIdeal.τ).loc Cert.ModResBwdIdeal.main_arg1)
      ∧ r.2.mem ((c.tc : Thread Cert.ModResBwdIdeal.nD Cert.ModResBwdIdeal.τ).loc Cert.ModResBwdIdeal.main_arg2) = m ((c.tc : Thread Cert.ModResBwdIdeal.nD Cert.ModResBwdIdeal.τ).loc Cert.ModResBwdIdeal.main_arg2)
      ∧ r.2.mem ((c.tc : Thread Cert.ModResBwdIdeal.nD Cert.ModResBwdIdeal.τ).loc Cert.ModResBwdIdeal.main_arg3) = m ((c.tc : Thread Cert.ModResBwdIdeal.nD Cert.ModResBwdIdeal.τ).loc Cert.ModResBwdIdeal.main_arg3)
      ∧ r.2.mem ((c.tc : Thread Cert.ModResBwdIdeal.nD Cert.ModResBwdIdeal.τ).loc Cert.ModResBwdIdeal.main_arg4) = m ((c.tc : Thread Cert.ModResBwdIdeal.nD Cert.ModResBwdIdeal.τ).loc Cert.ModResBwdIdeal.main_arg4)
      ∧ r.2.mem ((c.tc : Thread Cert.ModResBwdIdeal.nD Cert.ModResBwdIdeal.τ).loc Cert.ModResBwdIdeal.main_arg5) = m ((c.tc : Thread Cert.ModResBwdIdeal.nD Cert.ModResBwdIdeal.τ).loc Cert.ModResBwdIdeal.main_arg5)
      ∧ r.2.mem ((c.tc : Thread Cert.ModResBwdIdeal.nD Cert.ModResBwdIdeal.τ).loc Cert.ModResBwdIdeal.main_arg6) = m ((c.tc : Thread Cert.ModResBwdIdeal.nD Cert.ModResBwdIdeal.τ).loc Cert.ModResBwdIdeal.main_arg6)
      ∧ r.2.mem ((c.tc : Thread Cert.ModResBwdIdeal.nD Cert.ModResBwdIdeal.τ).loc Cert.ModResBwdIdeal.main_arg7) = m ((c.tc : Thread Cert.ModResBwdIdeal.nD Cert.ModResBwdIdeal.τ).loc Cert.ModResBwdIdeal.main_arg7))
      ∧ r.2.sem = fun _ => 0)

def quiescent_RefModResBwdIdeal [hRefModResBwdIdeal : Cert.RefModResBwdIdeal.Facts] : Prop :=
  ∀ (m : (ℓ : Loc Cert.RefModResBwdIdeal.nD Cert.RefModResBwdIdeal.τ Cert.RefModResBwdIdeal.sig) → Buf (Elt Ideal) ℓ) (g : Dev Cert.RefModResBwdIdeal.nD → PrngReg), Pre_RefModResBwdIdeal m →
    θ_run (Cert.RefModResBwdIdeal.defs (F := Ideal)) (onTc (τ := Cert.RefModResBwdIdeal.τ) (Cert.RefModResBwdIdeal.main (F := Ideal))) ⟨m, fun _ => 0, g⟩ (fun r => (∀ c : Dev Cert.RefModResBwdIdeal.nD,
      r.2.mem ((c.tc : Thread Cert.RefModResBwdIdeal.nD Cert.RefModResBwdIdeal.τ).loc Cert.RefModResBwdIdeal.main_arg0) = m ((c.tc : Thread Cert.RefModResBwdIdeal.nD Cert.RefModResBwdIdeal.τ).loc Cert.RefModResBwdIdeal.main_arg0)
      ∧ r.2.mem ((c.tc : Thread Cert.RefModResBwdIdeal.nD Cert.RefModResBwdIdeal.τ).loc Cert.RefModResBwdIdeal.main_arg1) = m ((c.tc : Thread Cert.RefModResBwdIdeal.nD Cert.RefModResBwdIdeal.τ).loc Cert.RefModResBwdIdeal.main_arg1)
      ∧ r.2.mem ((c.tc : Thread Cert.RefModResBwdIdeal.nD Cert.RefModResBwdIdeal.τ).loc Cert.RefModResBwdIdeal.main_arg2) = m ((c.tc : Thread Cert.RefModResBwdIdeal.nD Cert.RefModResBwdIdeal.τ).loc Cert.RefModResBwdIdeal.main_arg2)
      ∧ r.2.mem ((c.tc : Thread Cert.RefModResBwdIdeal.nD Cert.RefModResBwdIdeal.τ).loc Cert.RefModResBwdIdeal.main_arg3) = m ((c.tc : Thread Cert.RefModResBwdIdeal.nD Cert.RefModResBwdIdeal.τ).loc Cert.RefModResBwdIdeal.main_arg3)
      ∧ r.2.mem ((c.tc : Thread Cert.RefModResBwdIdeal.nD Cert.RefModResBwdIdeal.τ).loc Cert.RefModResBwdIdeal.main_arg4) = m ((c.tc : Thread Cert.RefModResBwdIdeal.nD Cert.RefModResBwdIdeal.τ).loc Cert.RefModResBwdIdeal.main_arg4)
      ∧ r.2.mem ((c.tc : Thread Cert.RefModResBwdIdeal.nD Cert.RefModResBwdIdeal.τ).loc Cert.RefModResBwdIdeal.main_arg5) = m ((c.tc : Thread Cert.RefModResBwdIdeal.nD Cert.RefModResBwdIdeal.τ).loc Cert.RefModResBwdIdeal.main_arg5)
      ∧ r.2.mem ((c.tc : Thread Cert.RefModResBwdIdeal.nD Cert.RefModResBwdIdeal.τ).loc Cert.RefModResBwdIdeal.main_arg6) = m ((c.tc : Thread Cert.RefModResBwdIdeal.nD Cert.RefModResBwdIdeal.τ).loc Cert.RefModResBwdIdeal.main_arg6)
      ∧ r.2.mem ((c.tc : Thread Cert.RefModResBwdIdeal.nD Cert.RefModResBwdIdeal.τ).loc Cert.RefModResBwdIdeal.main_arg7) = m ((c.tc : Thread Cert.RefModResBwdIdeal.nD Cert.RefModResBwdIdeal.τ).loc Cert.RefModResBwdIdeal.main_arg7))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_RefMergeBwdIdeal [hRefMergeBwdIdeal : Cert.RefMergeBwdIdeal.Facts] : Prop :=
  ∀ (m : (ℓ : Loc Cert.RefMergeBwdIdeal.nD Cert.RefMergeBwdIdeal.τ Cert.RefMergeBwdIdeal.sig) → Buf (Elt Ideal) ℓ) (g : Dev Cert.RefMergeBwdIdeal.nD → PrngReg), Pre_RefMergeBwdIdeal m →
    θ_run (Cert.RefMergeBwdIdeal.defs (F := Ideal)) (onTc (τ := Cert.RefMergeBwdIdeal.τ) (Cert.RefMergeBwdIdeal.main (F := Ideal))) ⟨m, fun _ => 0, g⟩ (fun r => (∀ c : Dev Cert.RefMergeBwdIdeal.nD,
      r.2.mem ((c.tc : Thread Cert.RefMergeBwdIdeal.nD Cert.RefMergeBwdIdeal.τ).loc Cert.RefMergeBwdIdeal.main_arg0) = m ((c.tc : Thread Cert.RefMergeBwdIdeal.nD Cert.RefMergeBwdIdeal.τ).loc Cert.RefMergeBwdIdeal.main_arg0)
      ∧ r.2.mem ((c.tc : Thread Cert.RefMergeBwdIdeal.nD Cert.RefMergeBwdIdeal.τ).loc Cert.RefMergeBwdIdeal.main_arg1) = m ((c.tc : Thread Cert.RefMergeBwdIdeal.nD Cert.RefMergeBwdIdeal.τ).loc Cert.RefMergeBwdIdeal.main_arg1)
      ∧ r.2.mem ((c.tc : Thread Cert.RefMergeBwdIdeal.nD Cert.RefMergeBwdIdeal.τ).loc Cert.RefMergeBwdIdeal.main_arg2) = m ((c.tc : Thread Cert.RefMergeBwdIdeal.nD Cert.RefMergeBwdIdeal.τ).loc Cert.RefMergeBwdIdeal.main_arg2)
      ∧ r.2.mem ((c.tc : Thread Cert.RefMergeBwdIdeal.nD Cert.RefMergeBwdIdeal.τ).loc Cert.RefMergeBwdIdeal.main_arg3) = m ((c.tc : Thread Cert.RefMergeBwdIdeal.nD Cert.RefMergeBwdIdeal.τ).loc Cert.RefMergeBwdIdeal.main_arg3)
      ∧ r.2.mem ((c.tc : Thread Cert.RefMergeBwdIdeal.nD Cert.RefMergeBwdIdeal.τ).loc Cert.RefMergeBwdIdeal.main_arg4) = m ((c.tc : Thread Cert.RefMergeBwdIdeal.nD Cert.RefMergeBwdIdeal.τ).loc Cert.RefMergeBwdIdeal.main_arg4)
      ∧ r.2.mem ((c.tc : Thread Cert.RefMergeBwdIdeal.nD Cert.RefMergeBwdIdeal.τ).loc Cert.RefMergeBwdIdeal.main_arg5) = m ((c.tc : Thread Cert.RefMergeBwdIdeal.nD Cert.RefMergeBwdIdeal.τ).loc Cert.RefMergeBwdIdeal.main_arg5))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2)
      ∧ r.2.mem ((c.tc : Thread Cert.ModFwd.nD Cert.ModFwd.τ).loc Cert.ModFwd.main_arg3) = m ((c.tc : Thread Cert.ModFwd.nD Cert.ModFwd.τ).loc Cert.ModFwd.main_arg3))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
      ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ r.2.sem = fun _ => 0)

def quiescent_RefModFwdIdeal [hRefModFwdIdeal : Cert.RefModFwdIdeal.Facts] : Prop :=
  ∀ (m : (ℓ : Loc Cert.RefModFwdIdeal.nD Cert.RefModFwdIdeal.τ Cert.RefModFwdIdeal.sig) → Buf (Elt Ideal) ℓ) (g : Dev Cert.RefModFwdIdeal.nD → PrngReg), Pre_RefModFwdIdeal m →
    θ_run (Cert.RefModFwdIdeal.defs (F := Ideal)) (onTc (τ := Cert.RefModFwdIdeal.τ) (Cert.RefModFwdIdeal.main (F := Ideal))) ⟨m, fun _ => 0, g⟩ (fun r => (∀ c : Dev Cert.RefModFwdIdeal.nD,
      r.2.mem ((c.tc : Thread Cert.RefModFwdIdeal.nD Cert.RefModFwdIdeal.τ).loc Cert.RefModFwdIdeal.main_arg0) = m ((c.tc : Thread Cert.RefModFwdIdeal.nD Cert.RefModFwdIdeal.τ).loc Cert.RefModFwdIdeal.main_arg0)
      ∧ r.2.mem ((c.tc : Thread Cert.RefModFwdIdeal.nD Cert.RefModFwdIdeal.τ).loc Cert.RefModFwdIdeal.main_arg1) = m ((c.tc : Thread Cert.RefModFwdIdeal.nD Cert.RefModFwdIdeal.τ).loc Cert.RefModFwdIdeal.main_arg1)
      ∧ r.2.mem ((c.tc : Thread Cert.RefModFwdIdeal.nD Cert.RefModFwdIdeal.τ).loc Cert.RefModFwdIdeal.main_arg2) = m ((c.tc : Thread Cert.RefModFwdIdeal.nD Cert.RefModFwdIdeal.τ).loc Cert.RefModFwdIdeal.main_arg2)
      ∧ r.2.mem ((c.tc : Thread Cert.RefModFwdIdeal.nD Cert.RefModFwdIdeal.τ).loc Cert.RefModFwdIdeal.main_arg3) = m ((c.tc : Thread Cert.RefModFwdIdeal.nD Cert.RefModFwdIdeal.τ).loc Cert.RefModFwdIdeal.main_arg3))
      ∧ r.2.sem = fun _ => 0)

def quiescent_ResModFwd [hResModFwd : Cert.ResModFwd.Facts] : Prop :=
  ∀ (m : (ℓ : Loc Cert.ResModFwd.nD Cert.ResModFwd.τ Cert.ResModFwd.sig) → Buf (Elt Bits) ℓ) (g : Dev Cert.ResModFwd.nD → PrngReg), Pre_ResModFwd m →
    θ_run (Cert.ResModFwd.defs (F := Bits)) (onTc (τ := Cert.ResModFwd.τ) (Cert.ResModFwd.main (F := Bits))) ⟨m, fun _ => 0, g⟩ (fun r => (∀ c : Dev Cert.ResModFwd.nD,
      r.2.mem ((c.tc : Thread Cert.ResModFwd.nD Cert.ResModFwd.τ).loc Cert.ResModFwd.main_arg0) = m ((c.tc : Thread Cert.ResModFwd.nD Cert.ResModFwd.τ).loc Cert.ResModFwd.main_arg0)
      ∧ r.2.mem ((c.tc : Thread Cert.ResModFwd.nD Cert.ResModFwd.τ).loc Cert.ResModFwd.main_arg1) = m ((c.tc : Thread Cert.ResModFwd.nD Cert.ResModFwd.τ).loc Cert.ResModFwd.main_arg1)
      ∧ r.2.mem ((c.tc : Thread Cert.ResModFwd.nD Cert.ResModFwd.τ).loc Cert.ResModFwd.main_arg2) = m ((c.tc : Thread Cert.ResModFwd.nD Cert.ResModFwd.τ).loc Cert.ResModFwd.main_arg2)
      ∧ r.2.mem ((c.tc : Thread Cert.ResModFwd.nD Cert.ResModFwd.τ).loc Cert.ResModFwd.main_arg3) = m ((c.tc : Thread Cert.ResModFwd.nD Cert.ResModFwd.τ).loc Cert.ResModFwd.main_arg3)
      ∧ r.2.mem ((c.tc : Thread Cert.ResModFwd.nD Cert.ResModFwd.τ).loc Cert.ResModFwd.main_arg4) = m ((c.tc : Thread Cert.ResModFwd.nD Cert.ResModFwd.τ).loc Cert.ResModFwd.main_arg4)
      ∧ r.2.mem ((c.tc : Thread Cert.ResModFwd.nD Cert.ResModFwd.τ).loc Cert.ResModFwd.main_arg5) = m ((c.tc : Thread Cert.ResModFwd.nD Cert.ResModFwd.τ).loc Cert.ResModFwd.main_arg5)
      ∧ r.2.mem ((c.tc : Thread Cert.ResModFwd.nD Cert.ResModFwd.τ).loc Cert.ResModFwd.main_arg6) = m ((c.tc : Thread Cert.ResModFwd.nD Cert.ResModFwd.τ).loc Cert.ResModFwd.main_arg6))
      ∧ r.2.sem = fun _ => 0)

def quiescent_ResModFwdIdeal [hResModFwdIdeal : Cert.ResModFwdIdeal.Facts] : Prop :=
  ∀ (m : (ℓ : Loc Cert.ResModFwdIdeal.nD Cert.ResModFwdIdeal.τ Cert.ResModFwdIdeal.sig) → Buf (Elt Ideal) ℓ) (g : Dev Cert.ResModFwdIdeal.nD → PrngReg), Pre_ResModFwdIdeal m →
    θ_run (Cert.ResModFwdIdeal.defs (F := Ideal)) (onTc (τ := Cert.ResModFwdIdeal.τ) (Cert.ResModFwdIdeal.main (F := Ideal))) ⟨m, fun _ => 0, g⟩ (fun r => (∀ c : Dev Cert.ResModFwdIdeal.nD,
      r.2.mem ((c.tc : Thread Cert.ResModFwdIdeal.nD Cert.ResModFwdIdeal.τ).loc Cert.ResModFwdIdeal.main_arg0) = m ((c.tc : Thread Cert.ResModFwdIdeal.nD Cert.ResModFwdIdeal.τ).loc Cert.ResModFwdIdeal.main_arg0)
      ∧ r.2.mem ((c.tc : Thread Cert.ResModFwdIdeal.nD Cert.ResModFwdIdeal.τ).loc Cert.ResModFwdIdeal.main_arg1) = m ((c.tc : Thread Cert.ResModFwdIdeal.nD Cert.ResModFwdIdeal.τ).loc Cert.ResModFwdIdeal.main_arg1)
      ∧ r.2.mem ((c.tc : Thread Cert.ResModFwdIdeal.nD Cert.ResModFwdIdeal.τ).loc Cert.ResModFwdIdeal.main_arg2) = m ((c.tc : Thread Cert.ResModFwdIdeal.nD Cert.ResModFwdIdeal.τ).loc Cert.ResModFwdIdeal.main_arg2)
      ∧ r.2.mem ((c.tc : Thread Cert.ResModFwdIdeal.nD Cert.ResModFwdIdeal.τ).loc Cert.ResModFwdIdeal.main_arg3) = m ((c.tc : Thread Cert.ResModFwdIdeal.nD Cert.ResModFwdIdeal.τ).loc Cert.ResModFwdIdeal.main_arg3)
      ∧ r.2.mem ((c.tc : Thread Cert.ResModFwdIdeal.nD Cert.ResModFwdIdeal.τ).loc Cert.ResModFwdIdeal.main_arg4) = m ((c.tc : Thread Cert.ResModFwdIdeal.nD Cert.ResModFwdIdeal.τ).loc Cert.ResModFwdIdeal.main_arg4)
      ∧ r.2.mem ((c.tc : Thread Cert.ResModFwdIdeal.nD Cert.ResModFwdIdeal.τ).loc Cert.ResModFwdIdeal.main_arg5) = m ((c.tc : Thread Cert.ResModFwdIdeal.nD Cert.ResModFwdIdeal.τ).loc Cert.ResModFwdIdeal.main_arg5)
      ∧ r.2.mem ((c.tc : Thread Cert.ResModFwdIdeal.nD Cert.ResModFwdIdeal.τ).loc Cert.ResModFwdIdeal.main_arg6) = m ((c.tc : Thread Cert.ResModFwdIdeal.nD Cert.ResModFwdIdeal.τ).loc Cert.ResModFwdIdeal.main_arg6))
      ∧ r.2.sem = fun _ => 0)

def quiescent_RefResModFwdIdeal [hRefResModFwdIdeal : Cert.RefResModFwdIdeal.Facts] : Prop :=
  ∀ (m : (ℓ : Loc Cert.RefResModFwdIdeal.nD Cert.RefResModFwdIdeal.τ Cert.RefResModFwdIdeal.sig) → Buf (Elt Ideal) ℓ) (g : Dev Cert.RefResModFwdIdeal.nD → PrngReg), Pre_RefResModFwdIdeal m →
    θ_run (Cert.RefResModFwdIdeal.defs (F := Ideal)) (onTc (τ := Cert.RefResModFwdIdeal.τ) (Cert.RefResModFwdIdeal.main (F := Ideal))) ⟨m, fun _ => 0, g⟩ (fun r => (∀ c : Dev Cert.RefResModFwdIdeal.nD,
      r.2.mem ((c.tc : Thread Cert.RefResModFwdIdeal.nD Cert.RefResModFwdIdeal.τ).loc Cert.RefResModFwdIdeal.main_arg0) = m ((c.tc : Thread Cert.RefResModFwdIdeal.nD Cert.RefResModFwdIdeal.τ).loc Cert.RefResModFwdIdeal.main_arg0)
      ∧ r.2.mem ((c.tc : Thread Cert.RefResModFwdIdeal.nD Cert.RefResModFwdIdeal.τ).loc Cert.RefResModFwdIdeal.main_arg1) = m ((c.tc : Thread Cert.RefResModFwdIdeal.nD Cert.RefResModFwdIdeal.τ).loc Cert.RefResModFwdIdeal.main_arg1)
      ∧ r.2.mem ((c.tc : Thread Cert.RefResModFwdIdeal.nD Cert.RefResModFwdIdeal.τ).loc Cert.RefResModFwdIdeal.main_arg2) = m ((c.tc : Thread Cert.RefResModFwdIdeal.nD Cert.RefResModFwdIdeal.τ).loc Cert.RefResModFwdIdeal.main_arg2)
      ∧ r.2.mem ((c.tc : Thread Cert.RefResModFwdIdeal.nD Cert.RefResModFwdIdeal.τ).loc Cert.RefResModFwdIdeal.main_arg3) = m ((c.tc : Thread Cert.RefResModFwdIdeal.nD Cert.RefResModFwdIdeal.τ).loc Cert.RefResModFwdIdeal.main_arg3)
      ∧ r.2.mem ((c.tc : Thread Cert.RefResModFwdIdeal.nD Cert.RefResModFwdIdeal.τ).loc Cert.RefResModFwdIdeal.main_arg4) = m ((c.tc : Thread Cert.RefResModFwdIdeal.nD Cert.RefResModFwdIdeal.τ).loc Cert.RefResModFwdIdeal.main_arg4)
      ∧ r.2.mem ((c.tc : Thread Cert.RefResModFwdIdeal.nD Cert.RefResModFwdIdeal.τ).loc Cert.RefResModFwdIdeal.main_arg5) = m ((c.tc : Thread Cert.RefResModFwdIdeal.nD Cert.RefResModFwdIdeal.τ).loc Cert.RefResModFwdIdeal.main_arg5)
      ∧ r.2.mem ((c.tc : Thread Cert.RefResModFwdIdeal.nD Cert.RefResModFwdIdeal.τ).loc Cert.RefResModFwdIdeal.main_arg6) = m ((c.tc : Thread Cert.RefResModFwdIdeal.nD Cert.RefResModFwdIdeal.τ).loc Cert.RefResModFwdIdeal.main_arg6))
      ∧ r.2.sem = fun _ => 0)

def quiescent_ResLoss [hResLoss : Cert.ResLoss.Facts] : Prop :=
  ∀ (m : (ℓ : Loc Cert.ResLoss.nD Cert.ResLoss.τ Cert.ResLoss.sig) → Buf (Elt Bits) ℓ) (g : Dev Cert.ResLoss.nD → PrngReg), Pre_ResLoss m →
    θ_run (Cert.ResLoss.defs (F := Bits)) (onTc (τ := Cert.ResLoss.τ) (Cert.ResLoss.main (F := Bits))) ⟨m, fun _ => 0, g⟩ (fun r => (∀ c : Dev Cert.ResLoss.nD,
      r.2.mem ((c.tc : Thread Cert.ResLoss.nD Cert.ResLoss.τ).loc Cert.ResLoss.main_arg0) = m ((c.tc : Thread Cert.ResLoss.nD Cert.ResLoss.τ).loc Cert.ResLoss.main_arg0)
      ∧ r.2.mem ((c.tc : Thread Cert.ResLoss.nD Cert.ResLoss.τ).loc Cert.ResLoss.main_arg1) = m ((c.tc : Thread Cert.ResLoss.nD Cert.ResLoss.τ).loc Cert.ResLoss.main_arg1)
      ∧ r.2.mem ((c.tc : Thread Cert.ResLoss.nD Cert.ResLoss.τ).loc Cert.ResLoss.main_arg2) = m ((c.tc : Thread Cert.ResLoss.nD Cert.ResLoss.τ).loc Cert.ResLoss.main_arg2)
      ∧ r.2.mem ((c.tc : Thread Cert.ResLoss.nD Cert.ResLoss.τ).loc Cert.ResLoss.main_arg3) = m ((c.tc : Thread Cert.ResLoss.nD Cert.ResLoss.τ).loc Cert.ResLoss.main_arg3)
      ∧ r.2.mem ((c.tc : Thread Cert.ResLoss.nD Cert.ResLoss.τ).loc Cert.ResLoss.main_arg4) = m ((c.tc : Thread Cert.ResLoss.nD Cert.ResLoss.τ).loc Cert.ResLoss.main_arg4))
      ∧ r.2.sem = fun _ => 0)

def quiescent_ResLossIdeal [hResLossIdeal : Cert.ResLossIdeal.Facts] : Prop :=
  ∀ (m : (ℓ : Loc Cert.ResLossIdeal.nD Cert.ResLossIdeal.τ Cert.ResLossIdeal.sig) → Buf (Elt Ideal) ℓ) (g : Dev Cert.ResLossIdeal.nD → PrngReg), Pre_ResLossIdeal m →
    θ_run (Cert.ResLossIdeal.defs (F := Ideal)) (onTc (τ := Cert.ResLossIdeal.τ) (Cert.ResLossIdeal.main (F := Ideal))) ⟨m, fun _ => 0, g⟩ (fun r => (∀ c : Dev Cert.ResLossIdeal.nD,
      r.2.mem ((c.tc : Thread Cert.ResLossIdeal.nD Cert.ResLossIdeal.τ).loc Cert.ResLossIdeal.main_arg0) = m ((c.tc : Thread Cert.ResLossIdeal.nD Cert.ResLossIdeal.τ).loc Cert.ResLossIdeal.main_arg0)
      ∧ r.2.mem ((c.tc : Thread Cert.ResLossIdeal.nD Cert.ResLossIdeal.τ).loc Cert.ResLossIdeal.main_arg1) = m ((c.tc : Thread Cert.ResLossIdeal.nD Cert.ResLossIdeal.τ).loc Cert.ResLossIdeal.main_arg1)
      ∧ r.2.mem ((c.tc : Thread Cert.ResLossIdeal.nD Cert.ResLossIdeal.τ).loc Cert.ResLossIdeal.main_arg2) = m ((c.tc : Thread Cert.ResLossIdeal.nD Cert.ResLossIdeal.τ).loc Cert.ResLossIdeal.main_arg2)
      ∧ r.2.mem ((c.tc : Thread Cert.ResLossIdeal.nD Cert.ResLossIdeal.τ).loc Cert.ResLossIdeal.main_arg3) = m ((c.tc : Thread Cert.ResLossIdeal.nD Cert.ResLossIdeal.τ).loc Cert.ResLossIdeal.main_arg3)
      ∧ r.2.mem ((c.tc : Thread Cert.ResLossIdeal.nD Cert.ResLossIdeal.τ).loc Cert.ResLossIdeal.main_arg4) = m ((c.tc : Thread Cert.ResLossIdeal.nD Cert.ResLossIdeal.τ).loc Cert.ResLossIdeal.main_arg4))
      ∧ r.2.sem = fun _ => 0)

def quiescent_RefResLossIdeal [hRefResLossIdeal : Cert.RefResLossIdeal.Facts] : Prop :=
  ∀ (m : (ℓ : Loc Cert.RefResLossIdeal.nD Cert.RefResLossIdeal.τ Cert.RefResLossIdeal.sig) → Buf (Elt Ideal) ℓ) (g : Dev Cert.RefResLossIdeal.nD → PrngReg), Pre_RefResLossIdeal m →
    θ_run (Cert.RefResLossIdeal.defs (F := Ideal)) (onTc (τ := Cert.RefResLossIdeal.τ) (Cert.RefResLossIdeal.main (F := Ideal))) ⟨m, fun _ => 0, g⟩ (fun r => (∀ c : Dev Cert.RefResLossIdeal.nD,
      r.2.mem ((c.tc : Thread Cert.RefResLossIdeal.nD Cert.RefResLossIdeal.τ).loc Cert.RefResLossIdeal.main_arg0) = m ((c.tc : Thread Cert.RefResLossIdeal.nD Cert.RefResLossIdeal.τ).loc Cert.RefResLossIdeal.main_arg0)
      ∧ r.2.mem ((c.tc : Thread Cert.RefResLossIdeal.nD Cert.RefResLossIdeal.τ).loc Cert.RefResLossIdeal.main_arg1) = m ((c.tc : Thread Cert.RefResLossIdeal.nD Cert.RefResLossIdeal.τ).loc Cert.RefResLossIdeal.main_arg1)
      ∧ r.2.mem ((c.tc : Thread Cert.RefResLossIdeal.nD Cert.RefResLossIdeal.τ).loc Cert.RefResLossIdeal.main_arg2) = m ((c.tc : Thread Cert.RefResLossIdeal.nD Cert.RefResLossIdeal.τ).loc Cert.RefResLossIdeal.main_arg2)
      ∧ r.2.mem ((c.tc : Thread Cert.RefResLossIdeal.nD Cert.RefResLossIdeal.τ).loc Cert.RefResLossIdeal.main_arg3) = m ((c.tc : Thread Cert.RefResLossIdeal.nD Cert.RefResLossIdeal.τ).loc Cert.RefResLossIdeal.main_arg3)
      ∧ r.2.mem ((c.tc : Thread Cert.RefResLossIdeal.nD Cert.RefResLossIdeal.τ).loc Cert.RefResLossIdeal.main_arg4) = m ((c.tc : Thread Cert.RefResLossIdeal.nD Cert.RefResLossIdeal.τ).loc Cert.RefResLossIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_RefMergeFwdIdeal [hRefMergeFwdIdeal : Cert.RefMergeFwdIdeal.Facts] : Prop :=
  ∀ (m : (ℓ : Loc Cert.RefMergeFwdIdeal.nD Cert.RefMergeFwdIdeal.τ Cert.RefMergeFwdIdeal.sig) → Buf (Elt Ideal) ℓ) (g : Dev Cert.RefMergeFwdIdeal.nD → PrngReg), Pre_RefMergeFwdIdeal m →
    θ_run (Cert.RefMergeFwdIdeal.defs (F := Ideal)) (onTc (τ := Cert.RefMergeFwdIdeal.τ) (Cert.RefMergeFwdIdeal.main (F := Ideal))) ⟨m, fun _ => 0, g⟩ (fun r => (∀ c : Dev Cert.RefMergeFwdIdeal.nD,
      r.2.mem ((c.tc : Thread Cert.RefMergeFwdIdeal.nD Cert.RefMergeFwdIdeal.τ).loc Cert.RefMergeFwdIdeal.main_arg0) = m ((c.tc : Thread Cert.RefMergeFwdIdeal.nD Cert.RefMergeFwdIdeal.τ).loc Cert.RefMergeFwdIdeal.main_arg0)
      ∧ r.2.mem ((c.tc : Thread Cert.RefMergeFwdIdeal.nD Cert.RefMergeFwdIdeal.τ).loc Cert.RefMergeFwdIdeal.main_arg1) = m ((c.tc : Thread Cert.RefMergeFwdIdeal.nD Cert.RefMergeFwdIdeal.τ).loc Cert.RefMergeFwdIdeal.main_arg1)
      ∧ r.2.mem ((c.tc : Thread Cert.RefMergeFwdIdeal.nD Cert.RefMergeFwdIdeal.τ).loc Cert.RefMergeFwdIdeal.main_arg2) = m ((c.tc : Thread Cert.RefMergeFwdIdeal.nD Cert.RefMergeFwdIdeal.τ).loc Cert.RefMergeFwdIdeal.main_arg2)
      ∧ r.2.mem ((c.tc : Thread Cert.RefMergeFwdIdeal.nD Cert.RefMergeFwdIdeal.τ).loc Cert.RefMergeFwdIdeal.main_arg3) = m ((c.tc : Thread Cert.RefMergeFwdIdeal.nD Cert.RefMergeFwdIdeal.τ).loc Cert.RefMergeFwdIdeal.main_arg3)
      ∧ r.2.mem ((c.tc : Thread Cert.RefMergeFwdIdeal.nD Cert.RefMergeFwdIdeal.τ).loc Cert.RefMergeFwdIdeal.main_arg4) = m ((c.tc : Thread Cert.RefMergeFwdIdeal.nD Cert.RefMergeFwdIdeal.τ).loc Cert.RefMergeFwdIdeal.main_arg4))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_RefAdaFwdIdeal [hRefAdaFwdIdeal : Cert.RefAdaFwdIdeal.Facts] : Prop :=
  ∀ (m : (ℓ : Loc Cert.RefAdaFwdIdeal.nD Cert.RefAdaFwdIdeal.τ Cert.RefAdaFwdIdeal.sig) → Buf (Elt Ideal) ℓ) (g : Dev Cert.RefAdaFwdIdeal.nD → PrngReg), Pre_RefAdaFwdIdeal m →
    θ_run (Cert.RefAdaFwdIdeal.defs (F := Ideal)) (onTc (τ := Cert.RefAdaFwdIdeal.τ) (Cert.RefAdaFwdIdeal.main (F := Ideal))) ⟨m, fun _ => 0, g⟩ (fun r => (∀ c : Dev Cert.RefAdaFwdIdeal.nD,
      r.2.mem ((c.tc : Thread Cert.RefAdaFwdIdeal.nD Cert.RefAdaFwdIdeal.τ).loc Cert.RefAdaFwdIdeal.main_arg0) = m ((c.tc : Thread Cert.RefAdaFwdIdeal.nD Cert.RefAdaFwdIdeal.τ).loc Cert.RefAdaFwdIdeal.main_arg0)
      ∧ r.2.mem ((c.tc : Thread Cert.RefAdaFwdIdeal.nD Cert.RefAdaFwdIdeal.τ).loc Cert.RefAdaFwdIdeal.main_arg1) = m ((c.tc : Thread Cert.RefAdaFwdIdeal.nD Cert.RefAdaFwdIdeal.τ).loc Cert.RefAdaFwdIdeal.main_arg1)
      ∧ r.2.mem ((c.tc : Thread Cert.RefAdaFwdIdeal.nD Cert.RefAdaFwdIdeal.τ).loc Cert.RefAdaFwdIdeal.main_arg2) = m ((c.tc : Thread Cert.RefAdaFwdIdeal.nD Cert.RefAdaFwdIdeal.τ).loc Cert.RefAdaFwdIdeal.main_arg2))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_RefAdaDwIdeal [hRefAdaDwIdeal : Cert.RefAdaDwIdeal.Facts] : Prop :=
  ∀ (m : (ℓ : Loc Cert.RefAdaDwIdeal.nD Cert.RefAdaDwIdeal.τ Cert.RefAdaDwIdeal.sig) → Buf (Elt Ideal) ℓ) (g : Dev Cert.RefAdaDwIdeal.nD → PrngReg), Pre_RefAdaDwIdeal m →
    θ_run (Cert.RefAdaDwIdeal.defs (F := Ideal)) (onTc (τ := Cert.RefAdaDwIdeal.τ) (Cert.RefAdaDwIdeal.main (F := Ideal))) ⟨m, fun _ => 0, g⟩ (fun r => (∀ c : Dev Cert.RefAdaDwIdeal.nD,
      r.2.mem ((c.tc : Thread Cert.RefAdaDwIdeal.nD Cert.RefAdaDwIdeal.τ).loc Cert.RefAdaDwIdeal.main_arg0) = m ((c.tc : Thread Cert.RefAdaDwIdeal.nD Cert.RefAdaDwIdeal.τ).loc Cert.RefAdaDwIdeal.main_arg0)
      ∧ r.2.mem ((c.tc : Thread Cert.RefAdaDwIdeal.nD Cert.RefAdaDwIdeal.τ).loc Cert.RefAdaDwIdeal.main_arg1) = m ((c.tc : Thread Cert.RefAdaDwIdeal.nD Cert.RefAdaDwIdeal.τ).loc Cert.RefAdaDwIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_RefGateFwdIdeal [hRefGateFwdIdeal : Cert.RefGateFwdIdeal.Facts] : Prop :=
  ∀ (m : (ℓ : Loc Cert.RefGateFwdIdeal.nD Cert.RefGateFwdIdeal.τ Cert.RefGateFwdIdeal.sig) → Buf (Elt Ideal) ℓ) (g : Dev Cert.RefGateFwdIdeal.nD → PrngReg), Pre_RefGateFwdIdeal m →
    θ_run (Cert.RefGateFwdIdeal.defs (F := Ideal)) (onTc (τ := Cert.RefGateFwdIdeal.τ) (Cert.RefGateFwdIdeal.main (F := Ideal))) ⟨m, fun _ => 0, g⟩ (fun r => (∀ c : Dev Cert.RefGateFwdIdeal.nD,
      r.2.mem ((c.tc : Thread Cert.RefGateFwdIdeal.nD Cert.RefGateFwdIdeal.τ).loc Cert.RefGateFwdIdeal.main_arg0) = m ((c.tc : Thread Cert.RefGateFwdIdeal.nD Cert.RefGateFwdIdeal.τ).loc Cert.RefGateFwdIdeal.main_arg0)
      ∧ r.2.mem ((c.tc : Thread Cert.RefGateFwdIdeal.nD Cert.RefGateFwdIdeal.τ).loc Cert.RefGateFwdIdeal.main_arg1) = m ((c.tc : Thread Cert.RefGateFwdIdeal.nD Cert.RefGateFwdIdeal.τ).loc Cert.RefGateFwdIdeal.main_arg1)
      ∧ r.2.mem ((c.tc : Thread Cert.RefGateFwdIdeal.nD Cert.RefGateFwdIdeal.τ).loc Cert.RefGateFwdIdeal.main_arg2) = m ((c.tc : Thread Cert.RefGateFwdIdeal.nD Cert.RefGateFwdIdeal.τ).loc Cert.RefGateFwdIdeal.main_arg2))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_RefAdamWInIdeal [hRefAdamWInIdeal : Cert.RefAdamWInIdeal.Facts] : Prop :=
  ∀ (m : (ℓ : Loc Cert.RefAdamWInIdeal.nD Cert.RefAdamWInIdeal.τ Cert.RefAdamWInIdeal.sig) → Buf (Elt Ideal) ℓ) (g : Dev Cert.RefAdamWInIdeal.nD → PrngReg), Pre_RefAdamWInIdeal m →
    θ_run (Cert.RefAdamWInIdeal.defs (F := Ideal)) (onTc (τ := Cert.RefAdamWInIdeal.τ) (Cert.RefAdamWInIdeal.main (F := Ideal))) ⟨m, fun _ => 0, g⟩ (fun r => (∀ c : Dev Cert.RefAdamWInIdeal.nD,
      r.2.mem ((c.tc : Thread Cert.RefAdamWInIdeal.nD Cert.RefAdamWInIdeal.τ).loc Cert.RefAdamWInIdeal.main_arg0) = m ((c.tc : Thread Cert.RefAdamWInIdeal.nD Cert.RefAdamWInIdeal.τ).loc Cert.RefAdamWInIdeal.main_arg0)
      ∧ r.2.mem ((c.tc : Thread Cert.RefAdamWInIdeal.nD Cert.RefAdamWInIdeal.τ).loc Cert.RefAdamWInIdeal.main_arg1) = m ((c.tc : Thread Cert.RefAdamWInIdeal.nD Cert.RefAdamWInIdeal.τ).loc Cert.RefAdamWInIdeal.main_arg1)
      ∧ r.2.mem ((c.tc : Thread Cert.RefAdamWInIdeal.nD Cert.RefAdamWInIdeal.τ).loc Cert.RefAdamWInIdeal.main_arg2) = m ((c.tc : Thread Cert.RefAdamWInIdeal.nD Cert.RefAdamWInIdeal.τ).loc Cert.RefAdamWInIdeal.main_arg2)
      ∧ r.2.mem ((c.tc : Thread Cert.RefAdamWInIdeal.nD Cert.RefAdamWInIdeal.τ).loc Cert.RefAdamWInIdeal.main_arg3) = m ((c.tc : Thread Cert.RefAdamWInIdeal.nD Cert.RefAdamWInIdeal.τ).loc Cert.RefAdamWInIdeal.main_arg3))
      ∧ r.2.sem = fun _ => 0)

def quiescent_AdamWGlu [hAdamWGlu : Cert.AdamWGlu.Facts] : Prop :=
  ∀ (m : (ℓ : Loc Cert.AdamWGlu.nD Cert.AdamWGlu.τ Cert.AdamWGlu.sig) → Buf (Elt Bits) ℓ) (g : Dev Cert.AdamWGlu.nD → PrngReg), Pre_AdamWGlu m →
    θ_run (Cert.AdamWGlu.defs (F := Bits)) (onTc (τ := Cert.AdamWGlu.τ) (Cert.AdamWGlu.main (F := Bits))) ⟨m, fun _ => 0, g⟩ (fun r => (∀ c : Dev Cert.AdamWGlu.nD,
      r.2.mem ((c.tc : Thread Cert.AdamWGlu.nD Cert.AdamWGlu.τ).loc Cert.AdamWGlu.main_arg0) = m ((c.tc : Thread Cert.AdamWGlu.nD Cert.AdamWGlu.τ).loc Cert.AdamWGlu.main_arg0)
      ∧ r.2.mem ((c.tc : Thread Cert.AdamWGlu.nD Cert.AdamWGlu.τ).loc Cert.AdamWGlu.main_arg1) = m ((c.tc : Thread Cert.AdamWGlu.nD Cert.AdamWGlu.τ).loc Cert.AdamWGlu.main_arg1)
      ∧ r.2.mem ((c.tc : Thread Cert.AdamWGlu.nD Cert.AdamWGlu.τ).loc Cert.AdamWGlu.main_arg2) = m ((c.tc : Thread Cert.AdamWGlu.nD Cert.AdamWGlu.τ).loc Cert.AdamWGlu.main_arg2)
      ∧ r.2.mem ((c.tc : Thread Cert.AdamWGlu.nD Cert.AdamWGlu.τ).loc Cert.AdamWGlu.main_arg3) = m ((c.tc : Thread Cert.AdamWGlu.nD Cert.AdamWGlu.τ).loc Cert.AdamWGlu.main_arg3))
      ∧ r.2.sem = fun _ => 0)

def quiescent_AdamWGluIdeal [hAdamWGluIdeal : Cert.AdamWGluIdeal.Facts] : Prop :=
  ∀ (m : (ℓ : Loc Cert.AdamWGluIdeal.nD Cert.AdamWGluIdeal.τ Cert.AdamWGluIdeal.sig) → Buf (Elt Ideal) ℓ) (g : Dev Cert.AdamWGluIdeal.nD → PrngReg), Pre_AdamWGluIdeal m →
    θ_run (Cert.AdamWGluIdeal.defs (F := Ideal)) (onTc (τ := Cert.AdamWGluIdeal.τ) (Cert.AdamWGluIdeal.main (F := Ideal))) ⟨m, fun _ => 0, g⟩ (fun r => (∀ c : Dev Cert.AdamWGluIdeal.nD,
      r.2.mem ((c.tc : Thread Cert.AdamWGluIdeal.nD Cert.AdamWGluIdeal.τ).loc Cert.AdamWGluIdeal.main_arg0) = m ((c.tc : Thread Cert.AdamWGluIdeal.nD Cert.AdamWGluIdeal.τ).loc Cert.AdamWGluIdeal.main_arg0)
      ∧ r.2.mem ((c.tc : Thread Cert.AdamWGluIdeal.nD Cert.AdamWGluIdeal.τ).loc Cert.AdamWGluIdeal.main_arg1) = m ((c.tc : Thread Cert.AdamWGluIdeal.nD Cert.AdamWGluIdeal.τ).loc Cert.AdamWGluIdeal.main_arg1)
      ∧ r.2.mem ((c.tc : Thread Cert.AdamWGluIdeal.nD Cert.AdamWGluIdeal.τ).loc Cert.AdamWGluIdeal.main_arg2) = m ((c.tc : Thread Cert.AdamWGluIdeal.nD Cert.AdamWGluIdeal.τ).loc Cert.AdamWGluIdeal.main_arg2)
      ∧ r.2.mem ((c.tc : Thread Cert.AdamWGluIdeal.nD Cert.AdamWGluIdeal.τ).loc Cert.AdamWGluIdeal.main_arg3) = m ((c.tc : Thread Cert.AdamWGluIdeal.nD Cert.AdamWGluIdeal.τ).loc Cert.AdamWGluIdeal.main_arg3))
      ∧ r.2.sem = fun _ => 0)

def quiescent_RefAdamWGluIdeal [hRefAdamWGluIdeal : Cert.RefAdamWGluIdeal.Facts] : Prop :=
  ∀ (m : (ℓ : Loc Cert.RefAdamWGluIdeal.nD Cert.RefAdamWGluIdeal.τ Cert.RefAdamWGluIdeal.sig) → Buf (Elt Ideal) ℓ) (g : Dev Cert.RefAdamWGluIdeal.nD → PrngReg), Pre_RefAdamWGluIdeal m →
    θ_run (Cert.RefAdamWGluIdeal.defs (F := Ideal)) (onTc (τ := Cert.RefAdamWGluIdeal.τ) (Cert.RefAdamWGluIdeal.main (F := Ideal))) ⟨m, fun _ => 0, g⟩ (fun r => (∀ c : Dev Cert.RefAdamWGluIdeal.nD,
      r.2.mem ((c.tc : Thread Cert.RefAdamWGluIdeal.nD Cert.RefAdamWGluIdeal.τ).loc Cert.RefAdamWGluIdeal.main_arg0) = m ((c.tc : Thread Cert.RefAdamWGluIdeal.nD Cert.RefAdamWGluIdeal.τ).loc Cert.RefAdamWGluIdeal.main_arg0)
      ∧ r.2.mem ((c.tc : Thread Cert.RefAdamWGluIdeal.nD Cert.RefAdamWGluIdeal.τ).loc Cert.RefAdamWGluIdeal.main_arg1) = m ((c.tc : Thread Cert.RefAdamWGluIdeal.nD Cert.RefAdamWGluIdeal.τ).loc Cert.RefAdamWGluIdeal.main_arg1)
      ∧ r.2.mem ((c.tc : Thread Cert.RefAdamWGluIdeal.nD Cert.RefAdamWGluIdeal.τ).loc Cert.RefAdamWGluIdeal.main_arg2) = m ((c.tc : Thread Cert.RefAdamWGluIdeal.nD Cert.RefAdamWGluIdeal.τ).loc Cert.RefAdamWGluIdeal.main_arg2)
      ∧ r.2.mem ((c.tc : Thread Cert.RefAdamWGluIdeal.nD Cert.RefAdamWGluIdeal.τ).loc Cert.RefAdamWGluIdeal.main_arg3) = m ((c.tc : Thread Cert.RefAdamWGluIdeal.nD Cert.RefAdamWGluIdeal.τ).loc Cert.RefAdamWGluIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_RefAdamWOutIdeal [hRefAdamWOutIdeal : Cert.RefAdamWOutIdeal.Facts] : Prop :=
  ∀ (m : (ℓ : Loc Cert.RefAdamWOutIdeal.nD Cert.RefAdamWOutIdeal.τ Cert.RefAdamWOutIdeal.sig) → Buf (Elt Ideal) ℓ) (g : Dev Cert.RefAdamWOutIdeal.nD → PrngReg), Pre_RefAdamWOutIdeal m →
    θ_run (Cert.RefAdamWOutIdeal.defs (F := Ideal)) (onTc (τ := Cert.RefAdamWOutIdeal.τ) (Cert.RefAdamWOutIdeal.main (F := Ideal))) ⟨m, fun _ => 0, g⟩ (fun r => (∀ c : Dev Cert.RefAdamWOutIdeal.nD,
      r.2.mem ((c.tc : Thread Cert.RefAdamWOutIdeal.nD Cert.RefAdamWOutIdeal.τ).loc Cert.RefAdamWOutIdeal.main_arg0) = m ((c.tc : Thread Cert.RefAdamWOutIdeal.nD Cert.RefAdamWOutIdeal.τ).loc Cert.RefAdamWOutIdeal.main_arg0)
      ∧ r.2.mem ((c.tc : Thread Cert.RefAdamWOutIdeal.nD Cert.RefAdamWOutIdeal.τ).loc Cert.RefAdamWOutIdeal.main_arg1) = m ((c.tc : Thread Cert.RefAdamWOutIdeal.nD Cert.RefAdamWOutIdeal.τ).loc Cert.RefAdamWOutIdeal.main_arg1)
      ∧ r.2.mem ((c.tc : Thread Cert.RefAdamWOutIdeal.nD Cert.RefAdamWOutIdeal.τ).loc Cert.RefAdamWOutIdeal.main_arg2) = m ((c.tc : Thread Cert.RefAdamWOutIdeal.nD Cert.RefAdamWOutIdeal.τ).loc Cert.RefAdamWOutIdeal.main_arg2)
      ∧ r.2.mem ((c.tc : Thread Cert.RefAdamWOutIdeal.nD Cert.RefAdamWOutIdeal.τ).loc Cert.RefAdamWOutIdeal.main_arg3) = m ((c.tc : Thread Cert.RefAdamWOutIdeal.nD Cert.RefAdamWOutIdeal.τ).loc Cert.RefAdamWOutIdeal.main_arg3))
      ∧ r.2.sem = fun _ => 0)

def quiescent_AdamWUp [hAdamWUp : Cert.AdamWUp.Facts] : Prop :=
  ∀ (m : (ℓ : Loc Cert.AdamWUp.nD Cert.AdamWUp.τ Cert.AdamWUp.sig) → Buf (Elt Bits) ℓ) (g : Dev Cert.AdamWUp.nD → PrngReg), Pre_AdamWUp m →
    θ_run (Cert.AdamWUp.defs (F := Bits)) (onTc (τ := Cert.AdamWUp.τ) (Cert.AdamWUp.main (F := Bits))) ⟨m, fun _ => 0, g⟩ (fun r => (∀ c : Dev Cert.AdamWUp.nD,
      r.2.mem ((c.tc : Thread Cert.AdamWUp.nD Cert.AdamWUp.τ).loc Cert.AdamWUp.main_arg0) = m ((c.tc : Thread Cert.AdamWUp.nD Cert.AdamWUp.τ).loc Cert.AdamWUp.main_arg0)
      ∧ r.2.mem ((c.tc : Thread Cert.AdamWUp.nD Cert.AdamWUp.τ).loc Cert.AdamWUp.main_arg1) = m ((c.tc : Thread Cert.AdamWUp.nD Cert.AdamWUp.τ).loc Cert.AdamWUp.main_arg1)
      ∧ r.2.mem ((c.tc : Thread Cert.AdamWUp.nD Cert.AdamWUp.τ).loc Cert.AdamWUp.main_arg2) = m ((c.tc : Thread Cert.AdamWUp.nD Cert.AdamWUp.τ).loc Cert.AdamWUp.main_arg2)
      ∧ r.2.mem ((c.tc : Thread Cert.AdamWUp.nD Cert.AdamWUp.τ).loc Cert.AdamWUp.main_arg3) = m ((c.tc : Thread Cert.AdamWUp.nD Cert.AdamWUp.τ).loc Cert.AdamWUp.main_arg3))
      ∧ r.2.sem = fun _ => 0)

def quiescent_AdamWUpIdeal [hAdamWUpIdeal : Cert.AdamWUpIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg), Pre_AdamWUpIdeal m →
    θ_run (Cert.AdamWUpIdeal.defs (F := Ideal)) (onTc (τ := Cert.AdamWUpIdeal.τ) (Cert.AdamWUpIdeal.main (F := Ideal))) ⟨m, fun _ => 0, g⟩ (fun r => (∀ c : Dev Cert.AdamWUpIdeal.nD,
      r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
      ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
      ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
      ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ r.2.sem = fun _ => 0)

def quiescent_RefAdamWUpIdeal [hRefAdamWUpIdeal : Cert.RefAdamWUpIdeal.Facts] : Prop :=
  ∀ (m : (ℓ : Loc Cert.RefAdamWUpIdeal.nD Cert.RefAdamWUpIdeal.τ Cert.RefAdamWUpIdeal.sig) → Buf (Elt Ideal) ℓ) (g : Dev Cert.RefAdamWUpIdeal.nD → PrngReg), Pre_RefAdamWUpIdeal m →
    θ_run (Cert.RefAdamWUpIdeal.defs (F := Ideal)) (onTc (τ := Cert.RefAdamWUpIdeal.τ) (Cert.RefAdamWUpIdeal.main (F := Ideal))) ⟨m, fun _ => 0, g⟩ (fun r => (∀ c : Dev Cert.RefAdamWUpIdeal.nD,
      r.2.mem ((c.tc : Thread Cert.RefAdamWUpIdeal.nD Cert.RefAdamWUpIdeal.τ).loc Cert.RefAdamWUpIdeal.main_arg0) = m ((c.tc : Thread Cert.RefAdamWUpIdeal.nD Cert.RefAdamWUpIdeal.τ).loc Cert.RefAdamWUpIdeal.main_arg0)
      ∧ r.2.mem ((c.tc : Thread Cert.RefAdamWUpIdeal.nD Cert.RefAdamWUpIdeal.τ).loc Cert.RefAdamWUpIdeal.main_arg1) = m ((c.tc : Thread Cert.RefAdamWUpIdeal.nD Cert.RefAdamWUpIdeal.τ).loc Cert.RefAdamWUpIdeal.main_arg1)
      ∧ r.2.mem ((c.tc : Thread Cert.RefAdamWUpIdeal.nD Cert.RefAdamWUpIdeal.τ).loc Cert.RefAdamWUpIdeal.main_arg2) = m ((c.tc : Thread Cert.RefAdamWUpIdeal.nD Cert.RefAdamWUpIdeal.τ).loc Cert.RefAdamWUpIdeal.main_arg2)
      ∧ r.2.mem ((c.tc : Thread Cert.RefAdamWUpIdeal.nD Cert.RefAdamWUpIdeal.τ).loc Cert.RefAdamWUpIdeal.main_arg3) = m ((c.tc : Thread Cert.RefAdamWUpIdeal.nD Cert.RefAdamWUpIdeal.τ).loc Cert.RefAdamWUpIdeal.main_arg3))
      ∧ r.2.sem = fun _ => 0)

def quiescent_AdamWDown [hAdamWDown : Cert.AdamWDown.Facts] : Prop :=
  ∀ (m : (ℓ : Loc Cert.AdamWDown.nD Cert.AdamWDown.τ Cert.AdamWDown.sig) → Buf (Elt Bits) ℓ) (g : Dev Cert.AdamWDown.nD → PrngReg), Pre_AdamWDown m →
    θ_run (Cert.AdamWDown.defs (F := Bits)) (onTc (τ := Cert.AdamWDown.τ) (Cert.AdamWDown.main (F := Bits))) ⟨m, fun _ => 0, g⟩ (fun r => (∀ c : Dev Cert.AdamWDown.nD,
      r.2.mem ((c.tc : Thread Cert.AdamWDown.nD Cert.AdamWDown.τ).loc Cert.AdamWDown.main_arg0) = m ((c.tc : Thread Cert.AdamWDown.nD Cert.AdamWDown.τ).loc Cert.AdamWDown.main_arg0)
      ∧ r.2.mem ((c.tc : Thread Cert.AdamWDown.nD Cert.AdamWDown.τ).loc Cert.AdamWDown.main_arg1) = m ((c.tc : Thread Cert.AdamWDown.nD Cert.AdamWDown.τ).loc Cert.AdamWDown.main_arg1)
      ∧ r.2.mem ((c.tc : Thread Cert.AdamWDown.nD Cert.AdamWDown.τ).loc Cert.AdamWDown.main_arg2) = m ((c.tc : Thread Cert.AdamWDown.nD Cert.AdamWDown.τ).loc Cert.AdamWDown.main_arg2)
      ∧ r.2.mem ((c.tc : Thread Cert.AdamWDown.nD Cert.AdamWDown.τ).loc Cert.AdamWDown.main_arg3) = m ((c.tc : Thread Cert.AdamWDown.nD Cert.AdamWDown.τ).loc Cert.AdamWDown.main_arg3))
      ∧ r.2.sem = fun _ => 0)

def quiescent_AdamWDownIdeal [hAdamWDownIdeal : Cert.AdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg), Pre_AdamWDownIdeal m →
    θ_run (Cert.AdamWDownIdeal.defs (F := Ideal)) (onTc (τ := Cert.AdamWDownIdeal.τ) (Cert.AdamWDownIdeal.main (F := Ideal))) ⟨m, fun _ => 0, g⟩ (fun r => (∀ c : Dev Cert.AdamWDownIdeal.nD,
      r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
      ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
      ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
      ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ r.2.sem = fun _ => 0)

def quiescent_RefAdamWDownIdeal [hRefAdamWDownIdeal : Cert.RefAdamWDownIdeal.Facts] : Prop :=
  ∀ (m : (ℓ : Loc Cert.RefAdamWDownIdeal.nD Cert.RefAdamWDownIdeal.τ Cert.RefAdamWDownIdeal.sig) → Buf (Elt Ideal) ℓ) (g : Dev Cert.RefAdamWDownIdeal.nD → PrngReg), Pre_RefAdamWDownIdeal m →
    θ_run (Cert.RefAdamWDownIdeal.defs (F := Ideal)) (onTc (τ := Cert.RefAdamWDownIdeal.τ) (Cert.RefAdamWDownIdeal.main (F := Ideal))) ⟨m, fun _ => 0, g⟩ (fun r => (∀ c : Dev Cert.RefAdamWDownIdeal.nD,
      r.2.mem ((c.tc : Thread Cert.RefAdamWDownIdeal.nD Cert.RefAdamWDownIdeal.τ).loc Cert.RefAdamWDownIdeal.main_arg0) = m ((c.tc : Thread Cert.RefAdamWDownIdeal.nD Cert.RefAdamWDownIdeal.τ).loc Cert.RefAdamWDownIdeal.main_arg0)
      ∧ r.2.mem ((c.tc : Thread Cert.RefAdamWDownIdeal.nD Cert.RefAdamWDownIdeal.τ).loc Cert.RefAdamWDownIdeal.main_arg1) = m ((c.tc : Thread Cert.RefAdamWDownIdeal.nD Cert.RefAdamWDownIdeal.τ).loc Cert.RefAdamWDownIdeal.main_arg1)
      ∧ r.2.mem ((c.tc : Thread Cert.RefAdamWDownIdeal.nD Cert.RefAdamWDownIdeal.τ).loc Cert.RefAdamWDownIdeal.main_arg2) = m ((c.tc : Thread Cert.RefAdamWDownIdeal.nD Cert.RefAdamWDownIdeal.τ).loc Cert.RefAdamWDownIdeal.main_arg2)
      ∧ r.2.mem ((c.tc : Thread Cert.RefAdamWDownIdeal.nD Cert.RefAdamWDownIdeal.τ).loc Cert.RefAdamWDownIdeal.main_arg3) = m ((c.tc : Thread Cert.RefAdamWDownIdeal.nD Cert.RefAdamWDownIdeal.τ).loc Cert.RefAdamWDownIdeal.main_arg3))
      ∧ r.2.sem = fun _ => 0)

def quiescent_AdamWAda [hAdamWAda : Cert.AdamWAda.Facts] : Prop :=
  ∀ (m : (ℓ : Loc Cert.AdamWAda.nD Cert.AdamWAda.τ Cert.AdamWAda.sig) → Buf (Elt Bits) ℓ) (g : Dev Cert.AdamWAda.nD → PrngReg), Pre_AdamWAda m →
    θ_run (Cert.AdamWAda.defs (F := Bits)) (onTc (τ := Cert.AdamWAda.τ) (Cert.AdamWAda.main (F := Bits))) ⟨m, fun _ => 0, g⟩ (fun r => (∀ c : Dev Cert.AdamWAda.nD,
      r.2.mem ((c.tc : Thread Cert.AdamWAda.nD Cert.AdamWAda.τ).loc Cert.AdamWAda.main_arg0) = m ((c.tc : Thread Cert.AdamWAda.nD Cert.AdamWAda.τ).loc Cert.AdamWAda.main_arg0)
      ∧ r.2.mem ((c.tc : Thread Cert.AdamWAda.nD Cert.AdamWAda.τ).loc Cert.AdamWAda.main_arg1) = m ((c.tc : Thread Cert.AdamWAda.nD Cert.AdamWAda.τ).loc Cert.AdamWAda.main_arg1)
      ∧ r.2.mem ((c.tc : Thread Cert.AdamWAda.nD Cert.AdamWAda.τ).loc Cert.AdamWAda.main_arg2) = m ((c.tc : Thread Cert.AdamWAda.nD Cert.AdamWAda.τ).loc Cert.AdamWAda.main_arg2)
      ∧ r.2.mem ((c.tc : Thread Cert.AdamWAda.nD Cert.AdamWAda.τ).loc Cert.AdamWAda.main_arg3) = m ((c.tc : Thread Cert.AdamWAda.nD Cert.AdamWAda.τ).loc Cert.AdamWAda.main_arg3))
      ∧ r.2.sem = fun _ => 0)

def quiescent_AdamWAdaIdeal [hAdamWAdaIdeal : Cert.AdamWAdaIdeal.Facts] : Prop :=
  ∀ (m : (ℓ : Loc Cert.AdamWAdaIdeal.nD Cert.AdamWAdaIdeal.τ Cert.AdamWAdaIdeal.sig) → Buf (Elt Ideal) ℓ) (g : Dev Cert.AdamWAdaIdeal.nD → PrngReg), Pre_AdamWAdaIdeal m →
    θ_run (Cert.AdamWAdaIdeal.defs (F := Ideal)) (onTc (τ := Cert.AdamWAdaIdeal.τ) (Cert.AdamWAdaIdeal.main (F := Ideal))) ⟨m, fun _ => 0, g⟩ (fun r => (∀ c : Dev Cert.AdamWAdaIdeal.nD,
      r.2.mem ((c.tc : Thread Cert.AdamWAdaIdeal.nD Cert.AdamWAdaIdeal.τ).loc Cert.AdamWAdaIdeal.main_arg0) = m ((c.tc : Thread Cert.AdamWAdaIdeal.nD Cert.AdamWAdaIdeal.τ).loc Cert.AdamWAdaIdeal.main_arg0)
      ∧ r.2.mem ((c.tc : Thread Cert.AdamWAdaIdeal.nD Cert.AdamWAdaIdeal.τ).loc Cert.AdamWAdaIdeal.main_arg1) = m ((c.tc : Thread Cert.AdamWAdaIdeal.nD Cert.AdamWAdaIdeal.τ).loc Cert.AdamWAdaIdeal.main_arg1)
      ∧ r.2.mem ((c.tc : Thread Cert.AdamWAdaIdeal.nD Cert.AdamWAdaIdeal.τ).loc Cert.AdamWAdaIdeal.main_arg2) = m ((c.tc : Thread Cert.AdamWAdaIdeal.nD Cert.AdamWAdaIdeal.τ).loc Cert.AdamWAdaIdeal.main_arg2)
      ∧ r.2.mem ((c.tc : Thread Cert.AdamWAdaIdeal.nD Cert.AdamWAdaIdeal.τ).loc Cert.AdamWAdaIdeal.main_arg3) = m ((c.tc : Thread Cert.AdamWAdaIdeal.nD Cert.AdamWAdaIdeal.τ).loc Cert.AdamWAdaIdeal.main_arg3))
      ∧ r.2.sem = fun _ => 0)

def quiescent_RefAdamWAdaIdeal [hRefAdamWAdaIdeal : Cert.RefAdamWAdaIdeal.Facts] : Prop :=
  ∀ (m : (ℓ : Loc Cert.RefAdamWAdaIdeal.nD Cert.RefAdamWAdaIdeal.τ Cert.RefAdamWAdaIdeal.sig) → Buf (Elt Ideal) ℓ) (g : Dev Cert.RefAdamWAdaIdeal.nD → PrngReg), Pre_RefAdamWAdaIdeal m →
    θ_run (Cert.RefAdamWAdaIdeal.defs (F := Ideal)) (onTc (τ := Cert.RefAdamWAdaIdeal.τ) (Cert.RefAdamWAdaIdeal.main (F := Ideal))) ⟨m, fun _ => 0, g⟩ (fun r => (∀ c : Dev Cert.RefAdamWAdaIdeal.nD,
      r.2.mem ((c.tc : Thread Cert.RefAdamWAdaIdeal.nD Cert.RefAdamWAdaIdeal.τ).loc Cert.RefAdamWAdaIdeal.main_arg0) = m ((c.tc : Thread Cert.RefAdamWAdaIdeal.nD Cert.RefAdamWAdaIdeal.τ).loc Cert.RefAdamWAdaIdeal.main_arg0)
      ∧ r.2.mem ((c.tc : Thread Cert.RefAdamWAdaIdeal.nD Cert.RefAdamWAdaIdeal.τ).loc Cert.RefAdamWAdaIdeal.main_arg1) = m ((c.tc : Thread Cert.RefAdamWAdaIdeal.nD Cert.RefAdamWAdaIdeal.τ).loc Cert.RefAdamWAdaIdeal.main_arg1)
      ∧ r.2.mem ((c.tc : Thread Cert.RefAdamWAdaIdeal.nD Cert.RefAdamWAdaIdeal.τ).loc Cert.RefAdamWAdaIdeal.main_arg2) = m ((c.tc : Thread Cert.RefAdamWAdaIdeal.nD Cert.RefAdamWAdaIdeal.τ).loc Cert.RefAdamWAdaIdeal.main_arg2)
      ∧ r.2.mem ((c.tc : Thread Cert.RefAdamWAdaIdeal.nD Cert.RefAdamWAdaIdeal.τ).loc Cert.RefAdamWAdaIdeal.main_arg3) = m ((c.tc : Thread Cert.RefAdamWAdaIdeal.nD Cert.RefAdamWAdaIdeal.τ).loc Cert.RefAdamWAdaIdeal.main_arg3))
      ∧ r.2.sem = fun _ => 0)

def quiescent_SsmParBwd [hSsmParBwd : Cert.SsmParBwd.Facts] : Prop :=
  ∀ (m : (ℓ : Loc Cert.SsmParBwd.nD Cert.SsmParBwd.τ Cert.SsmParBwd.sig) → Buf (Elt Bits) ℓ) (g : Dev Cert.SsmParBwd.nD → PrngReg), Pre_SsmParBwd m →
    θ_run (Cert.SsmParBwd.defs (F := Bits)) (onTc (τ := Cert.SsmParBwd.τ) (Cert.SsmParBwd.main (F := Bits))) ⟨m, fun _ => 0, g⟩ (fun r => (∀ c : Dev Cert.SsmParBwd.nD,
      r.2.mem ((c.tc : Thread Cert.SsmParBwd.nD Cert.SsmParBwd.τ).loc Cert.SsmParBwd.main_arg0) = m ((c.tc : Thread Cert.SsmParBwd.nD Cert.SsmParBwd.τ).loc Cert.SsmParBwd.main_arg0)
      ∧ r.2.mem ((c.tc : Thread Cert.SsmParBwd.nD Cert.SsmParBwd.τ).loc Cert.SsmParBwd.main_arg1) = m ((c.tc : Thread Cert.SsmParBwd.nD Cert.SsmParBwd.τ).loc Cert.SsmParBwd.main_arg1)
      ∧ r.2.mem ((c.tc : Thread Cert.SsmParBwd.nD Cert.SsmParBwd.τ).loc Cert.SsmParBwd.main_arg2) = m ((c.tc : Thread Cert.SsmParBwd.nD Cert.SsmParBwd.τ).loc Cert.SsmParBwd.main_arg2)
      ∧ r.2.mem ((c.tc : Thread Cert.SsmParBwd.nD Cert.SsmParBwd.τ).loc Cert.SsmParBwd.main_arg3) = m ((c.tc : Thread Cert.SsmParBwd.nD Cert.SsmParBwd.τ).loc Cert.SsmParBwd.main_arg3)
      ∧ r.2.mem ((c.tc : Thread Cert.SsmParBwd.nD Cert.SsmParBwd.τ).loc Cert.SsmParBwd.main_arg4) = m ((c.tc : Thread Cert.SsmParBwd.nD Cert.SsmParBwd.τ).loc Cert.SsmParBwd.main_arg4)
      ∧ r.2.mem ((c.tc : Thread Cert.SsmParBwd.nD Cert.SsmParBwd.τ).loc Cert.SsmParBwd.main_arg5) = m ((c.tc : Thread Cert.SsmParBwd.nD Cert.SsmParBwd.τ).loc Cert.SsmParBwd.main_arg5)
      ∧ r.2.mem ((c.tc : Thread Cert.SsmParBwd.nD Cert.SsmParBwd.τ).loc Cert.SsmParBwd.main_arg6) = m ((c.tc : Thread Cert.SsmParBwd.nD Cert.SsmParBwd.τ).loc Cert.SsmParBwd.main_arg6)
      ∧ r.2.mem ((c.tc : Thread Cert.SsmParBwd.nD Cert.SsmParBwd.τ).loc Cert.SsmParBwd.main_arg7) = m ((c.tc : Thread Cert.SsmParBwd.nD Cert.SsmParBwd.τ).loc Cert.SsmParBwd.main_arg7)
      ∧ r.2.mem ((c.tc : Thread Cert.SsmParBwd.nD Cert.SsmParBwd.τ).loc Cert.SsmParBwd.main_arg8) = m ((c.tc : Thread Cert.SsmParBwd.nD Cert.SsmParBwd.τ).loc Cert.SsmParBwd.main_arg8)
      ∧ r.2.mem ((c.tc : Thread Cert.SsmParBwd.nD Cert.SsmParBwd.τ).loc Cert.SsmParBwd.main_arg9) = m ((c.tc : Thread Cert.SsmParBwd.nD Cert.SsmParBwd.τ).loc Cert.SsmParBwd.main_arg9))
      ∧ r.2.sem = fun _ => 0)

def quiescent_SsmParBwdIdeal [hSsmParBwdIdeal : Cert.SsmParBwdIdeal.Facts] : Prop :=
  ∀ (m : (ℓ : Loc Cert.SsmParBwdIdeal.nD Cert.SsmParBwdIdeal.τ Cert.SsmParBwdIdeal.sig) → Buf (Elt Ideal) ℓ) (g : Dev Cert.SsmParBwdIdeal.nD → PrngReg), Pre_SsmParBwdIdeal m →
    θ_run (Cert.SsmParBwdIdeal.defs (F := Ideal)) (onTc (τ := Cert.SsmParBwdIdeal.τ) (Cert.SsmParBwdIdeal.main (F := Ideal))) ⟨m, fun _ => 0, g⟩ (fun r => (∀ c : Dev Cert.SsmParBwdIdeal.nD,
      r.2.mem ((c.tc : Thread Cert.SsmParBwdIdeal.nD Cert.SsmParBwdIdeal.τ).loc Cert.SsmParBwdIdeal.main_arg0) = m ((c.tc : Thread Cert.SsmParBwdIdeal.nD Cert.SsmParBwdIdeal.τ).loc Cert.SsmParBwdIdeal.main_arg0)
      ∧ r.2.mem ((c.tc : Thread Cert.SsmParBwdIdeal.nD Cert.SsmParBwdIdeal.τ).loc Cert.SsmParBwdIdeal.main_arg1) = m ((c.tc : Thread Cert.SsmParBwdIdeal.nD Cert.SsmParBwdIdeal.τ).loc Cert.SsmParBwdIdeal.main_arg1)
      ∧ r.2.mem ((c.tc : Thread Cert.SsmParBwdIdeal.nD Cert.SsmParBwdIdeal.τ).loc Cert.SsmParBwdIdeal.main_arg2) = m ((c.tc : Thread Cert.SsmParBwdIdeal.nD Cert.SsmParBwdIdeal.τ).loc Cert.SsmParBwdIdeal.main_arg2)
      ∧ r.2.mem ((c.tc : Thread Cert.SsmParBwdIdeal.nD Cert.SsmParBwdIdeal.τ).loc Cert.SsmParBwdIdeal.main_arg3) = m ((c.tc : Thread Cert.SsmParBwdIdeal.nD Cert.SsmParBwdIdeal.τ).loc Cert.SsmParBwdIdeal.main_arg3)
      ∧ r.2.mem ((c.tc : Thread Cert.SsmParBwdIdeal.nD Cert.SsmParBwdIdeal.τ).loc Cert.SsmParBwdIdeal.main_arg4) = m ((c.tc : Thread Cert.SsmParBwdIdeal.nD Cert.SsmParBwdIdeal.τ).loc Cert.SsmParBwdIdeal.main_arg4)
      ∧ r.2.mem ((c.tc : Thread Cert.SsmParBwdIdeal.nD Cert.SsmParBwdIdeal.τ).loc Cert.SsmParBwdIdeal.main_arg5) = m ((c.tc : Thread Cert.SsmParBwdIdeal.nD Cert.SsmParBwdIdeal.τ).loc Cert.SsmParBwdIdeal.main_arg5)
      ∧ r.2.mem ((c.tc : Thread Cert.SsmParBwdIdeal.nD Cert.SsmParBwdIdeal.τ).loc Cert.SsmParBwdIdeal.main_arg6) = m ((c.tc : Thread Cert.SsmParBwdIdeal.nD Cert.SsmParBwdIdeal.τ).loc Cert.SsmParBwdIdeal.main_arg6)
      ∧ r.2.mem ((c.tc : Thread Cert.SsmParBwdIdeal.nD Cert.SsmParBwdIdeal.τ).loc Cert.SsmParBwdIdeal.main_arg7) = m ((c.tc : Thread Cert.SsmParBwdIdeal.nD Cert.SsmParBwdIdeal.τ).loc Cert.SsmParBwdIdeal.main_arg7)
      ∧ r.2.mem ((c.tc : Thread Cert.SsmParBwdIdeal.nD Cert.SsmParBwdIdeal.τ).loc Cert.SsmParBwdIdeal.main_arg8) = m ((c.tc : Thread Cert.SsmParBwdIdeal.nD Cert.SsmParBwdIdeal.τ).loc Cert.SsmParBwdIdeal.main_arg8)
      ∧ r.2.mem ((c.tc : Thread Cert.SsmParBwdIdeal.nD Cert.SsmParBwdIdeal.τ).loc Cert.SsmParBwdIdeal.main_arg9) = m ((c.tc : Thread Cert.SsmParBwdIdeal.nD Cert.SsmParBwdIdeal.τ).loc Cert.SsmParBwdIdeal.main_arg9))
      ∧ r.2.sem = fun _ => 0)

def quiescent_RefSsmParBwdIdeal [hRefSsmParBwdIdeal : Cert.RefSsmParBwdIdeal.Facts] : Prop :=
  ∀ (m : (ℓ : Loc Cert.RefSsmParBwdIdeal.nD Cert.RefSsmParBwdIdeal.τ Cert.RefSsmParBwdIdeal.sig) → Buf (Elt Ideal) ℓ) (g : Dev Cert.RefSsmParBwdIdeal.nD → PrngReg), Pre_RefSsmParBwdIdeal m →
    θ_run (Cert.RefSsmParBwdIdeal.defs (F := Ideal)) (onTc (τ := Cert.RefSsmParBwdIdeal.τ) (Cert.RefSsmParBwdIdeal.main (F := Ideal))) ⟨m, fun _ => 0, g⟩ (fun r => (∀ c : Dev Cert.RefSsmParBwdIdeal.nD,
      r.2.mem ((c.tc : Thread Cert.RefSsmParBwdIdeal.nD Cert.RefSsmParBwdIdeal.τ).loc Cert.RefSsmParBwdIdeal.main_arg0) = m ((c.tc : Thread Cert.RefSsmParBwdIdeal.nD Cert.RefSsmParBwdIdeal.τ).loc Cert.RefSsmParBwdIdeal.main_arg0)
      ∧ r.2.mem ((c.tc : Thread Cert.RefSsmParBwdIdeal.nD Cert.RefSsmParBwdIdeal.τ).loc Cert.RefSsmParBwdIdeal.main_arg1) = m ((c.tc : Thread Cert.RefSsmParBwdIdeal.nD Cert.RefSsmParBwdIdeal.τ).loc Cert.RefSsmParBwdIdeal.main_arg1)
      ∧ r.2.mem ((c.tc : Thread Cert.RefSsmParBwdIdeal.nD Cert.RefSsmParBwdIdeal.τ).loc Cert.RefSsmParBwdIdeal.main_arg2) = m ((c.tc : Thread Cert.RefSsmParBwdIdeal.nD Cert.RefSsmParBwdIdeal.τ).loc Cert.RefSsmParBwdIdeal.main_arg2)
      ∧ r.2.mem ((c.tc : Thread Cert.RefSsmParBwdIdeal.nD Cert.RefSsmParBwdIdeal.τ).loc Cert.RefSsmParBwdIdeal.main_arg3) = m ((c.tc : Thread Cert.RefSsmParBwdIdeal.nD Cert.RefSsmParBwdIdeal.τ).loc Cert.RefSsmParBwdIdeal.main_arg3)
      ∧ r.2.mem ((c.tc : Thread Cert.RefSsmParBwdIdeal.nD Cert.RefSsmParBwdIdeal.τ).loc Cert.RefSsmParBwdIdeal.main_arg4) = m ((c.tc : Thread Cert.RefSsmParBwdIdeal.nD Cert.RefSsmParBwdIdeal.τ).loc Cert.RefSsmParBwdIdeal.main_arg4)
      ∧ r.2.mem ((c.tc : Thread Cert.RefSsmParBwdIdeal.nD Cert.RefSsmParBwdIdeal.τ).loc Cert.RefSsmParBwdIdeal.main_arg5) = m ((c.tc : Thread Cert.RefSsmParBwdIdeal.nD Cert.RefSsmParBwdIdeal.τ).loc Cert.RefSsmParBwdIdeal.main_arg5)
      ∧ r.2.mem ((c.tc : Thread Cert.RefSsmParBwdIdeal.nD Cert.RefSsmParBwdIdeal.τ).loc Cert.RefSsmParBwdIdeal.main_arg6) = m ((c.tc : Thread Cert.RefSsmParBwdIdeal.nD Cert.RefSsmParBwdIdeal.τ).loc Cert.RefSsmParBwdIdeal.main_arg6)
      ∧ r.2.mem ((c.tc : Thread Cert.RefSsmParBwdIdeal.nD Cert.RefSsmParBwdIdeal.τ).loc Cert.RefSsmParBwdIdeal.main_arg7) = m ((c.tc : Thread Cert.RefSsmParBwdIdeal.nD Cert.RefSsmParBwdIdeal.τ).loc Cert.RefSsmParBwdIdeal.main_arg7)
      ∧ r.2.mem ((c.tc : Thread Cert.RefSsmParBwdIdeal.nD Cert.RefSsmParBwdIdeal.τ).loc Cert.RefSsmParBwdIdeal.main_arg8) = m ((c.tc : Thread Cert.RefSsmParBwdIdeal.nD Cert.RefSsmParBwdIdeal.τ).loc Cert.RefSsmParBwdIdeal.main_arg8)
      ∧ r.2.mem ((c.tc : Thread Cert.RefSsmParBwdIdeal.nD Cert.RefSsmParBwdIdeal.τ).loc Cert.RefSsmParBwdIdeal.main_arg9) = m ((c.tc : Thread Cert.RefSsmParBwdIdeal.nD Cert.RefSsmParBwdIdeal.τ).loc Cert.RefSsmParBwdIdeal.main_arg9))
      ∧ r.2.sem = fun _ => 0)

def quiescent_SsmParFwd [hSsmParFwd : Cert.SsmParFwd.Facts] : Prop :=
  ∀ (m : (ℓ : Loc Cert.SsmParFwd.nD Cert.SsmParFwd.τ Cert.SsmParFwd.sig) → Buf (Elt Bits) ℓ) (g : Dev Cert.SsmParFwd.nD → PrngReg), Pre_SsmParFwd m →
    θ_run (Cert.SsmParFwd.defs (F := Bits)) (onTc (τ := Cert.SsmParFwd.τ) (Cert.SsmParFwd.main (F := Bits))) ⟨m, fun _ => 0, g⟩ (fun r => (∀ c : Dev Cert.SsmParFwd.nD,
      r.2.mem ((c.tc : Thread Cert.SsmParFwd.nD Cert.SsmParFwd.τ).loc Cert.SsmParFwd.main_arg0) = m ((c.tc : Thread Cert.SsmParFwd.nD Cert.SsmParFwd.τ).loc Cert.SsmParFwd.main_arg0)
      ∧ r.2.mem ((c.tc : Thread Cert.SsmParFwd.nD Cert.SsmParFwd.τ).loc Cert.SsmParFwd.main_arg1) = m ((c.tc : Thread Cert.SsmParFwd.nD Cert.SsmParFwd.τ).loc Cert.SsmParFwd.main_arg1)
      ∧ r.2.mem ((c.tc : Thread Cert.SsmParFwd.nD Cert.SsmParFwd.τ).loc Cert.SsmParFwd.main_arg2) = m ((c.tc : Thread Cert.SsmParFwd.nD Cert.SsmParFwd.τ).loc Cert.SsmParFwd.main_arg2)
      ∧ r.2.mem ((c.tc : Thread Cert.SsmParFwd.nD Cert.SsmParFwd.τ).loc Cert.SsmParFwd.main_arg3) = m ((c.tc : Thread Cert.SsmParFwd.nD Cert.SsmParFwd.τ).loc Cert.SsmParFwd.main_arg3)
      ∧ r.2.mem ((c.tc : Thread Cert.SsmParFwd.nD Cert.SsmParFwd.τ).loc Cert.SsmParFwd.main_arg4) = m ((c.tc : Thread Cert.SsmParFwd.nD Cert.SsmParFwd.τ).loc Cert.SsmParFwd.main_arg4))
      ∧ r.2.sem = fun _ => 0)

def quiescent_SsmParFwdIdeal [hSsmParFwdIdeal : Cert.SsmParFwdIdeal.Facts] : Prop :=
  ∀ (m : (ℓ : Loc Cert.SsmParFwdIdeal.nD Cert.SsmParFwdIdeal.τ Cert.SsmParFwdIdeal.sig) → Buf (Elt Ideal) ℓ) (g : Dev Cert.SsmParFwdIdeal.nD → PrngReg), Pre_SsmParFwdIdeal m →
    θ_run (Cert.SsmParFwdIdeal.defs (F := Ideal)) (onTc (τ := Cert.SsmParFwdIdeal.τ) (Cert.SsmParFwdIdeal.main (F := Ideal))) ⟨m, fun _ => 0, g⟩ (fun r => (∀ c : Dev Cert.SsmParFwdIdeal.nD,
      r.2.mem ((c.tc : Thread Cert.SsmParFwdIdeal.nD Cert.SsmParFwdIdeal.τ).loc Cert.SsmParFwdIdeal.main_arg0) = m ((c.tc : Thread Cert.SsmParFwdIdeal.nD Cert.SsmParFwdIdeal.τ).loc Cert.SsmParFwdIdeal.main_arg0)
      ∧ r.2.mem ((c.tc : Thread Cert.SsmParFwdIdeal.nD Cert.SsmParFwdIdeal.τ).loc Cert.SsmParFwdIdeal.main_arg1) = m ((c.tc : Thread Cert.SsmParFwdIdeal.nD Cert.SsmParFwdIdeal.τ).loc Cert.SsmParFwdIdeal.main_arg1)
      ∧ r.2.mem ((c.tc : Thread Cert.SsmParFwdIdeal.nD Cert.SsmParFwdIdeal.τ).loc Cert.SsmParFwdIdeal.main_arg2) = m ((c.tc : Thread Cert.SsmParFwdIdeal.nD Cert.SsmParFwdIdeal.τ).loc Cert.SsmParFwdIdeal.main_arg2)
      ∧ r.2.mem ((c.tc : Thread Cert.SsmParFwdIdeal.nD Cert.SsmParFwdIdeal.τ).loc Cert.SsmParFwdIdeal.main_arg3) = m ((c.tc : Thread Cert.SsmParFwdIdeal.nD Cert.SsmParFwdIdeal.τ).loc Cert.SsmParFwdIdeal.main_arg3)
      ∧ r.2.mem ((c.tc : Thread Cert.SsmParFwdIdeal.nD Cert.SsmParFwdIdeal.τ).loc Cert.SsmParFwdIdeal.main_arg4) = m ((c.tc : Thread Cert.SsmParFwdIdeal.nD Cert.SsmParFwdIdeal.τ).loc Cert.SsmParFwdIdeal.main_arg4))
      ∧ r.2.sem = fun _ => 0)

def quiescent_RefSsmParFwdIdeal [hRefSsmParFwdIdeal : Cert.RefSsmParFwdIdeal.Facts] : Prop :=
  ∀ (m : (ℓ : Loc Cert.RefSsmParFwdIdeal.nD Cert.RefSsmParFwdIdeal.τ Cert.RefSsmParFwdIdeal.sig) → Buf (Elt Ideal) ℓ) (g : Dev Cert.RefSsmParFwdIdeal.nD → PrngReg), Pre_RefSsmParFwdIdeal m →
    θ_run (Cert.RefSsmParFwdIdeal.defs (F := Ideal)) (onTc (τ := Cert.RefSsmParFwdIdeal.τ) (Cert.RefSsmParFwdIdeal.main (F := Ideal))) ⟨m, fun _ => 0, g⟩ (fun r => (∀ c : Dev Cert.RefSsmParFwdIdeal.nD,
      r.2.mem ((c.tc : Thread Cert.RefSsmParFwdIdeal.nD Cert.RefSsmParFwdIdeal.τ).loc Cert.RefSsmParFwdIdeal.main_arg0) = m ((c.tc : Thread Cert.RefSsmParFwdIdeal.nD Cert.RefSsmParFwdIdeal.τ).loc Cert.RefSsmParFwdIdeal.main_arg0)
      ∧ r.2.mem ((c.tc : Thread Cert.RefSsmParFwdIdeal.nD Cert.RefSsmParFwdIdeal.τ).loc Cert.RefSsmParFwdIdeal.main_arg1) = m ((c.tc : Thread Cert.RefSsmParFwdIdeal.nD Cert.RefSsmParFwdIdeal.τ).loc Cert.RefSsmParFwdIdeal.main_arg1)
      ∧ r.2.mem ((c.tc : Thread Cert.RefSsmParFwdIdeal.nD Cert.RefSsmParFwdIdeal.τ).loc Cert.RefSsmParFwdIdeal.main_arg2) = m ((c.tc : Thread Cert.RefSsmParFwdIdeal.nD Cert.RefSsmParFwdIdeal.τ).loc Cert.RefSsmParFwdIdeal.main_arg2)
      ∧ r.2.mem ((c.tc : Thread Cert.RefSsmParFwdIdeal.nD Cert.RefSsmParFwdIdeal.τ).loc Cert.RefSsmParFwdIdeal.main_arg3) = m ((c.tc : Thread Cert.RefSsmParFwdIdeal.nD Cert.RefSsmParFwdIdeal.τ).loc Cert.RefSsmParFwdIdeal.main_arg3)
      ∧ r.2.mem ((c.tc : Thread Cert.RefSsmParFwdIdeal.nD Cert.RefSsmParFwdIdeal.τ).loc Cert.RefSsmParFwdIdeal.main_arg4) = m ((c.tc : Thread Cert.RefSsmParFwdIdeal.nD Cert.RefSsmParFwdIdeal.τ).loc Cert.RefSsmParFwdIdeal.main_arg4))
      ∧ r.2.sem = fun _ => 0)

def quiescent_AdamSmallA [hAdamSmallA : Cert.AdamSmallA.Facts] : Prop :=
  ∀ (m : (ℓ : Loc Cert.AdamSmallA.nD Cert.AdamSmallA.τ Cert.AdamSmallA.sig) → Buf (Elt Bits) ℓ) (g : Dev Cert.AdamSmallA.nD → PrngReg), Pre_AdamSmallA m →
    θ_run (Cert.AdamSmallA.defs (F := Bits)) (onTc (τ := Cert.AdamSmallA.τ) (Cert.AdamSmallA.main (F := Bits))) ⟨m, fun _ => 0, g⟩ (fun r => (∀ c : Dev Cert.AdamSmallA.nD,
      r.2.mem ((c.tc : Thread Cert.AdamSmallA.nD Cert.AdamSmallA.τ).loc Cert.AdamSmallA.main_arg0) = m ((c.tc : Thread Cert.AdamSmallA.nD Cert.AdamSmallA.τ).loc Cert.AdamSmallA.main_arg0)
      ∧ r.2.mem ((c.tc : Thread Cert.AdamSmallA.nD Cert.AdamSmallA.τ).loc Cert.AdamSmallA.main_arg1) = m ((c.tc : Thread Cert.AdamSmallA.nD Cert.AdamSmallA.τ).loc Cert.AdamSmallA.main_arg1)
      ∧ r.2.mem ((c.tc : Thread Cert.AdamSmallA.nD Cert.AdamSmallA.τ).loc Cert.AdamSmallA.main_arg2) = m ((c.tc : Thread Cert.AdamSmallA.nD Cert.AdamSmallA.τ).loc Cert.AdamSmallA.main_arg2)
      ∧ r.2.mem ((c.tc : Thread Cert.AdamSmallA.nD Cert.AdamSmallA.τ).loc Cert.AdamSmallA.main_arg3) = m ((c.tc : Thread Cert.AdamSmallA.nD Cert.AdamSmallA.τ).loc Cert.AdamSmallA.main_arg3)
      ∧ r.2.mem ((c.tc : Thread Cert.AdamSmallA.nD Cert.AdamSmallA.τ).loc Cert.AdamSmallA.main_arg4) = m ((c.tc : Thread Cert.AdamSmallA.nD Cert.AdamSmallA.τ).loc Cert.AdamSmallA.main_arg4)
      ∧ r.2.mem ((c.tc : Thread Cert.AdamSmallA.nD Cert.AdamSmallA.τ).loc Cert.AdamSmallA.main_arg5) = m ((c.tc : Thread Cert.AdamSmallA.nD Cert.AdamSmallA.τ).loc Cert.AdamSmallA.main_arg5)
      ∧ r.2.mem ((c.tc : Thread Cert.AdamSmallA.nD Cert.AdamSmallA.τ).loc Cert.AdamSmallA.main_arg6) = m ((c.tc : Thread Cert.AdamSmallA.nD Cert.AdamSmallA.τ).loc Cert.AdamSmallA.main_arg6)
      ∧ r.2.mem ((c.tc : Thread Cert.AdamSmallA.nD Cert.AdamSmallA.τ).loc Cert.AdamSmallA.main_arg7) = m ((c.tc : Thread Cert.AdamSmallA.nD Cert.AdamSmallA.τ).loc Cert.AdamSmallA.main_arg7)
      ∧ r.2.mem ((c.tc : Thread Cert.AdamSmallA.nD Cert.AdamSmallA.τ).loc Cert.AdamSmallA.main_arg8) = m ((c.tc : Thread Cert.AdamSmallA.nD Cert.AdamSmallA.τ).loc Cert.AdamSmallA.main_arg8)
      ∧ r.2.mem ((c.tc : Thread Cert.AdamSmallA.nD Cert.AdamSmallA.τ).loc Cert.AdamSmallA.main_arg9) = m ((c.tc : Thread Cert.AdamSmallA.nD Cert.AdamSmallA.τ).loc Cert.AdamSmallA.main_arg9)
      ∧ r.2.mem ((c.tc : Thread Cert.AdamSmallA.nD Cert.AdamSmallA.τ).loc Cert.AdamSmallA.main_arg10) = m ((c.tc : Thread Cert.AdamSmallA.nD Cert.AdamSmallA.τ).loc Cert.AdamSmallA.main_arg10)
      ∧ r.2.mem ((c.tc : Thread Cert.AdamSmallA.nD Cert.AdamSmallA.τ).loc Cert.AdamSmallA.main_arg11) = m ((c.tc : Thread Cert.AdamSmallA.nD Cert.AdamSmallA.τ).loc Cert.AdamSmallA.main_arg11))
      ∧ r.2.sem = fun _ => 0)

def quiescent_AdamSmallAIdeal [hAdamSmallAIdeal : Cert.AdamSmallAIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg), Pre_AdamSmallAIdeal m →
    θ_run (Cert.AdamSmallAIdeal.defs (F := Ideal)) (onTc (τ := Cert.AdamSmallAIdeal.τ) (Cert.AdamSmallAIdeal.main (F := Ideal))) ⟨m, fun _ => 0, g⟩ (fun r => (∀ c : Dev Cert.AdamSmallAIdeal.nD,
      r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
      ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
      ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
      ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
      ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
      ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
      ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
      ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
      ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
      ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
      ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
      ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11))
      ∧ r.2.sem = fun _ => 0)

def quiescent_RefAdamSmallAIdeal [hRefAdamSmallAIdeal : Cert.RefAdamSmallAIdeal.Facts] : Prop :=
  ∀ (m : (ℓ : Loc Cert.RefAdamSmallAIdeal.nD Cert.RefAdamSmallAIdeal.τ Cert.RefAdamSmallAIdeal.sig) → Buf (Elt Ideal) ℓ) (g : Dev Cert.RefAdamSmallAIdeal.nD → PrngReg), Pre_RefAdamSmallAIdeal m →
    θ_run (Cert.RefAdamSmallAIdeal.defs (F := Ideal)) (onTc (τ := Cert.RefAdamSmallAIdeal.τ) (Cert.RefAdamSmallAIdeal.main (F := Ideal))) ⟨m, fun _ => 0, g⟩ (fun r => (∀ c : Dev Cert.RefAdamSmallAIdeal.nD,
      r.2.mem ((c.tc : Thread Cert.RefAdamSmallAIdeal.nD Cert.RefAdamSmallAIdeal.τ).loc Cert.RefAdamSmallAIdeal.main_arg0) = m ((c.tc : Thread Cert.RefAdamSmallAIdeal.nD Cert.RefAdamSmallAIdeal.τ).loc Cert.RefAdamSmallAIdeal.main_arg0)
      ∧ r.2.mem ((c.tc : Thread Cert.RefAdamSmallAIdeal.nD Cert.RefAdamSmallAIdeal.τ).loc Cert.RefAdamSmallAIdeal.main_arg1) = m ((c.tc : Thread Cert.RefAdamSmallAIdeal.nD Cert.RefAdamSmallAIdeal.τ).loc Cert.RefAdamSmallAIdeal.main_arg1)
      ∧ r.2.mem ((c.tc : Thread Cert.RefAdamSmallAIdeal.nD Cert.RefAdamSmallAIdeal.τ).loc Cert.RefAdamSmallAIdeal.main_arg2) = m ((c.tc : Thread Cert.RefAdamSmallAIdeal.nD Cert.RefAdamSmallAIdeal.τ).loc Cert.RefAdamSmallAIdeal.main_arg2)
      ∧ r.2.mem ((c.tc : Thread Cert.RefAdamSmallAIdeal.nD Cert.RefAdamSmallAIdeal.τ).loc Cert.RefAdamSmallAIdeal.main_arg3) = m ((c.tc : Thread Cert.RefAdamSmallAIdeal.nD Cert.RefAdamSmallAIdeal.τ).loc Cert.RefAdamSmallAIdeal.main_arg3)
      ∧ r.2.mem ((c.tc : Thread Cert.RefAdamSmallAIdeal.nD Cert.RefAdamSmallAIdeal.τ).loc Cert.RefAdamSmallAIdeal.main_arg4) = m ((c.tc : Thread Cert.RefAdamSmallAIdeal.nD Cert.RefAdamSmallAIdeal.τ).loc Cert.RefAdamSmallAIdeal.main_arg4)
      ∧ r.2.mem ((c.tc : Thread Cert.RefAdamSmallAIdeal.nD Cert.RefAdamSmallAIdeal.τ).loc Cert.RefAdamSmallAIdeal.main_arg5) = m ((c.tc : Thread Cert.RefAdamSmallAIdeal.nD Cert.RefAdamSmallAIdeal.τ).loc Cert.RefAdamSmallAIdeal.main_arg5)
      ∧ r.2.mem ((c.tc : Thread Cert.RefAdamSmallAIdeal.nD Cert.RefAdamSmallAIdeal.τ).loc Cert.RefAdamSmallAIdeal.main_arg6) = m ((c.tc : Thread Cert.RefAdamSmallAIdeal.nD Cert.RefAdamSmallAIdeal.τ).loc Cert.RefAdamSmallAIdeal.main_arg6)
      ∧ r.2.mem ((c.tc : Thread Cert.RefAdamSmallAIdeal.nD Cert.RefAdamSmallAIdeal.τ).loc Cert.RefAdamSmallAIdeal.main_arg7) = m ((c.tc : Thread Cert.RefAdamSmallAIdeal.nD Cert.RefAdamSmallAIdeal.τ).loc Cert.RefAdamSmallAIdeal.main_arg7)
      ∧ r.2.mem ((c.tc : Thread Cert.RefAdamSmallAIdeal.nD Cert.RefAdamSmallAIdeal.τ).loc Cert.RefAdamSmallAIdeal.main_arg8) = m ((c.tc : Thread Cert.RefAdamSmallAIdeal.nD Cert.RefAdamSmallAIdeal.τ).loc Cert.RefAdamSmallAIdeal.main_arg8)
      ∧ r.2.mem ((c.tc : Thread Cert.RefAdamSmallAIdeal.nD Cert.RefAdamSmallAIdeal.τ).loc Cert.RefAdamSmallAIdeal.main_arg9) = m ((c.tc : Thread Cert.RefAdamSmallAIdeal.nD Cert.RefAdamSmallAIdeal.τ).loc Cert.RefAdamSmallAIdeal.main_arg9)
      ∧ r.2.mem ((c.tc : Thread Cert.RefAdamSmallAIdeal.nD Cert.RefAdamSmallAIdeal.τ).loc Cert.RefAdamSmallAIdeal.main_arg10) = m ((c.tc : Thread Cert.RefAdamSmallAIdeal.nD Cert.RefAdamSmallAIdeal.τ).loc Cert.RefAdamSmallAIdeal.main_arg10)
      ∧ r.2.mem ((c.tc : Thread Cert.RefAdamSmallAIdeal.nD Cert.RefAdamSmallAIdeal.τ).loc Cert.RefAdamSmallAIdeal.main_arg11) = m ((c.tc : Thread Cert.RefAdamSmallAIdeal.nD Cert.RefAdamSmallAIdeal.τ).loc Cert.RefAdamSmallAIdeal.main_arg11))
      ∧ r.2.sem = fun _ => 0)

def quiescent_AdamSmallB [hAdamSmallB : Cert.AdamSmallB.Facts] : Prop :=
  ∀ (m : (ℓ : Loc Cert.AdamSmallB.nD Cert.AdamSmallB.τ Cert.AdamSmallB.sig) → Buf (Elt Bits) ℓ) (g : Dev Cert.AdamSmallB.nD → PrngReg), Pre_AdamSmallB m →
    θ_run (Cert.AdamSmallB.defs (F := Bits)) (onTc (τ := Cert.AdamSmallB.τ) (Cert.AdamSmallB.main (F := Bits))) ⟨m, fun _ => 0, g⟩ (fun r => (∀ c : Dev Cert.AdamSmallB.nD,
      r.2.mem ((c.tc : Thread Cert.AdamSmallB.nD Cert.AdamSmallB.τ).loc Cert.AdamSmallB.main_arg0) = m ((c.tc : Thread Cert.AdamSmallB.nD Cert.AdamSmallB.τ).loc Cert.AdamSmallB.main_arg0)
      ∧ r.2.mem ((c.tc : Thread Cert.AdamSmallB.nD Cert.AdamSmallB.τ).loc Cert.AdamSmallB.main_arg1) = m ((c.tc : Thread Cert.AdamSmallB.nD Cert.AdamSmallB.τ).loc Cert.AdamSmallB.main_arg1)
      ∧ r.2.mem ((c.tc : Thread Cert.AdamSmallB.nD Cert.AdamSmallB.τ).loc Cert.AdamSmallB.main_arg2) = m ((c.tc : Thread Cert.AdamSmallB.nD Cert.AdamSmallB.τ).loc Cert.AdamSmallB.main_arg2)
      ∧ r.2.mem ((c.tc : Thread Cert.AdamSmallB.nD Cert.AdamSmallB.τ).loc Cert.AdamSmallB.main_arg3) = m ((c.tc : Thread Cert.AdamSmallB.nD Cert.AdamSmallB.τ).loc Cert.AdamSmallB.main_arg3)
      ∧ r.2.mem ((c.tc : Thread Cert.AdamSmallB.nD Cert.AdamSmallB.τ).loc Cert.AdamSmallB.main_arg4) = m ((c.tc : Thread Cert.AdamSmallB.nD Cert.AdamSmallB.τ).loc Cert.AdamSmallB.main_arg4)
      ∧ r.2.mem ((c.tc : Thread Cert.AdamSmallB.nD Cert.AdamSmallB.τ).loc Cert.AdamSmallB.main_arg5) = m ((c.tc : Thread Cert.AdamSmallB.nD Cert.AdamSmallB.τ).loc Cert.AdamSmallB.main_arg5)
      ∧ r.2.mem ((c.tc : Thread Cert.AdamSmallB.nD Cert.AdamSmallB.τ).loc Cert.AdamSmallB.main_arg6) = m ((c.tc : Thread Cert.AdamSmallB.nD Cert.AdamSmallB.τ).loc Cert.AdamSmallB.main_arg6)
      ∧ r.2.mem ((c.tc : Thread Cert.AdamSmallB.nD Cert.AdamSmallB.τ).loc Cert.AdamSmallB.main_arg7) = m ((c.tc : Thread Cert.AdamSmallB.nD Cert.AdamSmallB.τ).loc Cert.AdamSmallB.main_arg7)
      ∧ r.2.mem ((c.tc : Thread Cert.AdamSmallB.nD Cert.AdamSmallB.τ).loc Cert.AdamSmallB.main_arg8) = m ((c.tc : Thread Cert.AdamSmallB.nD Cert.AdamSmallB.τ).loc Cert.AdamSmallB.main_arg8)
      ∧ r.2.mem ((c.tc : Thread Cert.AdamSmallB.nD Cert.AdamSmallB.τ).loc Cert.AdamSmallB.main_arg9) = m ((c.tc : Thread Cert.AdamSmallB.nD Cert.AdamSmallB.τ).loc Cert.AdamSmallB.main_arg9)
      ∧ r.2.mem ((c.tc : Thread Cert.AdamSmallB.nD Cert.AdamSmallB.τ).loc Cert.AdamSmallB.main_arg10) = m ((c.tc : Thread Cert.AdamSmallB.nD Cert.AdamSmallB.τ).loc Cert.AdamSmallB.main_arg10)
      ∧ r.2.mem ((c.tc : Thread Cert.AdamSmallB.nD Cert.AdamSmallB.τ).loc Cert.AdamSmallB.main_arg11) = m ((c.tc : Thread Cert.AdamSmallB.nD Cert.AdamSmallB.τ).loc Cert.AdamSmallB.main_arg11))
      ∧ r.2.sem = fun _ => 0)

def quiescent_AdamSmallBIdeal [hAdamSmallBIdeal : Cert.AdamSmallBIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg), Pre_AdamSmallBIdeal m →
    θ_run (Cert.AdamSmallBIdeal.defs (F := Ideal)) (onTc (τ := Cert.AdamSmallBIdeal.τ) (Cert.AdamSmallBIdeal.main (F := Ideal))) ⟨m, fun _ => 0, g⟩ (fun r => (∀ c : Dev Cert.AdamSmallBIdeal.nD,
      r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
      ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
      ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
      ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
      ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
      ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
      ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
      ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
      ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
      ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
      ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
      ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11))
      ∧ r.2.sem = fun _ => 0)

def quiescent_RefAdamSmallBIdeal [hRefAdamSmallBIdeal : Cert.RefAdamSmallBIdeal.Facts] : Prop :=
  ∀ (m : (ℓ : Loc Cert.RefAdamSmallBIdeal.nD Cert.RefAdamSmallBIdeal.τ Cert.RefAdamSmallBIdeal.sig) → Buf (Elt Ideal) ℓ) (g : Dev Cert.RefAdamSmallBIdeal.nD → PrngReg), Pre_RefAdamSmallBIdeal m →
    θ_run (Cert.RefAdamSmallBIdeal.defs (F := Ideal)) (onTc (τ := Cert.RefAdamSmallBIdeal.τ) (Cert.RefAdamSmallBIdeal.main (F := Ideal))) ⟨m, fun _ => 0, g⟩ (fun r => (∀ c : Dev Cert.RefAdamSmallBIdeal.nD,
      r.2.mem ((c.tc : Thread Cert.RefAdamSmallBIdeal.nD Cert.RefAdamSmallBIdeal.τ).loc Cert.RefAdamSmallBIdeal.main_arg0) = m ((c.tc : Thread Cert.RefAdamSmallBIdeal.nD Cert.RefAdamSmallBIdeal.τ).loc Cert.RefAdamSmallBIdeal.main_arg0)
      ∧ r.2.mem ((c.tc : Thread Cert.RefAdamSmallBIdeal.nD Cert.RefAdamSmallBIdeal.τ).loc Cert.RefAdamSmallBIdeal.main_arg1) = m ((c.tc : Thread Cert.RefAdamSmallBIdeal.nD Cert.RefAdamSmallBIdeal.τ).loc Cert.RefAdamSmallBIdeal.main_arg1)
      ∧ r.2.mem ((c.tc : Thread Cert.RefAdamSmallBIdeal.nD Cert.RefAdamSmallBIdeal.τ).loc Cert.RefAdamSmallBIdeal.main_arg2) = m ((c.tc : Thread Cert.RefAdamSmallBIdeal.nD Cert.RefAdamSmallBIdeal.τ).loc Cert.RefAdamSmallBIdeal.main_arg2)
      ∧ r.2.mem ((c.tc : Thread Cert.RefAdamSmallBIdeal.nD Cert.RefAdamSmallBIdeal.τ).loc Cert.RefAdamSmallBIdeal.main_arg3) = m ((c.tc : Thread Cert.RefAdamSmallBIdeal.nD Cert.RefAdamSmallBIdeal.τ).loc Cert.RefAdamSmallBIdeal.main_arg3)
      ∧ r.2.mem ((c.tc : Thread Cert.RefAdamSmallBIdeal.nD Cert.RefAdamSmallBIdeal.τ).loc Cert.RefAdamSmallBIdeal.main_arg4) = m ((c.tc : Thread Cert.RefAdamSmallBIdeal.nD Cert.RefAdamSmallBIdeal.τ).loc Cert.RefAdamSmallBIdeal.main_arg4)
      ∧ r.2.mem ((c.tc : Thread Cert.RefAdamSmallBIdeal.nD Cert.RefAdamSmallBIdeal.τ).loc Cert.RefAdamSmallBIdeal.main_arg5) = m ((c.tc : Thread Cert.RefAdamSmallBIdeal.nD Cert.RefAdamSmallBIdeal.τ).loc Cert.RefAdamSmallBIdeal.main_arg5)
      ∧ r.2.mem ((c.tc : Thread Cert.RefAdamSmallBIdeal.nD Cert.RefAdamSmallBIdeal.τ).loc Cert.RefAdamSmallBIdeal.main_arg6) = m ((c.tc : Thread Cert.RefAdamSmallBIdeal.nD Cert.RefAdamSmallBIdeal.τ).loc Cert.RefAdamSmallBIdeal.main_arg6)
      ∧ r.2.mem ((c.tc : Thread Cert.RefAdamSmallBIdeal.nD Cert.RefAdamSmallBIdeal.τ).loc Cert.RefAdamSmallBIdeal.main_arg7) = m ((c.tc : Thread Cert.RefAdamSmallBIdeal.nD Cert.RefAdamSmallBIdeal.τ).loc Cert.RefAdamSmallBIdeal.main_arg7)
      ∧ r.2.mem ((c.tc : Thread Cert.RefAdamSmallBIdeal.nD Cert.RefAdamSmallBIdeal.τ).loc Cert.RefAdamSmallBIdeal.main_arg8) = m ((c.tc : Thread Cert.RefAdamSmallBIdeal.nD Cert.RefAdamSmallBIdeal.τ).loc Cert.RefAdamSmallBIdeal.main_arg8)
      ∧ r.2.mem ((c.tc : Thread Cert.RefAdamSmallBIdeal.nD Cert.RefAdamSmallBIdeal.τ).loc Cert.RefAdamSmallBIdeal.main_arg9) = m ((c.tc : Thread Cert.RefAdamSmallBIdeal.nD Cert.RefAdamSmallBIdeal.τ).loc Cert.RefAdamSmallBIdeal.main_arg9)
      ∧ r.2.mem ((c.tc : Thread Cert.RefAdamSmallBIdeal.nD Cert.RefAdamSmallBIdeal.τ).loc Cert.RefAdamSmallBIdeal.main_arg10) = m ((c.tc : Thread Cert.RefAdamSmallBIdeal.nD Cert.RefAdamSmallBIdeal.τ).loc Cert.RefAdamSmallBIdeal.main_arg10)
      ∧ r.2.mem ((c.tc : Thread Cert.RefAdamSmallBIdeal.nD Cert.RefAdamSmallBIdeal.τ).loc Cert.RefAdamSmallBIdeal.main_arg11) = m ((c.tc : Thread Cert.RefAdamSmallBIdeal.nD Cert.RefAdamSmallBIdeal.τ).loc Cert.RefAdamSmallBIdeal.main_arg11))
      ∧ r.2.sem = fun _ => 0)

def quiescent_AdamSmallC [hAdamSmallC : Cert.AdamSmallC.Facts] : Prop :=
  ∀ (m : (ℓ : Loc Cert.AdamSmallC.nD Cert.AdamSmallC.τ Cert.AdamSmallC.sig) → Buf (Elt Bits) ℓ) (g : Dev Cert.AdamSmallC.nD → PrngReg), Pre_AdamSmallC m →
    θ_run (Cert.AdamSmallC.defs (F := Bits)) (onTc (τ := Cert.AdamSmallC.τ) (Cert.AdamSmallC.main (F := Bits))) ⟨m, fun _ => 0, g⟩ (fun r => (∀ c : Dev Cert.AdamSmallC.nD,
      r.2.mem ((c.tc : Thread Cert.AdamSmallC.nD Cert.AdamSmallC.τ).loc Cert.AdamSmallC.main_arg0) = m ((c.tc : Thread Cert.AdamSmallC.nD Cert.AdamSmallC.τ).loc Cert.AdamSmallC.main_arg0)
      ∧ r.2.mem ((c.tc : Thread Cert.AdamSmallC.nD Cert.AdamSmallC.τ).loc Cert.AdamSmallC.main_arg1) = m ((c.tc : Thread Cert.AdamSmallC.nD Cert.AdamSmallC.τ).loc Cert.AdamSmallC.main_arg1)
      ∧ r.2.mem ((c.tc : Thread Cert.AdamSmallC.nD Cert.AdamSmallC.τ).loc Cert.AdamSmallC.main_arg2) = m ((c.tc : Thread Cert.AdamSmallC.nD Cert.AdamSmallC.τ).loc Cert.AdamSmallC.main_arg2)
      ∧ r.2.mem ((c.tc : Thread Cert.AdamSmallC.nD Cert.AdamSmallC.τ).loc Cert.AdamSmallC.main_arg3) = m ((c.tc : Thread Cert.AdamSmallC.nD Cert.AdamSmallC.τ).loc Cert.AdamSmallC.main_arg3)
      ∧ r.2.mem ((c.tc : Thread Cert.AdamSmallC.nD Cert.AdamSmallC.τ).loc Cert.AdamSmallC.main_arg4) = m ((c.tc : Thread Cert.AdamSmallC.nD Cert.AdamSmallC.τ).loc Cert.AdamSmallC.main_arg4)
      ∧ r.2.mem ((c.tc : Thread Cert.AdamSmallC.nD Cert.AdamSmallC.τ).loc Cert.AdamSmallC.main_arg5) = m ((c.tc : Thread Cert.AdamSmallC.nD Cert.AdamSmallC.τ).loc Cert.AdamSmallC.main_arg5)
      ∧ r.2.mem ((c.tc : Thread Cert.AdamSmallC.nD Cert.AdamSmallC.τ).loc Cert.AdamSmallC.main_arg6) = m ((c.tc : Thread Cert.AdamSmallC.nD Cert.AdamSmallC.τ).loc Cert.AdamSmallC.main_arg6)
      ∧ r.2.mem ((c.tc : Thread Cert.AdamSmallC.nD Cert.AdamSmallC.τ).loc Cert.AdamSmallC.main_arg7) = m ((c.tc : Thread Cert.AdamSmallC.nD Cert.AdamSmallC.τ).loc Cert.AdamSmallC.main_arg7)
      ∧ r.2.mem ((c.tc : Thread Cert.AdamSmallC.nD Cert.AdamSmallC.τ).loc Cert.AdamSmallC.main_arg8) = m ((c.tc : Thread Cert.AdamSmallC.nD Cert.AdamSmallC.τ).loc Cert.AdamSmallC.main_arg8)
      ∧ r.2.mem ((c.tc : Thread Cert.AdamSmallC.nD Cert.AdamSmallC.τ).loc Cert.AdamSmallC.main_arg9) = m ((c.tc : Thread Cert.AdamSmallC.nD Cert.AdamSmallC.τ).loc Cert.AdamSmallC.main_arg9)
      ∧ r.2.mem ((c.tc : Thread Cert.AdamSmallC.nD Cert.AdamSmallC.τ).loc Cert.AdamSmallC.main_arg10) = m ((c.tc : Thread Cert.AdamSmallC.nD Cert.AdamSmallC.τ).loc Cert.AdamSmallC.main_arg10)
      ∧ r.2.mem ((c.tc : Thread Cert.AdamSmallC.nD Cert.AdamSmallC.τ).loc Cert.AdamSmallC.main_arg11) = m ((c.tc : Thread Cert.AdamSmallC.nD Cert.AdamSmallC.τ).loc Cert.AdamSmallC.main_arg11))
      ∧ r.2.sem = fun _ => 0)

def quiescent_AdamSmallCIdeal [hAdamSmallCIdeal : Cert.AdamSmallCIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg), Pre_AdamSmallCIdeal m →
    θ_run (Cert.AdamSmallCIdeal.defs (F := Ideal)) (onTc (τ := Cert.AdamSmallCIdeal.τ) (Cert.AdamSmallCIdeal.main (F := Ideal))) ⟨m, fun _ => 0, g⟩ (fun r => (∀ c : Dev Cert.AdamSmallCIdeal.nD,
      r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
      ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
      ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
      ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
      ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
      ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
      ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
      ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7)
      ∧ r.2.mem ((c.tc : Thread Cert.AdamSmallCIdeal.nD Cert.AdamSmallCIdeal.τ).loc Cert.AdamSmallCIdeal.main_arg8) = m ((c.tc : Thread Cert.AdamSmallCIdeal.nD Cert.AdamSmallCIdeal.τ).loc Cert.AdamSmallCIdeal.main_arg8)
      ∧ r.2.mem ((c.tc : Thread Cert.AdamSmallCIdeal.nD Cert.AdamSmallCIdeal.τ).loc Cert.AdamSmallCIdeal.main_arg9) = m ((c.tc : Thread Cert.AdamSmallCIdeal.nD Cert.AdamSmallCIdeal.τ).loc Cert.AdamSmallCIdeal.main_arg9)
      ∧ r.2.mem ((c.tc : Thread Cert.AdamSmallCIdeal.nD Cert.AdamSmallCIdeal.τ).loc Cert.AdamSmallCIdeal.main_arg10) = m ((c.tc : Thread Cert.AdamSmallCIdeal.nD Cert.AdamSmallCIdeal.τ).loc Cert.AdamSmallCIdeal.main_arg10)
      ∧ r.2.mem ((c.tc : Thread Cert.AdamSmallCIdeal.nD Cert.AdamSmallCIdeal.τ).loc Cert.AdamSmallCIdeal.main_arg11) = m ((c.tc : Thread Cert.AdamSmallCIdeal.nD Cert.AdamSmallCIdeal.τ).loc Cert.AdamSmallCIdeal.main_arg11))
      ∧ r.2.sem = fun _ => 0)

def quiescent_RefAdamSmallCIdeal [hRefAdamSmallCIdeal : Cert.RefAdamSmallCIdeal.Facts] : Prop :=
  ∀ (m : (ℓ : Loc Cert.RefAdamSmallCIdeal.nD Cert.RefAdamSmallCIdeal.τ Cert.RefAdamSmallCIdeal.sig) → Buf (Elt Ideal) ℓ) (g : Dev Cert.RefAdamSmallCIdeal.nD → PrngReg), Pre_RefAdamSmallCIdeal m →
    θ_run (Cert.RefAdamSmallCIdeal.defs (F := Ideal)) (onTc (τ := Cert.RefAdamSmallCIdeal.τ) (Cert.RefAdamSmallCIdeal.main (F := Ideal))) ⟨m, fun _ => 0, g⟩ (fun r => (∀ c : Dev Cert.RefAdamSmallCIdeal.nD,
      r.2.mem ((c.tc : Thread Cert.RefAdamSmallCIdeal.nD Cert.RefAdamSmallCIdeal.τ).loc Cert.RefAdamSmallCIdeal.main_arg0) = m ((c.tc : Thread Cert.RefAdamSmallCIdeal.nD Cert.RefAdamSmallCIdeal.τ).loc Cert.RefAdamSmallCIdeal.main_arg0)
      ∧ r.2.mem ((c.tc : Thread Cert.RefAdamSmallCIdeal.nD Cert.RefAdamSmallCIdeal.τ).loc Cert.RefAdamSmallCIdeal.main_arg1) = m ((c.tc : Thread Cert.RefAdamSmallCIdeal.nD Cert.RefAdamSmallCIdeal.τ).loc Cert.RefAdamSmallCIdeal.main_arg1)
      ∧ r.2.mem ((c.tc : Thread Cert.RefAdamSmallCIdeal.nD Cert.RefAdamSmallCIdeal.τ).loc Cert.RefAdamSmallCIdeal.main_arg2) = m ((c.tc : Thread Cert.RefAdamSmallCIdeal.nD Cert.RefAdamSmallCIdeal.τ).loc Cert.RefAdamSmallCIdeal.main_arg2)
      ∧ r.2.mem ((c.tc : Thread Cert.RefAdamSmallCIdeal.nD Cert.RefAdamSmallCIdeal.τ).loc Cert.RefAdamSmallCIdeal.main_arg3) = m ((c.tc : Thread Cert.RefAdamSmallCIdeal.nD Cert.RefAdamSmallCIdeal.τ).loc Cert.RefAdamSmallCIdeal.main_arg3)
      ∧ r.2.mem ((c.tc : Thread Cert.RefAdamSmallCIdeal.nD Cert.RefAdamSmallCIdeal.τ).loc Cert.RefAdamSmallCIdeal.main_arg4) = m ((c.tc : Thread Cert.RefAdamSmallCIdeal.nD Cert.RefAdamSmallCIdeal.τ).loc Cert.RefAdamSmallCIdeal.main_arg4)
      ∧ r.2.mem ((c.tc : Thread Cert.RefAdamSmallCIdeal.nD Cert.RefAdamSmallCIdeal.τ).loc Cert.RefAdamSmallCIdeal.main_arg5) = m ((c.tc : Thread Cert.RefAdamSmallCIdeal.nD Cert.RefAdamSmallCIdeal.τ).loc Cert.RefAdamSmallCIdeal.main_arg5)
      ∧ r.2.mem ((c.tc : Thread Cert.RefAdamSmallCIdeal.nD Cert.RefAdamSmallCIdeal.τ).loc Cert.RefAdamSmallCIdeal.main_arg6) = m ((c.tc : Thread Cert.RefAdamSmallCIdeal.nD Cert.RefAdamSmallCIdeal.τ).loc Cert.RefAdamSmallCIdeal.main_arg6)
      ∧ r.2.mem ((c.tc : Thread Cert.RefAdamSmallCIdeal.nD Cert.RefAdamSmallCIdeal.τ).loc Cert.RefAdamSmallCIdeal.main_arg7) = m ((c.tc : Thread Cert.RefAdamSmallCIdeal.nD Cert.RefAdamSmallCIdeal.τ).loc Cert.RefAdamSmallCIdeal.main_arg7)
      ∧ r.2.mem ((c.tc : Thread Cert.RefAdamSmallCIdeal.nD Cert.RefAdamSmallCIdeal.τ).loc Cert.RefAdamSmallCIdeal.main_arg8) = m ((c.tc : Thread Cert.RefAdamSmallCIdeal.nD Cert.RefAdamSmallCIdeal.τ).loc Cert.RefAdamSmallCIdeal.main_arg8)
      ∧ r.2.mem ((c.tc : Thread Cert.RefAdamSmallCIdeal.nD Cert.RefAdamSmallCIdeal.τ).loc Cert.RefAdamSmallCIdeal.main_arg9) = m ((c.tc : Thread Cert.RefAdamSmallCIdeal.nD Cert.RefAdamSmallCIdeal.τ).loc Cert.RefAdamSmallCIdeal.main_arg9)
      ∧ r.2.mem ((c.tc : Thread Cert.RefAdamSmallCIdeal.nD Cert.RefAdamSmallCIdeal.τ).loc Cert.RefAdamSmallCIdeal.main_arg10) = m ((c.tc : Thread Cert.RefAdamSmallCIdeal.nD Cert.RefAdamSmallCIdeal.τ).loc Cert.RefAdamSmallCIdeal.main_arg10)
      ∧ r.2.mem ((c.tc : Thread Cert.RefAdamSmallCIdeal.nD Cert.RefAdamSmallCIdeal.τ).loc Cert.RefAdamSmallCIdeal.main_arg11) = m ((c.tc : Thread Cert.RefAdamSmallCIdeal.nD Cert.RefAdamSmallCIdeal.τ).loc Cert.RefAdamSmallCIdeal.main_arg11))
      ∧ r.2.sem = fun _ => 0)

def quiescent_AdamSmallD [hAdamSmallD : Cert.AdamSmallD.Facts] : Prop :=
  ∀ (m : (ℓ : Loc Cert.AdamSmallD.nD Cert.AdamSmallD.τ Cert.AdamSmallD.sig) → Buf (Elt Bits) ℓ) (g : Dev Cert.AdamSmallD.nD → PrngReg), Pre_AdamSmallD m →
    θ_run (Cert.AdamSmallD.defs (F := Bits)) (onTc (τ := Cert.AdamSmallD.τ) (Cert.AdamSmallD.main (F := Bits))) ⟨m, fun _ => 0, g⟩ (fun r => (∀ c : Dev Cert.AdamSmallD.nD,
      r.2.mem ((c.tc : Thread Cert.AdamSmallD.nD Cert.AdamSmallD.τ).loc Cert.AdamSmallD.main_arg0) = m ((c.tc : Thread Cert.AdamSmallD.nD Cert.AdamSmallD.τ).loc Cert.AdamSmallD.main_arg0)
      ∧ r.2.mem ((c.tc : Thread Cert.AdamSmallD.nD Cert.AdamSmallD.τ).loc Cert.AdamSmallD.main_arg1) = m ((c.tc : Thread Cert.AdamSmallD.nD Cert.AdamSmallD.τ).loc Cert.AdamSmallD.main_arg1)
      ∧ r.2.mem ((c.tc : Thread Cert.AdamSmallD.nD Cert.AdamSmallD.τ).loc Cert.AdamSmallD.main_arg2) = m ((c.tc : Thread Cert.AdamSmallD.nD Cert.AdamSmallD.τ).loc Cert.AdamSmallD.main_arg2)
      ∧ r.2.mem ((c.tc : Thread Cert.AdamSmallD.nD Cert.AdamSmallD.τ).loc Cert.AdamSmallD.main_arg3) = m ((c.tc : Thread Cert.AdamSmallD.nD Cert.AdamSmallD.τ).loc Cert.AdamSmallD.main_arg3)
      ∧ r.2.mem ((c.tc : Thread Cert.AdamSmallD.nD Cert.AdamSmallD.τ).loc Cert.AdamSmallD.main_arg4) = m ((c.tc : Thread Cert.AdamSmallD.nD Cert.AdamSmallD.τ).loc Cert.AdamSmallD.main_arg4)
      ∧ r.2.mem ((c.tc : Thread Cert.AdamSmallD.nD Cert.AdamSmallD.τ).loc Cert.AdamSmallD.main_arg5) = m ((c.tc : Thread Cert.AdamSmallD.nD Cert.AdamSmallD.τ).loc Cert.AdamSmallD.main_arg5)
      ∧ r.2.mem ((c.tc : Thread Cert.AdamSmallD.nD Cert.AdamSmallD.τ).loc Cert.AdamSmallD.main_arg6) = m ((c.tc : Thread Cert.AdamSmallD.nD Cert.AdamSmallD.τ).loc Cert.AdamSmallD.main_arg6)
      ∧ r.2.mem ((c.tc : Thread Cert.AdamSmallD.nD Cert.AdamSmallD.τ).loc Cert.AdamSmallD.main_arg7) = m ((c.tc : Thread Cert.AdamSmallD.nD Cert.AdamSmallD.τ).loc Cert.AdamSmallD.main_arg7)
      ∧ r.2.mem ((c.tc : Thread Cert.AdamSmallD.nD Cert.AdamSmallD.τ).loc Cert.AdamSmallD.main_arg8) = m ((c.tc : Thread Cert.AdamSmallD.nD Cert.AdamSmallD.τ).loc Cert.AdamSmallD.main_arg8)
      ∧ r.2.mem ((c.tc : Thread Cert.AdamSmallD.nD Cert.AdamSmallD.τ).loc Cert.AdamSmallD.main_arg9) = m ((c.tc : Thread Cert.AdamSmallD.nD Cert.AdamSmallD.τ).loc Cert.AdamSmallD.main_arg9)
      ∧ r.2.mem ((c.tc : Thread Cert.AdamSmallD.nD Cert.AdamSmallD.τ).loc Cert.AdamSmallD.main_arg10) = m ((c.tc : Thread Cert.AdamSmallD.nD Cert.AdamSmallD.τ).loc Cert.AdamSmallD.main_arg10)
      ∧ r.2.mem ((c.tc : Thread Cert.AdamSmallD.nD Cert.AdamSmallD.τ).loc Cert.AdamSmallD.main_arg11) = m ((c.tc : Thread Cert.AdamSmallD.nD Cert.AdamSmallD.τ).loc Cert.AdamSmallD.main_arg11))
      ∧ r.2.sem = fun _ => 0)

def quiescent_AdamSmallDIdeal [hAdamSmallDIdeal : Cert.AdamSmallDIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg), Pre_AdamSmallDIdeal m →
    θ_run (Cert.AdamSmallDIdeal.defs (F := Ideal)) (onTc (τ := Cert.AdamSmallDIdeal.τ) (Cert.AdamSmallDIdeal.main (F := Ideal))) ⟨m, fun _ => 0, g⟩ (fun r => (∀ c : Dev Cert.AdamSmallDIdeal.nD,
      r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
      ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
      ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
      ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
      ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
      ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
      ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
      ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7)
      ∧ r.2.mem ((c.tc : Thread Cert.AdamSmallDIdeal.nD Cert.AdamSmallDIdeal.τ).loc Cert.AdamSmallDIdeal.main_arg8) = m ((c.tc : Thread Cert.AdamSmallDIdeal.nD Cert.AdamSmallDIdeal.τ).loc Cert.AdamSmallDIdeal.main_arg8)
      ∧ r.2.mem ((c.tc : Thread Cert.AdamSmallDIdeal.nD Cert.AdamSmallDIdeal.τ).loc Cert.AdamSmallDIdeal.main_arg9) = m ((c.tc : Thread Cert.AdamSmallDIdeal.nD Cert.AdamSmallDIdeal.τ).loc Cert.AdamSmallDIdeal.main_arg9)
      ∧ r.2.mem ((c.tc : Thread Cert.AdamSmallDIdeal.nD Cert.AdamSmallDIdeal.τ).loc Cert.AdamSmallDIdeal.main_arg10) = m ((c.tc : Thread Cert.AdamSmallDIdeal.nD Cert.AdamSmallDIdeal.τ).loc Cert.AdamSmallDIdeal.main_arg10)
      ∧ r.2.mem ((c.tc : Thread Cert.AdamSmallDIdeal.nD Cert.AdamSmallDIdeal.τ).loc Cert.AdamSmallDIdeal.main_arg11) = m ((c.tc : Thread Cert.AdamSmallDIdeal.nD Cert.AdamSmallDIdeal.τ).loc Cert.AdamSmallDIdeal.main_arg11))
      ∧ r.2.sem = fun _ => 0)

def quiescent_RefAdamSmallDIdeal [hRefAdamSmallDIdeal : Cert.RefAdamSmallDIdeal.Facts] : Prop :=
  ∀ (m : (ℓ : Loc Cert.RefAdamSmallDIdeal.nD Cert.RefAdamSmallDIdeal.τ Cert.RefAdamSmallDIdeal.sig) → Buf (Elt Ideal) ℓ) (g : Dev Cert.RefAdamSmallDIdeal.nD → PrngReg), Pre_RefAdamSmallDIdeal m →
    θ_run (Cert.RefAdamSmallDIdeal.defs (F := Ideal)) (onTc (τ := Cert.RefAdamSmallDIdeal.τ) (Cert.RefAdamSmallDIdeal.main (F := Ideal))) ⟨m, fun _ => 0, g⟩ (fun r => (∀ c : Dev Cert.RefAdamSmallDIdeal.nD,
      r.2.mem ((c.tc : Thread Cert.RefAdamSmallDIdeal.nD Cert.RefAdamSmallDIdeal.τ).loc Cert.RefAdamSmallDIdeal.main_arg0) = m ((c.tc : Thread Cert.RefAdamSmallDIdeal.nD Cert.RefAdamSmallDIdeal.τ).loc Cert.RefAdamSmallDIdeal.main_arg0)
      ∧ r.2.mem ((c.tc : Thread Cert.RefAdamSmallDIdeal.nD Cert.RefAdamSmallDIdeal.τ).loc Cert.RefAdamSmallDIdeal.main_arg1) = m ((c.tc : Thread Cert.RefAdamSmallDIdeal.nD Cert.RefAdamSmallDIdeal.τ).loc Cert.RefAdamSmallDIdeal.main_arg1)
      ∧ r.2.mem ((c.tc : Thread Cert.RefAdamSmallDIdeal.nD Cert.RefAdamSmallDIdeal.τ).loc Cert.RefAdamSmallDIdeal.main_arg2) = m ((c.tc : Thread Cert.RefAdamSmallDIdeal.nD Cert.RefAdamSmallDIdeal.τ).loc Cert.RefAdamSmallDIdeal.main_arg2)
      ∧ r.2.mem ((c.tc : Thread Cert.RefAdamSmallDIdeal.nD Cert.RefAdamSmallDIdeal.τ).loc Cert.RefAdamSmallDIdeal.main_arg3) = m ((c.tc : Thread Cert.RefAdamSmallDIdeal.nD Cert.RefAdamSmallDIdeal.τ).loc Cert.RefAdamSmallDIdeal.main_arg3)
      ∧ r.2.mem ((c.tc : Thread Cert.RefAdamSmallDIdeal.nD Cert.RefAdamSmallDIdeal.τ).loc Cert.RefAdamSmallDIdeal.main_arg4) = m ((c.tc : Thread Cert.RefAdamSmallDIdeal.nD Cert.RefAdamSmallDIdeal.τ).loc Cert.RefAdamSmallDIdeal.main_arg4)
      ∧ r.2.mem ((c.tc : Thread Cert.RefAdamSmallDIdeal.nD Cert.RefAdamSmallDIdeal.τ).loc Cert.RefAdamSmallDIdeal.main_arg5) = m ((c.tc : Thread Cert.RefAdamSmallDIdeal.nD Cert.RefAdamSmallDIdeal.τ).loc Cert.RefAdamSmallDIdeal.main_arg5)
      ∧ r.2.mem ((c.tc : Thread Cert.RefAdamSmallDIdeal.nD Cert.RefAdamSmallDIdeal.τ).loc Cert.RefAdamSmallDIdeal.main_arg6) = m ((c.tc : Thread Cert.RefAdamSmallDIdeal.nD Cert.RefAdamSmallDIdeal.τ).loc Cert.RefAdamSmallDIdeal.main_arg6)
      ∧ r.2.mem ((c.tc : Thread Cert.RefAdamSmallDIdeal.nD Cert.RefAdamSmallDIdeal.τ).loc Cert.RefAdamSmallDIdeal.main_arg7) = m ((c.tc : Thread Cert.RefAdamSmallDIdeal.nD Cert.RefAdamSmallDIdeal.τ).loc Cert.RefAdamSmallDIdeal.main_arg7)
      ∧ r.2.mem ((c.tc : Thread Cert.RefAdamSmallDIdeal.nD Cert.RefAdamSmallDIdeal.τ).loc Cert.RefAdamSmallDIdeal.main_arg8) = m ((c.tc : Thread Cert.RefAdamSmallDIdeal.nD Cert.RefAdamSmallDIdeal.τ).loc Cert.RefAdamSmallDIdeal.main_arg8)
      ∧ r.2.mem ((c.tc : Thread Cert.RefAdamSmallDIdeal.nD Cert.RefAdamSmallDIdeal.τ).loc Cert.RefAdamSmallDIdeal.main_arg9) = m ((c.tc : Thread Cert.RefAdamSmallDIdeal.nD Cert.RefAdamSmallDIdeal.τ).loc Cert.RefAdamSmallDIdeal.main_arg9)
      ∧ r.2.mem ((c.tc : Thread Cert.RefAdamSmallDIdeal.nD Cert.RefAdamSmallDIdeal.τ).loc Cert.RefAdamSmallDIdeal.main_arg10) = m ((c.tc : Thread Cert.RefAdamSmallDIdeal.nD Cert.RefAdamSmallDIdeal.τ).loc Cert.RefAdamSmallDIdeal.main_arg10)
      ∧ r.2.mem ((c.tc : Thread Cert.RefAdamSmallDIdeal.nD Cert.RefAdamSmallDIdeal.τ).loc Cert.RefAdamSmallDIdeal.main_arg11) = m ((c.tc : Thread Cert.RefAdamSmallDIdeal.nD Cert.RefAdamSmallDIdeal.τ).loc Cert.RefAdamSmallDIdeal.main_arg11))
      ∧ r.2.sem = fun _ => 0)

def quiescent_AdamSmallE [hAdamSmallE : Cert.AdamSmallE.Facts] : Prop :=
  ∀ (m : (ℓ : Loc Cert.AdamSmallE.nD Cert.AdamSmallE.τ Cert.AdamSmallE.sig) → Buf (Elt Bits) ℓ) (g : Dev Cert.AdamSmallE.nD → PrngReg), Pre_AdamSmallE m →
    θ_run (Cert.AdamSmallE.defs (F := Bits)) (onTc (τ := Cert.AdamSmallE.τ) (Cert.AdamSmallE.main (F := Bits))) ⟨m, fun _ => 0, g⟩ (fun r => (∀ c : Dev Cert.AdamSmallE.nD,
      r.2.mem ((c.tc : Thread Cert.AdamSmallE.nD Cert.AdamSmallE.τ).loc Cert.AdamSmallE.main_arg0) = m ((c.tc : Thread Cert.AdamSmallE.nD Cert.AdamSmallE.τ).loc Cert.AdamSmallE.main_arg0)
      ∧ r.2.mem ((c.tc : Thread Cert.AdamSmallE.nD Cert.AdamSmallE.τ).loc Cert.AdamSmallE.main_arg1) = m ((c.tc : Thread Cert.AdamSmallE.nD Cert.AdamSmallE.τ).loc Cert.AdamSmallE.main_arg1)
      ∧ r.2.mem ((c.tc : Thread Cert.AdamSmallE.nD Cert.AdamSmallE.τ).loc Cert.AdamSmallE.main_arg2) = m ((c.tc : Thread Cert.AdamSmallE.nD Cert.AdamSmallE.τ).loc Cert.AdamSmallE.main_arg2)
      ∧ r.2.mem ((c.tc : Thread Cert.AdamSmallE.nD Cert.AdamSmallE.τ).loc Cert.AdamSmallE.main_arg3) = m ((c.tc : Thread Cert.AdamSmallE.nD Cert.AdamSmallE.τ).loc Cert.AdamSmallE.main_arg3)
      ∧ r.2.mem ((c.tc : Thread Cert.AdamSmallE.nD Cert.AdamSmallE.τ).loc Cert.AdamSmallE.main_arg4) = m ((c.tc : Thread Cert.AdamSmallE.nD Cert.AdamSmallE.τ).loc Cert.AdamSmallE.main_arg4)
      ∧ r.2.mem ((c.tc : Thread Cert.AdamSmallE.nD Cert.AdamSmallE.τ).loc Cert.AdamSmallE.main_arg5) = m ((c.tc : Thread Cert.AdamSmallE.nD Cert.AdamSmallE.τ).loc Cert.AdamSmallE.main_arg5)
      ∧ r.2.mem ((c.tc : Thread Cert.AdamSmallE.nD Cert.AdamSmallE.τ).loc Cert.AdamSmallE.main_arg6) = m ((c.tc : Thread Cert.AdamSmallE.nD Cert.AdamSmallE.τ).loc Cert.AdamSmallE.main_arg6)
      ∧ r.2.mem ((c.tc : Thread Cert.AdamSmallE.nD Cert.AdamSmallE.τ).loc Cert.AdamSmallE.main_arg7) = m ((c.tc : Thread Cert.AdamSmallE.nD Cert.AdamSmallE.τ).loc Cert.AdamSmallE.main_arg7)
      ∧ r.2.mem ((c.tc : Thread Cert.AdamSmallE.nD Cert.AdamSmallE.τ).loc Cert.AdamSmallE.main_arg8) = m ((c.tc : Thread Cert.AdamSmallE.nD Cert.AdamSmallE.τ).loc Cert.AdamSmallE.main_arg8)
      ∧ r.2.mem ((c.tc : Thread Cert.AdamSmallE.nD Cert.AdamSmallE.τ).loc Cert.AdamSmallE.main_arg9) = m ((c.tc : Thread Cert.AdamSmallE.nD Cert.AdamSmallE.τ).loc Cert.AdamSmallE.main_arg9)
      ∧ r.2.mem ((c.tc : Thread Cert.AdamSmallE.nD Cert.AdamSmallE.τ).loc Cert.AdamSmallE.main_arg10) = m ((c.tc : Thread Cert.AdamSmallE.nD Cert.AdamSmallE.τ).loc Cert.AdamSmallE.main_arg10)
      ∧ r.2.mem ((c.tc : Thread Cert.AdamSmallE.nD Cert.AdamSmallE.τ).loc Cert.AdamSmallE.main_arg11) = m ((c.tc : Thread Cert.AdamSmallE.nD Cert.AdamSmallE.τ).loc Cert.AdamSmallE.main_arg11))
      ∧ r.2.sem = fun _ => 0)

def quiescent_AdamSmallEIdeal [hAdamSmallEIdeal : Cert.AdamSmallEIdeal.Facts] : Prop :=
  ∀ (m : (ℓ : Loc Cert.AdamSmallEIdeal.nD Cert.AdamSmallEIdeal.τ Cert.AdamSmallEIdeal.sig) → Buf (Elt Ideal) ℓ) (g : Dev Cert.AdamSmallEIdeal.nD → PrngReg), Pre_AdamSmallEIdeal m →
    θ_run (Cert.AdamSmallEIdeal.defs (F := Ideal)) (onTc (τ := Cert.AdamSmallEIdeal.τ) (Cert.AdamSmallEIdeal.main (F := Ideal))) ⟨m, fun _ => 0, g⟩ (fun r => (∀ c : Dev Cert.AdamSmallEIdeal.nD,
      r.2.mem ((c.tc : Thread Cert.AdamSmallEIdeal.nD Cert.AdamSmallEIdeal.τ).loc Cert.AdamSmallEIdeal.main_arg0) = m ((c.tc : Thread Cert.AdamSmallEIdeal.nD Cert.AdamSmallEIdeal.τ).loc Cert.AdamSmallEIdeal.main_arg0)
      ∧ r.2.mem ((c.tc : Thread Cert.AdamSmallEIdeal.nD Cert.AdamSmallEIdeal.τ).loc Cert.AdamSmallEIdeal.main_arg1) = m ((c.tc : Thread Cert.AdamSmallEIdeal.nD Cert.AdamSmallEIdeal.τ).loc Cert.AdamSmallEIdeal.main_arg1)
      ∧ r.2.mem ((c.tc : Thread Cert.AdamSmallEIdeal.nD Cert.AdamSmallEIdeal.τ).loc Cert.AdamSmallEIdeal.main_arg2) = m ((c.tc : Thread Cert.AdamSmallEIdeal.nD Cert.AdamSmallEIdeal.τ).loc Cert.AdamSmallEIdeal.main_arg2)
      ∧ r.2.mem ((c.tc : Thread Cert.AdamSmallEIdeal.nD Cert.AdamSmallEIdeal.τ).loc Cert.AdamSmallEIdeal.main_arg3) = m ((c.tc : Thread Cert.AdamSmallEIdeal.nD Cert.AdamSmallEIdeal.τ).loc Cert.AdamSmallEIdeal.main_arg3)
      ∧ r.2.mem ((c.tc : Thread Cert.AdamSmallEIdeal.nD Cert.AdamSmallEIdeal.τ).loc Cert.AdamSmallEIdeal.main_arg4) = m ((c.tc : Thread Cert.AdamSmallEIdeal.nD Cert.AdamSmallEIdeal.τ).loc Cert.AdamSmallEIdeal.main_arg4)
      ∧ r.2.mem ((c.tc : Thread Cert.AdamSmallEIdeal.nD Cert.AdamSmallEIdeal.τ).loc Cert.AdamSmallEIdeal.main_arg5) = m ((c.tc : Thread Cert.AdamSmallEIdeal.nD Cert.AdamSmallEIdeal.τ).loc Cert.AdamSmallEIdeal.main_arg5)
      ∧ r.2.mem ((c.tc : Thread Cert.AdamSmallEIdeal.nD Cert.AdamSmallEIdeal.τ).loc Cert.AdamSmallEIdeal.main_arg6) = m ((c.tc : Thread Cert.AdamSmallEIdeal.nD Cert.AdamSmallEIdeal.τ).loc Cert.AdamSmallEIdeal.main_arg6)
      ∧ r.2.mem ((c.tc : Thread Cert.AdamSmallEIdeal.nD Cert.AdamSmallEIdeal.τ).loc Cert.AdamSmallEIdeal.main_arg7) = m ((c.tc : Thread Cert.AdamSmallEIdeal.nD Cert.AdamSmallEIdeal.τ).loc Cert.AdamSmallEIdeal.main_arg7)
      ∧ r.2.mem ((c.tc : Thread Cert.AdamSmallEIdeal.nD Cert.AdamSmallEIdeal.τ).loc Cert.AdamSmallEIdeal.main_arg8) = m ((c.tc : Thread Cert.AdamSmallEIdeal.nD Cert.AdamSmallEIdeal.τ).loc Cert.AdamSmallEIdeal.main_arg8)
      ∧ r.2.mem ((c.tc : Thread Cert.AdamSmallEIdeal.nD Cert.AdamSmallEIdeal.τ).loc Cert.AdamSmallEIdeal.main_arg9) = m ((c.tc : Thread Cert.AdamSmallEIdeal.nD Cert.AdamSmallEIdeal.τ).loc Cert.AdamSmallEIdeal.main_arg9)
      ∧ r.2.mem ((c.tc : Thread Cert.AdamSmallEIdeal.nD Cert.AdamSmallEIdeal.τ).loc Cert.AdamSmallEIdeal.main_arg10) = m ((c.tc : Thread Cert.AdamSmallEIdeal.nD Cert.AdamSmallEIdeal.τ).loc Cert.AdamSmallEIdeal.main_arg10)
      ∧ r.2.mem ((c.tc : Thread Cert.AdamSmallEIdeal.nD Cert.AdamSmallEIdeal.τ).loc Cert.AdamSmallEIdeal.main_arg11) = m ((c.tc : Thread Cert.AdamSmallEIdeal.nD Cert.AdamSmallEIdeal.τ).loc Cert.AdamSmallEIdeal.main_arg11))
      ∧ r.2.sem = fun _ => 0)

def quiescent_RefAdamSmallEIdeal [hRefAdamSmallEIdeal : Cert.RefAdamSmallEIdeal.Facts] : Prop :=
  ∀ (m : (ℓ : Loc Cert.RefAdamSmallEIdeal.nD Cert.RefAdamSmallEIdeal.τ Cert.RefAdamSmallEIdeal.sig) → Buf (Elt Ideal) ℓ) (g : Dev Cert.RefAdamSmallEIdeal.nD → PrngReg), Pre_RefAdamSmallEIdeal m →
    θ_run (Cert.RefAdamSmallEIdeal.defs (F := Ideal)) (onTc (τ := Cert.RefAdamSmallEIdeal.τ) (Cert.RefAdamSmallEIdeal.main (F := Ideal))) ⟨m, fun _ => 0, g⟩ (fun r => (∀ c : Dev Cert.RefAdamSmallEIdeal.nD,
      r.2.mem ((c.tc : Thread Cert.RefAdamSmallEIdeal.nD Cert.RefAdamSmallEIdeal.τ).loc Cert.RefAdamSmallEIdeal.main_arg0) = m ((c.tc : Thread Cert.RefAdamSmallEIdeal.nD Cert.RefAdamSmallEIdeal.τ).loc Cert.RefAdamSmallEIdeal.main_arg0)
      ∧ r.2.mem ((c.tc : Thread Cert.RefAdamSmallEIdeal.nD Cert.RefAdamSmallEIdeal.τ).loc Cert.RefAdamSmallEIdeal.main_arg1) = m ((c.tc : Thread Cert.RefAdamSmallEIdeal.nD Cert.RefAdamSmallEIdeal.τ).loc Cert.RefAdamSmallEIdeal.main_arg1)
      ∧ r.2.mem ((c.tc : Thread Cert.RefAdamSmallEIdeal.nD Cert.RefAdamSmallEIdeal.τ).loc Cert.RefAdamSmallEIdeal.main_arg2) = m ((c.tc : Thread Cert.RefAdamSmallEIdeal.nD Cert.RefAdamSmallEIdeal.τ).loc Cert.RefAdamSmallEIdeal.main_arg2)
      ∧ r.2.mem ((c.tc : Thread Cert.RefAdamSmallEIdeal.nD Cert.RefAdamSmallEIdeal.τ).loc Cert.RefAdamSmallEIdeal.main_arg3) = m ((c.tc : Thread Cert.RefAdamSmallEIdeal.nD Cert.RefAdamSmallEIdeal.τ).loc Cert.RefAdamSmallEIdeal.main_arg3)
      ∧ r.2.mem ((c.tc : Thread Cert.RefAdamSmallEIdeal.nD Cert.RefAdamSmallEIdeal.τ).loc Cert.RefAdamSmallEIdeal.main_arg4) = m ((c.tc : Thread Cert.RefAdamSmallEIdeal.nD Cert.RefAdamSmallEIdeal.τ).loc Cert.RefAdamSmallEIdeal.main_arg4)
      ∧ r.2.mem ((c.tc : Thread Cert.RefAdamSmallEIdeal.nD Cert.RefAdamSmallEIdeal.τ).loc Cert.RefAdamSmallEIdeal.main_arg5) = m ((c.tc : Thread Cert.RefAdamSmallEIdeal.nD Cert.RefAdamSmallEIdeal.τ).loc Cert.RefAdamSmallEIdeal.main_arg5)
      ∧ r.2.mem ((c.tc : Thread Cert.RefAdamSmallEIdeal.nD Cert.RefAdamSmallEIdeal.τ).loc Cert.RefAdamSmallEIdeal.main_arg6) = m ((c.tc : Thread Cert.RefAdamSmallEIdeal.nD Cert.RefAdamSmallEIdeal.τ).loc Cert.RefAdamSmallEIdeal.main_arg6)
      ∧ r.2.mem ((c.tc : Thread Cert.RefAdamSmallEIdeal.nD Cert.RefAdamSmallEIdeal.τ).loc Cert.RefAdamSmallEIdeal.main_arg7) = m ((c.tc : Thread Cert.RefAdamSmallEIdeal.nD Cert.RefAdamSmallEIdeal.τ).loc Cert.RefAdamSmallEIdeal.main_arg7)
      ∧ r.2.mem ((c.tc : Thread Cert.RefAdamSmallEIdeal.nD Cert.RefAdamSmallEIdeal.τ).loc Cert.RefAdamSmallEIdeal.main_arg8) = m ((c.tc : Thread Cert.RefAdamSmallEIdeal.nD Cert.RefAdamSmallEIdeal.τ).loc Cert.RefAdamSmallEIdeal.main_arg8)
      ∧ r.2.mem ((c.tc : Thread Cert.RefAdamSmallEIdeal.nD Cert.RefAdamSmallEIdeal.τ).loc Cert.RefAdamSmallEIdeal.main_arg9) = m ((c.tc : Thread Cert.RefAdamSmallEIdeal.nD Cert.RefAdamSmallEIdeal.τ).loc Cert.RefAdamSmallEIdeal.main_arg9)
      ∧ r.2.mem ((c.tc : Thread Cert.RefAdamSmallEIdeal.nD Cert.RefAdamSmallEIdeal.τ).loc Cert.RefAdamSmallEIdeal.main_arg10) = m ((c.tc : Thread Cert.RefAdamSmallEIdeal.nD Cert.RefAdamSmallEIdeal.τ).loc Cert.RefAdamSmallEIdeal.main_arg10)
      ∧ r.2.mem ((c.tc : Thread Cert.RefAdamSmallEIdeal.nD Cert.RefAdamSmallEIdeal.τ).loc Cert.RefAdamSmallEIdeal.main_arg11) = m ((c.tc : Thread Cert.RefAdamSmallEIdeal.nD Cert.RefAdamSmallEIdeal.τ).loc Cert.RefAdamSmallEIdeal.main_arg11))
      ∧ r.2.sem = fun _ => 0)

def quiescent_AdamSmallF [hAdamSmallF : Cert.AdamSmallF.Facts] : Prop :=
  ∀ (m : (ℓ : Loc Cert.AdamSmallF.nD Cert.AdamSmallF.τ Cert.AdamSmallF.sig) → Buf (Elt Bits) ℓ) (g : Dev Cert.AdamSmallF.nD → PrngReg), Pre_AdamSmallF m →
    θ_run (Cert.AdamSmallF.defs (F := Bits)) (onTc (τ := Cert.AdamSmallF.τ) (Cert.AdamSmallF.main (F := Bits))) ⟨m, fun _ => 0, g⟩ (fun r => (∀ c : Dev Cert.AdamSmallF.nD,
      r.2.mem ((c.tc : Thread Cert.AdamSmallF.nD Cert.AdamSmallF.τ).loc Cert.AdamSmallF.main_arg0) = m ((c.tc : Thread Cert.AdamSmallF.nD Cert.AdamSmallF.τ).loc Cert.AdamSmallF.main_arg0)
      ∧ r.2.mem ((c.tc : Thread Cert.AdamSmallF.nD Cert.AdamSmallF.τ).loc Cert.AdamSmallF.main_arg1) = m ((c.tc : Thread Cert.AdamSmallF.nD Cert.AdamSmallF.τ).loc Cert.AdamSmallF.main_arg1)
      ∧ r.2.mem ((c.tc : Thread Cert.AdamSmallF.nD Cert.AdamSmallF.τ).loc Cert.AdamSmallF.main_arg2) = m ((c.tc : Thread Cert.AdamSmallF.nD Cert.AdamSmallF.τ).loc Cert.AdamSmallF.main_arg2)
      ∧ r.2.mem ((c.tc : Thread Cert.AdamSmallF.nD Cert.AdamSmallF.τ).loc Cert.AdamSmallF.main_arg3) = m ((c.tc : Thread Cert.AdamSmallF.nD Cert.AdamSmallF.τ).loc Cert.AdamSmallF.main_arg3)
      ∧ r.2.mem ((c.tc : Thread Cert.AdamSmallF.nD Cert.AdamSmallF.τ).loc Cert.AdamSmallF.main_arg4) = m ((c.tc : Thread Cert.AdamSmallF.nD Cert.AdamSmallF.τ).loc Cert.AdamSmallF.main_arg4)
      ∧ r.2.mem ((c.tc : Thread Cert.AdamSmallF.nD Cert.AdamSmallF.τ).loc Cert.AdamSmallF.main_arg5) = m ((c.tc : Thread Cert.AdamSmallF.nD Cert.AdamSmallF.τ).loc Cert.AdamSmallF.main_arg5)
      ∧ r.2.mem ((c.tc : Thread Cert.AdamSmallF.nD Cert.AdamSmallF.τ).loc Cert.AdamSmallF.main_arg6) = m ((c.tc : Thread Cert.AdamSmallF.nD Cert.AdamSmallF.τ).loc Cert.AdamSmallF.main_arg6)
      ∧ r.2.mem ((c.tc : Thread Cert.AdamSmallF.nD Cert.AdamSmallF.τ).loc Cert.AdamSmallF.main_arg7) = m ((c.tc : Thread Cert.AdamSmallF.nD Cert.AdamSmallF.τ).loc Cert.AdamSmallF.main_arg7)
      ∧ r.2.mem ((c.tc : Thread Cert.AdamSmallF.nD Cert.AdamSmallF.τ).loc Cert.AdamSmallF.main_arg8) = m ((c.tc : Thread Cert.AdamSmallF.nD Cert.AdamSmallF.τ).loc Cert.AdamSmallF.main_arg8)
      ∧ r.2.mem ((c.tc : Thread Cert.AdamSmallF.nD Cert.AdamSmallF.τ).loc Cert.AdamSmallF.main_arg9) = m ((c.tc : Thread Cert.AdamSmallF.nD Cert.AdamSmallF.τ).loc Cert.AdamSmallF.main_arg9)
      ∧ r.2.mem ((c.tc : Thread Cert.AdamSmallF.nD Cert.AdamSmallF.τ).loc Cert.AdamSmallF.main_arg10) = m ((c.tc : Thread Cert.AdamSmallF.nD Cert.AdamSmallF.τ).loc Cert.AdamSmallF.main_arg10)
      ∧ r.2.mem ((c.tc : Thread Cert.AdamSmallF.nD Cert.AdamSmallF.τ).loc Cert.AdamSmallF.main_arg11) = m ((c.tc : Thread Cert.AdamSmallF.nD Cert.AdamSmallF.τ).loc Cert.AdamSmallF.main_arg11))
      ∧ r.2.sem = fun _ => 0)

def quiescent_AdamSmallFIdeal [hAdamSmallFIdeal : Cert.AdamSmallFIdeal.Facts] : Prop :=
  ∀ (m : (ℓ : Loc Cert.AdamSmallFIdeal.nD Cert.AdamSmallFIdeal.τ Cert.AdamSmallFIdeal.sig) → Buf (Elt Ideal) ℓ) (g : Dev Cert.AdamSmallFIdeal.nD → PrngReg), Pre_AdamSmallFIdeal m →
    θ_run (Cert.AdamSmallFIdeal.defs (F := Ideal)) (onTc (τ := Cert.AdamSmallFIdeal.τ) (Cert.AdamSmallFIdeal.main (F := Ideal))) ⟨m, fun _ => 0, g⟩ (fun r => (∀ c : Dev Cert.AdamSmallFIdeal.nD,
      r.2.mem ((c.tc : Thread Cert.AdamSmallFIdeal.nD Cert.AdamSmallFIdeal.τ).loc Cert.AdamSmallFIdeal.main_arg0) = m ((c.tc : Thread Cert.AdamSmallFIdeal.nD Cert.AdamSmallFIdeal.τ).loc Cert.AdamSmallFIdeal.main_arg0)
      ∧ r.2.mem ((c.tc : Thread Cert.AdamSmallFIdeal.nD Cert.AdamSmallFIdeal.τ).loc Cert.AdamSmallFIdeal.main_arg1) = m ((c.tc : Thread Cert.AdamSmallFIdeal.nD Cert.AdamSmallFIdeal.τ).loc Cert.AdamSmallFIdeal.main_arg1)
      ∧ r.2.mem ((c.tc : Thread Cert.AdamSmallFIdeal.nD Cert.AdamSmallFIdeal.τ).loc Cert.AdamSmallFIdeal.main_arg2) = m ((c.tc : Thread Cert.AdamSmallFIdeal.nD Cert.AdamSmallFIdeal.τ).loc Cert.AdamSmallFIdeal.main_arg2)
      ∧ r.2.mem ((c.tc : Thread Cert.AdamSmallFIdeal.nD Cert.AdamSmallFIdeal.τ).loc Cert.AdamSmallFIdeal.main_arg3) = m ((c.tc : Thread Cert.AdamSmallFIdeal.nD Cert.AdamSmallFIdeal.τ).loc Cert.AdamSmallFIdeal.main_arg3)
      ∧ r.2.mem ((c.tc : Thread Cert.AdamSmallFIdeal.nD Cert.AdamSmallFIdeal.τ).loc Cert.AdamSmallFIdeal.main_arg4) = m ((c.tc : Thread Cert.AdamSmallFIdeal.nD Cert.AdamSmallFIdeal.τ).loc Cert.AdamSmallFIdeal.main_arg4)
      ∧ r.2.mem ((c.tc : Thread Cert.AdamSmallFIdeal.nD Cert.AdamSmallFIdeal.τ).loc Cert.AdamSmallFIdeal.main_arg5) = m ((c.tc : Thread Cert.AdamSmallFIdeal.nD Cert.AdamSmallFIdeal.τ).loc Cert.AdamSmallFIdeal.main_arg5)
      ∧ r.2.mem ((c.tc : Thread Cert.AdamSmallFIdeal.nD Cert.AdamSmallFIdeal.τ).loc Cert.AdamSmallFIdeal.main_arg6) = m ((c.tc : Thread Cert.AdamSmallFIdeal.nD Cert.AdamSmallFIdeal.τ).loc Cert.AdamSmallFIdeal.main_arg6)
      ∧ r.2.mem ((c.tc : Thread Cert.AdamSmallFIdeal.nD Cert.AdamSmallFIdeal.τ).loc Cert.AdamSmallFIdeal.main_arg7) = m ((c.tc : Thread Cert.AdamSmallFIdeal.nD Cert.AdamSmallFIdeal.τ).loc Cert.AdamSmallFIdeal.main_arg7)
      ∧ r.2.mem ((c.tc : Thread Cert.AdamSmallFIdeal.nD Cert.AdamSmallFIdeal.τ).loc Cert.AdamSmallFIdeal.main_arg8) = m ((c.tc : Thread Cert.AdamSmallFIdeal.nD Cert.AdamSmallFIdeal.τ).loc Cert.AdamSmallFIdeal.main_arg8)
      ∧ r.2.mem ((c.tc : Thread Cert.AdamSmallFIdeal.nD Cert.AdamSmallFIdeal.τ).loc Cert.AdamSmallFIdeal.main_arg9) = m ((c.tc : Thread Cert.AdamSmallFIdeal.nD Cert.AdamSmallFIdeal.τ).loc Cert.AdamSmallFIdeal.main_arg9)
      ∧ r.2.mem ((c.tc : Thread Cert.AdamSmallFIdeal.nD Cert.AdamSmallFIdeal.τ).loc Cert.AdamSmallFIdeal.main_arg10) = m ((c.tc : Thread Cert.AdamSmallFIdeal.nD Cert.AdamSmallFIdeal.τ).loc Cert.AdamSmallFIdeal.main_arg10)
      ∧ r.2.mem ((c.tc : Thread Cert.AdamSmallFIdeal.nD Cert.AdamSmallFIdeal.τ).loc Cert.AdamSmallFIdeal.main_arg11) = m ((c.tc : Thread Cert.AdamSmallFIdeal.nD Cert.AdamSmallFIdeal.τ).loc Cert.AdamSmallFIdeal.main_arg11))
      ∧ r.2.sem = fun _ => 0)

def quiescent_RefAdamSmallFIdeal [hRefAdamSmallFIdeal : Cert.RefAdamSmallFIdeal.Facts] : Prop :=
  ∀ (m : (ℓ : Loc Cert.RefAdamSmallFIdeal.nD Cert.RefAdamSmallFIdeal.τ Cert.RefAdamSmallFIdeal.sig) → Buf (Elt Ideal) ℓ) (g : Dev Cert.RefAdamSmallFIdeal.nD → PrngReg), Pre_RefAdamSmallFIdeal m →
    θ_run (Cert.RefAdamSmallFIdeal.defs (F := Ideal)) (onTc (τ := Cert.RefAdamSmallFIdeal.τ) (Cert.RefAdamSmallFIdeal.main (F := Ideal))) ⟨m, fun _ => 0, g⟩ (fun r => (∀ c : Dev Cert.RefAdamSmallFIdeal.nD,
      r.2.mem ((c.tc : Thread Cert.RefAdamSmallFIdeal.nD Cert.RefAdamSmallFIdeal.τ).loc Cert.RefAdamSmallFIdeal.main_arg0) = m ((c.tc : Thread Cert.RefAdamSmallFIdeal.nD Cert.RefAdamSmallFIdeal.τ).loc Cert.RefAdamSmallFIdeal.main_arg0)
      ∧ r.2.mem ((c.tc : Thread Cert.RefAdamSmallFIdeal.nD Cert.RefAdamSmallFIdeal.τ).loc Cert.RefAdamSmallFIdeal.main_arg1) = m ((c.tc : Thread Cert.RefAdamSmallFIdeal.nD Cert.RefAdamSmallFIdeal.τ).loc Cert.RefAdamSmallFIdeal.main_arg1)
      ∧ r.2.mem ((c.tc : Thread Cert.RefAdamSmallFIdeal.nD Cert.RefAdamSmallFIdeal.τ).loc Cert.RefAdamSmallFIdeal.main_arg2) = m ((c.tc : Thread Cert.RefAdamSmallFIdeal.nD Cert.RefAdamSmallFIdeal.τ).loc Cert.RefAdamSmallFIdeal.main_arg2)
      ∧ r.2.mem ((c.tc : Thread Cert.RefAdamSmallFIdeal.nD Cert.RefAdamSmallFIdeal.τ).loc Cert.RefAdamSmallFIdeal.main_arg3) = m ((c.tc : Thread Cert.RefAdamSmallFIdeal.nD Cert.RefAdamSmallFIdeal.τ).loc Cert.RefAdamSmallFIdeal.main_arg3)
      ∧ r.2.mem ((c.tc : Thread Cert.RefAdamSmallFIdeal.nD Cert.RefAdamSmallFIdeal.τ).loc Cert.RefAdamSmallFIdeal.main_arg4) = m ((c.tc : Thread Cert.RefAdamSmallFIdeal.nD Cert.RefAdamSmallFIdeal.τ).loc Cert.RefAdamSmallFIdeal.main_arg4)
      ∧ r.2.mem ((c.tc : Thread Cert.RefAdamSmallFIdeal.nD Cert.RefAdamSmallFIdeal.τ).loc Cert.RefAdamSmallFIdeal.main_arg5) = m ((c.tc : Thread Cert.RefAdamSmallFIdeal.nD Cert.RefAdamSmallFIdeal.τ).loc Cert.RefAdamSmallFIdeal.main_arg5)
      ∧ r.2.mem ((c.tc : Thread Cert.RefAdamSmallFIdeal.nD Cert.RefAdamSmallFIdeal.τ).loc Cert.RefAdamSmallFIdeal.main_arg6) = m ((c.tc : Thread Cert.RefAdamSmallFIdeal.nD Cert.RefAdamSmallFIdeal.τ).loc Cert.RefAdamSmallFIdeal.main_arg6)
      ∧ r.2.mem ((c.tc : Thread Cert.RefAdamSmallFIdeal.nD Cert.RefAdamSmallFIdeal.τ).loc Cert.RefAdamSmallFIdeal.main_arg7) = m ((c.tc : Thread Cert.RefAdamSmallFIdeal.nD Cert.RefAdamSmallFIdeal.τ).loc Cert.RefAdamSmallFIdeal.main_arg7)
      ∧ r.2.mem ((c.tc : Thread Cert.RefAdamSmallFIdeal.nD Cert.RefAdamSmallFIdeal.τ).loc Cert.RefAdamSmallFIdeal.main_arg8) = m ((c.tc : Thread Cert.RefAdamSmallFIdeal.nD Cert.RefAdamSmallFIdeal.τ).loc Cert.RefAdamSmallFIdeal.main_arg8)
      ∧ r.2.mem ((c.tc : Thread Cert.RefAdamSmallFIdeal.nD Cert.RefAdamSmallFIdeal.τ).loc Cert.RefAdamSmallFIdeal.main_arg9) = m ((c.tc : Thread Cert.RefAdamSmallFIdeal.nD Cert.RefAdamSmallFIdeal.τ).loc Cert.RefAdamSmallFIdeal.main_arg9)
      ∧ r.2.mem ((c.tc : Thread Cert.RefAdamSmallFIdeal.nD Cert.RefAdamSmallFIdeal.τ).loc Cert.RefAdamSmallFIdeal.main_arg10) = m ((c.tc : Thread Cert.RefAdamSmallFIdeal.nD Cert.RefAdamSmallFIdeal.τ).loc Cert.RefAdamSmallFIdeal.main_arg10)
      ∧ r.2.mem ((c.tc : Thread Cert.RefAdamSmallFIdeal.nD Cert.RefAdamSmallFIdeal.τ).loc Cert.RefAdamSmallFIdeal.main_arg11) = m ((c.tc : Thread Cert.RefAdamSmallFIdeal.nD Cert.RefAdamSmallFIdeal.τ).loc Cert.RefAdamSmallFIdeal.main_arg11))
      ∧ r.2.sem = fun _ => 0)

def preserves_Kernel_KernelIdeal : Prop :=
  IdealRules.named_const.Statement Cert.KernelIdeal.κ "gelu_3ac" .f32 0x3DDB33B6#32 ((241015141496493 / 2251799813685248 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v6) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v7) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v11) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1))

def preserves_UpDw_UpDwIdeal : Prop :=
  True

def algebraic_UpDwIdeal_RefUpDwIdeal [hUpDwIdeal : Cert.UpDwIdeal.Facts] [hRefUpDwIdeal : Cert.RefUpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.RefUpDwIdeal.nD Cert.RefUpDwIdeal.τ Cert.RefUpDwIdeal.sig) → Buf (Elt Ideal) ℓ) (g' : Dev Cert.RefUpDwIdeal.nD → PrngReg), Pre_UpDwIdeal m →
    (∀ c : Dev Cert.UpDwIdeal.nD,
      m' ((c.tc : Thread Cert.RefUpDwIdeal.nD Cert.RefUpDwIdeal.τ).loc Cert.RefUpDwIdeal.main_arg0) = m ((c.tc : Thread Cert.UpDwIdeal.nD Cert.UpDwIdeal.τ).loc Cert.UpDwIdeal.main_arg0)
      ∧ m' ((c.tc : Thread Cert.RefUpDwIdeal.nD Cert.RefUpDwIdeal.τ).loc Cert.RefUpDwIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.RefUpDwIdeal.defs (F := Ideal)) (onTc (τ := Cert.RefUpDwIdeal.τ) (Cert.RefUpDwIdeal.main (F := Ideal))) ⟨m', fun _ => 0, g'⟩ (fun r => ∀ c : Dev Cert.RefUpDwIdeal.nD,
          r.2.mem ((c.tc : Thread Cert.RefUpDwIdeal.nD Cert.RefUpDwIdeal.τ).loc Cert.RefUpDwIdeal.main_v12) = v0 c
          ∧ r.2.mem ((c.tc : Thread Cert.RefUpDwIdeal.nD Cert.RefUpDwIdeal.τ).loc Cert.RefUpDwIdeal.main_arg0) = m' ((c.tc : Thread Cert.RefUpDwIdeal.nD Cert.RefUpDwIdeal.τ).loc Cert.RefUpDwIdeal.main_arg0)
          ∧ r.2.mem ((c.tc : Thread Cert.RefUpDwIdeal.nD Cert.RefUpDwIdeal.τ).loc Cert.RefUpDwIdeal.main_arg1) = m' ((c.tc : Thread Cert.RefUpDwIdeal.nD Cert.RefUpDwIdeal.τ).loc Cert.RefUpDwIdeal.main_arg1))

def preserves_OutDx_OutDxIdeal : Prop :=
  True

def algebraic_OutDxIdeal_RefOutDxIdeal [hOutDxIdeal : Cert.OutDxIdeal.Facts] [hRefOutDxIdeal : Cert.RefOutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.RefOutDxIdeal.nD Cert.RefOutDxIdeal.τ Cert.RefOutDxIdeal.sig) → Buf (Elt Ideal) ℓ) (g' : Dev Cert.RefOutDxIdeal.nD → PrngReg), Pre_OutDxIdeal m →
    (∀ c : Dev Cert.OutDxIdeal.nD,
      m' ((c.tc : Thread Cert.RefOutDxIdeal.nD Cert.RefOutDxIdeal.τ).loc Cert.RefOutDxIdeal.main_arg0) = m ((c.tc : Thread Cert.OutDxIdeal.nD Cert.OutDxIdeal.τ).loc Cert.OutDxIdeal.main_arg0)
      ∧ m' ((c.tc : Thread Cert.RefOutDxIdeal.nD Cert.RefOutDxIdeal.τ).loc Cert.RefOutDxIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.RefOutDxIdeal.defs (F := Ideal)) (onTc (τ := Cert.RefOutDxIdeal.τ) (Cert.RefOutDxIdeal.main (F := Ideal))) ⟨m', fun _ => 0, g'⟩ (fun r => ∀ c : Dev Cert.RefOutDxIdeal.nD,
          r.2.mem ((c.tc : Thread Cert.RefOutDxIdeal.nD Cert.RefOutDxIdeal.τ).loc Cert.RefOutDxIdeal.main_v6) = v0 c
          ∧ r.2.mem ((c.tc : Thread Cert.RefOutDxIdeal.nD Cert.RefOutDxIdeal.τ).loc Cert.RefOutDxIdeal.main_arg0) = m' ((c.tc : Thread Cert.RefOutDxIdeal.nD Cert.RefOutDxIdeal.τ).loc Cert.RefOutDxIdeal.main_arg0)
          ∧ r.2.mem ((c.tc : Thread Cert.RefOutDxIdeal.nD Cert.RefOutDxIdeal.τ).loc Cert.RefOutDxIdeal.main_arg1) = m' ((c.tc : Thread Cert.RefOutDxIdeal.nD Cert.RefOutDxIdeal.τ).loc Cert.RefOutDxIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v7) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1))

def preserves_GluDx_GluDxIdeal : Prop :=
  True

def algebraic_GluDxIdeal_RefGluDxIdeal [hGluDxIdeal : Cert.GluDxIdeal.Facts] [hRefGluDxIdeal : Cert.RefGluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.RefGluDxIdeal.nD Cert.RefGluDxIdeal.τ Cert.RefGluDxIdeal.sig) → Buf (Elt Ideal) ℓ) (g' : Dev Cert.RefGluDxIdeal.nD → PrngReg), Pre_GluDxIdeal m →
    (∀ c : Dev Cert.GluDxIdeal.nD,
      m' ((c.tc : Thread Cert.RefGluDxIdeal.nD Cert.RefGluDxIdeal.τ).loc Cert.RefGluDxIdeal.main_arg0) = m ((c.tc : Thread Cert.GluDxIdeal.nD Cert.GluDxIdeal.τ).loc Cert.GluDxIdeal.main_arg0)
      ∧ m' ((c.tc : Thread Cert.RefGluDxIdeal.nD Cert.RefGluDxIdeal.τ).loc Cert.RefGluDxIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.RefGluDxIdeal.defs (F := Ideal)) (onTc (τ := Cert.RefGluDxIdeal.τ) (Cert.RefGluDxIdeal.main (F := Ideal))) ⟨m', fun _ => 0, g'⟩ (fun r => ∀ c : Dev Cert.RefGluDxIdeal.nD,
          r.2.mem ((c.tc : Thread Cert.RefGluDxIdeal.nD Cert.RefGluDxIdeal.τ).loc Cert.RefGluDxIdeal.main_v6) = v0 c
          ∧ r.2.mem ((c.tc : Thread Cert.RefGluDxIdeal.nD Cert.RefGluDxIdeal.τ).loc Cert.RefGluDxIdeal.main_arg0) = m' ((c.tc : Thread Cert.RefGluDxIdeal.nD Cert.RefGluDxIdeal.τ).loc Cert.RefGluDxIdeal.main_arg0)
          ∧ r.2.mem ((c.tc : Thread Cert.RefGluDxIdeal.nD Cert.RefGluDxIdeal.τ).loc Cert.RefGluDxIdeal.main_arg1) = m' ((c.tc : Thread Cert.RefGluDxIdeal.nD Cert.RefGluDxIdeal.τ).loc Cert.RefGluDxIdeal.main_arg1))

def preserves_GluDw_GluDwIdeal : Prop :=
  True

def algebraic_GluDwIdeal_RefGluDwIdeal [hGluDwIdeal : Cert.GluDwIdeal.Facts] [hRefGluDwIdeal : Cert.RefGluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.RefGluDwIdeal.nD Cert.RefGluDwIdeal.τ Cert.RefGluDwIdeal.sig) → Buf (Elt Ideal) ℓ) (g' : Dev Cert.RefGluDwIdeal.nD → PrngReg), Pre_GluDwIdeal m →
    (∀ c : Dev Cert.GluDwIdeal.nD,
      m' ((c.tc : Thread Cert.RefGluDwIdeal.nD Cert.RefGluDwIdeal.τ).loc Cert.RefGluDwIdeal.main_arg0) = m ((c.tc : Thread Cert.GluDwIdeal.nD Cert.GluDwIdeal.τ).loc Cert.GluDwIdeal.main_arg0)
      ∧ m' ((c.tc : Thread Cert.RefGluDwIdeal.nD Cert.RefGluDwIdeal.τ).loc Cert.RefGluDwIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.RefGluDwIdeal.defs (F := Ideal)) (onTc (τ := Cert.RefGluDwIdeal.τ) (Cert.RefGluDwIdeal.main (F := Ideal))) ⟨m', fun _ => 0, g'⟩ (fun r => ∀ c : Dev Cert.RefGluDwIdeal.nD,
          r.2.mem ((c.tc : Thread Cert.RefGluDwIdeal.nD Cert.RefGluDwIdeal.τ).loc Cert.RefGluDwIdeal.main_v7) = v0 c
          ∧ r.2.mem ((c.tc : Thread Cert.RefGluDwIdeal.nD Cert.RefGluDwIdeal.τ).loc Cert.RefGluDwIdeal.main_arg0) = m' ((c.tc : Thread Cert.RefGluDwIdeal.nD Cert.RefGluDwIdeal.τ).loc Cert.RefGluDwIdeal.main_arg0)
          ∧ r.2.mem ((c.tc : Thread Cert.RefGluDwIdeal.nD Cert.RefGluDwIdeal.τ).loc Cert.RefGluDwIdeal.main_arg1) = m' ((c.tc : Thread Cert.RefGluDwIdeal.nD Cert.RefGluDwIdeal.τ).loc Cert.RefGluDwIdeal.main_arg1))

def preserves_InDx_InDxIdeal : Prop :=
  True

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v6) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v5) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_InFwd_InFwdIdeal : Prop :=
  True

def algebraic_InFwdIdeal_RefInFwdIdeal [hInFwdIdeal : Cert.InFwdIdeal.Facts] [hRefInFwdIdeal : Cert.RefInFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.RefInFwdIdeal.nD Cert.RefInFwdIdeal.τ Cert.RefInFwdIdeal.sig) → Buf (Elt Ideal) ℓ) (g' : Dev Cert.RefInFwdIdeal.nD → PrngReg), Pre_InFwdIdeal m →
    (∀ c : Dev Cert.InFwdIdeal.nD,
      m' ((c.tc : Thread Cert.RefInFwdIdeal.nD Cert.RefInFwdIdeal.τ).loc Cert.RefInFwdIdeal.main_arg0) = m ((c.tc : Thread Cert.InFwdIdeal.nD Cert.InFwdIdeal.τ).loc Cert.InFwdIdeal.main_arg0)
      ∧ m' ((c.tc : Thread Cert.RefInFwdIdeal.nD Cert.RefInFwdIdeal.τ).loc Cert.RefInFwdIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.RefInFwdIdeal.defs (F := Ideal)) (onTc (τ := Cert.RefInFwdIdeal.τ) (Cert.RefInFwdIdeal.main (F := Ideal))) ⟨m', fun _ => 0, g'⟩ (fun r => ∀ c : Dev Cert.RefInFwdIdeal.nD,
          r.2.mem ((c.tc : Thread Cert.RefInFwdIdeal.nD Cert.RefInFwdIdeal.τ).loc Cert.RefInFwdIdeal.main_v2) = v0 c
          ∧ r.2.mem ((c.tc : Thread Cert.RefInFwdIdeal.nD Cert.RefInFwdIdeal.τ).loc Cert.RefInFwdIdeal.main_arg0) = m' ((c.tc : Thread Cert.RefInFwdIdeal.nD Cert.RefInFwdIdeal.τ).loc Cert.RefInFwdIdeal.main_arg0)
          ∧ r.2.mem ((c.tc : Thread Cert.RefInFwdIdeal.nD Cert.RefInFwdIdeal.τ).loc Cert.RefInFwdIdeal.main_arg1) = m' ((c.tc : Thread Cert.RefInFwdIdeal.nD Cert.RefInFwdIdeal.τ).loc Cert.RefInFwdIdeal.main_arg1))

def preserves_GluFwd_GluFwdIdeal : Prop :=
  True

def algebraic_GluFwdIdeal_RefGluFwdIdeal [hGluFwdIdeal : Cert.GluFwdIdeal.Facts] [hRefGluFwdIdeal : Cert.RefGluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.RefGluFwdIdeal.nD Cert.RefGluFwdIdeal.τ Cert.RefGluFwdIdeal.sig) → Buf (Elt Ideal) ℓ) (g' : Dev Cert.RefGluFwdIdeal.nD → PrngReg), Pre_GluFwdIdeal m →
    (∀ c : Dev Cert.GluFwdIdeal.nD,
      m' ((c.tc : Thread Cert.RefGluFwdIdeal.nD Cert.RefGluFwdIdeal.τ).loc Cert.RefGluFwdIdeal.main_arg0) = m ((c.tc : Thread Cert.GluFwdIdeal.nD Cert.GluFwdIdeal.τ).loc Cert.GluFwdIdeal.main_arg0)
      ∧ m' ((c.tc : Thread Cert.RefGluFwdIdeal.nD Cert.RefGluFwdIdeal.τ).loc Cert.RefGluFwdIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.RefGluFwdIdeal.defs (F := Ideal)) (onTc (τ := Cert.RefGluFwdIdeal.τ) (Cert.RefGluFwdIdeal.main (F := Ideal))) ⟨m', fun _ => 0, g'⟩ (fun r => ∀ c : Dev Cert.RefGluFwdIdeal.nD,
          r.2.mem ((c.tc : Thread Cert.RefGluFwdIdeal.nD Cert.RefGluFwdIdeal.τ).loc Cert.RefGluFwdIdeal.main_v2) = v0 c
          ∧ r.2.mem ((c.tc : Thread Cert.RefGluFwdIdeal.nD Cert.RefGluFwdIdeal.τ).loc Cert.RefGluFwdIdeal.main_arg0) = m' ((c.tc : Thread Cert.RefGluFwdIdeal.nD Cert.RefGluFwdIdeal.τ).loc Cert.RefGluFwdIdeal.main_arg0)
          ∧ r.2.mem ((c.tc : Thread Cert.RefGluFwdIdeal.nD Cert.RefGluFwdIdeal.τ).loc Cert.RefGluFwdIdeal.main_arg1) = m' ((c.tc : Thread Cert.RefGluFwdIdeal.nD Cert.RefGluFwdIdeal.τ).loc Cert.RefGluFwdIdeal.main_arg1))

def preserves_OutFwd_OutFwdIdeal : Prop :=
  True

def algebraic_OutFwdIdeal_RefOutFwdIdeal [hOutFwdIdeal : Cert.OutFwdIdeal.Facts] [hRefOutFwdIdeal : Cert.RefOutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.RefOutFwdIdeal.nD Cert.RefOutFwdIdeal.τ Cert.RefOutFwdIdeal.sig) → Buf (Elt Ideal) ℓ) (g' : Dev Cert.RefOutFwdIdeal.nD → PrngReg), Pre_OutFwdIdeal m →
    (∀ c : Dev Cert.OutFwdIdeal.nD,
      m' ((c.tc : Thread Cert.RefOutFwdIdeal.nD Cert.RefOutFwdIdeal.τ).loc Cert.RefOutFwdIdeal.main_arg0) = m ((c.tc : Thread Cert.OutFwdIdeal.nD Cert.OutFwdIdeal.τ).loc Cert.OutFwdIdeal.main_arg0)
      ∧ m' ((c.tc : Thread Cert.RefOutFwdIdeal.nD Cert.RefOutFwdIdeal.τ).loc Cert.RefOutFwdIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.RefOutFwdIdeal.defs (F := Ideal)) (onTc (τ := Cert.RefOutFwdIdeal.τ) (Cert.RefOutFwdIdeal.main (F := Ideal))) ⟨m', fun _ => 0, g'⟩ (fun r => ∀ c : Dev Cert.RefOutFwdIdeal.nD,
          r.2.mem ((c.tc : Thread Cert.RefOutFwdIdeal.nD Cert.RefOutFwdIdeal.τ).loc Cert.RefOutFwdIdeal.main_v2) = v0 c
          ∧ r.2.mem ((c.tc : Thread Cert.RefOutFwdIdeal.nD Cert.RefOutFwdIdeal.τ).loc Cert.RefOutFwdIdeal.main_arg0) = m' ((c.tc : Thread Cert.RefOutFwdIdeal.nD Cert.RefOutFwdIdeal.τ).loc Cert.RefOutFwdIdeal.main_arg0)
          ∧ r.2.mem ((c.tc : Thread Cert.RefOutFwdIdeal.nD Cert.RefOutFwdIdeal.τ).loc Cert.RefOutFwdIdeal.main_arg1) = m' ((c.tc : Thread Cert.RefOutFwdIdeal.nD Cert.RefOutFwdIdeal.τ).loc Cert.RefOutFwdIdeal.main_arg1))

def preserves_UpFwd_UpFwdIdeal : Prop :=
  True

def algebraic_UpFwdIdeal_RefUpFwdIdeal [hUpFwdIdeal : Cert.UpFwdIdeal.Facts] [hRefUpFwdIdeal : Cert.RefUpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.RefUpFwdIdeal.nD Cert.RefUpFwdIdeal.τ Cert.RefUpFwdIdeal.sig) → Buf (Elt Ideal) ℓ) (g' : Dev Cert.RefUpFwdIdeal.nD → PrngReg), Pre_UpFwdIdeal m →
    (∀ c : Dev Cert.UpFwdIdeal.nD,
      m' ((c.tc : Thread Cert.RefUpFwdIdeal.nD Cert.RefUpFwdIdeal.τ).loc Cert.RefUpFwdIdeal.main_arg0) = m ((c.tc : Thread Cert.UpFwdIdeal.nD Cert.UpFwdIdeal.τ).loc Cert.UpFwdIdeal.main_arg0)
      ∧ m' ((c.tc : Thread Cert.RefUpFwdIdeal.nD Cert.RefUpFwdIdeal.τ).loc Cert.RefUpFwdIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.RefUpFwdIdeal.defs (F := Ideal)) (onTc (τ := Cert.RefUpFwdIdeal.τ) (Cert.RefUpFwdIdeal.main (F := Ideal))) ⟨m', fun _ => 0, g'⟩ (fun r => ∀ c : Dev Cert.RefUpFwdIdeal.nD,
          r.2.mem ((c.tc : Thread Cert.RefUpFwdIdeal.nD Cert.RefUpFwdIdeal.τ).loc Cert.RefUpFwdIdeal.main_v2) = v0 c
          ∧ r.2.mem ((c.tc : Thread Cert.RefUpFwdIdeal.nD Cert.RefUpFwdIdeal.τ).loc Cert.RefUpFwdIdeal.main_arg0) = m' ((c.tc : Thread Cert.RefUpFwdIdeal.nD Cert.RefUpFwdIdeal.τ).loc Cert.RefUpFwdIdeal.main_arg0)
          ∧ r.2.mem ((c.tc : Thread Cert.RefUpFwdIdeal.nD Cert.RefUpFwdIdeal.τ).loc Cert.RefUpFwdIdeal.main_arg1) = m' ((c.tc : Thread Cert.RefUpFwdIdeal.nD Cert.RefUpFwdIdeal.τ).loc Cert.RefUpFwdIdeal.main_arg1))

def preserves_DownFwd_DownFwdIdeal : Prop :=
  True

def algebraic_DownFwdIdeal_RefDownFwdIdeal [hDownFwdIdeal : Cert.DownFwdIdeal.Facts] [hRefDownFwdIdeal : Cert.RefDownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.RefDownFwdIdeal.nD Cert.RefDownFwdIdeal.τ Cert.RefDownFwdIdeal.sig) → Buf (Elt Ideal) ℓ) (g' : Dev Cert.RefDownFwdIdeal.nD → PrngReg), Pre_DownFwdIdeal m →
    (∀ c : Dev Cert.DownFwdIdeal.nD,
      m' ((c.tc : Thread Cert.RefDownFwdIdeal.nD Cert.RefDownFwdIdeal.τ).loc Cert.RefDownFwdIdeal.main_arg0) = m ((c.tc : Thread Cert.DownFwdIdeal.nD Cert.DownFwdIdeal.τ).loc Cert.DownFwdIdeal.main_arg0)
      ∧ m' ((c.tc : Thread Cert.RefDownFwdIdeal.nD Cert.RefDownFwdIdeal.τ).loc Cert.RefDownFwdIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.RefDownFwdIdeal.defs (F := Ideal)) (onTc (τ := Cert.RefDownFwdIdeal.τ) (Cert.RefDownFwdIdeal.main (F := Ideal))) ⟨m', fun _ => 0, g'⟩ (fun r => ∀ c : Dev Cert.RefDownFwdIdeal.nD,
          r.2.mem ((c.tc : Thread Cert.RefDownFwdIdeal.nD Cert.RefDownFwdIdeal.τ).loc Cert.RefDownFwdIdeal.main_v2) = v0 c
          ∧ r.2.mem ((c.tc : Thread Cert.RefDownFwdIdeal.nD Cert.RefDownFwdIdeal.τ).loc Cert.RefDownFwdIdeal.main_arg0) = m' ((c.tc : Thread Cert.RefDownFwdIdeal.nD Cert.RefDownFwdIdeal.τ).loc Cert.RefDownFwdIdeal.main_arg0)
          ∧ r.2.mem ((c.tc : Thread Cert.RefDownFwdIdeal.nD Cert.RefDownFwdIdeal.τ).loc Cert.RefDownFwdIdeal.main_arg1) = m' ((c.tc : Thread Cert.RefDownFwdIdeal.nD Cert.RefDownFwdIdeal.τ).loc Cert.RefDownFwdIdeal.main_arg1))

def preserves_ResBwd_ResBwdIdeal : Prop :=
  True

def algebraic_ResBwdIdeal_RefResBwdIdeal [hResBwdIdeal : Cert.ResBwdIdeal.Facts] [hRefResBwdIdeal : Cert.RefResBwdIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg)
    (m' : (ℓ : Loc Cert.RefResBwdIdeal.nD Cert.RefResBwdIdeal.τ Cert.RefResBwdIdeal.sig) → Buf (Elt Ideal) ℓ) (g' : Dev Cert.RefResBwdIdeal.nD → PrngReg), Pre_ResBwdIdeal m →
    (∀ c : Dev Cert.ResBwdIdeal.nD,
      m' ((c.tc : Thread Cert.RefResBwdIdeal.nD Cert.RefResBwdIdeal.τ).loc Cert.RefResBwdIdeal.main_arg0) = m ((c.tc : Thread Cert.ResBwdIdeal.nD Cert.ResBwdIdeal.τ).loc Cert.ResBwdIdeal.main_arg0)
      ∧ m' ((c.tc : Thread Cert.RefResBwdIdeal.nD Cert.RefResBwdIdeal.τ).loc Cert.RefResBwdIdeal.main_arg1) = m ((c.tc : Thread Cert.ResBwdIdeal.nD Cert.ResBwdIdeal.τ).loc Cert.ResBwdIdeal.main_arg1)
      ∧ m' ((c.tc : Thread Cert.RefResBwdIdeal.nD Cert.RefResBwdIdeal.τ).loc Cert.RefResBwdIdeal.main_arg2) = m ((c.tc : Thread Cert.ResBwdIdeal.nD Cert.ResBwdIdeal.τ).loc Cert.ResBwdIdeal.main_arg2)
      ∧ m' ((c.tc : Thread Cert.RefResBwdIdeal.nD Cert.RefResBwdIdeal.τ).loc Cert.RefResBwdIdeal.main_arg3) = m ((c.tc : Thread Cert.ResBwdIdeal.nD Cert.ResBwdIdeal.τ).loc Cert.ResBwdIdeal.main_arg3)) →
    ∃ (v0 : (c : Dev Cert.ResBwdIdeal.nD) → Buf (Elt Ideal) ((c.tc : Thread Cert.ResBwdIdeal.nD Cert.ResBwdIdeal.τ).loc Cert.ResBwdIdeal.main_v1_0)) (v1 : (c : Dev Cert.ResBwdIdeal.nD) → Buf (Elt Ideal) ((c.tc : Thread Cert.ResBwdIdeal.nD Cert.ResBwdIdeal.τ).loc Cert.ResBwdIdeal.main_v1_1)) (v2 : (c : Dev Cert.ResBwdIdeal.nD) → Buf (Elt Ideal) ((c.tc : Thread Cert.ResBwdIdeal.nD Cert.ResBwdIdeal.τ).loc Cert.ResBwdIdeal.main_v1_2)),
      θ_run (Cert.ResBwdIdeal.defs (F := Ideal)) (onTc (τ := Cert.ResBwdIdeal.τ) (Cert.ResBwdIdeal.main (F := Ideal))) ⟨m, fun _ => 0, g⟩ (fun r => ∀ c : Dev Cert.ResBwdIdeal.nD,
          r.2.mem ((c.tc : Thread Cert.ResBwdIdeal.nD Cert.ResBwdIdeal.τ).loc Cert.ResBwdIdeal.main_v1_0) = v0 c
          ∧ r.2.mem ((c.tc : Thread Cert.ResBwdIdeal.nD Cert.ResBwdIdeal.τ).loc Cert.ResBwdIdeal.main_v1_1) = v1 c
          ∧ r.2.mem ((c.tc : Thread Cert.ResBwdIdeal.nD Cert.ResBwdIdeal.τ).loc Cert.ResBwdIdeal.main_v1_2) = v2 c
          ∧ r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
          ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
          ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2)
          ∧ r.2.mem ((c.tc : Thread Cert.ResBwdIdeal.nD Cert.ResBwdIdeal.τ).loc Cert.ResBwdIdeal.main_arg3) = m ((c.tc : Thread Cert.ResBwdIdeal.nD Cert.ResBwdIdeal.τ).loc Cert.ResBwdIdeal.main_arg3))
      ∧ θ_run (Cert.RefResBwdIdeal.defs (F := Ideal)) (onTc (τ := Cert.RefResBwdIdeal.τ) (Cert.RefResBwdIdeal.main (F := Ideal))) ⟨m', fun _ => 0, g'⟩ (fun r => ∀ c : Dev Cert.RefResBwdIdeal.nD,
          r.2.mem ((c.tc : Thread Cert.RefResBwdIdeal.nD Cert.RefResBwdIdeal.τ).loc Cert.RefResBwdIdeal.main_v45) = v0 c
          ∧ r.2.mem ((c.tc : Thread Cert.RefResBwdIdeal.nD Cert.RefResBwdIdeal.τ).loc Cert.RefResBwdIdeal.main_v46) = v1 c
          ∧ r.2.mem ((c.tc : Thread Cert.RefResBwdIdeal.nD Cert.RefResBwdIdeal.τ).loc Cert.RefResBwdIdeal.main_v24) = v2 c
          ∧ r.2.mem ((c.tc : Thread Cert.RefResBwdIdeal.nD Cert.RefResBwdIdeal.τ).loc Cert.RefResBwdIdeal.main_arg0) = m' ((c.tc : Thread Cert.RefResBwdIdeal.nD Cert.RefResBwdIdeal.τ).loc Cert.RefResBwdIdeal.main_arg0)
          ∧ r.2.mem ((c.tc : Thread Cert.RefResBwdIdeal.nD Cert.RefResBwdIdeal.τ).loc Cert.RefResBwdIdeal.main_arg1) = m' ((c.tc : Thread Cert.RefResBwdIdeal.nD Cert.RefResBwdIdeal.τ).loc Cert.RefResBwdIdeal.main_arg1)
          ∧ r.2.mem ((c.tc : Thread Cert.RefResBwdIdeal.nD Cert.RefResBwdIdeal.τ).loc Cert.RefResBwdIdeal.main_arg2) = m' ((c.tc : Thread Cert.RefResBwdIdeal.nD Cert.RefResBwdIdeal.τ).loc Cert.RefResBwdIdeal.main_arg2)
          ∧ r.2.mem ((c.tc : Thread Cert.RefResBwdIdeal.nD Cert.RefResBwdIdeal.τ).loc Cert.RefResBwdIdeal.main_arg3) = m' ((c.tc : Thread Cert.RefResBwdIdeal.nD Cert.RefResBwdIdeal.τ).loc Cert.RefResBwdIdeal.main_arg3))

def preserves_ModBwd_ModBwdIdeal : Prop :=
  True

def algebraic_ModBwdIdeal_RefModBwdIdeal [hModBwdIdeal : Cert.ModBwdIdeal.Facts] [hRefModBwdIdeal : Cert.RefModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.RefModBwdIdeal.nD Cert.RefModBwdIdeal.τ Cert.RefModBwdIdeal.sig) → Buf (Elt Ideal) ℓ) (g' : Dev Cert.RefModBwdIdeal.nD → PrngReg), Pre_ModBwdIdeal m →
    (∀ c : Dev Cert.ModBwdIdeal.nD,
      m' ((c.tc : Thread Cert.RefModBwdIdeal.nD Cert.RefModBwdIdeal.τ).loc Cert.RefModBwdIdeal.main_arg0) = m ((c.tc : Thread Cert.ModBwdIdeal.nD Cert.ModBwdIdeal.τ).loc Cert.ModBwdIdeal.main_arg0)
      ∧ m' ((c.tc : Thread Cert.RefModBwdIdeal.nD Cert.RefModBwdIdeal.τ).loc Cert.RefModBwdIdeal.main_arg1) = m ((c.tc : Thread Cert.ModBwdIdeal.nD Cert.ModBwdIdeal.τ).loc Cert.ModBwdIdeal.main_arg1)
      ∧ m' ((c.tc : Thread Cert.RefModBwdIdeal.nD Cert.RefModBwdIdeal.τ).loc Cert.RefModBwdIdeal.main_arg2) = m ((c.tc : Thread Cert.ModBwdIdeal.nD Cert.ModBwdIdeal.τ).loc Cert.ModBwdIdeal.main_arg2)
      ∧ m' ((c.tc : Thread Cert.RefModBwdIdeal.nD Cert.RefModBwdIdeal.τ).loc Cert.RefModBwdIdeal.main_arg3) = m ((c.tc : Thread Cert.ModBwdIdeal.nD Cert.ModBwdIdeal.τ).loc Cert.ModBwdIdeal.main_arg3)
      ∧ m' ((c.tc : Thread Cert.RefModBwdIdeal.nD Cert.RefModBwdIdeal.τ).loc Cert.RefModBwdIdeal.main_arg4) = m ((c.tc : Thread Cert.ModBwdIdeal.nD Cert.ModBwdIdeal.τ).loc Cert.ModBwdIdeal.main_arg4)) →
    ∃ (v0 : (c : Dev Cert.ModBwdIdeal.nD) → Buf (Elt Ideal) ((c.tc : Thread Cert.ModBwdIdeal.nD Cert.ModBwdIdeal.τ).loc Cert.ModBwdIdeal.main_v1_0)) (v1 : (c : Dev Cert.ModBwdIdeal.nD) → Buf (Elt Ideal) ((c.tc : Thread Cert.ModBwdIdeal.nD Cert.ModBwdIdeal.τ).loc Cert.ModBwdIdeal.main_v1_1)) (v2 : (c : Dev Cert.ModBwdIdeal.nD) → Buf (Elt Ideal) ((c.tc : Thread Cert.ModBwdIdeal.nD Cert.ModBwdIdeal.τ).loc Cert.ModBwdIdeal.main_v1_2)) (v3 : (c : Dev Cert.ModBwdIdeal.nD) → Buf (Elt Ideal) ((c.tc : Thread Cert.ModBwdIdeal.nD Cert.ModBwdIdeal.τ).loc Cert.ModBwdIdeal.main_v1_3)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v1_0) = v0 c
          ∧ r.2.mem ((c.tc : Thread Cert.ModBwdIdeal.nD Cert.ModBwdIdeal.τ).loc Cert.ModBwdIdeal.main_v1_1) = v1 c
          ∧ r.2.mem ((c.tc : Thread Cert.ModBwdIdeal.nD Cert.ModBwdIdeal.τ).loc Cert.ModBwdIdeal.main_v1_2) = v2 c
          ∧ r.2.mem ((c.tc : Thread Cert.ModBwdIdeal.nD Cert.ModBwdIdeal.τ).loc Cert.ModBwdIdeal.main_v1_3) = v3 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
          ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ θ_run (Cert.RefModBwdIdeal.defs (F := Ideal)) (onTc (τ := Cert.RefModBwdIdeal.τ) (Cert.RefModBwdIdeal.main (F := Ideal))) ⟨m', fun _ => 0, g'⟩ (fun r => ∀ c : Dev Cert.RefModBwdIdeal.nD,
          r.2.mem ((c.tc : Thread Cert.RefModBwdIdeal.nD Cert.RefModBwdIdeal.τ).loc Cert.RefModBwdIdeal.main_v51) = v0 c
          ∧ r.2.mem ((c.tc : Thread Cert.RefModBwdIdeal.nD Cert.RefModBwdIdeal.τ).loc Cert.RefModBwdIdeal.main_v52) = v1 c
          ∧ r.2.mem ((c.tc : Thread Cert.RefModBwdIdeal.nD Cert.RefModBwdIdeal.τ).loc Cert.RefModBwdIdeal.main_v28) = v2 c
          ∧ r.2.mem ((c.tc : Thread Cert.RefModBwdIdeal.nD Cert.RefModBwdIdeal.τ).loc Cert.RefModBwdIdeal.main_v25) = v3 c
          ∧ r.2.mem ((c.tc : Thread Cert.RefModBwdIdeal.nD Cert.RefModBwdIdeal.τ).loc Cert.RefModBwdIdeal.main_arg0) = m' ((c.tc : Thread Cert.RefModBwdIdeal.nD Cert.RefModBwdIdeal.τ).loc Cert.RefModBwdIdeal.main_arg0)
          ∧ r.2.mem ((c.tc : Thread Cert.RefModBwdIdeal.nD Cert.RefModBwdIdeal.τ).loc Cert.RefModBwdIdeal.main_arg1) = m' ((c.tc : Thread Cert.RefModBwdIdeal.nD Cert.RefModBwdIdeal.τ).loc Cert.RefModBwdIdeal.main_arg1)
          ∧ r.2.mem ((c.tc : Thread Cert.RefModBwdIdeal.nD Cert.RefModBwdIdeal.τ).loc Cert.RefModBwdIdeal.main_arg2) = m' ((c.tc : Thread Cert.RefModBwdIdeal.nD Cert.RefModBwdIdeal.τ).loc Cert.RefModBwdIdeal.main_arg2)
          ∧ r.2.mem ((c.tc : Thread Cert.RefModBwdIdeal.nD Cert.RefModBwdIdeal.τ).loc Cert.RefModBwdIdeal.main_arg3) = m' ((c.tc : Thread Cert.RefModBwdIdeal.nD Cert.RefModBwdIdeal.τ).loc Cert.RefModBwdIdeal.main_arg3)
          ∧ r.2.mem ((c.tc : Thread Cert.RefModBwdIdeal.nD Cert.RefModBwdIdeal.τ).loc Cert.RefModBwdIdeal.main_arg4) = m' ((c.tc : Thread Cert.RefModBwdIdeal.nD Cert.RefModBwdIdeal.τ).loc Cert.RefModBwdIdeal.main_arg4))

def preserves_ModResBwd_ModResBwdIdeal : Prop :=
  True

def algebraic_ModResBwdIdeal_RefModResBwdIdeal [hModResBwdIdeal : Cert.ModResBwdIdeal.Facts] [hRefModResBwdIdeal : Cert.RefModResBwdIdeal.Facts] : Prop :=
  ∀ (m : (ℓ : Loc Cert.ModResBwdIdeal.nD Cert.ModResBwdIdeal.τ Cert.ModResBwdIdeal.sig) → Buf (Elt Ideal) ℓ) (g : Dev Cert.ModResBwdIdeal.nD → PrngReg)
    (m' : (ℓ : Loc Cert.RefModResBwdIdeal.nD Cert.RefModResBwdIdeal.τ Cert.RefModResBwdIdeal.sig) → Buf (Elt Ideal) ℓ) (g' : Dev Cert.RefModResBwdIdeal.nD → PrngReg), Pre_ModResBwdIdeal m →
    (∀ c : Dev Cert.ModResBwdIdeal.nD,
      m' ((c.tc : Thread Cert.RefModResBwdIdeal.nD Cert.RefModResBwdIdeal.τ).loc Cert.RefModResBwdIdeal.main_arg0) = m ((c.tc : Thread Cert.ModResBwdIdeal.nD Cert.ModResBwdIdeal.τ).loc Cert.ModResBwdIdeal.main_arg0)
      ∧ m' ((c.tc : Thread Cert.RefModResBwdIdeal.nD Cert.RefModResBwdIdeal.τ).loc Cert.RefModResBwdIdeal.main_arg1) = m ((c.tc : Thread Cert.ModResBwdIdeal.nD Cert.ModResBwdIdeal.τ).loc Cert.ModResBwdIdeal.main_arg1)
      ∧ m' ((c.tc : Thread Cert.RefModResBwdIdeal.nD Cert.RefModResBwdIdeal.τ).loc Cert.RefModResBwdIdeal.main_arg2) = m ((c.tc : Thread Cert.ModResBwdIdeal.nD Cert.ModResBwdIdeal.τ).loc Cert.ModResBwdIdeal.main_arg2)
      ∧ m' ((c.tc : Thread Cert.RefModResBwdIdeal.nD Cert.RefModResBwdIdeal.τ).loc Cert.RefModResBwdIdeal.main_arg3) = m ((c.tc : Thread Cert.ModResBwdIdeal.nD Cert.ModResBwdIdeal.τ).loc Cert.ModResBwdIdeal.main_arg3)
      ∧ m' ((c.tc : Thread Cert.RefModResBwdIdeal.nD Cert.RefModResBwdIdeal.τ).loc Cert.RefModResBwdIdeal.main_arg4) = m ((c.tc : Thread Cert.ModResBwdIdeal.nD Cert.ModResBwdIdeal.τ).loc Cert.ModResBwdIdeal.main_arg4)
      ∧ m' ((c.tc : Thread Cert.RefModResBwdIdeal.nD Cert.RefModResBwdIdeal.τ).loc Cert.RefModResBwdIdeal.main_arg5) = m ((c.tc : Thread Cert.ModResBwdIdeal.nD Cert.ModResBwdIdeal.τ).loc Cert.ModResBwdIdeal.main_arg5)
      ∧ m' ((c.tc : Thread Cert.RefModResBwdIdeal.nD Cert.RefModResBwdIdeal.τ).loc Cert.RefModResBwdIdeal.main_arg6) = m ((c.tc : Thread Cert.ModResBwdIdeal.nD Cert.ModResBwdIdeal.τ).loc Cert.ModResBwdIdeal.main_arg6)
      ∧ m' ((c.tc : Thread Cert.RefModResBwdIdeal.nD Cert.RefModResBwdIdeal.τ).loc Cert.RefModResBwdIdeal.main_arg7) = m ((c.tc : Thread Cert.ModResBwdIdeal.nD Cert.ModResBwdIdeal.τ).loc Cert.ModResBwdIdeal.main_arg7)) →
    ∃ (v0 : (c : Dev Cert.ModResBwdIdeal.nD) → Buf (Elt Ideal) ((c.tc : Thread Cert.ModResBwdIdeal.nD Cert.ModResBwdIdeal.τ).loc Cert.ModResBwdIdeal.main_v2_0)) (v1 : (c : Dev Cert.ModResBwdIdeal.nD) → Buf (Elt Ideal) ((c.tc : Thread Cert.ModResBwdIdeal.nD Cert.ModResBwdIdeal.τ).loc Cert.ModResBwdIdeal.main_v2_1)) (v2 : (c : Dev Cert.ModResBwdIdeal.nD) → Buf (Elt Ideal) ((c.tc : Thread Cert.ModResBwdIdeal.nD Cert.ModResBwdIdeal.τ).loc Cert.ModResBwdIdeal.main_v2_2)) (v3 : (c : Dev Cert.ModResBwdIdeal.nD) → Buf (Elt Ideal) ((c.tc : Thread Cert.ModResBwdIdeal.nD Cert.ModResBwdIdeal.τ).loc Cert.ModResBwdIdeal.main_v2_3)) (v4 : (c : Dev Cert.ModResBwdIdeal.nD) → Buf (Elt Ideal) ((c.tc : Thread Cert.ModResBwdIdeal.nD Cert.ModResBwdIdeal.τ).loc Cert.ModResBwdIdeal.main_v2_4)) (v5 : (c : Dev Cert.ModResBwdIdeal.nD) → Buf (Elt Ideal) ((c.tc : Thread Cert.ModResBwdIdeal.nD Cert.ModResBwdIdeal.τ).loc Cert.ModResBwdIdeal.main_v2_5)) (v6 : (c : Dev Cert.ModResBwdIdeal.nD) → Buf (Elt Ideal) ((c.tc : Thread Cert.ModResBwdIdeal.nD Cert.ModResBwdIdeal.τ).loc Cert.ModResBwdIdeal.main_v2_6)),
      θ_run (Cert.ModResBwdIdeal.defs (F := Ideal)) (onTc (τ := Cert.ModResBwdIdeal.τ) (Cert.ModResBwdIdeal.main (F := Ideal))) ⟨m, fun _ => 0, g⟩ (fun r => ∀ c : Dev Cert.ModResBwdIdeal.nD,
          r.2.mem ((c.tc : Thread Cert.ModResBwdIdeal.nD Cert.ModResBwdIdeal.τ).loc Cert.ModResBwdIdeal.main_v2_0) = v0 c
          ∧ r.2.mem ((c.tc : Thread Cert.ModResBwdIdeal.nD Cert.ModResBwdIdeal.τ).loc Cert.ModResBwdIdeal.main_v2_1) = v1 c
          ∧ r.2.mem ((c.tc : Thread Cert.ModResBwdIdeal.nD Cert.ModResBwdIdeal.τ).loc Cert.ModResBwdIdeal.main_v2_2) = v2 c
          ∧ r.2.mem ((c.tc : Thread Cert.ModResBwdIdeal.nD Cert.ModResBwdIdeal.τ).loc Cert.ModResBwdIdeal.main_v2_3) = v3 c
          ∧ r.2.mem ((c.tc : Thread Cert.ModResBwdIdeal.nD Cert.ModResBwdIdeal.τ).loc Cert.ModResBwdIdeal.main_v2_4) = v4 c
          ∧ r.2.mem ((c.tc : Thread Cert.ModResBwdIdeal.nD Cert.ModResBwdIdeal.τ).loc Cert.ModResBwdIdeal.main_v2_5) = v5 c
          ∧ r.2.mem ((c.tc : Thread Cert.ModResBwdIdeal.nD Cert.ModResBwdIdeal.τ).loc Cert.ModResBwdIdeal.main_v2_6) = v6 c
          ∧ r.2.mem ((c.tc : Thread Cert.ModResBwdIdeal.nD Cert.ModResBwdIdeal.τ).loc Cert.ModResBwdIdeal.main_arg0) = m ((c.tc : Thread Cert.ModResBwdIdeal.nD Cert.ModResBwdIdeal.τ).loc Cert.ModResBwdIdeal.main_arg0)
          ∧ r.2.mem ((c.tc : Thread Cert.ModResBwdIdeal.nD Cert.ModResBwdIdeal.τ).loc Cert.ModResBwdIdeal.main_arg1) = m ((c.tc : Thread Cert.ModResBwdIdeal.nD Cert.ModResBwdIdeal.τ).loc Cert.ModResBwdIdeal.main_arg1)
          ∧ r.2.mem ((c.tc : Thread Cert.ModResBwdIdeal.nD Cert.ModResBwdIdeal.τ).loc Cert.ModResBwdIdeal.main_arg2) = m ((c.tc : Thread Cert.ModResBwdIdeal.nD Cert.ModResBwdIdeal.τ).loc Cert.ModResBwdIdeal.main_arg2)
          ∧ r.2.mem ((c.tc : Thread Cert.ModResBwdIdeal.nD Cert.ModResBwdIdeal.τ).loc Cert.ModResBwdIdeal.main_arg3) = m ((c.tc : Thread Cert.ModResBwdIdeal.nD Cert.ModResBwdIdeal.τ).loc Cert.ModResBwdIdeal.main_arg3)
          ∧ r.2.mem ((c.tc : Thread Cert.ModResBwdIdeal.nD Cert.ModResBwdIdeal.τ).loc Cert.ModResBwdIdeal.main_arg4) = m ((c.tc : Thread Cert.ModResBwdIdeal.nD Cert.ModResBwdIdeal.τ).loc Cert.ModResBwdIdeal.main_arg4)
          ∧ r.2.mem ((c.tc : Thread Cert.ModResBwdIdeal.nD Cert.ModResBwdIdeal.τ).loc Cert.ModResBwdIdeal.main_arg5) = m ((c.tc : Thread Cert.ModResBwdIdeal.nD Cert.ModResBwdIdeal.τ).loc Cert.ModResBwdIdeal.main_arg5)
          ∧ r.2.mem ((c.tc : Thread Cert.ModResBwdIdeal.nD Cert.ModResBwdIdeal.τ).loc Cert.ModResBwdIdeal.main_arg6) = m ((c.tc : Thread Cert.ModResBwdIdeal.nD Cert.ModResBwdIdeal.τ).loc Cert.ModResBwdIdeal.main_arg6)
          ∧ r.2.mem ((c.tc : Thread Cert.ModResBwdIdeal.nD Cert.ModResBwdIdeal.τ).loc Cert.ModResBwdIdeal.main_arg7) = m ((c.tc : Thread Cert.ModResBwdIdeal.nD Cert.ModResBwdIdeal.τ).loc Cert.ModResBwdIdeal.main_arg7))
      ∧ θ_run (Cert.RefModResBwdIdeal.defs (F := Ideal)) (onTc (τ := Cert.RefModResBwdIdeal.τ) (Cert.RefModResBwdIdeal.main (F := Ideal))) ⟨m', fun _ => 0, g'⟩ (fun r => ∀ c : Dev Cert.RefModResBwdIdeal.nD,
          r.2.mem ((c.tc : Thread Cert.RefModResBwdIdeal.nD Cert.RefModResBwdIdeal.τ).loc Cert.RefModResBwdIdeal.main_v51) = v0 c
          ∧ r.2.mem ((c.tc : Thread Cert.RefModResBwdIdeal.nD Cert.RefModResBwdIdeal.τ).loc Cert.RefModResBwdIdeal.main_v97) = v1 c
          ∧ r.2.mem ((c.tc : Thread Cert.RefModResBwdIdeal.nD Cert.RefModResBwdIdeal.τ).loc Cert.RefModResBwdIdeal.main_v28) = v2 c
          ∧ r.2.mem ((c.tc : Thread Cert.RefModResBwdIdeal.nD Cert.RefModResBwdIdeal.τ).loc Cert.RefModResBwdIdeal.main_v25) = v3 c
          ∧ r.2.mem ((c.tc : Thread Cert.RefModResBwdIdeal.nD Cert.RefModResBwdIdeal.τ).loc Cert.RefModResBwdIdeal.main_v98) = v4 c
          ∧ r.2.mem ((c.tc : Thread Cert.RefModResBwdIdeal.nD Cert.RefModResBwdIdeal.τ).loc Cert.RefModResBwdIdeal.main_v99) = v5 c
          ∧ r.2.mem ((c.tc : Thread Cert.RefModResBwdIdeal.nD Cert.RefModResBwdIdeal.τ).loc Cert.RefModResBwdIdeal.main_v76) = v6 c
          ∧ r.2.mem ((c.tc : Thread Cert.RefModResBwdIdeal.nD Cert.RefModResBwdIdeal.τ).loc Cert.RefModResBwdIdeal.main_arg0) = m' ((c.tc : Thread Cert.RefModResBwdIdeal.nD Cert.RefModResBwdIdeal.τ).loc Cert.RefModResBwdIdeal.main_arg0)
          ∧ r.2.mem ((c.tc : Thread Cert.RefModResBwdIdeal.nD Cert.RefModResBwdIdeal.τ).loc Cert.RefModResBwdIdeal.main_arg1) = m' ((c.tc : Thread Cert.RefModResBwdIdeal.nD Cert.RefModResBwdIdeal.τ).loc Cert.RefModResBwdIdeal.main_arg1)
          ∧ r.2.mem ((c.tc : Thread Cert.RefModResBwdIdeal.nD Cert.RefModResBwdIdeal.τ).loc Cert.RefModResBwdIdeal.main_arg2) = m' ((c.tc : Thread Cert.RefModResBwdIdeal.nD Cert.RefModResBwdIdeal.τ).loc Cert.RefModResBwdIdeal.main_arg2)
          ∧ r.2.mem ((c.tc : Thread Cert.RefModResBwdIdeal.nD Cert.RefModResBwdIdeal.τ).loc Cert.RefModResBwdIdeal.main_arg3) = m' ((c.tc : Thread Cert.RefModResBwdIdeal.nD Cert.RefModResBwdIdeal.τ).loc Cert.RefModResBwdIdeal.main_arg3)
          ∧ r.2.mem ((c.tc : Thread Cert.RefModResBwdIdeal.nD Cert.RefModResBwdIdeal.τ).loc Cert.RefModResBwdIdeal.main_arg4) = m' ((c.tc : Thread Cert.RefModResBwdIdeal.nD Cert.RefModResBwdIdeal.τ).loc Cert.RefModResBwdIdeal.main_arg4)
          ∧ r.2.mem ((c.tc : Thread Cert.RefModResBwdIdeal.nD Cert.RefModResBwdIdeal.τ).loc Cert.RefModResBwdIdeal.main_arg5) = m' ((c.tc : Thread Cert.RefModResBwdIdeal.nD Cert.RefModResBwdIdeal.τ).loc Cert.RefModResBwdIdeal.main_arg5)
          ∧ r.2.mem ((c.tc : Thread Cert.RefModResBwdIdeal.nD Cert.RefModResBwdIdeal.τ).loc Cert.RefModResBwdIdeal.main_arg6) = m' ((c.tc : Thread Cert.RefModResBwdIdeal.nD Cert.RefModResBwdIdeal.τ).loc Cert.RefModResBwdIdeal.main_arg6)
          ∧ r.2.mem ((c.tc : Thread Cert.RefModResBwdIdeal.nD Cert.RefModResBwdIdeal.τ).loc Cert.RefModResBwdIdeal.main_arg7) = m' ((c.tc : Thread Cert.RefModResBwdIdeal.nD Cert.RefModResBwdIdeal.τ).loc Cert.RefModResBwdIdeal.main_arg7))

def preserves_MergeBwd_MergeBwdIdeal : Prop :=
  True

def algebraic_MergeBwdIdeal_RefMergeBwdIdeal [hMergeBwdIdeal : Cert.MergeBwdIdeal.Facts] [hRefMergeBwdIdeal : Cert.RefMergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.RefMergeBwdIdeal.nD Cert.RefMergeBwdIdeal.τ Cert.RefMergeBwdIdeal.sig) → Buf (Elt Ideal) ℓ) (g' : Dev Cert.RefMergeBwdIdeal.nD → PrngReg), Pre_MergeBwdIdeal m →
    (∀ c : Dev Cert.MergeBwdIdeal.nD,
      m' ((c.tc : Thread Cert.RefMergeBwdIdeal.nD Cert.RefMergeBwdIdeal.τ).loc Cert.RefMergeBwdIdeal.main_arg0) = m ((c.tc : Thread Cert.MergeBwdIdeal.nD Cert.MergeBwdIdeal.τ).loc Cert.MergeBwdIdeal.main_arg0)
      ∧ m' ((c.tc : Thread Cert.RefMergeBwdIdeal.nD Cert.RefMergeBwdIdeal.τ).loc Cert.RefMergeBwdIdeal.main_arg1) = m ((c.tc : Thread Cert.MergeBwdIdeal.nD Cert.MergeBwdIdeal.τ).loc Cert.MergeBwdIdeal.main_arg1)
      ∧ m' ((c.tc : Thread Cert.RefMergeBwdIdeal.nD Cert.RefMergeBwdIdeal.τ).loc Cert.RefMergeBwdIdeal.main_arg2) = m ((c.tc : Thread Cert.MergeBwdIdeal.nD Cert.MergeBwdIdeal.τ).loc Cert.MergeBwdIdeal.main_arg2)
      ∧ m' ((c.tc : Thread Cert.RefMergeBwdIdeal.nD Cert.RefMergeBwdIdeal.τ).loc Cert.RefMergeBwdIdeal.main_arg3) = m ((c.tc : Thread Cert.MergeBwdIdeal.nD Cert.MergeBwdIdeal.τ).loc Cert.MergeBwdIdeal.main_arg3)
      ∧ m' ((c.tc : Thread Cert.RefMergeBwdIdeal.nD Cert.RefMergeBwdIdeal.τ).loc Cert.RefMergeBwdIdeal.main_arg4) = m ((c.tc : Thread Cert.MergeBwdIdeal.nD Cert.MergeBwdIdeal.τ).loc Cert.MergeBwdIdeal.main_arg4)
      ∧ m' ((c.tc : Thread Cert.RefMergeBwdIdeal.nD Cert.RefMergeBwdIdeal.τ).loc Cert.RefMergeBwdIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v2_0)) (v1 : (c : Dev Cert.MergeBwdIdeal.nD) → Buf (Elt Ideal) ((c.tc : Thread Cert.MergeBwdIdeal.nD Cert.MergeBwdIdeal.τ).loc Cert.MergeBwdIdeal.main_v2_1)) (v2 : (c : Dev Cert.MergeBwdIdeal.nD) → Buf (Elt Ideal) ((c.tc : Thread Cert.MergeBwdIdeal.nD Cert.MergeBwdIdeal.τ).loc Cert.MergeBwdIdeal.main_v2_2)) (v3 : (c : Dev Cert.MergeBwdIdeal.nD) → Buf (Elt Ideal) ((c.tc : Thread Cert.MergeBwdIdeal.nD Cert.MergeBwdIdeal.τ).loc Cert.MergeBwdIdeal.main_v2_3)) (v4 : (c : Dev Cert.MergeBwdIdeal.nD) → Buf (Elt Ideal) ((c.tc : Thread Cert.MergeBwdIdeal.nD Cert.MergeBwdIdeal.τ).loc Cert.MergeBwdIdeal.main_v2_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v2_0) = v0 c
          ∧ r.2.mem ((c.tc : Thread Cert.MergeBwdIdeal.nD Cert.MergeBwdIdeal.τ).loc Cert.MergeBwdIdeal.main_v2_1) = v1 c
          ∧ r.2.mem ((c.tc : Thread Cert.MergeBwdIdeal.nD Cert.MergeBwdIdeal.τ).loc Cert.MergeBwdIdeal.main_v2_2) = v2 c
          ∧ r.2.mem ((c.tc : Thread Cert.MergeBwdIdeal.nD Cert.MergeBwdIdeal.τ).loc Cert.MergeBwdIdeal.main_v2_3) = v3 c
          ∧ r.2.mem ((c.tc : Thread Cert.MergeBwdIdeal.nD Cert.MergeBwdIdeal.τ).loc Cert.MergeBwdIdeal.main_v2_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.RefMergeBwdIdeal.defs (F := Ideal)) (onTc (τ := Cert.RefMergeBwdIdeal.τ) (Cert.RefMergeBwdIdeal.main (F := Ideal))) ⟨m', fun _ => 0, g'⟩ (fun r => ∀ c : Dev Cert.RefMergeBwdIdeal.nD,
          r.2.mem ((c.tc : Thread Cert.RefMergeBwdIdeal.nD Cert.RefMergeBwdIdeal.τ).loc Cert.RefMergeBwdIdeal.main_v97) = v0 c
          ∧ r.2.mem ((c.tc : Thread Cert.RefMergeBwdIdeal.nD Cert.RefMergeBwdIdeal.τ).loc Cert.RefMergeBwdIdeal.main_v101) = v1 c
          ∧ r.2.mem ((c.tc : Thread Cert.RefMergeBwdIdeal.nD Cert.RefMergeBwdIdeal.τ).loc Cert.RefMergeBwdIdeal.main_v99) = v2 c
          ∧ r.2.mem ((c.tc : Thread Cert.RefMergeBwdIdeal.nD Cert.RefMergeBwdIdeal.τ).loc Cert.RefMergeBwdIdeal.main_v102) = v3 c
          ∧ r.2.mem ((c.tc : Thread Cert.RefMergeBwdIdeal.nD Cert.RefMergeBwdIdeal.τ).loc Cert.RefMergeBwdIdeal.main_v103) = v4 c
          ∧ r.2.mem ((c.tc : Thread Cert.RefMergeBwdIdeal.nD Cert.RefMergeBwdIdeal.τ).loc Cert.RefMergeBwdIdeal.main_arg0) = m' ((c.tc : Thread Cert.RefMergeBwdIdeal.nD Cert.RefMergeBwdIdeal.τ).loc Cert.RefMergeBwdIdeal.main_arg0)
          ∧ r.2.mem ((c.tc : Thread Cert.RefMergeBwdIdeal.nD Cert.RefMergeBwdIdeal.τ).loc Cert.RefMergeBwdIdeal.main_arg1) = m' ((c.tc : Thread Cert.RefMergeBwdIdeal.nD Cert.RefMergeBwdIdeal.τ).loc Cert.RefMergeBwdIdeal.main_arg1)
          ∧ r.2.mem ((c.tc : Thread Cert.RefMergeBwdIdeal.nD Cert.RefMergeBwdIdeal.τ).loc Cert.RefMergeBwdIdeal.main_arg2) = m' ((c.tc : Thread Cert.RefMergeBwdIdeal.nD Cert.RefMergeBwdIdeal.τ).loc Cert.RefMergeBwdIdeal.main_arg2)
          ∧ r.2.mem ((c.tc : Thread Cert.RefMergeBwdIdeal.nD Cert.RefMergeBwdIdeal.τ).loc Cert.RefMergeBwdIdeal.main_arg3) = m' ((c.tc : Thread Cert.RefMergeBwdIdeal.nD Cert.RefMergeBwdIdeal.τ).loc Cert.RefMergeBwdIdeal.main_arg3)
          ∧ r.2.mem ((c.tc : Thread Cert.RefMergeBwdIdeal.nD Cert.RefMergeBwdIdeal.τ).loc Cert.RefMergeBwdIdeal.main_arg4) = m' ((c.tc : Thread Cert.RefMergeBwdIdeal.nD Cert.RefMergeBwdIdeal.τ).loc Cert.RefMergeBwdIdeal.main_arg4)
          ∧ r.2.mem ((c.tc : Thread Cert.RefMergeBwdIdeal.nD Cert.RefMergeBwdIdeal.τ).loc Cert.RefMergeBwdIdeal.main_arg5) = m' ((c.tc : Thread Cert.RefMergeBwdIdeal.nD Cert.RefMergeBwdIdeal.τ).loc Cert.RefMergeBwdIdeal.main_arg5))

def preserves_ModFwd_ModFwdIdeal : Prop :=
  True

def algebraic_ModFwdIdeal_RefModFwdIdeal [hModFwdIdeal : Cert.ModFwdIdeal.Facts] [hRefModFwdIdeal : Cert.RefModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.RefModFwdIdeal.nD Cert.RefModFwdIdeal.τ Cert.RefModFwdIdeal.sig) → Buf (Elt Ideal) ℓ) (g' : Dev Cert.RefModFwdIdeal.nD → PrngReg), Pre_ModFwdIdeal m →
    (∀ c : Dev Cert.ModFwdIdeal.nD,
      m' ((c.tc : Thread Cert.RefModFwdIdeal.nD Cert.RefModFwdIdeal.τ).loc Cert.RefModFwdIdeal.main_arg0) = m ((c.tc : Thread Cert.ModFwdIdeal.nD Cert.ModFwdIdeal.τ).loc Cert.ModFwdIdeal.main_arg0)
      ∧ m' ((c.tc : Thread Cert.RefModFwdIdeal.nD Cert.RefModFwdIdeal.τ).loc Cert.RefModFwdIdeal.main_arg1) = m ((c.tc : Thread Cert.ModFwdIdeal.nD Cert.ModFwdIdeal.τ).loc Cert.ModFwdIdeal.main_arg1)
      ∧ m' ((c.tc : Thread Cert.RefModFwdIdeal.nD Cert.RefModFwdIdeal.τ).loc Cert.RefModFwdIdeal.main_arg2) = m ((c.tc : Thread Cert.ModFwdIdeal.nD Cert.ModFwdIdeal.τ).loc Cert.ModFwdIdeal.main_arg2)
      ∧ m' ((c.tc : Thread Cert.RefModFwdIdeal.nD Cert.RefModFwdIdeal.τ).loc Cert.RefModFwdIdeal.main_arg3) = m ((c.tc : Thread Cert.ModFwdIdeal.nD Cert.ModFwdIdeal.τ).loc Cert.ModFwdIdeal.main_arg3)) →
    ∃ (v0 : (c : Dev Cert.ModFwdIdeal.nD) → Buf (Elt Ideal) ((c.tc : Thread Cert.ModFwdIdeal.nD Cert.ModFwdIdeal.τ).loc Cert.ModFwdIdeal.main_v1)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v1) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
          ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ θ_run (Cert.RefModFwdIdeal.defs (F := Ideal)) (onTc (τ := Cert.RefModFwdIdeal.τ) (Cert.RefModFwdIdeal.main (F := Ideal))) ⟨m', fun _ => 0, g'⟩ (fun r => ∀ c : Dev Cert.RefModFwdIdeal.nD,
          r.2.mem ((c.tc : Thread Cert.RefModFwdIdeal.nD Cert.RefModFwdIdeal.τ).loc Cert.RefModFwdIdeal.main_v19) = v0 c
          ∧ r.2.mem ((c.tc : Thread Cert.RefModFwdIdeal.nD Cert.RefModFwdIdeal.τ).loc Cert.RefModFwdIdeal.main_arg0) = m' ((c.tc : Thread Cert.RefModFwdIdeal.nD Cert.RefModFwdIdeal.τ).loc Cert.RefModFwdIdeal.main_arg0)
          ∧ r.2.mem ((c.tc : Thread Cert.RefModFwdIdeal.nD Cert.RefModFwdIdeal.τ).loc Cert.RefModFwdIdeal.main_arg1) = m' ((c.tc : Thread Cert.RefModFwdIdeal.nD Cert.RefModFwdIdeal.τ).loc Cert.RefModFwdIdeal.main_arg1)
          ∧ r.2.mem ((c.tc : Thread Cert.RefModFwdIdeal.nD Cert.RefModFwdIdeal.τ).loc Cert.RefModFwdIdeal.main_arg2) = m' ((c.tc : Thread Cert.RefModFwdIdeal.nD Cert.RefModFwdIdeal.τ).loc Cert.RefModFwdIdeal.main_arg2)
          ∧ r.2.mem ((c.tc : Thread Cert.RefModFwdIdeal.nD Cert.RefModFwdIdeal.τ).loc Cert.RefModFwdIdeal.main_arg3) = m' ((c.tc : Thread Cert.RefModFwdIdeal.nD Cert.RefModFwdIdeal.τ).loc Cert.RefModFwdIdeal.main_arg3))

def preserves_ResModFwd_ResModFwdIdeal : Prop :=
  True

def algebraic_ResModFwdIdeal_RefResModFwdIdeal [hResModFwdIdeal : Cert.ResModFwdIdeal.Facts] [hRefResModFwdIdeal : Cert.RefResModFwdIdeal.Facts] : Prop :=
  ∀ (m : (ℓ : Loc Cert.ResModFwdIdeal.nD Cert.ResModFwdIdeal.τ Cert.ResModFwdIdeal.sig) → Buf (Elt Ideal) ℓ) (g : Dev Cert.ResModFwdIdeal.nD → PrngReg)
    (m' : (ℓ : Loc Cert.RefResModFwdIdeal.nD Cert.RefResModFwdIdeal.τ Cert.RefResModFwdIdeal.sig) → Buf (Elt Ideal) ℓ) (g' : Dev Cert.RefResModFwdIdeal.nD → PrngReg), Pre_ResModFwdIdeal m →
    (∀ c : Dev Cert.ResModFwdIdeal.nD,
      m' ((c.tc : Thread Cert.RefResModFwdIdeal.nD Cert.RefResModFwdIdeal.τ).loc Cert.RefResModFwdIdeal.main_arg0) = m ((c.tc : Thread Cert.ResModFwdIdeal.nD Cert.ResModFwdIdeal.τ).loc Cert.ResModFwdIdeal.main_arg0)
      ∧ m' ((c.tc : Thread Cert.RefResModFwdIdeal.nD Cert.RefResModFwdIdeal.τ).loc Cert.RefResModFwdIdeal.main_arg1) = m ((c.tc : Thread Cert.ResModFwdIdeal.nD Cert.ResModFwdIdeal.τ).loc Cert.ResModFwdIdeal.main_arg1)
      ∧ m' ((c.tc : Thread Cert.RefResModFwdIdeal.nD Cert.RefResModFwdIdeal.τ).loc Cert.RefResModFwdIdeal.main_arg2) = m ((c.tc : Thread Cert.ResModFwdIdeal.nD Cert.ResModFwdIdeal.τ).loc Cert.ResModFwdIdeal.main_arg2)
      ∧ m' ((c.tc : Thread Cert.RefResModFwdIdeal.nD Cert.RefResModFwdIdeal.τ).loc Cert.RefResModFwdIdeal.main_arg3) = m ((c.tc : Thread Cert.ResModFwdIdeal.nD Cert.ResModFwdIdeal.τ).loc Cert.ResModFwdIdeal.main_arg3)
      ∧ m' ((c.tc : Thread Cert.RefResModFwdIdeal.nD Cert.RefResModFwdIdeal.τ).loc Cert.RefResModFwdIdeal.main_arg4) = m ((c.tc : Thread Cert.ResModFwdIdeal.nD Cert.ResModFwdIdeal.τ).loc Cert.ResModFwdIdeal.main_arg4)
      ∧ m' ((c.tc : Thread Cert.RefResModFwdIdeal.nD Cert.RefResModFwdIdeal.τ).loc Cert.RefResModFwdIdeal.main_arg5) = m ((c.tc : Thread Cert.ResModFwdIdeal.nD Cert.ResModFwdIdeal.τ).loc Cert.ResModFwdIdeal.main_arg5)
      ∧ m' ((c.tc : Thread Cert.RefResModFwdIdeal.nD Cert.RefResModFwdIdeal.τ).loc Cert.RefResModFwdIdeal.main_arg6) = m ((c.tc : Thread Cert.ResModFwdIdeal.nD Cert.ResModFwdIdeal.τ).loc Cert.ResModFwdIdeal.main_arg6)) →
    ∃ (v0 : (c : Dev Cert.ResModFwdIdeal.nD) → Buf (Elt Ideal) ((c.tc : Thread Cert.ResModFwdIdeal.nD Cert.ResModFwdIdeal.τ).loc Cert.ResModFwdIdeal.main_v2_0)) (v1 : (c : Dev Cert.ResModFwdIdeal.nD) → Buf (Elt Ideal) ((c.tc : Thread Cert.ResModFwdIdeal.nD Cert.ResModFwdIdeal.τ).loc Cert.ResModFwdIdeal.main_v2_1)),
      θ_run (Cert.ResModFwdIdeal.defs (F := Ideal)) (onTc (τ := Cert.ResModFwdIdeal.τ) (Cert.ResModFwdIdeal.main (F := Ideal))) ⟨m, fun _ => 0, g⟩ (fun r => ∀ c : Dev Cert.ResModFwdIdeal.nD,
          r.2.mem ((c.tc : Thread Cert.ResModFwdIdeal.nD Cert.ResModFwdIdeal.τ).loc Cert.ResModFwdIdeal.main_v2_0) = v0 c
          ∧ r.2.mem ((c.tc : Thread Cert.ResModFwdIdeal.nD Cert.ResModFwdIdeal.τ).loc Cert.ResModFwdIdeal.main_v2_1) = v1 c
          ∧ r.2.mem ((c.tc : Thread Cert.ResModFwdIdeal.nD Cert.ResModFwdIdeal.τ).loc Cert.ResModFwdIdeal.main_arg0) = m ((c.tc : Thread Cert.ResModFwdIdeal.nD Cert.ResModFwdIdeal.τ).loc Cert.ResModFwdIdeal.main_arg0)
          ∧ r.2.mem ((c.tc : Thread Cert.ResModFwdIdeal.nD Cert.ResModFwdIdeal.τ).loc Cert.ResModFwdIdeal.main_arg1) = m ((c.tc : Thread Cert.ResModFwdIdeal.nD Cert.ResModFwdIdeal.τ).loc Cert.ResModFwdIdeal.main_arg1)
          ∧ r.2.mem ((c.tc : Thread Cert.ResModFwdIdeal.nD Cert.ResModFwdIdeal.τ).loc Cert.ResModFwdIdeal.main_arg2) = m ((c.tc : Thread Cert.ResModFwdIdeal.nD Cert.ResModFwdIdeal.τ).loc Cert.ResModFwdIdeal.main_arg2)
          ∧ r.2.mem ((c.tc : Thread Cert.ResModFwdIdeal.nD Cert.ResModFwdIdeal.τ).loc Cert.ResModFwdIdeal.main_arg3) = m ((c.tc : Thread Cert.ResModFwdIdeal.nD Cert.ResModFwdIdeal.τ).loc Cert.ResModFwdIdeal.main_arg3)
          ∧ r.2.mem ((c.tc : Thread Cert.ResModFwdIdeal.nD Cert.ResModFwdIdeal.τ).loc Cert.ResModFwdIdeal.main_arg4) = m ((c.tc : Thread Cert.ResModFwdIdeal.nD Cert.ResModFwdIdeal.τ).loc Cert.ResModFwdIdeal.main_arg4)
          ∧ r.2.mem ((c.tc : Thread Cert.ResModFwdIdeal.nD Cert.ResModFwdIdeal.τ).loc Cert.ResModFwdIdeal.main_arg5) = m ((c.tc : Thread Cert.ResModFwdIdeal.nD Cert.ResModFwdIdeal.τ).loc Cert.ResModFwdIdeal.main_arg5)
          ∧ r.2.mem ((c.tc : Thread Cert.ResModFwdIdeal.nD Cert.ResModFwdIdeal.τ).loc Cert.ResModFwdIdeal.main_arg6) = m ((c.tc : Thread Cert.ResModFwdIdeal.nD Cert.ResModFwdIdeal.τ).loc Cert.ResModFwdIdeal.main_arg6))
      ∧ θ_run (Cert.RefResModFwdIdeal.defs (F := Ideal)) (onTc (τ := Cert.RefResModFwdIdeal.τ) (Cert.RefResModFwdIdeal.main (F := Ideal))) ⟨m', fun _ => 0, g'⟩ (fun r => ∀ c : Dev Cert.RefResModFwdIdeal.nD,
          r.2.mem ((c.tc : Thread Cert.RefResModFwdIdeal.nD Cert.RefResModFwdIdeal.τ).loc Cert.RefResModFwdIdeal.main_v17) = v0 c
          ∧ r.2.mem ((c.tc : Thread Cert.RefResModFwdIdeal.nD Cert.RefResModFwdIdeal.τ).loc Cert.RefResModFwdIdeal.main_v37) = v1 c
          ∧ r.2.mem ((c.tc : Thread Cert.RefResModFwdIdeal.nD Cert.RefResModFwdIdeal.τ).loc Cert.RefResModFwdIdeal.main_arg0) = m' ((c.tc : Thread Cert.RefResModFwdIdeal.nD Cert.RefResModFwdIdeal.τ).loc Cert.RefResModFwdIdeal.main_arg0)
          ∧ r.2.mem ((c.tc : Thread Cert.RefResModFwdIdeal.nD Cert.RefResModFwdIdeal.τ).loc Cert.RefResModFwdIdeal.main_arg1) = m' ((c.tc : Thread Cert.RefResModFwdIdeal.nD Cert.RefResModFwdIdeal.τ).loc Cert.RefResModFwdIdeal.main_arg1)
          ∧ r.2.mem ((c.tc : Thread Cert.RefResModFwdIdeal.nD Cert.RefResModFwdIdeal.τ).loc Cert.RefResModFwdIdeal.main_arg2) = m' ((c.tc : Thread Cert.RefResModFwdIdeal.nD Cert.RefResModFwdIdeal.τ).loc Cert.RefResModFwdIdeal.main_arg2)
          ∧ r.2.mem ((c.tc : Thread Cert.RefResModFwdIdeal.nD Cert.RefResModFwdIdeal.τ).loc Cert.RefResModFwdIdeal.main_arg3) = m' ((c.tc : Thread Cert.RefResModFwdIdeal.nD Cert.RefResModFwdIdeal.τ).loc Cert.RefResModFwdIdeal.main_arg3)
          ∧ r.2.mem ((c.tc : Thread Cert.RefResModFwdIdeal.nD Cert.RefResModFwdIdeal.τ).loc Cert.RefResModFwdIdeal.main_arg4) = m' ((c.tc : Thread Cert.RefResModFwdIdeal.nD Cert.RefResModFwdIdeal.τ).loc Cert.RefResModFwdIdeal.main_arg4)
          ∧ r.2.mem ((c.tc : Thread Cert.RefResModFwdIdeal.nD Cert.RefResModFwdIdeal.τ).loc Cert.RefResModFwdIdeal.main_arg5) = m' ((c.tc : Thread Cert.RefResModFwdIdeal.nD Cert.RefResModFwdIdeal.τ).loc Cert.RefResModFwdIdeal.main_arg5)
          ∧ r.2.mem ((c.tc : Thread Cert.RefResModFwdIdeal.nD Cert.RefResModFwdIdeal.τ).loc Cert.RefResModFwdIdeal.main_arg6) = m' ((c.tc : Thread Cert.RefResModFwdIdeal.nD Cert.RefResModFwdIdeal.τ).loc Cert.RefResModFwdIdeal.main_arg6))

def preserves_ResLoss_ResLossIdeal : Prop :=
  True

def algebraic_ResLossIdeal_RefResLossIdeal [hResLossIdeal : Cert.ResLossIdeal.Facts] [hRefResLossIdeal : Cert.RefResLossIdeal.Facts] : Prop :=
  ∀ (m : (ℓ : Loc Cert.ResLossIdeal.nD Cert.ResLossIdeal.τ Cert.ResLossIdeal.sig) → Buf (Elt Ideal) ℓ) (g : Dev Cert.ResLossIdeal.nD → PrngReg)
    (m' : (ℓ : Loc Cert.RefResLossIdeal.nD Cert.RefResLossIdeal.τ Cert.RefResLossIdeal.sig) → Buf (Elt Ideal) ℓ) (g' : Dev Cert.RefResLossIdeal.nD → PrngReg), Pre_ResLossIdeal m →
    (∀ c : Dev Cert.ResLossIdeal.nD,
      m' ((c.tc : Thread Cert.RefResLossIdeal.nD Cert.RefResLossIdeal.τ).loc Cert.RefResLossIdeal.main_arg0) = m ((c.tc : Thread Cert.ResLossIdeal.nD Cert.ResLossIdeal.τ).loc Cert.ResLossIdeal.main_arg0)
      ∧ m' ((c.tc : Thread Cert.RefResLossIdeal.nD Cert.RefResLossIdeal.τ).loc Cert.RefResLossIdeal.main_arg1) = m ((c.tc : Thread Cert.ResLossIdeal.nD Cert.ResLossIdeal.τ).loc Cert.ResLossIdeal.main_arg1)
      ∧ m' ((c.tc : Thread Cert.RefResLossIdeal.nD Cert.RefResLossIdeal.τ).loc Cert.RefResLossIdeal.main_arg2) = m ((c.tc : Thread Cert.ResLossIdeal.nD Cert.ResLossIdeal.τ).loc Cert.ResLossIdeal.main_arg2)
      ∧ m' ((c.tc : Thread Cert.RefResLossIdeal.nD Cert.RefResLossIdeal.τ).loc Cert.RefResLossIdeal.main_arg3) = m ((c.tc : Thread Cert.ResLossIdeal.nD Cert.ResLossIdeal.τ).loc Cert.ResLossIdeal.main_arg3)
      ∧ m' ((c.tc : Thread Cert.RefResLossIdeal.nD Cert.RefResLossIdeal.τ).loc Cert.RefResLossIdeal.main_arg4) = m ((c.tc : Thread Cert.ResLossIdeal.nD Cert.ResLossIdeal.τ).loc Cert.ResLossIdeal.main_arg4)) →
    ∃ (v0 : (c : Dev Cert.ResLossIdeal.nD) → Buf (Elt Ideal) ((c.tc : Thread Cert.ResLossIdeal.nD Cert.ResLossIdeal.τ).loc Cert.ResLossIdeal.main_v1_0)) (v1 : (c : Dev Cert.ResLossIdeal.nD) → Buf (Elt Ideal) ((c.tc : Thread Cert.ResLossIdeal.nD Cert.ResLossIdeal.τ).loc Cert.ResLossIdeal.main_v1_1)),
      θ_run (Cert.ResLossIdeal.defs (F := Ideal)) (onTc (τ := Cert.ResLossIdeal.τ) (Cert.ResLossIdeal.main (F := Ideal))) ⟨m, fun _ => 0, g⟩ (fun r => ∀ c : Dev Cert.ResLossIdeal.nD,
          r.2.mem ((c.tc : Thread Cert.ResLossIdeal.nD Cert.ResLossIdeal.τ).loc Cert.ResLossIdeal.main_v1_0) = v0 c
          ∧ r.2.mem ((c.tc : Thread Cert.ResLossIdeal.nD Cert.ResLossIdeal.τ).loc Cert.ResLossIdeal.main_v1_1) = v1 c
          ∧ r.2.mem ((c.tc : Thread Cert.ResLossIdeal.nD Cert.ResLossIdeal.τ).loc Cert.ResLossIdeal.main_arg0) = m ((c.tc : Thread Cert.ResLossIdeal.nD Cert.ResLossIdeal.τ).loc Cert.ResLossIdeal.main_arg0)
          ∧ r.2.mem ((c.tc : Thread Cert.ResLossIdeal.nD Cert.ResLossIdeal.τ).loc Cert.ResLossIdeal.main_arg1) = m ((c.tc : Thread Cert.ResLossIdeal.nD Cert.ResLossIdeal.τ).loc Cert.ResLossIdeal.main_arg1)
          ∧ r.2.mem ((c.tc : Thread Cert.ResLossIdeal.nD Cert.ResLossIdeal.τ).loc Cert.ResLossIdeal.main_arg2) = m ((c.tc : Thread Cert.ResLossIdeal.nD Cert.ResLossIdeal.τ).loc Cert.ResLossIdeal.main_arg2)
          ∧ r.2.mem ((c.tc : Thread Cert.ResLossIdeal.nD Cert.ResLossIdeal.τ).loc Cert.ResLossIdeal.main_arg3) = m ((c.tc : Thread Cert.ResLossIdeal.nD Cert.ResLossIdeal.τ).loc Cert.ResLossIdeal.main_arg3)
          ∧ r.2.mem ((c.tc : Thread Cert.ResLossIdeal.nD Cert.ResLossIdeal.τ).loc Cert.ResLossIdeal.main_arg4) = m ((c.tc : Thread Cert.ResLossIdeal.nD Cert.ResLossIdeal.τ).loc Cert.ResLossIdeal.main_arg4))
      ∧ θ_run (Cert.RefResLossIdeal.defs (F := Ideal)) (onTc (τ := Cert.RefResLossIdeal.τ) (Cert.RefResLossIdeal.main (F := Ideal))) ⟨m', fun _ => 0, g'⟩ (fun r => ∀ c : Dev Cert.RefResLossIdeal.nD,
          r.2.mem ((c.tc : Thread Cert.RefResLossIdeal.nD Cert.RefResLossIdeal.τ).loc Cert.RefResLossIdeal.main_v32) = v0 c
          ∧ r.2.mem ((c.tc : Thread Cert.RefResLossIdeal.nD Cert.RefResLossIdeal.τ).loc Cert.RefResLossIdeal.main_v33) = v1 c
          ∧ r.2.mem ((c.tc : Thread Cert.RefResLossIdeal.nD Cert.RefResLossIdeal.τ).loc Cert.RefResLossIdeal.main_arg0) = m' ((c.tc : Thread Cert.RefResLossIdeal.nD Cert.RefResLossIdeal.τ).loc Cert.RefResLossIdeal.main_arg0)
          ∧ r.2.mem ((c.tc : Thread Cert.RefResLossIdeal.nD Cert.RefResLossIdeal.τ).loc Cert.RefResLossIdeal.main_arg1) = m' ((c.tc : Thread Cert.RefResLossIdeal.nD Cert.RefResLossIdeal.τ).loc Cert.RefResLossIdeal.main_arg1)
          ∧ r.2.mem ((c.tc : Thread Cert.RefResLossIdeal.nD Cert.RefResLossIdeal.τ).loc Cert.RefResLossIdeal.main_arg2) = m' ((c.tc : Thread Cert.RefResLossIdeal.nD Cert.RefResLossIdeal.τ).loc Cert.RefResLossIdeal.main_arg2)
          ∧ r.2.mem ((c.tc : Thread Cert.RefResLossIdeal.nD Cert.RefResLossIdeal.τ).loc Cert.RefResLossIdeal.main_arg3) = m' ((c.tc : Thread Cert.RefResLossIdeal.nD Cert.RefResLossIdeal.τ).loc Cert.RefResLossIdeal.main_arg3)
          ∧ r.2.mem ((c.tc : Thread Cert.RefResLossIdeal.nD Cert.RefResLossIdeal.τ).loc Cert.RefResLossIdeal.main_arg4) = m' ((c.tc : Thread Cert.RefResLossIdeal.nD Cert.RefResLossIdeal.τ).loc Cert.RefResLossIdeal.main_arg4))

def preserves_MergeFwd_MergeFwdIdeal : Prop :=
  True

def algebraic_MergeFwdIdeal_RefMergeFwdIdeal [hMergeFwdIdeal : Cert.MergeFwdIdeal.Facts] [hRefMergeFwdIdeal : Cert.RefMergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.RefMergeFwdIdeal.nD Cert.RefMergeFwdIdeal.τ Cert.RefMergeFwdIdeal.sig) → Buf (Elt Ideal) ℓ) (g' : Dev Cert.RefMergeFwdIdeal.nD → PrngReg), Pre_MergeFwdIdeal m →
    (∀ c : Dev Cert.MergeFwdIdeal.nD,
      m' ((c.tc : Thread Cert.RefMergeFwdIdeal.nD Cert.RefMergeFwdIdeal.τ).loc Cert.RefMergeFwdIdeal.main_arg0) = m ((c.tc : Thread Cert.MergeFwdIdeal.nD Cert.MergeFwdIdeal.τ).loc Cert.MergeFwdIdeal.main_arg0)
      ∧ m' ((c.tc : Thread Cert.RefMergeFwdIdeal.nD Cert.RefMergeFwdIdeal.τ).loc Cert.RefMergeFwdIdeal.main_arg1) = m ((c.tc : Thread Cert.MergeFwdIdeal.nD Cert.MergeFwdIdeal.τ).loc Cert.MergeFwdIdeal.main_arg1)
      ∧ m' ((c.tc : Thread Cert.RefMergeFwdIdeal.nD Cert.RefMergeFwdIdeal.τ).loc Cert.RefMergeFwdIdeal.main_arg2) = m ((c.tc : Thread Cert.MergeFwdIdeal.nD Cert.MergeFwdIdeal.τ).loc Cert.MergeFwdIdeal.main_arg2)
      ∧ m' ((c.tc : Thread Cert.RefMergeFwdIdeal.nD Cert.RefMergeFwdIdeal.τ).loc Cert.RefMergeFwdIdeal.main_arg3) = m ((c.tc : Thread Cert.MergeFwdIdeal.nD Cert.MergeFwdIdeal.τ).loc Cert.MergeFwdIdeal.main_arg3)
      ∧ m' ((c.tc : Thread Cert.RefMergeFwdIdeal.nD Cert.RefMergeFwdIdeal.τ).loc Cert.RefMergeFwdIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v2) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.RefMergeFwdIdeal.defs (F := Ideal)) (onTc (τ := Cert.RefMergeFwdIdeal.τ) (Cert.RefMergeFwdIdeal.main (F := Ideal))) ⟨m', fun _ => 0, g'⟩ (fun r => ∀ c : Dev Cert.RefMergeFwdIdeal.nD,
          r.2.mem ((c.tc : Thread Cert.RefMergeFwdIdeal.nD Cert.RefMergeFwdIdeal.τ).loc Cert.RefMergeFwdIdeal.main_v47) = v0 c
          ∧ r.2.mem ((c.tc : Thread Cert.RefMergeFwdIdeal.nD Cert.RefMergeFwdIdeal.τ).loc Cert.RefMergeFwdIdeal.main_arg0) = m' ((c.tc : Thread Cert.RefMergeFwdIdeal.nD Cert.RefMergeFwdIdeal.τ).loc Cert.RefMergeFwdIdeal.main_arg0)
          ∧ r.2.mem ((c.tc : Thread Cert.RefMergeFwdIdeal.nD Cert.RefMergeFwdIdeal.τ).loc Cert.RefMergeFwdIdeal.main_arg1) = m' ((c.tc : Thread Cert.RefMergeFwdIdeal.nD Cert.RefMergeFwdIdeal.τ).loc Cert.RefMergeFwdIdeal.main_arg1)
          ∧ r.2.mem ((c.tc : Thread Cert.RefMergeFwdIdeal.nD Cert.RefMergeFwdIdeal.τ).loc Cert.RefMergeFwdIdeal.main_arg2) = m' ((c.tc : Thread Cert.RefMergeFwdIdeal.nD Cert.RefMergeFwdIdeal.τ).loc Cert.RefMergeFwdIdeal.main_arg2)
          ∧ r.2.mem ((c.tc : Thread Cert.RefMergeFwdIdeal.nD Cert.RefMergeFwdIdeal.τ).loc Cert.RefMergeFwdIdeal.main_arg3) = m' ((c.tc : Thread Cert.RefMergeFwdIdeal.nD Cert.RefMergeFwdIdeal.τ).loc Cert.RefMergeFwdIdeal.main_arg3)
          ∧ r.2.mem ((c.tc : Thread Cert.RefMergeFwdIdeal.nD Cert.RefMergeFwdIdeal.τ).loc Cert.RefMergeFwdIdeal.main_arg4) = m' ((c.tc : Thread Cert.RefMergeFwdIdeal.nD Cert.RefMergeFwdIdeal.τ).loc Cert.RefMergeFwdIdeal.main_arg4))

def preserves_AdaFwd_AdaFwdIdeal : Prop :=
  True

def algebraic_AdaFwdIdeal_RefAdaFwdIdeal [hAdaFwdIdeal : Cert.AdaFwdIdeal.Facts] [hRefAdaFwdIdeal : Cert.RefAdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.RefAdaFwdIdeal.nD Cert.RefAdaFwdIdeal.τ Cert.RefAdaFwdIdeal.sig) → Buf (Elt Ideal) ℓ) (g' : Dev Cert.RefAdaFwdIdeal.nD → PrngReg), Pre_AdaFwdIdeal m →
    (∀ c : Dev Cert.AdaFwdIdeal.nD,
      m' ((c.tc : Thread Cert.RefAdaFwdIdeal.nD Cert.RefAdaFwdIdeal.τ).loc Cert.RefAdaFwdIdeal.main_arg0) = m ((c.tc : Thread Cert.AdaFwdIdeal.nD Cert.AdaFwdIdeal.τ).loc Cert.AdaFwdIdeal.main_arg0)
      ∧ m' ((c.tc : Thread Cert.RefAdaFwdIdeal.nD Cert.RefAdaFwdIdeal.τ).loc Cert.RefAdaFwdIdeal.main_arg1) = m ((c.tc : Thread Cert.AdaFwdIdeal.nD Cert.AdaFwdIdeal.τ).loc Cert.AdaFwdIdeal.main_arg1)
      ∧ m' ((c.tc : Thread Cert.RefAdaFwdIdeal.nD Cert.RefAdaFwdIdeal.τ).loc Cert.RefAdaFwdIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0_0)) (v1 : (c : Dev Cert.AdaFwdIdeal.nD) → Buf (Elt Ideal) ((c.tc : Thread Cert.AdaFwdIdeal.nD Cert.AdaFwdIdeal.τ).loc Cert.AdaFwdIdeal.main_v0_1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0_0) = v0 c
          ∧ r.2.mem ((c.tc : Thread Cert.AdaFwdIdeal.nD Cert.AdaFwdIdeal.τ).loc Cert.AdaFwdIdeal.main_v0_1) = v1 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.RefAdaFwdIdeal.defs (F := Ideal)) (onTc (τ := Cert.RefAdaFwdIdeal.τ) (Cert.RefAdaFwdIdeal.main (F := Ideal))) ⟨m', fun _ => 0, g'⟩ (fun r => ∀ c : Dev Cert.RefAdaFwdIdeal.nD,
          r.2.mem ((c.tc : Thread Cert.RefAdaFwdIdeal.nD Cert.RefAdaFwdIdeal.τ).loc Cert.RefAdaFwdIdeal.main_v17) = v0 c
          ∧ r.2.mem ((c.tc : Thread Cert.RefAdaFwdIdeal.nD Cert.RefAdaFwdIdeal.τ).loc Cert.RefAdaFwdIdeal.main_v0) = v1 c
          ∧ r.2.mem ((c.tc : Thread Cert.RefAdaFwdIdeal.nD Cert.RefAdaFwdIdeal.τ).loc Cert.RefAdaFwdIdeal.main_arg0) = m' ((c.tc : Thread Cert.RefAdaFwdIdeal.nD Cert.RefAdaFwdIdeal.τ).loc Cert.RefAdaFwdIdeal.main_arg0)
          ∧ r.2.mem ((c.tc : Thread Cert.RefAdaFwdIdeal.nD Cert.RefAdaFwdIdeal.τ).loc Cert.RefAdaFwdIdeal.main_arg1) = m' ((c.tc : Thread Cert.RefAdaFwdIdeal.nD Cert.RefAdaFwdIdeal.τ).loc Cert.RefAdaFwdIdeal.main_arg1)
          ∧ r.2.mem ((c.tc : Thread Cert.RefAdaFwdIdeal.nD Cert.RefAdaFwdIdeal.τ).loc Cert.RefAdaFwdIdeal.main_arg2) = m' ((c.tc : Thread Cert.RefAdaFwdIdeal.nD Cert.RefAdaFwdIdeal.τ).loc Cert.RefAdaFwdIdeal.main_arg2))

def preserves_AdaDw_AdaDwIdeal : Prop :=
  True

def algebraic_AdaDwIdeal_RefAdaDwIdeal [hAdaDwIdeal : Cert.AdaDwIdeal.Facts] [hRefAdaDwIdeal : Cert.RefAdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.RefAdaDwIdeal.nD Cert.RefAdaDwIdeal.τ Cert.RefAdaDwIdeal.sig) → Buf (Elt Ideal) ℓ) (g' : Dev Cert.RefAdaDwIdeal.nD → PrngReg), Pre_AdaDwIdeal m →
    (∀ c : Dev Cert.AdaDwIdeal.nD,
      m' ((c.tc : Thread Cert.RefAdaDwIdeal.nD Cert.RefAdaDwIdeal.τ).loc Cert.RefAdaDwIdeal.main_arg0) = m ((c.tc : Thread Cert.AdaDwIdeal.nD Cert.AdaDwIdeal.τ).loc Cert.AdaDwIdeal.main_arg0)
      ∧ m' ((c.tc : Thread Cert.RefAdaDwIdeal.nD Cert.RefAdaDwIdeal.τ).loc Cert.RefAdaDwIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.RefAdaDwIdeal.defs (F := Ideal)) (onTc (τ := Cert.RefAdaDwIdeal.τ) (Cert.RefAdaDwIdeal.main (F := Ideal))) ⟨m', fun _ => 0, g'⟩ (fun r => ∀ c : Dev Cert.RefAdaDwIdeal.nD,
          r.2.mem ((c.tc : Thread Cert.RefAdaDwIdeal.nD Cert.RefAdaDwIdeal.τ).loc Cert.RefAdaDwIdeal.main_v32) = v0 c
          ∧ r.2.mem ((c.tc : Thread Cert.RefAdaDwIdeal.nD Cert.RefAdaDwIdeal.τ).loc Cert.RefAdaDwIdeal.main_arg0) = m' ((c.tc : Thread Cert.RefAdaDwIdeal.nD Cert.RefAdaDwIdeal.τ).loc Cert.RefAdaDwIdeal.main_arg0)
          ∧ r.2.mem ((c.tc : Thread Cert.RefAdaDwIdeal.nD Cert.RefAdaDwIdeal.τ).loc Cert.RefAdaDwIdeal.main_arg1) = m' ((c.tc : Thread Cert.RefAdaDwIdeal.nD Cert.RefAdaDwIdeal.τ).loc Cert.RefAdaDwIdeal.main_arg1))

def preserves_GateFwd_GateFwdIdeal : Prop :=
  True

def algebraic_GateFwdIdeal_RefGateFwdIdeal [hGateFwdIdeal : Cert.GateFwdIdeal.Facts] [hRefGateFwdIdeal : Cert.RefGateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.RefGateFwdIdeal.nD Cert.RefGateFwdIdeal.τ Cert.RefGateFwdIdeal.sig) → Buf (Elt Ideal) ℓ) (g' : Dev Cert.RefGateFwdIdeal.nD → PrngReg), Pre_GateFwdIdeal m →
    (∀ c : Dev Cert.GateFwdIdeal.nD,
      m' ((c.tc : Thread Cert.RefGateFwdIdeal.nD Cert.RefGateFwdIdeal.τ).loc Cert.RefGateFwdIdeal.main_arg0) = m ((c.tc : Thread Cert.GateFwdIdeal.nD Cert.GateFwdIdeal.τ).loc Cert.GateFwdIdeal.main_arg0)
      ∧ m' ((c.tc : Thread Cert.RefGateFwdIdeal.nD Cert.RefGateFwdIdeal.τ).loc Cert.RefGateFwdIdeal.main_arg1) = m ((c.tc : Thread Cert.GateFwdIdeal.nD Cert.GateFwdIdeal.τ).loc Cert.GateFwdIdeal.main_arg1)
      ∧ m' ((c.tc : Thread Cert.RefGateFwdIdeal.nD Cert.RefGateFwdIdeal.τ).loc Cert.RefGateFwdIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v1) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.RefGateFwdIdeal.defs (F := Ideal)) (onTc (τ := Cert.RefGateFwdIdeal.τ) (Cert.RefGateFwdIdeal.main (F := Ideal))) ⟨m', fun _ => 0, g'⟩ (fun r => ∀ c : Dev Cert.RefGateFwdIdeal.nD,
          r.2.mem ((c.tc : Thread Cert.RefGateFwdIdeal.nD Cert.RefGateFwdIdeal.τ).loc Cert.RefGateFwdIdeal.main_v44) = v0 c
          ∧ r.2.mem ((c.tc : Thread Cert.RefGateFwdIdeal.nD Cert.RefGateFwdIdeal.τ).loc Cert.RefGateFwdIdeal.main_arg0) = m' ((c.tc : Thread Cert.RefGateFwdIdeal.nD Cert.RefGateFwdIdeal.τ).loc Cert.RefGateFwdIdeal.main_arg0)
          ∧ r.2.mem ((c.tc : Thread Cert.RefGateFwdIdeal.nD Cert.RefGateFwdIdeal.τ).loc Cert.RefGateFwdIdeal.main_arg1) = m' ((c.tc : Thread Cert.RefGateFwdIdeal.nD Cert.RefGateFwdIdeal.τ).loc Cert.RefGateFwdIdeal.main_arg1)
          ∧ r.2.mem ((c.tc : Thread Cert.RefGateFwdIdeal.nD Cert.RefGateFwdIdeal.τ).loc Cert.RefGateFwdIdeal.main_arg2) = m' ((c.tc : Thread Cert.RefGateFwdIdeal.nD Cert.RefGateFwdIdeal.τ).loc Cert.RefGateFwdIdeal.main_arg2))

def preserves_AdamWIn_AdamWInIdeal : Prop :=
  IdealRules.named_const.Statement Cert.AdamWInIdeal.κ "adam_c1" .f32 0x3FC48605#32 ((8388608 / 5463681 : ℝ) : EReal)
  ∧ IdealRules.named_const.Statement Cert.AdamWInIdeal.κ "adam_c2" .f32 0x42C8E6D3#32 ((268435456 / 2672307 : ℝ) : EReal)

def algebraic_AdamWInIdeal_RefAdamWInIdeal [hAdamWInIdeal : Cert.AdamWInIdeal.Facts] [hRefAdamWInIdeal : Cert.RefAdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.RefAdamWInIdeal.nD Cert.RefAdamWInIdeal.τ Cert.RefAdamWInIdeal.sig) → Buf (Elt Ideal) ℓ) (g' : Dev Cert.RefAdamWInIdeal.nD → PrngReg), Pre_AdamWInIdeal m →
    (∀ c : Dev Cert.AdamWInIdeal.nD,
      m' ((c.tc : Thread Cert.RefAdamWInIdeal.nD Cert.RefAdamWInIdeal.τ).loc Cert.RefAdamWInIdeal.main_arg0) = m ((c.tc : Thread Cert.AdamWInIdeal.nD Cert.AdamWInIdeal.τ).loc Cert.AdamWInIdeal.main_arg0)
      ∧ m' ((c.tc : Thread Cert.RefAdamWInIdeal.nD Cert.RefAdamWInIdeal.τ).loc Cert.RefAdamWInIdeal.main_arg1) = m ((c.tc : Thread Cert.AdamWInIdeal.nD Cert.AdamWInIdeal.τ).loc Cert.AdamWInIdeal.main_arg1)
      ∧ m' ((c.tc : Thread Cert.RefAdamWInIdeal.nD Cert.RefAdamWInIdeal.τ).loc Cert.RefAdamWInIdeal.main_arg2) = m ((c.tc : Thread Cert.AdamWInIdeal.nD Cert.AdamWInIdeal.τ).loc Cert.AdamWInIdeal.main_arg2)
      ∧ m' ((c.tc : Thread Cert.RefAdamWInIdeal.nD Cert.RefAdamWInIdeal.τ).loc Cert.RefAdamWInIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.RefAdamWInIdeal.defs (F := Ideal)) (onTc (τ := Cert.RefAdamWInIdeal.τ) (Cert.RefAdamWInIdeal.main (F := Ideal))) ⟨m', fun _ => 0, g'⟩ (fun r => ∀ c : Dev Cert.RefAdamWInIdeal.nD,
          r.2.mem ((c.tc : Thread Cert.RefAdamWInIdeal.nD Cert.RefAdamWInIdeal.τ).loc Cert.RefAdamWInIdeal.main_v23) = v0 c
          ∧ r.2.mem ((c.tc : Thread Cert.RefAdamWInIdeal.nD Cert.RefAdamWInIdeal.τ).loc Cert.RefAdamWInIdeal.main_v4) = v1 c
          ∧ r.2.mem ((c.tc : Thread Cert.RefAdamWInIdeal.nD Cert.RefAdamWInIdeal.τ).loc Cert.RefAdamWInIdeal.main_v10) = v2 c
          ∧ r.2.mem ((c.tc : Thread Cert.RefAdamWInIdeal.nD Cert.RefAdamWInIdeal.τ).loc Cert.RefAdamWInIdeal.main_arg0) = m' ((c.tc : Thread Cert.RefAdamWInIdeal.nD Cert.RefAdamWInIdeal.τ).loc Cert.RefAdamWInIdeal.main_arg0)
          ∧ r.2.mem ((c.tc : Thread Cert.RefAdamWInIdeal.nD Cert.RefAdamWInIdeal.τ).loc Cert.RefAdamWInIdeal.main_arg1) = m' ((c.tc : Thread Cert.RefAdamWInIdeal.nD Cert.RefAdamWInIdeal.τ).loc Cert.RefAdamWInIdeal.main_arg1)
          ∧ r.2.mem ((c.tc : Thread Cert.RefAdamWInIdeal.nD Cert.RefAdamWInIdeal.τ).loc Cert.RefAdamWInIdeal.main_arg2) = m' ((c.tc : Thread Cert.RefAdamWInIdeal.nD Cert.RefAdamWInIdeal.τ).loc Cert.RefAdamWInIdeal.main_arg2)
          ∧ r.2.mem ((c.tc : Thread Cert.RefAdamWInIdeal.nD Cert.RefAdamWInIdeal.τ).loc Cert.RefAdamWInIdeal.main_arg3) = m' ((c.tc : Thread Cert.RefAdamWInIdeal.nD Cert.RefAdamWInIdeal.τ).loc Cert.RefAdamWInIdeal.main_arg3))

def preserves_AdamWGlu_AdamWGluIdeal : Prop :=
  IdealRules.named_const.Statement Cert.AdamWGluIdeal.κ "adam_c1" .f32 0x3FC48605#32 ((8388608 / 5463681 : ℝ) : EReal)
  ∧ IdealRules.named_const.Statement Cert.AdamWGluIdeal.κ "adam_c2" .f32 0x42C8E6D3#32 ((268435456 / 2672307 : ℝ) : EReal)

def algebraic_AdamWGluIdeal_RefAdamWGluIdeal [hAdamWGluIdeal : Cert.AdamWGluIdeal.Facts] [hRefAdamWGluIdeal : Cert.RefAdamWGluIdeal.Facts] : Prop :=
  ∀ (m : (ℓ : Loc Cert.AdamWGluIdeal.nD Cert.AdamWGluIdeal.τ Cert.AdamWGluIdeal.sig) → Buf (Elt Ideal) ℓ) (g : Dev Cert.AdamWGluIdeal.nD → PrngReg)
    (m' : (ℓ : Loc Cert.RefAdamWGluIdeal.nD Cert.RefAdamWGluIdeal.τ Cert.RefAdamWGluIdeal.sig) → Buf (Elt Ideal) ℓ) (g' : Dev Cert.RefAdamWGluIdeal.nD → PrngReg), Pre_AdamWGluIdeal m →
    (∀ c : Dev Cert.AdamWGluIdeal.nD,
      m' ((c.tc : Thread Cert.RefAdamWGluIdeal.nD Cert.RefAdamWGluIdeal.τ).loc Cert.RefAdamWGluIdeal.main_arg0) = m ((c.tc : Thread Cert.AdamWGluIdeal.nD Cert.AdamWGluIdeal.τ).loc Cert.AdamWGluIdeal.main_arg0)
      ∧ m' ((c.tc : Thread Cert.RefAdamWGluIdeal.nD Cert.RefAdamWGluIdeal.τ).loc Cert.RefAdamWGluIdeal.main_arg1) = m ((c.tc : Thread Cert.AdamWGluIdeal.nD Cert.AdamWGluIdeal.τ).loc Cert.AdamWGluIdeal.main_arg1)
      ∧ m' ((c.tc : Thread Cert.RefAdamWGluIdeal.nD Cert.RefAdamWGluIdeal.τ).loc Cert.RefAdamWGluIdeal.main_arg2) = m ((c.tc : Thread Cert.AdamWGluIdeal.nD Cert.AdamWGluIdeal.τ).loc Cert.AdamWGluIdeal.main_arg2)
      ∧ m' ((c.tc : Thread Cert.RefAdamWGluIdeal.nD Cert.RefAdamWGluIdeal.τ).loc Cert.RefAdamWGluIdeal.main_arg3) = m ((c.tc : Thread Cert.AdamWGluIdeal.nD Cert.AdamWGluIdeal.τ).loc Cert.AdamWGluIdeal.main_arg3)) →
    ∃ (v0 : (c : Dev Cert.AdamWGluIdeal.nD) → Buf (Elt Ideal) ((c.tc : Thread Cert.AdamWGluIdeal.nD Cert.AdamWGluIdeal.τ).loc Cert.AdamWGluIdeal.main_v0_0)) (v1 : (c : Dev Cert.AdamWGluIdeal.nD) → Buf (Elt Ideal) ((c.tc : Thread Cert.AdamWGluIdeal.nD Cert.AdamWGluIdeal.τ).loc Cert.AdamWGluIdeal.main_v0_1)) (v2 : (c : Dev Cert.AdamWGluIdeal.nD) → Buf (Elt Ideal) ((c.tc : Thread Cert.AdamWGluIdeal.nD Cert.AdamWGluIdeal.τ).loc Cert.AdamWGluIdeal.main_v0_2)),
      θ_run (Cert.AdamWGluIdeal.defs (F := Ideal)) (onTc (τ := Cert.AdamWGluIdeal.τ) (Cert.AdamWGluIdeal.main (F := Ideal))) ⟨m, fun _ => 0, g⟩ (fun r => ∀ c : Dev Cert.AdamWGluIdeal.nD,
          r.2.mem ((c.tc : Thread Cert.AdamWGluIdeal.nD Cert.AdamWGluIdeal.τ).loc Cert.AdamWGluIdeal.main_v0_0) = v0 c
          ∧ r.2.mem ((c.tc : Thread Cert.AdamWGluIdeal.nD Cert.AdamWGluIdeal.τ).loc Cert.AdamWGluIdeal.main_v0_1) = v1 c
          ∧ r.2.mem ((c.tc : Thread Cert.AdamWGluIdeal.nD Cert.AdamWGluIdeal.τ).loc Cert.AdamWGluIdeal.main_v0_2) = v2 c
          ∧ r.2.mem ((c.tc : Thread Cert.AdamWGluIdeal.nD Cert.AdamWGluIdeal.τ).loc Cert.AdamWGluIdeal.main_arg0) = m ((c.tc : Thread Cert.AdamWGluIdeal.nD Cert.AdamWGluIdeal.τ).loc Cert.AdamWGluIdeal.main_arg0)
          ∧ r.2.mem ((c.tc : Thread Cert.AdamWGluIdeal.nD Cert.AdamWGluIdeal.τ).loc Cert.AdamWGluIdeal.main_arg1) = m ((c.tc : Thread Cert.AdamWGluIdeal.nD Cert.AdamWGluIdeal.τ).loc Cert.AdamWGluIdeal.main_arg1)
          ∧ r.2.mem ((c.tc : Thread Cert.AdamWGluIdeal.nD Cert.AdamWGluIdeal.τ).loc Cert.AdamWGluIdeal.main_arg2) = m ((c.tc : Thread Cert.AdamWGluIdeal.nD Cert.AdamWGluIdeal.τ).loc Cert.AdamWGluIdeal.main_arg2)
          ∧ r.2.mem ((c.tc : Thread Cert.AdamWGluIdeal.nD Cert.AdamWGluIdeal.τ).loc Cert.AdamWGluIdeal.main_arg3) = m ((c.tc : Thread Cert.AdamWGluIdeal.nD Cert.AdamWGluIdeal.τ).loc Cert.AdamWGluIdeal.main_arg3))
      ∧ θ_run (Cert.RefAdamWGluIdeal.defs (F := Ideal)) (onTc (τ := Cert.RefAdamWGluIdeal.τ) (Cert.RefAdamWGluIdeal.main (F := Ideal))) ⟨m', fun _ => 0, g'⟩ (fun r => ∀ c : Dev Cert.RefAdamWGluIdeal.nD,
          r.2.mem ((c.tc : Thread Cert.RefAdamWGluIdeal.nD Cert.RefAdamWGluIdeal.τ).loc Cert.RefAdamWGluIdeal.main_v23) = v0 c
          ∧ r.2.mem ((c.tc : Thread Cert.RefAdamWGluIdeal.nD Cert.RefAdamWGluIdeal.τ).loc Cert.RefAdamWGluIdeal.main_v4) = v1 c
          ∧ r.2.mem ((c.tc : Thread Cert.RefAdamWGluIdeal.nD Cert.RefAdamWGluIdeal.τ).loc Cert.RefAdamWGluIdeal.main_v10) = v2 c
          ∧ r.2.mem ((c.tc : Thread Cert.RefAdamWGluIdeal.nD Cert.RefAdamWGluIdeal.τ).loc Cert.RefAdamWGluIdeal.main_arg0) = m' ((c.tc : Thread Cert.RefAdamWGluIdeal.nD Cert.RefAdamWGluIdeal.τ).loc Cert.RefAdamWGluIdeal.main_arg0)
          ∧ r.2.mem ((c.tc : Thread Cert.RefAdamWGluIdeal.nD Cert.RefAdamWGluIdeal.τ).loc Cert.RefAdamWGluIdeal.main_arg1) = m' ((c.tc : Thread Cert.RefAdamWGluIdeal.nD Cert.RefAdamWGluIdeal.τ).loc Cert.RefAdamWGluIdeal.main_arg1)
          ∧ r.2.mem ((c.tc : Thread Cert.RefAdamWGluIdeal.nD Cert.RefAdamWGluIdeal.τ).loc Cert.RefAdamWGluIdeal.main_arg2) = m' ((c.tc : Thread Cert.RefAdamWGluIdeal.nD Cert.RefAdamWGluIdeal.τ).loc Cert.RefAdamWGluIdeal.main_arg2)
          ∧ r.2.mem ((c.tc : Thread Cert.RefAdamWGluIdeal.nD Cert.RefAdamWGluIdeal.τ).loc Cert.RefAdamWGluIdeal.main_arg3) = m' ((c.tc : Thread Cert.RefAdamWGluIdeal.nD Cert.RefAdamWGluIdeal.τ).loc Cert.RefAdamWGluIdeal.main_arg3))

def preserves_AdamWOut_AdamWOutIdeal : Prop :=
  IdealRules.named_const.Statement Cert.AdamWOutIdeal.κ "adam_c1" .f32 0x3FC48605#32 ((8388608 / 5463681 : ℝ) : EReal)
  ∧ IdealRules.named_const.Statement Cert.AdamWOutIdeal.κ "adam_c2" .f32 0x42C8E6D3#32 ((268435456 / 2672307 : ℝ) : EReal)

def algebraic_AdamWOutIdeal_RefAdamWOutIdeal [hAdamWOutIdeal : Cert.AdamWOutIdeal.Facts] [hRefAdamWOutIdeal : Cert.RefAdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.RefAdamWOutIdeal.nD Cert.RefAdamWOutIdeal.τ Cert.RefAdamWOutIdeal.sig) → Buf (Elt Ideal) ℓ) (g' : Dev Cert.RefAdamWOutIdeal.nD → PrngReg), Pre_AdamWOutIdeal m →
    (∀ c : Dev Cert.AdamWOutIdeal.nD,
      m' ((c.tc : Thread Cert.RefAdamWOutIdeal.nD Cert.RefAdamWOutIdeal.τ).loc Cert.RefAdamWOutIdeal.main_arg0) = m ((c.tc : Thread Cert.AdamWOutIdeal.nD Cert.AdamWOutIdeal.τ).loc Cert.AdamWOutIdeal.main_arg0)
      ∧ m' ((c.tc : Thread Cert.RefAdamWOutIdeal.nD Cert.RefAdamWOutIdeal.τ).loc Cert.RefAdamWOutIdeal.main_arg1) = m ((c.tc : Thread Cert.AdamWOutIdeal.nD Cert.AdamWOutIdeal.τ).loc Cert.AdamWOutIdeal.main_arg1)
      ∧ m' ((c.tc : Thread Cert.RefAdamWOutIdeal.nD Cert.RefAdamWOutIdeal.τ).loc Cert.RefAdamWOutIdeal.main_arg2) = m ((c.tc : Thread Cert.AdamWOutIdeal.nD Cert.AdamWOutIdeal.τ).loc Cert.AdamWOutIdeal.main_arg2)
      ∧ m' ((c.tc : Thread Cert.RefAdamWOutIdeal.nD Cert.RefAdamWOutIdeal.τ).loc Cert.RefAdamWOutIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.RefAdamWOutIdeal.defs (F := Ideal)) (onTc (τ := Cert.RefAdamWOutIdeal.τ) (Cert.RefAdamWOutIdeal.main (F := Ideal))) ⟨m', fun _ => 0, g'⟩ (fun r => ∀ c : Dev Cert.RefAdamWOutIdeal.nD,
          r.2.mem ((c.tc : Thread Cert.RefAdamWOutIdeal.nD Cert.RefAdamWOutIdeal.τ).loc Cert.RefAdamWOutIdeal.main_v23) = v0 c
          ∧ r.2.mem ((c.tc : Thread Cert.RefAdamWOutIdeal.nD Cert.RefAdamWOutIdeal.τ).loc Cert.RefAdamWOutIdeal.main_v4) = v1 c
          ∧ r.2.mem ((c.tc : Thread Cert.RefAdamWOutIdeal.nD Cert.RefAdamWOutIdeal.τ).loc Cert.RefAdamWOutIdeal.main_v10) = v2 c
          ∧ r.2.mem ((c.tc : Thread Cert.RefAdamWOutIdeal.nD Cert.RefAdamWOutIdeal.τ).loc Cert.RefAdamWOutIdeal.main_arg0) = m' ((c.tc : Thread Cert.RefAdamWOutIdeal.nD Cert.RefAdamWOutIdeal.τ).loc Cert.RefAdamWOutIdeal.main_arg0)
          ∧ r.2.mem ((c.tc : Thread Cert.RefAdamWOutIdeal.nD Cert.RefAdamWOutIdeal.τ).loc Cert.RefAdamWOutIdeal.main_arg1) = m' ((c.tc : Thread Cert.RefAdamWOutIdeal.nD Cert.RefAdamWOutIdeal.τ).loc Cert.RefAdamWOutIdeal.main_arg1)
          ∧ r.2.mem ((c.tc : Thread Cert.RefAdamWOutIdeal.nD Cert.RefAdamWOutIdeal.τ).loc Cert.RefAdamWOutIdeal.main_arg2) = m' ((c.tc : Thread Cert.RefAdamWOutIdeal.nD Cert.RefAdamWOutIdeal.τ).loc Cert.RefAdamWOutIdeal.main_arg2)
          ∧ r.2.mem ((c.tc : Thread Cert.RefAdamWOutIdeal.nD Cert.RefAdamWOutIdeal.τ).loc Cert.RefAdamWOutIdeal.main_arg3) = m' ((c.tc : Thread Cert.RefAdamWOutIdeal.nD Cert.RefAdamWOutIdeal.τ).loc Cert.RefAdamWOutIdeal.main_arg3))

def preserves_AdamWUp_AdamWUpIdeal : Prop :=
  IdealRules.named_const.Statement Cert.AdamWUpIdeal.κ "adam_c1" .f32 0x3FC48605#32 ((8388608 / 5463681 : ℝ) : EReal)
  ∧ IdealRules.named_const.Statement Cert.AdamWUpIdeal.κ "adam_c2" .f32 0x42C8E6D3#32 ((268435456 / 2672307 : ℝ) : EReal)

def algebraic_AdamWUpIdeal_RefAdamWUpIdeal [hAdamWUpIdeal : Cert.AdamWUpIdeal.Facts] [hRefAdamWUpIdeal : Cert.RefAdamWUpIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg)
    (m' : (ℓ : Loc Cert.RefAdamWUpIdeal.nD Cert.RefAdamWUpIdeal.τ Cert.RefAdamWUpIdeal.sig) → Buf (Elt Ideal) ℓ) (g' : Dev Cert.RefAdamWUpIdeal.nD → PrngReg), Pre_AdamWUpIdeal m →
    (∀ c : Dev Cert.AdamWUpIdeal.nD,
      m' ((c.tc : Thread Cert.RefAdamWUpIdeal.nD Cert.RefAdamWUpIdeal.τ).loc Cert.RefAdamWUpIdeal.main_arg0) = m ((c.tc : Thread Cert.AdamWUpIdeal.nD Cert.AdamWUpIdeal.τ).loc Cert.AdamWUpIdeal.main_arg0)
      ∧ m' ((c.tc : Thread Cert.RefAdamWUpIdeal.nD Cert.RefAdamWUpIdeal.τ).loc Cert.RefAdamWUpIdeal.main_arg1) = m ((c.tc : Thread Cert.AdamWUpIdeal.nD Cert.AdamWUpIdeal.τ).loc Cert.AdamWUpIdeal.main_arg1)
      ∧ m' ((c.tc : Thread Cert.RefAdamWUpIdeal.nD Cert.RefAdamWUpIdeal.τ).loc Cert.RefAdamWUpIdeal.main_arg2) = m ((c.tc : Thread Cert.AdamWUpIdeal.nD Cert.AdamWUpIdeal.τ).loc Cert.AdamWUpIdeal.main_arg2)
      ∧ m' ((c.tc : Thread Cert.RefAdamWUpIdeal.nD Cert.RefAdamWUpIdeal.τ).loc Cert.RefAdamWUpIdeal.main_arg3) = m ((c.tc : Thread Cert.AdamWUpIdeal.nD Cert.AdamWUpIdeal.τ).loc Cert.AdamWUpIdeal.main_arg3)) →
    ∃ (v0 : (c : Dev Cert.AdamWUpIdeal.nD) → Buf (Elt Ideal) ((c.tc : Thread Cert.AdamWUpIdeal.nD Cert.AdamWUpIdeal.τ).loc Cert.AdamWUpIdeal.main_v0_0)) (v1 : (c : Dev Cert.AdamWUpIdeal.nD) → Buf (Elt Ideal) ((c.tc : Thread Cert.AdamWUpIdeal.nD Cert.AdamWUpIdeal.τ).loc Cert.AdamWUpIdeal.main_v0_1)) (v2 : (c : Dev Cert.AdamWUpIdeal.nD) → Buf (Elt Ideal) ((c.tc : Thread Cert.AdamWUpIdeal.nD Cert.AdamWUpIdeal.τ).loc Cert.AdamWUpIdeal.main_v0_2)),
      θ_run (Cert.AdamWUpIdeal.defs (F := Ideal)) (onTc (τ := Cert.AdamWUpIdeal.τ) (Cert.AdamWUpIdeal.main (F := Ideal))) ⟨m, fun _ => 0, g⟩ (fun r => ∀ c : Dev Cert.AdamWUpIdeal.nD,
          r.2.mem ((c.tc : Thread Cert.AdamWUpIdeal.nD Cert.AdamWUpIdeal.τ).loc Cert.AdamWUpIdeal.main_v0_0) = v0 c
          ∧ r.2.mem ((c.tc : Thread Cert.AdamWUpIdeal.nD Cert.AdamWUpIdeal.τ).loc Cert.AdamWUpIdeal.main_v0_1) = v1 c
          ∧ r.2.mem ((c.tc : Thread Cert.AdamWUpIdeal.nD Cert.AdamWUpIdeal.τ).loc Cert.AdamWUpIdeal.main_v0_2) = v2 c
          ∧ r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
          ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
          ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
          ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ θ_run (Cert.RefAdamWUpIdeal.defs (F := Ideal)) (onTc (τ := Cert.RefAdamWUpIdeal.τ) (Cert.RefAdamWUpIdeal.main (F := Ideal))) ⟨m', fun _ => 0, g'⟩ (fun r => ∀ c : Dev Cert.RefAdamWUpIdeal.nD,
          r.2.mem ((c.tc : Thread Cert.RefAdamWUpIdeal.nD Cert.RefAdamWUpIdeal.τ).loc Cert.RefAdamWUpIdeal.main_v23) = v0 c
          ∧ r.2.mem ((c.tc : Thread Cert.RefAdamWUpIdeal.nD Cert.RefAdamWUpIdeal.τ).loc Cert.RefAdamWUpIdeal.main_v4) = v1 c
          ∧ r.2.mem ((c.tc : Thread Cert.RefAdamWUpIdeal.nD Cert.RefAdamWUpIdeal.τ).loc Cert.RefAdamWUpIdeal.main_v10) = v2 c
          ∧ r.2.mem ((c.tc : Thread Cert.RefAdamWUpIdeal.nD Cert.RefAdamWUpIdeal.τ).loc Cert.RefAdamWUpIdeal.main_arg0) = m' ((c.tc : Thread Cert.RefAdamWUpIdeal.nD Cert.RefAdamWUpIdeal.τ).loc Cert.RefAdamWUpIdeal.main_arg0)
          ∧ r.2.mem ((c.tc : Thread Cert.RefAdamWUpIdeal.nD Cert.RefAdamWUpIdeal.τ).loc Cert.RefAdamWUpIdeal.main_arg1) = m' ((c.tc : Thread Cert.RefAdamWUpIdeal.nD Cert.RefAdamWUpIdeal.τ).loc Cert.RefAdamWUpIdeal.main_arg1)
          ∧ r.2.mem ((c.tc : Thread Cert.RefAdamWUpIdeal.nD Cert.RefAdamWUpIdeal.τ).loc Cert.RefAdamWUpIdeal.main_arg2) = m' ((c.tc : Thread Cert.RefAdamWUpIdeal.nD Cert.RefAdamWUpIdeal.τ).loc Cert.RefAdamWUpIdeal.main_arg2)
          ∧ r.2.mem ((c.tc : Thread Cert.RefAdamWUpIdeal.nD Cert.RefAdamWUpIdeal.τ).loc Cert.RefAdamWUpIdeal.main_arg3) = m' ((c.tc : Thread Cert.RefAdamWUpIdeal.nD Cert.RefAdamWUpIdeal.τ).loc Cert.RefAdamWUpIdeal.main_arg3))

def preserves_AdamWDown_AdamWDownIdeal : Prop :=
  IdealRules.named_const.Statement Cert.AdamWDownIdeal.κ "adam_c1" .f32 0x3FC48605#32 ((8388608 / 5463681 : ℝ) : EReal)
  ∧ IdealRules.named_const.Statement Cert.AdamWDownIdeal.κ "adam_c2" .f32 0x42C8E6D3#32 ((268435456 / 2672307 : ℝ) : EReal)

def algebraic_AdamWDownIdeal_RefAdamWDownIdeal [hAdamWDownIdeal : Cert.AdamWDownIdeal.Facts] [hRefAdamWDownIdeal : Cert.RefAdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg)
    (m' : (ℓ : Loc Cert.RefAdamWDownIdeal.nD Cert.RefAdamWDownIdeal.τ Cert.RefAdamWDownIdeal.sig) → Buf (Elt Ideal) ℓ) (g' : Dev Cert.RefAdamWDownIdeal.nD → PrngReg), Pre_AdamWDownIdeal m →
    (∀ c : Dev Cert.AdamWDownIdeal.nD,
      m' ((c.tc : Thread Cert.RefAdamWDownIdeal.nD Cert.RefAdamWDownIdeal.τ).loc Cert.RefAdamWDownIdeal.main_arg0) = m ((c.tc : Thread Cert.AdamWDownIdeal.nD Cert.AdamWDownIdeal.τ).loc Cert.AdamWDownIdeal.main_arg0)
      ∧ m' ((c.tc : Thread Cert.RefAdamWDownIdeal.nD Cert.RefAdamWDownIdeal.τ).loc Cert.RefAdamWDownIdeal.main_arg1) = m ((c.tc : Thread Cert.AdamWDownIdeal.nD Cert.AdamWDownIdeal.τ).loc Cert.AdamWDownIdeal.main_arg1)
      ∧ m' ((c.tc : Thread Cert.RefAdamWDownIdeal.nD Cert.RefAdamWDownIdeal.τ).loc Cert.RefAdamWDownIdeal.main_arg2) = m ((c.tc : Thread Cert.AdamWDownIdeal.nD Cert.AdamWDownIdeal.τ).loc Cert.AdamWDownIdeal.main_arg2)
      ∧ m' ((c.tc : Thread Cert.RefAdamWDownIdeal.nD Cert.RefAdamWDownIdeal.τ).loc Cert.RefAdamWDownIdeal.main_arg3) = m ((c.tc : Thread Cert.AdamWDownIdeal.nD Cert.AdamWDownIdeal.τ).loc Cert.AdamWDownIdeal.main_arg3)) →
    ∃ (v0 : (c : Dev Cert.AdamWDownIdeal.nD) → Buf (Elt Ideal) ((c.tc : Thread Cert.AdamWDownIdeal.nD Cert.AdamWDownIdeal.τ).loc Cert.AdamWDownIdeal.main_v0_0)) (v1 : (c : Dev Cert.AdamWDownIdeal.nD) → Buf (Elt Ideal) ((c.tc : Thread Cert.AdamWDownIdeal.nD Cert.AdamWDownIdeal.τ).loc Cert.AdamWDownIdeal.main_v0_1)) (v2 : (c : Dev Cert.AdamWDownIdeal.nD) → Buf (Elt Ideal) ((c.tc : Thread Cert.AdamWDownIdeal.nD Cert.AdamWDownIdeal.τ).loc Cert.AdamWDownIdeal.main_v0_2)),
      θ_run (Cert.AdamWDownIdeal.defs (F := Ideal)) (onTc (τ := Cert.AdamWDownIdeal.τ) (Cert.AdamWDownIdeal.main (F := Ideal))) ⟨m, fun _ => 0, g⟩ (fun r => ∀ c : Dev Cert.AdamWDownIdeal.nD,
          r.2.mem ((c.tc : Thread Cert.AdamWDownIdeal.nD Cert.AdamWDownIdeal.τ).loc Cert.AdamWDownIdeal.main_v0_0) = v0 c
          ∧ r.2.mem ((c.tc : Thread Cert.AdamWDownIdeal.nD Cert.AdamWDownIdeal.τ).loc Cert.AdamWDownIdeal.main_v0_1) = v1 c
          ∧ r.2.mem ((c.tc : Thread Cert.AdamWDownIdeal.nD Cert.AdamWDownIdeal.τ).loc Cert.AdamWDownIdeal.main_v0_2) = v2 c
          ∧ r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
          ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
          ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
          ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ θ_run (Cert.RefAdamWDownIdeal.defs (F := Ideal)) (onTc (τ := Cert.RefAdamWDownIdeal.τ) (Cert.RefAdamWDownIdeal.main (F := Ideal))) ⟨m', fun _ => 0, g'⟩ (fun r => ∀ c : Dev Cert.RefAdamWDownIdeal.nD,
          r.2.mem ((c.tc : Thread Cert.RefAdamWDownIdeal.nD Cert.RefAdamWDownIdeal.τ).loc Cert.RefAdamWDownIdeal.main_v23) = v0 c
          ∧ r.2.mem ((c.tc : Thread Cert.RefAdamWDownIdeal.nD Cert.RefAdamWDownIdeal.τ).loc Cert.RefAdamWDownIdeal.main_v4) = v1 c
          ∧ r.2.mem ((c.tc : Thread Cert.RefAdamWDownIdeal.nD Cert.RefAdamWDownIdeal.τ).loc Cert.RefAdamWDownIdeal.main_v10) = v2 c
          ∧ r.2.mem ((c.tc : Thread Cert.RefAdamWDownIdeal.nD Cert.RefAdamWDownIdeal.τ).loc Cert.RefAdamWDownIdeal.main_arg0) = m' ((c.tc : Thread Cert.RefAdamWDownIdeal.nD Cert.RefAdamWDownIdeal.τ).loc Cert.RefAdamWDownIdeal.main_arg0)
          ∧ r.2.mem ((c.tc : Thread Cert.RefAdamWDownIdeal.nD Cert.RefAdamWDownIdeal.τ).loc Cert.RefAdamWDownIdeal.main_arg1) = m' ((c.tc : Thread Cert.RefAdamWDownIdeal.nD Cert.RefAdamWDownIdeal.τ).loc Cert.RefAdamWDownIdeal.main_arg1)
          ∧ r.2.mem ((c.tc : Thread Cert.RefAdamWDownIdeal.nD Cert.RefAdamWDownIdeal.τ).loc Cert.RefAdamWDownIdeal.main_arg2) = m' ((c.tc : Thread Cert.RefAdamWDownIdeal.nD Cert.RefAdamWDownIdeal.τ).loc Cert.RefAdamWDownIdeal.main_arg2)
          ∧ r.2.mem ((c.tc : Thread Cert.RefAdamWDownIdeal.nD Cert.RefAdamWDownIdeal.τ).loc Cert.RefAdamWDownIdeal.main_arg3) = m' ((c.tc : Thread Cert.RefAdamWDownIdeal.nD Cert.RefAdamWDownIdeal.τ).loc Cert.RefAdamWDownIdeal.main_arg3))

def preserves_AdamWAda_AdamWAdaIdeal : Prop :=
  IdealRules.named_const.Statement Cert.AdamWAdaIdeal.κ "adam_c1" .f32 0x3FC48605#32 ((8388608 / 5463681 : ℝ) : EReal)
  ∧ IdealRules.named_const.Statement Cert.AdamWAdaIdeal.κ "adam_c2" .f32 0x42C8E6D3#32 ((268435456 / 2672307 : ℝ) : EReal)

def algebraic_AdamWAdaIdeal_RefAdamWAdaIdeal [hAdamWAdaIdeal : Cert.AdamWAdaIdeal.Facts] [hRefAdamWAdaIdeal : Cert.RefAdamWAdaIdeal.Facts] : Prop :=
  ∀ (m : (ℓ : Loc Cert.AdamWAdaIdeal.nD Cert.AdamWAdaIdeal.τ Cert.AdamWAdaIdeal.sig) → Buf (Elt Ideal) ℓ) (g : Dev Cert.AdamWAdaIdeal.nD → PrngReg)
    (m' : (ℓ : Loc Cert.RefAdamWAdaIdeal.nD Cert.RefAdamWAdaIdeal.τ Cert.RefAdamWAdaIdeal.sig) → Buf (Elt Ideal) ℓ) (g' : Dev Cert.RefAdamWAdaIdeal.nD → PrngReg), Pre_AdamWAdaIdeal m →
    (∀ c : Dev Cert.AdamWAdaIdeal.nD,
      m' ((c.tc : Thread Cert.RefAdamWAdaIdeal.nD Cert.RefAdamWAdaIdeal.τ).loc Cert.RefAdamWAdaIdeal.main_arg0) = m ((c.tc : Thread Cert.AdamWAdaIdeal.nD Cert.AdamWAdaIdeal.τ).loc Cert.AdamWAdaIdeal.main_arg0)
      ∧ m' ((c.tc : Thread Cert.RefAdamWAdaIdeal.nD Cert.RefAdamWAdaIdeal.τ).loc Cert.RefAdamWAdaIdeal.main_arg1) = m ((c.tc : Thread Cert.AdamWAdaIdeal.nD Cert.AdamWAdaIdeal.τ).loc Cert.AdamWAdaIdeal.main_arg1)
      ∧ m' ((c.tc : Thread Cert.RefAdamWAdaIdeal.nD Cert.RefAdamWAdaIdeal.τ).loc Cert.RefAdamWAdaIdeal.main_arg2) = m ((c.tc : Thread Cert.AdamWAdaIdeal.nD Cert.AdamWAdaIdeal.τ).loc Cert.AdamWAdaIdeal.main_arg2)
      ∧ m' ((c.tc : Thread Cert.RefAdamWAdaIdeal.nD Cert.RefAdamWAdaIdeal.τ).loc Cert.RefAdamWAdaIdeal.main_arg3) = m ((c.tc : Thread Cert.AdamWAdaIdeal.nD Cert.AdamWAdaIdeal.τ).loc Cert.AdamWAdaIdeal.main_arg3)) →
    ∃ (v0 : (c : Dev Cert.AdamWAdaIdeal.nD) → Buf (Elt Ideal) ((c.tc : Thread Cert.AdamWAdaIdeal.nD Cert.AdamWAdaIdeal.τ).loc Cert.AdamWAdaIdeal.main_v0_0)) (v1 : (c : Dev Cert.AdamWAdaIdeal.nD) → Buf (Elt Ideal) ((c.tc : Thread Cert.AdamWAdaIdeal.nD Cert.AdamWAdaIdeal.τ).loc Cert.AdamWAdaIdeal.main_v0_1)) (v2 : (c : Dev Cert.AdamWAdaIdeal.nD) → Buf (Elt Ideal) ((c.tc : Thread Cert.AdamWAdaIdeal.nD Cert.AdamWAdaIdeal.τ).loc Cert.AdamWAdaIdeal.main_v0_2)),
      θ_run (Cert.AdamWAdaIdeal.defs (F := Ideal)) (onTc (τ := Cert.AdamWAdaIdeal.τ) (Cert.AdamWAdaIdeal.main (F := Ideal))) ⟨m, fun _ => 0, g⟩ (fun r => ∀ c : Dev Cert.AdamWAdaIdeal.nD,
          r.2.mem ((c.tc : Thread Cert.AdamWAdaIdeal.nD Cert.AdamWAdaIdeal.τ).loc Cert.AdamWAdaIdeal.main_v0_0) = v0 c
          ∧ r.2.mem ((c.tc : Thread Cert.AdamWAdaIdeal.nD Cert.AdamWAdaIdeal.τ).loc Cert.AdamWAdaIdeal.main_v0_1) = v1 c
          ∧ r.2.mem ((c.tc : Thread Cert.AdamWAdaIdeal.nD Cert.AdamWAdaIdeal.τ).loc Cert.AdamWAdaIdeal.main_v0_2) = v2 c
          ∧ r.2.mem ((c.tc : Thread Cert.AdamWAdaIdeal.nD Cert.AdamWAdaIdeal.τ).loc Cert.AdamWAdaIdeal.main_arg0) = m ((c.tc : Thread Cert.AdamWAdaIdeal.nD Cert.AdamWAdaIdeal.τ).loc Cert.AdamWAdaIdeal.main_arg0)
          ∧ r.2.mem ((c.tc : Thread Cert.AdamWAdaIdeal.nD Cert.AdamWAdaIdeal.τ).loc Cert.AdamWAdaIdeal.main_arg1) = m ((c.tc : Thread Cert.AdamWAdaIdeal.nD Cert.AdamWAdaIdeal.τ).loc Cert.AdamWAdaIdeal.main_arg1)
          ∧ r.2.mem ((c.tc : Thread Cert.AdamWAdaIdeal.nD Cert.AdamWAdaIdeal.τ).loc Cert.AdamWAdaIdeal.main_arg2) = m ((c.tc : Thread Cert.AdamWAdaIdeal.nD Cert.AdamWAdaIdeal.τ).loc Cert.AdamWAdaIdeal.main_arg2)
          ∧ r.2.mem ((c.tc : Thread Cert.AdamWAdaIdeal.nD Cert.AdamWAdaIdeal.τ).loc Cert.AdamWAdaIdeal.main_arg3) = m ((c.tc : Thread Cert.AdamWAdaIdeal.nD Cert.AdamWAdaIdeal.τ).loc Cert.AdamWAdaIdeal.main_arg3))
      ∧ θ_run (Cert.RefAdamWAdaIdeal.defs (F := Ideal)) (onTc (τ := Cert.RefAdamWAdaIdeal.τ) (Cert.RefAdamWAdaIdeal.main (F := Ideal))) ⟨m', fun _ => 0, g'⟩ (fun r => ∀ c : Dev Cert.RefAdamWAdaIdeal.nD,
          r.2.mem ((c.tc : Thread Cert.RefAdamWAdaIdeal.nD Cert.RefAdamWAdaIdeal.τ).loc Cert.RefAdamWAdaIdeal.main_v23) = v0 c
          ∧ r.2.mem ((c.tc : Thread Cert.RefAdamWAdaIdeal.nD Cert.RefAdamWAdaIdeal.τ).loc Cert.RefAdamWAdaIdeal.main_v4) = v1 c
          ∧ r.2.mem ((c.tc : Thread Cert.RefAdamWAdaIdeal.nD Cert.RefAdamWAdaIdeal.τ).loc Cert.RefAdamWAdaIdeal.main_v10) = v2 c
          ∧ r.2.mem ((c.tc : Thread Cert.RefAdamWAdaIdeal.nD Cert.RefAdamWAdaIdeal.τ).loc Cert.RefAdamWAdaIdeal.main_arg0) = m' ((c.tc : Thread Cert.RefAdamWAdaIdeal.nD Cert.RefAdamWAdaIdeal.τ).loc Cert.RefAdamWAdaIdeal.main_arg0)
          ∧ r.2.mem ((c.tc : Thread Cert.RefAdamWAdaIdeal.nD Cert.RefAdamWAdaIdeal.τ).loc Cert.RefAdamWAdaIdeal.main_arg1) = m' ((c.tc : Thread Cert.RefAdamWAdaIdeal.nD Cert.RefAdamWAdaIdeal.τ).loc Cert.RefAdamWAdaIdeal.main_arg1)
          ∧ r.2.mem ((c.tc : Thread Cert.RefAdamWAdaIdeal.nD Cert.RefAdamWAdaIdeal.τ).loc Cert.RefAdamWAdaIdeal.main_arg2) = m' ((c.tc : Thread Cert.RefAdamWAdaIdeal.nD Cert.RefAdamWAdaIdeal.τ).loc Cert.RefAdamWAdaIdeal.main_arg2)
          ∧ r.2.mem ((c.tc : Thread Cert.RefAdamWAdaIdeal.nD Cert.RefAdamWAdaIdeal.τ).loc Cert.RefAdamWAdaIdeal.main_arg3) = m' ((c.tc : Thread Cert.RefAdamWAdaIdeal.nD Cert.RefAdamWAdaIdeal.τ).loc Cert.RefAdamWAdaIdeal.main_arg3))

def preserves_SsmParBwd_SsmParBwdIdeal : Prop :=
  True

def algebraic_SsmParBwdIdeal_RefSsmParBwdIdeal [hSsmParBwdIdeal : Cert.SsmParBwdIdeal.Facts] [hRefSsmParBwdIdeal : Cert.RefSsmParBwdIdeal.Facts] : Prop :=
  ∀ (m : (ℓ : Loc Cert.SsmParBwdIdeal.nD Cert.SsmParBwdIdeal.τ Cert.SsmParBwdIdeal.sig) → Buf (Elt Ideal) ℓ) (g : Dev Cert.SsmParBwdIdeal.nD → PrngReg)
    (m' : (ℓ : Loc Cert.RefSsmParBwdIdeal.nD Cert.RefSsmParBwdIdeal.τ Cert.RefSsmParBwdIdeal.sig) → Buf (Elt Ideal) ℓ) (g' : Dev Cert.RefSsmParBwdIdeal.nD → PrngReg), Pre_SsmParBwdIdeal m →
    (∀ c : Dev Cert.SsmParBwdIdeal.nD,
      m' ((c.tc : Thread Cert.RefSsmParBwdIdeal.nD Cert.RefSsmParBwdIdeal.τ).loc Cert.RefSsmParBwdIdeal.main_arg0) = m ((c.tc : Thread Cert.SsmParBwdIdeal.nD Cert.SsmParBwdIdeal.τ).loc Cert.SsmParBwdIdeal.main_arg0)
      ∧ m' ((c.tc : Thread Cert.RefSsmParBwdIdeal.nD Cert.RefSsmParBwdIdeal.τ).loc Cert.RefSsmParBwdIdeal.main_arg1) = m ((c.tc : Thread Cert.SsmParBwdIdeal.nD Cert.SsmParBwdIdeal.τ).loc Cert.SsmParBwdIdeal.main_arg1)
      ∧ m' ((c.tc : Thread Cert.RefSsmParBwdIdeal.nD Cert.RefSsmParBwdIdeal.τ).loc Cert.RefSsmParBwdIdeal.main_arg2) = m ((c.tc : Thread Cert.SsmParBwdIdeal.nD Cert.SsmParBwdIdeal.τ).loc Cert.SsmParBwdIdeal.main_arg2)
      ∧ m' ((c.tc : Thread Cert.RefSsmParBwdIdeal.nD Cert.RefSsmParBwdIdeal.τ).loc Cert.RefSsmParBwdIdeal.main_arg3) = m ((c.tc : Thread Cert.SsmParBwdIdeal.nD Cert.SsmParBwdIdeal.τ).loc Cert.SsmParBwdIdeal.main_arg3)
      ∧ m' ((c.tc : Thread Cert.RefSsmParBwdIdeal.nD Cert.RefSsmParBwdIdeal.τ).loc Cert.RefSsmParBwdIdeal.main_arg4) = m ((c.tc : Thread Cert.SsmParBwdIdeal.nD Cert.SsmParBwdIdeal.τ).loc Cert.SsmParBwdIdeal.main_arg4)
      ∧ m' ((c.tc : Thread Cert.RefSsmParBwdIdeal.nD Cert.RefSsmParBwdIdeal.τ).loc Cert.RefSsmParBwdIdeal.main_arg5) = m ((c.tc : Thread Cert.SsmParBwdIdeal.nD Cert.SsmParBwdIdeal.τ).loc Cert.SsmParBwdIdeal.main_arg5)
      ∧ m' ((c.tc : Thread Cert.RefSsmParBwdIdeal.nD Cert.RefSsmParBwdIdeal.τ).loc Cert.RefSsmParBwdIdeal.main_arg6) = m ((c.tc : Thread Cert.SsmParBwdIdeal.nD Cert.SsmParBwdIdeal.τ).loc Cert.SsmParBwdIdeal.main_arg6)
      ∧ m' ((c.tc : Thread Cert.RefSsmParBwdIdeal.nD Cert.RefSsmParBwdIdeal.τ).loc Cert.RefSsmParBwdIdeal.main_arg7) = m ((c.tc : Thread Cert.SsmParBwdIdeal.nD Cert.SsmParBwdIdeal.τ).loc Cert.SsmParBwdIdeal.main_arg7)
      ∧ m' ((c.tc : Thread Cert.RefSsmParBwdIdeal.nD Cert.RefSsmParBwdIdeal.τ).loc Cert.RefSsmParBwdIdeal.main_arg8) = m ((c.tc : Thread Cert.SsmParBwdIdeal.nD Cert.SsmParBwdIdeal.τ).loc Cert.SsmParBwdIdeal.main_arg8)
      ∧ m' ((c.tc : Thread Cert.RefSsmParBwdIdeal.nD Cert.RefSsmParBwdIdeal.τ).loc Cert.RefSsmParBwdIdeal.main_arg9) = m ((c.tc : Thread Cert.SsmParBwdIdeal.nD Cert.SsmParBwdIdeal.τ).loc Cert.SsmParBwdIdeal.main_arg9)) →
    ∃ (v0 : (c : Dev Cert.SsmParBwdIdeal.nD) → Buf (Elt Ideal) ((c.tc : Thread Cert.SsmParBwdIdeal.nD Cert.SsmParBwdIdeal.τ).loc Cert.SsmParBwdIdeal.main_v0_0)) (v1 : (c : Dev Cert.SsmParBwdIdeal.nD) → Buf (Elt Ideal) ((c.tc : Thread Cert.SsmParBwdIdeal.nD Cert.SsmParBwdIdeal.τ).loc Cert.SsmParBwdIdeal.main_v0_1)) (v2 : (c : Dev Cert.SsmParBwdIdeal.nD) → Buf (Elt Ideal) ((c.tc : Thread Cert.SsmParBwdIdeal.nD Cert.SsmParBwdIdeal.τ).loc Cert.SsmParBwdIdeal.main_v0_2)) (v3 : (c : Dev Cert.SsmParBwdIdeal.nD) → Buf (Elt Ideal) ((c.tc : Thread Cert.SsmParBwdIdeal.nD Cert.SsmParBwdIdeal.τ).loc Cert.SsmParBwdIdeal.main_v0_3)) (v4 : (c : Dev Cert.SsmParBwdIdeal.nD) → Buf (Elt Ideal) ((c.tc : Thread Cert.SsmParBwdIdeal.nD Cert.SsmParBwdIdeal.τ).loc Cert.SsmParBwdIdeal.main_v0_4)),
      θ_run (Cert.SsmParBwdIdeal.defs (F := Ideal)) (onTc (τ := Cert.SsmParBwdIdeal.τ) (Cert.SsmParBwdIdeal.main (F := Ideal))) ⟨m, fun _ => 0, g⟩ (fun r => ∀ c : Dev Cert.SsmParBwdIdeal.nD,
          r.2.mem ((c.tc : Thread Cert.SsmParBwdIdeal.nD Cert.SsmParBwdIdeal.τ).loc Cert.SsmParBwdIdeal.main_v0_0) = v0 c
          ∧ r.2.mem ((c.tc : Thread Cert.SsmParBwdIdeal.nD Cert.SsmParBwdIdeal.τ).loc Cert.SsmParBwdIdeal.main_v0_1) = v1 c
          ∧ r.2.mem ((c.tc : Thread Cert.SsmParBwdIdeal.nD Cert.SsmParBwdIdeal.τ).loc Cert.SsmParBwdIdeal.main_v0_2) = v2 c
          ∧ r.2.mem ((c.tc : Thread Cert.SsmParBwdIdeal.nD Cert.SsmParBwdIdeal.τ).loc Cert.SsmParBwdIdeal.main_v0_3) = v3 c
          ∧ r.2.mem ((c.tc : Thread Cert.SsmParBwdIdeal.nD Cert.SsmParBwdIdeal.τ).loc Cert.SsmParBwdIdeal.main_v0_4) = v4 c
          ∧ r.2.mem ((c.tc : Thread Cert.SsmParBwdIdeal.nD Cert.SsmParBwdIdeal.τ).loc Cert.SsmParBwdIdeal.main_arg0) = m ((c.tc : Thread Cert.SsmParBwdIdeal.nD Cert.SsmParBwdIdeal.τ).loc Cert.SsmParBwdIdeal.main_arg0)
          ∧ r.2.mem ((c.tc : Thread Cert.SsmParBwdIdeal.nD Cert.SsmParBwdIdeal.τ).loc Cert.SsmParBwdIdeal.main_arg1) = m ((c.tc : Thread Cert.SsmParBwdIdeal.nD Cert.SsmParBwdIdeal.τ).loc Cert.SsmParBwdIdeal.main_arg1)
          ∧ r.2.mem ((c.tc : Thread Cert.SsmParBwdIdeal.nD Cert.SsmParBwdIdeal.τ).loc Cert.SsmParBwdIdeal.main_arg2) = m ((c.tc : Thread Cert.SsmParBwdIdeal.nD Cert.SsmParBwdIdeal.τ).loc Cert.SsmParBwdIdeal.main_arg2)
          ∧ r.2.mem ((c.tc : Thread Cert.SsmParBwdIdeal.nD Cert.SsmParBwdIdeal.τ).loc Cert.SsmParBwdIdeal.main_arg3) = m ((c.tc : Thread Cert.SsmParBwdIdeal.nD Cert.SsmParBwdIdeal.τ).loc Cert.SsmParBwdIdeal.main_arg3)
          ∧ r.2.mem ((c.tc : Thread Cert.SsmParBwdIdeal.nD Cert.SsmParBwdIdeal.τ).loc Cert.SsmParBwdIdeal.main_arg4) = m ((c.tc : Thread Cert.SsmParBwdIdeal.nD Cert.SsmParBwdIdeal.τ).loc Cert.SsmParBwdIdeal.main_arg4)
          ∧ r.2.mem ((c.tc : Thread Cert.SsmParBwdIdeal.nD Cert.SsmParBwdIdeal.τ).loc Cert.SsmParBwdIdeal.main_arg5) = m ((c.tc : Thread Cert.SsmParBwdIdeal.nD Cert.SsmParBwdIdeal.τ).loc Cert.SsmParBwdIdeal.main_arg5)
          ∧ r.2.mem ((c.tc : Thread Cert.SsmParBwdIdeal.nD Cert.SsmParBwdIdeal.τ).loc Cert.SsmParBwdIdeal.main_arg6) = m ((c.tc : Thread Cert.SsmParBwdIdeal.nD Cert.SsmParBwdIdeal.τ).loc Cert.SsmParBwdIdeal.main_arg6)
          ∧ r.2.mem ((c.tc : Thread Cert.SsmParBwdIdeal.nD Cert.SsmParBwdIdeal.τ).loc Cert.SsmParBwdIdeal.main_arg7) = m ((c.tc : Thread Cert.SsmParBwdIdeal.nD Cert.SsmParBwdIdeal.τ).loc Cert.SsmParBwdIdeal.main_arg7)
          ∧ r.2.mem ((c.tc : Thread Cert.SsmParBwdIdeal.nD Cert.SsmParBwdIdeal.τ).loc Cert.SsmParBwdIdeal.main_arg8) = m ((c.tc : Thread Cert.SsmParBwdIdeal.nD Cert.SsmParBwdIdeal.τ).loc Cert.SsmParBwdIdeal.main_arg8)
          ∧ r.2.mem ((c.tc : Thread Cert.SsmParBwdIdeal.nD Cert.SsmParBwdIdeal.τ).loc Cert.SsmParBwdIdeal.main_arg9) = m ((c.tc : Thread Cert.SsmParBwdIdeal.nD Cert.SsmParBwdIdeal.τ).loc Cert.SsmParBwdIdeal.main_arg9))
      ∧ θ_run (Cert.RefSsmParBwdIdeal.defs (F := Ideal)) (onTc (τ := Cert.RefSsmParBwdIdeal.τ) (Cert.RefSsmParBwdIdeal.main (F := Ideal))) ⟨m', fun _ => 0, g'⟩ (fun r => ∀ c : Dev Cert.RefSsmParBwdIdeal.nD,
          r.2.mem ((c.tc : Thread Cert.RefSsmParBwdIdeal.nD Cert.RefSsmParBwdIdeal.τ).loc Cert.RefSsmParBwdIdeal.main_v117) = v0 c
          ∧ r.2.mem ((c.tc : Thread Cert.RefSsmParBwdIdeal.nD Cert.RefSsmParBwdIdeal.τ).loc Cert.RefSsmParBwdIdeal.main_v112) = v1 c
          ∧ r.2.mem ((c.tc : Thread Cert.RefSsmParBwdIdeal.nD Cert.RefSsmParBwdIdeal.τ).loc Cert.RefSsmParBwdIdeal.main_v120) = v2 c
          ∧ r.2.mem ((c.tc : Thread Cert.RefSsmParBwdIdeal.nD Cert.RefSsmParBwdIdeal.τ).loc Cert.RefSsmParBwdIdeal.main_v64) = v3 c
          ∧ r.2.mem ((c.tc : Thread Cert.RefSsmParBwdIdeal.nD Cert.RefSsmParBwdIdeal.τ).loc Cert.RefSsmParBwdIdeal.main_v57) = v4 c
          ∧ r.2.mem ((c.tc : Thread Cert.RefSsmParBwdIdeal.nD Cert.RefSsmParBwdIdeal.τ).loc Cert.RefSsmParBwdIdeal.main_arg0) = m' ((c.tc : Thread Cert.RefSsmParBwdIdeal.nD Cert.RefSsmParBwdIdeal.τ).loc Cert.RefSsmParBwdIdeal.main_arg0)
          ∧ r.2.mem ((c.tc : Thread Cert.RefSsmParBwdIdeal.nD Cert.RefSsmParBwdIdeal.τ).loc Cert.RefSsmParBwdIdeal.main_arg1) = m' ((c.tc : Thread Cert.RefSsmParBwdIdeal.nD Cert.RefSsmParBwdIdeal.τ).loc Cert.RefSsmParBwdIdeal.main_arg1)
          ∧ r.2.mem ((c.tc : Thread Cert.RefSsmParBwdIdeal.nD Cert.RefSsmParBwdIdeal.τ).loc Cert.RefSsmParBwdIdeal.main_arg2) = m' ((c.tc : Thread Cert.RefSsmParBwdIdeal.nD Cert.RefSsmParBwdIdeal.τ).loc Cert.RefSsmParBwdIdeal.main_arg2)
          ∧ r.2.mem ((c.tc : Thread Cert.RefSsmParBwdIdeal.nD Cert.RefSsmParBwdIdeal.τ).loc Cert.RefSsmParBwdIdeal.main_arg3) = m' ((c.tc : Thread Cert.RefSsmParBwdIdeal.nD Cert.RefSsmParBwdIdeal.τ).loc Cert.RefSsmParBwdIdeal.main_arg3)
          ∧ r.2.mem ((c.tc : Thread Cert.RefSsmParBwdIdeal.nD Cert.RefSsmParBwdIdeal.τ).loc Cert.RefSsmParBwdIdeal.main_arg4) = m' ((c.tc : Thread Cert.RefSsmParBwdIdeal.nD Cert.RefSsmParBwdIdeal.τ).loc Cert.RefSsmParBwdIdeal.main_arg4)
          ∧ r.2.mem ((c.tc : Thread Cert.RefSsmParBwdIdeal.nD Cert.RefSsmParBwdIdeal.τ).loc Cert.RefSsmParBwdIdeal.main_arg5) = m' ((c.tc : Thread Cert.RefSsmParBwdIdeal.nD Cert.RefSsmParBwdIdeal.τ).loc Cert.RefSsmParBwdIdeal.main_arg5)
          ∧ r.2.mem ((c.tc : Thread Cert.RefSsmParBwdIdeal.nD Cert.RefSsmParBwdIdeal.τ).loc Cert.RefSsmParBwdIdeal.main_arg6) = m' ((c.tc : Thread Cert.RefSsmParBwdIdeal.nD Cert.RefSsmParBwdIdeal.τ).loc Cert.RefSsmParBwdIdeal.main_arg6)
          ∧ r.2.mem ((c.tc : Thread Cert.RefSsmParBwdIdeal.nD Cert.RefSsmParBwdIdeal.τ).loc Cert.RefSsmParBwdIdeal.main_arg7) = m' ((c.tc : Thread Cert.RefSsmParBwdIdeal.nD Cert.RefSsmParBwdIdeal.τ).loc Cert.RefSsmParBwdIdeal.main_arg7)
          ∧ r.2.mem ((c.tc : Thread Cert.RefSsmParBwdIdeal.nD Cert.RefSsmParBwdIdeal.τ).loc Cert.RefSsmParBwdIdeal.main_arg8) = m' ((c.tc : Thread Cert.RefSsmParBwdIdeal.nD Cert.RefSsmParBwdIdeal.τ).loc Cert.RefSsmParBwdIdeal.main_arg8)
          ∧ r.2.mem ((c.tc : Thread Cert.RefSsmParBwdIdeal.nD Cert.RefSsmParBwdIdeal.τ).loc Cert.RefSsmParBwdIdeal.main_arg9) = m' ((c.tc : Thread Cert.RefSsmParBwdIdeal.nD Cert.RefSsmParBwdIdeal.τ).loc Cert.RefSsmParBwdIdeal.main_arg9))

def preserves_SsmParFwd_SsmParFwdIdeal : Prop :=
  True

def algebraic_SsmParFwdIdeal_RefSsmParFwdIdeal [hSsmParFwdIdeal : Cert.SsmParFwdIdeal.Facts] [hRefSsmParFwdIdeal : Cert.RefSsmParFwdIdeal.Facts] : Prop :=
  ∀ (m : (ℓ : Loc Cert.SsmParFwdIdeal.nD Cert.SsmParFwdIdeal.τ Cert.SsmParFwdIdeal.sig) → Buf (Elt Ideal) ℓ) (g : Dev Cert.SsmParFwdIdeal.nD → PrngReg)
    (m' : (ℓ : Loc Cert.RefSsmParFwdIdeal.nD Cert.RefSsmParFwdIdeal.τ Cert.RefSsmParFwdIdeal.sig) → Buf (Elt Ideal) ℓ) (g' : Dev Cert.RefSsmParFwdIdeal.nD → PrngReg), Pre_SsmParFwdIdeal m →
    (∀ c : Dev Cert.SsmParFwdIdeal.nD,
      m' ((c.tc : Thread Cert.RefSsmParFwdIdeal.nD Cert.RefSsmParFwdIdeal.τ).loc Cert.RefSsmParFwdIdeal.main_arg0) = m ((c.tc : Thread Cert.SsmParFwdIdeal.nD Cert.SsmParFwdIdeal.τ).loc Cert.SsmParFwdIdeal.main_arg0)
      ∧ m' ((c.tc : Thread Cert.RefSsmParFwdIdeal.nD Cert.RefSsmParFwdIdeal.τ).loc Cert.RefSsmParFwdIdeal.main_arg1) = m ((c.tc : Thread Cert.SsmParFwdIdeal.nD Cert.SsmParFwdIdeal.τ).loc Cert.SsmParFwdIdeal.main_arg1)
      ∧ m' ((c.tc : Thread Cert.RefSsmParFwdIdeal.nD Cert.RefSsmParFwdIdeal.τ).loc Cert.RefSsmParFwdIdeal.main_arg2) = m ((c.tc : Thread Cert.SsmParFwdIdeal.nD Cert.SsmParFwdIdeal.τ).loc Cert.SsmParFwdIdeal.main_arg2)
      ∧ m' ((c.tc : Thread Cert.RefSsmParFwdIdeal.nD Cert.RefSsmParFwdIdeal.τ).loc Cert.RefSsmParFwdIdeal.main_arg3) = m ((c.tc : Thread Cert.SsmParFwdIdeal.nD Cert.SsmParFwdIdeal.τ).loc Cert.SsmParFwdIdeal.main_arg3)
      ∧ m' ((c.tc : Thread Cert.RefSsmParFwdIdeal.nD Cert.RefSsmParFwdIdeal.τ).loc Cert.RefSsmParFwdIdeal.main_arg4) = m ((c.tc : Thread Cert.SsmParFwdIdeal.nD Cert.SsmParFwdIdeal.τ).loc Cert.SsmParFwdIdeal.main_arg4)) →
    ∃ (v0 : (c : Dev Cert.SsmParFwdIdeal.nD) → Buf (Elt Ideal) ((c.tc : Thread Cert.SsmParFwdIdeal.nD Cert.SsmParFwdIdeal.τ).loc Cert.SsmParFwdIdeal.main_v0_0)) (v1 : (c : Dev Cert.SsmParFwdIdeal.nD) → Buf (Elt Ideal) ((c.tc : Thread Cert.SsmParFwdIdeal.nD Cert.SsmParFwdIdeal.τ).loc Cert.SsmParFwdIdeal.main_v0_1)) (v2 : (c : Dev Cert.SsmParFwdIdeal.nD) → Buf (Elt Ideal) ((c.tc : Thread Cert.SsmParFwdIdeal.nD Cert.SsmParFwdIdeal.τ).loc Cert.SsmParFwdIdeal.main_v0_2)) (v3 : (c : Dev Cert.SsmParFwdIdeal.nD) → Buf (Elt Ideal) ((c.tc : Thread Cert.SsmParFwdIdeal.nD Cert.SsmParFwdIdeal.τ).loc Cert.SsmParFwdIdeal.main_v0_3)),
      θ_run (Cert.SsmParFwdIdeal.defs (F := Ideal)) (onTc (τ := Cert.SsmParFwdIdeal.τ) (Cert.SsmParFwdIdeal.main (F := Ideal))) ⟨m, fun _ => 0, g⟩ (fun r => ∀ c : Dev Cert.SsmParFwdIdeal.nD,
          r.2.mem ((c.tc : Thread Cert.SsmParFwdIdeal.nD Cert.SsmParFwdIdeal.τ).loc Cert.SsmParFwdIdeal.main_v0_0) = v0 c
          ∧ r.2.mem ((c.tc : Thread Cert.SsmParFwdIdeal.nD Cert.SsmParFwdIdeal.τ).loc Cert.SsmParFwdIdeal.main_v0_1) = v1 c
          ∧ r.2.mem ((c.tc : Thread Cert.SsmParFwdIdeal.nD Cert.SsmParFwdIdeal.τ).loc Cert.SsmParFwdIdeal.main_v0_2) = v2 c
          ∧ r.2.mem ((c.tc : Thread Cert.SsmParFwdIdeal.nD Cert.SsmParFwdIdeal.τ).loc Cert.SsmParFwdIdeal.main_v0_3) = v3 c
          ∧ r.2.mem ((c.tc : Thread Cert.SsmParFwdIdeal.nD Cert.SsmParFwdIdeal.τ).loc Cert.SsmParFwdIdeal.main_arg0) = m ((c.tc : Thread Cert.SsmParFwdIdeal.nD Cert.SsmParFwdIdeal.τ).loc Cert.SsmParFwdIdeal.main_arg0)
          ∧ r.2.mem ((c.tc : Thread Cert.SsmParFwdIdeal.nD Cert.SsmParFwdIdeal.τ).loc Cert.SsmParFwdIdeal.main_arg1) = m ((c.tc : Thread Cert.SsmParFwdIdeal.nD Cert.SsmParFwdIdeal.τ).loc Cert.SsmParFwdIdeal.main_arg1)
          ∧ r.2.mem ((c.tc : Thread Cert.SsmParFwdIdeal.nD Cert.SsmParFwdIdeal.τ).loc Cert.SsmParFwdIdeal.main_arg2) = m ((c.tc : Thread Cert.SsmParFwdIdeal.nD Cert.SsmParFwdIdeal.τ).loc Cert.SsmParFwdIdeal.main_arg2)
          ∧ r.2.mem ((c.tc : Thread Cert.SsmParFwdIdeal.nD Cert.SsmParFwdIdeal.τ).loc Cert.SsmParFwdIdeal.main_arg3) = m ((c.tc : Thread Cert.SsmParFwdIdeal.nD Cert.SsmParFwdIdeal.τ).loc Cert.SsmParFwdIdeal.main_arg3)
          ∧ r.2.mem ((c.tc : Thread Cert.SsmParFwdIdeal.nD Cert.SsmParFwdIdeal.τ).loc Cert.SsmParFwdIdeal.main_arg4) = m ((c.tc : Thread Cert.SsmParFwdIdeal.nD Cert.SsmParFwdIdeal.τ).loc Cert.SsmParFwdIdeal.main_arg4))
      ∧ θ_run (Cert.RefSsmParFwdIdeal.defs (F := Ideal)) (onTc (τ := Cert.RefSsmParFwdIdeal.τ) (Cert.RefSsmParFwdIdeal.main (F := Ideal))) ⟨m', fun _ => 0, g'⟩ (fun r => ∀ c : Dev Cert.RefSsmParFwdIdeal.nD,
          r.2.mem ((c.tc : Thread Cert.RefSsmParFwdIdeal.nD Cert.RefSsmParFwdIdeal.τ).loc Cert.RefSsmParFwdIdeal.main_v27) = v0 c
          ∧ r.2.mem ((c.tc : Thread Cert.RefSsmParFwdIdeal.nD Cert.RefSsmParFwdIdeal.τ).loc Cert.RefSsmParFwdIdeal.main_v32) = v1 c
          ∧ r.2.mem ((c.tc : Thread Cert.RefSsmParFwdIdeal.nD Cert.RefSsmParFwdIdeal.τ).loc Cert.RefSsmParFwdIdeal.main_v119) = v2 c
          ∧ r.2.mem ((c.tc : Thread Cert.RefSsmParFwdIdeal.nD Cert.RefSsmParFwdIdeal.τ).loc Cert.RefSsmParFwdIdeal.main_v122) = v3 c
          ∧ r.2.mem ((c.tc : Thread Cert.RefSsmParFwdIdeal.nD Cert.RefSsmParFwdIdeal.τ).loc Cert.RefSsmParFwdIdeal.main_arg0) = m' ((c.tc : Thread Cert.RefSsmParFwdIdeal.nD Cert.RefSsmParFwdIdeal.τ).loc Cert.RefSsmParFwdIdeal.main_arg0)
          ∧ r.2.mem ((c.tc : Thread Cert.RefSsmParFwdIdeal.nD Cert.RefSsmParFwdIdeal.τ).loc Cert.RefSsmParFwdIdeal.main_arg1) = m' ((c.tc : Thread Cert.RefSsmParFwdIdeal.nD Cert.RefSsmParFwdIdeal.τ).loc Cert.RefSsmParFwdIdeal.main_arg1)
          ∧ r.2.mem ((c.tc : Thread Cert.RefSsmParFwdIdeal.nD Cert.RefSsmParFwdIdeal.τ).loc Cert.RefSsmParFwdIdeal.main_arg2) = m' ((c.tc : Thread Cert.RefSsmParFwdIdeal.nD Cert.RefSsmParFwdIdeal.τ).loc Cert.RefSsmParFwdIdeal.main_arg2)
          ∧ r.2.mem ((c.tc : Thread Cert.RefSsmParFwdIdeal.nD Cert.RefSsmParFwdIdeal.τ).loc Cert.RefSsmParFwdIdeal.main_arg3) = m' ((c.tc : Thread Cert.RefSsmParFwdIdeal.nD Cert.RefSsmParFwdIdeal.τ).loc Cert.RefSsmParFwdIdeal.main_arg3)
          ∧ r.2.mem ((c.tc : Thread Cert.RefSsmParFwdIdeal.nD Cert.RefSsmParFwdIdeal.τ).loc Cert.RefSsmParFwdIdeal.main_arg4) = m' ((c.tc : Thread Cert.RefSsmParFwdIdeal.nD Cert.RefSsmParFwdIdeal.τ).loc Cert.RefSsmParFwdIdeal.main_arg4))

def preserves_AdamSmallA_AdamSmallAIdeal : Prop :=
  IdealRules.named_const.Statement Cert.AdamSmallAIdeal.κ "adam_c1" .f32 0x3FC48605#32 ((8388608 / 5463681 : ℝ) : EReal)
  ∧ IdealRules.named_const.Statement Cert.AdamSmallAIdeal.κ "adam_c2" .f32 0x42C8E6D3#32 ((268435456 / 2672307 : ℝ) : EReal)

def algebraic_AdamSmallAIdeal_RefAdamSmallAIdeal [hAdamSmallAIdeal : Cert.AdamSmallAIdeal.Facts] [hRefAdamSmallAIdeal : Cert.RefAdamSmallAIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg)
    (m' : (ℓ : Loc Cert.RefAdamSmallAIdeal.nD Cert.RefAdamSmallAIdeal.τ Cert.RefAdamSmallAIdeal.sig) → Buf (Elt Ideal) ℓ) (g' : Dev Cert.RefAdamSmallAIdeal.nD → PrngReg), Pre_AdamSmallAIdeal m →
    (∀ c : Dev Cert.AdamSmallAIdeal.nD,
      m' ((c.tc : Thread Cert.RefAdamSmallAIdeal.nD Cert.RefAdamSmallAIdeal.τ).loc Cert.RefAdamSmallAIdeal.main_arg0) = m ((c.tc : Thread Cert.AdamSmallAIdeal.nD Cert.AdamSmallAIdeal.τ).loc Cert.AdamSmallAIdeal.main_arg0)
      ∧ m' ((c.tc : Thread Cert.RefAdamSmallAIdeal.nD Cert.RefAdamSmallAIdeal.τ).loc Cert.RefAdamSmallAIdeal.main_arg1) = m ((c.tc : Thread Cert.AdamSmallAIdeal.nD Cert.AdamSmallAIdeal.τ).loc Cert.AdamSmallAIdeal.main_arg1)
      ∧ m' ((c.tc : Thread Cert.RefAdamSmallAIdeal.nD Cert.RefAdamSmallAIdeal.τ).loc Cert.RefAdamSmallAIdeal.main_arg2) = m ((c.tc : Thread Cert.AdamSmallAIdeal.nD Cert.AdamSmallAIdeal.τ).loc Cert.AdamSmallAIdeal.main_arg2)
      ∧ m' ((c.tc : Thread Cert.RefAdamSmallAIdeal.nD Cert.RefAdamSmallAIdeal.τ).loc Cert.RefAdamSmallAIdeal.main_arg3) = m ((c.tc : Thread Cert.AdamSmallAIdeal.nD Cert.AdamSmallAIdeal.τ).loc Cert.AdamSmallAIdeal.main_arg3)
      ∧ m' ((c.tc : Thread Cert.RefAdamSmallAIdeal.nD Cert.RefAdamSmallAIdeal.τ).loc Cert.RefAdamSmallAIdeal.main_arg4) = m ((c.tc : Thread Cert.AdamSmallAIdeal.nD Cert.AdamSmallAIdeal.τ).loc Cert.AdamSmallAIdeal.main_arg4)
      ∧ m' ((c.tc : Thread Cert.RefAdamSmallAIdeal.nD Cert.RefAdamSmallAIdeal.τ).loc Cert.RefAdamSmallAIdeal.main_arg5) = m ((c.tc : Thread Cert.AdamSmallAIdeal.nD Cert.AdamSmallAIdeal.τ).loc Cert.AdamSmallAIdeal.main_arg5)
      ∧ m' ((c.tc : Thread Cert.RefAdamSmallAIdeal.nD Cert.RefAdamSmallAIdeal.τ).loc Cert.RefAdamSmallAIdeal.main_arg6) = m ((c.tc : Thread Cert.AdamSmallAIdeal.nD Cert.AdamSmallAIdeal.τ).loc Cert.AdamSmallAIdeal.main_arg6)
      ∧ m' ((c.tc : Thread Cert.RefAdamSmallAIdeal.nD Cert.RefAdamSmallAIdeal.τ).loc Cert.RefAdamSmallAIdeal.main_arg7) = m ((c.tc : Thread Cert.AdamSmallAIdeal.nD Cert.AdamSmallAIdeal.τ).loc Cert.AdamSmallAIdeal.main_arg7)
      ∧ m' ((c.tc : Thread Cert.RefAdamSmallAIdeal.nD Cert.RefAdamSmallAIdeal.τ).loc Cert.RefAdamSmallAIdeal.main_arg8) = m ((c.tc : Thread Cert.AdamSmallAIdeal.nD Cert.AdamSmallAIdeal.τ).loc Cert.AdamSmallAIdeal.main_arg8)
      ∧ m' ((c.tc : Thread Cert.RefAdamSmallAIdeal.nD Cert.RefAdamSmallAIdeal.τ).loc Cert.RefAdamSmallAIdeal.main_arg9) = m ((c.tc : Thread Cert.AdamSmallAIdeal.nD Cert.AdamSmallAIdeal.τ).loc Cert.AdamSmallAIdeal.main_arg9)
      ∧ m' ((c.tc : Thread Cert.RefAdamSmallAIdeal.nD Cert.RefAdamSmallAIdeal.τ).loc Cert.RefAdamSmallAIdeal.main_arg10) = m ((c.tc : Thread Cert.AdamSmallAIdeal.nD Cert.AdamSmallAIdeal.τ).loc Cert.AdamSmallAIdeal.main_arg10)
      ∧ m' ((c.tc : Thread Cert.RefAdamSmallAIdeal.nD Cert.RefAdamSmallAIdeal.τ).loc Cert.RefAdamSmallAIdeal.main_arg11) = m ((c.tc : Thread Cert.AdamSmallAIdeal.nD Cert.AdamSmallAIdeal.τ).loc Cert.AdamSmallAIdeal.main_arg11)) →
    ∃ (v0 : (c : Dev Cert.AdamSmallAIdeal.nD) → Buf (Elt Ideal) ((c.tc : Thread Cert.AdamSmallAIdeal.nD Cert.AdamSmallAIdeal.τ).loc Cert.AdamSmallAIdeal.main_v0_0)) (v1 : (c : Dev Cert.AdamSmallAIdeal.nD) → Buf (Elt Ideal) ((c.tc : Thread Cert.AdamSmallAIdeal.nD Cert.AdamSmallAIdeal.τ).loc Cert.AdamSmallAIdeal.main_v0_1)) (v2 : (c : Dev Cert.AdamSmallAIdeal.nD) → Buf (Elt Ideal) ((c.tc : Thread Cert.AdamSmallAIdeal.nD Cert.AdamSmallAIdeal.τ).loc Cert.AdamSmallAIdeal.main_v0_2)) (v3 : (c : Dev Cert.AdamSmallAIdeal.nD) → Buf (Elt Ideal) ((c.tc : Thread Cert.AdamSmallAIdeal.nD Cert.AdamSmallAIdeal.τ).loc Cert.AdamSmallAIdeal.main_v0_3)) (v4 : (c : Dev Cert.AdamSmallAIdeal.nD) → Buf (Elt Ideal) ((c.tc : Thread Cert.AdamSmallAIdeal.nD Cert.AdamSmallAIdeal.τ).loc Cert.AdamSmallAIdeal.main_v0_4)) (v5 : (c : Dev Cert.AdamSmallAIdeal.nD) → Buf (Elt Ideal) ((c.tc : Thread Cert.AdamSmallAIdeal.nD Cert.AdamSmallAIdeal.τ).loc Cert.AdamSmallAIdeal.main_v0_5)) (v6 : (c : Dev Cert.AdamSmallAIdeal.nD) → Buf (Elt Ideal) ((c.tc : Thread Cert.AdamSmallAIdeal.nD Cert.AdamSmallAIdeal.τ).loc Cert.AdamSmallAIdeal.main_v0_6)) (v7 : (c : Dev Cert.AdamSmallAIdeal.nD) → Buf (Elt Ideal) ((c.tc : Thread Cert.AdamSmallAIdeal.nD Cert.AdamSmallAIdeal.τ).loc Cert.AdamSmallAIdeal.main_v0_7)) (v8 : (c : Dev Cert.AdamSmallAIdeal.nD) → Buf (Elt Ideal) ((c.tc : Thread Cert.AdamSmallAIdeal.nD Cert.AdamSmallAIdeal.τ).loc Cert.AdamSmallAIdeal.main_v0_8)),
      θ_run (Cert.AdamSmallAIdeal.defs (F := Ideal)) (onTc (τ := Cert.AdamSmallAIdeal.τ) (Cert.AdamSmallAIdeal.main (F := Ideal))) ⟨m, fun _ => 0, g⟩ (fun r => ∀ c : Dev Cert.AdamSmallAIdeal.nD,
          r.2.mem ((c.tc : Thread Cert.AdamSmallAIdeal.nD Cert.AdamSmallAIdeal.τ).loc Cert.AdamSmallAIdeal.main_v0_0) = v0 c
          ∧ r.2.mem ((c.tc : Thread Cert.AdamSmallAIdeal.nD Cert.AdamSmallAIdeal.τ).loc Cert.AdamSmallAIdeal.main_v0_1) = v1 c
          ∧ r.2.mem ((c.tc : Thread Cert.AdamSmallAIdeal.nD Cert.AdamSmallAIdeal.τ).loc Cert.AdamSmallAIdeal.main_v0_2) = v2 c
          ∧ r.2.mem ((c.tc : Thread Cert.AdamSmallAIdeal.nD Cert.AdamSmallAIdeal.τ).loc Cert.AdamSmallAIdeal.main_v0_3) = v3 c
          ∧ r.2.mem ((c.tc : Thread Cert.AdamSmallAIdeal.nD Cert.AdamSmallAIdeal.τ).loc Cert.AdamSmallAIdeal.main_v0_4) = v4 c
          ∧ r.2.mem ((c.tc : Thread Cert.AdamSmallAIdeal.nD Cert.AdamSmallAIdeal.τ).loc Cert.AdamSmallAIdeal.main_v0_5) = v5 c
          ∧ r.2.mem ((c.tc : Thread Cert.AdamSmallAIdeal.nD Cert.AdamSmallAIdeal.τ).loc Cert.AdamSmallAIdeal.main_v0_6) = v6 c
          ∧ r.2.mem ((c.tc : Thread Cert.AdamSmallAIdeal.nD Cert.AdamSmallAIdeal.τ).loc Cert.AdamSmallAIdeal.main_v0_7) = v7 c
          ∧ r.2.mem ((c.tc : Thread Cert.AdamSmallAIdeal.nD Cert.AdamSmallAIdeal.τ).loc Cert.AdamSmallAIdeal.main_v0_8) = v8 c
          ∧ r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
          ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
          ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
          ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
          ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
          ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
          ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
          ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
          ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
          ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
          ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
          ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11))
      ∧ θ_run (Cert.RefAdamSmallAIdeal.defs (F := Ideal)) (onTc (τ := Cert.RefAdamSmallAIdeal.τ) (Cert.RefAdamSmallAIdeal.main (F := Ideal))) ⟨m', fun _ => 0, g'⟩ (fun r => ∀ c : Dev Cert.RefAdamSmallAIdeal.nD,
          r.2.mem ((c.tc : Thread Cert.RefAdamSmallAIdeal.nD Cert.RefAdamSmallAIdeal.τ).loc Cert.RefAdamSmallAIdeal.main_v23) = v0 c
          ∧ r.2.mem ((c.tc : Thread Cert.RefAdamSmallAIdeal.nD Cert.RefAdamSmallAIdeal.τ).loc Cert.RefAdamSmallAIdeal.main_v47) = v1 c
          ∧ r.2.mem ((c.tc : Thread Cert.RefAdamSmallAIdeal.nD Cert.RefAdamSmallAIdeal.τ).loc Cert.RefAdamSmallAIdeal.main_v71) = v2 c
          ∧ r.2.mem ((c.tc : Thread Cert.RefAdamSmallAIdeal.nD Cert.RefAdamSmallAIdeal.τ).loc Cert.RefAdamSmallAIdeal.main_v4) = v3 c
          ∧ r.2.mem ((c.tc : Thread Cert.RefAdamSmallAIdeal.nD Cert.RefAdamSmallAIdeal.τ).loc Cert.RefAdamSmallAIdeal.main_v28) = v4 c
          ∧ r.2.mem ((c.tc : Thread Cert.RefAdamSmallAIdeal.nD Cert.RefAdamSmallAIdeal.τ).loc Cert.RefAdamSmallAIdeal.main_v52) = v5 c
          ∧ r.2.mem ((c.tc : Thread Cert.RefAdamSmallAIdeal.nD Cert.RefAdamSmallAIdeal.τ).loc Cert.RefAdamSmallAIdeal.main_v10) = v6 c
          ∧ r.2.mem ((c.tc : Thread Cert.RefAdamSmallAIdeal.nD Cert.RefAdamSmallAIdeal.τ).loc Cert.RefAdamSmallAIdeal.main_v34) = v7 c
          ∧ r.2.mem ((c.tc : Thread Cert.RefAdamSmallAIdeal.nD Cert.RefAdamSmallAIdeal.τ).loc Cert.RefAdamSmallAIdeal.main_v58) = v8 c
          ∧ r.2.mem ((c.tc : Thread Cert.RefAdamSmallAIdeal.nD Cert.RefAdamSmallAIdeal.τ).loc Cert.RefAdamSmallAIdeal.main_arg0) = m' ((c.tc : Thread Cert.RefAdamSmallAIdeal.nD Cert.RefAdamSmallAIdeal.τ).loc Cert.RefAdamSmallAIdeal.main_arg0)
          ∧ r.2.mem ((c.tc : Thread Cert.RefAdamSmallAIdeal.nD Cert.RefAdamSmallAIdeal.τ).loc Cert.RefAdamSmallAIdeal.main_arg1) = m' ((c.tc : Thread Cert.RefAdamSmallAIdeal.nD Cert.RefAdamSmallAIdeal.τ).loc Cert.RefAdamSmallAIdeal.main_arg1)
          ∧ r.2.mem ((c.tc : Thread Cert.RefAdamSmallAIdeal.nD Cert.RefAdamSmallAIdeal.τ).loc Cert.RefAdamSmallAIdeal.main_arg2) = m' ((c.tc : Thread Cert.RefAdamSmallAIdeal.nD Cert.RefAdamSmallAIdeal.τ).loc Cert.RefAdamSmallAIdeal.main_arg2)
          ∧ r.2.mem ((c.tc : Thread Cert.RefAdamSmallAIdeal.nD Cert.RefAdamSmallAIdeal.τ).loc Cert.RefAdamSmallAIdeal.main_arg3) = m' ((c.tc : Thread Cert.RefAdamSmallAIdeal.nD Cert.RefAdamSmallAIdeal.τ).loc Cert.RefAdamSmallAIdeal.main_arg3)
          ∧ r.2.mem ((c.tc : Thread Cert.RefAdamSmallAIdeal.nD Cert.RefAdamSmallAIdeal.τ).loc Cert.RefAdamSmallAIdeal.main_arg4) = m' ((c.tc : Thread Cert.RefAdamSmallAIdeal.nD Cert.RefAdamSmallAIdeal.τ).loc Cert.RefAdamSmallAIdeal.main_arg4)
          ∧ r.2.mem ((c.tc : Thread Cert.RefAdamSmallAIdeal.nD Cert.RefAdamSmallAIdeal.τ).loc Cert.RefAdamSmallAIdeal.main_arg5) = m' ((c.tc : Thread Cert.RefAdamSmallAIdeal.nD Cert.RefAdamSmallAIdeal.τ).loc Cert.RefAdamSmallAIdeal.main_arg5)
          ∧ r.2.mem ((c.tc : Thread Cert.RefAdamSmallAIdeal.nD Cert.RefAdamSmallAIdeal.τ).loc Cert.RefAdamSmallAIdeal.main_arg6) = m' ((c.tc : Thread Cert.RefAdamSmallAIdeal.nD Cert.RefAdamSmallAIdeal.τ).loc Cert.RefAdamSmallAIdeal.main_arg6)
          ∧ r.2.mem ((c.tc : Thread Cert.RefAdamSmallAIdeal.nD Cert.RefAdamSmallAIdeal.τ).loc Cert.RefAdamSmallAIdeal.main_arg7) = m' ((c.tc : Thread Cert.RefAdamSmallAIdeal.nD Cert.RefAdamSmallAIdeal.τ).loc Cert.RefAdamSmallAIdeal.main_arg7)
          ∧ r.2.mem ((c.tc : Thread Cert.RefAdamSmallAIdeal.nD Cert.RefAdamSmallAIdeal.τ).loc Cert.RefAdamSmallAIdeal.main_arg8) = m' ((c.tc : Thread Cert.RefAdamSmallAIdeal.nD Cert.RefAdamSmallAIdeal.τ).loc Cert.RefAdamSmallAIdeal.main_arg8)
          ∧ r.2.mem ((c.tc : Thread Cert.RefAdamSmallAIdeal.nD Cert.RefAdamSmallAIdeal.τ).loc Cert.RefAdamSmallAIdeal.main_arg9) = m' ((c.tc : Thread Cert.RefAdamSmallAIdeal.nD Cert.RefAdamSmallAIdeal.τ).loc Cert.RefAdamSmallAIdeal.main_arg9)
          ∧ r.2.mem ((c.tc : Thread Cert.RefAdamSmallAIdeal.nD Cert.RefAdamSmallAIdeal.τ).loc Cert.RefAdamSmallAIdeal.main_arg10) = m' ((c.tc : Thread Cert.RefAdamSmallAIdeal.nD Cert.RefAdamSmallAIdeal.τ).loc Cert.RefAdamSmallAIdeal.main_arg10)
          ∧ r.2.mem ((c.tc : Thread Cert.RefAdamSmallAIdeal.nD Cert.RefAdamSmallAIdeal.τ).loc Cert.RefAdamSmallAIdeal.main_arg11) = m' ((c.tc : Thread Cert.RefAdamSmallAIdeal.nD Cert.RefAdamSmallAIdeal.τ).loc Cert.RefAdamSmallAIdeal.main_arg11))

def preserves_AdamSmallB_AdamSmallBIdeal : Prop :=
  IdealRules.named_const.Statement Cert.AdamSmallBIdeal.κ "adam_c1" .f32 0x3FC48605#32 ((8388608 / 5463681 : ℝ) : EReal)
  ∧ IdealRules.named_const.Statement Cert.AdamSmallBIdeal.κ "adam_c2" .f32 0x42C8E6D3#32 ((268435456 / 2672307 : ℝ) : EReal)

def algebraic_AdamSmallBIdeal_RefAdamSmallBIdeal [hAdamSmallBIdeal : Cert.AdamSmallBIdeal.Facts] [hRefAdamSmallBIdeal : Cert.RefAdamSmallBIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg)
    (m' : (ℓ : Loc Cert.RefAdamSmallBIdeal.nD Cert.RefAdamSmallBIdeal.τ Cert.RefAdamSmallBIdeal.sig) → Buf (Elt Ideal) ℓ) (g' : Dev Cert.RefAdamSmallBIdeal.nD → PrngReg), Pre_AdamSmallBIdeal m →
    (∀ c : Dev Cert.AdamSmallBIdeal.nD,
      m' ((c.tc : Thread Cert.RefAdamSmallBIdeal.nD Cert.RefAdamSmallBIdeal.τ).loc Cert.RefAdamSmallBIdeal.main_arg0) = m ((c.tc : Thread Cert.AdamSmallBIdeal.nD Cert.AdamSmallBIdeal.τ).loc Cert.AdamSmallBIdeal.main_arg0)
      ∧ m' ((c.tc : Thread Cert.RefAdamSmallBIdeal.nD Cert.RefAdamSmallBIdeal.τ).loc Cert.RefAdamSmallBIdeal.main_arg1) = m ((c.tc : Thread Cert.AdamSmallBIdeal.nD Cert.AdamSmallBIdeal.τ).loc Cert.AdamSmallBIdeal.main_arg1)
      ∧ m' ((c.tc : Thread Cert.RefAdamSmallBIdeal.nD Cert.RefAdamSmallBIdeal.τ).loc Cert.RefAdamSmallBIdeal.main_arg2) = m ((c.tc : Thread Cert.AdamSmallBIdeal.nD Cert.AdamSmallBIdeal.τ).loc Cert.AdamSmallBIdeal.main_arg2)
      ∧ m' ((c.tc : Thread Cert.RefAdamSmallBIdeal.nD Cert.RefAdamSmallBIdeal.τ).loc Cert.RefAdamSmallBIdeal.main_arg3) = m ((c.tc : Thread Cert.AdamSmallBIdeal.nD Cert.AdamSmallBIdeal.τ).loc Cert.AdamSmallBIdeal.main_arg3)
      ∧ m' ((c.tc : Thread Cert.RefAdamSmallBIdeal.nD Cert.RefAdamSmallBIdeal.τ).loc Cert.RefAdamSmallBIdeal.main_arg4) = m ((c.tc : Thread Cert.AdamSmallBIdeal.nD Cert.AdamSmallBIdeal.τ).loc Cert.AdamSmallBIdeal.main_arg4)
      ∧ m' ((c.tc : Thread Cert.RefAdamSmallBIdeal.nD Cert.RefAdamSmallBIdeal.τ).loc Cert.RefAdamSmallBIdeal.main_arg5) = m ((c.tc : Thread Cert.AdamSmallBIdeal.nD Cert.AdamSmallBIdeal.τ).loc Cert.AdamSmallBIdeal.main_arg5)
      ∧ m' ((c.tc : Thread Cert.RefAdamSmallBIdeal.nD Cert.RefAdamSmallBIdeal.τ).loc Cert.RefAdamSmallBIdeal.main_arg6) = m ((c.tc : Thread Cert.AdamSmallBIdeal.nD Cert.AdamSmallBIdeal.τ).loc Cert.AdamSmallBIdeal.main_arg6)
      ∧ m' ((c.tc : Thread Cert.RefAdamSmallBIdeal.nD Cert.RefAdamSmallBIdeal.τ).loc Cert.RefAdamSmallBIdeal.main_arg7) = m ((c.tc : Thread Cert.AdamSmallBIdeal.nD Cert.AdamSmallBIdeal.τ).loc Cert.AdamSmallBIdeal.main_arg7)
      ∧ m' ((c.tc : Thread Cert.RefAdamSmallBIdeal.nD Cert.RefAdamSmallBIdeal.τ).loc Cert.RefAdamSmallBIdeal.main_arg8) = m ((c.tc : Thread Cert.AdamSmallBIdeal.nD Cert.AdamSmallBIdeal.τ).loc Cert.AdamSmallBIdeal.main_arg8)
      ∧ m' ((c.tc : Thread Cert.RefAdamSmallBIdeal.nD Cert.RefAdamSmallBIdeal.τ).loc Cert.RefAdamSmallBIdeal.main_arg9) = m ((c.tc : Thread Cert.AdamSmallBIdeal.nD Cert.AdamSmallBIdeal.τ).loc Cert.AdamSmallBIdeal.main_arg9)
      ∧ m' ((c.tc : Thread Cert.RefAdamSmallBIdeal.nD Cert.RefAdamSmallBIdeal.τ).loc Cert.RefAdamSmallBIdeal.main_arg10) = m ((c.tc : Thread Cert.AdamSmallBIdeal.nD Cert.AdamSmallBIdeal.τ).loc Cert.AdamSmallBIdeal.main_arg10)
      ∧ m' ((c.tc : Thread Cert.RefAdamSmallBIdeal.nD Cert.RefAdamSmallBIdeal.τ).loc Cert.RefAdamSmallBIdeal.main_arg11) = m ((c.tc : Thread Cert.AdamSmallBIdeal.nD Cert.AdamSmallBIdeal.τ).loc Cert.AdamSmallBIdeal.main_arg11)) →
    ∃ (v0 : (c : Dev Cert.AdamSmallBIdeal.nD) → Buf (Elt Ideal) ((c.tc : Thread Cert.AdamSmallBIdeal.nD Cert.AdamSmallBIdeal.τ).loc Cert.AdamSmallBIdeal.main_v0_0)) (v1 : (c : Dev Cert.AdamSmallBIdeal.nD) → Buf (Elt Ideal) ((c.tc : Thread Cert.AdamSmallBIdeal.nD Cert.AdamSmallBIdeal.τ).loc Cert.AdamSmallBIdeal.main_v0_1)) (v2 : (c : Dev Cert.AdamSmallBIdeal.nD) → Buf (Elt Ideal) ((c.tc : Thread Cert.AdamSmallBIdeal.nD Cert.AdamSmallBIdeal.τ).loc Cert.AdamSmallBIdeal.main_v0_2)) (v3 : (c : Dev Cert.AdamSmallBIdeal.nD) → Buf (Elt Ideal) ((c.tc : Thread Cert.AdamSmallBIdeal.nD Cert.AdamSmallBIdeal.τ).loc Cert.AdamSmallBIdeal.main_v0_3)) (v4 : (c : Dev Cert.AdamSmallBIdeal.nD) → Buf (Elt Ideal) ((c.tc : Thread Cert.AdamSmallBIdeal.nD Cert.AdamSmallBIdeal.τ).loc Cert.AdamSmallBIdeal.main_v0_4)) (v5 : (c : Dev Cert.AdamSmallBIdeal.nD) → Buf (Elt Ideal) ((c.tc : Thread Cert.AdamSmallBIdeal.nD Cert.AdamSmallBIdeal.τ).loc Cert.AdamSmallBIdeal.main_v0_5)) (v6 : (c : Dev Cert.AdamSmallBIdeal.nD) → Buf (Elt Ideal) ((c.tc : Thread Cert.AdamSmallBIdeal.nD Cert.AdamSmallBIdeal.τ).loc Cert.AdamSmallBIdeal.main_v0_6)) (v7 : (c : Dev Cert.AdamSmallBIdeal.nD) → Buf (Elt Ideal) ((c.tc : Thread Cert.AdamSmallBIdeal.nD Cert.AdamSmallBIdeal.τ).loc Cert.AdamSmallBIdeal.main_v0_7)) (v8 : (c : Dev Cert.AdamSmallBIdeal.nD) → Buf (Elt Ideal) ((c.tc : Thread Cert.AdamSmallBIdeal.nD Cert.AdamSmallBIdeal.τ).loc Cert.AdamSmallBIdeal.main_v0_8)),
      θ_run (Cert.AdamSmallBIdeal.defs (F := Ideal)) (onTc (τ := Cert.AdamSmallBIdeal.τ) (Cert.AdamSmallBIdeal.main (F := Ideal))) ⟨m, fun _ => 0, g⟩ (fun r => ∀ c : Dev Cert.AdamSmallBIdeal.nD,
          r.2.mem ((c.tc : Thread Cert.AdamSmallBIdeal.nD Cert.AdamSmallBIdeal.τ).loc Cert.AdamSmallBIdeal.main_v0_0) = v0 c
          ∧ r.2.mem ((c.tc : Thread Cert.AdamSmallBIdeal.nD Cert.AdamSmallBIdeal.τ).loc Cert.AdamSmallBIdeal.main_v0_1) = v1 c
          ∧ r.2.mem ((c.tc : Thread Cert.AdamSmallBIdeal.nD Cert.AdamSmallBIdeal.τ).loc Cert.AdamSmallBIdeal.main_v0_2) = v2 c
          ∧ r.2.mem ((c.tc : Thread Cert.AdamSmallBIdeal.nD Cert.AdamSmallBIdeal.τ).loc Cert.AdamSmallBIdeal.main_v0_3) = v3 c
          ∧ r.2.mem ((c.tc : Thread Cert.AdamSmallBIdeal.nD Cert.AdamSmallBIdeal.τ).loc Cert.AdamSmallBIdeal.main_v0_4) = v4 c
          ∧ r.2.mem ((c.tc : Thread Cert.AdamSmallBIdeal.nD Cert.AdamSmallBIdeal.τ).loc Cert.AdamSmallBIdeal.main_v0_5) = v5 c
          ∧ r.2.mem ((c.tc : Thread Cert.AdamSmallBIdeal.nD Cert.AdamSmallBIdeal.τ).loc Cert.AdamSmallBIdeal.main_v0_6) = v6 c
          ∧ r.2.mem ((c.tc : Thread Cert.AdamSmallBIdeal.nD Cert.AdamSmallBIdeal.τ).loc Cert.AdamSmallBIdeal.main_v0_7) = v7 c
          ∧ r.2.mem ((c.tc : Thread Cert.AdamSmallBIdeal.nD Cert.AdamSmallBIdeal.τ).loc Cert.AdamSmallBIdeal.main_v0_8) = v8 c
          ∧ r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
          ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
          ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
          ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
          ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
          ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
          ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
          ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
          ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
          ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
          ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
          ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11))
      ∧ θ_run (Cert.RefAdamSmallBIdeal.defs (F := Ideal)) (onTc (τ := Cert.RefAdamSmallBIdeal.τ) (Cert.RefAdamSmallBIdeal.main (F := Ideal))) ⟨m', fun _ => 0, g'⟩ (fun r => ∀ c : Dev Cert.RefAdamSmallBIdeal.nD,
          r.2.mem ((c.tc : Thread Cert.RefAdamSmallBIdeal.nD Cert.RefAdamSmallBIdeal.τ).loc Cert.RefAdamSmallBIdeal.main_v23) = v0 c
          ∧ r.2.mem ((c.tc : Thread Cert.RefAdamSmallBIdeal.nD Cert.RefAdamSmallBIdeal.τ).loc Cert.RefAdamSmallBIdeal.main_v47) = v1 c
          ∧ r.2.mem ((c.tc : Thread Cert.RefAdamSmallBIdeal.nD Cert.RefAdamSmallBIdeal.τ).loc Cert.RefAdamSmallBIdeal.main_v71) = v2 c
          ∧ r.2.mem ((c.tc : Thread Cert.RefAdamSmallBIdeal.nD Cert.RefAdamSmallBIdeal.τ).loc Cert.RefAdamSmallBIdeal.main_v4) = v3 c
          ∧ r.2.mem ((c.tc : Thread Cert.RefAdamSmallBIdeal.nD Cert.RefAdamSmallBIdeal.τ).loc Cert.RefAdamSmallBIdeal.main_v28) = v4 c
          ∧ r.2.mem ((c.tc : Thread Cert.RefAdamSmallBIdeal.nD Cert.RefAdamSmallBIdeal.τ).loc Cert.RefAdamSmallBIdeal.main_v52) = v5 c
          ∧ r.2.mem ((c.tc : Thread Cert.RefAdamSmallBIdeal.nD Cert.RefAdamSmallBIdeal.τ).loc Cert.RefAdamSmallBIdeal.main_v10) = v6 c
          ∧ r.2.mem ((c.tc : Thread Cert.RefAdamSmallBIdeal.nD Cert.RefAdamSmallBIdeal.τ).loc Cert.RefAdamSmallBIdeal.main_v34) = v7 c
          ∧ r.2.mem ((c.tc : Thread Cert.RefAdamSmallBIdeal.nD Cert.RefAdamSmallBIdeal.τ).loc Cert.RefAdamSmallBIdeal.main_v58) = v8 c
          ∧ r.2.mem ((c.tc : Thread Cert.RefAdamSmallBIdeal.nD Cert.RefAdamSmallBIdeal.τ).loc Cert.RefAdamSmallBIdeal.main_arg0) = m' ((c.tc : Thread Cert.RefAdamSmallBIdeal.nD Cert.RefAdamSmallBIdeal.τ).loc Cert.RefAdamSmallBIdeal.main_arg0)
          ∧ r.2.mem ((c.tc : Thread Cert.RefAdamSmallBIdeal.nD Cert.RefAdamSmallBIdeal.τ).loc Cert.RefAdamSmallBIdeal.main_arg1) = m' ((c.tc : Thread Cert.RefAdamSmallBIdeal.nD Cert.RefAdamSmallBIdeal.τ).loc Cert.RefAdamSmallBIdeal.main_arg1)
          ∧ r.2.mem ((c.tc : Thread Cert.RefAdamSmallBIdeal.nD Cert.RefAdamSmallBIdeal.τ).loc Cert.RefAdamSmallBIdeal.main_arg2) = m' ((c.tc : Thread Cert.RefAdamSmallBIdeal.nD Cert.RefAdamSmallBIdeal.τ).loc Cert.RefAdamSmallBIdeal.main_arg2)
          ∧ r.2.mem ((c.tc : Thread Cert.RefAdamSmallBIdeal.nD Cert.RefAdamSmallBIdeal.τ).loc Cert.RefAdamSmallBIdeal.main_arg3) = m' ((c.tc : Thread Cert.RefAdamSmallBIdeal.nD Cert.RefAdamSmallBIdeal.τ).loc Cert.RefAdamSmallBIdeal.main_arg3)
          ∧ r.2.mem ((c.tc : Thread Cert.RefAdamSmallBIdeal.nD Cert.RefAdamSmallBIdeal.τ).loc Cert.RefAdamSmallBIdeal.main_arg4) = m' ((c.tc : Thread Cert.RefAdamSmallBIdeal.nD Cert.RefAdamSmallBIdeal.τ).loc Cert.RefAdamSmallBIdeal.main_arg4)
          ∧ r.2.mem ((c.tc : Thread Cert.RefAdamSmallBIdeal.nD Cert.RefAdamSmallBIdeal.τ).loc Cert.RefAdamSmallBIdeal.main_arg5) = m' ((c.tc : Thread Cert.RefAdamSmallBIdeal.nD Cert.RefAdamSmallBIdeal.τ).loc Cert.RefAdamSmallBIdeal.main_arg5)
          ∧ r.2.mem ((c.tc : Thread Cert.RefAdamSmallBIdeal.nD Cert.RefAdamSmallBIdeal.τ).loc Cert.RefAdamSmallBIdeal.main_arg6) = m' ((c.tc : Thread Cert.RefAdamSmallBIdeal.nD Cert.RefAdamSmallBIdeal.τ).loc Cert.RefAdamSmallBIdeal.main_arg6)
          ∧ r.2.mem ((c.tc : Thread Cert.RefAdamSmallBIdeal.nD Cert.RefAdamSmallBIdeal.τ).loc Cert.RefAdamSmallBIdeal.main_arg7) = m' ((c.tc : Thread Cert.RefAdamSmallBIdeal.nD Cert.RefAdamSmallBIdeal.τ).loc Cert.RefAdamSmallBIdeal.main_arg7)
          ∧ r.2.mem ((c.tc : Thread Cert.RefAdamSmallBIdeal.nD Cert.RefAdamSmallBIdeal.τ).loc Cert.RefAdamSmallBIdeal.main_arg8) = m' ((c.tc : Thread Cert.RefAdamSmallBIdeal.nD Cert.RefAdamSmallBIdeal.τ).loc Cert.RefAdamSmallBIdeal.main_arg8)
          ∧ r.2.mem ((c.tc : Thread Cert.RefAdamSmallBIdeal.nD Cert.RefAdamSmallBIdeal.τ).loc Cert.RefAdamSmallBIdeal.main_arg9) = m' ((c.tc : Thread Cert.RefAdamSmallBIdeal.nD Cert.RefAdamSmallBIdeal.τ).loc Cert.RefAdamSmallBIdeal.main_arg9)
          ∧ r.2.mem ((c.tc : Thread Cert.RefAdamSmallBIdeal.nD Cert.RefAdamSmallBIdeal.τ).loc Cert.RefAdamSmallBIdeal.main_arg10) = m' ((c.tc : Thread Cert.RefAdamSmallBIdeal.nD Cert.RefAdamSmallBIdeal.τ).loc Cert.RefAdamSmallBIdeal.main_arg10)
          ∧ r.2.mem ((c.tc : Thread Cert.RefAdamSmallBIdeal.nD Cert.RefAdamSmallBIdeal.τ).loc Cert.RefAdamSmallBIdeal.main_arg11) = m' ((c.tc : Thread Cert.RefAdamSmallBIdeal.nD Cert.RefAdamSmallBIdeal.τ).loc Cert.RefAdamSmallBIdeal.main_arg11))

def preserves_AdamSmallC_AdamSmallCIdeal : Prop :=
  IdealRules.named_const.Statement Cert.AdamSmallCIdeal.κ "adam_c1" .f32 0x3FC48605#32 ((8388608 / 5463681 : ℝ) : EReal)
  ∧ IdealRules.named_const.Statement Cert.AdamSmallCIdeal.κ "adam_c2" .f32 0x42C8E6D3#32 ((268435456 / 2672307 : ℝ) : EReal)

def algebraic_AdamSmallCIdeal_RefAdamSmallCIdeal [hAdamSmallCIdeal : Cert.AdamSmallCIdeal.Facts] [hRefAdamSmallCIdeal : Cert.RefAdamSmallCIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg)
    (m' : (ℓ : Loc Cert.RefAdamSmallCIdeal.nD Cert.RefAdamSmallCIdeal.τ Cert.RefAdamSmallCIdeal.sig) → Buf (Elt Ideal) ℓ) (g' : Dev Cert.RefAdamSmallCIdeal.nD → PrngReg), Pre_AdamSmallCIdeal m →
    (∀ c : Dev Cert.AdamSmallCIdeal.nD,
      m' ((c.tc : Thread Cert.RefAdamSmallCIdeal.nD Cert.RefAdamSmallCIdeal.τ).loc Cert.RefAdamSmallCIdeal.main_arg0) = m ((c.tc : Thread Cert.AdamSmallCIdeal.nD Cert.AdamSmallCIdeal.τ).loc Cert.AdamSmallCIdeal.main_arg0)
      ∧ m' ((c.tc : Thread Cert.RefAdamSmallCIdeal.nD Cert.RefAdamSmallCIdeal.τ).loc Cert.RefAdamSmallCIdeal.main_arg1) = m ((c.tc : Thread Cert.AdamSmallCIdeal.nD Cert.AdamSmallCIdeal.τ).loc Cert.AdamSmallCIdeal.main_arg1)
      ∧ m' ((c.tc : Thread Cert.RefAdamSmallCIdeal.nD Cert.RefAdamSmallCIdeal.τ).loc Cert.RefAdamSmallCIdeal.main_arg2) = m ((c.tc : Thread Cert.AdamSmallCIdeal.nD Cert.AdamSmallCIdeal.τ).loc Cert.AdamSmallCIdeal.main_arg2)
      ∧ m' ((c.tc : Thread Cert.RefAdamSmallCIdeal.nD Cert.RefAdamSmallCIdeal.τ).loc Cert.RefAdamSmallCIdeal.main_arg3) = m ((c.tc : Thread Cert.AdamSmallCIdeal.nD Cert.AdamSmallCIdeal.τ).loc Cert.AdamSmallCIdeal.main_arg3)
      ∧ m' ((c.tc : Thread Cert.RefAdamSmallCIdeal.nD Cert.RefAdamSmallCIdeal.τ).loc Cert.RefAdamSmallCIdeal.main_arg4) = m ((c.tc : Thread Cert.AdamSmallCIdeal.nD Cert.AdamSmallCIdeal.τ).loc Cert.AdamSmallCIdeal.main_arg4)
      ∧ m' ((c.tc : Thread Cert.RefAdamSmallCIdeal.nD Cert.RefAdamSmallCIdeal.τ).loc Cert.RefAdamSmallCIdeal.main_arg5) = m ((c.tc : Thread Cert.AdamSmallCIdeal.nD Cert.AdamSmallCIdeal.τ).loc Cert.AdamSmallCIdeal.main_arg5)
      ∧ m' ((c.tc : Thread Cert.RefAdamSmallCIdeal.nD Cert.RefAdamSmallCIdeal.τ).loc Cert.RefAdamSmallCIdeal.main_arg6) = m ((c.tc : Thread Cert.AdamSmallCIdeal.nD Cert.AdamSmallCIdeal.τ).loc Cert.AdamSmallCIdeal.main_arg6)
      ∧ m' ((c.tc : Thread Cert.RefAdamSmallCIdeal.nD Cert.RefAdamSmallCIdeal.τ).loc Cert.RefAdamSmallCIdeal.main_arg7) = m ((c.tc : Thread Cert.AdamSmallCIdeal.nD Cert.AdamSmallCIdeal.τ).loc Cert.AdamSmallCIdeal.main_arg7)
      ∧ m' ((c.tc : Thread Cert.RefAdamSmallCIdeal.nD Cert.RefAdamSmallCIdeal.τ).loc Cert.RefAdamSmallCIdeal.main_arg8) = m ((c.tc : Thread Cert.AdamSmallCIdeal.nD Cert.AdamSmallCIdeal.τ).loc Cert.AdamSmallCIdeal.main_arg8)
      ∧ m' ((c.tc : Thread Cert.RefAdamSmallCIdeal.nD Cert.RefAdamSmallCIdeal.τ).loc Cert.RefAdamSmallCIdeal.main_arg9) = m ((c.tc : Thread Cert.AdamSmallCIdeal.nD Cert.AdamSmallCIdeal.τ).loc Cert.AdamSmallCIdeal.main_arg9)
      ∧ m' ((c.tc : Thread Cert.RefAdamSmallCIdeal.nD Cert.RefAdamSmallCIdeal.τ).loc Cert.RefAdamSmallCIdeal.main_arg10) = m ((c.tc : Thread Cert.AdamSmallCIdeal.nD Cert.AdamSmallCIdeal.τ).loc Cert.AdamSmallCIdeal.main_arg10)
      ∧ m' ((c.tc : Thread Cert.RefAdamSmallCIdeal.nD Cert.RefAdamSmallCIdeal.τ).loc Cert.RefAdamSmallCIdeal.main_arg11) = m ((c.tc : Thread Cert.AdamSmallCIdeal.nD Cert.AdamSmallCIdeal.τ).loc Cert.AdamSmallCIdeal.main_arg11)) →
    ∃ (v0 : (c : Dev Cert.AdamSmallCIdeal.nD) → Buf (Elt Ideal) ((c.tc : Thread Cert.AdamSmallCIdeal.nD Cert.AdamSmallCIdeal.τ).loc Cert.AdamSmallCIdeal.main_v0_0)) (v1 : (c : Dev Cert.AdamSmallCIdeal.nD) → Buf (Elt Ideal) ((c.tc : Thread Cert.AdamSmallCIdeal.nD Cert.AdamSmallCIdeal.τ).loc Cert.AdamSmallCIdeal.main_v0_1)) (v2 : (c : Dev Cert.AdamSmallCIdeal.nD) → Buf (Elt Ideal) ((c.tc : Thread Cert.AdamSmallCIdeal.nD Cert.AdamSmallCIdeal.τ).loc Cert.AdamSmallCIdeal.main_v0_2)) (v3 : (c : Dev Cert.AdamSmallCIdeal.nD) → Buf (Elt Ideal) ((c.tc : Thread Cert.AdamSmallCIdeal.nD Cert.AdamSmallCIdeal.τ).loc Cert.AdamSmallCIdeal.main_v0_3)) (v4 : (c : Dev Cert.AdamSmallCIdeal.nD) → Buf (Elt Ideal) ((c.tc : Thread Cert.AdamSmallCIdeal.nD Cert.AdamSmallCIdeal.τ).loc Cert.AdamSmallCIdeal.main_v0_4)) (v5 : (c : Dev Cert.AdamSmallCIdeal.nD) → Buf (Elt Ideal) ((c.tc : Thread Cert.AdamSmallCIdeal.nD Cert.AdamSmallCIdeal.τ).loc Cert.AdamSmallCIdeal.main_v0_5)) (v6 : (c : Dev Cert.AdamSmallCIdeal.nD) → Buf (Elt Ideal) ((c.tc : Thread Cert.AdamSmallCIdeal.nD Cert.AdamSmallCIdeal.τ).loc Cert.AdamSmallCIdeal.main_v0_6)) (v7 : (c : Dev Cert.AdamSmallCIdeal.nD) → Buf (Elt Ideal) ((c.tc : Thread Cert.AdamSmallCIdeal.nD Cert.AdamSmallCIdeal.τ).loc Cert.AdamSmallCIdeal.main_v0_7)) (v8 : (c : Dev Cert.AdamSmallCIdeal.nD) → Buf (Elt Ideal) ((c.tc : Thread Cert.AdamSmallCIdeal.nD Cert.AdamSmallCIdeal.τ).loc Cert.AdamSmallCIdeal.main_v0_8)),
      θ_run (Cert.AdamSmallCIdeal.defs (F := Ideal)) (onTc (τ := Cert.AdamSmallCIdeal.τ) (Cert.AdamSmallCIdeal.main (F := Ideal))) ⟨m, fun _ => 0, g⟩ (fun r => ∀ c : Dev Cert.AdamSmallCIdeal.nD,
          r.2.mem ((c.tc : Thread Cert.AdamSmallCIdeal.nD Cert.AdamSmallCIdeal.τ).loc Cert.AdamSmallCIdeal.main_v0_0) = v0 c
          ∧ r.2.mem ((c.tc : Thread Cert.AdamSmallCIdeal.nD Cert.AdamSmallCIdeal.τ).loc Cert.AdamSmallCIdeal.main_v0_1) = v1 c
          ∧ r.2.mem ((c.tc : Thread Cert.AdamSmallCIdeal.nD Cert.AdamSmallCIdeal.τ).loc Cert.AdamSmallCIdeal.main_v0_2) = v2 c
          ∧ r.2.mem ((c.tc : Thread Cert.AdamSmallCIdeal.nD Cert.AdamSmallCIdeal.τ).loc Cert.AdamSmallCIdeal.main_v0_3) = v3 c
          ∧ r.2.mem ((c.tc : Thread Cert.AdamSmallCIdeal.nD Cert.AdamSmallCIdeal.τ).loc Cert.AdamSmallCIdeal.main_v0_4) = v4 c
          ∧ r.2.mem ((c.tc : Thread Cert.AdamSmallCIdeal.nD Cert.AdamSmallCIdeal.τ).loc Cert.AdamSmallCIdeal.main_v0_5) = v5 c
          ∧ r.2.mem ((c.tc : Thread Cert.AdamSmallCIdeal.nD Cert.AdamSmallCIdeal.τ).loc Cert.AdamSmallCIdeal.main_v0_6) = v6 c
          ∧ r.2.mem ((c.tc : Thread Cert.AdamSmallCIdeal.nD Cert.AdamSmallCIdeal.τ).loc Cert.AdamSmallCIdeal.main_v0_7) = v7 c
          ∧ r.2.mem ((c.tc : Thread Cert.AdamSmallCIdeal.nD Cert.AdamSmallCIdeal.τ).loc Cert.AdamSmallCIdeal.main_v0_8) = v8 c
          ∧ r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
          ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
          ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
          ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
          ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
          ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
          ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
          ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7)
          ∧ r.2.mem ((c.tc : Thread Cert.AdamSmallCIdeal.nD Cert.AdamSmallCIdeal.τ).loc Cert.AdamSmallCIdeal.main_arg8) = m ((c.tc : Thread Cert.AdamSmallCIdeal.nD Cert.AdamSmallCIdeal.τ).loc Cert.AdamSmallCIdeal.main_arg8)
          ∧ r.2.mem ((c.tc : Thread Cert.AdamSmallCIdeal.nD Cert.AdamSmallCIdeal.τ).loc Cert.AdamSmallCIdeal.main_arg9) = m ((c.tc : Thread Cert.AdamSmallCIdeal.nD Cert.AdamSmallCIdeal.τ).loc Cert.AdamSmallCIdeal.main_arg9)
          ∧ r.2.mem ((c.tc : Thread Cert.AdamSmallCIdeal.nD Cert.AdamSmallCIdeal.τ).loc Cert.AdamSmallCIdeal.main_arg10) = m ((c.tc : Thread Cert.AdamSmallCIdeal.nD Cert.AdamSmallCIdeal.τ).loc Cert.AdamSmallCIdeal.main_arg10)
          ∧ r.2.mem ((c.tc : Thread Cert.AdamSmallCIdeal.nD Cert.AdamSmallCIdeal.τ).loc Cert.AdamSmallCIdeal.main_arg11) = m ((c.tc : Thread Cert.AdamSmallCIdeal.nD Cert.AdamSmallCIdeal.τ).loc Cert.AdamSmallCIdeal.main_arg11))
      ∧ θ_run (Cert.RefAdamSmallCIdeal.defs (F := Ideal)) (onTc (τ := Cert.RefAdamSmallCIdeal.τ) (Cert.RefAdamSmallCIdeal.main (F := Ideal))) ⟨m', fun _ => 0, g'⟩ (fun r => ∀ c : Dev Cert.RefAdamSmallCIdeal.nD,
          r.2.mem ((c.tc : Thread Cert.RefAdamSmallCIdeal.nD Cert.RefAdamSmallCIdeal.τ).loc Cert.RefAdamSmallCIdeal.main_v23) = v0 c
          ∧ r.2.mem ((c.tc : Thread Cert.RefAdamSmallCIdeal.nD Cert.RefAdamSmallCIdeal.τ).loc Cert.RefAdamSmallCIdeal.main_v47) = v1 c
          ∧ r.2.mem ((c.tc : Thread Cert.RefAdamSmallCIdeal.nD Cert.RefAdamSmallCIdeal.τ).loc Cert.RefAdamSmallCIdeal.main_v71) = v2 c
          ∧ r.2.mem ((c.tc : Thread Cert.RefAdamSmallCIdeal.nD Cert.RefAdamSmallCIdeal.τ).loc Cert.RefAdamSmallCIdeal.main_v4) = v3 c
          ∧ r.2.mem ((c.tc : Thread Cert.RefAdamSmallCIdeal.nD Cert.RefAdamSmallCIdeal.τ).loc Cert.RefAdamSmallCIdeal.main_v28) = v4 c
          ∧ r.2.mem ((c.tc : Thread Cert.RefAdamSmallCIdeal.nD Cert.RefAdamSmallCIdeal.τ).loc Cert.RefAdamSmallCIdeal.main_v52) = v5 c
          ∧ r.2.mem ((c.tc : Thread Cert.RefAdamSmallCIdeal.nD Cert.RefAdamSmallCIdeal.τ).loc Cert.RefAdamSmallCIdeal.main_v10) = v6 c
          ∧ r.2.mem ((c.tc : Thread Cert.RefAdamSmallCIdeal.nD Cert.RefAdamSmallCIdeal.τ).loc Cert.RefAdamSmallCIdeal.main_v34) = v7 c
          ∧ r.2.mem ((c.tc : Thread Cert.RefAdamSmallCIdeal.nD Cert.RefAdamSmallCIdeal.τ).loc Cert.RefAdamSmallCIdeal.main_v58) = v8 c
          ∧ r.2.mem ((c.tc : Thread Cert.RefAdamSmallCIdeal.nD Cert.RefAdamSmallCIdeal.τ).loc Cert.RefAdamSmallCIdeal.main_arg0) = m' ((c.tc : Thread Cert.RefAdamSmallCIdeal.nD Cert.RefAdamSmallCIdeal.τ).loc Cert.RefAdamSmallCIdeal.main_arg0)
          ∧ r.2.mem ((c.tc : Thread Cert.RefAdamSmallCIdeal.nD Cert.RefAdamSmallCIdeal.τ).loc Cert.RefAdamSmallCIdeal.main_arg1) = m' ((c.tc : Thread Cert.RefAdamSmallCIdeal.nD Cert.RefAdamSmallCIdeal.τ).loc Cert.RefAdamSmallCIdeal.main_arg1)
          ∧ r.2.mem ((c.tc : Thread Cert.RefAdamSmallCIdeal.nD Cert.RefAdamSmallCIdeal.τ).loc Cert.RefAdamSmallCIdeal.main_arg2) = m' ((c.tc : Thread Cert.RefAdamSmallCIdeal.nD Cert.RefAdamSmallCIdeal.τ).loc Cert.RefAdamSmallCIdeal.main_arg2)
          ∧ r.2.mem ((c.tc : Thread Cert.RefAdamSmallCIdeal.nD Cert.RefAdamSmallCIdeal.τ).loc Cert.RefAdamSmallCIdeal.main_arg3) = m' ((c.tc : Thread Cert.RefAdamSmallCIdeal.nD Cert.RefAdamSmallCIdeal.τ).loc Cert.RefAdamSmallCIdeal.main_arg3)
          ∧ r.2.mem ((c.tc : Thread Cert.RefAdamSmallCIdeal.nD Cert.RefAdamSmallCIdeal.τ).loc Cert.RefAdamSmallCIdeal.main_arg4) = m' ((c.tc : Thread Cert.RefAdamSmallCIdeal.nD Cert.RefAdamSmallCIdeal.τ).loc Cert.RefAdamSmallCIdeal.main_arg4)
          ∧ r.2.mem ((c.tc : Thread Cert.RefAdamSmallCIdeal.nD Cert.RefAdamSmallCIdeal.τ).loc Cert.RefAdamSmallCIdeal.main_arg5) = m' ((c.tc : Thread Cert.RefAdamSmallCIdeal.nD Cert.RefAdamSmallCIdeal.τ).loc Cert.RefAdamSmallCIdeal.main_arg5)
          ∧ r.2.mem ((c.tc : Thread Cert.RefAdamSmallCIdeal.nD Cert.RefAdamSmallCIdeal.τ).loc Cert.RefAdamSmallCIdeal.main_arg6) = m' ((c.tc : Thread Cert.RefAdamSmallCIdeal.nD Cert.RefAdamSmallCIdeal.τ).loc Cert.RefAdamSmallCIdeal.main_arg6)
          ∧ r.2.mem ((c.tc : Thread Cert.RefAdamSmallCIdeal.nD Cert.RefAdamSmallCIdeal.τ).loc Cert.RefAdamSmallCIdeal.main_arg7) = m' ((c.tc : Thread Cert.RefAdamSmallCIdeal.nD Cert.RefAdamSmallCIdeal.τ).loc Cert.RefAdamSmallCIdeal.main_arg7)
          ∧ r.2.mem ((c.tc : Thread Cert.RefAdamSmallCIdeal.nD Cert.RefAdamSmallCIdeal.τ).loc Cert.RefAdamSmallCIdeal.main_arg8) = m' ((c.tc : Thread Cert.RefAdamSmallCIdeal.nD Cert.RefAdamSmallCIdeal.τ).loc Cert.RefAdamSmallCIdeal.main_arg8)
          ∧ r.2.mem ((c.tc : Thread Cert.RefAdamSmallCIdeal.nD Cert.RefAdamSmallCIdeal.τ).loc Cert.RefAdamSmallCIdeal.main_arg9) = m' ((c.tc : Thread Cert.RefAdamSmallCIdeal.nD Cert.RefAdamSmallCIdeal.τ).loc Cert.RefAdamSmallCIdeal.main_arg9)
          ∧ r.2.mem ((c.tc : Thread Cert.RefAdamSmallCIdeal.nD Cert.RefAdamSmallCIdeal.τ).loc Cert.RefAdamSmallCIdeal.main_arg10) = m' ((c.tc : Thread Cert.RefAdamSmallCIdeal.nD Cert.RefAdamSmallCIdeal.τ).loc Cert.RefAdamSmallCIdeal.main_arg10)
          ∧ r.2.mem ((c.tc : Thread Cert.RefAdamSmallCIdeal.nD Cert.RefAdamSmallCIdeal.τ).loc Cert.RefAdamSmallCIdeal.main_arg11) = m' ((c.tc : Thread Cert.RefAdamSmallCIdeal.nD Cert.RefAdamSmallCIdeal.τ).loc Cert.RefAdamSmallCIdeal.main_arg11))

def preserves_AdamSmallD_AdamSmallDIdeal : Prop :=
  IdealRules.named_const.Statement Cert.AdamSmallDIdeal.κ "adam_c1" .f32 0x3FC48605#32 ((8388608 / 5463681 : ℝ) : EReal)
  ∧ IdealRules.named_const.Statement Cert.AdamSmallDIdeal.κ "adam_c2" .f32 0x42C8E6D3#32 ((268435456 / 2672307 : ℝ) : EReal)

def algebraic_AdamSmallDIdeal_RefAdamSmallDIdeal [hAdamSmallDIdeal : Cert.AdamSmallDIdeal.Facts] [hRefAdamSmallDIdeal : Cert.RefAdamSmallDIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg)
    (m' : (ℓ : Loc Cert.RefAdamSmallDIdeal.nD Cert.RefAdamSmallDIdeal.τ Cert.RefAdamSmallDIdeal.sig) → Buf (Elt Ideal) ℓ) (g' : Dev Cert.RefAdamSmallDIdeal.nD → PrngReg), Pre_AdamSmallDIdeal m →
    (∀ c : Dev Cert.AdamSmallDIdeal.nD,
      m' ((c.tc : Thread Cert.RefAdamSmallDIdeal.nD Cert.RefAdamSmallDIdeal.τ).loc Cert.RefAdamSmallDIdeal.main_arg0) = m ((c.tc : Thread Cert.AdamSmallDIdeal.nD Cert.AdamSmallDIdeal.τ).loc Cert.AdamSmallDIdeal.main_arg0)
      ∧ m' ((c.tc : Thread Cert.RefAdamSmallDIdeal.nD Cert.RefAdamSmallDIdeal.τ).loc Cert.RefAdamSmallDIdeal.main_arg1) = m ((c.tc : Thread Cert.AdamSmallDIdeal.nD Cert.AdamSmallDIdeal.τ).loc Cert.AdamSmallDIdeal.main_arg1)
      ∧ m' ((c.tc : Thread Cert.RefAdamSmallDIdeal.nD Cert.RefAdamSmallDIdeal.τ).loc Cert.RefAdamSmallDIdeal.main_arg2) = m ((c.tc : Thread Cert.AdamSmallDIdeal.nD Cert.AdamSmallDIdeal.τ).loc Cert.AdamSmallDIdeal.main_arg2)
      ∧ m' ((c.tc : Thread Cert.RefAdamSmallDIdeal.nD Cert.RefAdamSmallDIdeal.τ).loc Cert.RefAdamSmallDIdeal.main_arg3) = m ((c.tc : Thread Cert.AdamSmallDIdeal.nD Cert.AdamSmallDIdeal.τ).loc Cert.AdamSmallDIdeal.main_arg3)
      ∧ m' ((c.tc : Thread Cert.RefAdamSmallDIdeal.nD Cert.RefAdamSmallDIdeal.τ).loc Cert.RefAdamSmallDIdeal.main_arg4) = m ((c.tc : Thread Cert.AdamSmallDIdeal.nD Cert.AdamSmallDIdeal.τ).loc Cert.AdamSmallDIdeal.main_arg4)
      ∧ m' ((c.tc : Thread Cert.RefAdamSmallDIdeal.nD Cert.RefAdamSmallDIdeal.τ).loc Cert.RefAdamSmallDIdeal.main_arg5) = m ((c.tc : Thread Cert.AdamSmallDIdeal.nD Cert.AdamSmallDIdeal.τ).loc Cert.AdamSmallDIdeal.main_arg5)
      ∧ m' ((c.tc : Thread Cert.RefAdamSmallDIdeal.nD Cert.RefAdamSmallDIdeal.τ).loc Cert.RefAdamSmallDIdeal.main_arg6) = m ((c.tc : Thread Cert.AdamSmallDIdeal.nD Cert.AdamSmallDIdeal.τ).loc Cert.AdamSmallDIdeal.main_arg6)
      ∧ m' ((c.tc : Thread Cert.RefAdamSmallDIdeal.nD Cert.RefAdamSmallDIdeal.τ).loc Cert.RefAdamSmallDIdeal.main_arg7) = m ((c.tc : Thread Cert.AdamSmallDIdeal.nD Cert.AdamSmallDIdeal.τ).loc Cert.AdamSmallDIdeal.main_arg7)
      ∧ m' ((c.tc : Thread Cert.RefAdamSmallDIdeal.nD Cert.RefAdamSmallDIdeal.τ).loc Cert.RefAdamSmallDIdeal.main_arg8) = m ((c.tc : Thread Cert.AdamSmallDIdeal.nD Cert.AdamSmallDIdeal.τ).loc Cert.AdamSmallDIdeal.main_arg8)
      ∧ m' ((c.tc : Thread Cert.RefAdamSmallDIdeal.nD Cert.RefAdamSmallDIdeal.τ).loc Cert.RefAdamSmallDIdeal.main_arg9) = m ((c.tc : Thread Cert.AdamSmallDIdeal.nD Cert.AdamSmallDIdeal.τ).loc Cert.AdamSmallDIdeal.main_arg9)
      ∧ m' ((c.tc : Thread Cert.RefAdamSmallDIdeal.nD Cert.RefAdamSmallDIdeal.τ).loc Cert.RefAdamSmallDIdeal.main_arg10) = m ((c.tc : Thread Cert.AdamSmallDIdeal.nD Cert.AdamSmallDIdeal.τ).loc Cert.AdamSmallDIdeal.main_arg10)
      ∧ m' ((c.tc : Thread Cert.RefAdamSmallDIdeal.nD Cert.RefAdamSmallDIdeal.τ).loc Cert.RefAdamSmallDIdeal.main_arg11) = m ((c.tc : Thread Cert.AdamSmallDIdeal.nD Cert.AdamSmallDIdeal.τ).loc Cert.AdamSmallDIdeal.main_arg11)) →
    ∃ (v0 : (c : Dev Cert.AdamSmallDIdeal.nD) → Buf (Elt Ideal) ((c.tc : Thread Cert.AdamSmallDIdeal.nD Cert.AdamSmallDIdeal.τ).loc Cert.AdamSmallDIdeal.main_v0_0)) (v1 : (c : Dev Cert.AdamSmallDIdeal.nD) → Buf (Elt Ideal) ((c.tc : Thread Cert.AdamSmallDIdeal.nD Cert.AdamSmallDIdeal.τ).loc Cert.AdamSmallDIdeal.main_v0_1)) (v2 : (c : Dev Cert.AdamSmallDIdeal.nD) → Buf (Elt Ideal) ((c.tc : Thread Cert.AdamSmallDIdeal.nD Cert.AdamSmallDIdeal.τ).loc Cert.AdamSmallDIdeal.main_v0_2)) (v3 : (c : Dev Cert.AdamSmallDIdeal.nD) → Buf (Elt Ideal) ((c.tc : Thread Cert.AdamSmallDIdeal.nD Cert.AdamSmallDIdeal.τ).loc Cert.AdamSmallDIdeal.main_v0_3)) (v4 : (c : Dev Cert.AdamSmallDIdeal.nD) → Buf (Elt Ideal) ((c.tc : Thread Cert.AdamSmallDIdeal.nD Cert.AdamSmallDIdeal.τ).loc Cert.AdamSmallDIdeal.main_v0_4)) (v5 : (c : Dev Cert.AdamSmallDIdeal.nD) → Buf (Elt Ideal) ((c.tc : Thread Cert.AdamSmallDIdeal.nD Cert.AdamSmallDIdeal.τ).loc Cert.AdamSmallDIdeal.main_v0_5)) (v6 : (c : Dev Cert.AdamSmallDIdeal.nD) → Buf (Elt Ideal) ((c.tc : Thread Cert.AdamSmallDIdeal.nD Cert.AdamSmallDIdeal.τ).loc Cert.AdamSmallDIdeal.main_v0_6)) (v7 : (c : Dev Cert.AdamSmallDIdeal.nD) → Buf (Elt Ideal) ((c.tc : Thread Cert.AdamSmallDIdeal.nD Cert.AdamSmallDIdeal.τ).loc Cert.AdamSmallDIdeal.main_v0_7)) (v8 : (c : Dev Cert.AdamSmallDIdeal.nD) → Buf (Elt Ideal) ((c.tc : Thread Cert.AdamSmallDIdeal.nD Cert.AdamSmallDIdeal.τ).loc Cert.AdamSmallDIdeal.main_v0_8)),
      θ_run (Cert.AdamSmallDIdeal.defs (F := Ideal)) (onTc (τ := Cert.AdamSmallDIdeal.τ) (Cert.AdamSmallDIdeal.main (F := Ideal))) ⟨m, fun _ => 0, g⟩ (fun r => ∀ c : Dev Cert.AdamSmallDIdeal.nD,
          r.2.mem ((c.tc : Thread Cert.AdamSmallDIdeal.nD Cert.AdamSmallDIdeal.τ).loc Cert.AdamSmallDIdeal.main_v0_0) = v0 c
          ∧ r.2.mem ((c.tc : Thread Cert.AdamSmallDIdeal.nD Cert.AdamSmallDIdeal.τ).loc Cert.AdamSmallDIdeal.main_v0_1) = v1 c
          ∧ r.2.mem ((c.tc : Thread Cert.AdamSmallDIdeal.nD Cert.AdamSmallDIdeal.τ).loc Cert.AdamSmallDIdeal.main_v0_2) = v2 c
          ∧ r.2.mem ((c.tc : Thread Cert.AdamSmallDIdeal.nD Cert.AdamSmallDIdeal.τ).loc Cert.AdamSmallDIdeal.main_v0_3) = v3 c
          ∧ r.2.mem ((c.tc : Thread Cert.AdamSmallDIdeal.nD Cert.AdamSmallDIdeal.τ).loc Cert.AdamSmallDIdeal.main_v0_4) = v4 c
          ∧ r.2.mem ((c.tc : Thread Cert.AdamSmallDIdeal.nD Cert.AdamSmallDIdeal.τ).loc Cert.AdamSmallDIdeal.main_v0_5) = v5 c
          ∧ r.2.mem ((c.tc : Thread Cert.AdamSmallDIdeal.nD Cert.AdamSmallDIdeal.τ).loc Cert.AdamSmallDIdeal.main_v0_6) = v6 c
          ∧ r.2.mem ((c.tc : Thread Cert.AdamSmallDIdeal.nD Cert.AdamSmallDIdeal.τ).loc Cert.AdamSmallDIdeal.main_v0_7) = v7 c
          ∧ r.2.mem ((c.tc : Thread Cert.AdamSmallDIdeal.nD Cert.AdamSmallDIdeal.τ).loc Cert.AdamSmallDIdeal.main_v0_8) = v8 c
          ∧ r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
          ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
          ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
          ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
          ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
          ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
          ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
          ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7)
          ∧ r.2.mem ((c.tc : Thread Cert.AdamSmallDIdeal.nD Cert.AdamSmallDIdeal.τ).loc Cert.AdamSmallDIdeal.main_arg8) = m ((c.tc : Thread Cert.AdamSmallDIdeal.nD Cert.AdamSmallDIdeal.τ).loc Cert.AdamSmallDIdeal.main_arg8)
          ∧ r.2.mem ((c.tc : Thread Cert.AdamSmallDIdeal.nD Cert.AdamSmallDIdeal.τ).loc Cert.AdamSmallDIdeal.main_arg9) = m ((c.tc : Thread Cert.AdamSmallDIdeal.nD Cert.AdamSmallDIdeal.τ).loc Cert.AdamSmallDIdeal.main_arg9)
          ∧ r.2.mem ((c.tc : Thread Cert.AdamSmallDIdeal.nD Cert.AdamSmallDIdeal.τ).loc Cert.AdamSmallDIdeal.main_arg10) = m ((c.tc : Thread Cert.AdamSmallDIdeal.nD Cert.AdamSmallDIdeal.τ).loc Cert.AdamSmallDIdeal.main_arg10)
          ∧ r.2.mem ((c.tc : Thread Cert.AdamSmallDIdeal.nD Cert.AdamSmallDIdeal.τ).loc Cert.AdamSmallDIdeal.main_arg11) = m ((c.tc : Thread Cert.AdamSmallDIdeal.nD Cert.AdamSmallDIdeal.τ).loc Cert.AdamSmallDIdeal.main_arg11))
      ∧ θ_run (Cert.RefAdamSmallDIdeal.defs (F := Ideal)) (onTc (τ := Cert.RefAdamSmallDIdeal.τ) (Cert.RefAdamSmallDIdeal.main (F := Ideal))) ⟨m', fun _ => 0, g'⟩ (fun r => ∀ c : Dev Cert.RefAdamSmallDIdeal.nD,
          r.2.mem ((c.tc : Thread Cert.RefAdamSmallDIdeal.nD Cert.RefAdamSmallDIdeal.τ).loc Cert.RefAdamSmallDIdeal.main_v23) = v0 c
          ∧ r.2.mem ((c.tc : Thread Cert.RefAdamSmallDIdeal.nD Cert.RefAdamSmallDIdeal.τ).loc Cert.RefAdamSmallDIdeal.main_v47) = v1 c
          ∧ r.2.mem ((c.tc : Thread Cert.RefAdamSmallDIdeal.nD Cert.RefAdamSmallDIdeal.τ).loc Cert.RefAdamSmallDIdeal.main_v71) = v2 c
          ∧ r.2.mem ((c.tc : Thread Cert.RefAdamSmallDIdeal.nD Cert.RefAdamSmallDIdeal.τ).loc Cert.RefAdamSmallDIdeal.main_v4) = v3 c
          ∧ r.2.mem ((c.tc : Thread Cert.RefAdamSmallDIdeal.nD Cert.RefAdamSmallDIdeal.τ).loc Cert.RefAdamSmallDIdeal.main_v28) = v4 c
          ∧ r.2.mem ((c.tc : Thread Cert.RefAdamSmallDIdeal.nD Cert.RefAdamSmallDIdeal.τ).loc Cert.RefAdamSmallDIdeal.main_v52) = v5 c
          ∧ r.2.mem ((c.tc : Thread Cert.RefAdamSmallDIdeal.nD Cert.RefAdamSmallDIdeal.τ).loc Cert.RefAdamSmallDIdeal.main_v10) = v6 c
          ∧ r.2.mem ((c.tc : Thread Cert.RefAdamSmallDIdeal.nD Cert.RefAdamSmallDIdeal.τ).loc Cert.RefAdamSmallDIdeal.main_v34) = v7 c
          ∧ r.2.mem ((c.tc : Thread Cert.RefAdamSmallDIdeal.nD Cert.RefAdamSmallDIdeal.τ).loc Cert.RefAdamSmallDIdeal.main_v58) = v8 c
          ∧ r.2.mem ((c.tc : Thread Cert.RefAdamSmallDIdeal.nD Cert.RefAdamSmallDIdeal.τ).loc Cert.RefAdamSmallDIdeal.main_arg0) = m' ((c.tc : Thread Cert.RefAdamSmallDIdeal.nD Cert.RefAdamSmallDIdeal.τ).loc Cert.RefAdamSmallDIdeal.main_arg0)
          ∧ r.2.mem ((c.tc : Thread Cert.RefAdamSmallDIdeal.nD Cert.RefAdamSmallDIdeal.τ).loc Cert.RefAdamSmallDIdeal.main_arg1) = m' ((c.tc : Thread Cert.RefAdamSmallDIdeal.nD Cert.RefAdamSmallDIdeal.τ).loc Cert.RefAdamSmallDIdeal.main_arg1)
          ∧ r.2.mem ((c.tc : Thread Cert.RefAdamSmallDIdeal.nD Cert.RefAdamSmallDIdeal.τ).loc Cert.RefAdamSmallDIdeal.main_arg2) = m' ((c.tc : Thread Cert.RefAdamSmallDIdeal.nD Cert.RefAdamSmallDIdeal.τ).loc Cert.RefAdamSmallDIdeal.main_arg2)
          ∧ r.2.mem ((c.tc : Thread Cert.RefAdamSmallDIdeal.nD Cert.RefAdamSmallDIdeal.τ).loc Cert.RefAdamSmallDIdeal.main_arg3) = m' ((c.tc : Thread Cert.RefAdamSmallDIdeal.nD Cert.RefAdamSmallDIdeal.τ).loc Cert.RefAdamSmallDIdeal.main_arg3)
          ∧ r.2.mem ((c.tc : Thread Cert.RefAdamSmallDIdeal.nD Cert.RefAdamSmallDIdeal.τ).loc Cert.RefAdamSmallDIdeal.main_arg4) = m' ((c.tc : Thread Cert.RefAdamSmallDIdeal.nD Cert.RefAdamSmallDIdeal.τ).loc Cert.RefAdamSmallDIdeal.main_arg4)
          ∧ r.2.mem ((c.tc : Thread Cert.RefAdamSmallDIdeal.nD Cert.RefAdamSmallDIdeal.τ).loc Cert.RefAdamSmallDIdeal.main_arg5) = m' ((c.tc : Thread Cert.RefAdamSmallDIdeal.nD Cert.RefAdamSmallDIdeal.τ).loc Cert.RefAdamSmallDIdeal.main_arg5)
          ∧ r.2.mem ((c.tc : Thread Cert.RefAdamSmallDIdeal.nD Cert.RefAdamSmallDIdeal.τ).loc Cert.RefAdamSmallDIdeal.main_arg6) = m' ((c.tc : Thread Cert.RefAdamSmallDIdeal.nD Cert.RefAdamSmallDIdeal.τ).loc Cert.RefAdamSmallDIdeal.main_arg6)
          ∧ r.2.mem ((c.tc : Thread Cert.RefAdamSmallDIdeal.nD Cert.RefAdamSmallDIdeal.τ).loc Cert.RefAdamSmallDIdeal.main_arg7) = m' ((c.tc : Thread Cert.RefAdamSmallDIdeal.nD Cert.RefAdamSmallDIdeal.τ).loc Cert.RefAdamSmallDIdeal.main_arg7)
          ∧ r.2.mem ((c.tc : Thread Cert.RefAdamSmallDIdeal.nD Cert.RefAdamSmallDIdeal.τ).loc Cert.RefAdamSmallDIdeal.main_arg8) = m' ((c.tc : Thread Cert.RefAdamSmallDIdeal.nD Cert.RefAdamSmallDIdeal.τ).loc Cert.RefAdamSmallDIdeal.main_arg8)
          ∧ r.2.mem ((c.tc : Thread Cert.RefAdamSmallDIdeal.nD Cert.RefAdamSmallDIdeal.τ).loc Cert.RefAdamSmallDIdeal.main_arg9) = m' ((c.tc : Thread Cert.RefAdamSmallDIdeal.nD Cert.RefAdamSmallDIdeal.τ).loc Cert.RefAdamSmallDIdeal.main_arg9)
          ∧ r.2.mem ((c.tc : Thread Cert.RefAdamSmallDIdeal.nD Cert.RefAdamSmallDIdeal.τ).loc Cert.RefAdamSmallDIdeal.main_arg10) = m' ((c.tc : Thread Cert.RefAdamSmallDIdeal.nD Cert.RefAdamSmallDIdeal.τ).loc Cert.RefAdamSmallDIdeal.main_arg10)
          ∧ r.2.mem ((c.tc : Thread Cert.RefAdamSmallDIdeal.nD Cert.RefAdamSmallDIdeal.τ).loc Cert.RefAdamSmallDIdeal.main_arg11) = m' ((c.tc : Thread Cert.RefAdamSmallDIdeal.nD Cert.RefAdamSmallDIdeal.τ).loc Cert.RefAdamSmallDIdeal.main_arg11))

def preserves_AdamSmallE_AdamSmallEIdeal : Prop :=
  IdealRules.named_const.Statement Cert.AdamSmallEIdeal.κ "adam_c1" .f32 0x3FC48605#32 ((8388608 / 5463681 : ℝ) : EReal)
  ∧ IdealRules.named_const.Statement Cert.AdamSmallEIdeal.κ "adam_c2" .f32 0x42C8E6D3#32 ((268435456 / 2672307 : ℝ) : EReal)

def algebraic_AdamSmallEIdeal_RefAdamSmallEIdeal [hAdamSmallEIdeal : Cert.AdamSmallEIdeal.Facts] [hRefAdamSmallEIdeal : Cert.RefAdamSmallEIdeal.Facts] : Prop :=
  ∀ (m : (ℓ : Loc Cert.AdamSmallEIdeal.nD Cert.AdamSmallEIdeal.τ Cert.AdamSmallEIdeal.sig) → Buf (Elt Ideal) ℓ) (g : Dev Cert.AdamSmallEIdeal.nD → PrngReg)
    (m' : (ℓ : Loc Cert.RefAdamSmallEIdeal.nD Cert.RefAdamSmallEIdeal.τ Cert.RefAdamSmallEIdeal.sig) → Buf (Elt Ideal) ℓ) (g' : Dev Cert.RefAdamSmallEIdeal.nD → PrngReg), Pre_AdamSmallEIdeal m →
    (∀ c : Dev Cert.AdamSmallEIdeal.nD,
      m' ((c.tc : Thread Cert.RefAdamSmallEIdeal.nD Cert.RefAdamSmallEIdeal.τ).loc Cert.RefAdamSmallEIdeal.main_arg0) = m ((c.tc : Thread Cert.AdamSmallEIdeal.nD Cert.AdamSmallEIdeal.τ).loc Cert.AdamSmallEIdeal.main_arg0)
      ∧ m' ((c.tc : Thread Cert.RefAdamSmallEIdeal.nD Cert.RefAdamSmallEIdeal.τ).loc Cert.RefAdamSmallEIdeal.main_arg1) = m ((c.tc : Thread Cert.AdamSmallEIdeal.nD Cert.AdamSmallEIdeal.τ).loc Cert.AdamSmallEIdeal.main_arg1)
      ∧ m' ((c.tc : Thread Cert.RefAdamSmallEIdeal.nD Cert.RefAdamSmallEIdeal.τ).loc Cert.RefAdamSmallEIdeal.main_arg2) = m ((c.tc : Thread Cert.AdamSmallEIdeal.nD Cert.AdamSmallEIdeal.τ).loc Cert.AdamSmallEIdeal.main_arg2)
      ∧ m' ((c.tc : Thread Cert.RefAdamSmallEIdeal.nD Cert.RefAdamSmallEIdeal.τ).loc Cert.RefAdamSmallEIdeal.main_arg3) = m ((c.tc : Thread Cert.AdamSmallEIdeal.nD Cert.AdamSmallEIdeal.τ).loc Cert.AdamSmallEIdeal.main_arg3)
      ∧ m' ((c.tc : Thread Cert.RefAdamSmallEIdeal.nD Cert.RefAdamSmallEIdeal.τ).loc Cert.RefAdamSmallEIdeal.main_arg4) = m ((c.tc : Thread Cert.AdamSmallEIdeal.nD Cert.AdamSmallEIdeal.τ).loc Cert.AdamSmallEIdeal.main_arg4)
      ∧ m' ((c.tc : Thread Cert.RefAdamSmallEIdeal.nD Cert.RefAdamSmallEIdeal.τ).loc Cert.RefAdamSmallEIdeal.main_arg5) = m ((c.tc : Thread Cert.AdamSmallEIdeal.nD Cert.AdamSmallEIdeal.τ).loc Cert.AdamSmallEIdeal.main_arg5)
      ∧ m' ((c.tc : Thread Cert.RefAdamSmallEIdeal.nD Cert.RefAdamSmallEIdeal.τ).loc Cert.RefAdamSmallEIdeal.main_arg6) = m ((c.tc : Thread Cert.AdamSmallEIdeal.nD Cert.AdamSmallEIdeal.τ).loc Cert.AdamSmallEIdeal.main_arg6)
      ∧ m' ((c.tc : Thread Cert.RefAdamSmallEIdeal.nD Cert.RefAdamSmallEIdeal.τ).loc Cert.RefAdamSmallEIdeal.main_arg7) = m ((c.tc : Thread Cert.AdamSmallEIdeal.nD Cert.AdamSmallEIdeal.τ).loc Cert.AdamSmallEIdeal.main_arg7)
      ∧ m' ((c.tc : Thread Cert.RefAdamSmallEIdeal.nD Cert.RefAdamSmallEIdeal.τ).loc Cert.RefAdamSmallEIdeal.main_arg8) = m ((c.tc : Thread Cert.AdamSmallEIdeal.nD Cert.AdamSmallEIdeal.τ).loc Cert.AdamSmallEIdeal.main_arg8)
      ∧ m' ((c.tc : Thread Cert.RefAdamSmallEIdeal.nD Cert.RefAdamSmallEIdeal.τ).loc Cert.RefAdamSmallEIdeal.main_arg9) = m ((c.tc : Thread Cert.AdamSmallEIdeal.nD Cert.AdamSmallEIdeal.τ).loc Cert.AdamSmallEIdeal.main_arg9)
      ∧ m' ((c.tc : Thread Cert.RefAdamSmallEIdeal.nD Cert.RefAdamSmallEIdeal.τ).loc Cert.RefAdamSmallEIdeal.main_arg10) = m ((c.tc : Thread Cert.AdamSmallEIdeal.nD Cert.AdamSmallEIdeal.τ).loc Cert.AdamSmallEIdeal.main_arg10)
      ∧ m' ((c.tc : Thread Cert.RefAdamSmallEIdeal.nD Cert.RefAdamSmallEIdeal.τ).loc Cert.RefAdamSmallEIdeal.main_arg11) = m ((c.tc : Thread Cert.AdamSmallEIdeal.nD Cert.AdamSmallEIdeal.τ).loc Cert.AdamSmallEIdeal.main_arg11)) →
    ∃ (v0 : (c : Dev Cert.AdamSmallEIdeal.nD) → Buf (Elt Ideal) ((c.tc : Thread Cert.AdamSmallEIdeal.nD Cert.AdamSmallEIdeal.τ).loc Cert.AdamSmallEIdeal.main_v0_0)) (v1 : (c : Dev Cert.AdamSmallEIdeal.nD) → Buf (Elt Ideal) ((c.tc : Thread Cert.AdamSmallEIdeal.nD Cert.AdamSmallEIdeal.τ).loc Cert.AdamSmallEIdeal.main_v0_1)) (v2 : (c : Dev Cert.AdamSmallEIdeal.nD) → Buf (Elt Ideal) ((c.tc : Thread Cert.AdamSmallEIdeal.nD Cert.AdamSmallEIdeal.τ).loc Cert.AdamSmallEIdeal.main_v0_2)) (v3 : (c : Dev Cert.AdamSmallEIdeal.nD) → Buf (Elt Ideal) ((c.tc : Thread Cert.AdamSmallEIdeal.nD Cert.AdamSmallEIdeal.τ).loc Cert.AdamSmallEIdeal.main_v0_3)) (v4 : (c : Dev Cert.AdamSmallEIdeal.nD) → Buf (Elt Ideal) ((c.tc : Thread Cert.AdamSmallEIdeal.nD Cert.AdamSmallEIdeal.τ).loc Cert.AdamSmallEIdeal.main_v0_4)) (v5 : (c : Dev Cert.AdamSmallEIdeal.nD) → Buf (Elt Ideal) ((c.tc : Thread Cert.AdamSmallEIdeal.nD Cert.AdamSmallEIdeal.τ).loc Cert.AdamSmallEIdeal.main_v0_5)) (v6 : (c : Dev Cert.AdamSmallEIdeal.nD) → Buf (Elt Ideal) ((c.tc : Thread Cert.AdamSmallEIdeal.nD Cert.AdamSmallEIdeal.τ).loc Cert.AdamSmallEIdeal.main_v0_6)) (v7 : (c : Dev Cert.AdamSmallEIdeal.nD) → Buf (Elt Ideal) ((c.tc : Thread Cert.AdamSmallEIdeal.nD Cert.AdamSmallEIdeal.τ).loc Cert.AdamSmallEIdeal.main_v0_7)) (v8 : (c : Dev Cert.AdamSmallEIdeal.nD) → Buf (Elt Ideal) ((c.tc : Thread Cert.AdamSmallEIdeal.nD Cert.AdamSmallEIdeal.τ).loc Cert.AdamSmallEIdeal.main_v0_8)),
      θ_run (Cert.AdamSmallEIdeal.defs (F := Ideal)) (onTc (τ := Cert.AdamSmallEIdeal.τ) (Cert.AdamSmallEIdeal.main (F := Ideal))) ⟨m, fun _ => 0, g⟩ (fun r => ∀ c : Dev Cert.AdamSmallEIdeal.nD,
          r.2.mem ((c.tc : Thread Cert.AdamSmallEIdeal.nD Cert.AdamSmallEIdeal.τ).loc Cert.AdamSmallEIdeal.main_v0_0) = v0 c
          ∧ r.2.mem ((c.tc : Thread Cert.AdamSmallEIdeal.nD Cert.AdamSmallEIdeal.τ).loc Cert.AdamSmallEIdeal.main_v0_1) = v1 c
          ∧ r.2.mem ((c.tc : Thread Cert.AdamSmallEIdeal.nD Cert.AdamSmallEIdeal.τ).loc Cert.AdamSmallEIdeal.main_v0_2) = v2 c
          ∧ r.2.mem ((c.tc : Thread Cert.AdamSmallEIdeal.nD Cert.AdamSmallEIdeal.τ).loc Cert.AdamSmallEIdeal.main_v0_3) = v3 c
          ∧ r.2.mem ((c.tc : Thread Cert.AdamSmallEIdeal.nD Cert.AdamSmallEIdeal.τ).loc Cert.AdamSmallEIdeal.main_v0_4) = v4 c
          ∧ r.2.mem ((c.tc : Thread Cert.AdamSmallEIdeal.nD Cert.AdamSmallEIdeal.τ).loc Cert.AdamSmallEIdeal.main_v0_5) = v5 c
          ∧ r.2.mem ((c.tc : Thread Cert.AdamSmallEIdeal.nD Cert.AdamSmallEIdeal.τ).loc Cert.AdamSmallEIdeal.main_v0_6) = v6 c
          ∧ r.2.mem ((c.tc : Thread Cert.AdamSmallEIdeal.nD Cert.AdamSmallEIdeal.τ).loc Cert.AdamSmallEIdeal.main_v0_7) = v7 c
          ∧ r.2.mem ((c.tc : Thread Cert.AdamSmallEIdeal.nD Cert.AdamSmallEIdeal.τ).loc Cert.AdamSmallEIdeal.main_v0_8) = v8 c
          ∧ r.2.mem ((c.tc : Thread Cert.AdamSmallEIdeal.nD Cert.AdamSmallEIdeal.τ).loc Cert.AdamSmallEIdeal.main_arg0) = m ((c.tc : Thread Cert.AdamSmallEIdeal.nD Cert.AdamSmallEIdeal.τ).loc Cert.AdamSmallEIdeal.main_arg0)
          ∧ r.2.mem ((c.tc : Thread Cert.AdamSmallEIdeal.nD Cert.AdamSmallEIdeal.τ).loc Cert.AdamSmallEIdeal.main_arg1) = m ((c.tc : Thread Cert.AdamSmallEIdeal.nD Cert.AdamSmallEIdeal.τ).loc Cert.AdamSmallEIdeal.main_arg1)
          ∧ r.2.mem ((c.tc : Thread Cert.AdamSmallEIdeal.nD Cert.AdamSmallEIdeal.τ).loc Cert.AdamSmallEIdeal.main_arg2) = m ((c.tc : Thread Cert.AdamSmallEIdeal.nD Cert.AdamSmallEIdeal.τ).loc Cert.AdamSmallEIdeal.main_arg2)
          ∧ r.2.mem ((c.tc : Thread Cert.AdamSmallEIdeal.nD Cert.AdamSmallEIdeal.τ).loc Cert.AdamSmallEIdeal.main_arg3) = m ((c.tc : Thread Cert.AdamSmallEIdeal.nD Cert.AdamSmallEIdeal.τ).loc Cert.AdamSmallEIdeal.main_arg3)
          ∧ r.2.mem ((c.tc : Thread Cert.AdamSmallEIdeal.nD Cert.AdamSmallEIdeal.τ).loc Cert.AdamSmallEIdeal.main_arg4) = m ((c.tc : Thread Cert.AdamSmallEIdeal.nD Cert.AdamSmallEIdeal.τ).loc Cert.AdamSmallEIdeal.main_arg4)
          ∧ r.2.mem ((c.tc : Thread Cert.AdamSmallEIdeal.nD Cert.AdamSmallEIdeal.τ).loc Cert.AdamSmallEIdeal.main_arg5) = m ((c.tc : Thread Cert.AdamSmallEIdeal.nD Cert.AdamSmallEIdeal.τ).loc Cert.AdamSmallEIdeal.main_arg5)
          ∧ r.2.mem ((c.tc : Thread Cert.AdamSmallEIdeal.nD Cert.AdamSmallEIdeal.τ).loc Cert.AdamSmallEIdeal.main_arg6) = m ((c.tc : Thread Cert.AdamSmallEIdeal.nD Cert.AdamSmallEIdeal.τ).loc Cert.AdamSmallEIdeal.main_arg6)
          ∧ r.2.mem ((c.tc : Thread Cert.AdamSmallEIdeal.nD Cert.AdamSmallEIdeal.τ).loc Cert.AdamSmallEIdeal.main_arg7) = m ((c.tc : Thread Cert.AdamSmallEIdeal.nD Cert.AdamSmallEIdeal.τ).loc Cert.AdamSmallEIdeal.main_arg7)
          ∧ r.2.mem ((c.tc : Thread Cert.AdamSmallEIdeal.nD Cert.AdamSmallEIdeal.τ).loc Cert.AdamSmallEIdeal.main_arg8) = m ((c.tc : Thread Cert.AdamSmallEIdeal.nD Cert.AdamSmallEIdeal.τ).loc Cert.AdamSmallEIdeal.main_arg8)
          ∧ r.2.mem ((c.tc : Thread Cert.AdamSmallEIdeal.nD Cert.AdamSmallEIdeal.τ).loc Cert.AdamSmallEIdeal.main_arg9) = m ((c.tc : Thread Cert.AdamSmallEIdeal.nD Cert.AdamSmallEIdeal.τ).loc Cert.AdamSmallEIdeal.main_arg9)
          ∧ r.2.mem ((c.tc : Thread Cert.AdamSmallEIdeal.nD Cert.AdamSmallEIdeal.τ).loc Cert.AdamSmallEIdeal.main_arg10) = m ((c.tc : Thread Cert.AdamSmallEIdeal.nD Cert.AdamSmallEIdeal.τ).loc Cert.AdamSmallEIdeal.main_arg10)
          ∧ r.2.mem ((c.tc : Thread Cert.AdamSmallEIdeal.nD Cert.AdamSmallEIdeal.τ).loc Cert.AdamSmallEIdeal.main_arg11) = m ((c.tc : Thread Cert.AdamSmallEIdeal.nD Cert.AdamSmallEIdeal.τ).loc Cert.AdamSmallEIdeal.main_arg11))
      ∧ θ_run (Cert.RefAdamSmallEIdeal.defs (F := Ideal)) (onTc (τ := Cert.RefAdamSmallEIdeal.τ) (Cert.RefAdamSmallEIdeal.main (F := Ideal))) ⟨m', fun _ => 0, g'⟩ (fun r => ∀ c : Dev Cert.RefAdamSmallEIdeal.nD,
          r.2.mem ((c.tc : Thread Cert.RefAdamSmallEIdeal.nD Cert.RefAdamSmallEIdeal.τ).loc Cert.RefAdamSmallEIdeal.main_v23) = v0 c
          ∧ r.2.mem ((c.tc : Thread Cert.RefAdamSmallEIdeal.nD Cert.RefAdamSmallEIdeal.τ).loc Cert.RefAdamSmallEIdeal.main_v47) = v1 c
          ∧ r.2.mem ((c.tc : Thread Cert.RefAdamSmallEIdeal.nD Cert.RefAdamSmallEIdeal.τ).loc Cert.RefAdamSmallEIdeal.main_v71) = v2 c
          ∧ r.2.mem ((c.tc : Thread Cert.RefAdamSmallEIdeal.nD Cert.RefAdamSmallEIdeal.τ).loc Cert.RefAdamSmallEIdeal.main_v4) = v3 c
          ∧ r.2.mem ((c.tc : Thread Cert.RefAdamSmallEIdeal.nD Cert.RefAdamSmallEIdeal.τ).loc Cert.RefAdamSmallEIdeal.main_v28) = v4 c
          ∧ r.2.mem ((c.tc : Thread Cert.RefAdamSmallEIdeal.nD Cert.RefAdamSmallEIdeal.τ).loc Cert.RefAdamSmallEIdeal.main_v52) = v5 c
          ∧ r.2.mem ((c.tc : Thread Cert.RefAdamSmallEIdeal.nD Cert.RefAdamSmallEIdeal.τ).loc Cert.RefAdamSmallEIdeal.main_v10) = v6 c
          ∧ r.2.mem ((c.tc : Thread Cert.RefAdamSmallEIdeal.nD Cert.RefAdamSmallEIdeal.τ).loc Cert.RefAdamSmallEIdeal.main_v34) = v7 c
          ∧ r.2.mem ((c.tc : Thread Cert.RefAdamSmallEIdeal.nD Cert.RefAdamSmallEIdeal.τ).loc Cert.RefAdamSmallEIdeal.main_v58) = v8 c
          ∧ r.2.mem ((c.tc : Thread Cert.RefAdamSmallEIdeal.nD Cert.RefAdamSmallEIdeal.τ).loc Cert.RefAdamSmallEIdeal.main_arg0) = m' ((c.tc : Thread Cert.RefAdamSmallEIdeal.nD Cert.RefAdamSmallEIdeal.τ).loc Cert.RefAdamSmallEIdeal.main_arg0)
          ∧ r.2.mem ((c.tc : Thread Cert.RefAdamSmallEIdeal.nD Cert.RefAdamSmallEIdeal.τ).loc Cert.RefAdamSmallEIdeal.main_arg1) = m' ((c.tc : Thread Cert.RefAdamSmallEIdeal.nD Cert.RefAdamSmallEIdeal.τ).loc Cert.RefAdamSmallEIdeal.main_arg1)
          ∧ r.2.mem ((c.tc : Thread Cert.RefAdamSmallEIdeal.nD Cert.RefAdamSmallEIdeal.τ).loc Cert.RefAdamSmallEIdeal.main_arg2) = m' ((c.tc : Thread Cert.RefAdamSmallEIdeal.nD Cert.RefAdamSmallEIdeal.τ).loc Cert.RefAdamSmallEIdeal.main_arg2)
          ∧ r.2.mem ((c.tc : Thread Cert.RefAdamSmallEIdeal.nD Cert.RefAdamSmallEIdeal.τ).loc Cert.RefAdamSmallEIdeal.main_arg3) = m' ((c.tc : Thread Cert.RefAdamSmallEIdeal.nD Cert.RefAdamSmallEIdeal.τ).loc Cert.RefAdamSmallEIdeal.main_arg3)
          ∧ r.2.mem ((c.tc : Thread Cert.RefAdamSmallEIdeal.nD Cert.RefAdamSmallEIdeal.τ).loc Cert.RefAdamSmallEIdeal.main_arg4) = m' ((c.tc : Thread Cert.RefAdamSmallEIdeal.nD Cert.RefAdamSmallEIdeal.τ).loc Cert.RefAdamSmallEIdeal.main_arg4)
          ∧ r.2.mem ((c.tc : Thread Cert.RefAdamSmallEIdeal.nD Cert.RefAdamSmallEIdeal.τ).loc Cert.RefAdamSmallEIdeal.main_arg5) = m' ((c.tc : Thread Cert.RefAdamSmallEIdeal.nD Cert.RefAdamSmallEIdeal.τ).loc Cert.RefAdamSmallEIdeal.main_arg5)
          ∧ r.2.mem ((c.tc : Thread Cert.RefAdamSmallEIdeal.nD Cert.RefAdamSmallEIdeal.τ).loc Cert.RefAdamSmallEIdeal.main_arg6) = m' ((c.tc : Thread Cert.RefAdamSmallEIdeal.nD Cert.RefAdamSmallEIdeal.τ).loc Cert.RefAdamSmallEIdeal.main_arg6)
          ∧ r.2.mem ((c.tc : Thread Cert.RefAdamSmallEIdeal.nD Cert.RefAdamSmallEIdeal.τ).loc Cert.RefAdamSmallEIdeal.main_arg7) = m' ((c.tc : Thread Cert.RefAdamSmallEIdeal.nD Cert.RefAdamSmallEIdeal.τ).loc Cert.RefAdamSmallEIdeal.main_arg7)
          ∧ r.2.mem ((c.tc : Thread Cert.RefAdamSmallEIdeal.nD Cert.RefAdamSmallEIdeal.τ).loc Cert.RefAdamSmallEIdeal.main_arg8) = m' ((c.tc : Thread Cert.RefAdamSmallEIdeal.nD Cert.RefAdamSmallEIdeal.τ).loc Cert.RefAdamSmallEIdeal.main_arg8)
          ∧ r.2.mem ((c.tc : Thread Cert.RefAdamSmallEIdeal.nD Cert.RefAdamSmallEIdeal.τ).loc Cert.RefAdamSmallEIdeal.main_arg9) = m' ((c.tc : Thread Cert.RefAdamSmallEIdeal.nD Cert.RefAdamSmallEIdeal.τ).loc Cert.RefAdamSmallEIdeal.main_arg9)
          ∧ r.2.mem ((c.tc : Thread Cert.RefAdamSmallEIdeal.nD Cert.RefAdamSmallEIdeal.τ).loc Cert.RefAdamSmallEIdeal.main_arg10) = m' ((c.tc : Thread Cert.RefAdamSmallEIdeal.nD Cert.RefAdamSmallEIdeal.τ).loc Cert.RefAdamSmallEIdeal.main_arg10)
          ∧ r.2.mem ((c.tc : Thread Cert.RefAdamSmallEIdeal.nD Cert.RefAdamSmallEIdeal.τ).loc Cert.RefAdamSmallEIdeal.main_arg11) = m' ((c.tc : Thread Cert.RefAdamSmallEIdeal.nD Cert.RefAdamSmallEIdeal.τ).loc Cert.RefAdamSmallEIdeal.main_arg11))

def preserves_AdamSmallF_AdamSmallFIdeal : Prop :=
  IdealRules.named_const.Statement Cert.AdamSmallFIdeal.κ "adam_c1" .f32 0x3FC48605#32 ((8388608 / 5463681 : ℝ) : EReal)
  ∧ IdealRules.named_const.Statement Cert.AdamSmallFIdeal.κ "adam_c2" .f32 0x42C8E6D3#32 ((268435456 / 2672307 : ℝ) : EReal)

def algebraic_AdamSmallFIdeal_RefAdamSmallFIdeal [hAdamSmallFIdeal : Cert.AdamSmallFIdeal.Facts] [hRefAdamSmallFIdeal : Cert.RefAdamSmallFIdeal.Facts] : Prop :=
  ∀ (m : (ℓ : Loc Cert.AdamSmallFIdeal.nD Cert.AdamSmallFIdeal.τ Cert.AdamSmallFIdeal.sig) → Buf (Elt Ideal) ℓ) (g : Dev Cert.AdamSmallFIdeal.nD → PrngReg)
    (m' : (ℓ : Loc Cert.RefAdamSmallFIdeal.nD Cert.RefAdamSmallFIdeal.τ Cert.RefAdamSmallFIdeal.sig) → Buf (Elt Ideal) ℓ) (g' : Dev Cert.RefAdamSmallFIdeal.nD → PrngReg), Pre_AdamSmallFIdeal m →
    (∀ c : Dev Cert.AdamSmallFIdeal.nD,
      m' ((c.tc : Thread Cert.RefAdamSmallFIdeal.nD Cert.RefAdamSmallFIdeal.τ).loc Cert.RefAdamSmallFIdeal.main_arg0) = m ((c.tc : Thread Cert.AdamSmallFIdeal.nD Cert.AdamSmallFIdeal.τ).loc Cert.AdamSmallFIdeal.main_arg0)
      ∧ m' ((c.tc : Thread Cert.RefAdamSmallFIdeal.nD Cert.RefAdamSmallFIdeal.τ).loc Cert.RefAdamSmallFIdeal.main_arg1) = m ((c.tc : Thread Cert.AdamSmallFIdeal.nD Cert.AdamSmallFIdeal.τ).loc Cert.AdamSmallFIdeal.main_arg1)
      ∧ m' ((c.tc : Thread Cert.RefAdamSmallFIdeal.nD Cert.RefAdamSmallFIdeal.τ).loc Cert.RefAdamSmallFIdeal.main_arg2) = m ((c.tc : Thread Cert.AdamSmallFIdeal.nD Cert.AdamSmallFIdeal.τ).loc Cert.AdamSmallFIdeal.main_arg2)
      ∧ m' ((c.tc : Thread Cert.RefAdamSmallFIdeal.nD Cert.RefAdamSmallFIdeal.τ).loc Cert.RefAdamSmallFIdeal.main_arg3) = m ((c.tc : Thread Cert.AdamSmallFIdeal.nD Cert.AdamSmallFIdeal.τ).loc Cert.AdamSmallFIdeal.main_arg3)
      ∧ m' ((c.tc : Thread Cert.RefAdamSmallFIdeal.nD Cert.RefAdamSmallFIdeal.τ).loc Cert.RefAdamSmallFIdeal.main_arg4) = m ((c.tc : Thread Cert.AdamSmallFIdeal.nD Cert.AdamSmallFIdeal.τ).loc Cert.AdamSmallFIdeal.main_arg4)
      ∧ m' ((c.tc : Thread Cert.RefAdamSmallFIdeal.nD Cert.RefAdamSmallFIdeal.τ).loc Cert.RefAdamSmallFIdeal.main_arg5) = m ((c.tc : Thread Cert.AdamSmallFIdeal.nD Cert.AdamSmallFIdeal.τ).loc Cert.AdamSmallFIdeal.main_arg5)
      ∧ m' ((c.tc : Thread Cert.RefAdamSmallFIdeal.nD Cert.RefAdamSmallFIdeal.τ).loc Cert.RefAdamSmallFIdeal.main_arg6) = m ((c.tc : Thread Cert.AdamSmallFIdeal.nD Cert.AdamSmallFIdeal.τ).loc Cert.AdamSmallFIdeal.main_arg6)
      ∧ m' ((c.tc : Thread Cert.RefAdamSmallFIdeal.nD Cert.RefAdamSmallFIdeal.τ).loc Cert.RefAdamSmallFIdeal.main_arg7) = m ((c.tc : Thread Cert.AdamSmallFIdeal.nD Cert.AdamSmallFIdeal.τ).loc Cert.AdamSmallFIdeal.main_arg7)
      ∧ m' ((c.tc : Thread Cert.RefAdamSmallFIdeal.nD Cert.RefAdamSmallFIdeal.τ).loc Cert.RefAdamSmallFIdeal.main_arg8) = m ((c.tc : Thread Cert.AdamSmallFIdeal.nD Cert.AdamSmallFIdeal.τ).loc Cert.AdamSmallFIdeal.main_arg8)
      ∧ m' ((c.tc : Thread Cert.RefAdamSmallFIdeal.nD Cert.RefAdamSmallFIdeal.τ).loc Cert.RefAdamSmallFIdeal.main_arg9) = m ((c.tc : Thread Cert.AdamSmallFIdeal.nD Cert.AdamSmallFIdeal.τ).loc Cert.AdamSmallFIdeal.main_arg9)
      ∧ m' ((c.tc : Thread Cert.RefAdamSmallFIdeal.nD Cert.RefAdamSmallFIdeal.τ).loc Cert.RefAdamSmallFIdeal.main_arg10) = m ((c.tc : Thread Cert.AdamSmallFIdeal.nD Cert.AdamSmallFIdeal.τ).loc Cert.AdamSmallFIdeal.main_arg10)
      ∧ m' ((c.tc : Thread Cert.RefAdamSmallFIdeal.nD Cert.RefAdamSmallFIdeal.τ).loc Cert.RefAdamSmallFIdeal.main_arg11) = m ((c.tc : Thread Cert.AdamSmallFIdeal.nD Cert.AdamSmallFIdeal.τ).loc Cert.AdamSmallFIdeal.main_arg11)) →
    ∃ (v0 : (c : Dev Cert.AdamSmallFIdeal.nD) → Buf (Elt Ideal) ((c.tc : Thread Cert.AdamSmallFIdeal.nD Cert.AdamSmallFIdeal.τ).loc Cert.AdamSmallFIdeal.main_v0_0)) (v1 : (c : Dev Cert.AdamSmallFIdeal.nD) → Buf (Elt Ideal) ((c.tc : Thread Cert.AdamSmallFIdeal.nD Cert.AdamSmallFIdeal.τ).loc Cert.AdamSmallFIdeal.main_v0_1)) (v2 : (c : Dev Cert.AdamSmallFIdeal.nD) → Buf (Elt Ideal) ((c.tc : Thread Cert.AdamSmallFIdeal.nD Cert.AdamSmallFIdeal.τ).loc Cert.AdamSmallFIdeal.main_v0_2)) (v3 : (c : Dev Cert.AdamSmallFIdeal.nD) → Buf (Elt Ideal) ((c.tc : Thread Cert.AdamSmallFIdeal.nD Cert.AdamSmallFIdeal.τ).loc Cert.AdamSmallFIdeal.main_v0_3)) (v4 : (c : Dev Cert.AdamSmallFIdeal.nD) → Buf (Elt Ideal) ((c.tc : Thread Cert.AdamSmallFIdeal.nD Cert.AdamSmallFIdeal.τ).loc Cert.AdamSmallFIdeal.main_v0_4)) (v5 : (c : Dev Cert.AdamSmallFIdeal.nD) → Buf (Elt Ideal) ((c.tc : Thread Cert.AdamSmallFIdeal.nD Cert.AdamSmallFIdeal.τ).loc Cert.AdamSmallFIdeal.main_v0_5)) (v6 : (c : Dev Cert.AdamSmallFIdeal.nD) → Buf (Elt Ideal) ((c.tc : Thread Cert.AdamSmallFIdeal.nD Cert.AdamSmallFIdeal.τ).loc Cert.AdamSmallFIdeal.main_v0_6)) (v7 : (c : Dev Cert.AdamSmallFIdeal.nD) → Buf (Elt Ideal) ((c.tc : Thread Cert.AdamSmallFIdeal.nD Cert.AdamSmallFIdeal.τ).loc Cert.AdamSmallFIdeal.main_v0_7)) (v8 : (c : Dev Cert.AdamSmallFIdeal.nD) → Buf (Elt Ideal) ((c.tc : Thread Cert.AdamSmallFIdeal.nD Cert.AdamSmallFIdeal.τ).loc Cert.AdamSmallFIdeal.main_v0_8)),
      θ_run (Cert.AdamSmallFIdeal.defs (F := Ideal)) (onTc (τ := Cert.AdamSmallFIdeal.τ) (Cert.AdamSmallFIdeal.main (F := Ideal))) ⟨m, fun _ => 0, g⟩ (fun r => ∀ c : Dev Cert.AdamSmallFIdeal.nD,
          r.2.mem ((c.tc : Thread Cert.AdamSmallFIdeal.nD Cert.AdamSmallFIdeal.τ).loc Cert.AdamSmallFIdeal.main_v0_0) = v0 c
          ∧ r.2.mem ((c.tc : Thread Cert.AdamSmallFIdeal.nD Cert.AdamSmallFIdeal.τ).loc Cert.AdamSmallFIdeal.main_v0_1) = v1 c
          ∧ r.2.mem ((c.tc : Thread Cert.AdamSmallFIdeal.nD Cert.AdamSmallFIdeal.τ).loc Cert.AdamSmallFIdeal.main_v0_2) = v2 c
          ∧ r.2.mem ((c.tc : Thread Cert.AdamSmallFIdeal.nD Cert.AdamSmallFIdeal.τ).loc Cert.AdamSmallFIdeal.main_v0_3) = v3 c
          ∧ r.2.mem ((c.tc : Thread Cert.AdamSmallFIdeal.nD Cert.AdamSmallFIdeal.τ).loc Cert.AdamSmallFIdeal.main_v0_4) = v4 c
          ∧ r.2.mem ((c.tc : Thread Cert.AdamSmallFIdeal.nD Cert.AdamSmallFIdeal.τ).loc Cert.AdamSmallFIdeal.main_v0_5) = v5 c
          ∧ r.2.mem ((c.tc : Thread Cert.AdamSmallFIdeal.nD Cert.AdamSmallFIdeal.τ).loc Cert.AdamSmallFIdeal.main_v0_6) = v6 c
          ∧ r.2.mem ((c.tc : Thread Cert.AdamSmallFIdeal.nD Cert.AdamSmallFIdeal.τ).loc Cert.AdamSmallFIdeal.main_v0_7) = v7 c
          ∧ r.2.mem ((c.tc : Thread Cert.AdamSmallFIdeal.nD Cert.AdamSmallFIdeal.τ).loc Cert.AdamSmallFIdeal.main_v0_8) = v8 c
          ∧ r.2.mem ((c.tc : Thread Cert.AdamSmallFIdeal.nD Cert.AdamSmallFIdeal.τ).loc Cert.AdamSmallFIdeal.main_arg0) = m ((c.tc : Thread Cert.AdamSmallFIdeal.nD Cert.AdamSmallFIdeal.τ).loc Cert.AdamSmallFIdeal.main_arg0)
          ∧ r.2.mem ((c.tc : Thread Cert.AdamSmallFIdeal.nD Cert.AdamSmallFIdeal.τ).loc Cert.AdamSmallFIdeal.main_arg1) = m ((c.tc : Thread Cert.AdamSmallFIdeal.nD Cert.AdamSmallFIdeal.τ).loc Cert.AdamSmallFIdeal.main_arg1)
          ∧ r.2.mem ((c.tc : Thread Cert.AdamSmallFIdeal.nD Cert.AdamSmallFIdeal.τ).loc Cert.AdamSmallFIdeal.main_arg2) = m ((c.tc : Thread Cert.AdamSmallFIdeal.nD Cert.AdamSmallFIdeal.τ).loc Cert.AdamSmallFIdeal.main_arg2)
          ∧ r.2.mem ((c.tc : Thread Cert.AdamSmallFIdeal.nD Cert.AdamSmallFIdeal.τ).loc Cert.AdamSmallFIdeal.main_arg3) = m ((c.tc : Thread Cert.AdamSmallFIdeal.nD Cert.AdamSmallFIdeal.τ).loc Cert.AdamSmallFIdeal.main_arg3)
          ∧ r.2.mem ((c.tc : Thread Cert.AdamSmallFIdeal.nD Cert.AdamSmallFIdeal.τ).loc Cert.AdamSmallFIdeal.main_arg4) = m ((c.tc : Thread Cert.AdamSmallFIdeal.nD Cert.AdamSmallFIdeal.τ).loc Cert.AdamSmallFIdeal.main_arg4)
          ∧ r.2.mem ((c.tc : Thread Cert.AdamSmallFIdeal.nD Cert.AdamSmallFIdeal.τ).loc Cert.AdamSmallFIdeal.main_arg5) = m ((c.tc : Thread Cert.AdamSmallFIdeal.nD Cert.AdamSmallFIdeal.τ).loc Cert.AdamSmallFIdeal.main_arg5)
          ∧ r.2.mem ((c.tc : Thread Cert.AdamSmallFIdeal.nD Cert.AdamSmallFIdeal.τ).loc Cert.AdamSmallFIdeal.main_arg6) = m ((c.tc : Thread Cert.AdamSmallFIdeal.nD Cert.AdamSmallFIdeal.τ).loc Cert.AdamSmallFIdeal.main_arg6)
          ∧ r.2.mem ((c.tc : Thread Cert.AdamSmallFIdeal.nD Cert.AdamSmallFIdeal.τ).loc Cert.AdamSmallFIdeal.main_arg7) = m ((c.tc : Thread Cert.AdamSmallFIdeal.nD Cert.AdamSmallFIdeal.τ).loc Cert.AdamSmallFIdeal.main_arg7)
          ∧ r.2.mem ((c.tc : Thread Cert.AdamSmallFIdeal.nD Cert.AdamSmallFIdeal.τ).loc Cert.AdamSmallFIdeal.main_arg8) = m ((c.tc : Thread Cert.AdamSmallFIdeal.nD Cert.AdamSmallFIdeal.τ).loc Cert.AdamSmallFIdeal.main_arg8)
          ∧ r.2.mem ((c.tc : Thread Cert.AdamSmallFIdeal.nD Cert.AdamSmallFIdeal.τ).loc Cert.AdamSmallFIdeal.main_arg9) = m ((c.tc : Thread Cert.AdamSmallFIdeal.nD Cert.AdamSmallFIdeal.τ).loc Cert.AdamSmallFIdeal.main_arg9)
          ∧ r.2.mem ((c.tc : Thread Cert.AdamSmallFIdeal.nD Cert.AdamSmallFIdeal.τ).loc Cert.AdamSmallFIdeal.main_arg10) = m ((c.tc : Thread Cert.AdamSmallFIdeal.nD Cert.AdamSmallFIdeal.τ).loc Cert.AdamSmallFIdeal.main_arg10)
          ∧ r.2.mem ((c.tc : Thread Cert.AdamSmallFIdeal.nD Cert.AdamSmallFIdeal.τ).loc Cert.AdamSmallFIdeal.main_arg11) = m ((c.tc : Thread Cert.AdamSmallFIdeal.nD Cert.AdamSmallFIdeal.τ).loc Cert.AdamSmallFIdeal.main_arg11))
      ∧ θ_run (Cert.RefAdamSmallFIdeal.defs (F := Ideal)) (onTc (τ := Cert.RefAdamSmallFIdeal.τ) (Cert.RefAdamSmallFIdeal.main (F := Ideal))) ⟨m', fun _ => 0, g'⟩ (fun r => ∀ c : Dev Cert.RefAdamSmallFIdeal.nD,
          r.2.mem ((c.tc : Thread Cert.RefAdamSmallFIdeal.nD Cert.RefAdamSmallFIdeal.τ).loc Cert.RefAdamSmallFIdeal.main_v23) = v0 c
          ∧ r.2.mem ((c.tc : Thread Cert.RefAdamSmallFIdeal.nD Cert.RefAdamSmallFIdeal.τ).loc Cert.RefAdamSmallFIdeal.main_v47) = v1 c
          ∧ r.2.mem ((c.tc : Thread Cert.RefAdamSmallFIdeal.nD Cert.RefAdamSmallFIdeal.τ).loc Cert.RefAdamSmallFIdeal.main_v71) = v2 c
          ∧ r.2.mem ((c.tc : Thread Cert.RefAdamSmallFIdeal.nD Cert.RefAdamSmallFIdeal.τ).loc Cert.RefAdamSmallFIdeal.main_v4) = v3 c
          ∧ r.2.mem ((c.tc : Thread Cert.RefAdamSmallFIdeal.nD Cert.RefAdamSmallFIdeal.τ).loc Cert.RefAdamSmallFIdeal.main_v28) = v4 c
          ∧ r.2.mem ((c.tc : Thread Cert.RefAdamSmallFIdeal.nD Cert.RefAdamSmallFIdeal.τ).loc Cert.RefAdamSmallFIdeal.main_v52) = v5 c
          ∧ r.2.mem ((c.tc : Thread Cert.RefAdamSmallFIdeal.nD Cert.RefAdamSmallFIdeal.τ).loc Cert.RefAdamSmallFIdeal.main_v10) = v6 c
          ∧ r.2.mem ((c.tc : Thread Cert.RefAdamSmallFIdeal.nD Cert.RefAdamSmallFIdeal.τ).loc Cert.RefAdamSmallFIdeal.main_v34) = v7 c
          ∧ r.2.mem ((c.tc : Thread Cert.RefAdamSmallFIdeal.nD Cert.RefAdamSmallFIdeal.τ).loc Cert.RefAdamSmallFIdeal.main_v58) = v8 c
          ∧ r.2.mem ((c.tc : Thread Cert.RefAdamSmallFIdeal.nD Cert.RefAdamSmallFIdeal.τ).loc Cert.RefAdamSmallFIdeal.main_arg0) = m' ((c.tc : Thread Cert.RefAdamSmallFIdeal.nD Cert.RefAdamSmallFIdeal.τ).loc Cert.RefAdamSmallFIdeal.main_arg0)
          ∧ r.2.mem ((c.tc : Thread Cert.RefAdamSmallFIdeal.nD Cert.RefAdamSmallFIdeal.τ).loc Cert.RefAdamSmallFIdeal.main_arg1) = m' ((c.tc : Thread Cert.RefAdamSmallFIdeal.nD Cert.RefAdamSmallFIdeal.τ).loc Cert.RefAdamSmallFIdeal.main_arg1)
          ∧ r.2.mem ((c.tc : Thread Cert.RefAdamSmallFIdeal.nD Cert.RefAdamSmallFIdeal.τ).loc Cert.RefAdamSmallFIdeal.main_arg2) = m' ((c.tc : Thread Cert.RefAdamSmallFIdeal.nD Cert.RefAdamSmallFIdeal.τ).loc Cert.RefAdamSmallFIdeal.main_arg2)
          ∧ r.2.mem ((c.tc : Thread Cert.RefAdamSmallFIdeal.nD Cert.RefAdamSmallFIdeal.τ).loc Cert.RefAdamSmallFIdeal.main_arg3) = m' ((c.tc : Thread Cert.RefAdamSmallFIdeal.nD Cert.RefAdamSmallFIdeal.τ).loc Cert.RefAdamSmallFIdeal.main_arg3)
          ∧ r.2.mem ((c.tc : Thread Cert.RefAdamSmallFIdeal.nD Cert.RefAdamSmallFIdeal.τ).loc Cert.RefAdamSmallFIdeal.main_arg4) = m' ((c.tc : Thread Cert.RefAdamSmallFIdeal.nD Cert.RefAdamSmallFIdeal.τ).loc Cert.RefAdamSmallFIdeal.main_arg4)
          ∧ r.2.mem ((c.tc : Thread Cert.RefAdamSmallFIdeal.nD Cert.RefAdamSmallFIdeal.τ).loc Cert.RefAdamSmallFIdeal.main_arg5) = m' ((c.tc : Thread Cert.RefAdamSmallFIdeal.nD Cert.RefAdamSmallFIdeal.τ).loc Cert.RefAdamSmallFIdeal.main_arg5)
          ∧ r.2.mem ((c.tc : Thread Cert.RefAdamSmallFIdeal.nD Cert.RefAdamSmallFIdeal.τ).loc Cert.RefAdamSmallFIdeal.main_arg6) = m' ((c.tc : Thread Cert.RefAdamSmallFIdeal.nD Cert.RefAdamSmallFIdeal.τ).loc Cert.RefAdamSmallFIdeal.main_arg6)
          ∧ r.2.mem ((c.tc : Thread Cert.RefAdamSmallFIdeal.nD Cert.RefAdamSmallFIdeal.τ).loc Cert.RefAdamSmallFIdeal.main_arg7) = m' ((c.tc : Thread Cert.RefAdamSmallFIdeal.nD Cert.RefAdamSmallFIdeal.τ).loc Cert.RefAdamSmallFIdeal.main_arg7)
          ∧ r.2.mem ((c.tc : Thread Cert.RefAdamSmallFIdeal.nD Cert.RefAdamSmallFIdeal.τ).loc Cert.RefAdamSmallFIdeal.main_arg8) = m' ((c.tc : Thread Cert.RefAdamSmallFIdeal.nD Cert.RefAdamSmallFIdeal.τ).loc Cert.RefAdamSmallFIdeal.main_arg8)
          ∧ r.2.mem ((c.tc : Thread Cert.RefAdamSmallFIdeal.nD Cert.RefAdamSmallFIdeal.τ).loc Cert.RefAdamSmallFIdeal.main_arg9) = m' ((c.tc : Thread Cert.RefAdamSmallFIdeal.nD Cert.RefAdamSmallFIdeal.τ).loc Cert.RefAdamSmallFIdeal.main_arg9)
          ∧ r.2.mem ((c.tc : Thread Cert.RefAdamSmallFIdeal.nD Cert.RefAdamSmallFIdeal.τ).loc Cert.RefAdamSmallFIdeal.main_arg10) = m' ((c.tc : Thread Cert.RefAdamSmallFIdeal.nD Cert.RefAdamSmallFIdeal.τ).loc Cert.RefAdamSmallFIdeal.main_arg10)
          ∧ r.2.mem ((c.tc : Thread Cert.RefAdamSmallFIdeal.nD Cert.RefAdamSmallFIdeal.τ).loc Cert.RefAdamSmallFIdeal.main_arg11) = m' ((c.tc : Thread Cert.RefAdamSmallFIdeal.nD Cert.RefAdamSmallFIdeal.τ).loc Cert.RefAdamSmallFIdeal.main_arg11))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hRefDownDxIdeal : Cert.RefDownDxIdeal.Facts) (hDownDw : Cert.DownDw.Facts) (hDownDwIdeal : Cert.DownDwIdeal.Facts) (hRefDownDwIdeal : Cert.RefDownDwIdeal.Facts) (hUpDx : Cert.UpDx.Facts) (hUpDxIdeal : Cert.UpDxIdeal.Facts) (hRefUpDxIdeal : Cert.RefUpDxIdeal.Facts) (hUpDw : Cert.UpDw.Facts) (hUpDwIdeal : Cert.UpDwIdeal.Facts) (hRefUpDwIdeal : Cert.RefUpDwIdeal.Facts) (hOutDx : Cert.OutDx.Facts) (hOutDxIdeal : Cert.OutDxIdeal.Facts) (hRefOutDxIdeal : Cert.RefOutDxIdeal.Facts) (hOutDw : Cert.OutDw.Facts) (hOutDwIdeal : Cert.OutDwIdeal.Facts) (hRefOutDwIdeal : Cert.RefOutDwIdeal.Facts) (hGluDx : Cert.GluDx.Facts) (hGluDxIdeal : Cert.GluDxIdeal.Facts) (hRefGluDxIdeal : Cert.RefGluDxIdeal.Facts) (hGluDw : Cert.GluDw.Facts) (hGluDwIdeal : Cert.GluDwIdeal.Facts) (hRefGluDwIdeal : Cert.RefGluDwIdeal.Facts) (hInDx : Cert.InDx.Facts) (hInDxIdeal : Cert.InDxIdeal.Facts) (hRefInDxIdeal : Cert.RefInDxIdeal.Facts) (hInDw : Cert.InDw.Facts) (hInDwIdeal : Cert.InDwIdeal.Facts) (hRefInDwIdeal : Cert.RefInDwIdeal.Facts) (hInFwd : Cert.InFwd.Facts) (hInFwdIdeal : Cert.InFwdIdeal.Facts) (hRefInFwdIdeal : Cert.RefInFwdIdeal.Facts) (hGluFwd : Cert.GluFwd.Facts) (hGluFwdIdeal : Cert.GluFwdIdeal.Facts) (hRefGluFwdIdeal : Cert.RefGluFwdIdeal.Facts) (hOutFwd : Cert.OutFwd.Facts) (hOutFwdIdeal : Cert.OutFwdIdeal.Facts) (hRefOutFwdIdeal : Cert.RefOutFwdIdeal.Facts) (hUpFwd : Cert.UpFwd.Facts) (hUpFwdIdeal : Cert.UpFwdIdeal.Facts) (hRefUpFwdIdeal : Cert.RefUpFwdIdeal.Facts) (hDownFwd : Cert.DownFwd.Facts) (hDownFwdIdeal : Cert.DownFwdIdeal.Facts) (hRefDownFwdIdeal : Cert.RefDownFwdIdeal.Facts) (hResBwd : Cert.ResBwd.Facts) (hResBwdIdeal : Cert.ResBwdIdeal.Facts) (hRefResBwdIdeal : Cert.RefResBwdIdeal.Facts) (hModBwd : Cert.ModBwd.Facts) (hModBwdIdeal : Cert.ModBwdIdeal.Facts) (hRefModBwdIdeal : Cert.RefModBwdIdeal.Facts) (hModResBwd : Cert.ModResBwd.Facts) (hModResBwdIdeal : Cert.ModResBwdIdeal.Facts) (hRefModResBwdIdeal : Cert.RefModResBwdIdeal.Facts) (hMergeBwd : Cert.MergeBwd.Facts) (hMergeBwdIdeal : Cert.MergeBwdIdeal.Facts) (hRefMergeBwdIdeal : Cert.RefMergeBwdIdeal.Facts) (hModFwd : Cert.ModFwd.Facts) (hModFwdIdeal : Cert.ModFwdIdeal.Facts) (hRefModFwdIdeal : Cert.RefModFwdIdeal.Facts) (hResModFwd : Cert.ResModFwd.Facts) (hResModFwdIdeal : Cert.ResModFwdIdeal.Facts) (hRefResModFwdIdeal : Cert.RefResModFwdIdeal.Facts) (hResLoss : Cert.ResLoss.Facts) (hResLossIdeal : Cert.ResLossIdeal.Facts) (hRefResLossIdeal : Cert.RefResLossIdeal.Facts) (hMergeFwd : Cert.MergeFwd.Facts) (hMergeFwdIdeal : Cert.MergeFwdIdeal.Facts) (hRefMergeFwdIdeal : Cert.RefMergeFwdIdeal.Facts) (hAdaFwd : Cert.AdaFwd.Facts) (hAdaFwdIdeal : Cert.AdaFwdIdeal.Facts) (hRefAdaFwdIdeal : Cert.RefAdaFwdIdeal.Facts) (hAdaDw : Cert.AdaDw.Facts) (hAdaDwIdeal : Cert.AdaDwIdeal.Facts) (hRefAdaDwIdeal : Cert.RefAdaDwIdeal.Facts) (hGateFwd : Cert.GateFwd.Facts) (hGateFwdIdeal : Cert.GateFwdIdeal.Facts) (hRefGateFwdIdeal : Cert.RefGateFwdIdeal.Facts) (hAdamWIn : Cert.AdamWIn.Facts) (hAdamWInIdeal : Cert.AdamWInIdeal.Facts) (hRefAdamWInIdeal : Cert.RefAdamWInIdeal.Facts) (hAdamWGlu : Cert.AdamWGlu.Facts) (hAdamWGluIdeal : Cert.AdamWGluIdeal.Facts) (hRefAdamWGluIdeal : Cert.RefAdamWGluIdeal.Facts) (hAdamWOut : Cert.AdamWOut.Facts) (hAdamWOutIdeal : Cert.AdamWOutIdeal.Facts) (hRefAdamWOutIdeal : Cert.RefAdamWOutIdeal.Facts) (hAdamWUp : Cert.AdamWUp.Facts) (hAdamWUpIdeal : Cert.AdamWUpIdeal.Facts) (hRefAdamWUpIdeal : Cert.RefAdamWUpIdeal.Facts) (hAdamWDown : Cert.AdamWDown.Facts) (hAdamWDownIdeal : Cert.AdamWDownIdeal.Facts) (hRefAdamWDownIdeal : Cert.RefAdamWDownIdeal.Facts) (hAdamWAda : Cert.AdamWAda.Facts) (hAdamWAdaIdeal : Cert.AdamWAdaIdeal.Facts) (hRefAdamWAdaIdeal : Cert.RefAdamWAdaIdeal.Facts) (hSsmParBwd : Cert.SsmParBwd.Facts) (hSsmParBwdIdeal : Cert.SsmParBwdIdeal.Facts) (hRefSsmParBwdIdeal : Cert.RefSsmParBwdIdeal.Facts) (hSsmParFwd : Cert.SsmParFwd.Facts) (hSsmParFwdIdeal : Cert.SsmParFwdIdeal.Facts) (hRefSsmParFwdIdeal : Cert.RefSsmParFwdIdeal.Facts) (hAdamSmallA : Cert.AdamSmallA.Facts) (hAdamSmallAIdeal : Cert.AdamSmallAIdeal.Facts) (hRefAdamSmallAIdeal : Cert.RefAdamSmallAIdeal.Facts) (hAdamSmallB : Cert.AdamSmallB.Facts) (hAdamSmallBIdeal : Cert.AdamSmallBIdeal.Facts) (hRefAdamSmallBIdeal : Cert.RefAdamSmallBIdeal.Facts) (hAdamSmallC : Cert.AdamSmallC.Facts) (hAdamSmallCIdeal : Cert.AdamSmallCIdeal.Facts) (hRefAdamSmallCIdeal : Cert.RefAdamSmallCIdeal.Facts) (hAdamSmallD : Cert.AdamSmallD.Facts) (hAdamSmallDIdeal : Cert.AdamSmallDIdeal.Facts) (hRefAdamSmallDIdeal : Cert.RefAdamSmallDIdeal.Facts) (hAdamSmallE : Cert.AdamSmallE.Facts) (hAdamSmallEIdeal : Cert.AdamSmallEIdeal.Facts) (hRefAdamSmallEIdeal : Cert.RefAdamSmallEIdeal.Facts) (hAdamSmallF : Cert.AdamSmallF.Facts) (hAdamSmallFIdeal : Cert.AdamSmallFIdeal.Facts) (hRefAdamSmallFIdeal : Cert.RefAdamSmallFIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_UpDw (hUpDw := hUpDw)
    ∧ quiescent_UpDwIdeal (hUpDwIdeal := hUpDwIdeal)
    ∧ quiescent_RefUpDwIdeal (hRefUpDwIdeal := hRefUpDwIdeal)
    ∧ quiescent_OutDx (hOutDx := hOutDx)
    ∧ quiescent_OutDxIdeal (hOutDxIdeal := hOutDxIdeal)
    ∧ quiescent_RefOutDxIdeal (hRefOutDxIdeal := hRefOutDxIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_GluDx (hGluDx := hGluDx)
    ∧ quiescent_GluDxIdeal (hGluDxIdeal := hGluDxIdeal)
    ∧ quiescent_RefGluDxIdeal (hRefGluDxIdeal := hRefGluDxIdeal)
    ∧ quiescent_GluDw (hGluDw := hGluDw)
    ∧ quiescent_GluDwIdeal (hGluDwIdeal := hGluDwIdeal)
    ∧ quiescent_RefGluDwIdeal (hRefGluDwIdeal := hRefGluDwIdeal)
    ∧ quiescent_InDx (hInDx := hInDx)
    ∧ quiescent_InDxIdeal (hInDxIdeal := hInDxIdeal)
    ∧ quiescent_RefInDxIdeal (hRefInDxIdeal := hRefInDxIdeal)
    ∧ quiescent_InDw (hInDw := hInDw)
    ∧ quiescent_InDwIdeal (hInDwIdeal := hInDwIdeal)
    ∧ quiescent_RefInDwIdeal (hRefInDwIdeal := hRefInDwIdeal)
    ∧ quiescent_InFwd (hInFwd := hInFwd)
    ∧ quiescent_InFwdIdeal (hInFwdIdeal := hInFwdIdeal)
    ∧ quiescent_RefInFwdIdeal (hRefInFwdIdeal := hRefInFwdIdeal)
    ∧ quiescent_GluFwd (hGluFwd := hGluFwd)
    ∧ quiescent_GluFwdIdeal (hGluFwdIdeal := hGluFwdIdeal)
    ∧ quiescent_RefGluFwdIdeal (hRefGluFwdIdeal := hRefGluFwdIdeal)
    ∧ quiescent_OutFwd (hOutFwd := hOutFwd)
    ∧ quiescent_OutFwdIdeal (hOutFwdIdeal := hOutFwdIdeal)
    ∧ quiescent_RefOutFwdIdeal (hRefOutFwdIdeal := hRefOutFwdIdeal)
    ∧ quiescent_UpFwd (hUpFwd := hUpFwd)
    ∧ quiescent_UpFwdIdeal (hUpFwdIdeal := hUpFwdIdeal)
    ∧ quiescent_RefUpFwdIdeal (hRefUpFwdIdeal := hRefUpFwdIdeal)
    ∧ quiescent_DownFwd (hDownFwd := hDownFwd)
    ∧ quiescent_DownFwdIdeal (hDownFwdIdeal := hDownFwdIdeal)
    ∧ quiescent_RefDownFwdIdeal (hRefDownFwdIdeal := hRefDownFwdIdeal)
    ∧ quiescent_ResBwd (hResBwd := hResBwd)
    ∧ quiescent_ResBwdIdeal (hResBwdIdeal := hResBwdIdeal)
    ∧ quiescent_RefResBwdIdeal (hRefResBwdIdeal := hRefResBwdIdeal)
    ∧ quiescent_ModBwd (hModBwd := hModBwd)
    ∧ quiescent_ModBwdIdeal (hModBwdIdeal := hModBwdIdeal)
    ∧ quiescent_RefModBwdIdeal (hRefModBwdIdeal := hRefModBwdIdeal)
    ∧ quiescent_ModResBwd (hModResBwd := hModResBwd)
    ∧ quiescent_ModResBwdIdeal (hModResBwdIdeal := hModResBwdIdeal)
    ∧ quiescent_RefModResBwdIdeal (hRefModResBwdIdeal := hRefModResBwdIdeal)
    ∧ quiescent_MergeBwd (hMergeBwd := hMergeBwd)
    ∧ quiescent_MergeBwdIdeal (hMergeBwdIdeal := hMergeBwdIdeal)
    ∧ quiescent_RefMergeBwdIdeal (hRefMergeBwdIdeal := hRefMergeBwdIdeal)
    ∧ quiescent_ModFwd (hModFwd := hModFwd)
    ∧ quiescent_ModFwdIdeal (hModFwdIdeal := hModFwdIdeal)
    ∧ quiescent_RefModFwdIdeal (hRefModFwdIdeal := hRefModFwdIdeal)
    ∧ quiescent_ResModFwd (hResModFwd := hResModFwd)
    ∧ quiescent_ResModFwdIdeal (hResModFwdIdeal := hResModFwdIdeal)
    ∧ quiescent_RefResModFwdIdeal (hRefResModFwdIdeal := hRefResModFwdIdeal)
    ∧ quiescent_ResLoss (hResLoss := hResLoss)
    ∧ quiescent_ResLossIdeal (hResLossIdeal := hResLossIdeal)
    ∧ quiescent_RefResLossIdeal (hRefResLossIdeal := hRefResLossIdeal)
    ∧ quiescent_MergeFwd (hMergeFwd := hMergeFwd)
    ∧ quiescent_MergeFwdIdeal (hMergeFwdIdeal := hMergeFwdIdeal)
    ∧ quiescent_RefMergeFwdIdeal (hRefMergeFwdIdeal := hRefMergeFwdIdeal)
    ∧ quiescent_AdaFwd (hAdaFwd := hAdaFwd)
    ∧ quiescent_AdaFwdIdeal (hAdaFwdIdeal := hAdaFwdIdeal)
    ∧ quiescent_RefAdaFwdIdeal (hRefAdaFwdIdeal := hRefAdaFwdIdeal)
    ∧ quiescent_AdaDw (hAdaDw := hAdaDw)
    ∧ quiescent_AdaDwIdeal (hAdaDwIdeal := hAdaDwIdeal)
    ∧ quiescent_RefAdaDwIdeal (hRefAdaDwIdeal := hRefAdaDwIdeal)
    ∧ quiescent_GateFwd (hGateFwd := hGateFwd)
    ∧ quiescent_GateFwdIdeal (hGateFwdIdeal := hGateFwdIdeal)
    ∧ quiescent_RefGateFwdIdeal (hRefGateFwdIdeal := hRefGateFwdIdeal)
    ∧ quiescent_AdamWIn (hAdamWIn := hAdamWIn)
    ∧ quiescent_AdamWInIdeal (hAdamWInIdeal := hAdamWInIdeal)
    ∧ quiescent_RefAdamWInIdeal (hRefAdamWInIdeal := hRefAdamWInIdeal)
    ∧ quiescent_AdamWGlu (hAdamWGlu := hAdamWGlu)
    ∧ quiescent_AdamWGluIdeal (hAdamWGluIdeal := hAdamWGluIdeal)
    ∧ quiescent_RefAdamWGluIdeal (hRefAdamWGluIdeal := hRefAdamWGluIdeal)
    ∧ quiescent_AdamWOut (hAdamWOut := hAdamWOut)
    ∧ quiescent_AdamWOutIdeal (hAdamWOutIdeal := hAdamWOutIdeal)
    ∧ quiescent_RefAdamWOutIdeal (hRefAdamWOutIdeal := hRefAdamWOutIdeal)
    ∧ quiescent_AdamWUp (hAdamWUp := hAdamWUp)
    ∧ quiescent_AdamWUpIdeal (hAdamWUpIdeal := hAdamWUpIdeal)
    ∧ quiescent_RefAdamWUpIdeal (hRefAdamWUpIdeal := hRefAdamWUpIdeal)
    ∧ quiescent_AdamWDown (hAdamWDown := hAdamWDown)
    ∧ quiescent_AdamWDownIdeal (hAdamWDownIdeal := hAdamWDownIdeal)
    ∧ quiescent_RefAdamWDownIdeal (hRefAdamWDownIdeal := hRefAdamWDownIdeal)
    ∧ quiescent_AdamWAda (hAdamWAda := hAdamWAda)
    ∧ quiescent_AdamWAdaIdeal (hAdamWAdaIdeal := hAdamWAdaIdeal)
    ∧ quiescent_RefAdamWAdaIdeal (hRefAdamWAdaIdeal := hRefAdamWAdaIdeal)
    ∧ quiescent_SsmParBwd (hSsmParBwd := hSsmParBwd)
    ∧ quiescent_SsmParBwdIdeal (hSsmParBwdIdeal := hSsmParBwdIdeal)
    ∧ quiescent_RefSsmParBwdIdeal (hRefSsmParBwdIdeal := hRefSsmParBwdIdeal)
    ∧ quiescent_SsmParFwd (hSsmParFwd := hSsmParFwd)
    ∧ quiescent_SsmParFwdIdeal (hSsmParFwdIdeal := hSsmParFwdIdeal)
    ∧ quiescent_RefSsmParFwdIdeal (hRefSsmParFwdIdeal := hRefSsmParFwdIdeal)
    ∧ quiescent_AdamSmallA (hAdamSmallA := hAdamSmallA)
    ∧ quiescent_AdamSmallAIdeal (hAdamSmallAIdeal := hAdamSmallAIdeal)
    ∧ quiescent_RefAdamSmallAIdeal (hRefAdamSmallAIdeal := hRefAdamSmallAIdeal)
    ∧ quiescent_AdamSmallB (hAdamSmallB := hAdamSmallB)
    ∧ quiescent_AdamSmallBIdeal (hAdamSmallBIdeal := hAdamSmallBIdeal)
    ∧ quiescent_RefAdamSmallBIdeal (hRefAdamSmallBIdeal := hRefAdamSmallBIdeal)
    ∧ quiescent_AdamSmallC (hAdamSmallC := hAdamSmallC)
    ∧ quiescent_AdamSmallCIdeal (hAdamSmallCIdeal := hAdamSmallCIdeal)
    ∧ quiescent_RefAdamSmallCIdeal (hRefAdamSmallCIdeal := hRefAdamSmallCIdeal)
    ∧ quiescent_AdamSmallD (hAdamSmallD := hAdamSmallD)
    ∧ quiescent_AdamSmallDIdeal (hAdamSmallDIdeal := hAdamSmallDIdeal)
    ∧ quiescent_RefAdamSmallDIdeal (hRefAdamSmallDIdeal := hRefAdamSmallDIdeal)
    ∧ quiescent_AdamSmallE (hAdamSmallE := hAdamSmallE)
    ∧ quiescent_AdamSmallEIdeal (hAdamSmallEIdeal := hAdamSmallEIdeal)
    ∧ quiescent_RefAdamSmallEIdeal (hRefAdamSmallEIdeal := hRefAdamSmallEIdeal)
    ∧ quiescent_AdamSmallF (hAdamSmallF := hAdamSmallF)
    ∧ quiescent_AdamSmallFIdeal (hAdamSmallFIdeal := hAdamSmallFIdeal)
    ∧ quiescent_RefAdamSmallFIdeal (hRefAdamSmallFIdeal := hRefAdamSmallFIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_DownDx_DownDxIdeal
    ∧ algebraic_DownDxIdeal_RefDownDxIdeal (hDownDxIdeal := hDownDxIdeal) (hRefDownDxIdeal := hRefDownDxIdeal)
    ∧ preserves_DownDw_DownDwIdeal
    ∧ algebraic_DownDwIdeal_RefDownDwIdeal (hDownDwIdeal := hDownDwIdeal) (hRefDownDwIdeal := hRefDownDwIdeal)
    ∧ preserves_UpDx_UpDxIdeal
    ∧ algebraic_UpDxIdeal_RefUpDxIdeal (hUpDxIdeal := hUpDxIdeal) (hRefUpDxIdeal := hRefUpDxIdeal)
    ∧ preserves_UpDw_UpDwIdeal
    ∧ algebraic_UpDwIdeal_RefUpDwIdeal (hUpDwIdeal := hUpDwIdeal) (hRefUpDwIdeal := hRefUpDwIdeal)
    ∧ preserves_OutDx_OutDxIdeal
    ∧ algebraic_OutDxIdeal_RefOutDxIdeal (hOutDxIdeal := hOutDxIdeal) (hRefOutDxIdeal := hRefOutDxIdeal)
    ∧ preserves_OutDw_OutDwIdeal
    ∧ algebraic_OutDwIdeal_RefOutDwIdeal (hOutDwIdeal := hOutDwIdeal) (hRefOutDwIdeal := hRefOutDwIdeal)
    ∧ preserves_GluDx_GluDxIdeal
    ∧ algebraic_GluDxIdeal_RefGluDxIdeal (hGluDxIdeal := hGluDxIdeal) (hRefGluDxIdeal := hRefGluDxIdeal)
    ∧ preserves_GluDw_GluDwIdeal
    ∧ algebraic_GluDwIdeal_RefGluDwIdeal (hGluDwIdeal := hGluDwIdeal) (hRefGluDwIdeal := hRefGluDwIdeal)
    ∧ preserves_InDx_InDxIdeal
    ∧ algebraic_InDxIdeal_RefInDxIdeal (hInDxIdeal := hInDxIdeal) (hRefInDxIdeal := hRefInDxIdeal)
    ∧ preserves_InDw_InDwIdeal
    ∧ algebraic_InDwIdeal_RefInDwIdeal (hInDwIdeal := hInDwIdeal) (hRefInDwIdeal := hRefInDwIdeal)
    ∧ preserves_InFwd_InFwdIdeal
    ∧ algebraic_InFwdIdeal_RefInFwdIdeal (hInFwdIdeal := hInFwdIdeal) (hRefInFwdIdeal := hRefInFwdIdeal)
    ∧ preserves_GluFwd_GluFwdIdeal
    ∧ algebraic_GluFwdIdeal_RefGluFwdIdeal (hGluFwdIdeal := hGluFwdIdeal) (hRefGluFwdIdeal := hRefGluFwdIdeal)
    ∧ preserves_OutFwd_OutFwdIdeal
    ∧ algebraic_OutFwdIdeal_RefOutFwdIdeal (hOutFwdIdeal := hOutFwdIdeal) (hRefOutFwdIdeal := hRefOutFwdIdeal)
    ∧ preserves_UpFwd_UpFwdIdeal
    ∧ algebraic_UpFwdIdeal_RefUpFwdIdeal (hUpFwdIdeal := hUpFwdIdeal) (hRefUpFwdIdeal := hRefUpFwdIdeal)
    ∧ preserves_DownFwd_DownFwdIdeal
    ∧ algebraic_DownFwdIdeal_RefDownFwdIdeal (hDownFwdIdeal := hDownFwdIdeal) (hRefDownFwdIdeal := hRefDownFwdIdeal)
    ∧ preserves_ResBwd_ResBwdIdeal
    ∧ algebraic_ResBwdIdeal_RefResBwdIdeal (hResBwdIdeal := hResBwdIdeal) (hRefResBwdIdeal := hRefResBwdIdeal)
    ∧ preserves_ModBwd_ModBwdIdeal
    ∧ algebraic_ModBwdIdeal_RefModBwdIdeal (hModBwdIdeal := hModBwdIdeal) (hRefModBwdIdeal := hRefModBwdIdeal)
    ∧ preserves_ModResBwd_ModResBwdIdeal
    ∧ algebraic_ModResBwdIdeal_RefModResBwdIdeal (hModResBwdIdeal := hModResBwdIdeal) (hRefModResBwdIdeal := hRefModResBwdIdeal)
    ∧ preserves_MergeBwd_MergeBwdIdeal
    ∧ algebraic_MergeBwdIdeal_RefMergeBwdIdeal (hMergeBwdIdeal := hMergeBwdIdeal) (hRefMergeBwdIdeal := hRefMergeBwdIdeal)
    ∧ preserves_ModFwd_ModFwdIdeal
    ∧ algebraic_ModFwdIdeal_RefModFwdIdeal (hModFwdIdeal := hModFwdIdeal) (hRefModFwdIdeal := hRefModFwdIdeal)
    ∧ preserves_ResModFwd_ResModFwdIdeal
    ∧ algebraic_ResModFwdIdeal_RefResModFwdIdeal (hResModFwdIdeal := hResModFwdIdeal) (hRefResModFwdIdeal := hRefResModFwdIdeal)
    ∧ preserves_ResLoss_ResLossIdeal
    ∧ algebraic_ResLossIdeal_RefResLossIdeal (hResLossIdeal := hResLossIdeal) (hRefResLossIdeal := hRefResLossIdeal)
    ∧ preserves_MergeFwd_MergeFwdIdeal
    ∧ algebraic_MergeFwdIdeal_RefMergeFwdIdeal (hMergeFwdIdeal := hMergeFwdIdeal) (hRefMergeFwdIdeal := hRefMergeFwdIdeal)
    ∧ preserves_AdaFwd_AdaFwdIdeal
    ∧ algebraic_AdaFwdIdeal_RefAdaFwdIdeal (hAdaFwdIdeal := hAdaFwdIdeal) (hRefAdaFwdIdeal := hRefAdaFwdIdeal)
    ∧ preserves_AdaDw_AdaDwIdeal
    ∧ algebraic_AdaDwIdeal_RefAdaDwIdeal (hAdaDwIdeal := hAdaDwIdeal) (hRefAdaDwIdeal := hRefAdaDwIdeal)
    ∧ preserves_GateFwd_GateFwdIdeal
    ∧ algebraic_GateFwdIdeal_RefGateFwdIdeal (hGateFwdIdeal := hGateFwdIdeal) (hRefGateFwdIdeal := hRefGateFwdIdeal)
    ∧ preserves_AdamWIn_AdamWInIdeal
    ∧ algebraic_AdamWInIdeal_RefAdamWInIdeal (hAdamWInIdeal := hAdamWInIdeal) (hRefAdamWInIdeal := hRefAdamWInIdeal)
    ∧ preserves_AdamWGlu_AdamWGluIdeal
    ∧ algebraic_AdamWGluIdeal_RefAdamWGluIdeal (hAdamWGluIdeal := hAdamWGluIdeal) (hRefAdamWGluIdeal := hRefAdamWGluIdeal)
    ∧ preserves_AdamWOut_AdamWOutIdeal
    ∧ algebraic_AdamWOutIdeal_RefAdamWOutIdeal (hAdamWOutIdeal := hAdamWOutIdeal) (hRefAdamWOutIdeal := hRefAdamWOutIdeal)
    ∧ preserves_AdamWUp_AdamWUpIdeal
    ∧ algebraic_AdamWUpIdeal_RefAdamWUpIdeal (hAdamWUpIdeal := hAdamWUpIdeal) (hRefAdamWUpIdeal := hRefAdamWUpIdeal)
    ∧ preserves_AdamWDown_AdamWDownIdeal
    ∧ algebraic_AdamWDownIdeal_RefAdamWDownIdeal (hAdamWDownIdeal := hAdamWDownIdeal) (hRefAdamWDownIdeal := hRefAdamWDownIdeal)
    ∧ preserves_AdamWAda_AdamWAdaIdeal
    ∧ algebraic_AdamWAdaIdeal_RefAdamWAdaIdeal (hAdamWAdaIdeal := hAdamWAdaIdeal) (hRefAdamWAdaIdeal := hRefAdamWAdaIdeal)
    ∧ preserves_SsmParBwd_SsmParBwdIdeal
    ∧ algebraic_SsmParBwdIdeal_RefSsmParBwdIdeal (hSsmParBwdIdeal := hSsmParBwdIdeal) (hRefSsmParBwdIdeal := hRefSsmParBwdIdeal)
    ∧ preserves_SsmParFwd_SsmParFwdIdeal
    ∧ algebraic_SsmParFwdIdeal_RefSsmParFwdIdeal (hSsmParFwdIdeal := hSsmParFwdIdeal) (hRefSsmParFwdIdeal := hRefSsmParFwdIdeal)
    ∧ preserves_AdamSmallA_AdamSmallAIdeal
    ∧ algebraic_AdamSmallAIdeal_RefAdamSmallAIdeal (hAdamSmallAIdeal := hAdamSmallAIdeal) (hRefAdamSmallAIdeal := hRefAdamSmallAIdeal)
    ∧ preserves_AdamSmallB_AdamSmallBIdeal
    ∧ algebraic_AdamSmallBIdeal_RefAdamSmallBIdeal (hAdamSmallBIdeal := hAdamSmallBIdeal) (hRefAdamSmallBIdeal := hRefAdamSmallBIdeal)
    ∧ preserves_AdamSmallC_AdamSmallCIdeal
    ∧ algebraic_AdamSmallCIdeal_RefAdamSmallCIdeal (hAdamSmallCIdeal := hAdamSmallCIdeal) (hRefAdamSmallCIdeal := hRefAdamSmallCIdeal)
    ∧ preserves_AdamSmallD_AdamSmallDIdeal
    ∧ algebraic_AdamSmallDIdeal_RefAdamSmallDIdeal (hAdamSmallDIdeal := hAdamSmallDIdeal) (hRefAdamSmallDIdeal := hRefAdamSmallDIdeal)
    ∧ preserves_AdamSmallE_AdamSmallEIdeal
    ∧ algebraic_AdamSmallEIdeal_RefAdamSmallEIdeal (hAdamSmallEIdeal := hAdamSmallEIdeal) (hRefAdamSmallEIdeal := hRefAdamSmallEIdeal)
    ∧ preserves_AdamSmallF_AdamSmallFIdeal
    ∧ algebraic_AdamSmallFIdeal_RefAdamSmallFIdeal (hAdamSmallFIdeal := hAdamSmallFIdeal) (hRefAdamSmallFIdeal := hRefAdamSmallFIdeal)
-- ==== Pre_all_finite.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩

class Facts : Prop where
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  main_v18

def fn {F : FTy → Type} [FloatOps F] (main_arg0 : FVec F S4096x11264 .f32) (main_arg1 : FVec F S3x11264 .f32) (main_arg2 : FVec F S11264 .f32) (main_arg3 : FVec F S4096x5632 .f32) : IVec S_ 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_c : IVec S_ 1 := constantI S_ 1 1#1
  let main_v3 : IVec S_ 1 := (fun x v => Host.reduce IntOp.andi x v reducesTo_S4096x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S11264 .f32 := Host.absf main_arg2
  let main_cst_2 : FVec F S_ .f32 := constant S_ .f32 0x7F800000#32
  let main_v10 : FVec F S11264 .f32 := broadcastInDim S11264 ![] bcast_S_S11264 main_cst_2
  let main_v11 : IVec S11264 1 := cmpf .olt main_v9 main_v10
  let main_c_3 : IVec S_ 1 := constantI S_ 1 1#1
  let main_v12 : IVec S_ 1 := (fun x v => Host.reduce IntOp.andi x v reducesTo_S11264_S_d0 h_S_) main_v11 main_c_3
  let main_v13 : IVec S_ 1 := andi main_v8 main_v12
  let main_v14 : FVec F S4096x5632 .f32 := Host.absf main_arg3
  let main_cst_4 : FVec F S_ .f32 := constant S_ .f32 0x7F800000#32
  let main_v15 : FVec F S4096x5632 .f32 := broadcastInDim S4096x5632 ![] bcast_S_S4096x5632 main_cst_4
  let main_v16 : IVec S4096x5632 1 := cmpf .olt main_v14 main_v15
  fn_part1 (F := F) main_v13 main_v16
-- ==== Kernel.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S1x11264 : Shape := ⟨2, ![1, 11264]⟩
abbrev S2x4096x5632 : Shape := ⟨3, ![2, 4096, 5632]⟩
abbrev S2x1x5632 : Shape := ⟨3, ![2, 1, 5632]⟩
abbrev S2x3x5632 : Shape := ⟨3, ![2, 3, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S2x512x512 : Shape := ⟨3, ![2, 512, 512]⟩
abbrev S2x1x512 : Shape := ⟨3, ![2, 1, 512]⟩
abbrev S2x3x512 : Shape := ⟨3, ![2, 3, 512]⟩
abbrev S2x8x512 : Shape := ⟨3, ![2, 8, 512]⟩
abbrev S1x8x512 : Shape := ⟨3, ![1, 8, 512]⟩
abbrev S1x512x512 : Shape := ⟨3, ![1, 512, 512]⟩
abbrev S1x1x512 : Shape := ⟨3, ![1, 1, 512]⟩
abbrev S512 : Shape := ⟨1, ![512]⟩

abbrev nBuf : Space → Nat
  | .hbm => 8
  | .vmem => 25
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S4096x5632, .f32⟩
  | .hbm, ⟨4, _⟩ => ⟨S1x11264, .f32⟩
  | .hbm, ⟨5, _⟩ => ⟨S2x4096x5632, .bf16⟩
  | .hbm, ⟨6, _⟩ => ⟨S2x1x5632, .f32⟩
  | .hbm, ⟨7, _⟩ => ⟨S2x3x5632, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .f32⟩
  | .local _ .vmem, ⟨17, _⟩ => ⟨S512x512, .f32⟩
  | .local _ .vmem, ⟨18, _⟩ => ⟨S2x512x512, .bf16⟩
  | .local _ .vmem, ⟨19, _⟩ => ⟨S2x512x512, .bf16⟩
  | .local _ .vmem, ⟨20, _⟩ => ⟨S2x1x512, .f32⟩
  | .local _ .vmem, ⟨21, _⟩ => ⟨S2x1x512, .f32⟩
  | .local _ .vmem, ⟨22, _⟩ => ⟨S2x3x512, .f32⟩
  | .local _ .vmem, ⟨23, _⟩ => ⟨S2x3x512, .f32⟩
  | .local _ .vmem, ⟨24, _⟩ => ⟨S2x8x512, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c7_i32_0 : BitVec 32 := 7#32
  let v1 : BitVec 32 := Scalar.subi c7_i32_0 arg1
  let c0_i32 : BitVec 32 := 0#32
  let v2 : BitVec 32 := Scalar.addi arg0 c0_i32
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c7_i32_0 : BitVec 32 := 7#32
  let v1 : BitVec 32 := Scalar.subi c7_i32_0 arg1
  let c11_i32 : BitVec 32 := 11#32
  let v2 : BitVec 32 := Scalar.addi arg0 c11_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c7_i32_0 : BitVec 32 := 7#32
  let v4 : BitVec 32 := Scalar.subi c7_i32_0 arg1
  let c0_i32_1 : BitVec 32 := 0#32
  let v5 : BitVec 32 := Scalar.addi arg0 c0_i32_1
  let c0_i32_2 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c7_i32_0 : BitVec 32 := 7#32
  let v4 : BitVec 32 := Scalar.subi c7_i32_0 arg1
  let c11_i32 : BitVec 32 := 11#32
  let v5 : BitVec 32 := Scalar.addi arg0 c11_i32
  let c0_i32_1 : BitVec 32 := 0#32
  ![v3.toNat, v5.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi arg0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c11_i32 : BitVec 32 := 11#32
  let v1 : BitVec 32 := Scalar.addi arg0 c11_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi arg0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c11_i32 : BitVec 32 := 11#32
  let v1 : BitVec 32 := Scalar.addi arg0 c11_i32
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "gelu_3ac" => some ((241015141496493 / 2251799813685248 : ℝ) : EReal)
  | _ => none
-- ==== ReferenceIdeal.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S1x4096x11264 : Shape := ⟨3, ![1, 4096, 11264]⟩
abbrev S1x2x11264 : Shape := ⟨3, ![1, 2, 11264]⟩
abbrev S_ : Shape := ⟨0, ![]⟩
abbrev S1x4098x11264 : Shape := ⟨3, ![1, 4098, 11264]⟩
abbrev S1x11264 : Shape := ⟨2, ![1, 11264]⟩
abbrev S1x1x11264 : Shape := ⟨3, ![1, 1, 11264]⟩
abbrev S1x4096x5632 : Shape := ⟨3, ![1, 4096, 5632]⟩
abbrev S4096x2x5632 : Shape := ⟨3, ![4096, 2, 5632]⟩
abbrev S2x4096x5632 : Shape := ⟨3, ![2, 4096, 5632]⟩
abbrev S1x2x5632 : Shape := ⟨3, ![1, 2, 5632]⟩
abbrev S2x1x5632 : Shape := ⟨3, ![2, 1, 5632]⟩
abbrev S3x2x5632 : Shape := ⟨3, ![3, 2, 5632]⟩
abbrev S2x3x5632 : Shape := ⟨3, ![2, 3, 5632]⟩

abbrev nBuf : Space → Nat
  | .hbm => 145
  | .vmem => 0
  | .smem => 0
  | _ => 0

abbrev hbmTy0_0 (i : Nat) : BufTy := match i % 128 with
  | 0 => ⟨S4096x11264, .f32⟩
  | 1 => ⟨S3x11264, .f32⟩
  | 2 => ⟨S11264, .f32⟩
  | 3 => ⟨S4096x5632, .f32⟩
  | 4 => ⟨S1x4096x11264, .f32⟩
  | 5 => ⟨S1x2x11264, .f32⟩
  | 6 => ⟨S_, .f32⟩
  | 7 => ⟨S1x2x11264, .f32⟩
  | 8 => ⟨S1x4098x11264, .f32⟩
  | 9 => ⟨S_, .f32⟩
  | 10 => ⟨S1x2x11264, .f32⟩
  | 11 => ⟨S1x4096x11264, .f32⟩
  | 12 => ⟨S1x11264, .f32⟩
  | 13 => ⟨S11264, .f32⟩
  | 14 => ⟨S1x1x11264, .f32⟩
  | 15 => ⟨S1x4096x11264, .f32⟩
  | 16 => ⟨S1x4096x11264, .f32⟩
  | 17 => ⟨S1x1x11264, .f32⟩
  | 18 => ⟨S1x4096x11264, .f32⟩
  | 19 => ⟨S1x4096x11264, .f32⟩
  | 20 => ⟨S1x4096x11264, .f32⟩
  | 21 => ⟨S1x11264, .f32⟩
  | 22 => ⟨S11264, .f32⟩
  | 23 => ⟨S1x1x11264, .f32⟩
  | 24 => ⟨S1x4096x11264, .f32⟩
  | 25 => ⟨S1x4096x11264, .f32⟩
  | 26 => ⟨S1x4096x11264, .f32⟩
  | 27 => ⟨S1x4096x11264, .f32⟩
  | 28 => ⟨S1x11264, .f32⟩
  | 29 => ⟨S11264, .f32⟩
  | 30 => ⟨S1x1x11264, .f32⟩
  | 31 => ⟨S1x4096x11264, .f32⟩
  | 32 => ⟨S1x4096x11264, .f32⟩
  | 33 => ⟨S1x4096x11264, .f32⟩
  | 34 => ⟨S1x4096x5632, .f32⟩
  | 35 => ⟨S1x4096x5632, .f32⟩
  | 36 => ⟨S1x4096x5632, .f32⟩
  | 37 => ⟨S1x4096x5632, .f32⟩
  | 38 => ⟨S1x4096x5632, .f32⟩
  | 39 => ⟨S_, .f32⟩
  | 40 => ⟨S1x4096x5632, .f32⟩
  | 41 => ⟨S1x4096x5632, .f32⟩
  | 42 => ⟨S_, .f32⟩
  | 43 => ⟨S1x4096x5632, .f32⟩
  | 44 => ⟨S1x4096x5632, .f32⟩
  | 45 => ⟨S1x4096x5632, .f32⟩
  | 46 => ⟨S_, .f32⟩
  | 47 => ⟨S1x4096x5632, .f32⟩
  | 48 => ⟨S1x4096x5632, .f32⟩
  | 49 => ⟨S1x4096x5632, .f32⟩
  | 50 => ⟨S_, .f32⟩
  | 51 => ⟨S1x4096x5632, .f32⟩
  | 52 => ⟨S1x4096x5632, .f32⟩
  | 53 => ⟨S_, .f32⟩
  | 54 => ⟨S1x4096x5632, .f32⟩
  | 55 => ⟨S1x4096x5632, .f32⟩
  | 56 => ⟨S1x4096x5632, .f32⟩
  | 57 => ⟨S_, .f32⟩
  | 58 => ⟨S1x4096x5632, .f32⟩
  | 59 => ⟨S1x4096x5632, .f32⟩
  | 60 => ⟨S_, .f32⟩
  | 61 => ⟨S1x4096x5632, .f32⟩
  | 62 => ⟨S1x4096x5632, .f32⟩
  | 63 => ⟨S1x4096x5632, .f32⟩
  | 64 => ⟨S1x4096x5632, .f32⟩
  | 65 => ⟨S1x4096x5632, .f32⟩
  | 66 => ⟨S1x4096x5632, .f32⟩
  | 67 => ⟨S1x4096x5632, .f32⟩
  | 68 => ⟨S1x4096x5632, .f32⟩
  | 69 => ⟨S1x4096x5632, .f32⟩
  | 70 => ⟨S_, .f32⟩
  | 71 => ⟨S1x4096x5632, .f32⟩
  | 72 => ⟨S1x4096x5632, .f32⟩
  | 73 => ⟨S1x4096x5632, .f32⟩
  | 74 => ⟨S_, .f32⟩
  | 75 => ⟨S1x4096x5632, .f32⟩
  | 76 => ⟨S1x4096x5632, .f32⟩
  | 77 => ⟨S1x4096x5632, .f32⟩
  | 78 => ⟨S_, .f32⟩
  | 79 => ⟨S1x4096x5632, .f32⟩
  | 80 => ⟨S1x4096x5632, .f32⟩
  | 81 => ⟨S1x4096x5632, .f32⟩
  | 82 => ⟨S1x4096x5632, .f32⟩
  | 83 => ⟨S_, .f32⟩
  | 84 => ⟨S1x4096x11264, .f32⟩
  | 85 => ⟨S_, .f32⟩
  | 86 => ⟨S1x4096x11264, .f32⟩
  | 87 => ⟨S1x4096x11264, .f32⟩
  | 88 => ⟨S1x4096x11264, .f32⟩
  | 89 => ⟨S_, .f32⟩
  | 90 => ⟨S1x11264, .f32⟩
  | 91 => ⟨S1x1x11264, .f32⟩
  | 92 => ⟨S1x4096x11264, .f32⟩
  | 93 => ⟨S1x4096x11264, .f32⟩
  | 94 => ⟨S_, .f32⟩
  | 95 => ⟨S11264, .f32⟩
  | 96 => ⟨S1x11264, .f32⟩
  | 97 => ⟨S_, .f32⟩
  | 98 => ⟨S3x11264, .f32⟩
  | 99 => ⟨S_, .f32⟩
  | 100 => ⟨S1x4098x11264, .f32⟩
  | 101 => ⟨S1x4096x11264, .f32⟩
  | 102 => ⟨S_, .f32⟩
  | 103 => ⟨S1x11264, .f32⟩
  | 104 => ⟨S1x1x11264, .f32⟩
  | 105 => ⟨S1x4096x11264, .f32⟩
  | 106 => ⟨S1x4096x11264, .f32⟩
  | 107 => ⟨S_, .f32⟩
  | 108 => ⟨S11264, .f32⟩
  | 109 => ⟨S1x11264, .f32⟩
  | 110 => ⟨S_, .f32⟩
  | 111 => ⟨S3x11264, .f32⟩
  | 112 => ⟨S3x11264, .f32⟩
  | 113 => ⟨S_, .f32⟩
  | 114 => ⟨S1x4098x11264, .f32⟩
  | 115 => ⟨S1x4098x11264, .f32⟩
  | 116 => ⟨S_, .f32⟩
  | 117 => ⟨S1x11264, .f32⟩
  | 118 => ⟨S1x1x11264, .f32⟩
  | 119 => ⟨S_, .f32⟩
  | 120 => ⟨S11264, .f32⟩
  | 121 => ⟨S1x4096x11264, .f32⟩
  | 122 => ⟨S_, .f32⟩
  | 123 => ⟨S1x11264, .f32⟩
  | 124 => ⟨S1x1x11264, .f32⟩
  | 125 => ⟨S1x4096x11264, .f32⟩
  | 126 => ⟨S1x4096x11264, .f32⟩
  | 127 => ⟨S_, .f32⟩
  | _ => ⟨S4096x11264, .f32⟩

abbrev hbmTy0_1 (i : Nat) : BufTy := match i % 128 with
  | 0 => ⟨S11264, .f32⟩
  | 1 => ⟨S1x11264, .f32⟩
  | 2 => ⟨S_, .f32⟩
  | 3 => ⟨S3x11264, .f32⟩
  | 4 => ⟨S3x11264, .f32⟩
  | 5 => ⟨S_, .f32⟩
  | 6 => ⟨S1x4098x11264, .f32⟩
  | 7 => ⟨S1x4098x11264, .f32⟩
  | 8 => ⟨S1x2x11264, .f32⟩
  | 9 => ⟨S1x4096x11264, .f32⟩
  | 10 => ⟨S4096x2x5632, .f32⟩
  | 11 => ⟨S2x4096x5632, .f32⟩
  | 12 => ⟨S2x4096x5632, .bf16⟩
  | 13 => ⟨S1x2x5632, .f32⟩
  | 14 => ⟨S2x1x5632, .f32⟩
  | 15 => ⟨S3x2x5632, .f32⟩
  | 16 => ⟨S2x3x5632, .f32⟩
  | _ => ⟨S4096x11264, .f32⟩

abbrev hbmTy (i : Nat) : BufTy := match i / 128 with
  | 0 => hbmTy0_0 i
  | 1 => hbmTy0_1 i
  | _ => ⟨S4096x11264, .f32⟩

abbrev bufTy : (tb : Table) → Fin (tcTables nBuf tb) → BufTy
  | .hbm, ⟨i, _⟩ => hbmTy i
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_cst_16 : Ref sig .tc := ⟨.hbm, 99, rfl⟩
abbrev main_v78 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_18 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_cst_20 : Ref sig .tc := ⟨.hbm, 113, rfl⟩
abbrev main_v88 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_cst_22 : Ref sig .tc := ⟨.hbm, 119, rfl⟩
abbrev main_v92 : Ref sig .tc := ⟨.hbm, 120, rfl⟩
abbrev main_v93 : Ref sig .tc := ⟨.hbm, 121, rfl⟩
abbrev main_cst_23 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_24 : Ref sig .tc := ⟨.hbm, 127, rfl⟩
abbrev main_v98 : Ref sig .tc := ⟨.hbm, 128, rfl⟩
abbrev main_v99 : Ref sig .tc := ⟨.hbm, 129, rfl⟩
abbrev main_cst_25 : Ref sig .tc := ⟨.hbm, 130, rfl⟩
abbrev main_v100 : Ref sig .tc := ⟨.hbm, 131, rfl⟩
abbrev main_v101 : Ref sig .tc := ⟨.hbm, 132, rfl⟩
abbrev main_cst_26 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDxIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDwIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | .hbm, ⟨10, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDx.lean ====
abbrev S2x4096x5632 : Shape := ⟨3, ![2, 4096, 5632]⟩
abbrev S2048x11264 : Shape := ⟨2, ![2048, 11264]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDxIdeal.lean ====
abbrev S2x4096x5632 : Shape := ⟨3, ![2, 4096, 5632]⟩
abbrev S2048x11264 : Shape := ⟨2, ![2048, 11264]⟩
abbrev S_ : Shape := ⟨0, ![]⟩
abbrev S4096x2048 : Shape := ⟨2, ![4096, 2048]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S1x4096x5632, .bf16⟩
  | .hbm, ⟨5, _⟩ => ⟨S4096x5632, .bf16⟩
  | .hbm, ⟨6, _⟩ => ⟨S1x4096x5632, .bf16⟩
  | .hbm, ⟨7, _⟩ => ⟨S4096x5632, .bf16⟩
  | .hbm, ⟨8, _⟩ => ⟨S4096x11264, .bf16⟩
  | .hbm, ⟨9, _⟩ => ⟨S2048x11264, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== UpDw.lean ====
abbrev S4096x2048 : Shape := ⟨2, ![4096, 2048]⟩
abbrev S2x4096x5632 : Shape := ⟨3, ![2, 4096, 5632]⟩
abbrev S2048x11264 : Shape := ⟨2, ![2048, 11264]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDwIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S1x4096x5632, .bf16⟩
  | .hbm, ⟨5, _⟩ => ⟨S4096x5632, .bf16⟩
  | .hbm, ⟨6, _⟩ => ⟨S1x4096x5632, .bf16⟩
  | .hbm, ⟨7, _⟩ => ⟨S4096x5632, .bf16⟩
  | .hbm, ⟨8, _⟩ => ⟨S4096x11264, .bf16⟩
  | .hbm, ⟨9, _⟩ => ⟨S4096x2048, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S4096x2048, .f32⟩
  | .hbm, ⟨15, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDxIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDwIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GluDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGluDxIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefGluDwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDx.lean ====
abbrev S4096x2304 : Shape := ⟨2, ![4096, 2304]⟩
abbrev S2048x2304 : Shape := ⟨2, ![2048, 2304]⟩
abbrev S4096x2048 : Shape := ⟨2, ![4096, 2048]⟩
abbrev S1024x2304 : Shape := ⟨2, ![1024, 2304]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2304, .bf16⟩
  | .hbm, ⟨1, _⟩ => ⟨S2048x2304, .bf16⟩
  | .hbm, ⟨2, _⟩ => ⟨S4096x2048, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDxIdeal.lean ====
abbrev S4096x2304 : Shape := ⟨2, ![4096, 2304]⟩
abbrev S2048x2304 : Shape := ⟨2, ![2048, 2304]⟩
abbrev S_ : Shape := ⟨0, ![]⟩
abbrev S4096x2048 : Shape := ⟨2, ![4096, 2048]⟩
abbrev S2304x2048 : Shape := ⟨2, ![2304, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S2048x2304, .bf16⟩
  | .hbm, ⟨2, _⟩ => ⟨S_, .f32⟩
  | .hbm, ⟨3, _⟩ => ⟨S4096x2048, .f32⟩
  | .hbm, ⟨4, _⟩ => ⟨S2048x2304, .f32⟩
  | .hbm, ⟨5, _⟩ => ⟨S4096x2304, .f32⟩
  | .hbm, ⟨6, _⟩ => ⟨S4096x2304, .f32⟩
  | .hbm, ⟨7, _⟩ => ⟨S2304x2048, .f32⟩
  | .hbm, ⟨8, _⟩ => ⟨S2048x2304, .f32⟩
  | .hbm, ⟨9, _⟩ => ⟨S4096x2048, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x2048 : Shape := ⟨2, ![4096, 2048]⟩
abbrev S4096x2304 : Shape := ⟨2, ![4096, 2304]⟩
abbrev S2048x2304 : Shape := ⟨2, ![2048, 2304]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2304, .bf16⟩
  | .hbm, ⟨2, _⟩ => ⟨S2048x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDwIdeal.lean ====
abbrev S4096x2048 : Shape := ⟨2, ![4096, 2048]⟩
abbrev S4096x2304 : Shape := ⟨2, ![4096, 2304]⟩
abbrev S_ : Shape := ⟨0, ![]⟩
abbrev S2048x2304 : Shape := ⟨2, ![2048, 2304]⟩
abbrev S2304x2048 : Shape := ⟨2, ![2304, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2304, .bf16⟩
  | .hbm, ⟨2, _⟩ => ⟨S_, .f32⟩
  | .hbm, ⟨3, _⟩ => ⟨S2048x2304, .f32⟩
  | .hbm, ⟨4, _⟩ => ⟨S4096x2048, .f32⟩
  | .hbm, ⟨5, _⟩ => ⟨S4096x2304, .f32⟩
  | .hbm, ⟨6, _⟩ => ⟨S4096x2304, .f32⟩
  | .hbm, ⟨7, _⟩ => ⟨S2304x2048, .f32⟩
  | .hbm, ⟨8, _⟩ => ⟨S2048x2304, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFwd.lean ====
abbrev S4096x2048 : Shape := ⟨2, ![4096, 2048]⟩
abbrev S2048x2304 : Shape := ⟨2, ![2048, 2304]⟩
abbrev S4096x2304 : Shape := ⟨2, ![4096, 2304]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2304, .bf16⟩
  | .hbm, ⟨2, _⟩ => ⟨S4096x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdIdeal.lean ====
abbrev S4096x2048 : Shape := ⟨2, ![4096, 2048]⟩
abbrev S2048x2304 : Shape := ⟨2, ![2048, 2304]⟩
abbrev S4096x2304 : Shape := ⟨2, ![4096, 2304]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2304, .bf16⟩
  | .hbm, ⟨2, _⟩ => ⟨S4096x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInFwdIdeal.lean ====
abbrev S4096x2048 : Shape := ⟨2, ![4096, 2048]⟩
abbrev S2048x2304 : Shape := ⟨2, ![2048, 2304]⟩
abbrev S4096x2304 : Shape := ⟨2, ![4096, 2304]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2304, .bf16⟩
  | .hbm, ⟨2, _⟩ => ⟨S4096x2048, .f32⟩
  | .hbm, ⟨3, _⟩ => ⟨S2048x2304, .f32⟩
  | .hbm, ⟨4, _⟩ => ⟨S4096x2304, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluFwd.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluFwdIdeal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGluFwdIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdIdeal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutFwdIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpFwd.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdIdeal.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpFwdIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownFwd.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdIdeal.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownFwdIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ResBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefResBwdIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S4096x2048, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x2048, .f32⟩
  | .hbm, ⟨48, _⟩ => ⟨S4096x2048, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | .hbm, ⟨61, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== ModBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefModBwdIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== ModResBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S4096x2048, .bf16⟩
  | .hbm, ⟨15, _⟩ => ⟨S1x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | .local _ .vmem, ⟨20, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefModResBwdIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 132
  | .vmem => 0
  | .smem => 0
  | _ => 0

abbrev hbmTy0_0 (i : Nat) : BufTy := match i % 128 with
  | 0 => ⟨S4096x2048, .f32⟩
  | 1 => ⟨S4096x2048, .f32⟩
  | 2 => ⟨S2048, .f32⟩
  | 3 => ⟨S1x2048, .f32⟩
  | 4 => ⟨S4096x2048, .f32⟩
  | 5 => ⟨S4096x2048, .f32⟩
  | 6 => ⟨S2048, .f32⟩
  | 7 => ⟨S1x2048, .f32⟩
  | 8 => ⟨S_, .f32⟩
  | 9 => ⟨S1x2048, .f32⟩
  | 10 => ⟨S4096x2048, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x2048, .f32⟩
  | 26 => ⟨S4096x2048, .f32⟩
  | 27 => ⟨S1x2048, .f32⟩
  | 28 => ⟨S4096x2048, .f32⟩
  | 29 => ⟨S4096x2048, .f32⟩
  | 30 => ⟨S_, .f32⟩
  | 31 => ⟨S1x2048, .f32⟩
  | 32 => ⟨S1x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S_, .f32⟩
  | 39 => ⟨S2048, .f32⟩
  | 40 => ⟨S1x2048, .f32⟩
  | 41 => ⟨S4096x2048, .f32⟩
  | 42 => ⟨S_, .f32⟩
  | 43 => ⟨S2048, .f32⟩
  | 44 => ⟨S1x2048, .f32⟩
  | 45 => ⟨S4096x2048, .f32⟩
  | 46 => ⟨S4096x2048, .f32⟩
  | 47 => ⟨S4096x2048, .f32⟩
  | 48 => ⟨S_, .f32⟩
  | 49 => ⟨S2048, .f32⟩
  | 50 => ⟨S1x2048, .f32⟩
  | 51 => ⟨S4096x2048, .f32⟩
  | 52 => ⟨S4096x2048, .f32⟩
  | 53 => ⟨S_, .f32⟩
  | 54 => ⟨S2048, .f32⟩
  | 55 => ⟨S4096x2048, .f32⟩
  | 56 => ⟨S_, .f32⟩
  | 57 => ⟨S4096, .f32⟩
  | 58 => ⟨S4096x1, .f32⟩
  | 59 => ⟨S4096x2048, .f32⟩
  | 60 => ⟨S4096x2048, .f32⟩
  | 61 => ⟨S4096x2048, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096, .f32⟩
  | 68 => ⟨S4096x2048, .f32⟩
  | 69 => ⟨S4096x2048, .f32⟩
  | 70 => ⟨S4096x2048, .f32⟩
  | 71 => ⟨S4096x2048, .f32⟩
  | 72 => ⟨S4096x2048, .f32⟩
  | 73 => ⟨S_, .f32⟩
  | 74 => ⟨S1x2048, .f32⟩
  | 75 => ⟨S1x2048, .f32⟩
  | 76 => ⟨S4096x2048, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x2048, .f32⟩
  | 92 => ⟨S4096x2048, .f32⟩
  | 93 => ⟨S1x2048, .f32⟩
  | 94 => ⟨S4096x2048, .f32⟩
  | 95 => ⟨S4096x2048, .f32⟩
  | 96 => ⟨S4096x2048, .f32⟩
  | 97 => ⟨S4096x2048, .f32⟩
  | 98 => ⟨S4096x2048, .f32⟩
  | 99 => ⟨S4096x2048, .f32⟩
  | 100 => ⟨S4096x2048, .f32⟩
  | 101 => ⟨S_, .f32⟩
  | 102 => ⟨S2048, .f32⟩
  | 103 => ⟨S1x2048, .f32⟩
  | 104 => ⟨S4096x2048, .f32⟩
  | 105 => ⟨S_, .f32⟩
  | 106 => ⟨S2048, .f32⟩
  | 107 => ⟨S1x2048, .f32⟩
  | 108 => ⟨S4096x2048, .f32⟩
  | 109 => ⟨S4096x2048, .f32⟩
  | 110 => ⟨S_, .f32⟩
  | 111 => ⟨S2048, .f32⟩
  | 112 => ⟨S4096x2048, .f32⟩
  | 113 => ⟨S_, .f32⟩
  | 114 => ⟨S4096, .f32⟩
  | 115 => ⟨S4096x1, .f32⟩
  | 116 => ⟨S4096x2048, .f32⟩
  | 117 => ⟨S4096x2048, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x2048, .f32⟩
  | 125 => ⟨S4096x2048, .f32⟩
  | 126 => ⟨S4096x2048, .f32⟩
  | 127 => ⟨S4096x2048, .f32⟩
  | _ => ⟨S4096x2048, .f32⟩

abbrev hbmTy0_1 (i : Nat) : BufTy := match i % 128 with
  | 0 => ⟨S4096x2048, .f32⟩
  | 1 => ⟨S1x2048, .f32⟩
  | 2 => ⟨S4096x2048, .bf16⟩
  | 3 => ⟨S1x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_17 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_19 : Ref sig .tc := ⟨.hbm, 110, rfl⟩
abbrev main_v82 : Ref sig .tc := ⟨.hbm, 111, rfl⟩
abbrev main_v83 : Ref sig .tc := ⟨.hbm, 112, rfl⟩
abbrev main_cst_20 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_21 : Ref sig .tc := ⟨.hbm, 119, rfl⟩
abbrev main_v89 : Ref sig .tc := ⟨.hbm, 120, rfl⟩
abbrev main_v90 : Ref sig .tc := ⟨.hbm, 121, rfl⟩
abbrev main_cst_22 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]
-- ==== MergeBwd.lean ====
abbrev S4096x2048 : Shape := ⟨2, ![4096, 2048]⟩
abbrev S4096x1024 : Shape := ⟨2, ![4096, 1024]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S1x1024, .f32⟩
  | .hbm, ⟨12, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RefMergeBwdIdeal.lean ====
abbrev S4096x2048 : Shape := ⟨2, ![4096, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 135
  | .vmem => 0
  | .smem => 0
  | _ => 0

abbrev hbmTy0_0 (i : Nat) : BufTy := match i % 128 with
  | 0 => ⟨S4096x2048, .f32⟩
  | 1 => ⟨S4096x1024, .f32⟩
  | 2 => ⟨S4096x1024, .f32⟩
  | 3 => ⟨S4096x1024, .f32⟩
  | 4 => ⟨S1024, .f32⟩
  | 5 => ⟨S1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S1x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S4096x2048, .f32⟩
  | 77 => ⟨S4096x1024, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S4096x1024, .f32⟩
  | 84 => ⟨S4096x1024, .f32⟩
  | 85 => ⟨S_, .f32⟩
  | 86 => ⟨S1024, .f32⟩
  | 87 => ⟨S4096x1024, .f32⟩
  | 88 => ⟨S_, .f32⟩
  | 89 => ⟨S4096, .f32⟩
  | 90 => ⟨S4096x1, .f32⟩
  | 91 => ⟨S4096x1024, .f32⟩
  | 92 => ⟨S4096x1024, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S4096x1024, .f32⟩
  | 113 => ⟨S_, .f32⟩
  | 114 => ⟨S4096, .f32⟩
  | 115 => ⟨S4096x1, .f32⟩
  | 116 => ⟨S4096x1024, .f32⟩
  | 117 => ⟨S4096x1024, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x1024, .f32⟩
  | 125 => ⟨S4096x1024, .f32⟩
  | 126 => ⟨S4096x1024, .f32⟩
  | 127 => ⟨S4096x1024, .f32⟩
  | _ => ⟨S4096x2048, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .bf16⟩
  | 5 => ⟨S1x1024, .f32⟩
  | 6 => ⟨S1x1024, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_20 : Ref sig .tc := ⟨.hbm, 110, rfl⟩
abbrev main_v83 : Ref sig .tc := ⟨.hbm, 111, rfl⟩
abbrev main_v84 : Ref sig .tc := ⟨.hbm, 112, rfl⟩
abbrev main_cst_21 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_22 : Ref sig .tc := ⟨.hbm, 119, rfl⟩
abbrev main_v90 : Ref sig .tc := ⟨.hbm, 120, rfl⟩
abbrev main_v91 : Ref sig .tc := ⟨.hbm, 121, rfl⟩
abbrev main_cst_23 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩

abbrev nD : Nat := 1
abbrev τ : Topo := Topo.v7x

variable {F : FTy → Type} [FloatOps F]
-- ==== ModFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefModFwdIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== ResModFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefResModFwdIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S1x2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== ResLoss.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x2048 : Shape := ⟨3, ![1, 512, 2048]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefResLossIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== MergeFwd.lean ====
abbrev S4096x1024 : Shape := ⟨2, ![4096, 1024]⟩
abbrev S1024 : Shape := ⟨1, ![1024]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefMergeFwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x2048, .f32⟩
  | .hbm, ⟨64, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== AdaFwd.lean ====
abbrev S16x2048 : Shape := ⟨2, ![16, 2048]⟩
abbrev S2x2048x1536 : Shape := ⟨3, ![2, 2048, 1536]⟩
abbrev S2x1x1536 : Shape := ⟨3, ![2, 1, 1536]⟩
abbrev S2x16x1536 : Shape := ⟨3, ![2, 16, 1536]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x512 : Shape := ⟨2, ![16, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2x2048x1536, .f32⟩
  | .hbm, ⟨2, _⟩ => ⟨S2x1x1536, .f32⟩
  | .hbm, ⟨3, _⟩ => ⟨S2x16x1536, .f32⟩
  | .hbm, ⟨4, _⟩ => ⟨S16x2048, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== RefAdaFwdIdeal.lean ====
abbrev S16x2048 : Shape := ⟨2, ![16, 2048]⟩
abbrev S2x2048x1536 : Shape := ⟨3, ![2, 2048, 1536]⟩
abbrev S2x1x1536 : Shape := ⟨3, ![2, 1, 1536]⟩
abbrev S_ : Shape := ⟨0, ![]⟩
abbrev S1x2048x1536 : Shape := ⟨3, ![1, 2048, 1536]⟩
abbrev S2048x1536 : Shape := ⟨2, ![2048, 1536]⟩
abbrev S16x1536 : Shape := ⟨2, ![16, 1536]⟩
abbrev S1x1x1536 : Shape := ⟨3, ![1, 1, 1536]⟩
abbrev S1x1536 : Shape := ⟨2, ![1, 1536]⟩
abbrev S1x16x1536 : Shape := ⟨3, ![1, 16, 1536]⟩
abbrev S2x16x1536 : Shape := ⟨3, ![2, 16, 1536]⟩

abbrev nBuf : Space → Nat
  | .hbm => 29
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x1536, .f32⟩
  | .hbm, ⟨2, _⟩ => ⟨S2x1x1536, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x1536, .f32⟩
  | .hbm, ⟨13, _⟩ => ⟨S2048x1536, .f32⟩
  | .hbm, ⟨14, _⟩ => ⟨S16x1536, .f32⟩
  | .hbm, ⟨15, _⟩ => ⟨S1x1x1536, .f32⟩
  | .hbm, ⟨16, _⟩ => ⟨S1x1536, .f32⟩
  | .hbm, ⟨17, _⟩ => ⟨S16x1536, .f32⟩
  | .hbm, ⟨18, _⟩ => ⟨S16x1536, .f32⟩
  | .hbm, ⟨19, _⟩ => ⟨S1x2048x1536, .f32⟩
  | .hbm, ⟨20, _⟩ => ⟨S2048x1536, .f32⟩
  | .hbm, ⟨21, _⟩ => ⟨S16x1536, .f32⟩
  | .hbm, ⟨22, _⟩ => ⟨S1x1x1536, .f32⟩
  | .hbm, ⟨23, _⟩ => ⟨S1x1536, .f32⟩
  | .hbm, ⟨24, _⟩ => ⟨S16x1536, .f32⟩
  | .hbm, ⟨25, _⟩ => ⟨S16x1536, .f32⟩
  | .hbm, ⟨26, _⟩ => ⟨S1x16x1536, .f32⟩
  | .hbm, ⟨27, _⟩ => ⟨S1x16x1536, .f32⟩
  | .hbm, ⟨28, _⟩ => ⟨S2x16x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== AdaDw.lean ====
abbrev S2048x128 : Shape := ⟨2, ![2048, 128]⟩
abbrev S2x128x1536 : Shape := ⟨3, ![2, 128, 1536]⟩
abbrev S2x2048x1536 : Shape := ⟨3, ![2, 2048, 1536]⟩
abbrev S512x128 : Shape := ⟨2, ![512, 128]⟩
abbrev S1x128x1536 : Shape := ⟨3, ![1, 128, 1536]⟩
abbrev S1x512x1536 : Shape := ⟨3, ![1, 512, 1536]⟩
abbrev S128x1536 : Shape := ⟨2, ![128, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S2x128x1536, .f32⟩
  | .hbm, ⟨2, _⟩ => ⟨S2x2048x1536, .f32⟩
  | .local _ .vmem, ⟨0, _⟩ => ⟨S512x128, .f32⟩
  | .local _ .vmem, ⟨1, _⟩ => ⟨S512x128, .f32⟩
  | .local _ .vmem, ⟨2, _⟩ => ⟨S1x128x1536, .f32⟩
  | .local _ .vmem, ⟨3, _⟩ => ⟨S1x128x1536, .f32⟩
  | .local _ .vmem, ⟨4, _⟩ => ⟨S1x512x1536, .f32⟩
  | .local _ .vmem, ⟨5, _⟩ => ⟨S1x512x1536, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefAdaDwIdeal.lean ====
abbrev S2048x128 : Shape := ⟨2, ![2048, 128]⟩
abbrev S2x128x1536 : Shape := ⟨3, ![2, 128, 1536]⟩
abbrev S_ : Shape := ⟨0, ![]⟩
abbrev S2x2048x1536 : Shape := ⟨3, ![2, 2048, 1536]⟩
abbrev S128x2048 : Shape := ⟨2, ![128, 2048]⟩
abbrev S2x1x1536 : Shape := ⟨3, ![2, 1, 1536]⟩
abbrev S1x2048x1536 : Shape := ⟨3, ![1, 2048, 1536]⟩
abbrev S2048x1536 : Shape := ⟨2, ![2048, 1536]⟩
abbrev S128x1536 : Shape := ⟨2, ![128, 1536]⟩
abbrev S1x1x1536 : Shape := ⟨3, ![1, 1, 1536]⟩
abbrev S1x1536 : Shape := ⟨2, ![1, 1536]⟩
abbrev S1x128x1536 : Shape := ⟨3, ![1, 128, 1536]⟩
abbrev S1536x2048 : Shape := ⟨2, ![1536, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2x128x1536, .f32⟩
  | .hbm, ⟨2, _⟩ => ⟨S_, .f32⟩
  | .hbm, ⟨3, _⟩ => ⟨S2x2048x1536, .f32⟩
  | .hbm, ⟨4, _⟩ => ⟨S128x2048, .f32⟩
  | .hbm, ⟨5, _⟩ => ⟨S_, .f32⟩
  | .hbm, ⟨6, _⟩ => ⟨S2x1x1536, .f32⟩
  | .hbm, ⟨7, _⟩ => ⟨S1x2048x1536, .f32⟩
  | .hbm, ⟨8, _⟩ => ⟨S2048x1536, .f32⟩
  | .hbm, ⟨9, _⟩ => ⟨S128x1536, .f32⟩
  | .hbm, ⟨10, _⟩ => ⟨S1x1x1536, .f32⟩
  | .hbm, ⟨11, _⟩ => ⟨S1x1536, .f32⟩
  | .hbm, ⟨12, _⟩ => ⟨S128x1536, .f32⟩
  | .hbm, ⟨13, _⟩ => ⟨S128x1536, .f32⟩
  | .hbm, ⟨14, _⟩ => ⟨S1x2048x1536, .f32⟩
  | .hbm, ⟨15, _⟩ => ⟨S2048x1536, .f32⟩
  | .hbm, ⟨16, _⟩ => ⟨S128x1536, .f32⟩
  | .hbm, ⟨17, _⟩ => ⟨S1x1x1536, .f32⟩
  | .hbm, ⟨18, _⟩ => ⟨S1x1536, .f32⟩
  | .hbm, ⟨19, _⟩ => ⟨S128x1536, .f32⟩
  | .hbm, ⟨20, _⟩ => ⟨S128x1536, .f32⟩
  | .hbm, ⟨21, _⟩ => ⟨S1x128x1536, .f32⟩
  | .hbm, ⟨22, _⟩ => ⟨S1x128x1536, .f32⟩
  | .hbm, ⟨23, _⟩ => ⟨S2x128x1536, .f32⟩
  | .hbm, ⟨24, _⟩ => ⟨S1x128x1536, .f32⟩
  | .hbm, ⟨25, _⟩ => ⟨S128x1536, .f32⟩
  | .hbm, ⟨26, _⟩ => ⟨S1x128x1536, .f32⟩
  | .hbm, ⟨27, _⟩ => ⟨S128x1536, .f32⟩
  | .hbm, ⟨28, _⟩ => ⟨S1536x2048, .f32⟩
  | .hbm, ⟨29, _⟩ => ⟨S2048x1536, .f32⟩
  | .hbm, ⟨30, _⟩ => ⟨S1x2048x1536, .f32⟩
  | .hbm, ⟨31, _⟩ => ⟨S_, .f32⟩
  | .hbm, ⟨32, _⟩ => ⟨S2x2048x1536, .f32⟩
  | .hbm, ⟨33, _⟩ => ⟨S1536x2048, .f32⟩
  | .hbm, ⟨34, _⟩ => ⟨S2048x1536, .f32⟩
  | .hbm, ⟨35, _⟩ => ⟨S1x2048x1536, .f32⟩
  | .hbm, ⟨36, _⟩ => ⟨S_, .f32⟩
  | .hbm, ⟨37, _⟩ => ⟨S2x2048x1536, .f32⟩
  | .hbm, ⟨38, _⟩ => ⟨S2x2048x1536, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== GateFwd.lean ====
abbrev S4096x11264 : Shape := ⟨2, ![4096, 11264]⟩
abbrev S3x11264 : Shape := ⟨2, ![3, 11264]⟩
abbrev S11264 : Shape := ⟨1, ![11264]⟩
abbrev S1x11264 : Shape := ⟨2, ![1, 11264]⟩
abbrev S4096x5632 : Shape := ⟨2, ![4096, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩

abbrev nBuf : Space → Nat
  | .hbm => 5
  | .vmem => 18
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S4096x5632, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg1 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefGateFwdIdeal.lean ====
abbrev S4096x11264 : Shape := ⟨2, ![4096, 11264]⟩
abbrev S3x11264 : Shape := ⟨2, ![3, 11264]⟩
abbrev S11264 : Shape := ⟨1, ![11264]⟩
abbrev S1x4096x11264 : Shape := ⟨3, ![1, 4096, 11264]⟩
abbrev S1x2x11264 : Shape := ⟨3, ![1, 2, 11264]⟩
abbrev S_ : Shape := ⟨0, ![]⟩
abbrev S1x4098x11264 : Shape := ⟨3, ![1, 4098, 11264]⟩
abbrev S1x11264 : Shape := ⟨2, ![1, 11264]⟩
abbrev S1x1x11264 : Shape := ⟨3, ![1, 1, 11264]⟩
abbrev S1x4096x5632 : Shape := ⟨3, ![1, 4096, 5632]⟩
abbrev S4096x5632 : Shape := ⟨2, ![4096, 5632]⟩

abbrev nBuf : Space → Nat
  | .hbm => 53
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S1x4096x11264, .f32⟩
  | .hbm, ⟨4, _⟩ => ⟨S1x2x11264, .f32⟩
  | .hbm, ⟨5, _⟩ => ⟨S_, .f32⟩
  | .hbm, ⟨6, _⟩ => ⟨S1x2x11264, .f32⟩
  | .hbm, ⟨7, _⟩ => ⟨S1x4098x11264, .f32⟩
  | .hbm, ⟨8, _⟩ => ⟨S1x4096x11264, .f32⟩
  | .hbm, ⟨9, _⟩ => ⟨S1x11264, .f32⟩
  | .hbm, ⟨10, _⟩ => ⟨S11264, .f32⟩
  | .hbm, ⟨11, _⟩ => ⟨S1x1x11264, .f32⟩
  | .hbm, ⟨12, _⟩ => ⟨S1x4096x11264, .f32⟩
  | .hbm, ⟨13, _⟩ => ⟨S1x4096x11264, .f32⟩
  | .hbm, ⟨14, _⟩ => ⟨S1x1x11264, .f32⟩
  | .hbm, ⟨15, _⟩ => ⟨S1x4096x11264, .f32⟩
  | .hbm, ⟨16, _⟩ => ⟨S1x4096x11264, .f32⟩
  | .hbm, ⟨17, _⟩ => ⟨S1x4096x11264, .f32⟩
  | .hbm, ⟨18, _⟩ => ⟨S1x11264, .f32⟩
  | .hbm, ⟨19, _⟩ => ⟨S11264, .f32⟩
  | .hbm, ⟨20, _⟩ => ⟨S1x1x11264, .f32⟩
  | .hbm, ⟨21, _⟩ => ⟨S1x4096x11264, .f32⟩
  | .hbm, ⟨22, _⟩ => ⟨S1x4096x11264, .f32⟩
  | .hbm, ⟨23, _⟩ => ⟨S1x4096x11264, .f32⟩
  | .hbm, ⟨24, _⟩ => ⟨S1x4096x11264, .f32⟩
  | .hbm, ⟨25, _⟩ => ⟨S1x11264, .f32⟩
  | .hbm, ⟨26, _⟩ => ⟨S11264, .f32⟩
  | .hbm, ⟨27, _⟩ => ⟨S1x1x11264, .f32⟩
  | .hbm, ⟨28, _⟩ => ⟨S1x4096x11264, .f32⟩
  | .hbm, ⟨29, _⟩ => ⟨S1x4096x11264, .f32⟩
  | .hbm, ⟨30, _⟩ => ⟨S1x4096x11264, .f32⟩
  | .hbm, ⟨31, _⟩ => ⟨S1x4096x5632, .f32⟩
  | .hbm, ⟨32, _⟩ => ⟨S1x4096x5632, .f32⟩
  | .hbm, ⟨33, _⟩ => ⟨S1x4096x5632, .f32⟩
  | .hbm, ⟨34, _⟩ => ⟨S1x4096x5632, .f32⟩
  | .hbm, ⟨35, _⟩ => ⟨S_, .f32⟩
  | .hbm, ⟨36, _⟩ => ⟨S1x4096x5632, .f32⟩
  | .hbm, ⟨37, _⟩ => ⟨S1x4096x5632, .f32⟩
  | .hbm, ⟨38, _⟩ => ⟨S1x4096x5632, .f32⟩
  | .hbm, ⟨39, _⟩ => ⟨S_, .f32⟩
  | .hbm, ⟨40, _⟩ => ⟨S1x4096x5632, .f32⟩
  | .hbm, ⟨41, _⟩ => ⟨S1x4096x5632, .f32⟩
  | .hbm, ⟨42, _⟩ => ⟨S1x4096x5632, .f32⟩
  | .hbm, ⟨43, _⟩ => ⟨S_, .f32⟩
  | .hbm, ⟨44, _⟩ => ⟨S1x4096x5632, .f32⟩
  | .hbm, ⟨45, _⟩ => ⟨S1x4096x5632, .f32⟩
  | .hbm, ⟨46, _⟩ => ⟨S_, .f32⟩
  | .hbm, ⟨47, _⟩ => ⟨S1x4096x5632, .f32⟩
  | .hbm, ⟨48, _⟩ => ⟨S1x4096x5632, .f32⟩
  | .hbm, ⟨49, _⟩ => ⟨S1x4096x5632, .f32⟩
  | .hbm, ⟨50, _⟩ => ⟨S1x4096x5632, .f32⟩
  | .hbm, ⟨51, _⟩ => ⟨S4096x5632, .f32⟩
  | .hbm, ⟨52, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== AdamWIn.lean ====
abbrev S4096x288 : Shape := ⟨2, ![4096, 288]⟩
abbrev S1024x288 : Shape := ⟨2, ![1024, 288]⟩

abbrev nBuf : Space → Nat
  | .hbm => 7
  | .vmem => 14
  | .smem => 0
  | _ => 0

abbrev bufTy : (tb : Table) → Fin (tcTables nBuf tb) → BufTy
  | .hbm, ⟨0, _⟩ => ⟨S4096x288, .f32⟩
  | .hbm, ⟨1, _⟩ => ⟨S4096x288, .f32⟩
  | .hbm, ⟨2, _⟩ => ⟨S4096x288, .f32⟩
  | .hbm, ⟨3, _⟩ => ⟨S4096x288, .f32⟩
  | .hbm, ⟨4, _⟩ => ⟨S4096x288, .f32⟩
  | .hbm, ⟨5, _⟩ => ⟨S4096x288, .f32⟩
  | .hbm, ⟨6, _⟩ => ⟨S4096x288, .f32⟩
  | .local _ .vmem, ⟨0, _⟩ => ⟨S1024x288, .f32⟩
  | .local _ .vmem, ⟨1, _⟩ => ⟨S1024x288, .f32⟩
  | .local _ .vmem, ⟨2, _⟩ => ⟨S1024x288, .f32⟩
  | .local _ .vmem, ⟨3, _⟩ => ⟨S1024x288, .f32⟩
  | .local _ .vmem, ⟨4, _⟩ => ⟨S1024x288, .f32⟩
  | .local _ .vmem, ⟨5, _⟩ => ⟨S1024x288, .f32⟩
  | .local _ .vmem, ⟨6, _⟩ => ⟨S1024x288, .f32⟩
  | .local _ .vmem, ⟨7, _⟩ => ⟨S1024x288, .f32⟩
  | .local _ .vmem, ⟨8, _⟩ => ⟨S1024x288, .f32⟩
  | .local _ .vmem, ⟨9, _⟩ => ⟨S1024x288, .f32⟩
  | .local _ .vmem, ⟨10, _⟩ => ⟨S1024x288, .f32⟩
  | .local _ .vmem, ⟨11, _⟩ => ⟨S1024x288, .f32⟩
  | .local _ .vmem, ⟨12, _⟩ => ⟨S1024x288, .f32⟩
  | .local _ .vmem, ⟨13, _⟩ => ⟨S1024x288, .f32⟩
  | _, _ => ⟨S4096x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S4096x288 : Shape := ⟨2, ![4096, 288]⟩
abbrev S1024x288 : Shape := ⟨2, ![1024, 288]⟩

abbrev nBuf : Space → Nat
  | .hbm => 7
  | .vmem => 14
  | .smem => 0
  | _ => 0

abbrev bufTy : (tb : Table) → Fin (tcTables nBuf tb) → BufTy
  | .hbm, ⟨0, _⟩ => ⟨S4096x288, .f32⟩
  | .hbm, ⟨1, _⟩ => ⟨S4096x288, .f32⟩
  | .hbm, ⟨2, _⟩ => ⟨S4096x288, .f32⟩
  | .hbm, ⟨3, _⟩ => ⟨S4096x288, .f32⟩
  | .hbm, ⟨4, _⟩ => ⟨S4096x288, .f32⟩
  | .hbm, ⟨5, _⟩ => ⟨S4096x288, .f32⟩
  | .hbm, ⟨6, _⟩ => ⟨S4096x288, .f32⟩
  | .local _ .vmem, ⟨0, _⟩ => ⟨S1024x288, .f32⟩
  | .local _ .vmem, ⟨1, _⟩ => ⟨S1024x288, .f32⟩
  | .local _ .vmem, ⟨2, _⟩ => ⟨S1024x288, .f32⟩
  | .local _ .vmem, ⟨3, _⟩ => ⟨S1024x288, .f32⟩
  | .local _ .vmem, ⟨4, _⟩ => ⟨S1024x288, .f32⟩
  | .local _ .vmem, ⟨5, _⟩ => ⟨S1024x288, .f32⟩
  | .local _ .vmem, ⟨6, _⟩ => ⟨S1024x288, .f32⟩
  | .local _ .vmem, ⟨7, _⟩ => ⟨S1024x288, .f32⟩
  | .local _ .vmem, ⟨8, _⟩ => ⟨S1024x288, .f32⟩
  | .local _ .vmem, ⟨9, _⟩ => ⟨S1024x288, .f32⟩
  | .local _ .vmem, ⟨10, _⟩ => ⟨S1024x288, .f32⟩
  | .local _ .vmem, ⟨11, _⟩ => ⟨S1024x288, .f32⟩
  | .local _ .vmem, ⟨12, _⟩ => ⟨S1024x288, .f32⟩
  | .local _ .vmem, ⟨13, _⟩ => ⟨S1024x288, .f32⟩
  | _, _ => ⟨S4096x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamWInIdeal.lean ====
abbrev S4096x288 : Shape := ⟨2, ![4096, 288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x288, .f32⟩
  | .hbm, ⟨1, _⟩ => ⟨S4096x288, .f32⟩
  | .hbm, ⟨2, _⟩ => ⟨S4096x288, .f32⟩
  | .hbm, ⟨3, _⟩ => ⟨S4096x288, .f32⟩
  | .hbm, ⟨4, _⟩ => ⟨S_, .f32⟩
  | .hbm, ⟨5, _⟩ => ⟨S4096x288, .f32⟩
  | .hbm, ⟨6, _⟩ => ⟨S4096x288, .f32⟩
  | .hbm, ⟨7, _⟩ => ⟨S_, .f32⟩
  | .hbm, ⟨8, _⟩ => ⟨S4096x288, .f32⟩
  | .hbm, ⟨9, _⟩ => ⟨S4096x288, .f32⟩
  | .hbm, ⟨10, _⟩ => ⟨S4096x288, .f32⟩
  | .hbm, ⟨11, _⟩ => ⟨S_, .f32⟩
  | .hbm, ⟨12, _⟩ => ⟨S4096x288, .f32⟩
  | .hbm, ⟨13, _⟩ => ⟨S4096x288, .f32⟩
  | .hbm, ⟨14, _⟩ => ⟨S4096x288, .f32⟩
  | .hbm, ⟨15, _⟩ => ⟨S_, .f32⟩
  | .hbm, ⟨16, _⟩ => ⟨S4096x288, .f32⟩
  | .hbm, ⟨17, _⟩ => ⟨S4096x288, .f32⟩
  | .hbm, ⟨18, _⟩ => ⟨S4096x288, .f32⟩
  | .hbm, ⟨19, _⟩ => ⟨S_, .f32⟩
  | .hbm, ⟨20, _⟩ => ⟨S4096x288, .f32⟩
  | .hbm, ⟨21, _⟩ => ⟨S4096x288, .f32⟩
  | .hbm, ⟨22, _⟩ => ⟨S_, .f32⟩
  | .hbm, ⟨23, _⟩ => ⟨S4096x288, .f32⟩
  | .hbm, ⟨24, _⟩ => ⟨S4096x288, .f32⟩
  | .hbm, ⟨25, _⟩ => ⟨S4096x288, .f32⟩
  | .hbm, ⟨26, _⟩ => ⟨S_, .f32⟩
  | .hbm, ⟨27, _⟩ => ⟨S4096x288, .f32⟩
  | .hbm, ⟨28, _⟩ => ⟨S4096x288, .f32⟩
  | .hbm, ⟨29, _⟩ => ⟨S4096x288, .f32⟩
  | .hbm, ⟨30, _⟩ => ⟨S_, .f32⟩
  | .hbm, ⟨31, _⟩ => ⟨S4096x288, .f32⟩
  | .hbm, ⟨32, _⟩ => ⟨S4096x288, .f32⟩
  | .hbm, ⟨33, _⟩ => ⟨S4096x288, .f32⟩
  | .hbm, ⟨34, _⟩ => ⟨S_, .f32⟩
  | .hbm, ⟨35, _⟩ => ⟨S4096x288, .f32⟩
  | .hbm, ⟨36, _⟩ => ⟨S4096x288, .f32⟩
  | _, _ => ⟨S4096x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWGlu.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWGluIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamWGluIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutIdeal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamWOutIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWUp.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWUpIdeal.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamWUpIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWDown.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWDownIdeal.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamWDownIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWAda.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWAdaIdeal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== RefAdamWAdaIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SsmParBwd.lean ====
abbrev S1x4096 : Shape := ⟨2, ![1, 4096]⟩
abbrev S16x4096 : Shape := ⟨2, ![16, 4096]⟩
abbrev S4096x128 : Shape := ⟨2, ![4096, 128]⟩
abbrev S8x128 : Shape := ⟨2, ![8, 128]⟩
abbrev S4096 : Shape := ⟨1, ![4096]⟩
abbrev S8x4096 : Shape := ⟨2, ![8, 4096]⟩

abbrev nBuf : Space → Nat
  | .hbm => 15
  | .vmem => 15
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S1x4096, .f32⟩
  | .hbm, ⟨6, _⟩ => ⟨S1x4096, .f32⟩
  | .hbm, ⟨7, _⟩ => ⟨S16x4096, .f32⟩
  | .hbm, ⟨8, _⟩ => ⟨S16x4096, .f32⟩
  | .hbm, ⟨9, _⟩ => ⟨S4096x128, .f32⟩
  | .hbm, ⟨10, _⟩ => ⟨S1x4096, .f32⟩
  | .hbm, ⟨11, _⟩ => ⟨S1x4096, .f32⟩
  | .hbm, ⟨12, _⟩ => ⟨S8x128, .f32⟩
  | .hbm, ⟨13, _⟩ => ⟨S16x4096, .f32⟩
  | .hbm, ⟨14, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .f32⟩
  | .local _ .vmem, ⟨5, _⟩ => ⟨S1x4096, .f32⟩
  | .local _ .vmem, ⟨6, _⟩ => ⟨S1x4096, .f32⟩
  | .local _ .vmem, ⟨7, _⟩ => ⟨S16x4096, .f32⟩
  | .local _ .vmem, ⟨8, _⟩ => ⟨S16x4096, .f32⟩
  | .local _ .vmem, ⟨9, _⟩ => ⟨S4096x128, .f32⟩
  | .local _ .vmem, ⟨10, _⟩ => ⟨S1x4096, .f32⟩
  | .local _ .vmem, ⟨11, _⟩ => ⟨S1x4096, .f32⟩
  | .local _ .vmem, ⟨12, _⟩ => ⟨S8x128, .f32⟩
  | .local _ .vmem, ⟨13, _⟩ => ⟨S16x4096, .f32⟩
  | .local _ .vmem, ⟨14, _⟩ => ⟨S16x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== RefSsmParBwdIdeal.lean ====
abbrev S1x4096 : Shape := ⟨2, ![1, 4096]⟩
abbrev S16x4096 : Shape := ⟨2, ![16, 4096]⟩
abbrev S4096x128 : Shape := ⟨2, ![4096, 128]⟩
abbrev S_ : Shape := ⟨0, ![]⟩
abbrev S4096 : Shape := ⟨1, ![4096]⟩
abbrev S1x128 : Shape := ⟨2, ![1, 128]⟩
abbrev S8x128 : Shape := ⟨2, ![8, 128]⟩

abbrev nBuf : Space → Nat
  | .hbm => 139
  | .vmem => 0
  | .smem => 0
  | _ => 0

abbrev hbmTy0_0 (i : Nat) : BufTy := match i % 128 with
  | 0 => ⟨S1x4096, .f32⟩
  | 1 => ⟨S1x4096, .f32⟩
  | 2 => ⟨S1x4096, .f32⟩
  | 3 => ⟨S16x4096, .f32⟩
  | 4 => ⟨S16x4096, .f32⟩
  | 5 => ⟨S1x4096, .f32⟩
  | 6 => ⟨S1x4096, .f32⟩
  | 7 => ⟨S16x4096, .f32⟩
  | 8 => ⟨S16x4096, .f32⟩
  | 9 => ⟨S4096x128, .f32⟩
  | 10 => ⟨S1x4096, .f32⟩
  | 11 => ⟨S1x4096, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x4096, .f32⟩
  | 19 => ⟨S1x4096, .f32⟩
  | 20 => ⟨S1x4096, .f32⟩
  | 21 => ⟨S1x4096, .f32⟩
  | 22 => ⟨S1x4096, .f32⟩
  | 23 => ⟨S_, .f32⟩
  | 24 => ⟨S1x4096, .f32⟩
  | 25 => ⟨S1x4096, .f32⟩
  | 26 => ⟨S1x4096, .f32⟩
  | 27 => ⟨S1x4096, .f32⟩
  | 28 => ⟨S1x4096, .f32⟩
  | 29 => ⟨S1x4096, .f32⟩
  | 30 => ⟨S1x4096, .f32⟩
  | 31 => ⟨S_, .f32⟩
  | 32 => ⟨S1x4096, .f32⟩
  | 33 => ⟨S1x4096, .f32⟩
  | 34 => ⟨S1x4096, .f32⟩
  | 35 => ⟨S_, .f32⟩
  | 36 => ⟨S1x4096, .f32⟩
  | 37 => ⟨S1x4096, .f32⟩
  | 38 => ⟨S1x4096, .f32⟩
  | 39 => ⟨S1x4096, .f32⟩
  | 40 => ⟨S1x4096, .f32⟩
  | 41 => ⟨S1x4096, .f32⟩
  | 42 => ⟨S_, .f32⟩
  | 43 => ⟨S1x4096, .f32⟩
  | 44 => ⟨S1x4096, .f32⟩
  | 45 => ⟨S16x4096, .f32⟩
  | 46 => ⟨S16x4096, .f32⟩
  | 47 => ⟨S16x4096, .f32⟩
  | 48 => ⟨S16x4096, .f32⟩
  | 49 => ⟨S16x4096, .f32⟩
  | 50 => ⟨S16x4096, .f32⟩
  | 51 => ⟨S16x4096, .f32⟩
  | 52 => ⟨S16x4096, .f32⟩
  | 53 => ⟨S16x4096, .f32⟩
  | 54 => ⟨S16x4096, .f32⟩
  | 55 => ⟨S16x4096, .f32⟩
  | 56 => ⟨S16x4096, .f32⟩
  | 57 => ⟨S16x4096, .f32⟩
  | 58 => ⟨S16x4096, .f32⟩
  | 59 => ⟨S16x4096, .f32⟩
  | 60 => ⟨S_, .f32⟩
  | 61 => ⟨S4096, .f32⟩
  | 62 => ⟨S1x4096, .f32⟩
  | 63 => ⟨S16x4096, .f32⟩
  | 64 => ⟨S16x4096, .f32⟩
  | 65 => ⟨S16x4096, .f32⟩
  | 66 => ⟨S_, .f32⟩
  | 67 => ⟨S4096, .f32⟩
  | 68 => ⟨S1x4096, .f32⟩
  | 69 => ⟨S16x4096, .f32⟩
  | 70 => ⟨S16x4096, .f32⟩
  | 71 => ⟨S16x4096, .f32⟩
  | 72 => ⟨S16x4096, .f32⟩
  | 73 => ⟨S16x4096, .f32⟩
  | 74 => ⟨S16x4096, .f32⟩
  | 75 => ⟨S_, .f32⟩
  | 76 => ⟨S4096, .f32⟩
  | 77 => ⟨S1x4096, .f32⟩
  | 78 => ⟨S1x4096, .f32⟩
  | 79 => ⟨S16x4096, .f32⟩
  | 80 => ⟨S16x4096, .f32⟩
  | 81 => ⟨S16x4096, .f32⟩
  | 82 => ⟨S16x4096, .f32⟩
  | 83 => ⟨S_, .f32⟩
  | 84 => ⟨S4096, .f32⟩
  | 85 => ⟨S1x4096, .f32⟩
  | 86 => ⟨S1x4096, .f32⟩
  | 87 => ⟨S1x4096, .f32⟩
  | 88 => ⟨S1x4096, .f32⟩
  | 89 => ⟨S1x4096, .f32⟩
  | 90 => ⟨S1x4096, .f32⟩
  | 91 => ⟨S1x4096, .f32⟩
  | 92 => ⟨S1x4096, .f32⟩
  | 93 => ⟨S1x4096, .f32⟩
  | 94 => ⟨S1x4096, .f32⟩
  | 95 => ⟨S1x4096, .f32⟩
  | 96 => ⟨S1x4096, .f32⟩
  | 97 => ⟨S1x4096, .f32⟩
  | 98 => ⟨S1x4096, .f32⟩
  | 99 => ⟨S1x4096, .f32⟩
  | 100 => ⟨S1x4096, .f32⟩
  | 101 => ⟨S1x4096, .f32⟩
  | 102 => ⟨S1x4096, .f32⟩
  | 103 => ⟨S1x4096, .f32⟩
  | 104 => ⟨S1x4096, .f32⟩
  | 105 => ⟨S1x4096, .f32⟩
  | 106 => ⟨S1x4096, .f32⟩
  | 107 => ⟨S1x4096, .f32⟩
  | 108 => ⟨S1x4096, .f32⟩
  | 109 => ⟨S1x4096, .f32⟩
  | 110 => ⟨S1x4096, .f32⟩
  | 111 => ⟨S1x4096, .f32⟩
  | 112 => ⟨S1x4096, .f32⟩
  | 113 => ⟨S1x4096, .f32⟩
  | 114 => ⟨S1x4096, .f32⟩
  | 115 => ⟨S1x4096, .f32⟩
  | 116 => ⟨S1x4096, .f32⟩
  | 117 => ⟨S1x4096, .f32⟩
  | 118 => ⟨S1x4096, .f32⟩
  | 119 => ⟨S1x4096, .f32⟩
  | 120 => ⟨S1x4096, .f32⟩
  | 121 => ⟨S1x4096, .f32⟩
  | 122 => ⟨S1x4096, .f32⟩
  | 123 => ⟨S1x4096, .f32⟩
  | 124 => ⟨S1x4096, .f32⟩
  | 125 => ⟨S1x4096, .f32⟩
  | 126 => ⟨S1x4096, .f32⟩
  | 127 => ⟨S1x4096, .f32⟩
  | _ => ⟨S1x4096, .f32⟩

abbrev hbmTy0_1 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x4096, .f32⟩
  | 5 => ⟨S1x4096, .f32⟩
  | 6 => ⟨S1x4096, .f32⟩
  | 7 => ⟨S1x4096, .f32⟩
  | 8 => ⟨S1x4096, .f32⟩
  | 9 => ⟨S1x128, .f32⟩
  | 10 => ⟨S8x128, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩

abbrev nD : Nat := 1
abbrev τ : Topo := Topo.v7x

variable {F : FTy → Type} [FloatOps F]
-- ==== SsmParFwd.lean ====
abbrev S1x4096 : Shape := ⟨2, ![1, 4096]⟩
abbrev S16x4096 : Shape := ⟨2, ![16, 4096]⟩
abbrev S24x4096 : Shape := ⟨2, ![24, 4096]⟩

abbrev nBuf : Space → Nat
  | .hbm => 9
  | .vmem => 9
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S16x4096, .f32⟩
  | .hbm, ⟨6, _⟩ => ⟨S16x4096, .f32⟩
  | .hbm, ⟨7, _⟩ => ⟨S24x4096, .f32⟩
  | .hbm, ⟨8, _⟩ => ⟨S24x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S24x4096, .f32⟩
  | .local _ .vmem, ⟨8, _⟩ => ⟨S24x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== RefSsmParFwdIdeal.lean ====
abbrev S1x4096 : Shape := ⟨2, ![1, 4096]⟩
abbrev S16x4096 : Shape := ⟨2, ![16, 4096]⟩
abbrev S_ : Shape := ⟨0, ![]⟩
abbrev S8x4096 : Shape := ⟨2, ![8, 4096]⟩
abbrev S24x4096 : Shape := ⟨2, ![24, 4096]⟩

abbrev nBuf : Space → Nat
  | .hbm => 130
  | .vmem => 0
  | .smem => 0
  | _ => 0

abbrev hbmTy0_0 (i : Nat) : BufTy := match i % 128 with
  | 0 => ⟨S1x4096, .f32⟩
  | 1 => ⟨S1x4096, .f32⟩
  | 2 => ⟨S1x4096, .f32⟩
  | 3 => ⟨S16x4096, .f32⟩
  | 4 => ⟨S16x4096, .f32⟩
  | 5 => ⟨S1x4096, .f32⟩
  | 6 => ⟨S1x4096, .f32⟩
  | 7 => ⟨S1x4096, .f32⟩
  | 8 => ⟨S1x4096, .f32⟩
  | 9 => ⟨S1x4096, .f32⟩
  | 10 => ⟨S1x4096, .f32⟩
  | 11 => ⟨S1x4096, .f32⟩
  | 12 => ⟨S1x4096, .f32⟩
  | 13 => ⟨S1x4096, .f32⟩
  | 14 => ⟨S1x4096, .f32⟩
  | 15 => ⟨S1x4096, .f32⟩
  | 16 => ⟨S_, .f32⟩
  | 17 => ⟨S1x4096, .f32⟩
  | 18 => ⟨S1x4096, .f32⟩
  | 19 => ⟨S1x4096, .f32⟩
  | 20 => ⟨S1x4096, .f32⟩
  | 21 => ⟨S1x4096, .f32⟩
  | 22 => ⟨S1x4096, .f32⟩
  | 23 => ⟨S1x4096, .f32⟩
  | 24 => ⟨S_, .f32⟩
  | 25 => ⟨S1x4096, .f32⟩
  | 26 => ⟨S1x4096, .f32⟩
  | 27 => ⟨S1x4096, .f32⟩
  | 28 => ⟨S1x4096, .f32⟩
  | 29 => ⟨S1x4096, .f32⟩
  | 30 => ⟨S16x4096, .f32⟩
  | 31 => ⟨S16x4096, .f32⟩
  | 32 => ⟨S16x4096, .f32⟩
  | 33 => ⟨S16x4096, .f32⟩
  | 34 => ⟨S16x4096, .f32⟩
  | 35 => ⟨S16x4096, .f32⟩
  | 36 => ⟨S16x4096, .f32⟩
  | 37 => ⟨S16x4096, .f32⟩
  | 38 => ⟨S16x4096, .f32⟩
  | 39 => ⟨S16x4096, .f32⟩
  | 40 => ⟨S1x4096, .f32⟩
  | 41 => ⟨S1x4096, .f32⟩
  | 42 => ⟨S1x4096, .f32⟩
  | 43 => ⟨S1x4096, .f32⟩
  | 44 => ⟨S1x4096, .f32⟩
  | 45 => ⟨S1x4096, .f32⟩
  | 46 => ⟨S1x4096, .f32⟩
  | 47 => ⟨S1x4096, .f32⟩
  | 48 => ⟨S1x4096, .f32⟩
  | 49 => ⟨S1x4096, .f32⟩
  | 50 => ⟨S1x4096, .f32⟩
  | 51 => ⟨S1x4096, .f32⟩
  | 52 => ⟨S1x4096, .f32⟩
  | 53 => ⟨S1x4096, .f32⟩
  | 54 => ⟨S1x4096, .f32⟩
  | 55 => ⟨S1x4096, .f32⟩
  | 56 => ⟨S1x4096, .f32⟩
  | 57 => ⟨S1x4096, .f32⟩
  | 58 => ⟨S1x4096, .f32⟩
  | 59 => ⟨S1x4096, .f32⟩
  | 60 => ⟨S1x4096, .f32⟩
  | 61 => ⟨S1x4096, .f32⟩
  | 62 => ⟨S1x4096, .f32⟩
  | 63 => ⟨S1x4096, .f32⟩
  | 64 => ⟨S1x4096, .f32⟩
  | 65 => ⟨S1x4096, .f32⟩
  | 66 => ⟨S1x4096, .f32⟩
  | 67 => ⟨S1x4096, .f32⟩
  | 68 => ⟨S1x4096, .f32⟩
  | 69 => ⟨S1x4096, .f32⟩
  | 70 => ⟨S1x4096, .f32⟩
  | 71 => ⟨S1x4096, .f32⟩
  | 72 => ⟨S1x4096, .f32⟩
  | 73 => ⟨S1x4096, .f32⟩
  | 74 => ⟨S1x4096, .f32⟩
  | 75 => ⟨S1x4096, .f32⟩
  | 76 => ⟨S1x4096, .f32⟩
  | 77 => ⟨S1x4096, .f32⟩
  | 78 => ⟨S1x4096, .f32⟩
  | 79 => ⟨S1x4096, .f32⟩
  | 80 => ⟨S1x4096, .f32⟩
  | 81 => ⟨S1x4096, .f32⟩
  | 82 => ⟨S1x4096, .f32⟩
  | 83 => ⟨S1x4096, .f32⟩
  | 84 => ⟨S1x4096, .f32⟩
  | 85 => ⟨S1x4096, .f32⟩
  | 86 => ⟨S1x4096, .f32⟩
  | 87 => ⟨S1x4096, .f32⟩
  | 88 => ⟨S1x4096, .f32⟩
  | 89 => ⟨S1x4096, .f32⟩
  | 90 => ⟨S1x4096, .f32⟩
  | 91 => ⟨S1x4096, .f32⟩
  | 92 => ⟨S1x4096, .f32⟩
  | 93 => ⟨S1x4096, .f32⟩
  | 94 => ⟨S1x4096, .f32⟩
  | 95 => ⟨S1x4096, .f32⟩
  | 96 => ⟨S1x4096, .f32⟩
  | 97 => ⟨S1x4096, .f32⟩
  | 98 => ⟨S1x4096, .f32⟩
  | 99 => ⟨S1x4096, .f32⟩
  | 100 => ⟨S1x4096, .f32⟩
  | 101 => ⟨S1x4096, .f32⟩
  | 102 => ⟨S1x4096, .f32⟩
  | 103 => ⟨S1x4096, .f32⟩
  | 104 => ⟨S1x4096, .f32⟩
  | 105 => ⟨S1x4096, .f32⟩
  | 106 => ⟨S1x4096, .f32⟩
  | 107 => ⟨S1x4096, .f32⟩
  | 108 => ⟨S1x4096, .f32⟩
  | 109 => ⟨S1x4096, .f32⟩
  | 110 => ⟨S1x4096, .f32⟩
  | 111 => ⟨S1x4096, .f32⟩
  | 112 => ⟨S1x4096, .f32⟩
  | 113 => ⟨S1x4096, .f32⟩
  | 114 => ⟨S1x4096, .f32⟩
  | 115 => ⟨S1x4096, .f32⟩
  | 116 => ⟨S1x4096, .f32⟩
  | 117 => ⟨S1x4096, .f32⟩
  | 118 => ⟨S1x4096, .f32⟩
  | 119 => ⟨S1x4096, .f32⟩
  | 120 => ⟨S1x4096, .f32⟩
  | 121 => ⟨S1x4096, .f32⟩
  | 122 => ⟨S1x4096, .f32⟩
  | 123 => ⟨S1x4096, .f32⟩
  | 124 => ⟨S16x4096, .f32⟩
  | 125 => ⟨S8x4096, .f32⟩
  | 126 => ⟨S24x4096, .f32⟩
  | 127 => ⟨S16x4096, .f32⟩
  | _ => ⟨S1x4096, .f32⟩

abbrev hbmTy0_1 (i : Nat) : BufTy := match i % 128 with
  | 0 => ⟨S8x4096, .f32⟩
  | 1 => ⟨S24x4096, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩

abbrev nD : Nat := 1
abbrev τ : Topo := Topo.v7x

variable {F : FTy → Type} [FloatOps F]
-- ==== AdamSmallA.lean ====
abbrev S2x12288 : Shape := ⟨2, ![2, 12288]⟩
abbrev S2x2048 : Shape := ⟨2, ![2, 2048]⟩

abbrev nBuf : Space → Nat
  | .hbm => 21
  | .vmem => 21
  | .smem => 0
  | _ => 0

abbrev bufTy : (tb : Table) → Fin (tcTables nBuf tb) → BufTy
  | .hbm, ⟨0, _⟩ => ⟨S2x12288, .f32⟩
  | .hbm, ⟨1, _⟩ => ⟨S2x2048, .f32⟩
  | .hbm, ⟨2, _⟩ => ⟨S2x2048, .f32⟩
  | .hbm, ⟨3, _⟩ => ⟨S2x12288, .f32⟩
  | .hbm, ⟨4, _⟩ => ⟨S2x2048, .f32⟩
  | .hbm, ⟨5, _⟩ => ⟨S2x2048, .f32⟩
  | .hbm, ⟨6, _⟩ => ⟨S2x12288, .f32⟩
  | .hbm, ⟨7, _⟩ => ⟨S2x2048, .f32⟩
  | .hbm, ⟨8, _⟩ => ⟨S2x2048, .f32⟩
  | .hbm, ⟨9, _⟩ => ⟨S2x12288, .f32⟩
  | .hbm, ⟨10, _⟩ => ⟨S2x2048, .f32⟩
  | .hbm, ⟨11, _⟩ => ⟨S2x2048, .f32⟩
  | .hbm, ⟨12, _⟩ => ⟨S2x12288, .f32⟩
  | .hbm, ⟨13, _⟩ => ⟨S2x2048, .f32⟩
  | .hbm, ⟨14, _⟩ => ⟨S2x2048, .f32⟩
  | .hbm, ⟨15, _⟩ => ⟨S2x12288, .f32⟩
  | .hbm, ⟨16, _⟩ => ⟨S2x2048, .f32⟩
  | .hbm, ⟨17, _⟩ => ⟨S2x2048, .f32⟩
  | .hbm, ⟨18, _⟩ => ⟨S2x12288, .f32⟩
  | .hbm, ⟨19, _⟩ => ⟨S2x2048, .f32⟩
  | .hbm, ⟨20, _⟩ => ⟨S2x2048, .f32⟩
  | .local _ .vmem, ⟨0, _⟩ => ⟨S2x12288, .f32⟩
  | .local _ .vmem, ⟨1, _⟩ => ⟨S2x2048, .f32⟩
  | .local _ .vmem, ⟨2, _⟩ => ⟨S2x2048, .f32⟩
  | .local _ .vmem, ⟨3, _⟩ => ⟨S2x12288, .f32⟩
  | .local _ .vmem, ⟨4, _⟩ => ⟨S2x2048, .f32⟩
  | .local _ .vmem, ⟨5, _⟩ => ⟨S2x2048, .f32⟩
  | .local _ .vmem, ⟨6, _⟩ => ⟨S2x12288, .f32⟩
  | .local _ .vmem, ⟨7, _⟩ => ⟨S2x2048, .f32⟩
  | .local _ .vmem, ⟨8, _⟩ => ⟨S2x2048, .f32⟩
  | .local _ .vmem, ⟨9, _⟩ => ⟨S2x12288, .f32⟩
  | .local _ .vmem, ⟨10, _⟩ => ⟨S2x2048, .f32⟩
  | .local _ .vmem, ⟨11, _⟩ => ⟨S2x2048, .f32⟩
  | .local _ .vmem, ⟨12, _⟩ => ⟨S2x12288, .f32⟩
  | .local _ .vmem, ⟨13, _⟩ => ⟨S2x2048, .f32⟩
  | .local _ .vmem, ⟨14, _⟩ => ⟨S2x2048, .f32⟩
  | .local _ .vmem, ⟨15, _⟩ => ⟨S2x12288, .f32⟩
  | .local _ .vmem, ⟨16, _⟩ => ⟨S2x2048, .f32⟩
  | .local _ .vmem, ⟨17, _⟩ => ⟨S2x2048, .f32⟩
  | .local _ .vmem, ⟨18, _⟩ => ⟨S2x12288, .f32⟩
  | .local _ .vmem, ⟨19, _⟩ => ⟨S2x2048, .f32⟩
  | .local _ .vmem, ⟨20, _⟩ => ⟨S2x2048, .f32⟩
  | _, _ => ⟨S2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x12288 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x12288 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x12288 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x12288 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallAIdeal.lean ====
abbrev S2x12288 : Shape := ⟨2, ![2, 12288]⟩
abbrev S2x2048 : Shape := ⟨2, ![2, 2048]⟩

abbrev nBuf : Space → Nat
  | .hbm => 21
  | .vmem => 21
  | .smem => 0
  | _ => 0

abbrev bufTy : (tb : Table) → Fin (tcTables nBuf tb) → BufTy
  | .hbm, ⟨0, _⟩ => ⟨S2x12288, .f32⟩
  | .hbm, ⟨1, _⟩ => ⟨S2x2048, .f32⟩
  | .hbm, ⟨2, _⟩ => ⟨S2x2048, .f32⟩
  | .hbm, ⟨3, _⟩ => ⟨S2x12288, .f32⟩
  | .hbm, ⟨4, _⟩ => ⟨S2x2048, .f32⟩
  | .hbm, ⟨5, _⟩ => ⟨S2x2048, .f32⟩
  | .hbm, ⟨6, _⟩ => ⟨S2x12288, .f32⟩
  | .hbm, ⟨7, _⟩ => ⟨S2x2048, .f32⟩
  | .hbm, ⟨8, _⟩ => ⟨S2x2048, .f32⟩
  | .hbm, ⟨9, _⟩ => ⟨S2x12288, .f32⟩
  | .hbm, ⟨10, _⟩ => ⟨S2x2048, .f32⟩
  | .hbm, ⟨11, _⟩ => ⟨S2x2048, .f32⟩
  | .hbm, ⟨12, _⟩ => ⟨S2x12288, .f32⟩
  | .hbm, ⟨13, _⟩ => ⟨S2x2048, .f32⟩
  | .hbm, ⟨14, _⟩ => ⟨S2x2048, .f32⟩
  | .hbm, ⟨15, _⟩ => ⟨S2x12288, .f32⟩
  | .hbm, ⟨16, _⟩ => ⟨S2x2048, .f32⟩
  | .hbm, ⟨17, _⟩ => ⟨S2x2048, .f32⟩
  | .hbm, ⟨18, _⟩ => ⟨S2x12288, .f32⟩
  | .hbm, ⟨19, _⟩ => ⟨S2x2048, .f32⟩
  | .hbm, ⟨20, _⟩ => ⟨S2x2048, .f32⟩
  | .local _ .vmem, ⟨0, _⟩ => ⟨S2x12288, .f32⟩
  | .local _ .vmem, ⟨1, _⟩ => ⟨S2x2048, .f32⟩
  | .local _ .vmem, ⟨2, _⟩ => ⟨S2x2048, .f32⟩
  | .local _ .vmem, ⟨3, _⟩ => ⟨S2x12288, .f32⟩
  | .local _ .vmem, ⟨4, _⟩ => ⟨S2x2048, .f32⟩
  | .local _ .vmem, ⟨5, _⟩ => ⟨S2x2048, .f32⟩
  | .local _ .vmem, ⟨6, _⟩ => ⟨S2x12288, .f32⟩
  | .local _ .vmem, ⟨7, _⟩ => ⟨S2x2048, .f32⟩
  | .local _ .vmem, ⟨8, _⟩ => ⟨S2x2048, .f32⟩
  | .local _ .vmem, ⟨9, _⟩ => ⟨S2x12288, .f32⟩
  | .local _ .vmem, ⟨10, _⟩ => ⟨S2x2048, .f32⟩
  | .local _ .vmem, ⟨11, _⟩ => ⟨S2x2048, .f32⟩
  | .local _ .vmem, ⟨12, _⟩ => ⟨S2x12288, .f32⟩
  | .local _ .vmem, ⟨13, _⟩ => ⟨S2x2048, .f32⟩
  | .local _ .vmem, ⟨14, _⟩ => ⟨S2x2048, .f32⟩
  | .local _ .vmem, ⟨15, _⟩ => ⟨S2x12288, .f32⟩
  | .local _ .vmem, ⟨16, _⟩ => ⟨S2x2048, .f32⟩
  | .local _ .vmem, ⟨17, _⟩ => ⟨S2x2048, .f32⟩
  | .local _ .vmem, ⟨18, _⟩ => ⟨S2x12288, .f32⟩
  | .local _ .vmem, ⟨19, _⟩ => ⟨S2x2048, .f32⟩
  | .local _ .vmem, ⟨20, _⟩ => ⟨S2x2048, .f32⟩
  | _, _ => ⟨S2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := .none

abbrev stage0_0 : Fin 1 → Memref sig .tc .vmem S2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x12288 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x12288 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x12288 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x12288 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== RefAdamSmallAIdeal.lean ====
abbrev S2x12288 : Shape := ⟨2, ![2, 12288]⟩
abbrev S2x2048 : Shape := ⟨2, ![2, 2048]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x12288, .f32⟩
  | .hbm, ⟨1, _⟩ => ⟨S2x2048, .f32⟩
  | .hbm, ⟨2, _⟩ => ⟨S2x2048, .f32⟩
  | .hbm, ⟨3, _⟩ => ⟨S2x12288, .f32⟩
  | .hbm, ⟨4, _⟩ => ⟨S2x2048, .f32⟩
  | .hbm, ⟨5, _⟩ => ⟨S2x2048, .f32⟩
  | .hbm, ⟨6, _⟩ => ⟨S2x12288, .f32⟩
  | .hbm, ⟨7, _⟩ => ⟨S2x2048, .f32⟩
  | .hbm, ⟨8, _⟩ => ⟨S2x2048, .f32⟩
  | .hbm, ⟨9, _⟩ => ⟨S2x12288, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S2x12288, .f32⟩
  | .hbm, ⟨14, _⟩ => ⟨S2x12288, .f32⟩
  | .hbm, ⟨15, _⟩ => ⟨S_, .f32⟩
  | .hbm, ⟨16, _⟩ => ⟨S2x12288, .f32⟩
  | .hbm, ⟨17, _⟩ => ⟨S2x12288, .f32⟩
  | .hbm, ⟨18, _⟩ => ⟨S2x12288, .f32⟩
  | .hbm, ⟨19, _⟩ => ⟨S_, .f32⟩
  | .hbm, ⟨20, _⟩ => ⟨S2x12288, .f32⟩
  | .hbm, ⟨21, _⟩ => ⟨S2x12288, .f32⟩
  | .hbm, ⟨22, _⟩ => ⟨S2x12288, .f32⟩
  | .hbm, ⟨23, _⟩ => ⟨S_, .f32⟩
  | .hbm, ⟨24, _⟩ => ⟨S2x12288, .f32⟩
  | .hbm, ⟨25, _⟩ => ⟨S2x12288, .f32⟩
  | .hbm, ⟨26, _⟩ => ⟨S2x12288, .f32⟩
  | .hbm, ⟨27, _⟩ => ⟨S_, .f32⟩
  | .hbm, ⟨28, _⟩ => ⟨S2x12288, .f32⟩
  | .hbm, ⟨29, _⟩ => ⟨S2x12288, .f32⟩
  | .hbm, ⟨30, _⟩ => ⟨S_, .f32⟩
  | .hbm, ⟨31, _⟩ => ⟨S2x12288, .f32⟩
  | .hbm, ⟨32, _⟩ => ⟨S2x12288, .f32⟩
  | .hbm, ⟨33, _⟩ => ⟨S2x12288, .f32⟩
  | .hbm, ⟨34, _⟩ => ⟨S_, .f32⟩
  | .hbm, ⟨35, _⟩ => ⟨S2x12288, .f32⟩
  | .hbm, ⟨36, _⟩ => ⟨S2x12288, .f32⟩
  | .hbm, ⟨37, _⟩ => ⟨S2x12288, .f32⟩
  | .hbm, ⟨38, _⟩ => ⟨S_, .f32⟩
  | .hbm, ⟨39, _⟩ => ⟨S2x12288, .f32⟩
  | .hbm, ⟨40, _⟩ => ⟨S2x12288, .f32⟩
  | .hbm, ⟨41, _⟩ => ⟨S2x12288, .f32⟩
  | .hbm, ⟨42, _⟩ => ⟨S_, .f32⟩
  | .hbm, ⟨43, _⟩ => ⟨S2x12288, .f32⟩
  | .hbm, ⟨44, _⟩ => ⟨S2x12288, .f32⟩
  | .hbm, ⟨45, _⟩ => ⟨S_, .f32⟩
  | .hbm, ⟨46, _⟩ => ⟨S2x2048, .f32⟩
  | .hbm, ⟨47, _⟩ => ⟨S2x2048, .f32⟩
  | .hbm, ⟨48, _⟩ => ⟨S_, .f32⟩
  | .hbm, ⟨49, _⟩ => ⟨S2x2048, .f32⟩
  | .hbm, ⟨50, _⟩ => ⟨S2x2048, .f32⟩
  | .hbm, ⟨51, _⟩ => ⟨S2x2048, .f32⟩
  | .hbm, ⟨52, _⟩ => ⟨S_, .f32⟩
  | .hbm, ⟨53, _⟩ => ⟨S2x2048, .f32⟩
  | .hbm, ⟨54, _⟩ => ⟨S2x2048, .f32⟩
  | .hbm, ⟨55, _⟩ => ⟨S2x2048, .f32⟩
  | .hbm, ⟨56, _⟩ => ⟨S_, .f32⟩
  | .hbm, ⟨57, _⟩ => ⟨S2x2048, .f32⟩
  | .hbm, ⟨58, _⟩ => ⟨S2x2048, .f32⟩
  | .hbm, ⟨59, _⟩ => ⟨S2x2048, .f32⟩
  | .hbm, ⟨60, _⟩ => ⟨S_, .f32⟩
  | .hbm, ⟨61, _⟩ => ⟨S2x2048, .f32⟩
  | .hbm, ⟨62, _⟩ => ⟨S2x2048, .f32⟩
  | .hbm, ⟨63, _⟩ => ⟨S_, .f32⟩
  | .hbm, ⟨64, _⟩ => ⟨S2x2048, .f32⟩
  | .hbm, ⟨65, _⟩ => ⟨S2x2048, .f32⟩
  | .hbm, ⟨66, _⟩ => ⟨S2x2048, .f32⟩
  | .hbm, ⟨67, _⟩ => ⟨S_, .f32⟩
  | .hbm, ⟨68, _⟩ => ⟨S2x2048, .f32⟩
  | .hbm, ⟨69, _⟩ => ⟨S2x2048, .f32⟩
  | .hbm, ⟨70, _⟩ => ⟨S2x2048, .f32⟩
  | .hbm, ⟨71, _⟩ => ⟨S_, .f32⟩
  | .hbm, ⟨72, _⟩ => ⟨S2x2048, .f32⟩
  | .hbm, ⟨73, _⟩ => ⟨S2x2048, .f32⟩
  | .hbm, ⟨74, _⟩ => ⟨S2x2048, .f32⟩
  | .hbm, ⟨75, _⟩ => ⟨S_, .f32⟩
  | .hbm, ⟨76, _⟩ => ⟨S2x2048, .f32⟩
  | .hbm, ⟨77, _⟩ => ⟨S2x2048, .f32⟩
  | .hbm, ⟨78, _⟩ => ⟨S_, .f32⟩
  | .hbm, ⟨79, _⟩ => ⟨S2x2048, .f32⟩
  | .hbm, ⟨80, _⟩ => ⟨S2x2048, .f32⟩
  | .hbm, ⟨81, _⟩ => ⟨S_, .f32⟩
  | .hbm, ⟨82, _⟩ => ⟨S2x2048, .f32⟩
  | .hbm, ⟨83, _⟩ => ⟨S2x2048, .f32⟩
  | .hbm, ⟨84, _⟩ => ⟨S2x2048, .f32⟩
  | .hbm, ⟨85, _⟩ => ⟨S_, .f32⟩
  | .hbm, ⟨86, _⟩ => ⟨S2x2048, .f32⟩
  | .hbm, ⟨87, _⟩ => ⟨S2x2048, .f32⟩
  | .hbm, ⟨88, _⟩ => ⟨S2x2048, .f32⟩
  | .hbm, ⟨89, _⟩ => ⟨S_, .f32⟩
  | .hbm, ⟨90, _⟩ => ⟨S2x2048, .f32⟩
  | .hbm, ⟨91, _⟩ => ⟨S2x2048, .f32⟩
  | .hbm, ⟨92, _⟩ => ⟨S2x2048, .f32⟩
  | .hbm, ⟨93, _⟩ => ⟨S_, .f32⟩
  | .hbm, ⟨94, _⟩ => ⟨S2x2048, .f32⟩
  | .hbm, ⟨95, _⟩ => ⟨S2x2048, .f32⟩
  | .hbm, ⟨96, _⟩ => ⟨S_, .f32⟩
  | .hbm, ⟨97, _⟩ => ⟨S2x2048, .f32⟩
  | .hbm, ⟨98, _⟩ => ⟨S2x2048, .f32⟩
  | .hbm, ⟨99, _⟩ => ⟨S2x2048, .f32⟩
  | .hbm, ⟨100, _⟩ => ⟨S_, .f32⟩
  | .hbm, ⟨101, _⟩ => ⟨S2x2048, .f32⟩
  | .hbm, ⟨102, _⟩ => ⟨S2x2048, .f32⟩
  | .hbm, ⟨103, _⟩ => ⟨S2x2048, .f32⟩
  | .hbm, ⟨104, _⟩ => ⟨S_, .f32⟩
  | .hbm, ⟨105, _⟩ => ⟨S2x2048, .f32⟩
  | .hbm, ⟨106, _⟩ => ⟨S2x2048, .f32⟩
  | .hbm, ⟨107, _⟩ => ⟨S2x2048, .f32⟩
  | .hbm, ⟨108, _⟩ => ⟨S_, .f32⟩
  | .hbm, ⟨109, _⟩ => ⟨S2x2048, .f32⟩
  | .hbm, ⟨110, _⟩ => ⟨S2x2048, .f32⟩
  | _, _ => ⟨S2x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallB.lean ====
abbrev S2x16 : Shape := ⟨2, ![2, 16]⟩
abbrev S8x1024 : Shape := ⟨2, ![8, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x16, .f32⟩
  | .hbm, ⟨1, _⟩ => ⟨S8x1024, .f32⟩
  | .hbm, ⟨2, _⟩ => ⟨S8x1024, .f32⟩
  | .hbm, ⟨3, _⟩ => ⟨S2x16, .f32⟩
  | .hbm, ⟨4, _⟩ => ⟨S8x1024, .f32⟩
  | .hbm, ⟨5, _⟩ => ⟨S8x1024, .f32⟩
  | .hbm, ⟨6, _⟩ => ⟨S2x16, .f32⟩
  | .hbm, ⟨7, _⟩ => ⟨S8x1024, .f32⟩
  | .hbm, ⟨8, _⟩ => ⟨S8x1024, .f32⟩
  | .hbm, ⟨9, _⟩ => ⟨S2x16, .f32⟩
  | .hbm, ⟨10, _⟩ => ⟨S8x1024, .f32⟩
  | .hbm, ⟨11, _⟩ => ⟨S8x1024, .f32⟩
  | .hbm, ⟨12, _⟩ => ⟨S2x16, .f32⟩
  | .hbm, ⟨13, _⟩ => ⟨S8x1024, .f32⟩
  | .hbm, ⟨14, _⟩ => ⟨S8x1024, .f32⟩
  | .hbm, ⟨15, _⟩ => ⟨S2x16, .f32⟩
  | .hbm, ⟨16, _⟩ => ⟨S8x1024, .f32⟩
  | .hbm, ⟨17, _⟩ => ⟨S8x1024, .f32⟩
  | .hbm, ⟨18, _⟩ => ⟨S2x16, .f32⟩
  | .hbm, ⟨19, _⟩ => ⟨S8x1024, .f32⟩
  | .hbm, ⟨20, _⟩ => ⟨S8x1024, .f32⟩
  | .local _ .vmem, ⟨0, _⟩ => ⟨S2x16, .f32⟩
  | .local _ .vmem, ⟨1, _⟩ => ⟨S8x1024, .f32⟩
  | .local _ .vmem, ⟨2, _⟩ => ⟨S8x1024, .f32⟩
  | .local _ .vmem, ⟨3, _⟩ => ⟨S2x16, .f32⟩
  | .local _ .vmem, ⟨4, _⟩ => ⟨S8x1024, .f32⟩
  | .local _ .vmem, ⟨5, _⟩ => ⟨S8x1024, .f32⟩
  | .local _ .vmem, ⟨6, _⟩ => ⟨S2x16, .f32⟩
  | .local _ .vmem, ⟨7, _⟩ => ⟨S8x1024, .f32⟩
  | .local _ .vmem, ⟨8, _⟩ => ⟨S8x1024, .f32⟩
  | .local _ .vmem, ⟨9, _⟩ => ⟨S2x16, .f32⟩
  | .local _ .vmem, ⟨10, _⟩ => ⟨S8x1024, .f32⟩
  | .local _ .vmem, ⟨11, _⟩ => ⟨S8x1024, .f32⟩
  | .local _ .vmem, ⟨12, _⟩ => ⟨S2x16, .f32⟩
  | .local _ .vmem, ⟨13, _⟩ => ⟨S8x1024, .f32⟩
  | .local _ .vmem, ⟨14, _⟩ => ⟨S8x1024, .f32⟩
  | .local _ .vmem, ⟨15, _⟩ => ⟨S2x16, .f32⟩
  | .local _ .vmem, ⟨16, _⟩ => ⟨S8x1024, .f32⟩
  | .local _ .vmem, ⟨17, _⟩ => ⟨S8x1024, .f32⟩
  | .local _ .vmem, ⟨18, _⟩ => ⟨S2x16, .f32⟩
  | .local _ .vmem, ⟨19, _⟩ => ⟨S8x1024, .f32⟩
  | .local _ .vmem, ⟨20, _⟩ => ⟨S8x1024, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallBIdeal.lean ====
abbrev S2x16 : Shape := ⟨2, ![2, 16]⟩
abbrev S8x1024 : Shape := ⟨2, ![8, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x16, .f32⟩
  | .hbm, ⟨1, _⟩ => ⟨S8x1024, .f32⟩
  | .hbm, ⟨2, _⟩ => ⟨S8x1024, .f32⟩
  | .hbm, ⟨3, _⟩ => ⟨S2x16, .f32⟩
  | .hbm, ⟨4, _⟩ => ⟨S8x1024, .f32⟩
  | .hbm, ⟨5, _⟩ => ⟨S8x1024, .f32⟩
  | .hbm, ⟨6, _⟩ => ⟨S2x16, .f32⟩
  | .hbm, ⟨7, _⟩ => ⟨S8x1024, .f32⟩
  | .hbm, ⟨8, _⟩ => ⟨S8x1024, .f32⟩
  | .hbm, ⟨9, _⟩ => ⟨S2x16, .f32⟩
  | .hbm, ⟨10, _⟩ => ⟨S8x1024, .f32⟩
  | .hbm, ⟨11, _⟩ => ⟨S8x1024, .f32⟩
  | .hbm, ⟨12, _⟩ => ⟨S2x16, .f32⟩
  | .hbm, ⟨13, _⟩ => ⟨S8x1024, .f32⟩
  | .hbm, ⟨14, _⟩ => ⟨S8x1024, .f32⟩
  | .hbm, ⟨15, _⟩ => ⟨S2x16, .f32⟩
  | .hbm, ⟨16, _⟩ => ⟨S8x1024, .f32⟩
  | .hbm, ⟨17, _⟩ => ⟨S8x1024, .f32⟩
  | .hbm, ⟨18, _⟩ => ⟨S2x16, .f32⟩
  | .hbm, ⟨19, _⟩ => ⟨S8x1024, .f32⟩
  | .hbm, ⟨20, _⟩ => ⟨S8x1024, .f32⟩
  | .local _ .vmem, ⟨0, _⟩ => ⟨S2x16, .f32⟩
  | .local _ .vmem, ⟨1, _⟩ => ⟨S8x1024, .f32⟩
  | .local _ .vmem, ⟨2, _⟩ => ⟨S8x1024, .f32⟩
  | .local _ .vmem, ⟨3, _⟩ => ⟨S2x16, .f32⟩
  | .local _ .vmem, ⟨4, _⟩ => ⟨S8x1024, .f32⟩
  | .local _ .vmem, ⟨5, _⟩ => ⟨S8x1024, .f32⟩
  | .local _ .vmem, ⟨6, _⟩ => ⟨S2x16, .f32⟩
  | .local _ .vmem, ⟨7, _⟩ => ⟨S8x1024, .f32⟩
  | .local _ .vmem, ⟨8, _⟩ => ⟨S8x1024, .f32⟩
  | .local _ .vmem, ⟨9, _⟩ => ⟨S2x16, .f32⟩
  | .local _ .vmem, ⟨10, _⟩ => ⟨S8x1024, .f32⟩
  | .local _ .vmem, ⟨11, _⟩ => ⟨S8x1024, .f32⟩
  | .local _ .vmem, ⟨12, _⟩ => ⟨S2x16, .f32⟩
  | .local _ .vmem, ⟨13, _⟩ => ⟨S8x1024, .f32⟩
  | .local _ .vmem, ⟨14, _⟩ => ⟨S8x1024, .f32⟩
  | .local _ .vmem, ⟨15, _⟩ => ⟨S2x16, .f32⟩
  | .local _ .vmem, ⟨16, _⟩ => ⟨S8x1024, .f32⟩
  | .local _ .vmem, ⟨17, _⟩ => ⟨S8x1024, .f32⟩
  | .local _ .vmem, ⟨18, _⟩ => ⟨S2x16, .f32⟩
  | .local _ .vmem, ⟨19, _⟩ => ⟨S8x1024, .f32⟩
  | .local _ .vmem, ⟨20, _⟩ => ⟨S8x1024, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== RefAdamSmallBIdeal.lean ====
abbrev S2x16 : Shape := ⟨2, ![2, 16]⟩
abbrev S8x1024 : Shape := ⟨2, ![8, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S8x1024, .f32⟩
  | .hbm, ⟨2, _⟩ => ⟨S8x1024, .f32⟩
  | .hbm, ⟨3, _⟩ => ⟨S2x16, .f32⟩
  | .hbm, ⟨4, _⟩ => ⟨S8x1024, .f32⟩
  | .hbm, ⟨5, _⟩ => ⟨S8x1024, .f32⟩
  | .hbm, ⟨6, _⟩ => ⟨S2x16, .f32⟩
  | .hbm, ⟨7, _⟩ => ⟨S8x1024, .f32⟩
  | .hbm, ⟨8, _⟩ => ⟨S8x1024, .f32⟩
  | .hbm, ⟨9, _⟩ => ⟨S2x16, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S2x16, .f32⟩
  | .hbm, ⟨23, _⟩ => ⟨S_, .f32⟩
  | .hbm, ⟨24, _⟩ => ⟨S2x16, .f32⟩
  | .hbm, ⟨25, _⟩ => ⟨S2x16, .f32⟩
  | .hbm, ⟨26, _⟩ => ⟨S2x16, .f32⟩
  | .hbm, ⟨27, _⟩ => ⟨S_, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | .hbm, ⟨37, _⟩ => ⟨S2x16, .f32⟩
  | .hbm, ⟨38, _⟩ => ⟨S_, .f32⟩
  | .hbm, ⟨39, _⟩ => ⟨S2x16, .f32⟩
  | .hbm, ⟨40, _⟩ => ⟨S2x16, .f32⟩
  | .hbm, ⟨41, _⟩ => ⟨S2x16, .f32⟩
  | .hbm, ⟨42, _⟩ => ⟨S_, .f32⟩
  | .hbm, ⟨43, _⟩ => ⟨S2x16, .f32⟩
  | .hbm, ⟨44, _⟩ => ⟨S2x16, .f32⟩
  | .hbm, ⟨45, _⟩ => ⟨S_, .f32⟩
  | .hbm, ⟨46, _⟩ => ⟨S8x1024, .f32⟩
  | .hbm, ⟨47, _⟩ => ⟨S8x1024, .f32⟩
  | .hbm, ⟨48, _⟩ => ⟨S_, .f32⟩
  | .hbm, ⟨49, _⟩ => ⟨S8x1024, .f32⟩
  | .hbm, ⟨50, _⟩ => ⟨S8x1024, .f32⟩
  | .hbm, ⟨51, _⟩ => ⟨S8x1024, .f32⟩
  | .hbm, ⟨52, _⟩ => ⟨S_, .f32⟩
  | .hbm, ⟨53, _⟩ => ⟨S8x1024, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8x1024, .f32⟩
  | .hbm, ⟨58, _⟩ => ⟨S8x1024, .f32⟩
  | .hbm, ⟨59, _⟩ => ⟨S8x1024, .f32⟩
  | .hbm, ⟨60, _⟩ => ⟨S_, .f32⟩
  | .hbm, ⟨61, _⟩ => ⟨S8x1024, .f32⟩
  | .hbm, ⟨62, _⟩ => ⟨S8x1024, .f32⟩
  | .hbm, ⟨63, _⟩ => ⟨S_, .f32⟩
  | .hbm, ⟨64, _⟩ => ⟨S8x1024, .f32⟩
  | .hbm, ⟨65, _⟩ => ⟨S8x1024, .f32⟩
  | .hbm, ⟨66, _⟩ => ⟨S8x1024, .f32⟩
  | .hbm, ⟨67, _⟩ => ⟨S_, .f32⟩
  | .hbm, ⟨68, _⟩ => ⟨S8x1024, .f32⟩
  | .hbm, ⟨69, _⟩ => ⟨S8x1024, .f32⟩
  | .hbm, ⟨70, _⟩ => ⟨S8x1024, .f32⟩
  | .hbm, ⟨71, _⟩ => ⟨S_, .f32⟩
  | .hbm, ⟨72, _⟩ => ⟨S8x1024, .f32⟩
  | .hbm, ⟨73, _⟩ => ⟨S8x1024, .f32⟩
  | .hbm, ⟨74, _⟩ => ⟨S8x1024, .f32⟩
  | .hbm, ⟨75, _⟩ => ⟨S_, .f32⟩
  | .hbm, ⟨76, _⟩ => ⟨S8x1024, .f32⟩
  | .hbm, ⟨77, _⟩ => ⟨S8x1024, .f32⟩
  | .hbm, ⟨78, _⟩ => ⟨S_, .f32⟩
  | .hbm, ⟨79, _⟩ => ⟨S8x1024, .f32⟩
  | .hbm, ⟨80, _⟩ => ⟨S8x1024, .f32⟩
  | .hbm, ⟨81, _⟩ => ⟨S_, .f32⟩
  | .hbm, ⟨82, _⟩ => ⟨S8x1024, .f32⟩
  | .hbm, ⟨83, _⟩ => ⟨S8x1024, .f32⟩
  | .hbm, ⟨84, _⟩ => ⟨S8x1024, .f32⟩
  | .hbm, ⟨85, _⟩ => ⟨S_, .f32⟩
  | .hbm, ⟨86, _⟩ => ⟨S8x1024, .f32⟩
  | .hbm, ⟨87, _⟩ => ⟨S8x1024, .f32⟩
  | .hbm, ⟨88, _⟩ => ⟨S8x1024, .f32⟩
  | .hbm, ⟨89, _⟩ => ⟨S_, .f32⟩
  | .hbm, ⟨90, _⟩ => ⟨S8x1024, .f32⟩
  | .hbm, ⟨91, _⟩ => ⟨S8x1024, .f32⟩
  | .hbm, ⟨92, _⟩ => ⟨S8x1024, .f32⟩
  | .hbm, ⟨93, _⟩ => ⟨S_, .f32⟩
  | .hbm, ⟨94, _⟩ => ⟨S8x1024, .f32⟩
  | .hbm, ⟨95, _⟩ => ⟨S8x1024, .f32⟩
  | .hbm, ⟨96, _⟩ => ⟨S_, .f32⟩
  | .hbm, ⟨97, _⟩ => ⟨S8x1024, .f32⟩
  | .hbm, ⟨98, _⟩ => ⟨S8x1024, .f32⟩
  | .hbm, ⟨99, _⟩ => ⟨S8x1024, .f32⟩
  | .hbm, ⟨100, _⟩ => ⟨S_, .f32⟩
  | .hbm, ⟨101, _⟩ => ⟨S8x1024, .f32⟩
  | .hbm, ⟨102, _⟩ => ⟨S8x1024, .f32⟩
  | .hbm, ⟨103, _⟩ => ⟨S8x1024, .f32⟩
  | .hbm, ⟨104, _⟩ => ⟨S_, .f32⟩
  | .hbm, ⟨105, _⟩ => ⟨S8x1024, .f32⟩
  | .hbm, ⟨106, _⟩ => ⟨S8x1024, .f32⟩
  | .hbm, ⟨107, _⟩ => ⟨S8x1024, .f32⟩
  | .hbm, ⟨108, _⟩ => ⟨S_, .f32⟩
  | .hbm, ⟨109, _⟩ => ⟨S8x1024, .f32⟩
  | .hbm, ⟨110, _⟩ => ⟨S8x1024, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallC.lean ====
abbrev S2x64 : Shape := ⟨2, ![2, 64]⟩
abbrev S128x1024 : Shape := ⟨2, ![128, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x64, .f32⟩
  | .hbm, ⟨1, _⟩ => ⟨S128x1024, .f32⟩
  | .hbm, ⟨2, _⟩ => ⟨S128x1024, .f32⟩
  | .hbm, ⟨3, _⟩ => ⟨S2x64, .f32⟩
  | .hbm, ⟨4, _⟩ => ⟨S128x1024, .f32⟩
  | .hbm, ⟨5, _⟩ => ⟨S128x1024, .f32⟩
  | .hbm, ⟨6, _⟩ => ⟨S2x64, .f32⟩
  | .hbm, ⟨7, _⟩ => ⟨S128x1024, .f32⟩
  | .hbm, ⟨8, _⟩ => ⟨S128x1024, .f32⟩
  | .hbm, ⟨9, _⟩ => ⟨S2x64, .f32⟩
  | .hbm, ⟨10, _⟩ => ⟨S128x1024, .f32⟩
  | .hbm, ⟨11, _⟩ => ⟨S128x1024, .f32⟩
  | .hbm, ⟨12, _⟩ => ⟨S2x64, .f32⟩
  | .hbm, ⟨13, _⟩ => ⟨S128x1024, .f32⟩
  | .hbm, ⟨14, _⟩ => ⟨S128x1024, .f32⟩
  | .hbm, ⟨15, _⟩ => ⟨S2x64, .f32⟩
  | .hbm, ⟨16, _⟩ => ⟨S128x1024, .f32⟩
  | .hbm, ⟨17, _⟩ => ⟨S128x1024, .f32⟩
  | .hbm, ⟨18, _⟩ => ⟨S2x64, .f32⟩
  | .hbm, ⟨19, _⟩ => ⟨S128x1024, .f32⟩
  | .hbm, ⟨20, _⟩ => ⟨S128x1024, .f32⟩
  | .local _ .vmem, ⟨0, _⟩ => ⟨S2x64, .f32⟩
  | .local _ .vmem, ⟨1, _⟩ => ⟨S128x1024, .f32⟩
  | .local _ .vmem, ⟨2, _⟩ => ⟨S128x1024, .f32⟩
  | .local _ .vmem, ⟨3, _⟩ => ⟨S2x64, .f32⟩
  | .local _ .vmem, ⟨4, _⟩ => ⟨S128x1024, .f32⟩
  | .local _ .vmem, ⟨5, _⟩ => ⟨S128x1024, .f32⟩
  | .local _ .vmem, ⟨6, _⟩ => ⟨S2x64, .f32⟩
  | .local _ .vmem, ⟨7, _⟩ => ⟨S128x1024, .f32⟩
  | .local _ .vmem, ⟨8, _⟩ => ⟨S128x1024, .f32⟩
  | .local _ .vmem, ⟨9, _⟩ => ⟨S2x64, .f32⟩
  | .local _ .vmem, ⟨10, _⟩ => ⟨S128x1024, .f32⟩
  | .local _ .vmem, ⟨11, _⟩ => ⟨S128x1024, .f32⟩
  | .local _ .vmem, ⟨12, _⟩ => ⟨S2x64, .f32⟩
  | .local _ .vmem, ⟨13, _⟩ => ⟨S128x1024, .f32⟩
  | .local _ .vmem, ⟨14, _⟩ => ⟨S128x1024, .f32⟩
  | .local _ .vmem, ⟨15, _⟩ => ⟨S2x64, .f32⟩
  | .local _ .vmem, ⟨16, _⟩ => ⟨S128x1024, .f32⟩
  | .local _ .vmem, ⟨17, _⟩ => ⟨S128x1024, .f32⟩
  | .local _ .vmem, ⟨18, _⟩ => ⟨S2x64, .f32⟩
  | .local _ .vmem, ⟨19, _⟩ => ⟨S128x1024, .f32⟩
  | .local _ .vmem, ⟨20, _⟩ => ⟨S128x1024, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallCIdeal.lean ====
abbrev S2x64 : Shape := ⟨2, ![2, 64]⟩
abbrev S128x1024 : Shape := ⟨2, ![128, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x64, .f32⟩
  | .hbm, ⟨1, _⟩ => ⟨S128x1024, .f32⟩
  | .hbm, ⟨2, _⟩ => ⟨S128x1024, .f32⟩
  | .hbm, ⟨3, _⟩ => ⟨S2x64, .f32⟩
  | .hbm, ⟨4, _⟩ => ⟨S128x1024, .f32⟩
  | .hbm, ⟨5, _⟩ => ⟨S128x1024, .f32⟩
  | .hbm, ⟨6, _⟩ => ⟨S2x64, .f32⟩
  | .hbm, ⟨7, _⟩ => ⟨S128x1024, .f32⟩
  | .hbm, ⟨8, _⟩ => ⟨S128x1024, .f32⟩
  | .hbm, ⟨9, _⟩ => ⟨S2x64, .f32⟩
  | .hbm, ⟨10, _⟩ => ⟨S128x1024, .f32⟩
  | .hbm, ⟨11, _⟩ => ⟨S128x1024, .f32⟩
  | .hbm, ⟨12, _⟩ => ⟨S2x64, .f32⟩
  | .hbm, ⟨13, _⟩ => ⟨S128x1024, .f32⟩
  | .hbm, ⟨14, _⟩ => ⟨S128x1024, .f32⟩
  | .hbm, ⟨15, _⟩ => ⟨S2x64, .f32⟩
  | .hbm, ⟨16, _⟩ => ⟨S128x1024, .f32⟩
  | .hbm, ⟨17, _⟩ => ⟨S128x1024, .f32⟩
  | .hbm, ⟨18, _⟩ => ⟨S2x64, .f32⟩
  | .hbm, ⟨19, _⟩ => ⟨S128x1024, .f32⟩
  | .hbm, ⟨20, _⟩ => ⟨S128x1024, .f32⟩
  | .local _ .vmem, ⟨0, _⟩ => ⟨S2x64, .f32⟩
  | .local _ .vmem, ⟨1, _⟩ => ⟨S128x1024, .f32⟩
  | .local _ .vmem, ⟨2, _⟩ => ⟨S128x1024, .f32⟩
  | .local _ .vmem, ⟨3, _⟩ => ⟨S2x64, .f32⟩
  | .local _ .vmem, ⟨4, _⟩ => ⟨S128x1024, .f32⟩
  | .local _ .vmem, ⟨5, _⟩ => ⟨S128x1024, .f32⟩
  | .local _ .vmem, ⟨6, _⟩ => ⟨S2x64, .f32⟩
  | .local _ .vmem, ⟨7, _⟩ => ⟨S128x1024, .f32⟩
  | .local _ .vmem, ⟨8, _⟩ => ⟨S128x1024, .f32⟩
  | .local _ .vmem, ⟨9, _⟩ => ⟨S2x64, .f32⟩
  | .local _ .vmem, ⟨10, _⟩ => ⟨S128x1024, .f32⟩
  | .local _ .vmem, ⟨11, _⟩ => ⟨S128x1024, .f32⟩
  | .local _ .vmem, ⟨12, _⟩ => ⟨S2x64, .f32⟩
  | .local _ .vmem, ⟨13, _⟩ => ⟨S128x1024, .f32⟩
  | .local _ .vmem, ⟨14, _⟩ => ⟨S128x1024, .f32⟩
  | .local _ .vmem, ⟨15, _⟩ => ⟨S2x64, .f32⟩
  | .local _ .vmem, ⟨16, _⟩ => ⟨S128x1024, .f32⟩
  | .local _ .vmem, ⟨17, _⟩ => ⟨S128x1024, .f32⟩
  | .local _ .vmem, ⟨18, _⟩ => ⟨S2x64, .f32⟩
  | .local _ .vmem, ⟨19, _⟩ => ⟨S128x1024, .f32⟩
  | .local _ .vmem, ⟨20, _⟩ => ⟨S128x1024, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := .none

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== RefAdamSmallCIdeal.lean ====
abbrev S2x64 : Shape := ⟨2, ![2, 64]⟩
abbrev S128x1024 : Shape := ⟨2, ![128, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S128x1024, .f32⟩
  | .hbm, ⟨2, _⟩ => ⟨S128x1024, .f32⟩
  | .hbm, ⟨3, _⟩ => ⟨S2x64, .f32⟩
  | .hbm, ⟨4, _⟩ => ⟨S128x1024, .f32⟩
  | .hbm, ⟨5, _⟩ => ⟨S128x1024, .f32⟩
  | .hbm, ⟨6, _⟩ => ⟨S2x64, .f32⟩
  | .hbm, ⟨7, _⟩ => ⟨S128x1024, .f32⟩
  | .hbm, ⟨8, _⟩ => ⟨S128x1024, .f32⟩
  | .hbm, ⟨9, _⟩ => ⟨S2x64, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S2x64, .f32⟩
  | .hbm, ⟨23, _⟩ => ⟨S_, .f32⟩
  | .hbm, ⟨24, _⟩ => ⟨S2x64, .f32⟩
  | .hbm, ⟨25, _⟩ => ⟨S2x64, .f32⟩
  | .hbm, ⟨26, _⟩ => ⟨S2x64, .f32⟩
  | .hbm, ⟨27, _⟩ => ⟨S_, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | .hbm, ⟨37, _⟩ => ⟨S2x64, .f32⟩
  | .hbm, ⟨38, _⟩ => ⟨S_, .f32⟩
  | .hbm, ⟨39, _⟩ => ⟨S2x64, .f32⟩
  | .hbm, ⟨40, _⟩ => ⟨S2x64, .f32⟩
  | .hbm, ⟨41, _⟩ => ⟨S2x64, .f32⟩
  | .hbm, ⟨42, _⟩ => ⟨S_, .f32⟩
  | .hbm, ⟨43, _⟩ => ⟨S2x64, .f32⟩
  | .hbm, ⟨44, _⟩ => ⟨S2x64, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S_, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S_, .f32⟩
  | .hbm, ⟨76, _⟩ => ⟨S128x1024, .f32⟩
  | .hbm, ⟨77, _⟩ => ⟨S128x1024, .f32⟩
  | .hbm, ⟨78, _⟩ => ⟨S_, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128x1024, .f32⟩
  | .hbm, ⟨83, _⟩ => ⟨S128x1024, .f32⟩
  | .hbm, ⟨84, _⟩ => ⟨S128x1024, .f32⟩
  | .hbm, ⟨85, _⟩ => ⟨S_, .f32⟩
  | .hbm, ⟨86, _⟩ => ⟨S128x1024, .f32⟩
  | .hbm, ⟨87, _⟩ => ⟨S128x1024, .f32⟩
  | .hbm, ⟨88, _⟩ => ⟨S128x1024, .f32⟩
  | .hbm, ⟨89, _⟩ => ⟨S_, .f32⟩
  | .hbm, ⟨90, _⟩ => ⟨S128x1024, .f32⟩
  | .hbm, ⟨91, _⟩ => ⟨S128x1024, .f32⟩
  | .hbm, ⟨92, _⟩ => ⟨S128x1024, .f32⟩
  | .hbm, ⟨93, _⟩ => ⟨S_, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S_, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S_, .f32⟩
  | .hbm, ⟨109, _⟩ => ⟨S128x1024, .f32⟩
  | .hbm, ⟨110, _⟩ => ⟨S128x1024, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallD.lean ====
abbrev S128x1024 : Shape := ⟨2, ![128, 1024]⟩
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S2x1024, .f32⟩
  | .hbm, ⟨3, _⟩ => ⟨S128x1024, .f32⟩
  | .hbm, ⟨4, _⟩ => ⟨S128x1024, .f32⟩
  | .hbm, ⟨5, _⟩ => ⟨S2x1024, .f32⟩
  | .hbm, ⟨6, _⟩ => ⟨S128x1024, .f32⟩
  | .hbm, ⟨7, _⟩ => ⟨S128x1024, .f32⟩
  | .hbm, ⟨8, _⟩ => ⟨S2x1024, .f32⟩
  | .hbm, ⟨9, _⟩ => ⟨S128x1024, .f32⟩
  | .hbm, ⟨10, _⟩ => ⟨S128x1024, .f32⟩
  | .hbm, ⟨11, _⟩ => ⟨S2x1024, .f32⟩
  | .hbm, ⟨12, _⟩ => ⟨S128x1024, .f32⟩
  | .hbm, ⟨13, _⟩ => ⟨S128x1024, .f32⟩
  | .hbm, ⟨14, _⟩ => ⟨S2x1024, .f32⟩
  | .hbm, ⟨15, _⟩ => ⟨S128x1024, .f32⟩
  | .hbm, ⟨16, _⟩ => ⟨S128x1024, .f32⟩
  | .hbm, ⟨17, _⟩ => ⟨S2x1024, .f32⟩
  | .hbm, ⟨18, _⟩ => ⟨S128x1024, .f32⟩
  | .hbm, ⟨19, _⟩ => ⟨S128x1024, .f32⟩
  | .hbm, ⟨20, _⟩ => ⟨S2x1024, .f32⟩
  | .local _ .vmem, ⟨0, _⟩ => ⟨S128x1024, .f32⟩
  | .local _ .vmem, ⟨1, _⟩ => ⟨S128x1024, .f32⟩
  | .local _ .vmem, ⟨2, _⟩ => ⟨S2x1024, .f32⟩
  | .local _ .vmem, ⟨3, _⟩ => ⟨S128x1024, .f32⟩
  | .local _ .vmem, ⟨4, _⟩ => ⟨S128x1024, .f32⟩
  | .local _ .vmem, ⟨5, _⟩ => ⟨S2x1024, .f32⟩
  | .local _ .vmem, ⟨6, _⟩ => ⟨S128x1024, .f32⟩
  | .local _ .vmem, ⟨7, _⟩ => ⟨S128x1024, .f32⟩
  | .local _ .vmem, ⟨8, _⟩ => ⟨S2x1024, .f32⟩
  | .local _ .vmem, ⟨9, _⟩ => ⟨S128x1024, .f32⟩
  | .local _ .vmem, ⟨10, _⟩ => ⟨S128x1024, .f32⟩
  | .local _ .vmem, ⟨11, _⟩ => ⟨S2x1024, .f32⟩
  | .local _ .vmem, ⟨12, _⟩ => ⟨S128x1024, .f32⟩
  | .local _ .vmem, ⟨13, _⟩ => ⟨S128x1024, .f32⟩
  | .local _ .vmem, ⟨14, _⟩ => ⟨S2x1024, .f32⟩
  | .local _ .vmem, ⟨15, _⟩ => ⟨S128x1024, .f32⟩
  | .local _ .vmem, ⟨16, _⟩ => ⟨S128x1024, .f32⟩
  | .local _ .vmem, ⟨17, _⟩ => ⟨S2x1024, .f32⟩
  | .local _ .vmem, ⟨18, _⟩ => ⟨S128x1024, .f32⟩
  | .local _ .vmem, ⟨19, _⟩ => ⟨S128x1024, .f32⟩
  | .local _ .vmem, ⟨20, _⟩ => ⟨S2x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallDIdeal.lean ====
abbrev S128x1024 : Shape := ⟨2, ![128, 1024]⟩
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S2x1024, .f32⟩
  | .hbm, ⟨3, _⟩ => ⟨S128x1024, .f32⟩
  | .hbm, ⟨4, _⟩ => ⟨S128x1024, .f32⟩
  | .hbm, ⟨5, _⟩ => ⟨S2x1024, .f32⟩
  | .hbm, ⟨6, _⟩ => ⟨S128x1024, .f32⟩
  | .hbm, ⟨7, _⟩ => ⟨S128x1024, .f32⟩
  | .hbm, ⟨8, _⟩ => ⟨S2x1024, .f32⟩
  | .hbm, ⟨9, _⟩ => ⟨S128x1024, .f32⟩
  | .hbm, ⟨10, _⟩ => ⟨S128x1024, .f32⟩
  | .hbm, ⟨11, _⟩ => ⟨S2x1024, .f32⟩
  | .hbm, ⟨12, _⟩ => ⟨S128x1024, .f32⟩
  | .hbm, ⟨13, _⟩ => ⟨S128x1024, .f32⟩
  | .hbm, ⟨14, _⟩ => ⟨S2x1024, .f32⟩
  | .hbm, ⟨15, _⟩ => ⟨S128x1024, .f32⟩
  | .hbm, ⟨16, _⟩ => ⟨S128x1024, .f32⟩
  | .hbm, ⟨17, _⟩ => ⟨S2x1024, .f32⟩
  | .hbm, ⟨18, _⟩ => ⟨S128x1024, .f32⟩
  | .hbm, ⟨19, _⟩ => ⟨S128x1024, .f32⟩
  | .hbm, ⟨20, _⟩ => ⟨S2x1024, .f32⟩
  | .local _ .vmem, ⟨0, _⟩ => ⟨S128x1024, .f32⟩
  | .local _ .vmem, ⟨1, _⟩ => ⟨S128x1024, .f32⟩
  | .local _ .vmem, ⟨2, _⟩ => ⟨S2x1024, .f32⟩
  | .local _ .vmem, ⟨3, _⟩ => ⟨S128x1024, .f32⟩
  | .local _ .vmem, ⟨4, _⟩ => ⟨S128x1024, .f32⟩
  | .local _ .vmem, ⟨5, _⟩ => ⟨S2x1024, .f32⟩
  | .local _ .vmem, ⟨6, _⟩ => ⟨S128x1024, .f32⟩
  | .local _ .vmem, ⟨7, _⟩ => ⟨S128x1024, .f32⟩
  | .local _ .vmem, ⟨8, _⟩ => ⟨S2x1024, .f32⟩
  | .local _ .vmem, ⟨9, _⟩ => ⟨S128x1024, .f32⟩
  | .local _ .vmem, ⟨10, _⟩ => ⟨S128x1024, .f32⟩
  | .local _ .vmem, ⟨11, _⟩ => ⟨S2x1024, .f32⟩
  | .local _ .vmem, ⟨12, _⟩ => ⟨S128x1024, .f32⟩
  | .local _ .vmem, ⟨13, _⟩ => ⟨S128x1024, .f32⟩
  | .local _ .vmem, ⟨14, _⟩ => ⟨S2x1024, .f32⟩
  | .local _ .vmem, ⟨15, _⟩ => ⟨S128x1024, .f32⟩
  | .local _ .vmem, ⟨16, _⟩ => ⟨S128x1024, .f32⟩
  | .local _ .vmem, ⟨17, _⟩ => ⟨S2x1024, .f32⟩
  | .local _ .vmem, ⟨18, _⟩ => ⟨S128x1024, .f32⟩
  | .local _ .vmem, ⟨19, _⟩ => ⟨S128x1024, .f32⟩
  | .local _ .vmem, ⟨20, _⟩ => ⟨S2x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== RefAdamSmallDIdeal.lean ====
abbrev S128x1024 : Shape := ⟨2, ![128, 1024]⟩
abbrev S2x1024 : Shape := ⟨2, ![2, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S2x1024, .f32⟩
  | .hbm, ⟨3, _⟩ => ⟨S128x1024, .f32⟩
  | .hbm, ⟨4, _⟩ => ⟨S128x1024, .f32⟩
  | .hbm, ⟨5, _⟩ => ⟨S2x1024, .f32⟩
  | .hbm, ⟨6, _⟩ => ⟨S128x1024, .f32⟩
  | .hbm, ⟨7, _⟩ => ⟨S128x1024, .f32⟩
  | .hbm, ⟨8, _⟩ => ⟨S2x1024, .f32⟩
  | .hbm, ⟨9, _⟩ => ⟨S128x1024, .f32⟩
  | .hbm, ⟨10, _⟩ => ⟨S128x1024, .f32⟩
  | .hbm, ⟨11, _⟩ => ⟨S2x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S_, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S_, .f32⟩
  | .hbm, ⟨76, _⟩ => ⟨S128x1024, .f32⟩
  | .hbm, ⟨77, _⟩ => ⟨S128x1024, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S2x1024, .f32⟩
  | .hbm, ⟨83, _⟩ => ⟨S2x1024, .f32⟩
  | .hbm, ⟨84, _⟩ => ⟨S2x1024, .f32⟩
  | .hbm, ⟨85, _⟩ => ⟨S_, .f32⟩
  | .hbm, ⟨86, _⟩ => ⟨S2x1024, .f32⟩
  | .hbm, ⟨87, _⟩ => ⟨S2x1024, .f32⟩
  | .hbm, ⟨88, _⟩ => ⟨S2x1024, .f32⟩
  | .hbm, ⟨89, _⟩ => ⟨S_, .f32⟩
  | .hbm, ⟨90, _⟩ => ⟨S2x1024, .f32⟩
  | .hbm, ⟨91, _⟩ => ⟨S2x1024, .f32⟩
  | .hbm, ⟨92, _⟩ => ⟨S2x1024, .f32⟩
  | .hbm, ⟨93, _⟩ => ⟨S_, .f32⟩
  | .hbm, ⟨94, _⟩ => ⟨S2x1024, .f32⟩
  | .hbm, ⟨95, _⟩ => ⟨S2x1024, .f32⟩
  | .hbm, ⟨96, _⟩ => ⟨S_, .f32⟩
  | .hbm, ⟨97, _⟩ => ⟨S2x1024, .f32⟩
  | .hbm, ⟨98, _⟩ => ⟨S2x1024, .f32⟩
  | .hbm, ⟨99, _⟩ => ⟨S2x1024, .f32⟩
  | .hbm, ⟨100, _⟩ => ⟨S_, .f32⟩
  | .hbm, ⟨101, _⟩ => ⟨S2x1024, .f32⟩
  | .hbm, ⟨102, _⟩ => ⟨S2x1024, .f32⟩
  | .hbm, ⟨103, _⟩ => ⟨S2x1024, .f32⟩
  | .hbm, ⟨104, _⟩ => ⟨S_, .f32⟩
  | .hbm, ⟨105, _⟩ => ⟨S2x1024, .f32⟩
  | .hbm, ⟨106, _⟩ => ⟨S2x1024, .f32⟩
  | .hbm, ⟨107, _⟩ => ⟨S2x1024, .f32⟩
  | .hbm, ⟨108, _⟩ => ⟨S_, .f32⟩
  | .hbm, ⟨109, _⟩ => ⟨S2x1024, .f32⟩
  | .hbm, ⟨110, _⟩ => ⟨S2x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallE.lean ====
abbrev S2x1024 : Shape := ⟨2, ![2, 1024]⟩
abbrev S2x2048 : Shape := ⟨2, ![2, 2048]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x2048, .f32⟩
  | .hbm, ⟨3, _⟩ => ⟨S2x1024, .f32⟩
  | .hbm, ⟨4, _⟩ => ⟨S2x1024, .f32⟩
  | .hbm, ⟨5, _⟩ => ⟨S2x2048, .f32⟩
  | .hbm, ⟨6, _⟩ => ⟨S2x1024, .f32⟩
  | .hbm, ⟨7, _⟩ => ⟨S2x1024, .f32⟩
  | .hbm, ⟨8, _⟩ => ⟨S2x2048, .f32⟩
  | .hbm, ⟨9, _⟩ => ⟨S2x1024, .f32⟩
  | .hbm, ⟨10, _⟩ => ⟨S2x1024, .f32⟩
  | .hbm, ⟨11, _⟩ => ⟨S2x2048, .f32⟩
  | .hbm, ⟨12, _⟩ => ⟨S2x1024, .f32⟩
  | .hbm, ⟨13, _⟩ => ⟨S2x1024, .f32⟩
  | .hbm, ⟨14, _⟩ => ⟨S2x2048, .f32⟩
  | .hbm, ⟨15, _⟩ => ⟨S2x1024, .f32⟩
  | .hbm, ⟨16, _⟩ => ⟨S2x1024, .f32⟩
  | .hbm, ⟨17, _⟩ => ⟨S2x2048, .f32⟩
  | .hbm, ⟨18, _⟩ => ⟨S2x1024, .f32⟩
  | .hbm, ⟨19, _⟩ => ⟨S2x1024, .f32⟩
  | .hbm, ⟨20, _⟩ => ⟨S2x2048, .f32⟩
  | .local _ .vmem, ⟨0, _⟩ => ⟨S2x1024, .f32⟩
  | .local _ .vmem, ⟨1, _⟩ => ⟨S2x1024, .f32⟩
  | .local _ .vmem, ⟨2, _⟩ => ⟨S2x2048, .f32⟩
  | .local _ .vmem, ⟨3, _⟩ => ⟨S2x1024, .f32⟩
  | .local _ .vmem, ⟨4, _⟩ => ⟨S2x1024, .f32⟩
  | .local _ .vmem, ⟨5, _⟩ => ⟨S2x2048, .f32⟩
  | .local _ .vmem, ⟨6, _⟩ => ⟨S2x1024, .f32⟩
  | .local _ .vmem, ⟨7, _⟩ => ⟨S2x1024, .f32⟩
  | .local _ .vmem, ⟨8, _⟩ => ⟨S2x2048, .f32⟩
  | .local _ .vmem, ⟨9, _⟩ => ⟨S2x1024, .f32⟩
  | .local _ .vmem, ⟨10, _⟩ => ⟨S2x1024, .f32⟩
  | .local _ .vmem, ⟨11, _⟩ => ⟨S2x2048, .f32⟩
  | .local _ .vmem, ⟨12, _⟩ => ⟨S2x1024, .f32⟩
  | .local _ .vmem, ⟨13, _⟩ => ⟨S2x1024, .f32⟩
  | .local _ .vmem, ⟨14, _⟩ => ⟨S2x2048, .f32⟩
  | .local _ .vmem, ⟨15, _⟩ => ⟨S2x1024, .f32⟩
  | .local _ .vmem, ⟨16, _⟩ => ⟨S2x1024, .f32⟩
  | .local _ .vmem, ⟨17, _⟩ => ⟨S2x2048, .f32⟩
  | .local _ .vmem, ⟨18, _⟩ => ⟨S2x1024, .f32⟩
  | .local _ .vmem, ⟨19, _⟩ => ⟨S2x1024, .f32⟩
  | .local _ .vmem, ⟨20, _⟩ => ⟨S2x2048, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallEIdeal.lean ====
abbrev S2x1024 : Shape := ⟨2, ![2, 1024]⟩
abbrev S2x2048 : Shape := ⟨2, ![2, 2048]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x2048, .f32⟩
  | .hbm, ⟨3, _⟩ => ⟨S2x1024, .f32⟩
  | .hbm, ⟨4, _⟩ => ⟨S2x1024, .f32⟩
  | .hbm, ⟨5, _⟩ => ⟨S2x2048, .f32⟩
  | .hbm, ⟨6, _⟩ => ⟨S2x1024, .f32⟩
  | .hbm, ⟨7, _⟩ => ⟨S2x1024, .f32⟩
  | .hbm, ⟨8, _⟩ => ⟨S2x2048, .f32⟩
  | .hbm, ⟨9, _⟩ => ⟨S2x1024, .f32⟩
  | .hbm, ⟨10, _⟩ => ⟨S2x1024, .f32⟩
  | .hbm, ⟨11, _⟩ => ⟨S2x2048, .f32⟩
  | .hbm, ⟨12, _⟩ => ⟨S2x1024, .f32⟩
  | .hbm, ⟨13, _⟩ => ⟨S2x1024, .f32⟩
  | .hbm, ⟨14, _⟩ => ⟨S2x2048, .f32⟩
  | .hbm, ⟨15, _⟩ => ⟨S2x1024, .f32⟩
  | .hbm, ⟨16, _⟩ => ⟨S2x1024, .f32⟩
  | .hbm, ⟨17, _⟩ => ⟨S2x2048, .f32⟩
  | .hbm, ⟨18, _⟩ => ⟨S2x1024, .f32⟩
  | .hbm, ⟨19, _⟩ => ⟨S2x1024, .f32⟩
  | .hbm, ⟨20, _⟩ => ⟨S2x2048, .f32⟩
  | .local _ .vmem, ⟨0, _⟩ => ⟨S2x1024, .f32⟩
  | .local _ .vmem, ⟨1, _⟩ => ⟨S2x1024, .f32⟩
  | .local _ .vmem, ⟨2, _⟩ => ⟨S2x2048, .f32⟩
  | .local _ .vmem, ⟨3, _⟩ => ⟨S2x1024, .f32⟩
  | .local _ .vmem, ⟨4, _⟩ => ⟨S2x1024, .f32⟩
  | .local _ .vmem, ⟨5, _⟩ => ⟨S2x2048, .f32⟩
  | .local _ .vmem, ⟨6, _⟩ => ⟨S2x1024, .f32⟩
  | .local _ .vmem, ⟨7, _⟩ => ⟨S2x1024, .f32⟩
  | .local _ .vmem, ⟨8, _⟩ => ⟨S2x2048, .f32⟩
  | .local _ .vmem, ⟨9, _⟩ => ⟨S2x1024, .f32⟩
  | .local _ .vmem, ⟨10, _⟩ => ⟨S2x1024, .f32⟩
  | .local _ .vmem, ⟨11, _⟩ => ⟨S2x2048, .f32⟩
  | .local _ .vmem, ⟨12, _⟩ => ⟨S2x1024, .f32⟩
  | .local _ .vmem, ⟨13, _⟩ => ⟨S2x1024, .f32⟩
  | .local _ .vmem, ⟨14, _⟩ => ⟨S2x2048, .f32⟩
  | .local _ .vmem, ⟨15, _⟩ => ⟨S2x1024, .f32⟩
  | .local _ .vmem, ⟨16, _⟩ => ⟨S2x1024, .f32⟩
  | .local _ .vmem, ⟨17, _⟩ => ⟨S2x2048, .f32⟩
  | .local _ .vmem, ⟨18, _⟩ => ⟨S2x1024, .f32⟩
  | .local _ .vmem, ⟨19, _⟩ => ⟨S2x1024, .f32⟩
  | .local _ .vmem, ⟨20, _⟩ => ⟨S2x2048, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F] [Named F]

def κ : String → Option EReal := fun
  | "adam_c1" => some ((8388608 / 5463681 : ℝ) : EReal)
  | "adam_c2" => some ((268435456 / 2672307 : ℝ) : EReal)
  | _ => none

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== RefAdamSmallEIdeal.lean ====
abbrev S2x1024 : Shape := ⟨2, ![2, 1024]⟩
abbrev S2x2048 : Shape := ⟨2, ![2, 2048]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x2048, .f32⟩
  | .hbm, ⟨3, _⟩ => ⟨S2x1024, .f32⟩
  | .hbm, ⟨4, _⟩ => ⟨S2x1024, .f32⟩
  | .hbm, ⟨5, _⟩ => ⟨S2x2048, .f32⟩
  | .hbm, ⟨6, _⟩ => ⟨S2x1024, .f32⟩
  | .hbm, ⟨7, _⟩ => ⟨S2x1024, .f32⟩
  | .hbm, ⟨8, _⟩ => ⟨S2x2048, .f32⟩
  | .hbm, ⟨9, _⟩ => ⟨S2x1024, .f32⟩
  | .hbm, ⟨10, _⟩ => ⟨S2x1024, .f32⟩
  | .hbm, ⟨11, _⟩ => ⟨S2x2048, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S_, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S2x2048, .f32⟩
  | .hbm, ⟨80, _⟩ => ⟨S2x2048, .f32⟩
  | .hbm, ⟨81, _⟩ => ⟨S_, .f32⟩
  | .hbm, ⟨82, _⟩ => ⟨S2x2048, .f32⟩
  | .hbm, ⟨83, _⟩ => ⟨S2x2048, .f32⟩
  | .hbm, ⟨84, _⟩ => ⟨S2x2048, .f32⟩
  | .hbm, ⟨85, _⟩ => ⟨S_, .f32⟩
  | .hbm, ⟨86, _⟩ => ⟨S2x2048, .f32⟩
  | .hbm, ⟨87, _⟩ => ⟨S2x2048, .f32⟩
  | .hbm, ⟨88, _⟩ => ⟨S2x2048, .f32⟩
  | .hbm, ⟨89, _⟩ => ⟨S_, .f32⟩
  | .hbm, ⟨90, _⟩ => ⟨S2x2048, .f32⟩
  | .hbm, ⟨91, _⟩ => ⟨S2x2048, .f32⟩
  | .hbm, ⟨92, _⟩ => ⟨S2x2048, .f32⟩
  | .hbm, ⟨93, _⟩ => ⟨S_, .f32⟩
  | .hbm, ⟨94, _⟩ => ⟨S2x2048, .f32⟩
  | .hbm, ⟨95, _⟩ => ⟨S2x2048, .f32⟩
  | .hbm, ⟨96, _⟩ => ⟨S_, .f32⟩
  | .hbm, ⟨97, _⟩ => ⟨S2x2048, .f32⟩
  | .hbm, ⟨98, _⟩ => ⟨S2x2048, .f32⟩
  | .hbm, ⟨99, _⟩ => ⟨S2x2048, .f32⟩
  | .hbm, ⟨100, _⟩ => ⟨S_, .f32⟩
  | .hbm, ⟨101, _⟩ => ⟨S2x2048, .f32⟩
  | .hbm, ⟨102, _⟩ => ⟨S2x2048, .f32⟩
  | .hbm, ⟨103, _⟩ => ⟨S2x2048, .f32⟩
  | .hbm, ⟨104, _⟩ => ⟨S_, .f32⟩
  | .hbm, ⟨105, _⟩ => ⟨S2x2048, .f32⟩
  | .hbm, ⟨106, _⟩ => ⟨S2x2048, .f32⟩
  | .hbm, ⟨107, _⟩ => ⟨S2x2048, .f32⟩
  | .hbm, ⟨108, _⟩ => ⟨S_, .f32⟩
  | .hbm, ⟨109, _⟩ => ⟨S2x2048, .f32⟩
  | .hbm, ⟨110, _⟩ => ⟨S2x2048, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallF.lean ====
abbrev S2x2048 : Shape := ⟨2, ![2, 2048]⟩
abbrev S2x11264 : Shape := ⟨2, ![2, 11264]⟩
abbrev S2x3x1408 : Shape := ⟨3, ![2, 3, 1408]⟩

abbrev nBuf : Space → Nat
  | .hbm => 21
  | .vmem => 21
  | .smem => 0
  | _ => 0

abbrev bufTy : (tb : Table) → Fin (tcTables nBuf tb) → BufTy
  | .hbm, ⟨0, _⟩ => ⟨S2x2048, .f32⟩
  | .hbm, ⟨1, _⟩ => ⟨S2x11264, .f32⟩
  | .hbm, ⟨2, _⟩ => ⟨S2x3x1408, .f32⟩
  | .hbm, ⟨3, _⟩ => ⟨S2x2048, .f32⟩
  | .hbm, ⟨4, _⟩ => ⟨S2x11264, .f32⟩
  | .hbm, ⟨5, _⟩ => ⟨S2x3x1408, .f32⟩
  | .hbm, ⟨6, _⟩ => ⟨S2x2048, .f32⟩
  | .hbm, ⟨7, _⟩ => ⟨S2x11264, .f32⟩
  | .hbm, ⟨8, _⟩ => ⟨S2x3x1408, .f32⟩
  | .hbm, ⟨9, _⟩ => ⟨S2x2048, .f32⟩
  | .hbm, ⟨10, _⟩ => ⟨S2x11264, .f32⟩
  | .hbm, ⟨11, _⟩ => ⟨S2x3x1408, .f32⟩
  | .hbm, ⟨12, _⟩ => ⟨S2x2048, .f32⟩
  | .hbm, ⟨13, _⟩ => ⟨S2x11264, .f32⟩
  | .hbm, ⟨14, _⟩ => ⟨S2x3x1408, .f32⟩
  | .hbm, ⟨15, _⟩ => ⟨S2x2048, .f32⟩
  | .hbm, ⟨16, _⟩ => ⟨S2x11264, .f32⟩
  | .hbm, ⟨17, _⟩ => ⟨S2x3x1408, .f32⟩
  | .hbm, ⟨18, _⟩ => ⟨S2x2048, .f32⟩
  | .hbm, ⟨19, _⟩ => ⟨S2x11264, .f32⟩
  | .hbm, ⟨20, _⟩ => ⟨S2x3x1408, .f32⟩
  | .local _ .vmem, ⟨0, _⟩ => ⟨S2x2048, .f32⟩
  | .local _ .vmem, ⟨1, _⟩ => ⟨S2x11264, .f32⟩
  | .local _ .vmem, ⟨2, _⟩ => ⟨S2x3x1408, .f32⟩
  | .local _ .vmem, ⟨3, _⟩ => ⟨S2x2048, .f32⟩
  | .local _ .vmem, ⟨4, _⟩ => ⟨S2x11264, .f32⟩
  | .local _ .vmem, ⟨5, _⟩ => ⟨S2x3x1408, .f32⟩
  | .local _ .vmem, ⟨6, _⟩ => ⟨S2x2048, .f32⟩
  | .local _ .vmem, ⟨7, _⟩ => ⟨S2x11264, .f32⟩
  | .local _ .vmem, ⟨8, _⟩ => ⟨S2x3x1408, .f32⟩
  | .local _ .vmem, ⟨9, _⟩ => ⟨S2x2048, .f32⟩
  | .local _ .vmem, ⟨10, _⟩ => ⟨S2x11264, .f32⟩
  | .local _ .vmem, ⟨11, _⟩ => ⟨S2x3x1408, .f32⟩
  | .local _ .vmem, ⟨12, _⟩ => ⟨S2x2048, .f32⟩
  | .local _ .vmem, ⟨13, _⟩ => ⟨S2x11264, .f32⟩
  | .local _ .vmem, ⟨14, _⟩ => ⟨S2x3x1408, .f32⟩
  | .local _ .vmem, ⟨15, _⟩ => ⟨S2x2048, .f32⟩
  | .local _ .vmem, ⟨16, _⟩ => ⟨S2x11264, .f32⟩
  | .local _ .vmem, ⟨17, _⟩ => ⟨S2x3x1408, .f32⟩
  | .local _ .vmem, ⟨18, _⟩ => ⟨S2x2048, .f32⟩
  | .local _ .vmem, ⟨19, _⟩ => ⟨S2x11264, .f32⟩
  | .local _ .vmem, ⟨20, _⟩ => ⟨S2x3x1408, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x11264 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x11264 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x3x1408 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x11264 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x3x1408 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x11264 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x1408 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x11264 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x3x1408 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallFIdeal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== RefAdamSmallFIdeal.lean ====
abbrev S2x2048 : Shape := ⟨2, ![2, 2048]⟩
abbrev S2x11264 : Shape := ⟨2, ![2, 11264]⟩
abbrev S2x3x1408 : Shape := ⟨3, ![2, 3, 1408]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x11264, .f32⟩
  | .hbm, ⟨2, _⟩ => ⟨S2x3x1408, .f32⟩
  | .hbm, ⟨3, _⟩ => ⟨S2x2048, .f32⟩
  | .hbm, ⟨4, _⟩ => ⟨S2x11264, .f32⟩
  | .hbm, ⟨5, _⟩ => ⟨S2x3x1408, .f32⟩
  | .hbm, ⟨6, _⟩ => ⟨S2x2048, .f32⟩
  | .hbm, ⟨7, _⟩ => ⟨S2x11264, .f32⟩
  | .hbm, ⟨8, _⟩ => ⟨S2x3x1408, .f32⟩
  | .hbm, ⟨9, _⟩ => ⟨S2x2048, .f32⟩
  | .hbm, ⟨10, _⟩ => ⟨S2x11264, .f32⟩
  | .hbm, ⟨11, _⟩ => ⟨S2x3x1408, .f32⟩
  | .hbm, ⟨12, _⟩ => ⟨S_, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S2x2048, .f32⟩
  | .hbm, ⟨23, _⟩ => ⟨S_, .f32⟩
  | .hbm, ⟨24, _⟩ => ⟨S2x2048, .f32⟩
  | .hbm, ⟨25, _⟩ => ⟨S2x2048, .f32⟩
  | .hbm, ⟨26, _⟩ => ⟨S2x2048, .f32⟩
  | .hbm, ⟨27, _⟩ => ⟨S_, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | .hbm, ⟨37, _⟩ => ⟨S2x2048, .f32⟩
  | .hbm, ⟨38, _⟩ => ⟨S_, .f32⟩
  | .hbm, ⟨39, _⟩ => ⟨S2x2048, .f32⟩
  | .hbm, ⟨40, _⟩ => ⟨S2x2048, .f32⟩
  | .hbm, ⟨41, _⟩ => ⟨S2x2048, .f32⟩
  | .hbm, ⟨42, _⟩ => ⟨S_, .f32⟩
  | .hbm, ⟨43, _⟩ => ⟨S2x2048, .f32⟩
  | .hbm, ⟨44, _⟩ => ⟨S2x2048, .f32⟩
  | .hbm, ⟨45, _⟩ => ⟨S_, .f32⟩
  | .hbm, ⟨46, _⟩ => ⟨S2x11264, .f32⟩
  | .hbm, ⟨47, _⟩ => ⟨S2x11264, .f32⟩
  | .hbm, ⟨48, _⟩ => ⟨S_, .f32⟩
  | .hbm, ⟨49, _⟩ => ⟨S2x11264, .f32⟩
  | .hbm, ⟨50, _⟩ => ⟨S2x11264, .f32⟩
  | .hbm, ⟨51, _⟩ => ⟨S2x11264, .f32⟩
  | .hbm, ⟨52, _⟩ => ⟨S_, .f32⟩
  | .hbm, ⟨53, _⟩ => ⟨S2x11264, .f32⟩
  | .hbm, ⟨54, _⟩ => ⟨S2x11264, .f32⟩
  | .hbm, ⟨55, _⟩ => ⟨S2x11264, .f32⟩
  | .hbm, ⟨56, _⟩ => ⟨S_, .f32⟩
  | .hbm, ⟨57, _⟩ => ⟨S2x11264, .f32⟩
  | .hbm, ⟨58, _⟩ => ⟨S2x11264, .f32⟩
  | .hbm, ⟨59, _⟩ => ⟨S2x11264, .f32⟩
  | .hbm, ⟨60, _⟩ => ⟨S_, .f32⟩
  | .hbm, ⟨61, _⟩ => ⟨S2x11264, .f32⟩
  | .hbm, ⟨62, _⟩ => ⟨S2x11264, .f32⟩
  | .hbm, ⟨63, _⟩ => ⟨S_, .f32⟩
  | .hbm, ⟨64, _⟩ => ⟨S2x11264, .f32⟩
  | .hbm, ⟨65, _⟩ => ⟨S2x11264, .f32⟩
  | .hbm, ⟨66, _⟩ => ⟨S2x11264, .f32⟩
  | .hbm, ⟨67, _⟩ => ⟨S_, .f32⟩
  | .hbm, ⟨68, _⟩ => ⟨S2x11264, .f32⟩
  | .hbm, ⟨69, _⟩ => ⟨S2x11264, .f32⟩
  | .hbm, ⟨70, _⟩ => ⟨S2x11264, .f32⟩
  | .hbm, ⟨71, _⟩ => ⟨S_, .f32⟩
  | .hbm, ⟨72, _⟩ => ⟨S2x11264, .f32⟩
  | .hbm, ⟨73, _⟩ => ⟨S2x11264, .f32⟩
  | .hbm, ⟨74, _⟩ => ⟨S2x11264, .f32⟩
  | .hbm, ⟨75, _⟩ => ⟨S_, .f32⟩
  | .hbm, ⟨76, _⟩ => ⟨S2x11264, .f32⟩
  | .hbm, ⟨77, _⟩ => ⟨S2x11264, .f32⟩
  | .hbm, ⟨78, _⟩ => ⟨S_, .f32⟩
  | .hbm, ⟨79, _⟩ => ⟨S2x3x1408, .f32⟩
  | .hbm, ⟨80, _⟩ => ⟨S2x3x1408, .f32⟩
  | .hbm, ⟨81, _⟩ => ⟨S_, .f32⟩
  | .hbm, ⟨82, _⟩ => ⟨S2x3x1408, .f32⟩
  | .hbm, ⟨83, _⟩ => ⟨S2x3x1408, .f32⟩
  | .hbm, ⟨84, _⟩ => ⟨S2x3x1408, .f32⟩
  | .hbm, ⟨85, _⟩ => ⟨S_, .f32⟩
  | .hbm, ⟨86, _⟩ => ⟨S2x3x1408, .f32⟩
  | .hbm, ⟨87, _⟩ => ⟨S2x3x1408, .f32⟩
  | .hbm, ⟨88, _⟩ => ⟨S2x3x1408, .f32⟩
  | .hbm, ⟨89, _⟩ => ⟨S_, .f32⟩
  | .hbm, ⟨90, _⟩ => ⟨S2x3x1408, .f32⟩
  | .hbm, ⟨91, _⟩ => ⟨S2x3x1408, .f32⟩
  | .hbm, ⟨92, _⟩ => ⟨S2x3x1408, .f32⟩
  | .hbm, ⟨93, _⟩ => ⟨S_, .f32⟩
  | .hbm, ⟨94, _⟩ => ⟨S2x3x1408, .f32⟩
  | .hbm, ⟨95, _⟩ => ⟨S2x3x1408, .f32⟩
  | .hbm, ⟨96, _⟩ => ⟨S_, .f32⟩
  | .hbm, ⟨97, _⟩ => ⟨S2x3x1408, .f32⟩
  | .hbm, ⟨98, _⟩ => ⟨S2x3x1408, .f32⟩
  | .hbm, ⟨99, _⟩ => ⟨S2x3x1408, .f32⟩
  | .hbm, ⟨100, _⟩ => ⟨S_, .f32⟩
  | .hbm, ⟨101, _⟩ => ⟨S2x3x1408, .f32⟩
  | .hbm, ⟨102, _⟩ => ⟨S2x3x1408, .f32⟩
  | .hbm, ⟨103, _⟩ => ⟨S2x3x1408, .f32⟩
  | .hbm, ⟨104, _⟩ => ⟨S_, .f32⟩
  | .hbm, ⟨105, _⟩ => ⟨S2x3x1408, .f32⟩
  | .hbm, ⟨106, _⟩ => ⟨S2x3x1408, .f32⟩
  | .hbm, ⟨107, _⟩ => ⟨S2x3x1408, .f32⟩
  | .hbm, ⟨108, _⟩ => ⟨S_, .f32⟩
  | .hbm, ⟨109, _⟩ => ⟨S2x3x1408, .f32⟩
  | .hbm, ⟨110, _⟩ => ⟨S2x3x1408, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.GateSpec.lean ====
/- What the gate's backward pass computes, at extended reals and with indices that are plain numbers: the padded rows `hp`, the
   convolved rows `up`, the gradient `dup` of the convolved rows (half 0: of the values, half 1: of the gates), and the three results
   `dup0` (gradient of the rows before the convolution), `dcb` (of the bias) and `dcw` (of the filter). Nothing is said here of tiles. -/
module

public import Idealize.ShloMosaic.PureOps.Ideal

@[expose] public section

noncomputable section

namespace Cert.Gate

open Idealize.ShloMosaic

/-- The factor `√(2/π)` in the tanh form of GELU, as the float it is written as. -/
def kc : EReal := ((13386282 / 16777216 : ℝ) : EReal)
/-- The factor `0.044715` of the cube in it, as the float it is written as. -/
def ka : EReal := ((12003091 / 268435456 : ℝ) : EReal)
/-- Three times the product of the two. -/
def k3 : EReal := ((241015141496493 / 2251799813685248 : ℝ) : EReal)
/-- One half. -/
def kh : EReal := ((1 / 2 : ℝ) : EReal)

/-- The hyperbolic tangent inside GELU, as the kernel forms its argument. -/
def th (g : EReal) : EReal := Ideal.tanh (kc * g * (1 + ka * (g * g)))

/-- GELU. -/
def act (g : EReal) : EReal := kh * g * (1 + th g)

/-- The derivative of GELU, as the kernel writes it. -/
def grad (g : EReal) : EReal := kh * (1 + th g) + kh * g * (1 - th g * th g) * (kc + k3 * (g * g))

/-- The four arguments: rows `U`, filter `W` (three rows), bias `B`, and the gradient `D` of the gated product. -/
structure Inp where
  U : ℕ → ℕ → EReal
  W : ℕ → ℕ → EReal
  B : ℕ → EReal
  D : ℕ → ℕ → EReal

namespace Inp

variable (I : Inp)

/-- The rows with two rows of zeros in front. -/
def hp (s j : ℕ) : EReal := if s < 2 then 0 else I.U (s - 2) j

/-- The convolved row `t`. -/
def up (t j : ℕ) : EReal := I.B j + I.W 0 j * I.hp t j + I.W 1 j * I.hp (t + 1) j + I.W 2 j * I.hp (t + 2) j

/-- The gradient of the convolved rows inside the array. -/
def dupIn (h t j : ℕ) : EReal :=
  if h = 0 then I.D t j * act (I.up t (j + 5632)) else I.D t j * I.up t j * grad (I.up t (j + 5632))

/-- The gradient of the convolved rows: zero below the last row. -/
def dup (h t j : ℕ) : EReal := if t < 4096 then I.dupIn h t j else 0

/-- The gradient of row `t` before the convolution. -/
def dup0 (h t j : ℕ) : EReal :=
  I.W 2 (j + 5632 * h) * I.dup h t j + I.W 1 (j + 5632 * h) * I.dup h (t + 1) j + I.W 0 (j + 5632 * h) * I.dup h (t + 2) j

/-- The gradient of the bias, summed over the rows from `R` on. -/
def dcb (h R j : ℕ) : EReal := ∑ t ∈ Finset.Ico R 4096, I.dup h t j

/-- The gradient of the filter's row `k`, summed over the rows from `R` on. -/
def dcw (h k R j : ℕ) : EReal := ∑ t ∈ Finset.Ico R 4096, I.dup h t j * I.hp (t + k) (j + 5632 * h)

end Inp

/-- A sum over the rows from `R` on is the sum over those from `R + 512` on and the sum over the 512 rows between. -/
theorem sum_step (f : ℕ → EReal) (R : ℕ) (hR : R + 512 ≤ 4096) :
    ∑ t ∈ Finset.Ico R 4096, f t = (∑ t ∈ Finset.Ico (R + 512) 4096, f t) + ∑ r : Fin 512, f (R + r) := by
  rw [← Finset.sum_Ico_consecutive f (Nat.le_add_right R 512) hR, add_comm]
  congr 1
  rw [Finset.sum_Ico_eq_sum_range, Nat.add_sub_cancel_left, Finset.sum_range]

end Cert.Gate

end
-- ==== Proof.GateBody.lean ====
/- One grid point of the gate's backward pass: the payloads of its stores, read at an index. -/
module

public import proofs.«01_k».proof.Proof.GateSpec
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

noncomputable section

namespace Cert.Gate

open Cert.KernelIdeal Cert.KernelIdeal.Gen Idealize.ShloMosaic Idealize.ShloMosaic.TcCoe Idealize.SL.Sem

set_option maxRecDepth 16384

theorem ofBits_c : Ideal.ofBits .f32 0x3F4C422A#32 = kc := by
  simp [Ideal.ofBits, Ideal.ieee, -EReal.coe_mul, kc]; norm_num

theorem ofBits_a : Ideal.ofBits .f32 0x3D372713#32 = ka := by
  simp [Ideal.ofBits, Ideal.ieee, -EReal.coe_mul, ka]; norm_num

theorem named_3 : Named.named (F := Ideal) Cert.KernelIdeal.κ "gelu_3ac" (φ := .f32) 0x3DDB33B6#32 = k3 :=
  IdealRules.named_const.ideal_named_scalar _ _ _ _ rfl

theorem ofBits_half : Ideal.ofBits .f32 0x3F000000#32 = kh := by
  simp [Ideal.ofBits, Ideal.ieee, -EReal.coe_mul, kh]; norm_num

/-- The rows of a filter half. -/
abbrev wrow0 (x : Vec Ideal S3x512 .f32) : Vec Ideal S1x512 .f32 := View.ld x (Rect.unit ![0, 0] ![1, 512] inb_S3x512_S1x512_0_0)
abbrev wrow1 (x : Vec Ideal S3x512 .f32) : Vec Ideal S1x512 .f32 := View.ld x (Rect.unit ![1, 0] ![1, 512] inb_S3x512_S1x512_1_0)
abbrev wrow2 (x : Vec Ideal S3x512 .f32) : Vec Ideal S1x512 .f32 := View.ld x (Rect.unit ![2, 0] ![1, 512] inb_S3x512_S1x512_2_0)

theorem wrow0_apply (x : Vec Ideal S3x512 .f32) (c : Fin 512) : wrow0 x (ix2 0 c) = x (ix2 0 c) :=
  View.ld_unit_apply_of x _ _ _ _ _ fun a => by fin_cases a <;> simp [ix2]
theorem wrow1_apply (x : Vec Ideal S3x512 .f32) (c : Fin 512) : wrow1 x (ix2 0 c) = x (ix2 1 c) :=
  View.ld_unit_apply_of x _ _ _ _ _ fun a => by fin_cases a <;> simp [ix2]
theorem wrow2_apply (x : Vec Ideal S3x512 .f32) (c : Fin 512) : wrow2 x (ix2 0 c) = x (ix2 2 c) :=
  View.ld_unit_apply_of x _ _ _ _ _ fun a => by fin_cases a <;> simp [ix2]

section Shifts

variable (X : Vec Ideal S512x512 .f32) (f : ℕ → EReal) (R : ℕ) (c : Fin 512)

/-- A row index compared with a literal selects as the numbers do. -/
theorem sel_row (r : Fin 512) (k : ℕ) (hk : k < 512) (a b : EReal) :
    Scalar.select (IntOp.cmpi .eq (BitVec.ofNat 32 r.val) (BitVec.ofNat 32 k)) a b = if r.val = k then a else b := by
  have h := r.isLt
  simp only [Scalar.select]
  by_cases hr : r.val = k
  · rw [if_pos hr, if_pos]
    exact (WordCmp.cmpi_eq_ofNat_eq_one_iff (by omega) (by omega)).2 hr
  · rw [if_neg hr, if_neg]
    exact fun h => hr ((WordCmp.cmpi_eq_ofNat_eq_one_iff (by omega) (by omega)).1 h)

/-- A tile moved down one row, with the row above it in front. -/
theorem sd1 (hX : ∀ r : Fin 512, X (ix2 r c) = f (R + r + 2)) (a : EReal) (ha : a = f (R + 1)) (r : Fin 512)
    (hlt : (r.val + 512 - 1) % 512 < 512) :
    Scalar.select (IntOp.cmpi .eq (BitVec.ofNat 32 r.val) 0#32) a (X (ix2 ⟨(r.val + 512 - 1) % 512, hlt⟩ c)) = f (R + r + 1) := by
  rw [sel_row r 0 (by omega)]
  split
  · next h => rw [ha, h]
  · next h =>
    rw [hX]
    congr 1
    show R + (r.val + 512 - 1) % 512 + 2 = _
    omega

/-- A tile moved down two rows, with the two rows above it in front. -/
theorem sd2 (hX : ∀ r : Fin 512, X (ix2 r c) = f (R + r + 2)) (a b : EReal) (ha : a = f R) (hb : b = f (R + 1)) (r : Fin 512)
    (hlt : (r.val + 512 - 2) % 512 < 512) :
    Scalar.select (IntOp.cmpi .eq (BitVec.ofNat 32 r.val) 1#32) b
      (Scalar.select (IntOp.cmpi .eq (BitVec.ofNat 32 r.val) 0#32) a (X (ix2 ⟨(r.val + 512 - 2) % 512, hlt⟩ c))) = f (R + r) := by
  rw [sel_row r 1 (by omega), sel_row r 0 (by omega)]
  split
  · next h => rw [hb, h]
  · split
    · next h => rw [ha, h]; rfl
    · rw [hX]
      congr 1
      show R + (r.val + 512 - 2) % 512 + 2 = _
      omega

/-- A tile moved up one row, with the row below it behind. -/
theorem su1 (hX : ∀ r : Fin 512, X (ix2 r c) = f (R + r)) (a : EReal) (ha : a = f (R + 512)) (r : Fin 512)
    (hlt : (r.val + 512 - 511) % 512 < 512) :
    Scalar.select (IntOp.cmpi .eq (BitVec.ofNat 32 r.val) 511#32) a (X (ix2 ⟨(r.val + 512 - 511) % 512, hlt⟩ c)) = f (R + r + 1) := by
  rw [sel_row r 511 (by omega)]
  split
  · next h => rw [ha, h]
  · next h =>
    rw [hX]
    congr 1
    show R + (r.val + 512 - 511) % 512 = _
    omega

/-- A tile moved up two rows, with the two rows below it behind. -/
theorem su2 (hX : ∀ r : Fin 512, X (ix2 r c) = f (R + r)) (a b : EReal) (ha : a = f (R + 512)) (hb : b = f (R + 513)) (r : Fin 512)
    (hlt : (r.val + 512 - 510) % 512 < 512) :
    Scalar.select (IntOp.cmpi .eq (BitVec.ofNat 32 r.val) 511#32) b
      (Scalar.select (IntOp.cmpi .eq (BitVec.ofNat 32 r.val) 510#32) a (X (ix2 ⟨(r.val + 512 - 510) % 512, hlt⟩ c))) = f (R + r + 2) := by
  rw [sel_row r 511 (by omega), sel_row r 510 (by omega)]
  split
  · next h => rw [hb, h]
  · split
    · next h => rw [ha, h]
    · rw [hX]
      congr 1
      show R + (r.val + 512 - 510) % 512 = _
      omega

end Shifts

/-- What a grid point finds in its nine input windows: the blocks of the arguments at rows from `R` and columns from `C` on. -/
structure Finds (I : Inp) (R C : ℕ) (i : grid0.Coords) (x0 x1 : Vec Ideal S512x512 .f32) (x2 x3 : Vec Ideal S8x512 .f32)
    (x4 x5 : Vec Ideal S3x512 .f32) (x6 x7 : Vec Ideal S1x512 .f32) (x8 : Vec Ideal S512x512 .f32) : Prop where
  h0 : ∀ r c : Fin 512, x0 (ix2 r c) = I.hp (R + r + 2) (C + c)
  h1 : ∀ r c : Fin 512, x1 (ix2 r c) = I.hp (R + r + 2) (C + c + 5632)
  h26 : ∀ c : Fin 512, k0_pay5 i x2 (ix2 6 c) = I.hp R (C + c)
  h27 : ∀ c : Fin 512, k0_pay5 i x2 (ix2 7 c) = I.hp (R + 1) (C + c)
  h36 : ∀ c : Fin 512, k0_pay6 i x3 (ix2 6 c) = I.hp R (C + c + 5632)
  h37 : ∀ c : Fin 512, k0_pay6 i x3 (ix2 7 c) = I.hp (R + 1) (C + c + 5632)
  h4 : ∀ (k : Fin 3) (c : Fin 512), x4 (ix2 k c) = I.W k (C + c)
  h5 : ∀ (k : Fin 3) (c : Fin 512), x5 (ix2 k c) = I.W k (C + c + 5632)
  h6 : ∀ c : Fin 512, x6 (ix2 0 c) = I.B (C + c)
  h7 : ∀ c : Fin 512, x7 (ix2 0 c) = I.B (C + c + 5632)
  h8 : ∀ r c : Fin 512, x8 (ix2 r c) = I.D (R + r) (C + c)

/-- The gradient of the values' rows in a point's tile. -/
def DV (i : grid0.Coords) (x1 : Vec Ideal S512x512 .f32) (x3 : Vec Ideal S8x512 .f32) (x5 : Vec Ideal S3x512 .f32)
    (x7 : Vec Ideal S1x512 .f32) (x8 : Vec Ideal S512x512 .f32) : Vec Ideal S512x512 .f32 :=
  k0_pay17 x1 (k0_pay9 (k0_pay6 i x3) x1 x7 (wrow0 x5)) (k0_pay10 (k0_pay6 i x3) x1) (k0_pay11 (wrow1 x5)) (wrow2 x5) x8

/-- The gradient of the gates' rows in it. -/
def DG (i : grid0.Coords) (x0 x1 : Vec Ideal S512x512 .f32) (x2 x3 : Vec Ideal S8x512 .f32) (x4 x5 : Vec Ideal S3x512 .f32)
    (x6 x7 : Vec Ideal S1x512 .f32) (x8 : Vec Ideal S512x512 .f32) : Vec Ideal S512x512 .f32 :=
  k0_pay18 x1 (k0_pay8 (k0_pay5 i x2) x0 (k0_pay7 i x2 x0 x6 (wrow0 x4)) (wrow1 x4) 1#32 (wrow2 x4))
    (k0_pay9 (k0_pay6 i x3) x1 x7 (wrow0 x5)) (k0_pay10 (k0_pay6 i x3) x1) (k0_pay11 (wrow1 x5)) (wrow2 x5) x8

section Values

variable {I : Inp} {R C : ℕ} {i : grid0.Coords} {x0 x1 : Vec Ideal S512x512 .f32} {x2 x3 : Vec Ideal S8x512 .f32}
    {x4 x5 : Vec Ideal S3x512 .f32} {x6 x7 : Vec Ideal S1x512 .f32} {x8 : Vec Ideal S512x512 .f32}

theorem Finds.val (H : Finds I R C i x0 x1 x2 x3 x4 x5 x6 x7 x8) (r c : Fin 512) :
    k0_pay8 (k0_pay5 i x2) x0 (k0_pay7 i x2 x0 x6 (wrow0 x4)) (wrow1 x4) 1#32 (wrow2 x4) (ix2 r c) = I.up (R + r) (C + c) := by
  pointwise [k0_pay8, k0_pay7]
  rw [sd1 x0 (fun s => I.hp s (C + c)) R c (fun r => H.h0 r c) _ (H.h27 c),
    sd2 x0 (fun s => I.hp s (C + c)) R c (fun r => H.h0 r c) _ _ (H.h26 c) (H.h27 c), H.h0,
    wrow0_apply, wrow1_apply, wrow2_apply, H.h4, H.h4, H.h4, H.h6]
  rfl

theorem Finds.gate (H : Finds I R C i x0 x1 x2 x3 x4 x5 x6 x7 x8) (r c : Fin 512) :
    k0_pay12 x1 (k0_pay9 (k0_pay6 i x3) x1 x7 (wrow0 x5)) (k0_pay10 (k0_pay6 i x3) x1) (k0_pay11 (wrow1 x5)) (wrow2 x5) (ix2 r c)
      = I.up (R + r) (C + c + 5632) := by
  pointwise [k0_pay12, k0_pay9, k0_pay10, k0_pay11]
  rw [sd1 x1 (fun s => I.hp s (C + c + 5632)) R c (fun r => H.h1 r c) _ (H.h37 c),
    sd2 x1 (fun s => I.hp s (C + c + 5632)) R c (fun r => H.h1 r c) _ _ (H.h36 c) (H.h37 c), H.h1,
    wrow0_apply, wrow1_apply, wrow2_apply, H.h5, H.h5, H.h5, H.h7]
  rfl

theorem Finds.dv (H : Finds I R C i x0 x1 x2 x3 x4 x5 x6 x7 x8) (hR : R + 512 ≤ 4096) (r c : Fin 512) :
    DV i x1 x3 x5 x7 x8 (ix2 r c) = I.dup 0 (R + r) (C + c) := by
  unfold DV
  pointwise [k0_pay17, k0_pay16, k0_pay15, k0_pay14, k0_pay13]
  rw [H.gate, H.h8, ofBits_c, ofBits_a, ofBits_half]
  rw [Inp.dup, if_pos (by omega)]
  rfl

theorem Finds.dg (H : Finds I R C i x0 x1 x2 x3 x4 x5 x6 x7 x8) (hR : R + 512 ≤ 4096) (r c : Fin 512) :
    DG i x0 x1 x2 x3 x4 x5 x6 x7 x8 (ix2 r c) = I.dup 1 (R + r) (C + c) := by
  unfold DG
  pointwise [k0_pay18, k0_pay16, k0_pay15, k0_pay14, k0_pay13]
  rw [H.gate, H.val, H.h8, ofBits_c, ofBits_a, named_3, ofBits_half]
  rw [Inp.dup, if_pos (by omega)]
  rfl

/-- The payload of the values' half of the first result. -/
theorem Finds.pay21 (H : Finds I R C i x0 x1 x2 x3 x4 x5 x6 x7 x8) (hR : R + 512 ≤ 4096) (b : Vec Ideal S8x512 .f32)
    (hb : ∀ (k : Fin 8) (c : Fin 512), b (ix2 k c) = I.dup 0 (R + 512 + k) (C + c)) (r c : Fin 512) :
    k0_pay21 (DV i x1 x3 x5 x7 x8) b
      (k0_pay20 x1 (k0_pay9 (k0_pay6 i x3) x1 x7 (wrow0 x5)) (k0_pay10 (k0_pay6 i x3) x1) (k0_pay11 (wrow1 x5)) (wrow2 x5) x8 (wrow2 x4))
      (wrow1 x4) (wrow0 x4) (ix3 0 r c) = (I.dup0 0 (R + r) (C + c) : EReal) := by
  pointwise [k0_pay21, k0_pay20]
  rw [show k0_pay17 x1 (k0_pay9 (k0_pay6 i x3) x1 x7 (wrow0 x5)) (k0_pay10 (k0_pay6 i x3) x1) (k0_pay11 (wrow1 x5)) (wrow2 x5) x8
      = DV i x1 x3 x5 x7 x8 from rfl]
  rw [su1 (DV i x1 x3 x5 x7 x8) (fun s => I.dup 0 s (C + c)) R c (fun r => H.dv hR r c) _ (hb 0 c),
    su2 (DV i x1 x3 x5 x7 x8) (fun s => I.dup 0 s (C + c)) R c (fun r => H.dv hR r c) _ _ (hb 0 c) (hb 1 c), H.dv hR,
    wrow0_apply, wrow1_apply, wrow2_apply, H.h4, H.h4, H.h4]
  rfl

theorem Finds.pay33 (H : Finds I R C i x0 x1 x2 x3 x4 x5 x6 x7 x8) (hR : R + 512 ≤ 4096) (b : Vec Ideal S1x8x512 .f32)
    (hb : ∀ (k : Fin 8) (c : Fin 512), b (ix3 0 k c) = I.dup 1 (R + 512 + k) (C + c)) (r c : Fin 512) :
    k0_pay33 (k0_pay30 b) (k0_pay31 (DG i x0 x1 x2 x3 x4 x5 x6 x7 x8) b (wrow2 x5) (wrow1 x5)) (wrow0 x5)
      (k0_pay32 (DG i x0 x1 x2 x3 x4 x5 x6 x7 x8)) (iota Kind.tc S512x512 32 [0] iota_S512x512_d0_w32) (ix3 0 r c)
      = (I.dup0 1 (R + r) (C + c) : EReal) := by
  pointwise [k0_pay33, k0_pay32, k0_pay31, k0_pay30]
  rw [su1 (DG i x0 x1 x2 x3 x4 x5 x6 x7 x8) (fun s => I.dup 1 s (C + c)) R c (fun r => H.dg hR r c) _ (hb 0 c),
    su2 (DG i x0 x1 x2 x3 x4 x5 x6 x7 x8) (fun s => I.dup 1 s (C + c)) R c (fun r => H.dg hR r c) _ _ (hb 0 c) (hb 1 c), H.dg hR,
    wrow0_apply, wrow1_apply, wrow2_apply, H.h5, H.h5, H.h5]
  rfl
end Values

section Sums

variable (v6 : Vec Ideal S8x512 .f32) (X Y : Vec Ideal S512x512 .f32) (f g : ℕ → EReal) (R : ℕ) (c : Fin 512)

/-- The payload of the bias's accumulator: the sum over the rows below, and over this tile's. -/
theorem pay24 (hR : R + 512 ≤ 4096) (hY : ∀ r : Fin 512, Y (ix2 r c) = g (R + r)) (o : Vec Ideal S1x1x512 .f32)
    (ho : o (ix3 0 0 c) = ∑ t ∈ Finset.Ico (R + 512) 4096, g t) :
    k0_pay24 Y (k0_pay23 o) (ix3 0 0 c) = ∑ t ∈ Finset.Ico R 4096, g t := by
  pointwise [k0_pay24, k0_pay23]
  rw [sum_step _ R hR, ho]
  exact congrArg _ (Finset.sum_congr rfl fun r _ => hY r)

theorem pay35 (hR : R + 512 ≤ 4096) (hY : ∀ r : Fin 512, Y (ix2 r c) = g (R + r)) (o : Vec Ideal S1x1x512 .f32)
    (ho : o (ix3 0 0 c) = ∑ t ∈ Finset.Ico (R + 512) 4096, g t) :
    k0_pay35 Y o (ix3 0 0 c) = ∑ t ∈ Finset.Ico R 4096, g t := by
  pointwise [k0_pay35]
  rw [sum_step _ R hR, ho]
  exact congrArg _ (Finset.sum_congr rfl fun r _ => hY r)

/-- The payloads of the filter's accumulators, by row of the filter and by half. -/
theorem pay25 (hR : R + 512 ≤ 4096) (hY : ∀ r : Fin 512, Y (ix2 r c) = g (R + r)) (hX : ∀ r : Fin 512, X (ix2 r c) = f (R + r + 2))
    (h6 : v6 (ix2 6 c) = f R) (h7 : v6 (ix2 7 c) = f (R + 1)) (o : Vec Ideal S1x1x512 .f32)
    (ho : o (ix3 0 0 c) = ∑ t ∈ Finset.Ico (R + 512) 4096, g t * f (t + 0)) :
    k0_pay25 v6 X Y o (ix3 0 0 c) = ∑ t ∈ Finset.Ico R 4096, g t * f (t + 0) := by
  pointwise [k0_pay25]
  rw [sum_step _ R hR, ho]
  refine congrArg _ (Finset.sum_congr rfl fun r _ => ?_)
  rw [hY, sd2 X f R c hX _ _ h6 h7]

theorem pay39 (hR : R + 512 ≤ 4096) (hY : ∀ r : Fin 512, Y (ix2 r c) = g (R + r)) (hX : ∀ r : Fin 512, X (ix2 r c) = f (R + r + 2))
    (h6 : v6 (ix2 6 c) = f R) (h7 : v6 (ix2 7 c) = f (R + 1)) (o : Vec Ideal S1x1x512 .f32)
    (ho : o (ix3 0 0 c) = ∑ t ∈ Finset.Ico (R + 512) 4096, g t * f (t + 0)) :
    k0_pay39 v6 Y (k0_pay36 o) (k0_pay37 X) (iota Kind.tc S512x512 32 [0] iota_S512x512_d0_w32) k0_pay38 (ix3 0 0 c)
      = ∑ t ∈ Finset.Ico R 4096, g t * f (t + 0) := by
  pointwise [k0_pay39, k0_pay36, k0_pay37, k0_pay38]
  rw [sum_step _ R hR, ho]
  refine congrArg _ (Finset.sum_congr rfl fun r _ => ?_)
  rw [hY, sd2 X f R c hX _ _ h6 h7]

theorem pay28 (hR : R + 512 ≤ 4096) (hY : ∀ r : Fin 512, Y (ix2 r c) = g (R + r)) (hX : ∀ r : Fin 512, X (ix2 r c) = f (R + r + 2))
    (h7 : v6 (ix2 7 c) = f (R + 1)) (o : Vec Ideal S1x1x512 .f32)
    (ho : o (ix3 0 0 c) = ∑ t ∈ Finset.Ico (R + 512) 4096, g t * f (t + 1)) :
    k0_pay28 (k0_pay26 o) (k0_pay27 v6 X Y) (ix3 0 0 c) = ∑ t ∈ Finset.Ico R 4096, g t * f (t + 1) := by
  pointwise [k0_pay28, k0_pay26, k0_pay27]
  rw [sum_step _ R hR, ho]
  refine congrArg _ (Finset.sum_congr rfl fun r _ => ?_)
  rw [hY, sd1 X f R c hX _ h7]

theorem pay40 (hR : R + 512 ≤ 4096) (hY : ∀ r : Fin 512, Y (ix2 r c) = g (R + r)) (hX : ∀ r : Fin 512, X (ix2 r c) = f (R + r + 2))
    (h7 : v6 (ix2 7 c) = f (R + 1)) (o : Vec Ideal S1x1x512 .f32)
    (ho : o (ix3 0 0 c) = ∑ t ∈ Finset.Ico (R + 512) 4096, g t * f (t + 1)) :
    k0_pay40 v6 X Y o (ix3 0 0 c) = ∑ t ∈ Finset.Ico R 4096, g t * f (t + 1) := by
  pointwise [k0_pay40]
  rw [sum_step _ R hR, ho]
  refine congrArg _ (Finset.sum_congr rfl fun r _ => ?_)
  rw [hY, sd1 X f R c hX _ h7]

theorem pay29 (hR : R + 512 ≤ 4096) (hY : ∀ r : Fin 512, Y (ix2 r c) = g (R + r)) (hX : ∀ r : Fin 512, X (ix2 r c) = f (R + r + 2))
    (o : Vec Ideal S1x1x512 .f32) (ho : o (ix3 0 0 c) = ∑ t ∈ Finset.Ico (R + 512) 4096, g t * f (t + 2)) :
    k0_pay29 X Y o (ix3 0 0 c) = ∑ t ∈ Finset.Ico R 4096, g t * f (t + 2) := by
  pointwise [k0_pay29]
  rw [sum_step _ R hR, ho]
  refine congrArg _ (Finset.sum_congr rfl fun r _ => ?_)
  rw [hY, hX]

theorem pay41 (hR : R + 512 ≤ 4096) (hY : ∀ r : Fin 512, Y (ix2 r c) = g (R + r)) (hX : ∀ r : Fin 512, X (ix2 r c) = f (R + r + 2))
    (o : Vec Ideal S1x1x512 .f32) (ho : o (ix3 0 0 c) = ∑ t ∈ Finset.Ico (R + 512) 4096, g t * f (t + 2)) :
    k0_pay1 (k0_pay41 X Y o) (ix3 0 0 c) = ∑ t ∈ Finset.Ico R 4096, g t * f (t + 2) := by
  pointwise [k0_pay1, k0_pay41]
  rw [sum_step _ R hR, ho]
  refine congrArg _ (Finset.sum_congr rfl fun r _ => ?_)
  rw [hY, hX]

end Sums

/-- The first eight rows of a tile, which the next point takes as the rows below it. -/
theorem pay22 (Y : Vec Ideal S512x512 .f32) (c : Fin 512) (k : Fin 8) : k0_pay22 (F := Ideal) Y (ix3 0 k c) = (Y (ix2 ⟨k, by omega⟩ c) : EReal) := by
  pointwise [k0_pay22]
theorem pay34 (Y : Vec Ideal S512x512 .f32) (c : Fin 512) (k : Fin 8) : k0_pay34 (F := Ideal) Y (ix3 0 k c) = (Y (ix2 ⟨k, by omega⟩ c) : EReal) := by
  pointwise [k0_pay34]

end Cert.Gate

end
-- ==== Proof.GateRun.lean ====
/- The contents one grid point of the gate's backward pass leaves in its result blocks and in the rows it keeps: the stores' pieces, the
   same in the point that clears the accumulators (case A) and in the others (case B), and those pieces read at an index. -/
module

public import proofs.«01_k».proof.Proof.GateBody
public import Idealize.ShloMosaic.Lib.Pipeline.ValueKit
public import Idealize.ShloMosaic.Lib.Pipeline.ReadBack
public import Idealize.ShloMosaic.Lib.Pointwise

@[expose] public section

noncomputable section

namespace Cert.Gate

open Cert.KernelIdeal Cert.KernelIdeal.Gen Idealize.ShloMosaic Idealize.ShloMosaic.TcCoe Idealize.SL.Sem

set_option maxRecDepth 16384

/-- What a covering list of writes leaves does not depend on the writes before it. -/
theorem canon_append {S : Shape} {e : EltTy} (L' : List (View.Piece (Elt Ideal) S e)) : ∀ L : List (View.Piece (Elt Ideal) S e),
    (∀ y, ∃ p ∈ L, y ∈ p.1.set) → View.canon (L ++ L') = View.canon L := by
  intro L hL
  funext y
  have key : ∀ L : List (View.Piece (Elt Ideal) S e), (∃ p ∈ L, y ∈ p.1.set) → View.canon (L ++ L') y = View.canon L y := by
    intro L
    induction L with
    | nil => rintro ⟨_, h, _⟩; exact absurd h List.not_mem_nil
    | cons p L ih =>
      rintro ⟨q, hq, hy⟩
      by_cases hp : y ∈ p.1.set
      · obtain ⟨r, w⟩ := p
        obtain ⟨x, rfl⟩ := r.exists_idx_of_mem hp
        rw [show r.idx x = r.emb x from rfl, List.cons_append, View.canon_cons_emb, View.canon_cons_emb]
      · rw [List.cons_append, View.canon_cons_of_not_mem _ _ hp, View.canon_cons_of_not_mem _ _ hp]
        rcases List.mem_cons.mp hq with rfl | hq
        · exact absurd hy hp
        · exact ih ⟨q, hq, hy⟩
  exact key L (hL y)

section Pieces

variable (i : grid0.Coords) (x0 x1 : Vec Ideal S512x512 .f32) (x2 x3 : Vec Ideal S8x512 .f32)
    (x4 x5 : Vec Ideal S3x512 .f32) (x6 x7 : Vec Ideal S1x512 .f32) (x8 : Vec Ideal S512x512 .f32)
    (o10 : Vec Ideal S2x1x512 .f32) (o11 : Vec Ideal S2x3x512 .f32) (s : Vec Ideal S2x8x512 .f32)

/-- The stores into the first result's block: the gates' half, then the values'. -/
def L9 : List (View.Piece (Elt Ideal) S2x512x512 .bf16) :=
  [⟨Rect.unit ![1, 0, 0] ![1, 512, 512] inb_S2x512x512_S1x512x512_1_0_0,
      k0_pay33 (k0_pay30 (View.ld s (Rect.unit ![1, 0, 0] ![1, 8, 512] inb_S2x8x512_S1x8x512_1_0_0)))
        (k0_pay31 (DG i x0 x1 x2 x3 x4 x5 x6 x7 x8) (View.ld s (Rect.unit ![1, 0, 0] ![1, 8, 512] inb_S2x8x512_S1x8x512_1_0_0))
          (wrow2 x5) (wrow1 x5)) (wrow0 x5) (k0_pay32 (DG i x0 x1 x2 x3 x4 x5 x6 x7 x8))
        (iota Kind.tc S512x512 32 [0] iota_S512x512_d0_w32)⟩,
    ⟨Rect.unit ![0, 0, 0] ![1, 512, 512] inb_S2x512x512_S1x512x512_0_0_0,
      k0_pay21 (DV i x1 x3 x5 x7 x8) (k0_pay19 (View.ld s (Rect.unit ![0, 0, 0] ![1, 8, 512] inb_S2x8x512_S1x8x512_0_0_0)))
        (k0_pay20 x1 (k0_pay9 (k0_pay6 i x3) x1 x7 (wrow0 x5)) (k0_pay10 (k0_pay6 i x3) x1) (k0_pay11 (wrow1 x5)) (wrow2 x5) x8
          (wrow2 x4)) (wrow1 x4) (wrow0 x4)⟩]

/-- The stores into the bias's accumulator. -/
def L10 : List (View.Piece (Elt Ideal) S2x1x512 .f32) :=
  [⟨Rect.unit ![1, 0, 0] ![1, 1, 512] inb_S2x1x512_S1x1x512_1_0_0,
      k0_pay35 (DG i x0 x1 x2 x3 x4 x5 x6 x7 x8) (View.ld o10 (Rect.unit ![1, 0, 0] ![1, 1, 512] inb_S2x1x512_S1x1x512_1_0_0))⟩,
    ⟨Rect.unit ![0, 0, 0] ![1, 1, 512] inb_S2x1x512_S1x1x512_0_0_0,
      k0_pay24 (DV i x1 x3 x5 x7 x8) (k0_pay23 (View.ld o10 (Rect.unit ![0, 0, 0] ![1, 1, 512] inb_S2x1x512_S1x1x512_0_0_0)))⟩]

/-- The stores into the filter's accumulator. -/
def L11 : List (View.Piece (Elt Ideal) S2x3x512 .f32) :=
  [⟨Rect.unit ![1, 2, 0] ![1, 1, 512] inb_S2x3x512_S1x1x512_1_2_0,
      k0_pay1 (k0_pay41 x1 (DG i x0 x1 x2 x3 x4 x5 x6 x7 x8)
        (View.ld o11 (Rect.unit ![1, 2, 0] ![1, 1, 512] inb_S2x3x512_S1x1x512_1_2_0)))⟩,
    ⟨Rect.unit ![1, 1, 0] ![1, 1, 512] inb_S2x3x512_S1x1x512_1_1_0,
      k0_pay40 (k0_pay6 i x3) x1 (DG i x0 x1 x2 x3 x4 x5 x6 x7 x8)
        (View.ld o11 (Rect.unit ![1, 1, 0] ![1, 1, 512] inb_S2x3x512_S1x1x512_1_1_0))⟩,
    ⟨Rect.unit ![1, 0, 0] ![1, 1, 512] inb_S2x3x512_S1x1x512_1_0_0,
      k0_pay39 (k0_pay6 i x3) (DG i x0 x1 x2 x3 x4 x5 x6 x7 x8)
        (k0_pay36 (View.ld o11 (Rect.unit ![1, 0, 0] ![1, 1, 512] inb_S2x3x512_S1x1x512_1_0_0)))
        (k0_pay37 x1) (iota Kind.tc S512x512 32 [0] iota_S512x512_d0_w32) k0_pay38⟩,
    ⟨Rect.unit ![0, 2, 0] ![1, 1, 512] inb_S2x3x512_S1x1x512_0_2_0,
      k0_pay29 x0 (DV i x1 x3 x5 x7 x8) (View.ld o11 (Rect.unit ![0, 2, 0] ![1, 1, 512] inb_S2x3x512_S1x1x512_0_2_0))⟩,
    ⟨Rect.unit ![0, 1, 0] ![1, 1, 512] inb_S2x3x512_S1x1x512_0_1_0,
      k0_pay28 (k0_pay26 (View.ld o11 (Rect.unit ![0, 1, 0] ![1, 1, 512] inb_S2x3x512_S1x1x512_0_1_0)))
        (k0_pay27 (k0_pay5 i x2) x0 (DV i x1 x3 x5 x7 x8))⟩,
    ⟨Rect.unit ![0, 0, 0] ![1, 1, 512] inb_S2x3x512_S1x1x512_0_0_0,
      k0_pay25 (k0_pay5 i x2) x0 (DV i x1 x3 x5 x7 x8)
        (View.ld o11 (Rect.unit ![0, 0, 0] ![1, 1, 512] inb_S2x3x512_S1x1x512_0_0_0))⟩]

/-- The stores into the rows kept for the next point. -/
def LS : List (View.Piece (Elt Ideal) S2x8x512 .f32) :=
  [⟨Rect.unit ![1, 0, 0] ![1, 8, 512] inb_S2x8x512_S1x8x512_1_0_0, k0_pay34 (F := Ideal) (DG i x0 x1 x2 x3 x4 x5 x6 x7 x8)⟩,
    ⟨Rect.unit ![0, 0, 0] ![1, 8, 512] inb_S2x8x512_S1x8x512_0_0_0, k0_pay22 (F := Ideal) (DV i x1 x3 x5 x7 x8)⟩]

theorem cov10 : ∀ y, ∃ p ∈ L10 i x0 x1 x2 x3 x4 x5 x6 x7 x8 o10, y ∈ p.1.set :=
  View.cover_of_tiled _ ![1, 1, 512] rfl
theorem cov11 : ∀ y, ∃ p ∈ L11 i x0 x1 x2 x3 x4 x5 x6 x7 x8 o11, y ∈ p.1.set :=
  View.cover_of_tiled _ ![1, 1, 512] rfl
theorem covS : ∀ y, ∃ p ∈ LS i x0 x1 x2 x3 x4 x5 x6 x7 x8, y ∈ p.1.set :=
  View.cover_of_tiled _ ![1, 8, 512] rfl
theorem cov9 : ∀ y, ∃ p ∈ L9 i x0 x1 x2 x3 x4 x5 x6 x7 x8 s, y ∈ p.1.set :=
  View.cover_of_tiled _ ![1, 512, 512] rfl

end Pieces

section Open

variable (c : Dev nD) (i : grid0.Coords)
    (arg2 : Memref sig .tc .vmem S512x512 .f32) (harg2 : arg2.IsWhole)
    (arg3 : Memref sig .tc .vmem S512x512 .f32) (harg3 : arg3.IsWhole)
    (arg4 : Memref sig .tc .vmem S8x512 .f32) (harg4 : arg4.IsWhole)
    (arg5 : Memref sig .tc .vmem S8x512 .f32) (harg5 : arg5.IsWhole)
    (arg6 : Memref sig .tc .vmem S3x512 .f32) (harg6 : arg6.IsWhole)
    (arg7 : Memref sig .tc .vmem S3x512 .f32) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S512x512 .f32) (harg10 : arg10.IsWhole)
    (arg11 : Memref sig .tc .vmem S2x512x512 .bf16) (harg11 : arg11.IsWhole)
    (arg12 : Memref sig .tc .vmem S2x1x512 .f32) (harg12 : arg12.IsWhole)
    (arg13 : Memref sig .tc .vmem S2x3x512 .f32) (harg13 : arg13.IsWhole)
    (arg14 : Memref sig .tc .vmem S2x8x512 .f32) (harg14 : arg14.IsWhole)
    (x0 x1 : Vec Ideal S512x512 .f32) (x2 x3 : Vec Ideal S8x512 .f32)
    (x4 x5 : Vec Ideal S3x512 .f32) (x6 x7 : Vec Ideal S1x512 .f32) (x8 : Vec Ideal S512x512 .f32)
    (o10 : Vec Ideal S2x1x512 .f32) (o11 : Vec Ideal S2x3x512 .f32) (s : Vec Ideal S2x8x512 .f32)

theorem z2 : ∀ a, (![0, 0] : Fin 2 → ℕ) a = 0 := by decide
theorem z3 : ∀ a, (![0, 0, 0] : Fin 3 → ℕ) a = 0 := by decide

theorem out9_B_eq (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s
      = View.canon (L9 i x0 x1 x2 x3 x4 x5 x6 x7 x8 s) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp only [View.ld_unit_lit (S := S512x512) _ _ z2, View.ld_unit_lit (S := S8x512) _ _ z2, View.ld_unit_lit (S := S1x512) _ _ z2]
  rfl

set_option maxHeartbeats 1000000 in
theorem out9_A_eq (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = View.canon (L9 i x0 x1 x2 x3 x4 x5 x6 x7 x8 (k0_pay4 (F := Ideal))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp (decide := true) only [↓View.readCov_skip, ↓View.readCov_fill (s := S2x1x512) _ _ _ _ _ z3, ↓View.readCov_fill (s := S2x3x512) _ _ _ _ _ z3, ↓View.readCov_fill (s := S2x8x512) _ _ _ _ _ z3]
  simp only [View.ld_unit_lit (S := S512x512) _ _ z2, View.ld_unit_lit (S := S8x512) _ _ z2, View.ld_unit_lit (S := S1x512) _ _ z2]
  rfl

theorem out10_B_eq (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s
      = View.canon (L10 i x0 x1 x2 x3 x4 x5 x6 x7 x8 o10) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp only [View.ld_unit_lit (S := S512x512) _ _ z2, View.ld_unit_lit (S := S8x512) _ _ z2, View.ld_unit_lit (S := S1x512) _ _ z2]
  rfl

set_option maxHeartbeats 1000000 in
theorem out10_A_eq (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = View.canon (L10 i x0 x1 x2 x3 x4 x5 x6 x7 x8 (k0_pay2 (F := Ideal))) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp (decide := true) only [↓View.readCov_skip, ↓View.readCov_fill (s := S2x1x512) _ _ _ _ _ z3, ↓View.readCov_fill (s := S2x3x512) _ _ _ _ _ z3, ↓View.readCov_fill (s := S2x8x512) _ _ _ _ _ z3]
  simp only [View.ld_unit_lit (S := S512x512) _ _ z2, View.ld_unit_lit (S := S8x512) _ _ z2, View.ld_unit_lit (S := S1x512) _ _ z2]
  exact canon_append [_] (L10 i x0 x1 x2 x3 x4 x5 x6 x7 x8 (k0_pay2 (F := Ideal))) (cov10 _ _ _ _ _ _ _ _ _ _ _)

theorem out11_B_eq (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s
      = View.canon (L11 i x0 x1 x2 x3 x4 x5 x6 x7 x8 o11) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp only [View.ld_unit_lit (S := S512x512) _ _ z2, View.ld_unit_lit (S := S8x512) _ _ z2, View.ld_unit_lit (S := S1x512) _ _ z2]
  rfl

set_option maxHeartbeats 1000000 in
theorem out11_A_eq (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = View.canon (L11 i x0 x1 x2 x3 x4 x5 x6 x7 x8 (k0_pay3 (F := Ideal))) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp (decide := true) only [↓View.readCov_skip, ↓View.readCov_fill (s := S2x1x512) _ _ _ _ _ z3, ↓View.readCov_fill (s := S2x3x512) _ _ _ _ _ z3, ↓View.readCov_fill (s := S2x8x512) _ _ _ _ _ z3]
  simp only [View.ld_unit_lit (S := S512x512) _ _ z2, View.ld_unit_lit (S := S8x512) _ _ z2, View.ld_unit_lit (S := S1x512) _ _ z2]
  exact canon_append [_] (L11 i x0 x1 x2 x3 x4 x5 x6 x7 x8 (k0_pay3 (F := Ideal))) (cov11 _ _ _ _ _ _ _ _ _ _ _)

theorem sout_B_eq (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s
      = View.canon (LS i x0 x1 x2 x3 x4 x5 x6 x7 x8) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 o10 o11 s)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp only [View.ld_unit_lit (S := S512x512) _ _ z2, View.ld_unit_lit (S := S8x512) _ _ z2, View.ld_unit_lit (S := S1x512) _ _ z2]
  rfl

theorem sout_A_eq (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = View.canon (LS i x0 x1 x2 x3 x4 x5 x6 x7 x8) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread]
  simp only [View.ld_unit_lit (S := S512x512) _ _ z2, View.ld_unit_lit (S := S8x512) _ _ z2, View.ld_unit_lit (S := S1x512) _ _ z2]
  exact canon_append [_] (LS i x0 x1 x2 x3 x4 x5 x6 x7 x8) (covS _ _ _ _ _ _ _ _ _ _)

end Open

section Read

variable {I : Inp} {R C : ℕ} {i : grid0.Coords} {x0 x1 : Vec Ideal S512x512 .f32} {x2 x3 : Vec Ideal S8x512 .f32}
    {x4 x5 : Vec Ideal S3x512 .f32} {x6 x7 : Vec Ideal S1x512 .f32} {x8 : Vec Ideal S512x512 .f32}
    {o10 : Vec Ideal S2x1x512 .f32} {o11 : Vec Ideal S2x3x512 .f32} {s : Vec Ideal S2x8x512 .f32}

/-- A load through a unit rectangle of one plane, at an index. -/
theorem ld3 {a b n : ℕ} {Val : EltTy → Type} {e : EltTy} (X : (⟨3, ![a, b, n]⟩ : Shape).Idx → Val e) (h k m : ℕ)
    (inb : ∀ x, (![h, k, 0] : Fin 3 → ℕ) x + (![1, m, n] : Fin 3 → ℕ) x ≤ (⟨3, ![a, b, n]⟩ : Shape).size x) (r : Fin m) (c : Fin n)
    (hh : h < a) (hk : k + r < b) :
    View.ld X (Rect.unit ![h, k, 0] ![1, m, n] inb) (ix3 0 r c) = X (ix3 ⟨h, hh⟩ ⟨k + r, hk⟩ c) :=
  View.ld_unit_apply_of X _ _ _ _ _ fun x => by fin_cases x <;> simp [ix3]

/-- A store through a unit rectangle of one plane, at the index it holds. -/
theorem tile3 {a b m n : ℕ} {Val : EltTy → Type} {e : EltTy} (h k : ℕ) (y0 : Fin a) (y1 : Fin b) (y2 : Fin n)
    (w : (⟨3, ![1, m, n]⟩ : Shape).Idx → Val e) (v : Val e)
    (H : ∀ r : Fin m, y0.val = h → y1.val = k + r → w (ix3 0 r y2) = v) :
    View.TileAt (S := ⟨3, ![a, b, n]⟩) (ix3 y0 y1 y2) ![h, k, 0] ![1, m, n] w v := by
  intro x hx
  obtain ⟨x0, x1, x2, rfl⟩ : ∃ (x0 : Fin 1) (x1 : Fin m) (x2 : Fin n), x = ix3 x0 x1 x2 := ⟨x 0, x 1, x 2, eq_ix3 x⟩
  have e0 : y0.val = h + x0.val := hx 0
  have e1 : y1.val = k + x1.val := hx 1
  have e2 : y2.val = 0 + x2.val := hx 2
  have z : x0 = 0 := Subsingleton.elim _ _
  have e2' : x2 = y2 := Fin.ext (by omega)
  subst z e2'
  exact H x1 (by simpa using e0) e1

/-- The first result's block at an index. -/
theorem L9_apply (H : Finds I R C i x0 x1 x2 x3 x4 x5 x6 x7 x8) (hR : R + 512 ≤ 4096)
    (hs : ∀ (h : Fin 2) (k : Fin 8) (c : Fin 512), s (ix3 h k c) = I.dup h (R + 512 + k) (C + c)) (h : Fin 2) (r c : Fin 512) :
    View.canon (L9 i x0 x1 x2 x3 x4 x5 x6 x7 x8 s) (ix3 h r c) = (I.dup0 h (R + r) (C + c) : EReal) := by
  refine View.canon_eq_of_allAt _ _ _ (cov9 _ _ _ _ _ _ _ _ _ _ _ _) ?_
  refine View.allAt_cons_unit _ _ _ _ _ (tile3 1 0 _ _ _ _ _ fun r' hh hr => ?_) <|
    View.allAt_cons_unit _ _ _ _ _ (tile3 0 0 _ _ _ _ _ fun r' hh hr => ?_) (View.allAt_nil _ _)
  · rw [hh, show r = r' from Fin.ext (by omega)]
    refine H.pay33 hR _ (fun k c => ?_) r' c
    rw [ld3 _ 1 0 8 _ _ _ (by omega) (by omega), hs]
    simp
  · rw [hh, show r = r' from Fin.ext (by omega)]
    refine H.pay21 hR _ (fun k c => ?_) r' c
    rw [show k0_pay19 (View.ld s (Rect.unit ![0, 0, 0] ![1, 8, 512] inb_S2x8x512_S1x8x512_0_0_0)) (ix2 k c)
      = View.ld s (Rect.unit ![0, 0, 0] ![1, 8, 512] inb_S2x8x512_S1x8x512_0_0_0) (ix3 0 k c) by pointwise [k0_pay19],
      ld3 _ 0 0 8 _ _ _ (by omega) (by omega), hs]
    simp

/-- The bias's accumulator at an index. -/
theorem L10_apply (H : Finds I R C i x0 x1 x2 x3 x4 x5 x6 x7 x8) (hR : R + 512 ≤ 4096)
    (ho : ∀ (h : Fin 2) (c : Fin 512), o10 (ix3 h 0 c) = I.dcb h (R + 512) (C + c)) (h : Fin 2) (c : Fin 512) :
    View.canon (L10 i x0 x1 x2 x3 x4 x5 x6 x7 x8 o10) (ix3 h 0 c) = (I.dcb h R (C + c) : EReal) := by
  refine View.canon_eq_of_allAt _ _ _ (cov10 _ _ _ _ _ _ _ _ _ _ _ _) ?_
  refine View.allAt_cons_unit _ _ _ _ _ (tile3 1 0 _ _ _ _ _ fun r' hh hr => ?_) <|
    View.allAt_cons_unit _ _ _ _ _ (tile3 0 0 _ _ _ _ _ fun r' hh hr => ?_) (View.allAt_nil _ _)
  all_goals rw [hh, show r' = 0 from Subsingleton.elim _ _]
  · refine pay35 _ (fun t => I.dup 1 t (C + c)) R c hR (fun r => H.dg hR r c) _ ?_
    rw [ld3 _ 1 0 1 _ _ _ (by omega) (by decide)]
    exact ho 1 c
  · refine pay24 _ (fun t => I.dup 0 t (C + c)) R c hR (fun r => H.dv hR r c) _ ?_
    rw [ld3 _ 0 0 1 _ _ _ (by omega) (by decide)]
    exact ho 0 c

/-- The filter's accumulator at an index. -/
theorem L11_apply (H : Finds I R C i x0 x1 x2 x3 x4 x5 x6 x7 x8) (hR : R + 512 ≤ 4096)
    (ho : ∀ (h : Fin 2) (k : Fin 3) (c : Fin 512), o11 (ix3 h k c) = I.dcw h k (R + 512) (C + c)) (h : Fin 2) (k : Fin 3) (c : Fin 512) :
    View.canon (L11 i x0 x1 x2 x3 x4 x5 x6 x7 x8 o11) (ix3 h k c) = (I.dcw h k R (C + c) : EReal) := by
  refine View.canon_eq_of_allAt _ _ _ (cov11 _ _ _ _ _ _ _ _ _ _ _ _) ?_
  refine View.allAt_cons_unit _ _ _ _ _ (tile3 1 2 _ _ _ _ _ fun r' hh hk => ?_) <|
    View.allAt_cons_unit _ _ _ _ _ (tile3 1 1 _ _ _ _ _ fun r' hh hk => ?_) <|
    View.allAt_cons_unit _ _ _ _ _ (tile3 1 0 _ _ _ _ _ fun r' hh hk => ?_) <|
    View.allAt_cons_unit _ _ _ _ _ (tile3 0 2 _ _ _ _ _ fun r' hh hk => ?_) <|
    View.allAt_cons_unit _ _ _ _ _ (tile3 0 1 _ _ _ _ _ fun r' hh hk => ?_) <|
    View.allAt_cons_unit _ _ _ _ _ (tile3 0 0 _ _ _ _ _ fun r' hh hk => ?_) (View.allAt_nil _ _)
  all_goals
    have hz : r' = 0 := Subsingleton.elim _ _
    subst hz
    rw [hh, hk]
  · refine pay41 x1 _ (fun t => I.hp t (C + c + 5632)) (fun t => I.dup 1 t (C + c)) R c hR (fun r => H.dg hR r c)
      (fun r => H.h1 r c) _ ?_
    rw [ld3 _ 1 2 1 _ _ _ (by omega) (by decide)]
    exact ho 1 2 c
  · refine pay40 _ x1 _ (fun t => I.hp t (C + c + 5632)) (fun t => I.dup 1 t (C + c)) R c hR (fun r => H.dg hR r c)
      (fun r => H.h1 r c) (H.h37 c) _ ?_
    rw [ld3 _ 1 1 1 _ _ _ (by omega) (by decide)]
    exact ho 1 1 c
  · refine pay39 _ x1 _ (fun t => I.hp t (C + c + 5632)) (fun t => I.dup 1 t (C + c)) R c hR (fun r => H.dg hR r c)
      (fun r => H.h1 r c) (H.h36 c) (H.h37 c) _ ?_
    rw [ld3 _ 1 0 1 _ _ _ (by omega) (by decide)]
    exact ho 1 0 c
  · refine pay29 x0 _ (fun t => I.hp t (C + c)) (fun t => I.dup 0 t (C + c)) R c hR (fun r => H.dv hR r c)
      (fun r => H.h0 r c) _ ?_
    rw [ld3 _ 0 2 1 _ _ _ (by omega) (by decide)]
    exact ho 0 2 c
  · refine pay28 _ x0 _ (fun t => I.hp t (C + c)) (fun t => I.dup 0 t (C + c)) R c hR (fun r => H.dv hR r c)
      (fun r => H.h0 r c) (H.h27 c) _ ?_
    rw [ld3 _ 0 1 1 _ _ _ (by omega) (by decide)]
    exact ho 0 1 c
  · refine pay25 _ x0 _ (fun t => I.hp t (C + c)) (fun t => I.dup 0 t (C + c)) R c hR (fun r => H.dv hR r c)
      (fun r => H.h0 r c) (H.h26 c) (H.h27 c) _ ?_
    rw [ld3 _ 0 0 1 _ _ _ (by omega) (by decide)]
    exact ho 0 0 c

/-- The kept rows at an index. -/
theorem LS_apply (H : Finds I R C i x0 x1 x2 x3 x4 x5 x6 x7 x8) (hR : R + 512 ≤ 4096) (h : Fin 2) (k : Fin 8) (c : Fin 512) :
    View.canon (LS i x0 x1 x2 x3 x4 x5 x6 x7 x8) (ix3 h k c) = (I.dup h (R + k) (C + c) : EReal) := by
  refine View.canon_eq_of_allAt _ _ _ (covS _ _ _ _ _ _ _ _ _ _ _) ?_
  refine View.allAt_cons_unit _ _ _ _ _ (tile3 1 0 _ _ _ _ _ fun r' hh hr => ?_) <|
    View.allAt_cons_unit _ _ _ _ _ (tile3 0 0 _ _ _ _ _ fun r' hh hr => ?_) (View.allAt_nil _ _)
  · rw [hh, show k = r' from Fin.ext (by omega), pay34]
    exact H.dg hR _ c
  · rw [hh, show k = r' from Fin.ext (by omega), pay22]
    exact H.dv hR _ c

end Read

end Cert.Gate

end
-- ==== Proof.GateKernel.lean ====
/- The grid of the gate's backward pass: what each point finds in its windows, what the points leave one after the other, and so what
   the three result arrays hold when the last point is done. -/
module

public import proofs.«01_k».proof.Proof.GateRun
public import Idealize.ShloMosaic.Lib.Pipeline.ValueKit.Point

@[expose] public section

noncomputable section

namespace Cert.Gate

open Cert.KernelIdeal Cert.KernelIdeal.Gen Idealize.ShloMosaic Idealize.ShloMosaic.TcCoe Idealize.SL.Sem

set_option maxRecDepth 16384

/-- The four argument arrays, read with plain numbers (zero outside the arrays). -/
def inp (a0 : Vec Ideal S4096x11264 .f32) (a1 : Vec Ideal S3x11264 .f32) (a2 : Vec Ideal S11264 .f32) (a3 : Vec Ideal S4096x5632 .f32) : Inp where
  U i j := if h : i < 4096 ∧ j < 11264 then a0 (ix2 ⟨i, h.1⟩ ⟨j, h.2⟩) else 0
  W i j := if h : i < 3 ∧ j < 11264 then a1 (ix2 ⟨i, h.1⟩ ⟨j, h.2⟩) else 0
  B j := if h : j < 11264 then a2 (ix1 ⟨j, h⟩) else 0
  D i j := if h : i < 4096 ∧ j < 5632 then a3 (ix2 ⟨i, h.1⟩ ⟨j, h.2⟩) else 0

section Inp
variable (a0 : Vec Ideal S4096x11264 .f32) (a1 : Vec Ideal S3x11264 .f32) (a2 : Vec Ideal S11264 .f32) (a3 : Vec Ideal S4096x5632 .f32)

theorem inp_U (i j : ℕ) (hi : i < 4096) (hj : j < 11264) : (inp a0 a1 a2 a3).U i j = a0 (ix2 ⟨i, hi⟩ ⟨j, hj⟩) := dif_pos ⟨hi, hj⟩
theorem inp_W (i j : ℕ) (hi : i < 3) (hj : j < 11264) : (inp a0 a1 a2 a3).W i j = a1 (ix2 ⟨i, hi⟩ ⟨j, hj⟩) := dif_pos ⟨hi, hj⟩
theorem inp_B (j : ℕ) (hj : j < 11264) : (inp a0 a1 a2 a3).B j = a2 (ix1 ⟨j, hj⟩) := dif_pos hj
theorem inp_D (i j : ℕ) (hi : i < 4096) (hj : j < 5632) : (inp a0 a1 a2 a3).D i j = a3 (ix2 ⟨i, hi⟩ ⟨j, hj⟩) := dif_pos ⟨hi, hj⟩

/-- A row behind the two rows of zeros is a row of the array. -/
theorem inp_hp (i j : ℕ) (hi : i < 4096) (hj : j < 11264) : (inp a0 a1 a2 a3).hp (i + 2) j = a0 (ix2 ⟨i, hi⟩ ⟨j, hj⟩) := by
  unfold Inp.hp
  rw [if_neg (by omega), show i + 2 - 2 = i by omega, inp_U a0 a1 a2 a3 i j hi hj]
end Inp

/-- Where the windows' blocks lie. -/
theorem idx_facts : ∀ t : Fin cfg0.N,
    (win0_0.index t 0 = 7 - t.val % 8 ∧ win0_0.index t 1 = t.val / 8)
    ∧ (win0_1.index t 0 = 7 - t.val % 8 ∧ win0_1.index t 1 = t.val / 8 + 11)
    ∧ (win0_2.index t 0 = 64 * (7 - t.val % 8) - 1 ∧ win0_2.index t 1 = t.val / 8)
    ∧ (win0_3.index t 0 = 64 * (7 - t.val % 8) - 1 ∧ win0_3.index t 1 = t.val / 8 + 11)
    ∧ (win0_4.index t 0 = 0 ∧ win0_4.index t 1 = t.val / 8)
    ∧ (win0_5.index t 0 = 0 ∧ win0_5.index t 1 = t.val / 8 + 11)
    ∧ (win0_6.index t 0 = 0 ∧ win0_6.index t 1 = t.val / 8)
    ∧ (win0_7.index t 0 = 0 ∧ win0_7.index t 1 = t.val / 8 + 11)
    ∧ (win0_8.index t 0 = 7 - t.val % 8 ∧ win0_8.index t 1 = t.val / 8) :=
  (by decide +kernel : ∀ t : Fin grid0.N, _)

theorem idx_outs : ∀ t : Fin cfg0.N,
    (win0_9.index t 0 = 0 ∧ win0_9.index t 1 = 7 - t.val % 8 ∧ win0_9.index t 2 = t.val / 8)
    ∧ (win0_10.index t 0 = 0 ∧ win0_10.index t 1 = 0 ∧ win0_10.index t 2 = t.val / 8)
    ∧ (win0_11.index t 0 = 0 ∧ win0_11.index t 1 = 0 ∧ win0_11.index t 2 = t.val / 8) :=
  (by decide +kernel : ∀ t : Fin grid0.N, _)

theorem coord1 (t : Fin cfg0.N) : (grid0.coords t 1).val = t.val % 8 := by
  have h : (grid0.coords t 1).val = t.val / 1 % 8 := Pipeline.Grid.coords_val t 1 (by decide) rfl
  rw [h, Nat.div_one]

variable (m : (ℓ : Loc nD τ sig) → Buf (Elt Ideal) ℓ) (c : Dev nD)

/-- The arguments of core `c`. -/
def args : Inp := inp (m ((c : Thread nD τ).loc main_arg0)) (m ((c : Thread nD τ).loc main_arg1)) (m ((c : Thread nD τ).loc main_arg2))
  (m ((c : Thread nD τ).loc main_arg3))

theorem hN (t : Fin cfg0.N) : t.val < 88 := lt_of_lt_of_eq t.isLt N_0

theorem iblk0 (t : Fin cfg0.N) (r k : Fin 512) :
    iblk m c 0 t (ix2 r k) = (args m c).hp (512 * (7 - t.val % 8) + r + 2) (512 * (t.val / 8) + k) := by
  have hn := hN t
  obtain ⟨⟨e0, e1⟩, -⟩ := idx_facts t
  unfold args
  rw [inp_hp _ _ _ _ _ _ (by omega) (by omega)]
  blk_ext [iblk, V_main_arg0, e0, e1]

theorem iblk1 (t : Fin cfg0.N) (r k : Fin 512) :
    iblk m c 1 t (ix2 r k) = (args m c).hp (512 * (7 - t.val % 8) + r + 2) (512 * (t.val / 8) + k + 5632) := by
  have hn := hN t
  obtain ⟨-, ⟨e0, e1⟩, -⟩ := idx_facts t
  unfold args
  rw [inp_hp _ _ _ _ _ _ (by omega) (by omega)]
  blk_ext [iblk, V_main_arg0, e0, e1]

theorem iblk2 (t : Fin cfg0.N) (r : Fin 8) (k : Fin 512) (hr : 6 ≤ r.val) (ht : t.val % 8 ≠ 7) :
    iblk m c 2 t (ix2 r k) = (args m c).hp (512 * (7 - t.val % 8) + (r - 6)) (512 * (t.val / 8) + k) := by
  have hn := hN t
  obtain ⟨-, -, ⟨e0, e1⟩, -⟩ := idx_facts t
  unfold args
  rw [show 512 * (7 - t.val % 8) + (r.val - 6) = 512 * (7 - t.val % 8) - 8 + r + 2 by omega, inp_hp _ _ _ _ _ _ (by omega) (by omega)]
  blk_ext [iblk, V_main_arg0, e0, e1]

theorem iblk3 (t : Fin cfg0.N) (r : Fin 8) (k : Fin 512) (hr : 6 ≤ r.val) (ht : t.val % 8 ≠ 7) :
    iblk m c 3 t (ix2 r k) = (args m c).hp (512 * (7 - t.val % 8) + (r - 6)) (512 * (t.val / 8) + k + 5632) := by
  have hn := hN t
  obtain ⟨-, -, -, ⟨e0, e1⟩, -⟩ := idx_facts t
  unfold args
  rw [show 512 * (7 - t.val % 8) + (r.val - 6) = 512 * (7 - t.val % 8) - 8 + r + 2 by omega, inp_hp _ _ _ _ _ _ (by omega) (by omega)]
  blk_ext [iblk, V_main_arg0, e0, e1]

theorem iblk4 (t : Fin cfg0.N) (r : Fin 3) (k : Fin 512) : iblk m c 4 t (ix2 r k) = (args m c).W r (512 * (t.val / 8) + k) := by
  have hn := hN t
  obtain ⟨-, -, -, -, ⟨e0, e1⟩, -⟩ := idx_facts t
  unfold args
  rw [inp_W _ _ _ _ _ _ (by omega) (by omega)]
  blk_ext [iblk, V_main_arg1, e0, e1]

theorem iblk5 (t : Fin cfg0.N) (r : Fin 3) (k : Fin 512) : iblk m c 5 t (ix2 r k) = (args m c).W r (512 * (t.val / 8) + k + 5632) := by
  have hn := hN t
  obtain ⟨-, -, -, -, -, ⟨e0, e1⟩, -⟩ := idx_facts t
  unfold args
  rw [inp_W _ _ _ _ _ _ (by omega) (by omega)]
  blk_ext [iblk, V_main_arg1, e0, e1]

theorem iblk6 (t : Fin cfg0.N) (k : Fin 512) : iblk m c 6 t (ix2 0 k) = (args m c).B (512 * (t.val / 8) + k) := by
  have hn := hN t
  obtain ⟨-, -, -, -, -, -, ⟨e0, e1⟩, -⟩ := idx_facts t
  unfold args
  rw [inp_B _ _ _ _ _ (by omega)]
  blk_ext! [iblk, V, e0, e1]

theorem iblk7 (t : Fin cfg0.N) (k : Fin 512) : iblk m c 7 t (ix2 0 k) = (args m c).B (512 * (t.val / 8) + k + 5632) := by
  have hn := hN t
  obtain ⟨-, -, -, -, -, -, -, ⟨e0, e1⟩, -⟩ := idx_facts t
  unfold args
  rw [inp_B _ _ _ _ _ (by omega)]
  blk_ext! [iblk, V, e0, e1]

theorem iblk8 (t : Fin cfg0.N) (r k : Fin 512) :
    iblk m c 8 t (ix2 r k) = (args m c).D (512 * (7 - t.val % 8) + r) (512 * (t.val / 8) + k) := by
  have hn := hN t
  obtain ⟨-, -, -, -, -, -, -, -, e0, e1⟩ := idx_facts t
  unfold args
  rw [inp_D _ _ _ _ _ _ (by omega) (by omega)]
  blk_ext [iblk, V_main_arg3, e0, e1]

/-- The rows above a tile: zero above the first tile, else what the window brings. -/
theorem mask5 (i : grid0.Coords) (x : Vec Ideal S8x512 .f32) (r : Fin 8) (k : Fin 512) :
    k0_pay5 i x (ix2 r k) = (if (i 1).val = 7 then 0 else x (ix2 r k) : EReal) := by
  pointwise [k0_pay5]
  have h7 : (i 1).val < 2 ^ 32 := lt_of_lt_of_le (i 1).isLt (by decide)
  by_cases h : (i 1).val = 7
  · rw [if_pos h]
    exact if_pos ((WordCmp.cmpi_eq_ofNat_eq_one_iff h7 (by decide)).mpr h)
  · rw [if_neg h]
    exact if_neg fun e => h ((WordCmp.cmpi_eq_ofNat_eq_one_iff h7 (by decide)).mp e)

theorem mask6 (i : grid0.Coords) (x : Vec Ideal S8x512 .f32) (r : Fin 8) (k : Fin 512) :
    k0_pay6 i x (ix2 r k) = (if (i 1).val = 7 then 0 else x (ix2 r k) : EReal) := mask5 i x r k

theorem hp_zero (I : Inp) (s j : ℕ) (h : s < 2) : I.hp s j = 0 := if_pos h

/-- The nine windows at point `t`. -/
theorem finds (t : Fin cfg0.N) : Finds (args m c) (512 * (7 - t.val % 8)) (512 * (t.val / 8)) (grid0.coords t)
    (iblk m c 0 t) (iblk m c 1 t) (iblk m c 2 t) (iblk m c 3 t) (iblk m c 4 t) (iblk m c 5 t) (iblk m c 6 t) (iblk m c 7 t) (iblk m c 8 t) where
  h0 := iblk0 m c t
  h1 := iblk1 m c t
  h26 k := by
    rw [mask5, coord1]
    split
    · next h => exact (hp_zero _ _ _ (by omega)).symm
    · next h => exact iblk2 m c t 6 k (by decide) h
  h27 k := by
    rw [mask5, coord1]
    split
    · next h => exact (hp_zero _ _ _ (by omega)).symm
    · next h => exact iblk2 m c t 7 k (by decide) h
  h36 k := by
    rw [mask6, coord1]
    split
    · next h => exact (hp_zero _ _ _ (by omega)).symm
    · next h => exact iblk3 m c t 6 k (by decide) h
  h37 k := by
    rw [mask6, coord1]
    split
    · next h => exact (hp_zero _ _ _ (by omega)).symm
    · next h => exact iblk3 m c t 7 k (by decide) h
  h4 := iblk4 m c t
  h5 := iblk5 m c t
  h6 := iblk6 m c t
  h7 := iblk7 m c t
  h8 := iblk8 m c t

/-- What the points up to `n` leave in the buffers, at extended reals: the tile of the rows' gradient, the sums over the rows from this
    tile on, and the first eight rows of the tile's gradient. -/
structure Leaves (I : Inp) (R C : ℕ) (o : Vec Ideal S2x512x512 .bf16 × Vec Ideal S2x1x512 .f32 × Vec Ideal S2x3x512 .f32 × Vec Ideal S2x8x512 .f32) : Prop where
  up : ∀ (h : Fin 2) (r k : Fin 512), o.1 (ix3 h r k) = (I.dup0 h (R + r) (C + k) : EReal)
  bias : ∀ (h : Fin 2) (k : Fin 512), o.2.1 (ix3 h 0 k) = (I.dcb h R (C + k) : EReal)
  filt : ∀ (h : Fin 2) (q : Fin 3) (k : Fin 512), o.2.2.1 (ix3 h q k) = (I.dcw h q R (C + k) : EReal)
  keep : ∀ (h : Fin 2) (q : Fin 8) (k : Fin 512), o.2.2.2 (ix3 h q k) = (I.dup h (R + q) (C + k) : EReal)

theorem zero2 (x : S2x1x512.Idx) : k0_pay2 (F := Ideal) x = (0 : EReal) := by
  pointwise [k0_pay2]
theorem zero3 (x : S2x3x512.Idx) : k0_pay3 (F := Ideal) x = (0 : EReal) := by
  pointwise [k0_pay3]
theorem zero4 (x : S2x8x512.Idx) : k0_pay4 (F := Ideal) x = (0 : EReal) := by
  pointwise [k0_pay4]

theorem leaves_A (t : Fin cfg0.N) (h0 : t.val % 8 = 0) :
    Leaves (args m c) (512 * (7 - t.val % 8)) (512 * (t.val / 8)) (outsAt0 m c t.val t.isLt) := by
  have H := finds m c t
  have hR : 512 * (7 - t.val % 8) + 512 ≤ 4096 := by omega
  have hE : 512 * (7 - t.val % 8) + 512 = 4096 := by omega
  rw [outsAt0_A m c t h0]
  constructor
  · intro h r k
    dsimp only
    rw [out9_A_eq]
    refine L9_apply H hR (fun h k c => ?_) h r k
    rw [zero4, Inp.dup, if_neg (by omega)]
  · intro h k
    dsimp only
    rw [out10_A_eq]
    refine L10_apply H hR (fun h c => ?_) h k
    rw [zero2, Inp.dcb, hE, Finset.Ico_self, Finset.sum_empty]
  · intro h q k
    dsimp only
    rw [out11_A_eq]
    refine L11_apply H hR (fun h k c => ?_) h q k
    rw [zero3, Inp.dcw, hE, Finset.Ico_self, Finset.sum_empty]
  · intro h q k
    dsimp only
    rw [sout_A_eq]
    exact LS_apply H hR h q k

theorem leaves_B (t : Fin cfg0.N) (h0 : ¬t.val % 8 = 0)
    (ih : Leaves (args m c) (512 * (7 - t.val % 8) + 512) (512 * (t.val / 8)) (outsAt0 m c (t.val - 1) (lt_of_le_of_lt (Nat.sub_le _ _) t.isLt))) :
    Leaves (args m c) (512 * (7 - t.val % 8)) (512 * (t.val / 8)) (outsAt0 m c t.val t.isLt) := by
  have H := finds m c t
  have hR : 512 * (7 - t.val % 8) + 512 ≤ 4096 := by omega
  rw [outsAt0_B m c t h0]
  constructor
  · intro h r k
    dsimp only
    rw [out9_B_eq]
    exact L9_apply H hR ih.keep h r k
  · intro h k
    dsimp only
    rw [out10_B_eq]
    exact L10_apply H hR ih.bias h k
  · intro h q k
    dsimp only
    rw [out11_B_eq]
    exact L11_apply H hR ih.filt h q k
  · intro h q k
    dsimp only
    rw [sout_B_eq]
    exact LS_apply H hR h q k

/-- By induction on the point. -/
theorem leaves : ∀ (n : ℕ) (hn : n < cfg0.N), Leaves (args m c) (512 * (7 - n % 8)) (512 * (n / 8)) (outsAt0 m c n hn)
  | 0, hn => leaves_A m c ⟨0, hn⟩ rfl
  | n + 1, hn => by
    by_cases h0 : (n + 1) % 8 = 0
    · exact leaves_A m c ⟨n + 1, hn⟩ h0
    · refine leaves_B m c ⟨n + 1, hn⟩ h0 ?_
      have ih := leaves n (Nat.lt_of_succ_lt hn)
      have e1 : 512 * (7 - n % 8) = 512 * (7 - (n + 1) % 8) + 512 := by omega
      have e2 : n / 8 = (n + 1) / 8 := by omega
      rw [e1, e2] at ih
      exact ih

end Cert.Gate
-- ==== Proof.GateArrays.lean ====
/- The three result arrays of the gate's backward pass after the last grid point. -/
module

public import proofs.«01_k».proof.Proof.GateKernel
public import Idealize.ShloMosaic.Lib.Pipeline.ValueKit

@[expose] public section

noncomputable section

namespace Cert.Gate

open Cert.KernelIdeal Cert.KernelIdeal.Gen Idealize.ShloMosaic Idealize.ShloMosaic.TcCoe Idealize.SL.Sem

set_option maxRecDepth 16384

/-- The first result's contents: the gradient of the rows before the convolution, its two halves. -/
def upArr (I : Inp) : Vec Ideal S2x4096x5632 .bf16 := fun y => (I.dup0 (y 0) (y 1) (y 2) : EReal)
/-- The second's: the gradient of the bias. -/
def biasArr (I : Inp) : Vec Ideal S2x1x5632 .f32 := fun y => (I.dcb (y 0) 0 (y 2) : EReal)
/-- The third's: the gradient of the filter. -/
def filtArr (I : Inp) : Vec Ideal S2x3x5632 .f32 := fun y => (I.dcw (y 0) (y 1) 0 (y 2) : EReal)

variable (m : (ℓ : Loc nD τ sig) → Buf (Elt Ideal) ℓ) (c : Dev nD)

theorem final9 : (dats m 0 c).arrAt 9 cfg0.N = upArr (args m c) := by
  refine (dats m 0 c).arrAt_eq_of_covers 9 _ (by decide +kernel) fun t hf y => ?_
  have hn := hN t
  obtain ⟨⟨e0, e1, e2⟩, -⟩ := idx_outs t
  rw [after0_9]
  have hy : y = ix3 (y 0) (y 1) (y 2) := eq_ix3 y
  rw [hy]
  refine ((leaves m c t.val t.isLt).up (y 0) (y 1) (y 2)).trans ?_
  unfold upArr
  blk_simp [e0, e1, e2]
  rw [Nat.mul_comm 512 (7 - t.val % 8), Nat.mul_comm 512 (t.val / 8)]

theorem final10 : (dats m 0 c).arrAt 10 cfg0.N = biasArr (args m c) := by
  refine (dats m 0 c).arrAt_eq_of_covers 10 _ (by decide +kernel) fun t hf y => ?_
  have hn := hN t
  have hl : t.val % 8 = 7 := (flush0_10 t).mp hf
  obtain ⟨-, ⟨e0, e1, e2⟩, -⟩ := idx_outs t
  rw [after0_10]
  have hy1 : y 1 = (0 : Fin 1) := Subsingleton.elim (α := Fin 1) _ _
  have hy : y = ix3 (y 0) 0 (y 2) := (eq_ix3 y).trans (by rw [hy1]; rfl)
  rw [hy]
  refine ((leaves m c t.val t.isLt).bias (y 0) (y 2)).trans ?_
  unfold biasArr
  blk_simp [e0, e1, e2]
  rw [hl, Nat.mul_comm 512 (t.val / 8)]

theorem final11 : (dats m 0 c).arrAt 11 cfg0.N = filtArr (args m c) := by
  refine (dats m 0 c).arrAt_eq_of_covers 11 _ (by decide +kernel) fun t hf y => ?_
  have hn := hN t
  have hl : t.val % 8 = 7 := (flush0_11 t).mp hf
  obtain ⟨-, -, e0, e1, e2⟩ := idx_outs t
  rw [after0_11]
  have hy : y = ix3 (y 0) (y 1) (y 2) := eq_ix3 y
  rw [hy]
  refine ((leaves m c t.val t.isLt).filt (y 0) (y 1) (y 2)).trans ?_
  unfold filtArr
  blk_simp [e0, e1, e2]
  rw [hl, Nat.mul_comm 512 (t.val / 8)]

/-- The kernel's run: the three results at their closed forms, the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v1_0) = upArr (args m c)
      ∧ r.2.mem ((c : Thread nD τ).loc main_v1_1) = biasArr (args m c)
      ∧ r.2.mem ((c : Thread nD τ).loc main_v1_2) = filtArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    have h' := h c
    rw [final9, final10, final11] at h'
    exact h') (Cert.KernelIdeal.Value.run_blocks m ρ)

end Cert.Gate
-- ==== Proof.Gelu.lean ====
/- The derivative of the gated product `gelu g · v`, as the reference writes it and as the kernel writes it: the same on real numbers. -/
module

public import proofs.«01_k».proof.Proof.GateSpec

@[expose] public section

noncomputable section

namespace Cert.Gate

open Idealize.ShloMosaic

/-- A number that is neither infinity. -/
def Fin' (x : EReal) : Prop := ∃ r : ℝ, x = (r : EReal)

theorem Fin'.add {x y : EReal} : Fin' x → Fin' y → Fin' (x + y) := by
  rintro ⟨a, rfl⟩ ⟨b, rfl⟩; exact ⟨a + b, (EReal.coe_add a b).symm⟩

theorem Fin'.mul {x y : EReal} : Fin' x → Fin' y → Fin' (x * y) := by
  rintro ⟨a, rfl⟩ ⟨b, rfl⟩; exact ⟨a * b, (EReal.coe_mul a b).symm⟩

theorem fin_zero : Fin' 0 := ⟨0, EReal.coe_zero.symm⟩

/-- The reference's hyperbolic tangent. -/
def thR (g : EReal) : EReal := Ideal.tanh (kc * (g + ka * (g * g * g)))
/-- The reference's gradient of the values. -/
def refV (d g : EReal) : EReal := g * (kh * (1 + thR g)) * d
/-- The reference's gradient of the gates. -/
def refG (d v g : EReal) : EReal :=
  d * v * (kh * (1 + thR g)) + kc * (kh * (g * (d * v)) * ((1 + thR g) * (1 - thR g)))
    + ka * (kc * (kh * (g * (d * v)) * ((1 + thR g) * (1 - thR g)))) * (((3 : ℝ) : EReal) * (g * g))

theorem thR_eq (x : ℝ) : thR x = th x := by
  unfold thR th kc ka
  congr 1
  norm_cast
  push_cast
  ring

theorem th_real (x : ℝ) : ∃ T : ℝ, th x = (T : EReal) := by
  refine ⟨Real.tanh (13386282 / 16777216 * x * (1 + 12003091 / 268435456 * (x * x))), ?_⟩
  unfold th kc ka
  rw [← Ideal.tanh_coe]
  congr 1

theorem refV_eq (d g : EReal) (hd : Fin' d) (hg : Fin' g) : refV d g = d * act g := by
  obtain ⟨d, rfl⟩ := hd
  obtain ⟨x, rfl⟩ := hg
  obtain ⟨T, hT⟩ := th_real x
  unfold refV act
  rw [thR_eq, hT]
  unfold kh
  norm_cast
  push_cast
  ring

theorem refG_eq (d v g : EReal) (hd : Fin' d) (hv : Fin' v) (hg : Fin' g) : refG d v g = d * v * grad g := by
  obtain ⟨d, rfl⟩ := hd
  obtain ⟨v, rfl⟩ := hv
  obtain ⟨x, rfl⟩ := hg
  obtain ⟨T, hT⟩ := th_real x
  unfold refG grad
  rw [thR_eq, hT]
  unfold kh kc ka k3
  norm_cast
  push_cast
  ring

/-- Every number of the arguments is finite. -/
structure Inp.Finite (I : Inp) : Prop where
  U : ∀ i j, Fin' (I.U i j)
  W : ∀ i j, Fin' (I.W i j)
  B : ∀ j, Fin' (I.B j)
  D : ∀ i j, Fin' (I.D i j)

namespace Inp.Finite
variable {I : Inp} (H : I.Finite)
include H

theorem hp (s j : ℕ) : Fin' (I.hp s j) := by
  unfold Inp.hp
  split
  · exact fin_zero
  · exact H.U _ _

theorem up (t j : ℕ) : Fin' (I.up t j) :=
  (((H.B j).add ((H.W 0 j).mul (H.hp t j))).add ((H.W 1 j).mul (H.hp (t + 1) j))).add ((H.W 2 j).mul (H.hp (t + 2) j))

end Inp.Finite

end Cert.Gate
-- ==== Proof.GateReference.lean ====
/- What the reference computes, stage by stage, on finite arguments: the same closed forms as the kernel's. -/
module

public import proofs.«01_k».proof.Proof.GateArrays
public import proofs.«01_k».proof.Proof.Gelu
public import proofs.«01_k».proof.Proof.Gen.ReferenceIdeal.Read
public import Idealize.ShloMosaic.Lib.Pipeline.ValueKit
public import Idealize.ShloMosaic.Lib.Pointwise

@[expose] public section

noncomputable section

namespace Cert.Gate

open Cert.ReferenceIdeal Cert.ReferenceIdeal.Gen Cert.ReferenceIdeal.Read Idealize.ShloMosaic Idealize.ShloMosaic.TcCoe Idealize.SL.Sem

set_option maxRecDepth 16384

variable {x0 : Vec Ideal S4096x11264 .f32} {x1 : Vec Ideal S3x11264 .f32} {x2 : Vec Ideal S11264 .f32} {x3 : Vec Ideal S4096x5632 .f32}

variable {I : Inp} (hI : I = inp x0 x1 x2 x3)
include hI

/-- The rows behind two rows of zeros. -/
theorem r3 (s : Fin 4098) (j : Fin 11264) : val_main_v3 (F := Ideal) x0 (ix3 0 s j) = (I.hp s j : EReal) := by
  pointwise [val_main_v3, val_main_v2, val_main_v0, val_main_cst]
  split
  · next h => exact (if_pos h).symm
  · next h =>
    subst hI
    exact (inp_hp x0 x1 x2 x3 (s.val - 2) j.val (by omega) j.isLt).symm.trans
      (congrArg (fun q => (inp x0 x1 x2 x3).hp q j) (show s.val - 2 + 2 = s.val by omega))

theorem r5 (t : Fin 4096) (j : Fin 11264) : val_main_v5 (F := Ideal) x0 (ix3 0 t j) = (I.hp t j : EReal) := by
  pointwise [val_main_v5]
  exact r3 hI ⟨t.val, by omega⟩ j

theorem r14 (t : Fin 4096) (j : Fin 11264) : val_main_v14 (F := Ideal) x0 (ix3 0 t j) = (I.hp (t + 1) j : EReal) := by
  pointwise [val_main_v14]
  exact (r3 hI ⟨1 + t.val, by omega⟩ j).trans (congrArg (fun q => I.hp q j) (Nat.add_comm 1 t.val))

theorem r21 (t : Fin 4096) (j : Fin 11264) : val_main_v21 (F := Ideal) x0 (ix3 0 t j) = (I.hp (t + 2) j : EReal) := by
  pointwise [val_main_v21]
  exact (r3 hI ⟨2 + t.val, by omega⟩ j).trans (congrArg (fun q => I.hp q j) (Nat.add_comm 2 t.val))

/-- The filter's rows. -/
theorem w0 (j : Fin 11264) : x1 (ix2 0 j) = I.W 0 j := by subst hI; exact (inp_W x0 x1 x2 x3 0 j.val (by decide) j.isLt).symm
theorem w1 (j : Fin 11264) : x1 (ix2 1 j) = I.W 1 j := by subst hI; exact (inp_W x0 x1 x2 x3 1 j.val (by decide) j.isLt).symm
theorem w2 (j : Fin 11264) : x1 (ix2 2 j) = I.W 2 j := by subst hI; exact (inp_W x0 x1 x2 x3 2 j.val (by decide) j.isLt).symm
theorem b0 (j : Fin 11264) : x2 (ix1 j) = I.B j := by subst hI; exact (inp_B x0 x1 x2 x3 j.val j.isLt).symm
theorem d0 (t : Fin 4096) (j : Fin 5632) : x3 (ix2 t j) = I.D t j := by subst hI; exact (inp_D x0 x1 x2 x3 t.val j.val t.isLt j.isLt).symm

/-- The convolved rows. -/
theorem r27 (t : Fin 4096) (j : Fin 11264) : val_main_v27 (F := Ideal) x0 x1 x2 (ix3 0 t j) = (I.up t j : EReal) := by
  pointwise [val_main_v27, val_main_v26, val_main_v25, val_main_v24, val_main_v23, val_main_v22, val_main_v20, val_main_v19, val_main_v18,
    val_main_v17, val_main_v16, val_main_v15, val_main_v13, val_main_v12, val_main_v11, val_main_v10, val_main_v9, val_main_v8, val_main_v7, val_main_v6]
  rw [r5 hI, r14 hI, r21 hI, w0 hI, w1 hI, w2 hI, b0 hI]
  unfold Inp.up
  rw [mul_comm (Inp.hp _ _ _), mul_comm (Inp.hp _ _ _), mul_comm (Inp.hp _ _ _)]

theorem r28 (t : Fin 4096) (j : Fin 5632) : val_main_v28 (F := Ideal) x0 x1 x2 (ix3 0 t j) = (I.up t j : EReal) := by
  pointwise [val_main_v28]
  exact r27 hI t ⟨j.val, by omega⟩

theorem r29 (t : Fin 4096) (j : Fin 5632) : val_main_v29 (F := Ideal) x0 x1 x2 (ix3 0 t j) = (I.up t (j + 5632) : EReal) := by
  pointwise [val_main_v29]
  exact (r27 hI t ⟨5632 + j.val, by omega⟩).trans (congrArg (fun q => I.up t q) (Nat.add_comm 5632 j.val))

omit hI in
theorem ofBits_three : Ideal.ofBits .f32 0x40400000#32 = ((3 : ℝ) : EReal) := by
  simp [Ideal.ofBits, Ideal.ieee, -EReal.coe_mul]; norm_num

/-- The gradient of the values. -/
theorem r53 (t : Fin 4096) (j : Fin 5632) :
    val_main_v53 (F := Ideal) x0 x1 x2 x3 (ix3 0 t j) = (refV (I.D t j) (I.up t (j + 5632)) : EReal) := by
  pointwise [val_main_v53, val_main_v52, val_main_v50, val_main_v49, val_main_v48, val_main_v47, val_main_v46, val_main_v40, val_main_v39, val_main_v38,
    val_main_v37, val_main_v36, val_main_v35, val_main_v31, val_main_v30, val_main_cst_7, val_main_cst_6, val_main_cst_3, val_main_cst_2]
  rw [r29 hI, d0 hI, ofBits_half, ofBits_c, ofBits_a]
  rfl

/-- The gradient of the gates. -/
theorem r66 (t : Fin 4096) (j : Fin 5632) :
    val_main_v66 (F := Ideal) x0 x1 x2 x3 (ix3 0 t j) = (refG (I.D t j) (I.up t j) (I.up t (j + 5632)) : EReal) := by
  pointwise [val_main_v66, val_main_v65, val_main_v64, val_main_v63, val_main_cst_10, val_main_v62, val_main_v61, val_main_v60, val_main_v59,
    val_main_v58, val_main_v57, val_main_v56, val_main_v55, val_main_v54, val_main_v52, val_main_v49, val_main_v48, val_main_v47, val_main_v46,
    val_main_v45, val_main_v44, val_main_v43, val_main_v42, val_main_v41, val_main_v40, val_main_v39, val_main_v38, val_main_v37, val_main_v36,
    val_main_v35, val_main_v34, val_main_v33, val_main_v32, val_main_v31, val_main_v30, val_main_cst_8, val_main_cst_9, val_main_cst_7,
    val_main_cst_6, val_main_cst_5, val_main_cst_4, val_main_cst_3, val_main_cst_2, val_main_cst_1]
  rw [r28 hI, r29 hI, d0 hI, ofBits_half, ofBits_c, ofBits_a, ofBits_three]
  rfl

variable (H : I.Finite)
include H

/-- The gradient of the convolved rows, both halves side by side. -/
theorem r69 (t : Fin 4096) (h : Fin 2) (j : Fin 5632) (J : Fin 11264) (hJ : J.val = j + 5632 * h) :
    val_main_v69 (F := Ideal) x0 x1 x2 x3 (ix3 0 t J) = (I.dup h t j : EReal) := by
  pointwise [val_main_v69, val_main_v68, val_main_v67, val_main_cst_11, val_main_cst_12]
  have hd := H.D t.val j.val
  have hg := H.up t.val (j.val + 5632)
  rw [Inp.dup, if_pos t.isLt, Inp.dupIn]
  by_cases h0 : h.val = 0
  · have hj : J.val = j := by omega
    rw [dif_neg (by omega), dif_pos (by omega), zero_add, if_pos h0]
    have e : (⟨J.val, by omega⟩ : Fin 5632) = j := Fin.ext hj
    refine (congrArg (fun q => val_main_v53 (F := Ideal) x0 x1 x2 x3 (ix3 0 t q)) e).trans ?_
    rw [r53 hI, refV_eq _ _ hd hg]
  · have h1 : h.val = 1 := by omega
    rw [dif_pos (by omega), dif_neg (by omega), add_zero, if_neg h0]
    have e : (⟨J.val - 5632, by omega⟩ : Fin 5632) = j := Fin.ext (show J.val - 5632 = j.val by omega)
    refine (congrArg (fun q => val_main_v66 (F := Ideal) x0 x1 x2 x3 (ix3 0 t q)) e).trans ?_
    rw [r66 hI, refG_eq _ _ _ hd (H.up t.val j.val) hg]

omit hI H in
theorem dup_below (h t j : ℕ) (ht : 4096 ≤ t) : I.dup h t j = 0 := if_neg (by omega)

/-- The gradient of the rows before the convolution. -/
theorem r103 (t : Fin 4096) (h : Fin 2) (j : Fin 5632) (s : Fin 4098) (hs : s.val = t + 2) (J : Fin 11264) (hJ : J.val = j + 5632 * h) :
    val_main_v103 (F := Ideal) x0 x1 x2 x3 (ix3 0 s J) = (I.dup0 h t j : EReal) := by
  pointwise [val_main_v103, val_main_v102, val_main_v97, val_main_v96, val_main_v89, val_main_v88, val_main_v83, val_main_v82, val_main_v78,
    val_main_v74, val_main_v73, val_main_v24, val_main_v23, val_main_v22, val_main_v17, val_main_v16, val_main_v15, val_main_v8, val_main_v7,
    val_main_v6, val_main_cst_16, val_main_cst_20, val_main_cst_26]
  rw [dif_pos (by omega), w0 hI, w1 hI, w2 hI]
  have e2 : (⟨s.val - 2, by omega⟩ : Fin 4096) = t := Fin.ext (show s.val - 2 = t.val by omega)
  unfold Inp.dup0
  rw [← hJ]
  congr 1
  · congr 1
    · refine (congrArg (fun q => val_main_v69 (F := Ideal) x0 x1 x2 x3 (ix3 0 q J) * I.W 2 J.val) e2).trans ?_
      rw [r69 hI H t h j J hJ, mul_comm]
    · split
      · next hs1 =>
        rw [r69 hI H ⟨s.val - 1, by omega⟩ h j J hJ, mul_comm]
        exact congrArg (fun q => I.W 1 J.val * I.dup h q j) (show s.val - 1 = t.val + 1 by omega)
      · next hs1 => rw [dup_below (I := I) h (t + 1) j (by omega), mul_zero]
  · split
    · next hs1 =>
      rw [r69 hI H ⟨s.val, by omega⟩ h j J hJ, mul_comm]
      exact congrArg (fun q => I.W 0 J.val * I.dup h q j) hs
    · next hs1 => rw [dup_below (I := I) h (t + 2) j (by omega), mul_zero]

omit hI H in
/-- A sum over two axes of one entry each. -/
theorem reduce_unit (x : S1x1x11264.Idx → EReal) (j : Fin 11264) :
    Ideal.hostReduceAdd reducesTo_S1x1x11264_S11264_d0_1 x 0 (ix1 j) = x (ix3 0 0 j) := by
  unfold Ideal.hostReduceAdd
  have e : (Finset.univ.filter fun i => reducesTo_S1x1x11264_S11264_d0_1.drop i = ix1 j) = {ix3 0 0 j} := by
    ext i
    obtain ⟨a, b, k, rfl⟩ : ∃ a b k, i = ix3 a b k := ⟨i 0, i 1, i 2, eq_ix3 i⟩
    rw [Finset.mem_filter, Finset.mem_singleton]
    obtain rfl : a = 0 := Subsingleton.elim (α := Fin 1) _ _
    obtain rfl : b = 0 := Subsingleton.elim (α := Fin 1) _ _
    have e1 : reducesTo_S1x1x11264_S11264_d0_1.drop (ix3 0 0 k) = ix1 k := by
      funext q
      obtain rfl : q = 0 := Subsingleton.elim (α := Fin 1) _ _
      rfl
    rw [e1]
    constructor
    · rintro ⟨-, h⟩
      rw [show k = j from congrFun h 0]
    · intro h
      exact ⟨Finset.mem_univ _, by rw [show k = j from congrFun h 2]⟩
  rw [e, Finset.sum_singleton, zero_add]

omit hI H in
/-- A sum over all the rows, written over their numbers. -/
theorem sum_rows (f : Fin 4096 → EReal) (g : ℕ → EReal) (hfg : ∀ t : Fin 4096, f t = g t) :
    ∑ t : Fin 4096, f t = ∑ t ∈ Finset.Ico 0 4096, g t := by
  rw [← Finset.range_eq_Ico, Finset.sum_range]
  exact Finset.sum_congr rfl fun t _ => hfg t

theorem v92 (h : Fin 2) (j : Fin 5632) (J : Fin 11264) (hJ : J.val = j + 5632 * h) :
    val_main_v92 (F := Ideal) x0 x1 x2 x3 (ix1 J) = (I.dcb h 0 j : EReal) := by
  pointwise [val_main_v92, val_main_cst_22]
  rw [reduce_unit]
  pointwise [val_main_v91, val_main_v90, val_main_cst_21]
  unfold Inp.dcb
  exact sum_rows _ _ fun t => r69 hI H t h j J hJ

theorem v75 (h : Fin 2) (j : Fin 5632) (J : Fin 11264) (hJ : J.val = j + 5632 * h) :
    val_main_v75 (F := Ideal) x0 x1 x2 x3 (ix1 J) = (I.dcw h 2 0 j : EReal) := by
  pointwise [val_main_v75, val_main_cst_14]
  rw [reduce_unit]
  pointwise [val_main_v72, val_main_v71, val_main_v70, val_main_cst_13]
  unfold Inp.dcw
  rw [← hJ]
  exact sum_rows _ _ fun t => by rw [r21 hI, r69 hI H t h j J hJ, mul_comm]

theorem v84 (h : Fin 2) (j : Fin 5632) (J : Fin 11264) (hJ : J.val = j + 5632 * h) :
    val_main_v84 (F := Ideal) x0 x1 x2 x3 (ix1 J) = (I.dcw h 1 0 j : EReal) := by
  pointwise [val_main_v84, val_main_cst_18]
  rw [reduce_unit]
  pointwise [val_main_v81, val_main_v80, val_main_v79, val_main_cst_17]
  unfold Inp.dcw
  rw [← hJ]
  exact sum_rows _ _ fun t => by rw [r14 hI, r69 hI H t h j J hJ, mul_comm]

theorem v98 (h : Fin 2) (j : Fin 5632) (J : Fin 11264) (hJ : J.val = j + 5632 * h) :
    val_main_v98 (F := Ideal) x0 x1 x2 x3 (ix1 J) = (I.dcw h 0 0 j : EReal) := by
  pointwise [val_main_v98, val_main_cst_24]
  rw [reduce_unit]
  pointwise [val_main_v95, val_main_v94, val_main_v93, val_main_cst_23]
  unfold Inp.dcw
  rw [← hJ]
  exact sum_rows _ _ fun t => by rw [r5 hI, r69 hI H t h j J hJ, mul_comm]; rfl

/-- The three results, entry by entry. -/
theorem v108 (h : Fin 2) (t : Fin 4096) (j : Fin 5632) : val_main_v108 (F := Ideal) x0 x1 x2 x3 (ix3 h t j) = (I.dup0 h t j : EReal) := by
  pointwise [val_main_v108, val_main_v107, val_main_v106, val_main_v105]
  exact r103 hI H t h j _ (Nat.add_comm 2 t.val) _ (show h.val * 5632 + j.val = _ by ring)

theorem v110 (h : Fin 2) (j : Fin 5632) : val_main_v110 (F := Ideal) x0 x1 x2 x3 (ix3 h 0 j) = (I.dcb h 0 j : EReal) := by
  pointwise [val_main_v110, val_main_v109]
  exact v92 hI H h j _ (show h.val * 5632 + j.val = _ by ring)

omit hI H in
/-- Three values placed at rows 0, 1 and 2 of a column of zeros, added. -/
theorem rows_add (k : Fin 3) (p : Prop) [Decidable p] (hp : p) (a b c : EReal) :
    ((if _ : (2 ≤ k.val ∧ k.val - 2 < 1) ∧ p then a else 0) + if _ : (1 ≤ k.val ∧ k.val - 1 < 1) ∧ p then b else 0) + (if _ : k.val < 1 ∧ p then c else 0)
      = if k.val = 0 then c else if k.val = 1 then b else a := by
  obtain ⟨k, hk⟩ := k
  interval_cases k <;> simp [hp]

theorem v112 (h : Fin 2) (k : Fin 3) (j : Fin 5632) : val_main_v112 (F := Ideal) x0 x1 x2 x3 (ix3 h k j) = (I.dcw h k 0 j : EReal) := by
  have hJ : h.val * 5632 + j.val = j + 5632 * h := by ring
  have hj : h.val * 5632 + j.val < 11264 := by omega
  pointwise [val_main_v112, val_main_v111, val_main_v101, val_main_v100, val_main_v87, val_main_v86, val_main_v77, val_main_v76, val_main_v85,
    val_main_v99, val_main_cst_15, val_main_cst_19, val_main_cst_25]
  refine (rows_add k _ hj (val_main_v75 (F := Ideal) x0 x1 x2 x3 (ix1 ⟨_, hj⟩)) (val_main_v84 (F := Ideal) x0 x1 x2 x3 (ix1 ⟨_, hj⟩))
    (val_main_v98 (F := Ideal) x0 x1 x2 x3 (ix1 ⟨_, hj⟩))).trans ?_
  rw [v75 hI H h j ⟨_, hj⟩ hJ, v84 hI H h j ⟨_, hj⟩ hJ, v98 hI H h j ⟨_, hj⟩ hJ]
  obtain ⟨k, hk⟩ := k
  interval_cases k <;> rfl

/-- The three results, as arrays. -/
theorem out0 : val_main_v108 (F := Ideal) x0 x1 x2 x3 = upArr I := by
  funext y
  rw [show y = ix3 (y 0) (y 1) (y 2) from eq_ix3 y]
  exact v108 hI H (y 0) (y 1) (y 2)

theorem out1 : val_main_v110 (F := Ideal) x0 x1 x2 x3 = biasArr I := by
  funext y
  have hy1 : y 1 = (0 : Fin 1) := Subsingleton.elim (α := Fin 1) _ _
  rw [show y = ix3 (y 0) 0 (y 2) from (eq_ix3 y).trans (by rw [hy1]; rfl)]
  exact v110 hI H (y 0) (y 2)

theorem out2 : val_main_v112 (F := Ideal) x0 x1 x2 x3 = filtArr I := by
  funext y
  rw [show y = ix3 (y 0) (y 1) (y 2) from eq_ix3 y]
  exact v112 hI H (y 0) (y 1) (y 2)

end Cert.Gate
-- ==== Proof.GateFinite.lean ====
/- The precondition, read element by element: every number of the four arguments is finite. -/
module

public import proofs.«01_k».proof.Proof.GateKernel
public import proofs.«01_k».proof.Proof.Gelu
public import proofs.«01_k».proof.Proof.Gen.Pre_all_finite
public import Idealize.ShloMosaic.Lib.ReduceAll

@[expose] public section

noncomputable section

namespace Cert.Gate

open Cert.Pre_all_finite Cert.Pre_all_finite.Gen Idealize.ShloMosaic

instance : Subsingleton S_.Idx := ⟨fun _ _ => funext fun a => a.elim0⟩

theorem ofBits_top : Ideal.ofBits .f32 0x7F800000#32 = (⊤ : EReal) := by
  simp [Ideal.ofBits, Ideal.ieee]

/-- A number whose magnitude is below infinity is finite. -/
theorem fin_of_lt (a : EReal) (h : Ideal.cmp .olt (max a (-a)) (Ideal.ofBits .f32 0x7F800000#32) = 1#1) : Fin' a := by
  rw [ofBits_top] at h
  have h' : max a (-a) < ⊤ := by
    by_contra hc
    simp [Ideal.cmp, hc] at h
  refine ⟨a.toReal, (EReal.coe_toReal ?_ ?_).symm⟩
  · rintro rfl; simp at h'
  · rintro rfl; simp at h'

/-- An array all of whose magnitudes are below infinity. -/
theorem fin_all {s : Shape} {axes : List (Fin s.rank)} (x : s.Idx → EReal) (hb : S_.BroadcastsInDim s (![] : Fin 0 → Fin s.rank))
    (hr : s.ReducesTo axes S_)
    (e : Host.reduce IntOp.andi (cmpf .olt (Host.absf (F := Ideal) (φ := .f32) x) (broadcastInDim s ![] hb (constant S_ .f32 0x7F800000#32)))
      (constantI S_ 1 1#1) hr h_S_ (Shape.Idx.first h_S_) = 1#1) (i : s.Idx) : Fin' (x i) :=
  fin_of_lt (x i) (Host.reduce_andi_all _ _ _ _ _ e i)

/-- Under the precondition the arguments are finite. -/
theorem finite_of_pre (a0 : Vec Ideal S4096x11264 .f32) (a1 : Vec Ideal S3x11264 .f32) (a2 : Vec Ideal S11264 .f32) (a3 : Vec Ideal S4096x5632 .f32)
    (h : fn (F := Ideal) a0 a1 a2 a3 = fun _ => 1#1) : (inp a0 a1 a2 a3).Finite := by
  have h0 := congrFun h (Shape.Idx.first h_S_)
  obtain ⟨h1, e3⟩ := IntOp.andi_eq_one.1 h0
  obtain ⟨h2, e2⟩ := IntOp.andi_eq_one.1 h1
  obtain ⟨e0, e1⟩ := IntOp.andi_eq_one.1 h2
  refine ⟨fun i j => ?_, fun i j => ?_, fun j => ?_, fun i j => ?_⟩
  · show Fin' (if h : _ then _ else _)
    split
    · exact fin_all a0 _ _ e0 _
    · exact fin_zero
  · show Fin' (if h : _ then _ else _)
    split
    · exact fin_all a1 _ _ e1 _
    · exact fin_zero
  · show Fin' (if h : _ then _ else _)
    split
    · exact fin_all a2 _ _ e2 _
    · exact fin_zero
  · show Fin' (if h : _ then _ else _)
    split
    · exact fin_all a3 _ _ e3 _
    · exact fin_zero

end Cert.Gate
-- ==== Proof.GateClaims.lean ====
/- The claims of the gate's gradient. -/
module

public import proofs.«01_k».proof.Defs
public import proofs.«01_k».proof.Proof.GateReference
public import proofs.«01_k».proof.Proof.GateFinite
public import proofs.«01_k».proof.Proof.Gen.ReferenceIdeal.Run
public import Idealize.ShloMosaic.Adequacy
public import Idealize.ShloMosaic.Init

@[expose] public section

noncomputable section

namespace Cert.Gate

open Idealize.ShloMosaic Idealize.ShloMosaic.TcCoe Idealize.SL.Sem

/-- The reference runs, keeps its arguments and leaves every counter at zero. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "gelu_3ac" .f32 0x3DDB33B6#32 ((241015141496493 / 2251799813685248 : ℝ) : EReal) rfl

/-- The arguments of the reference at a device. -/
def rargs (m : (ℓ : Loc Cert.ReferenceIdeal.nD Cert.ReferenceIdeal.τ Cert.ReferenceIdeal.sig) → Buf (Elt Ideal) ℓ) (c : Dev Cert.ReferenceIdeal.nD) : Inp :=
  inp (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))

open Cert.ReferenceIdeal in
/-- The same, read where the run reads them. -/
theorem launch_args (m : (ℓ : Loc nD τ sig) → Buf (Elt Ideal) ℓ) (c : Dev nD) :
    rargs m c = inp (StableHlo.launchContents m c (Proc.devRef .tc main_arg0)) (StableHlo.launchContents m c (Proc.devRef .tc main_arg1))
      (StableHlo.launchContents m c (Proc.devRef .tc main_arg2)) (StableHlo.launchContents m c (Proc.devRef .tc main_arg3)) := rfl

open Cert.ReferenceIdeal in
/-- The reference's run on finite arguments. -/
theorem reference_run (m : (ℓ : Loc nD τ sig) → Buf (Elt Ideal) ℓ) (ρ : Dev nD → PrngReg) (H : ∀ c, (rargs m c).Finite) :
    θ_run defs (onTc (τ := τ) (main (F := Ideal))) ⟨m, fun _ => 0, ρ⟩ fun r => ∀ c : Dev nD,
      r.2.mem ((c.tc : Thread nD τ).loc main_v108) = upArr (rargs m c)
      ∧ r.2.mem ((c.tc : Thread nD τ).loc main_v110) = biasArr (rargs m c)
      ∧ r.2.mem ((c.tc : Thread nD τ).loc main_v112) = filtArr (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((Read.val_main_v108_eq (StableHlo.launchContents m c)).trans (out0 (launch_args m c) (H c))),
      (h c).2.1.trans ((Read.val_main_v110_eq (StableHlo.launchContents m c)).trans (out1 (launch_args m c) (H c))),
      (h c).2.2.1.trans ((Read.val_main_v112_eq (StableHlo.launchContents m c)).trans (out2 (launch_args m c) (H c))), (h c).2.2.2⟩)
    (Cert.ReferenceIdeal.Value.run (F := Ideal) m ρ)

theorem algebraic : Cert.algebraic_KernelIdeal_ReferenceIdeal_pre_all_finite := by
  intro m g m' g' hpre hagree
  have hargs : ∀ c, rargs m' c = args m c := fun c => by
    obtain ⟨h0, h1, h2, h3⟩ := hagree c
    unfold rargs args
    rw [h0, h1, h2, h3]
  have H : ∀ c, (rargs m' c).Finite := fun c => by
    rw [hargs]
    exact finite_of_pre _ _ _ _ (hpre c)
  refine ⟨fun c => upArr (args m c), fun c => biasArr (args m c), fun c => filtArr (args m c), kernel_run m g, ?_⟩
  have h := reference_run m' g' H
  simp only [hargs] at h
  exact h

end Cert.Gate
-- ==== Proof.Dense.lean ====
/- Matrices read with plain numbers, and the product of two of them summed in stretches of the contracted axis. -/
module

public import Idealize.ShloMosaic.Lib.Pointwise
public import Idealize.ShloMosaic.PureOps.Ideal.Laws

@[expose] public section

noncomputable section

namespace Cert.Dense

open Idealize.ShloMosaic
open scoped BigOperators

/-- An entry of a matrix (zero outside of it). -/
def mat {R C : ℕ} (a : FVec Ideal ⟨2, ![R, C]⟩ .bf16) (i j : ℕ) : EReal :=
  if h : i < R ∧ j < C then a (ix2 ⟨i, h.1⟩ ⟨j, h.2⟩) else 0

theorem mat_eq {R C : ℕ} (a : FVec Ideal ⟨2, ![R, C]⟩ .bf16) (i : Fin R) (j : Fin C) : a (ix2 i j) = mat a i.val j.val :=
  (show mat a i.val j.val = _ from dif_pos ⟨i.isLt, j.isLt⟩).symm

/-- An entry of two matrices of `C` columns laid side by side (zero outside of them). -/
def pair {R : ℕ} (C : ℕ) (a : FVec Ideal ⟨3, ![2, R, C]⟩ .bf16) (i j : ℕ) : EReal :=
  if h : i < R ∧ j / C < 2 ∧ j % C < C then a (ix3 ⟨j / C, h.2.1⟩ ⟨i, h.1⟩ ⟨j % C, h.2.2⟩) else 0

theorem pair_eq {R C : ℕ} (a : FVec Ideal ⟨3, ![2, R, C]⟩ .bf16) (b : Fin 2) (i : Fin R) (j : Fin C) :
    a (ix3 b i j) = pair C a i.val (b.val * C + j.val) := by
  have hj := j.isLt
  have hb := b.isLt
  have e1 : (b.val * C + j.val) / C = b.val := by
    rw [Nat.mul_comm, Nat.mul_add_div (by omega), Nat.div_eq_of_lt hj, Nat.add_zero]
  have e2 : (b.val * C + j.val) % C = j.val := by
    rw [Nat.mul_comm, Nat.mul_add_mod, Nat.mod_eq_of_lt hj]
  unfold pair
  rw [dif_pos ⟨i.isLt, by omega, by omega⟩]
  congr 1
  funext x
  match x with
  | ⟨0, _⟩ => exact Fin.ext e1.symm
  | ⟨1, _⟩ => rfl
  | ⟨2, _⟩ => exact Fin.ext e2.symm

/-- A column of the two matrices laid side by side is one of the first's or one of the second's. -/
theorem pair_halves {R C J : ℕ} (hJ : J = 2 * C) (a : FVec Ideal ⟨3, ![2, R, C]⟩ .bf16) (i : Fin R) (j : Fin J) :
    (if h : j.val < C then a (ix3 0 i ⟨j.val, h⟩) else a (ix3 1 i ⟨j.val - C, by have := j.isLt; omega⟩)) = pair C a i.val j.val := by
  have hj := j.isLt
  split
  · exact (pair_eq a 0 i _).trans (congrArg (pair C a i.val) (by simp))
  · exact (pair_eq a 1 i _).trans (congrArg (pair C a i.val) (by simp only [Fin.val_one, Nat.one_mul]; omega))

/-- The stretch of `T` products from position `o` on. -/
def part (A B : ℕ → ℕ → EReal) (i j o T : ℕ) : EReal := ∑ k : Fin T, A i (o + k.val) * B (o + k.val) j

/-- Two stretches that follow each other make one. -/
theorem part_add (A B : ℕ → ℕ → EReal) (i j o T U : ℕ) : part A B i j o T + part A B i j (o + T) U = part A B i j o (T + U) := by
  unfold part
  rw [Fin.sum_univ_add]
  simp only [Fin.val_castAdd, Fin.val_natAdd, Nat.add_assoc]

/-- An entry of the product over `K` contracted positions. -/
def prod (A B : ℕ → ℕ → EReal) (K i j : ℕ) : EReal := part A B i j 0 K

/-- A stretch whose factors are given one by one. -/
theorem part_of (A B : ℕ → ℕ → EReal) (i j o T : ℕ) (f g : Fin T → EReal) (hf : ∀ k, f k = A i (o + k.val)) (hg : ∀ k, g k = B (o + k.val) j) :
    (∑ k : Fin T, f k * g k) = part A B i j o T := Finset.sum_congr rfl fun k _ => by rw [hf, hg]

/-- A whole sum whose factors are given one by one. -/
theorem prod_of (A B : ℕ → ℕ → EReal) (K i j : ℕ) (f g : Fin K → EReal) (hf : ∀ k, f k = A i k.val) (hg : ∀ k, g k = B k.val j) :
    (∑ k : Fin K, f k * g k) = prod A B K i j :=
  part_of A B i j 0 K f g (fun k => by rw [hf, Nat.zero_add]) (fun k => by rw [hg, Nat.zero_add])

/-- The same with the factors in the other order. -/
theorem prod_of_swapped (A B : ℕ → ℕ → EReal) (K i j : ℕ) (f g : Fin K → EReal) (hf : ∀ k, f k = A i k.val) (hg : ∀ k, g k = B k.val j) :
    (∑ k : Fin K, g k * f k) = prod A B K i j :=
  (Finset.sum_congr rfl fun k _ => mul_comm (g k) (f k)).trans (prod_of A B K i j f g hf hg)

/-- A matrix turned over. -/
def flip (A : ℕ → ℕ → EReal) : ℕ → ℕ → EReal := fun i j => A j i

end Cert.Dense
-- ==== Proof.DownDx.lean ====
/- The input gradient of the down projection: every block is one product, and together they are the whole product. -/
module

public import proofs.«01_k».proof.Defs
public import proofs.«01_k».proof.Proof.Dense
public import proofs.«01_k».proof.Proof.Gen.DownDxIdeal.Frame
public import proofs.«01_k».proof.Proof.Gen.DownDxIdeal.Value
public import proofs.«01_k».proof.Proof.Gen.RefDownDxIdeal.Run
public import proofs.«01_k».proof.Proof.Gen.RefDownDxIdeal.Read
public import Idealize.ShloMosaic.Lib.Pipeline.ValueKit
public import Idealize.ShloMosaic.Lib.Pointwise
public import Idealize.ShloMosaic.Adequacy

@[expose] public section

noncomputable section

namespace Cert.Dense.DownDx

open Idealize.ShloMosaic Idealize.ShloMosaic.TcCoe Idealize.SL.Sem

set_option maxRecDepth 16384

/-- The result: the product of the two arguments, each read as it is contracted. -/
def res (a : FVec Ideal ⟨2, ![4096, 2048]⟩ .bf16) (b : FVec Ideal ⟨2, ![5632, 2048]⟩ .bf16) : FVec Ideal ⟨2, ![4096, 5632]⟩ .f32 :=
  fun y => prod (mat a) (flip (mat b)) 2048 (y 0).val (y 1).val

section Kernel

open Cert.DownDxIdeal Cert.DownDxIdeal.Gen

section Body

variable (x0 : Vec Ideal S1024x2048 .bf16) (x1 : Vec Ideal S512x2048 .bf16)

/-- The body's product at an index. -/
theorem pay1 (p : Fin 1024) (q : Fin 512) : k0_pay1 x0 x1 (ix2 p q) = ∑ k : Fin 2048, x0 (ix2 p k) * x1 (ix2 q k) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 11 ∧ win0_0.index t 1 = 0) ∧ (win0_1.index t 0 = t.val % 11 ∧ win0_1.index t 1 = 0)
    ∧ (win0_2.index t 0 = t.val / 11 ∧ win0_2.index t 1 = t.val % 11) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := flip (mat (m ((c : Thread nD τ).loc main_arg1)))

/-- The first operand's block at a point. -/
def bA (t : Fin cfg0.N) : Vec Ideal S1024x2048 .bf16 := iblk m c 0 t
/-- The second operand's. -/
def bB (t : Fin cfg0.N) : Vec Ideal S512x2048 .bf16 := iblk m c 1 t

/-- The first operand's block at an index. -/
theorem blkA (t : Fin cfg0.N) (p : Fin 1024) (k : Fin 2048) :
    bA m c t (ix2 p k) = lhs m c (t.val / 11 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 11 * 1024 + p, by omega⟩ ⟨0 + k, by omega⟩)
  blk_ext [bA, iblk, V_main_arg0, e0, e1]

/-- The second operand's block at an index. -/
theorem blkB (t : Fin cfg0.N) (q : Fin 512) (k : Fin 2048) :
    bB m c t (ix2 q k) = rhs m c (0 + k) (t.val % 11 * 512 + q) := by
  have ht := lt_of_lt_of_eq t.isLt N_0
  obtain ⟨-, ⟨e0, e1⟩, -⟩ := idx t
  refine Eq.trans ?_ (mat_eq (m ((c : Thread nD τ).loc main_arg1)) ⟨t.val % 11 * 512 + q, by omega⟩ ⟨0 + k, by omega⟩)
  blk_ext [bB, iblk, V_main_arg1, e0, e1]

/-- The stretch of products a point works on. -/
theorem stretch (t : Fin cfg0.N) (p : Fin 1024) (q : Fin 512) :
    (∑ k : Fin 2048, bA m c t (ix2 p k) * bB m c t (ix2 q k))
      = part (lhs m c) (rhs m c) (t.val / 11 * 1024 + p) (t.val % 11 * 512 + q) (0) 2048 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 512), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefDownDxIdeal Cert.RefDownDxIdeal.Read

theorem ref (a : FVec Ideal ⟨2, ![4096, 2048]⟩ .bf16) (b : FVec Ideal ⟨2, ![5632, 2048]⟩ .bf16) : val_main_v6 (F := Ideal) a b = res a b := by
  funext y
  obtain ⟨p, q, rfl⟩ : ∃ (p : Fin 4096) (q : Fin 5632), y = ix2 p q := ⟨y 0, y 1, eq_ix2 y⟩
  pointwise [val_main_cst, val_main_v0, val_main_v1, val_main_v2, val_main_v3, val_main_v4, val_main_v5, val_main_v6]
  exact prod_of (mat a) (flip (mat b)) 2048 p.val q.val _ _ (fun k => mat_eq a p k) (fun k => mat_eq b q k)

end Reference

/-- The reference runs, keeps its arguments and leaves every counter at zero. -/
theorem frame_ri : Cert.quiescent_RefDownDxIdeal := fun m ρ _ =>
  (θ_run Cert.RefDownDxIdeal.defs _ _).mono (fun r h => ⟨fun c => (h c).2, sem_eq_zero_of_no_sems (by decide) r.2⟩)
    (Cert.RefDownDxIdeal.Value.run (F := Ideal) m ρ)

theorem algebraic : Cert.algebraic_DownDxIdeal_RefDownDxIdeal := by
  intro m g m' g' _ hagree
  refine ⟨fun c => res (m ((c.tc : Thread Cert.DownDxIdeal.nD Cert.DownDxIdeal.τ).loc Cert.DownDxIdeal.main_arg0))
    (m ((c.tc : Thread Cert.DownDxIdeal.nD Cert.DownDxIdeal.τ).loc Cert.DownDxIdeal.main_arg1)), ?_, ?_⟩
  · exact (θ_run Cert.DownDxIdeal.defs _ _).mono (fun _ h c => ⟨(h c).1.trans (final m c), (h c).2⟩) (Cert.DownDxIdeal.Value.run_blocks (F := Ideal) m g)
  · refine (θ_run Cert.RefDownDxIdeal.defs _ _).mono (fun _ h c => ⟨?_, (h c).2⟩) (Cert.RefDownDxIdeal.Value.run (F := Ideal) m' g')
    obtain ⟨h0, h1⟩ := hagree c
    exact (h c).1.trans ((Cert.RefDownDxIdeal.Read.val_main_v6_eq _ _).trans ((ref _ _).trans (congrArg₂ res h0 h1)))

end Cert.Dense.DownDx
-- ==== Proof.DownDw.lean ====
/- The weight gradient of the down projection: every block is summed over 2 stretches of the contracted axis, and together they are the whole product. -/
module

public import proofs.«01_k».proof.Defs
public import proofs.«01_k».proof.Proof.Dense
public import proofs.«01_k».proof.Proof.Gen.DownDwIdeal.Frame
public import proofs.«01_k».proof.Proof.Gen.DownDwIdeal.Value
public import proofs.«01_k».proof.Proof.Gen.RefDownDwIdeal.Run
public import proofs.«01_k».proof.Proof.Gen.RefDownDwIdeal.Read
public import Idealize.ShloMosaic.Lib.Pipeline.ValueKit
public import Idealize.ShloMosaic.Lib.Pointwise
public import Idealize.ShloMosaic.Adequacy

@[expose] public section

noncomputable section

namespace Cert.Dense.DownDw

open Idealize.ShloMosaic Idealize.ShloMosaic.TcCoe Idealize.SL.Sem

set_option maxRecDepth 16384

/-- The result: the product of the two arguments, each read as it is contracted. -/
def res (a : FVec Ideal ⟨2, ![4096, 5632]⟩ .bf16) (b : FVec Ideal ⟨2, ![4096, 2048]⟩ .bf16) : FVec Ideal ⟨2, ![5632, 2048]⟩ .bf16 :=
  fun y => prod (flip (mat a)) (mat b) 4096 (y 0).val (y 1).val

section Kernel

open Cert.DownDwIdeal Cert.DownDwIdeal.Gen

section Body

variable (x0 : Vec Ideal S2048x512 .bf16) (x1 : Vec Ideal S2048x1024 .bf16)

/-- The first stretch's product at an index. -/
theorem pay1 (p : Fin 512) (q : Fin 1024) : k0_pay1 x0 x1 (ix2 p q) = ∑ k : Fin 2048, x0 (ix2 k p) * x1 (ix2 k q) := by
  pointwise [k0_pay1]

/-- The last stretch, added to what is there. -/
theorem pay3 (s : Vec Ideal S512x1024 .f32) (p : Fin 512) (q : Fin 1024) :
    k0_pay3 s x0 x1 (ix2 p q) = s (ix2 p q) + ∑ k : Fin 2048, x0 (ix2 k p) * x1 (ix2 k q) := by
  pointwise [k0_pay3]

end Body

/-- Where the windows' blocks lie. -/
theorem idx : ∀ t : Fin cfg0.N, (win0_0.index t 0 = t.val % 2 ∧ win0_0.index t 1 = t.val / 4) ∧ (win0_1.index t 0 = t.val % 2 ∧ win0_1.index t 1 = t.val / 2 % 2)
    ∧ (win0_2.index t 0 = t.val / 4 ∧ win0_2.index t 1 = t.val / 2 % 2) :=
  (by decide +kernel : ∀ t : Fin grid0.N, _)

variable (m : (ℓ : Loc nD τ sig) → Buf (Elt Ideal) ℓ) (c : Dev nD)

/-- The first operand, as it is contracted. -/
def lhs : ℕ → ℕ → EReal := flip (mat (m ((c : Thread nD τ).loc main_arg0)))
/-- The second operand, as it is contracted. -/
def rhs : ℕ → ℕ → EReal := mat (m ((c : Thread nD τ).loc main_arg1))

/-- The first operand's block at a point. -/
def bA (t : Fin cfg0.N) : Vec Ideal S2048x512 .bf16 := iblk m c 0 t
/-- The second operand's. -/
def bB (t : Fin cfg0.N) : Vec Ideal S2048x1024 .bf16 := iblk m c 1 t

/-- The first operand's block at an index. -/
theorem blkA (t : Fin cfg0.N) (p : Fin 512) (k : Fin 2048) :
    bA m c t (ix2 k p) = lhs m c (t.val / 4 * 512 + p) (t.val % 2 * 2048 + k) := by
  have ht := lt_of_lt_of_eq t.isLt N_0
  obtain ⟨⟨e0, e1⟩, -⟩ := idx t
  refine Eq.trans ?_ (mat_eq (m ((c : Thread nD τ).loc main_arg0)) ⟨t.val % 2 * 2048 + k, by omega⟩ ⟨t.val / 4 * 512 + p, by omega⟩)
  blk_ext [bA, iblk, V_main_arg0, e0, e1]

/-- The second operand's block at an index. -/
theorem blkB (t : Fin cfg0.N) (q : Fin 1024) (k : Fin 2048) :
    bB m c t (ix2 k q) = rhs m c (t.val % 2 * 2048 + k) (t.val / 2 % 2 * 1024 + q) := by
  have ht := lt_of_lt_of_eq t.isLt N_0
  obtain ⟨-, ⟨e0, e1⟩, -⟩ := idx t
  refine Eq.trans ?_ (mat_eq (m ((c : Thread nD τ).loc main_arg1)) ⟨t.val % 2 * 2048 + k, by omega⟩ ⟨t.val / 2 % 2 * 1024 + q, by omega⟩)
  blk_ext [bB, iblk, V_main_arg1, e0, e1]

/-- The stretch of products a point works on. -/
theorem stretch (t : Fin cfg0.N) (p : Fin 512) (q : Fin 1024) :
    (∑ k : Fin 2048, bA m c t (ix2 k p) * bB m c t (ix2 k q))
      = part (lhs m c) (rhs m c) (t.val / 4 * 512 + p) (t.val / 2 % 2 * 1024 + q) (t.val % 2 * 2048) 2048 :=
  part_of _ _ _ _ _ _ _ _ (fun k => blkA m c t p k) (fun k => blkB m c t q k)

/-- What is kept, read where the next point finds it. -/
theorem kept (s : Vec Ideal S512x1024 .f32) :
    View.read (Elt Ideal) (View.whole cc0_scratch0) ((Memref.isWhole_whole cc0_scratch0).unread s) = s :=
  (Memref.isWhole_whole cc0_scratch0).read_unread s

/-- What the first of a block's points keeps. -/
theorem kept0 (t : Fin cfg0.N) (h : t.val % 2 = 0) (p : Fin 512) (q : Fin 1024) :
    (outsAt0 m c t.val t.isLt).2 (ix2 p q) = part (lhs m c) (rhs m c) (t.val / 4 * 512 + p) (t.val / 2 % 2 * 1024 + q) 0 2048 := by
  rw [outsAt0_A m c t (by omega) (by omega)]
  frame_out
  refine (pay1 (bA m c t) (bB m c t) p q).trans ((stretch m c t p q).trans ?_)
  rw [h, Nat.zero_mul]

/-- What the last of a block's points writes. -/
theorem written (t : Fin cfg0.N) (h : t.val % 2 = 1) (p : Fin 512) (q : Fin 1024) :
    (outsAt0 m c t.val t.isLt).1 (ix2 p q) = prod (lhs m c) (rhs m c) 4096 (t.val / 4 * 512 + p) (t.val / 2 % 2 * 1024 + q) := by
  have hb := kept0 m c ⟨t.val - 1, Nat.lt_of_le_of_lt (Nat.sub_le _ _) t.isLt⟩ (show (t.val - 1) % 2 = 0 by omega) p q
  rw [outsAt0_B m c t (by omega) (by omega)]
  frame_out
  refine (pay3 (bA m c t) (bB m c t) _ p q).trans ?_
  dsimp only at hb
  rw [stretch m c t p q, kept, hb, h]
  refine Eq.trans ?_ (part_add _ _ _ _ 0 2048 2048)
  rw [show (t.val - 1) / 4 = t.val / 4 by omega, show (t.val - 1) / 2 = t.val / 2 by omega]

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 512) (q : Fin 1024), y = ix2 p q := ⟨y 0, y 1, eq_ix2 y⟩
  rw [after0_2]
  refine (written m c t ((flush0_2 t).mp hf) p q).trans ?_
  unfold res lhs rhs
  blk_simp [e0, e1]

end Kernel

section Reference

open Cert.RefDownDwIdeal Cert.RefDownDwIdeal.Read

theorem ref (a : FVec Ideal ⟨2, ![4096, 5632]⟩ .bf16) (b : FVec Ideal ⟨2, ![4096, 2048]⟩ .bf16) : val_main_v7 (F := Ideal) a b = res a b := by
  funext y
  obtain ⟨p, q, rfl⟩ : ∃ (p : Fin 5632) (q : Fin 2048), y = ix2 p q := ⟨y 0, y 1, eq_ix2 y⟩
  pointwise [val_main_cst, val_main_v0, val_main_v1, val_main_v2, val_main_v3, val_main_v4, val_main_v5, val_main_v6, val_main_v7]
  exact prod_of_swapped (flip (mat a)) (mat b) 4096 p.val q.val _ _ (fun k => mat_eq a k p) (fun k => mat_eq b k q)

end Reference

/-- The reference runs, keeps its arguments and leaves every counter at zero. -/
theorem frame_ri : Cert.quiescent_RefDownDwIdeal := fun m ρ _ =>
  (θ_run Cert.RefDownDwIdeal.defs _ _).mono (fun r h => ⟨fun c => (h c).2, sem_eq_zero_of_no_sems (by decide) r.2⟩)
    (Cert.RefDownDwIdeal.Value.run (F := Ideal) m ρ)

theorem algebraic : Cert.algebraic_DownDwIdeal_RefDownDwIdeal := by
  intro m g m' g' _ hagree
  refine ⟨fun c => res (m ((c.tc : Thread Cert.DownDwIdeal.nD Cert.DownDwIdeal.τ).loc Cert.DownDwIdeal.main_arg0))
    (m ((c.tc : Thread Cert.DownDwIdeal.nD Cert.DownDwIdeal.τ).loc Cert.DownDwIdeal.main_arg1)), ?_, ?_⟩
  · exact (θ_run Cert.DownDwIdeal.defs _ _).mono (fun _ h c => ⟨(h c).1.trans (final m c), (h c).2⟩) (Cert.DownDwIdeal.Value.run_blocks (F := Ideal) m g)
  · refine (θ_run Cert.RefDownDwIdeal.defs _ _).mono (fun _ h c => ⟨?_, (h c).2⟩) (Cert.RefDownDwIdeal.Value.run (F := Ideal) m' g')
    obtain ⟨h0, h1⟩ := hagree c
    exact (h c).1.trans ((Cert.RefDownDwIdeal.Read.val_main_v7_eq _ _).trans ((ref _ _).trans (congrArg₂ res h0 h1)))

end Cert.Dense.DownDw
-- ==== Proof.UpDx.lean ====
/- The input gradient of the up projection: every block is summed over 4 stretches of the contracted axis, and together they are the whole product. -/
module

public import proofs.«01_k».proof.Defs
public import proofs.«01_k».proof.Proof.Dense
public import proofs.«01_k».proof.Proof.Gen.UpDxIdeal.Frame
public import proofs.«01_k».proof.Proof.Gen.UpDxIdeal.Value
public import proofs.«01_k».proof.Proof.Gen.RefUpDxIdeal.Run
public import proofs.«01_k».proof.Proof.Gen.RefUpDxIdeal.Read
public import Idealize.ShloMosaic.Lib.Pipeline.ValueKit
public import Idealize.ShloMosaic.Lib.Pointwise
public import Idealize.ShloMosaic.Adequacy

@[expose] public section

noncomputable section

namespace Cert.Dense.UpDx

open Idealize.ShloMosaic Idealize.ShloMosaic.TcCoe Idealize.SL.Sem

set_option maxRecDepth 16384

/-- The result: the product of the two arguments, each read as it is contracted. -/
def res (a : FVec Ideal ⟨3, ![2, 4096, 5632]⟩ .bf16) (b : FVec Ideal ⟨2, ![2048, 11264]⟩ .bf16) : FVec Ideal ⟨2, ![4096, 2048]⟩ .f32 :=
  fun y => prod (pair 5632 a) (flip (mat b)) 11264 (y 0).val (y 1).val

section Kernel

open Cert.UpDxIdeal Cert.UpDxIdeal.Gen

section Body

variable (x0 : Vec Ideal S1x1024x2816 .bf16) (x1 : Vec Ideal S1024x2816 .bf16)

/-- The first stretch's product at an index. -/
theorem pay1 (p : Fin 1024) (q : Fin 1024) : k0_pay1 x0 x1 (ix2 p q) = ∑ k : Fin 2816, x0 (ix3 0 p k) * x1 (ix2 q k) := by
  pointwise [k0_pay1]

/-- A further stretch, added to what is there. -/
theorem pay2 (s : Vec Ideal S1024x1024 .f32) (p : Fin 1024) (q : Fin 1024) :
    k0_pay2 s x0 x1 (ix2 p q) = s (ix2 p q) + ∑ k : Fin 2816, x0 (ix3 0 p k) * x1 (ix2 q k) := by
  pointwise [k0_pay2]

/-- The last stretch, added to what is there. -/
theorem pay3 (s : Vec Ideal S1024x1024 .f32) (p : Fin 1024) (q : Fin 1024) :
    k0_pay3 s x0 x1 (ix2 p q) = s (ix2 p q) + ∑ k : Fin 2816, x0 (ix3 0 p k) * x1 (ix2 q k) := by
  pointwise [k0_pay3]

end Body

/-- Where the windows' blocks lie. -/
theorem idx : ∀ t : Fin cfg0.N, (win0_0.index t 0 = t.val % 4 / 2 ∧ win0_0.index t 1 = t.val / 8 ∧ win0_0.index t 2 = t.val % 4 % 2) ∧ (win0_1.index t 0 = t.val / 4 % 2 ∧ win0_1.index t 1 = t.val % 4)
    ∧ (win0_2.index t 0 = t.val / 8 ∧ win0_2.index t 1 = t.val / 4 % 2) :=
  (by decide +kernel : ∀ t : Fin grid0.N, _)

variable (m : (ℓ : Loc nD τ sig) → Buf (Elt Ideal) ℓ) (c : Dev nD)

/-- The first operand, as it is contracted. -/
def lhs : ℕ → ℕ → EReal := pair 5632 (m ((c : Thread nD τ).loc main_arg0))
/-- The second operand, as it is contracted. -/
def rhs : ℕ → ℕ → EReal := flip (mat (m ((c : Thread nD τ).loc main_arg1)))

/-- The first operand's block at a point. -/
def bA (t : Fin cfg0.N) : Vec Ideal S1x1024x2816 .bf16 := iblk m c 0 t
/-- The second operand's. -/
def bB (t : Fin cfg0.N) : Vec Ideal S1024x2816 .bf16 := iblk m c 1 t

/-- The first operand's block at an index. -/
theorem blkA (t : Fin cfg0.N) (p : Fin 1024) (k : Fin 2816) :
    bA m c t (ix3 0 p k) = lhs m c (t.val / 8 * 1024 + p) (t.val % 4 * 2816 + k) := by
  have ht := lt_of_lt_of_eq t.isLt N_0
  obtain ⟨⟨e0, e1, e2⟩, -⟩ := idx t
  refine Eq.trans ?_ ((pair_eq (m ((c : Thread nD τ).loc main_arg0)) ⟨t.val % 4 / 2, by omega⟩ ⟨t.val / 8 * 1024 + p, by omega⟩ ⟨t.val % 4 % 2 * 2816 + k, by omega⟩).trans
    (congrArg (pair 5632 (m ((c : Thread nD τ).loc main_arg0)) _) (show t.val % 4 / 2 * 5632 + (t.val % 4 % 2 * 2816 + k) = t.val % 4 * 2816 + k by omega)))
  blk_ext [bA, iblk, V_main_arg0, e0, e1, e2]

/-- The second operand's block at an index. -/
theorem blkB (t : Fin cfg0.N) (q : Fin 1024) (k : Fin 2816) :
    bB m c t (ix2 q k) = rhs m c (t.val % 4 * 2816 + k) (t.val / 4 % 2 * 1024 + q) := by
  have ht := lt_of_lt_of_eq t.isLt N_0
  obtain ⟨-, ⟨e0, e1⟩, -⟩ := idx t
  refine Eq.trans ?_ (mat_eq (m ((c : Thread nD τ).loc main_arg1)) ⟨t.val / 4 % 2 * 1024 + q, by omega⟩ ⟨t.val % 4 * 2816 + k, by omega⟩)
  blk_ext [bB, iblk, V_main_arg1, e0, e1]

/-- The stretch of products a point works on. -/
theorem stretch (t : Fin cfg0.N) (p : Fin 1024) (q : Fin 1024) :
    (∑ k : Fin 2816, bA m c t (ix3 0 p k) * bB m c t (ix2 q k))
      = part (lhs m c) (rhs m c) (t.val / 8 * 1024 + p) (t.val / 4 % 2 * 1024 + q) (t.val % 4 * 2816) 2816 :=
  part_of _ _ _ _ _ _ _ _ (fun k => blkA m c t p k) (fun k => blkB m c t q k)

/-- What is kept, read where the next point finds it. -/
theorem kept (s : Vec Ideal S1024x1024 .f32) :
    View.read (Elt Ideal) (View.whole cc0_scratch0) ((Memref.isWhole_whole cc0_scratch0).unread s) = s :=
  (Memref.isWhole_whole cc0_scratch0).read_unread s

/-- What the first of a block's points keeps. -/
theorem kept0 (t : Fin cfg0.N) (h : t.val % 4 = 0) (p : Fin 1024) (q : Fin 1024) :
    (outsAt0 m c t.val t.isLt).2 (ix2 p q) = part (lhs m c) (rhs m c) (t.val / 8 * 1024 + p) (t.val / 4 % 2 * 1024 + q) 0 2816 := by
  rw [outsAt0_A m c t (by omega) (by omega) (by omega)]
  frame_out
  refine (pay1 (bA m c t) (bB m c t) p q).trans ((stretch m c t p q).trans ?_)
  rw [h, Nat.zero_mul]

/-- What the point numbered 1 of a block keeps. -/
theorem kept1 (t : Fin cfg0.N) (h : t.val % 4 = 1) (p : Fin 1024) (q : Fin 1024) :
    (outsAt0 m c t.val t.isLt).2 (ix2 p q) = part (lhs m c) (rhs m c) (t.val / 8 * 1024 + p) (t.val / 4 % 2 * 1024 + q) 0 5632 := by
  have hb := kept0 m c ⟨t.val - 1, Nat.lt_of_le_of_lt (Nat.sub_le _ _) t.isLt⟩ (show (t.val - 1) % 4 = 0 by omega) p q
  rw [outsAt0_B m c t (by omega) (by omega) (by omega)]
  frame_out
  refine (pay2 (bA m c t) (bB m c t) _ p q).trans ?_
  dsimp only at hb
  rw [stretch m c t p q, kept, hb, h]
  refine Eq.trans ?_ (part_add _ _ _ _ 0 2816 2816)
  rw [show (t.val - 1) / 8 = t.val / 8 by omega, show (t.val - 1) / 4 = t.val / 4 by omega]

/-- What the point numbered 2 of a block keeps. -/
theorem kept2 (t : Fin cfg0.N) (h : t.val % 4 = 2) (p : Fin 1024) (q : Fin 1024) :
    (outsAt0 m c t.val t.isLt).2 (ix2 p q) = part (lhs m c) (rhs m c) (t.val / 8 * 1024 + p) (t.val / 4 % 2 * 1024 + q) 0 8448 := by
  have hb := kept1 m c ⟨t.val - 1, Nat.lt_of_le_of_lt (Nat.sub_le _ _) t.isLt⟩ (show (t.val - 1) % 4 = 1 by omega) p q
  rw [outsAt0_B m c t (by omega) (by omega) (by omega)]
  frame_out
  refine (pay2 (bA m c t) (bB m c t) _ p q).trans ?_
  dsimp only at hb
  rw [stretch m c t p q, kept, hb, h]
  refine Eq.trans ?_ (part_add _ _ _ _ 0 5632 2816)
  rw [show (t.val - 1) / 8 = t.val / 8 by omega, show (t.val - 1) / 4 = t.val / 4 by omega]

/-- What the last of a block's points writes. -/
theorem written (t : Fin cfg0.N) (h : t.val % 4 = 3) (p : Fin 1024) (q : Fin 1024) :
    (outsAt0 m c t.val t.isLt).1 (ix2 p q) = prod (lhs m c) (rhs m c) 11264 (t.val / 8 * 1024 + p) (t.val / 4 % 2 * 1024 + q) := by
  have hb := kept2 m c ⟨t.val - 1, Nat.lt_of_le_of_lt (Nat.sub_le _ _) t.isLt⟩ (show (t.val - 1) % 4 = 2 by omega) p q
  rw [outsAt0_C m c t (by omega) (by omega) (by omega)]
  frame_out
  refine (pay3 (bA m c t) (bB m c t) _ p q).trans ?_
  dsimp only at hb
  rw [stretch m c t p q, kept, hb, h]
  refine Eq.trans ?_ (part_add _ _ _ _ 0 8448 2816)
  rw [show (t.val - 1) / 8 = t.val / 8 by omega, show (t.val - 1) / 4 = t.val / 4 by omega]

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2]
  refine (written m c t ((flush0_2 t).mp hf) p q).trans ?_
  unfold res lhs rhs
  blk_simp [e0, e1]

end Kernel

section Reference

open Cert.RefUpDxIdeal Cert.RefUpDxIdeal.Read

/-- The two halves joined, at an index. -/
theorem joined (a : FVec Ideal ⟨3, ![2, 4096, 5632]⟩ .bf16) (i : Fin 4096) (j : Fin 11264) : val_main_v5 (F := Ideal) a (ix2 i j) = pair 5632 a i.val j.val := by
  unfold val_main_v5
  pointwise [val_main_cst, val_main_v0, val_main_v1, val_main_v2, val_main_v3, val_main_v4]
  exact pair_halves rfl a i j

theorem ref (a : FVec Ideal ⟨3, ![2, 4096, 5632]⟩ .bf16) (b : FVec Ideal ⟨2, ![2048, 11264]⟩ .bf16) : val_main_v11 (F := Ideal) a b = res a b := by
  funext y
  obtain ⟨p, q, rfl⟩ : ∃ (p : Fin 4096) (q : Fin 2048), y = ix2 p q := ⟨y 0, y 1, eq_ix2 y⟩
  pointwise [val_main_cst, val_main_v0, val_main_v1, val_main_v2, val_main_v3, val_main_v4, val_main_v6, val_main_v7, val_main_v8, val_main_v9, val_main_v10, val_main_v11]
  exact prod_of (pair 5632 a) (flip (mat b)) 11264 p.val q.val _ _ (fun k => joined a p k) (fun k => mat_eq b q k)

end Reference

/-- The reference runs, keeps its arguments and leaves every counter at zero. -/
theorem frame_ri : Cert.quiescent_RefUpDxIdeal := fun m ρ _ =>
  (θ_run Cert.RefUpDxIdeal.defs _ _).mono (fun r h => ⟨fun c => (h c).2, sem_eq_zero_of_no_sems (by decide) r.2⟩)
    (Cert.RefUpDxIdeal.Value.run (F := Ideal) m ρ)

theorem algebraic : Cert.algebraic_UpDxIdeal_RefUpDxIdeal := by
  intro m g m' g' _ hagree
  refine ⟨fun c => res (m ((c.tc : Thread Cert.UpDxIdeal.nD Cert.UpDxIdeal.τ).loc Cert.UpDxIdeal.main_arg0))
    (m ((c.tc : Thread Cert.UpDxIdeal.nD Cert.UpDxIdeal.τ).loc Cert.UpDxIdeal.main_arg1)), ?_, ?_⟩
  · exact (θ_run Cert.UpDxIdeal.defs _ _).mono (fun _ h c => ⟨(h c).1.trans (final m c), (h c).2⟩) (Cert.UpDxIdeal.Value.run_blocks (F := Ideal) m g)
  · refine (θ_run Cert.RefUpDxIdeal.defs _ _).mono (fun _ h c => ⟨?_, (h c).2⟩) (Cert.RefUpDxIdeal.Value.run (F := Ideal) m' g')
    obtain ⟨h0, h1⟩ := hagree c
    exact (h c).1.trans ((Cert.RefUpDxIdeal.Read.val_main_v11_eq _ _).trans ((ref _ _).trans (congrArg₂ res h0 h1)))

end Cert.Dense.UpDx
-- ==== Proof.UpDw.lean ====
/- The weight gradient of the up projection: every block is summed over 2 stretches of the contracted axis, and together they are the whole product. -/
module

public import proofs.«01_k».proof.Defs
public import proofs.«01_k».proof.Proof.Dense
public import proofs.«01_k».proof.Proof.Gen.UpDwIdeal.Frame
public import proofs.«01_k».proof.Proof.Gen.UpDwIdeal.Value
public import proofs.«01_k».proof.Proof.Gen.RefUpDwIdeal.Run
public import proofs.«01_k».proof.Proof.Gen.RefUpDwIdeal.Read
public import Idealize.ShloMosaic.Lib.Pipeline.ValueKit
public import Idealize.ShloMosaic.Lib.Pointwise
public import Idealize.ShloMosaic.Adequacy

@[expose] public section

noncomputable section

namespace Cert.Dense.UpDw

open Idealize.ShloMosaic Idealize.ShloMosaic.TcCoe Idealize.SL.Sem

set_option maxRecDepth 16384

/-- The result: the product of the two arguments, each read as it is contracted. -/
def res (a : FVec Ideal ⟨2, ![4096, 2048]⟩ .bf16) (b : FVec Ideal ⟨3, ![2, 4096, 5632]⟩ .bf16) : FVec Ideal ⟨2, ![2048, 11264]⟩ .bf16 :=
  fun y => prod (flip (mat a)) (pair 5632 b) 4096 (y 0).val (y 1).val

section Kernel

open Cert.UpDwIdeal Cert.UpDwIdeal.Gen

section Body

variable (x0 : Vec Ideal S2048x1024 .bf16) (x1 : Vec Ideal S1x2048x1408 .bf16)

/-- The first stretch's product at an index. -/
theorem pay1 (p : Fin 1024) (q : Fin 1408) : k0_pay1 x0 x1 (ix2 p q) = ∑ k : Fin 2048, x0 (ix2 k p) * x1 (ix3 0 k q) := by
  pointwise [k0_pay1]

/-- The last stretch, added to what is there. -/
theorem pay3 (s : Vec Ideal S1024x1408 .f32) (p : Fin 1024) (q : Fin 1408) :
    k0_pay3 s x0 x1 (ix2 p q) = s (ix2 p q) + ∑ k : Fin 2048, x0 (ix2 k p) * x1 (ix3 0 k q) := by
  pointwise [k0_pay3]

end Body

/-- Where the windows' blocks lie. -/
theorem idx : ∀ t : Fin cfg0.N, (win0_0.index t 0 = t.val % 2 ∧ win0_0.index t 1 = t.val / 16) ∧ (win0_1.index t 0 = t.val / 2 % 8 / 4 ∧ win0_1.index t 1 = t.val % 2 ∧ win0_1.index t 2 = t.val / 2 % 8 % 4)
    ∧ (win0_2.index t 0 = t.val / 16 ∧ win0_2.index t 1 = t.val / 2 % 8) :=
  (by decide +kernel : ∀ t : Fin grid0.N, _)

variable (m : (ℓ : Loc nD τ sig) → Buf (Elt Ideal) ℓ) (c : Dev nD)

/-- The first operand, as it is contracted. -/
def lhs : ℕ → ℕ → EReal := flip (mat (m ((c : Thread nD τ).loc main_arg0)))
/-- The second operand, as it is contracted. -/
def rhs : ℕ → ℕ → EReal := pair 5632 (m ((c : Thread nD τ).loc main_arg1))

/-- The first operand's block at a point. -/
def bA (t : Fin cfg0.N) : Vec Ideal S2048x1024 .bf16 := iblk m c 0 t
/-- The second operand's. -/
def bB (t : Fin cfg0.N) : Vec Ideal S1x2048x1408 .bf16 := iblk m c 1 t

/-- The first operand's block at an index. -/
theorem blkA (t : Fin cfg0.N) (p : Fin 1024) (k : Fin 2048) :
    bA m c t (ix2 k p) = lhs m c (t.val / 16 * 1024 + p) (t.val % 2 * 2048 + k) := by
  have ht := lt_of_lt_of_eq t.isLt N_0
  obtain ⟨⟨e0, e1⟩, -⟩ := idx t
  refine Eq.trans ?_ (mat_eq (m ((c : Thread nD τ).loc main_arg0)) ⟨t.val % 2 * 2048 + k, by omega⟩ ⟨t.val / 16 * 1024 + p, by omega⟩)
  blk_ext [bA, iblk, V_main_arg0, e0, e1]

/-- The second operand's block at an index. -/
theorem blkB (t : Fin cfg0.N) (q : Fin 1408) (k : Fin 2048) :
    bB m c t (ix3 0 k q) = rhs m c (t.val % 2 * 2048 + k) (t.val / 2 % 8 * 1408 + q) := by
  have ht := lt_of_lt_of_eq t.isLt N_0
  obtain ⟨-, ⟨e0, e1, e2⟩, -⟩ := idx t
  refine Eq.trans ?_ ((pair_eq (m ((c : Thread nD τ).loc main_arg1)) ⟨t.val / 2 % 8 / 4, by omega⟩ ⟨t.val % 2 * 2048 + k, by omega⟩ ⟨t.val / 2 % 8 % 4 * 1408 + q, by omega⟩).trans
    (congrArg (pair 5632 (m ((c : Thread nD τ).loc main_arg1)) _) (show t.val / 2 % 8 / 4 * 5632 + (t.val / 2 % 8 % 4 * 1408 + q) = t.val / 2 % 8 * 1408 + q by omega)))
  blk_ext [bB, iblk, V_main_arg1, e0, e1, e2]

/-- The stretch of products a point works on. -/
theorem stretch (t : Fin cfg0.N) (p : Fin 1024) (q : Fin 1408) :
    (∑ k : Fin 2048, bA m c t (ix2 k p) * bB m c t (ix3 0 k q))
      = part (lhs m c) (rhs m c) (t.val / 16 * 1024 + p) (t.val / 2 % 8 * 1408 + q) (t.val % 2 * 2048) 2048 :=
  part_of _ _ _ _ _ _ _ _ (fun k => blkA m c t p k) (fun k => blkB m c t q k)

/-- What is kept, read where the next point finds it. -/
theorem kept (s : Vec Ideal S1024x1408 .f32) :
    View.read (Elt Ideal) (View.whole cc0_scratch0) ((Memref.isWhole_whole cc0_scratch0).unread s) = s :=
  (Memref.isWhole_whole cc0_scratch0).read_unread s

/-- What the first of a block's points keeps. -/
theorem kept0 (t : Fin cfg0.N) (h : t.val % 2 = 0) (p : Fin 1024) (q : Fin 1408) :
    (outsAt0 m c t.val t.isLt).2 (ix2 p q) = part (lhs m c) (rhs m c) (t.val / 16 * 1024 + p) (t.val / 2 % 8 * 1408 + q) 0 2048 := by
  rw [outsAt0_A m c t (by omega) (by omega)]
  frame_out
  refine (pay1 (bA m c t) (bB m c t) p q).trans ((stretch m c t p q).trans ?_)
  rw [h, Nat.zero_mul]

/-- What the last of a block's points writes. -/
theorem written (t : Fin cfg0.N) (h : t.val % 2 = 1) (p : Fin 1024) (q : Fin 1408) :
    (outsAt0 m c t.val t.isLt).1 (ix2 p q) = prod (lhs m c) (rhs m c) 4096 (t.val / 16 * 1024 + p) (t.val / 2 % 8 * 1408 + q) := by
  have hb := kept0 m c ⟨t.val - 1, Nat.lt_of_le_of_lt (Nat.sub_le _ _) t.isLt⟩ (show (t.val - 1) % 2 = 0 by omega) p q
  rw [outsAt0_B m c t (by omega) (by omega)]
  frame_out
  refine (pay3 (bA m c t) (bB m c t) _ p q).trans ?_
  dsimp only at hb
  rw [stretch m c t p q, kept, hb, h]
  refine Eq.trans ?_ (part_add _ _ _ _ 0 2048 2048)
  rw [show (t.val - 1) / 16 = t.val / 16 by omega, show (t.val - 1) / 2 = t.val / 2 by omega]

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1408), y = ix2 p q := ⟨y 0, y 1, eq_ix2 y⟩
  rw [after0_2]
  refine (written m c t ((flush0_2 t).mp hf) p q).trans ?_
  unfold res lhs rhs
  blk_simp [e0, e1]

end Kernel

section Reference

open Cert.RefUpDwIdeal Cert.RefUpDwIdeal.Read

/-- The two halves joined, at an index. -/
theorem joined (a : FVec Ideal ⟨3, ![2, 4096, 5632]⟩ .bf16) (i : Fin 4096) (j : Fin 11264) : val_main_v5 (F := Ideal) a (ix2 i j) = pair 5632 a i.val j.val := by
  unfold val_main_v5
  pointwise [val_main_cst, val_main_v0, val_main_v1, val_main_v2, val_main_v3, val_main_v4]
  exact pair_halves rfl a i j

theorem ref (a : FVec Ideal ⟨2, ![4096, 2048]⟩ .bf16) (b : FVec Ideal ⟨3, ![2, 4096, 5632]⟩ .bf16) : val_main_v12 (F := Ideal) a b = res a b := by
  funext y
  obtain ⟨p, q, rfl⟩ : ∃ (p : Fin 2048) (q : Fin 11264), y = ix2 p q := ⟨y 0, y 1, eq_ix2 y⟩
  pointwise [val_main_cst, val_main_v0, val_main_v1, val_main_v2, val_main_v3, val_main_v4, val_main_v6, val_main_v7, val_main_v8, val_main_v9, val_main_v10, val_main_v11, val_main_v12]
  exact prod_of_swapped (flip (mat a)) (pair 5632 b) 4096 p.val q.val _ _ (fun k => mat_eq a k p) (fun k => joined b k q)

end Reference

/-- The reference runs, keeps its arguments and leaves every counter at zero. -/
theorem frame_ri : Cert.quiescent_RefUpDwIdeal := fun m ρ _ =>
  (θ_run Cert.RefUpDwIdeal.defs _ _).mono (fun r h => ⟨fun c => (h c).2, sem_eq_zero_of_no_sems (by decide) r.2⟩)
    (Cert.RefUpDwIdeal.Value.run (F := Ideal) m ρ)

theorem algebraic : Cert.algebraic_UpDwIdeal_RefUpDwIdeal := by
  intro m g m' g' _ hagree
  refine ⟨fun c => res (m ((c.tc : Thread Cert.UpDwIdeal.nD Cert.UpDwIdeal.τ).loc Cert.UpDwIdeal.main_arg0))
    (m ((c.tc : Thread Cert.UpDwIdeal.nD Cert.UpDwIdeal.τ).loc Cert.UpDwIdeal.main_arg1)), ?_, ?_⟩
  · exact (θ_run Cert.UpDwIdeal.defs _ _).mono (fun _ h c => ⟨(h c).1.trans (final m c), (h c).2⟩) (Cert.UpDwIdeal.Value.run_blocks (F := Ideal) m g)
  · refine (θ_run Cert.RefUpDwIdeal.defs _ _).mono (fun _ h c => ⟨?_, (h c).2⟩) (Cert.RefUpDwIdeal.Value.run (F := Ideal) m' g')
    obtain ⟨h0, h1⟩ := hagree c
    exact (h c).1.trans ((Cert.RefUpDwIdeal.Read.val_main_v12_eq _ _).trans ((ref _ _).trans (congrArg₂ res h0 h1)))

end Cert.Dense.UpDw
-- ==== Proof.OutDx.lean ====
/- The input gradient of the mixer's output projection: every block is one product, and together they are the whole product. -/
module

public import proofs.«01_k».proof.Defs
public import proofs.«01_k».proof.Proof.Dense
public import proofs.«01_k».proof.Proof.Gen.OutDxIdeal.Frame
public import proofs.«01_k».proof.Proof.Gen.OutDxIdeal.Value
public import proofs.«01_k».proof.Proof.Gen.RefOutDxIdeal.Run
public import proofs.«01_k».proof.Proof.Gen.RefOutDxIdeal.Read
public import Idealize.ShloMosaic.Lib.Pipeline.ValueKit
public import Idealize.ShloMosaic.Lib.Pointwise
public import Idealize.ShloMosaic.Adequacy

@[expose] public section

noncomputable section

namespace Cert.Dense.OutDx

open Idealize.ShloMosaic Idealize.ShloMosaic.TcCoe Idealize.SL.Sem

set_option maxRecDepth 16384

/-- The result: the product of the two arguments, each read as it is contracted. -/
def res (a : FVec Ideal ⟨2, ![4096, 2048]⟩ .bf16) (b : FVec Ideal ⟨2, ![2048, 2048]⟩ .bf16) : FVec Ideal ⟨2, ![4096, 2048]⟩ .f32 :=
  fun y => prod (mat a) (flip (mat b)) 2048 (y 0).val (y 1).val

section Kernel

open Cert.OutDxIdeal Cert.OutDxIdeal.Gen

section Body

variable (x0 : Vec Ideal S1024x2048 .bf16) (x1 : Vec Ideal S1024x2048 .bf16)

/-- The body's product at an index. -/
theorem pay1 (p : Fin 1024) (q : Fin 1024) : k0_pay1 x0 x1 (ix2 p q) = ∑ k : Fin 2048, x0 (ix2 p k) * x1 (ix2 q k) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := flip (mat (m ((c : Thread nD τ).loc main_arg1)))

/-- The first operand's block at a point. -/
def bA (t : Fin cfg0.N) : Vec Ideal S1024x2048 .bf16 := iblk m c 0 t
/-- The second operand's. -/
def bB (t : Fin cfg0.N) : Vec Ideal S1024x2048 .bf16 := iblk m c 1 t

/-- The first operand's block at an index. -/
theorem blkA (t : Fin cfg0.N) (p : Fin 1024) (k : Fin 2048) :
    bA m c t (ix2 p k) = lhs m c (t.val / 2 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 2 * 1024 + p, by omega⟩ ⟨0 + k, by omega⟩)
  blk_ext [bA, iblk, V_main_arg0, e0, e1]

/-- The second operand's block at an index. -/
theorem blkB (t : Fin cfg0.N) (q : Fin 1024) (k : Fin 2048) :
    bB m c t (ix2 q k) = rhs m c (0 + k) (t.val % 2 * 1024 + q) := by
  have ht := lt_of_lt_of_eq t.isLt N_0
  obtain ⟨-, ⟨e0, e1⟩, -⟩ := idx t
  refine Eq.trans ?_ (mat_eq (m ((c : Thread nD τ).loc main_arg1)) ⟨t.val % 2 * 1024 + q, by omega⟩ ⟨0 + k, by omega⟩)
  blk_ext [bB, iblk, V_main_arg1, e0, e1]

/-- The stretch of products a point works on. -/
theorem stretch (t : Fin cfg0.N) (p : Fin 1024) (q : Fin 1024) :
    (∑ k : Fin 2048, bA m c t (ix2 p k) * bB m c t (ix2 q k))
      = part (lhs m c) (rhs m c) (t.val / 2 * 1024 + p) (t.val % 2 * 1024 + q) (0) 2048 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefOutDxIdeal Cert.RefOutDxIdeal.Read

theorem ref (a : FVec Ideal ⟨2, ![4096, 2048]⟩ .bf16) (b : FVec Ideal ⟨2, ![2048, 2048]⟩ .bf16) : val_main_v6 (F := Ideal) a b = res a b := by
  funext y
  obtain ⟨p, q, rfl⟩ : ∃ (p : Fin 4096) (q : Fin 2048), y = ix2 p q := ⟨y 0, y 1, eq_ix2 y⟩
  pointwise [val_main_cst, val_main_v0, val_main_v1, val_main_v2, val_main_v3, val_main_v4, val_main_v5, val_main_v6]
  exact prod_of (mat a) (flip (mat b)) 2048 p.val q.val _ _ (fun k => mat_eq a p k) (fun k => mat_eq b q k)

end Reference

/-- The reference runs, keeps its arguments and leaves every counter at zero. -/
theorem frame_ri : Cert.quiescent_RefOutDxIdeal := fun m ρ _ =>
  (θ_run Cert.RefOutDxIdeal.defs _ _).mono (fun r h => ⟨fun c => (h c).2, sem_eq_zero_of_no_sems (by decide) r.2⟩)
    (Cert.RefOutDxIdeal.Value.run (F := Ideal) m ρ)

theorem algebraic : Cert.algebraic_OutDxIdeal_RefOutDxIdeal := by
  intro m g m' g' _ hagree
  refine ⟨fun c => res (m ((c.tc : Thread Cert.OutDxIdeal.nD Cert.OutDxIdeal.τ).loc Cert.OutDxIdeal.main_arg0))
    (m ((c.tc : Thread Cert.OutDxIdeal.nD Cert.OutDxIdeal.τ).loc Cert.OutDxIdeal.main_arg1)), ?_, ?_⟩
  · exact (θ_run Cert.OutDxIdeal.defs _ _).mono (fun _ h c => ⟨(h c).1.trans (final m c), (h c).2⟩) (Cert.OutDxIdeal.Value.run_blocks (F := Ideal) m g)
  · refine (θ_run Cert.RefOutDxIdeal.defs _ _).mono (fun _ h c => ⟨?_, (h c).2⟩) (Cert.RefOutDxIdeal.Value.run (F := Ideal) m' g')
    obtain ⟨h0, h1⟩ := hagree c
    exact (h c).1.trans ((Cert.RefOutDxIdeal.Read.val_main_v6_eq _ _).trans ((ref _ _).trans (congrArg₂ res h0 h1)))

end Cert.Dense.OutDx
-- ==== Proof.OutDw.lean ====
/- The weight gradient of the mixer's output projection: every block is summed over 2 stretches of the contracted axis, and together they are the whole product. -/
module

public import proofs.«01_k».proof.Defs
public import proofs.«01_k».proof.Proof.Dense
public import proofs.«01_k».proof.Proof.Gen.OutDwIdeal.Frame
public import proofs.«01_k».proof.Proof.Gen.OutDwIdeal.Value
public import proofs.«01_k».proof.Proof.Gen.RefOutDwIdeal.Run
public import proofs.«01_k».proof.Proof.Gen.RefOutDwIdeal.Read
public import Idealize.ShloMosaic.Lib.Pipeline.ValueKit
public import Idealize.ShloMosaic.Lib.Pointwise
public import Idealize.ShloMosaic.Adequacy

@[expose] public section

noncomputable section

namespace Cert.Dense.OutDw

open Idealize.ShloMosaic Idealize.ShloMosaic.TcCoe Idealize.SL.Sem

set_option maxRecDepth 16384

/-- The result: the product of the two arguments, each read as it is contracted. -/
def res (a : FVec Ideal ⟨2, ![4096, 2048]⟩ .bf16) (b : FVec Ideal ⟨2, ![4096, 2048]⟩ .bf16) : FVec Ideal ⟨2, ![2048, 2048]⟩ .bf16 :=
  fun y => prod (flip (mat a)) (mat b) 4096 (y 0).val (y 1).val

section Kernel

open Cert.OutDwIdeal Cert.OutDwIdeal.Gen

section Body

variable (x0 : Vec Ideal S2048x1024 .bf16) (x1 : Vec Ideal S2048x1024 .bf16)

/-- The first stretch's product at an index. -/
theorem pay1 (p : Fin 1024) (q : Fin 1024) : k0_pay1 x0 x1 (ix2 p q) = ∑ k : Fin 2048, x0 (ix2 k p) * x1 (ix2 k q) := by
  pointwise [k0_pay1]

/-- The last stretch, added to what is there. -/
theorem pay3 (s : Vec Ideal S1024x1024 .f32) (p : Fin 1024) (q : Fin 1024) :
    k0_pay3 s x0 x1 (ix2 p q) = s (ix2 p q) + ∑ k : Fin 2048, x0 (ix2 k p) * x1 (ix2 k q) := by
  pointwise [k0_pay3]

end Body

/-- Where the windows' blocks lie. -/
theorem idx : ∀ t : Fin cfg0.N, (win0_0.index t 0 = t.val % 2 ∧ win0_0.index t 1 = t.val / 4) ∧ (win0_1.index t 0 = t.val % 2 ∧ win0_1.index t 1 = t.val / 2 % 2)
    ∧ (win0_2.index t 0 = t.val / 4 ∧ win0_2.index t 1 = t.val / 2 % 2) :=
  (by decide +kernel : ∀ t : Fin grid0.N, _)

variable (m : (ℓ : Loc nD τ sig) → Buf (Elt Ideal) ℓ) (c : Dev nD)

/-- The first operand, as it is contracted. -/
def lhs : ℕ → ℕ → EReal := flip (mat (m ((c : Thread nD τ).loc main_arg0)))
/-- The second operand, as it is contracted. -/
def rhs : ℕ → ℕ → EReal := mat (m ((c : Thread nD τ).loc main_arg1))

/-- The first operand's block at a point. -/
def bA (t : Fin cfg0.N) : Vec Ideal S2048x1024 .bf16 := iblk m c 0 t
/-- The second operand's. -/
def bB (t : Fin cfg0.N) : Vec Ideal S2048x1024 .bf16 := iblk m c 1 t

/-- The first operand's block at an index. -/
theorem blkA (t : Fin cfg0.N) (p : Fin 1024) (k : Fin 2048) :
    bA m c t (ix2 k p) = lhs m c (t.val / 4 * 1024 + p) (t.val % 2 * 2048 + k) := by
  have ht := lt_of_lt_of_eq t.isLt N_0
  obtain ⟨⟨e0, e1⟩, -⟩ := idx t
  refine Eq.trans ?_ (mat_eq (m ((c : Thread nD τ).loc main_arg0)) ⟨t.val % 2 * 2048 + k, by omega⟩ ⟨t.val / 4 * 1024 + p, by omega⟩)
  blk_ext [bA, iblk, V_main_arg0, e0, e1]

/-- The second operand's block at an index. -/
theorem blkB (t : Fin cfg0.N) (q : Fin 1024) (k : Fin 2048) :
    bB m c t (ix2 k q) = rhs m c (t.val % 2 * 2048 + k) (t.val / 2 % 2 * 1024 + q) := by
  have ht := lt_of_lt_of_eq t.isLt N_0
  obtain ⟨-, ⟨e0, e1⟩, -⟩ := idx t
  refine Eq.trans ?_ (mat_eq (m ((c : Thread nD τ).loc main_arg1)) ⟨t.val % 2 * 2048 + k, by omega⟩ ⟨t.val / 2 % 2 * 1024 + q, by omega⟩)
  blk_ext [bB, iblk, V_main_arg1, e0, e1]

/-- The stretch of products a point works on. -/
theorem stretch (t : Fin cfg0.N) (p : Fin 1024) (q : Fin 1024) :
    (∑ k : Fin 2048, bA m c t (ix2 k p) * bB m c t (ix2 k q))
      = part (lhs m c) (rhs m c) (t.val / 4 * 1024 + p) (t.val / 2 % 2 * 1024 + q) (t.val % 2 * 2048) 2048 :=
  part_of _ _ _ _ _ _ _ _ (fun k => blkA m c t p k) (fun k => blkB m c t q k)

/-- What is kept, read where the next point finds it. -/
theorem kept (s : Vec Ideal S1024x1024 .f32) :
    View.read (Elt Ideal) (View.whole cc0_scratch0) ((Memref.isWhole_whole cc0_scratch0).unread s) = s :=
  (Memref.isWhole_whole cc0_scratch0).read_unread s

/-- What the first of a block's points keeps. -/
theorem kept0 (t : Fin cfg0.N) (h : t.val % 2 = 0) (p : Fin 1024) (q : Fin 1024) :
    (outsAt0 m c t.val t.isLt).2 (ix2 p q) = part (lhs m c) (rhs m c) (t.val / 4 * 1024 + p) (t.val / 2 % 2 * 1024 + q) 0 2048 := by
  rw [outsAt0_A m c t (by omega) (by omega)]
  frame_out
  refine (pay1 (bA m c t) (bB m c t) p q).trans ((stretch m c t p q).trans ?_)
  rw [h, Nat.zero_mul]

/-- What the last of a block's points writes. -/
theorem written (t : Fin cfg0.N) (h : t.val % 2 = 1) (p : Fin 1024) (q : Fin 1024) :
    (outsAt0 m c t.val t.isLt).1 (ix2 p q) = prod (lhs m c) (rhs m c) 4096 (t.val / 4 * 1024 + p) (t.val / 2 % 2 * 1024 + q) := by
  have hb := kept0 m c ⟨t.val - 1, Nat.lt_of_le_of_lt (Nat.sub_le _ _) t.isLt⟩ (show (t.val - 1) % 2 = 0 by omega) p q
  rw [outsAt0_B m c t (by omega) (by omega)]
  frame_out
  refine (pay3 (bA m c t) (bB m c t) _ p q).trans ?_
  dsimp only at hb
  rw [stretch m c t p q, kept, hb, h]
  refine Eq.trans ?_ (part_add _ _ _ _ 0 2048 2048)
  rw [show (t.val - 1) / 4 = t.val / 4 by omega, show (t.val - 1) / 2 = t.val / 2 by omega]

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2]
  refine (written m c t ((flush0_2 t).mp hf) p q).trans ?_
  unfold res lhs rhs
  blk_simp [e0, e1]

end Kernel

section Reference

open Cert.RefOutDwIdeal Cert.RefOutDwIdeal.Read

theorem ref (a : FVec Ideal ⟨2, ![4096, 2048]⟩ .bf16) (b : FVec Ideal ⟨2, ![4096, 2048]⟩ .bf16) : val_main_v7 (F := Ideal) a b = res a b := by
  funext y
  obtain ⟨p, q, rfl⟩ : ∃ (p : Fin 2048) (q : Fin 2048), y = ix2 p q := ⟨y 0, y 1, eq_ix2 y⟩
  pointwise [val_main_cst, val_main_v0, val_main_v1, val_main_v2, val_main_v3, val_main_v4, val_main_v5, val_main_v6, val_main_v7]
  exact prod_of_swapped (flip (mat a)) (mat b) 4096 p.val q.val _ _ (fun k => mat_eq a k p) (fun k => mat_eq b k q)

end Reference

/-- The reference runs, keeps its arguments and leaves every counter at zero. -/
theorem frame_ri : Cert.quiescent_RefOutDwIdeal := fun m ρ _ =>
  (θ_run Cert.RefOutDwIdeal.defs _ _).mono (fun r h => ⟨fun c => (h c).2, sem_eq_zero_of_no_sems (by decide) r.2⟩)
    (Cert.RefOutDwIdeal.Value.run (F := Ideal) m ρ)

theorem algebraic : Cert.algebraic_OutDwIdeal_RefOutDwIdeal := by
  intro m g m' g' _ hagree
  refine ⟨fun c => res (m ((c.tc : Thread Cert.OutDwIdeal.nD Cert.OutDwIdeal.τ).loc Cert.OutDwIdeal.main_arg0))
    (m ((c.tc : Thread Cert.OutDwIdeal.nD Cert.OutDwIdeal.τ).loc Cert.OutDwIdeal.main_arg1)), ?_, ?_⟩
  · exact (θ_run Cert.OutDwIdeal.defs _ _).mono (fun _ h c => ⟨(h c).1.trans (final m c), (h c).2⟩) (Cert.OutDwIdeal.Value.run_blocks (F := Ideal) m g)
  · refine (θ_run Cert.RefOutDwIdeal.defs _ _).mono (fun _ h c => ⟨?_, (h c).2⟩) (Cert.RefOutDwIdeal.Value.run (F := Ideal) m' g')
    obtain ⟨h0, h1⟩ := hagree c
    exact (h c).1.trans ((Cert.RefOutDwIdeal.Read.val_main_v7_eq _ _).trans ((ref _ _).trans (congrArg₂ res h0 h1)))

end Cert.Dense.OutDw
-- ==== Proof.GluDx.lean ====
/- The input gradient of the state-space gate's projection: every block is one product, and together they are the whole product. -/
module

public import proofs.«01_k».proof.Defs
public import proofs.«01_k».proof.Proof.Dense
public import proofs.«01_k».proof.Proof.Gen.GluDxIdeal.Frame
public import proofs.«01_k».proof.Proof.Gen.GluDxIdeal.Value
public import proofs.«01_k».proof.Proof.Gen.RefGluDxIdeal.Run
public import proofs.«01_k».proof.Proof.Gen.RefGluDxIdeal.Read
public import Idealize.ShloMosaic.Lib.Pipeline.ValueKit
public import Idealize.ShloMosaic.Lib.Pointwise
public import Idealize.ShloMosaic.Adequacy

@[expose] public section

noncomputable section

namespace Cert.Dense.GluDx

open Idealize.ShloMosaic Idealize.ShloMosaic.TcCoe Idealize.SL.Sem

set_option maxRecDepth 16384

/-- The result: the product of the two arguments, each read as it is contracted. -/
def res (a : FVec Ideal ⟨2, ![4096, 1024]⟩ .bf16) (b : FVec Ideal ⟨2, ![1024, 1024]⟩ .bf16) : FVec Ideal ⟨2, ![4096, 1024]⟩ .f32 :=
  fun y => prod (mat a) (flip (mat b)) 1024 (y 0).val (y 1).val

section Kernel

open Cert.GluDxIdeal Cert.GluDxIdeal.Gen

section Body

variable (x0 : Vec Ideal S1024x1024 .bf16) (x1 : Vec Ideal S1024x1024 .bf16)

/-- The body's product at an index. -/
theorem pay1 (p : Fin 1024) (q : Fin 1024) : k0_pay1 x0 x1 (ix2 p q) = ∑ k : Fin 1024, x0 (ix2 p k) * x1 (ix2 q k) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 1 ∧ win0_0.index t 1 = 0) ∧ (win0_1.index t 0 = t.val % 1 ∧ win0_1.index t 1 = 0)
    ∧ (win0_2.index t 0 = t.val / 1 ∧ win0_2.index t 1 = t.val % 1) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := flip (mat (m ((c : Thread nD τ).loc main_arg1)))

/-- The first operand's block at a point. -/
def bA (t : Fin cfg0.N) : Vec Ideal S1024x1024 .bf16 := iblk m c 0 t
/-- The second operand's. -/
def bB (t : Fin cfg0.N) : Vec Ideal S1024x1024 .bf16 := iblk m c 1 t

/-- The first operand's block at an index. -/
theorem blkA (t : Fin cfg0.N) (p : Fin 1024) (k : Fin 1024) :
    bA m c t (ix2 p k) = lhs m c (t.val / 1 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 1 * 1024 + p, by omega⟩ ⟨0 + k, by omega⟩)
  blk_ext [bA, iblk, V_main_arg0, e0, e1]

/-- The second operand's block at an index. -/
theorem blkB (t : Fin cfg0.N) (q : Fin 1024) (k : Fin 1024) :
    bB m c t (ix2 q k) = rhs m c (0 + k) (t.val % 1 * 1024 + q) := by
  have ht := lt_of_lt_of_eq t.isLt N_0
  obtain ⟨-, ⟨e0, e1⟩, -⟩ := idx t
  refine Eq.trans ?_ (mat_eq (m ((c : Thread nD τ).loc main_arg1)) ⟨t.val % 1 * 1024 + q, by omega⟩ ⟨0 + k, by omega⟩)
  blk_ext [bB, iblk, V_main_arg1, e0, e1]

/-- The stretch of products a point works on. -/
theorem stretch (t : Fin cfg0.N) (p : Fin 1024) (q : Fin 1024) :
    (∑ k : Fin 1024, bA m c t (ix2 p k) * bB m c t (ix2 q k))
      = part (lhs m c) (rhs m c) (t.val / 1 * 1024 + p) (t.val % 1 * 1024 + q) (0) 1024 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefGluDxIdeal Cert.RefGluDxIdeal.Read

theorem ref (a : FVec Ideal ⟨2, ![4096, 1024]⟩ .bf16) (b : FVec Ideal ⟨2, ![1024, 1024]⟩ .bf16) : val_main_v6 (F := Ideal) a b = res a b := by
  funext y
  obtain ⟨p, q, rfl⟩ : ∃ (p : Fin 4096) (q : Fin 1024), y = ix2 p q := ⟨y 0, y 1, eq_ix2 y⟩
  pointwise [val_main_cst, val_main_v0, val_main_v1, val_main_v2, val_main_v3, val_main_v4, val_main_v5, val_main_v6]
  exact prod_of (mat a) (flip (mat b)) 1024 p.val q.val _ _ (fun k => mat_eq a p k) (fun k => mat_eq b q k)

end Reference

/-- The reference runs, keeps its arguments and leaves every counter at zero. -/
theorem frame_ri : Cert.quiescent_RefGluDxIdeal := fun m ρ _ =>
  (θ_run Cert.RefGluDxIdeal.defs _ _).mono (fun r h => ⟨fun c => (h c).2, sem_eq_zero_of_no_sems (by decide) r.2⟩)
    (Cert.RefGluDxIdeal.Value.run (F := Ideal) m ρ)

theorem algebraic : Cert.algebraic_GluDxIdeal_RefGluDxIdeal := by
  intro m g m' g' _ hagree
  refine ⟨fun c => res (m ((c.tc : Thread Cert.GluDxIdeal.nD Cert.GluDxIdeal.τ).loc Cert.GluDxIdeal.main_arg0))
    (m ((c.tc : Thread Cert.GluDxIdeal.nD Cert.GluDxIdeal.τ).loc Cert.GluDxIdeal.main_arg1)), ?_, ?_⟩
  · exact (θ_run Cert.GluDxIdeal.defs _ _).mono (fun _ h c => ⟨(h c).1.trans (final m c), (h c).2⟩) (Cert.GluDxIdeal.Value.run_blocks (F := Ideal) m g)
  · refine (θ_run Cert.RefGluDxIdeal.defs _ _).mono (fun _ h c => ⟨?_, (h c).2⟩) (Cert.RefGluDxIdeal.Value.run (F := Ideal) m' g')
    obtain ⟨h0, h1⟩ := hagree c
    exact (h c).1.trans ((Cert.RefGluDxIdeal.Read.val_main_v6_eq _ _).trans ((ref _ _).trans (congrArg₂ res h0 h1)))

end Cert.Dense.GluDx
-- ==== Proof.GluDw.lean ====
/- The weight gradient of the state-space gate's projection: every block is summed over 2 stretches of the contracted axis, and together they are the whole product. -/
module

public import proofs.«01_k».proof.Defs
public import proofs.«01_k».proof.Proof.Dense
public import proofs.«01_k».proof.Proof.Gen.GluDwIdeal.Frame
public import proofs.«01_k».proof.Proof.Gen.GluDwIdeal.Value
public import proofs.«01_k».proof.Proof.Gen.RefGluDwIdeal.Run
public import proofs.«01_k».proof.Proof.Gen.RefGluDwIdeal.Read
public import Idealize.ShloMosaic.Lib.Pipeline.ValueKit
public import Idealize.ShloMosaic.Lib.Pointwise
public import Idealize.ShloMosaic.Adequacy

@[expose] public section

noncomputable section

namespace Cert.Dense.GluDw

open Idealize.ShloMosaic Idealize.ShloMosaic.TcCoe Idealize.SL.Sem

set_option maxRecDepth 16384

/-- The result: the product of the two arguments, each read as it is contracted. -/
def res (a : FVec Ideal ⟨2, ![4096, 1024]⟩ .bf16) (b : FVec Ideal ⟨2, ![4096, 1024]⟩ .bf16) : FVec Ideal ⟨2, ![1024, 1024]⟩ .bf16 :=
  fun y => prod (flip (mat a)) (mat b) 4096 (y 0).val (y 1).val

section Kernel

open Cert.GluDwIdeal Cert.GluDwIdeal.Gen

section Body

variable (x0 : Vec Ideal S2048x1024 .bf16) (x1 : Vec Ideal S2048x1024 .bf16)

/-- The first stretch's product at an index. -/
theorem pay1 (p : Fin 1024) (q : Fin 1024) : k0_pay1 x0 x1 (ix2 p q) = ∑ k : Fin 2048, x0 (ix2 k p) * x1 (ix2 k q) := by
  pointwise [k0_pay1]

/-- The last stretch, added to what is there. -/
theorem pay3 (s : Vec Ideal S1024x1024 .f32) (p : Fin 1024) (q : Fin 1024) :
    k0_pay3 s x0 x1 (ix2 p q) = s (ix2 p q) + ∑ k : Fin 2048, x0 (ix2 k p) * x1 (ix2 k q) := by
  pointwise [k0_pay3]

end Body

/-- Where the windows' blocks lie. -/
theorem idx : ∀ t : Fin cfg0.N, (win0_0.index t 0 = t.val % 2 ∧ win0_0.index t 1 = t.val / 2) ∧ (win0_1.index t 0 = t.val % 2 ∧ win0_1.index t 1 = t.val / 2 % 1)
    ∧ (win0_2.index t 0 = t.val / 2 ∧ win0_2.index t 1 = t.val / 2 % 1) :=
  (by decide +kernel : ∀ t : Fin grid0.N, _)

variable (m : (ℓ : Loc nD τ sig) → Buf (Elt Ideal) ℓ) (c : Dev nD)

/-- The first operand, as it is contracted. -/
def lhs : ℕ → ℕ → EReal := flip (mat (m ((c : Thread nD τ).loc main_arg0)))
/-- The second operand, as it is contracted. -/
def rhs : ℕ → ℕ → EReal := mat (m ((c : Thread nD τ).loc main_arg1))

/-- The first operand's block at a point. -/
def bA (t : Fin cfg0.N) : Vec Ideal S2048x1024 .bf16 := iblk m c 0 t
/-- The second operand's. -/
def bB (t : Fin cfg0.N) : Vec Ideal S2048x1024 .bf16 := iblk m c 1 t

/-- The first operand's block at an index. -/
theorem blkA (t : Fin cfg0.N) (p : Fin 1024) (k : Fin 2048) :
    bA m c t (ix2 k p) = lhs m c (t.val / 2 * 1024 + p) (t.val % 2 * 2048 + k) := by
  have ht := lt_of_lt_of_eq t.isLt N_0
  obtain ⟨⟨e0, e1⟩, -⟩ := idx t
  refine Eq.trans ?_ (mat_eq (m ((c : Thread nD τ).loc main_arg0)) ⟨t.val % 2 * 2048 + k, by omega⟩ ⟨t.val / 2 * 1024 + p, by omega⟩)
  blk_ext [bA, iblk, V_main_arg0, e0, e1]

/-- The second operand's block at an index. -/
theorem blkB (t : Fin cfg0.N) (q : Fin 1024) (k : Fin 2048) :
    bB m c t (ix2 k q) = rhs m c (t.val % 2 * 2048 + k) (t.val / 2 % 1 * 1024 + q) := by
  have ht := lt_of_lt_of_eq t.isLt N_0
  obtain ⟨-, ⟨e0, e1⟩, -⟩ := idx t
  refine Eq.trans ?_ (mat_eq (m ((c : Thread nD τ).loc main_arg1)) ⟨t.val % 2 * 2048 + k, by omega⟩ ⟨t.val / 2 % 1 * 1024 + q, by omega⟩)
  blk_ext [bB, iblk, V_main_arg1, e0, e1]

/-- The stretch of products a point works on. -/
theorem stretch (t : Fin cfg0.N) (p : Fin 1024) (q : Fin 1024) :
    (∑ k : Fin 2048, bA m c t (ix2 k p) * bB m c t (ix2 k q))
      = part (lhs m c) (rhs m c) (t.val / 2 * 1024 + p) (t.val / 2 % 1 * 1024 + q) (t.val % 2 * 2048) 2048 :=
  part_of _ _ _ _ _ _ _ _ (fun k => blkA m c t p k) (fun k => blkB m c t q k)

/-- What is kept, read where the next point finds it. -/
theorem kept (s : Vec Ideal S1024x1024 .f32) :
    View.read (Elt Ideal) (View.whole cc0_scratch0) ((Memref.isWhole_whole cc0_scratch0).unread s) = s :=
  (Memref.isWhole_whole cc0_scratch0).read_unread s

/-- What the first of a block's points keeps. -/
theorem kept0 (t : Fin cfg0.N) (h : t.val % 2 = 0) (p : Fin 1024) (q : Fin 1024) :
    (outsAt0 m c t.val t.isLt).2 (ix2 p q) = part (lhs m c) (rhs m c) (t.val / 2 * 1024 + p) (t.val / 2 % 1 * 1024 + q) 0 2048 := by
  rw [outsAt0_A m c t (by omega) (by omega)]
  frame_out
  refine (pay1 (bA m c t) (bB m c t) p q).trans ((stretch m c t p q).trans ?_)
  rw [h, Nat.zero_mul]

/-- What the last of a block's points writes. -/
theorem written (t : Fin cfg0.N) (h : t.val % 2 = 1) (p : Fin 1024) (q : Fin 1024) :
    (outsAt0 m c t.val t.isLt).1 (ix2 p q) = prod (lhs m c) (rhs m c) 4096 (t.val / 2 * 1024 + p) (t.val / 2 % 1 * 1024 + q) := by
  have hb := kept0 m c ⟨t.val - 1, Nat.lt_of_le_of_lt (Nat.sub_le _ _) t.isLt⟩ (show (t.val - 1) % 2 = 0 by omega) p q
  rw [outsAt0_B m c t (by omega) (by omega)]
  frame_out
  refine (pay3 (bA m c t) (bB m c t) _ p q).trans ?_
  dsimp only at hb
  rw [stretch m c t p q, kept, hb, h]
  refine Eq.trans ?_ (part_add _ _ _ _ 0 2048 2048)
  rw [show (t.val - 1) / 2 = t.val / 2 by omega]

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2]
  refine (written m c t ((flush0_2 t).mp hf) p q).trans ?_
  unfold res lhs rhs
  blk_simp [e0, e1]

end Kernel

section Reference

open Cert.RefGluDwIdeal Cert.RefGluDwIdeal.Read

theorem ref (a : FVec Ideal ⟨2, ![4096, 1024]⟩ .bf16) (b : FVec Ideal ⟨2, ![4096, 1024]⟩ .bf16) : val_main_v7 (F := Ideal) a b = res a b := by
  funext y
  obtain ⟨p, q, rfl⟩ : ∃ (p : Fin 1024) (q : Fin 1024), y = ix2 p q := ⟨y 0, y 1, eq_ix2 y⟩
  pointwise [val_main_cst, val_main_v0, val_main_v1, val_main_v2, val_main_v3, val_main_v4, val_main_v5, val_main_v6, val_main_v7]
  exact prod_of_swapped (flip (mat a)) (mat b) 4096 p.val q.val _ _ (fun k => mat_eq a k p) (fun k => mat_eq b k q)

end Reference

/-- The reference runs, keeps its arguments and leaves every counter at zero. -/
theorem frame_ri : Cert.quiescent_RefGluDwIdeal := fun m ρ _ =>
  (θ_run Cert.RefGluDwIdeal.defs _ _).mono (fun r h => ⟨fun c => (h c).2, sem_eq_zero_of_no_sems (by decide) r.2⟩)
    (Cert.RefGluDwIdeal.Value.run (F := Ideal) m ρ)

theorem algebraic : Cert.algebraic_GluDwIdeal_RefGluDwIdeal := by
  intro m g m' g' _ hagree
  refine ⟨fun c => res (m ((c.tc : Thread Cert.GluDwIdeal.nD Cert.GluDwIdeal.τ).loc Cert.GluDwIdeal.main_arg0))
    (m ((c.tc : Thread Cert.GluDwIdeal.nD Cert.GluDwIdeal.τ).loc Cert.GluDwIdeal.main_arg1)), ?_, ?_⟩
  · exact (θ_run Cert.GluDwIdeal.defs _ _).mono (fun _ h c => ⟨(h c).1.trans (final m c), (h c).2⟩) (Cert.GluDwIdeal.Value.run_blocks (F := Ideal) m g)
  · refine (θ_run Cert.RefGluDwIdeal.defs _ _).mono (fun _ h c => ⟨?_, (h c).2⟩) (Cert.RefGluDwIdeal.Value.run (F := Ideal) m' g')
    obtain ⟨h0, h1⟩ := hagree c
    exact (h c).1.trans ((Cert.RefGluDwIdeal.Read.val_main_v7_eq _ _).trans ((ref _ _).trans (congrArg₂ res h0 h1)))

end Cert.Dense.GluDw
-- ==== Proof.InDx.lean ====
/- The input gradient of the mixer's input projection: every block is one product, and together they are the whole product. -/
module

public import proofs.«01_k».proof.Defs
public import proofs.«01_k».proof.Proof.Dense
public import proofs.«01_k».proof.Proof.Gen.InDxIdeal.Frame
public import proofs.«01_k».proof.Proof.Gen.InDxIdeal.Value
public import proofs.«01_k».proof.Proof.Gen.RefInDxIdeal.Run
public import proofs.«01_k».proof.Proof.Gen.RefInDxIdeal.Read
public import Idealize.ShloMosaic.Lib.Pipeline.ValueKit
public import Idealize.ShloMosaic.Lib.Pointwise
public import Idealize.ShloMosaic.Adequacy

@[expose] public section

noncomputable section

namespace Cert.Dense.InDx

open Idealize.ShloMosaic Idealize.ShloMosaic.TcCoe Idealize.SL.Sem

set_option maxRecDepth 16384

/-- The result: the product of the two arguments, each read as it is contracted. -/
def res (a : FVec Ideal ⟨2, ![4096, 2304]⟩ .bf16) (b : FVec Ideal ⟨2, ![2048, 2304]⟩ .bf16) : FVec Ideal ⟨2, ![4096, 2048]⟩ .f32 :=
  fun y => prod (mat a) (flip (mat b)) 2304 (y 0).val (y 1).val

section Kernel

open Cert.InDxIdeal Cert.InDxIdeal.Gen

section Body

variable (x0 : Vec Ideal S1024x2304 .bf16) (x1 : Vec Ideal S1024x2304 .bf16)

/-- The body's product at an index. -/
theorem pay1 (p : Fin 1024) (q : Fin 1024) : k0_pay1 x0 x1 (ix2 p q) = ∑ k : Fin 2304, x0 (ix2 p k) * x1 (ix2 q k) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := flip (mat (m ((c : Thread nD τ).loc main_arg1)))

/-- The first operand's block at a point. -/
def bA (t : Fin cfg0.N) : Vec Ideal S1024x2304 .bf16 := iblk m c 0 t
/-- The second operand's. -/
def bB (t : Fin cfg0.N) : Vec Ideal S1024x2304 .bf16 := iblk m c 1 t

/-- The first operand's block at an index. -/
theorem blkA (t : Fin cfg0.N) (p : Fin 1024) (k : Fin 2304) :
    bA m c t (ix2 p k) = lhs m c (t.val / 2 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 2 * 1024 + p, by omega⟩ ⟨0 + k, by omega⟩)
  blk_ext [bA, iblk, V_main_arg0, e0, e1]

/-- The second operand's block at an index. -/
theorem blkB (t : Fin cfg0.N) (q : Fin 1024) (k : Fin 2304) :
    bB m c t (ix2 q k) = rhs m c (0 + k) (t.val % 2 * 1024 + q) := by
  have ht := lt_of_lt_of_eq t.isLt N_0
  obtain ⟨-, ⟨e0, e1⟩, -⟩ := idx t
  refine Eq.trans ?_ (mat_eq (m ((c : Thread nD τ).loc main_arg1)) ⟨t.val % 2 * 1024 + q, by omega⟩ ⟨0 + k, by omega⟩)
  blk_ext [bB, iblk, V_main_arg1, e0, e1]

/-- The stretch of products a point works on. -/
theorem stretch (t : Fin cfg0.N) (p : Fin 1024) (q : Fin 1024) :
    (∑ k : Fin 2304, bA m c t (ix2 p k) * bB m c t (ix2 q k))
      = part (lhs m c) (rhs m c) (t.val / 2 * 1024 + p) (t.val % 2 * 1024 + q) (0) 2304 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefInDxIdeal Cert.RefInDxIdeal.Read

theorem ref (a : FVec Ideal ⟨2, ![4096, 2304]⟩ .bf16) (b : FVec Ideal ⟨2, ![2048, 2304]⟩ .bf16) : val_main_v6 (F := Ideal) a b = res a b := by
  funext y
  obtain ⟨p, q, rfl⟩ : ∃ (p : Fin 4096) (q : Fin 2048), y = ix2 p q := ⟨y 0, y 1, eq_ix2 y⟩
  pointwise [val_main_cst, val_main_v0, val_main_v1, val_main_v2, val_main_v3, val_main_v4, val_main_v5, val_main_v6]
  exact prod_of (mat a) (flip (mat b)) 2304 p.val q.val _ _ (fun k => mat_eq a p k) (fun k => mat_eq b q k)

end Reference

/-- The reference runs, keeps its arguments and leaves every counter at zero. -/
theorem frame_ri : Cert.quiescent_RefInDxIdeal := fun m ρ _ =>
  (θ_run Cert.RefInDxIdeal.defs _ _).mono (fun r h => ⟨fun c => (h c).2, sem_eq_zero_of_no_sems (by decide) r.2⟩)
    (Cert.RefInDxIdeal.Value.run (F := Ideal) m ρ)

theorem algebraic : Cert.algebraic_InDxIdeal_RefInDxIdeal := by
  intro m g m' g' _ hagree
  refine ⟨fun c => res (m ((c.tc : Thread Cert.InDxIdeal.nD Cert.InDxIdeal.τ).loc Cert.InDxIdeal.main_arg0))
    (m ((c.tc : Thread Cert.InDxIdeal.nD Cert.InDxIdeal.τ).loc Cert.InDxIdeal.main_arg1)), ?_, ?_⟩
  · exact (θ_run Cert.InDxIdeal.defs _ _).mono (fun _ h c => ⟨(h c).1.trans (final m c), (h c).2⟩) (Cert.InDxIdeal.Value.run_blocks (F := Ideal) m g)
  · refine (θ_run Cert.RefInDxIdeal.defs _ _).mono (fun _ h c => ⟨?_, (h c).2⟩) (Cert.RefInDxIdeal.Value.run (F := Ideal) m' g')
    obtain ⟨h0, h1⟩ := hagree c
    exact (h c).1.trans ((Cert.RefInDxIdeal.Read.val_main_v6_eq _ _).trans ((ref _ _).trans (congrArg₂ res h0 h1)))

end Cert.Dense.InDx
-- ==== Proof.InDw.lean ====
/- The weight gradient of the mixer's input projection: every block is summed over 2 stretches of the contracted axis, and together they are the whole product. -/
module

public import proofs.«01_k».proof.Defs
public import proofs.«01_k».proof.Proof.Dense
public import proofs.«01_k».proof.Proof.Gen.InDwIdeal.Frame
public import proofs.«01_k».proof.Proof.Gen.InDwIdeal.Value
public import proofs.«01_k».proof.Proof.Gen.RefInDwIdeal.Run
public import proofs.«01_k».proof.Proof.Gen.RefInDwIdeal.Read
public import Idealize.ShloMosaic.Lib.Pipeline.ValueKit
public import Idealize.ShloMosaic.Lib.Pointwise
public import Idealize.ShloMosaic.Adequacy

@[expose] public section

noncomputable section

namespace Cert.Dense.InDw

open Idealize.ShloMosaic Idealize.ShloMosaic.TcCoe Idealize.SL.Sem

set_option maxRecDepth 16384

/-- The result: the product of the two arguments, each read as it is contracted. -/
def res (a : FVec Ideal ⟨2, ![4096, 2048]⟩ .bf16) (b : FVec Ideal ⟨2, ![4096, 2304]⟩ .bf16) : FVec Ideal ⟨2, ![2048, 2304]⟩ .f32 :=
  fun y => prod (flip (mat a)) (mat b) 4096 (y 0).val (y 1).val

section Kernel

open Cert.InDwIdeal Cert.InDwIdeal.Gen

section Body

variable (x0 : Vec Ideal S2048x1024 .bf16) (x1 : Vec Ideal S2048x768 .bf16)

/-- The first stretch's product at an index. -/
theorem pay1 (p : Fin 1024) (q : Fin 768) : k0_pay1 x0 x1 (ix2 p q) = ∑ k : Fin 2048, x0 (ix2 k p) * x1 (ix2 k q) := by
  pointwise [k0_pay1]

/-- The last stretch, added to what is there. -/
theorem pay3 (s : Vec Ideal S1024x768 .f32) (p : Fin 1024) (q : Fin 768) :
    k0_pay3 s x0 x1 (ix2 p q) = s (ix2 p q) + ∑ k : Fin 2048, x0 (ix2 k p) * x1 (ix2 k q) := by
  pointwise [k0_pay3]

end Body

/-- Where the windows' blocks lie. -/
theorem idx : ∀ t : Fin cfg0.N, (win0_0.index t 0 = t.val % 2 ∧ win0_0.index t 1 = t.val / 6) ∧ (win0_1.index t 0 = t.val % 2 ∧ win0_1.index t 1 = t.val / 2 % 3)
    ∧ (win0_2.index t 0 = t.val / 6 ∧ win0_2.index t 1 = t.val / 2 % 3) :=
  (by decide +kernel : ∀ t : Fin grid0.N, _)

variable (m : (ℓ : Loc nD τ sig) → Buf (Elt Ideal) ℓ) (c : Dev nD)

/-- The first operand, as it is contracted. -/
def lhs : ℕ → ℕ → EReal := flip (mat (m ((c : Thread nD τ).loc main_arg0)))
/-- The second operand, as it is contracted. -/
def rhs : ℕ → ℕ → EReal := mat (m ((c : Thread nD τ).loc main_arg1))

/-- The first operand's block at a point. -/
def bA (t : Fin cfg0.N) : Vec Ideal S2048x1024 .bf16 := iblk m c 0 t
/-- The second operand's. -/
def bB (t : Fin cfg0.N) : Vec Ideal S2048x768 .bf16 := iblk m c 1 t

/-- The first operand's block at an index. -/
theorem blkA (t : Fin cfg0.N) (p : Fin 1024) (k : Fin 2048) :
    bA m c t (ix2 k p) = lhs m c (t.val / 6 * 1024 + p) (t.val % 2 * 2048 + k) := by
  have ht := lt_of_lt_of_eq t.isLt N_0
  obtain ⟨⟨e0, e1⟩, -⟩ := idx t
  refine Eq.trans ?_ (mat_eq (m ((c : Thread nD τ).loc main_arg0)) ⟨t.val % 2 * 2048 + k, by omega⟩ ⟨t.val / 6 * 1024 + p, by omega⟩)
  blk_ext [bA, iblk, V_main_arg0, e0, e1]

/-- The second operand's block at an index. -/
theorem blkB (t : Fin cfg0.N) (q : Fin 768) (k : Fin 2048) :
    bB m c t (ix2 k q) = rhs m c (t.val % 2 * 2048 + k) (t.val / 2 % 3 * 768 + q) := by
  have ht := lt_of_lt_of_eq t.isLt N_0
  obtain ⟨-, ⟨e0, e1⟩, -⟩ := idx t
  refine Eq.trans ?_ (mat_eq (m ((c : Thread nD τ).loc main_arg1)) ⟨t.val % 2 * 2048 + k, by omega⟩ ⟨t.val / 2 % 3 * 768 + q, by omega⟩)
  blk_ext [bB, iblk, V_main_arg1, e0, e1]

/-- The stretch of products a point works on. -/
theorem stretch (t : Fin cfg0.N) (p : Fin 1024) (q : Fin 768) :
    (∑ k : Fin 2048, bA m c t (ix2 k p) * bB m c t (ix2 k q))
      = part (lhs m c) (rhs m c) (t.val / 6 * 1024 + p) (t.val / 2 % 3 * 768 + q) (t.val % 2 * 2048) 2048 :=
  part_of _ _ _ _ _ _ _ _ (fun k => blkA m c t p k) (fun k => blkB m c t q k)

/-- What is kept, read where the next point finds it. -/
theorem kept (s : Vec Ideal S1024x768 .f32) :
    View.read (Elt Ideal) (View.whole cc0_scratch0) ((Memref.isWhole_whole cc0_scratch0).unread s) = s :=
  (Memref.isWhole_whole cc0_scratch0).read_unread s

/-- What the first of a block's points keeps. -/
theorem kept0 (t : Fin cfg0.N) (h : t.val % 2 = 0) (p : Fin 1024) (q : Fin 768) :
    (outsAt0 m c t.val t.isLt).2 (ix2 p q) = part (lhs m c) (rhs m c) (t.val / 6 * 1024 + p) (t.val / 2 % 3 * 768 + q) 0 2048 := by
  rw [outsAt0_A m c t (by omega) (by omega)]
  frame_out
  refine (pay1 (bA m c t) (bB m c t) p q).trans ((stretch m c t p q).trans ?_)
  rw [h, Nat.zero_mul]

/-- What the last of a block's points writes. -/
theorem written (t : Fin cfg0.N) (h : t.val % 2 = 1) (p : Fin 1024) (q : Fin 768) :
    (outsAt0 m c t.val t.isLt).1 (ix2 p q) = prod (lhs m c) (rhs m c) 4096 (t.val / 6 * 1024 + p) (t.val / 2 % 3 * 768 + q) := by
  have hb := kept0 m c ⟨t.val - 1, Nat.lt_of_le_of_lt (Nat.sub_le _ _) t.isLt⟩ (show (t.val - 1) % 2 = 0 by omega) p q
  rw [outsAt0_B m c t (by omega) (by omega)]
  frame_out
  refine (pay3 (bA m c t) (bB m c t) _ p q).trans ?_
  dsimp only at hb
  rw [stretch m c t p q, kept, hb, h]
  refine Eq.trans ?_ (part_add _ _ _ _ 0 2048 2048)
  rw [show (t.val - 1) / 6 = t.val / 6 by omega, show (t.val - 1) / 2 = t.val / 2 by omega]

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 768), y = ix2 p q := ⟨y 0, y 1, eq_ix2 y⟩
  rw [after0_2]
  refine (written m c t ((flush0_2 t).mp hf) p q).trans ?_
  unfold res lhs rhs
  blk_simp [e0, e1]

end Kernel

section Reference

open Cert.RefInDwIdeal Cert.RefInDwIdeal.Read

theorem ref (a : FVec Ideal ⟨2, ![4096, 2048]⟩ .bf16) (b : FVec Ideal ⟨2, ![4096, 2304]⟩ .bf16) : val_main_v5 (F := Ideal) a b = res a b := by
  funext y
  obtain ⟨p, q, rfl⟩ : ∃ (p : Fin 2048) (q : Fin 2304), y = ix2 p q := ⟨y 0, y 1, eq_ix2 y⟩
  pointwise [val_main_cst, val_main_v0, val_main_v1, val_main_v2, val_main_v3, val_main_v4, val_main_v5, val_main_v6]
  exact prod_of_swapped (flip (mat a)) (mat b) 4096 p.val q.val _ _ (fun k => mat_eq a k p) (fun k => mat_eq b k q)

end Reference

/-- The reference runs, keeps its arguments and leaves every counter at zero. -/
theorem frame_ri : Cert.quiescent_RefInDwIdeal := fun m ρ _ =>
  (θ_run Cert.RefInDwIdeal.defs _ _).mono (fun r h => ⟨fun c => (h c).2, sem_eq_zero_of_no_sems (by decide) r.2⟩)
    (Cert.RefInDwIdeal.Value.run (F := Ideal) m ρ)

theorem algebraic : Cert.algebraic_InDwIdeal_RefInDwIdeal := by
  intro m g m' g' _ hagree
  refine ⟨fun c => res (m ((c.tc : Thread Cert.InDwIdeal.nD Cert.InDwIdeal.τ).loc Cert.InDwIdeal.main_arg0))
    (m ((c.tc : Thread Cert.InDwIdeal.nD Cert.InDwIdeal.τ).loc Cert.InDwIdeal.main_arg1)), ?_, ?_⟩
  · exact (θ_run Cert.InDwIdeal.defs _ _).mono (fun _ h c => ⟨(h c).1.trans (final m c), (h c).2⟩) (Cert.InDwIdeal.Value.run_blocks (F := Ideal) m g)
  · refine (θ_run Cert.RefInDwIdeal.defs _ _).mono (fun _ h c => ⟨?_, (h c).2⟩) (Cert.RefInDwIdeal.Value.run (F := Ideal) m' g')
    obtain ⟨h0, h1⟩ := hagree c
    exact (h c).1.trans ((Cert.RefInDwIdeal.Read.val_main_v5_eq _ _).trans ((ref _ _).trans (congrArg₂ res h0 h1)))

end Cert.Dense.InDw
-- ==== Proof.InFwd.lean ====
/- The mixer's input projection: every block is one product, and together they are the whole product. -/
module

public import proofs.«01_k».proof.Defs
public import proofs.«01_k».proof.Proof.Dense
public import proofs.«01_k».proof.Proof.Gen.InFwdIdeal.Frame
public import proofs.«01_k».proof.Proof.Gen.InFwdIdeal.Value
public import proofs.«01_k».proof.Proof.Gen.RefInFwdIdeal.Run
public import proofs.«01_k».proof.Proof.Gen.RefInFwdIdeal.Read
public import Idealize.ShloMosaic.Lib.Pipeline.ValueKit
public import Idealize.ShloMosaic.Lib.Pointwise
public import Idealize.ShloMosaic.Adequacy

@[expose] public section

noncomputable section

namespace Cert.Dense.InFwd

open Idealize.ShloMosaic Idealize.ShloMosaic.TcCoe Idealize.SL.Sem

set_option maxRecDepth 16384

/-- The result: the product of the two arguments. -/
def res (a : FVec Ideal ⟨2, ![4096, 2048]⟩ .bf16) (b : FVec Ideal ⟨2, ![2048, 2304]⟩ .bf16) : FVec Ideal ⟨2, ![4096, 2304]⟩ .f32 :=
  fun y => prod (mat a) (mat b) 2048 (y 0).val (y 1).val

section Kernel

open Cert.InFwdIdeal Cert.InFwdIdeal.Gen

section Body

variable (x0 : Vec Ideal S1024x2048 .bf16) (x1 : Vec Ideal S2048x768 .bf16)

/-- The body's product at an index. -/
theorem pay1 (p : Fin 1024) (q : Fin 768) : k0_pay1 x0 x1 (ix2 p q) = ∑ k : Fin 2048, x0 (ix2 p k) * x1 (ix2 k q) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 3 ∧ win0_0.index t 1 = 0) ∧ (win0_1.index t 0 = 0 ∧ win0_1.index t 1 = t.val % 3)
    ∧ (win0_2.index t 0 = t.val / 3 ∧ win0_2.index t 1 = t.val % 3) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := mat (m ((c : Thread nD τ).loc main_arg1))

/-- The first operand's block at a point. -/
def bA (t : Fin cfg0.N) : Vec Ideal S1024x2048 .bf16 := iblk m c 0 t
/-- The second operand's. -/
def bB (t : Fin cfg0.N) : Vec Ideal S2048x768 .bf16 := iblk m c 1 t

/-- The first operand's block at an index. -/
theorem blkA (t : Fin cfg0.N) (p : Fin 1024) (k : Fin 2048) :
    bA m c t (ix2 p k) = lhs m c (t.val / 3 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 3 * 1024 + p, by omega⟩ ⟨0 + k, by omega⟩)
  blk_ext [bA, iblk, V_main_arg0, e0, e1]

/-- The second operand's block at an index. -/
theorem blkB (t : Fin cfg0.N) (q : Fin 768) (k : Fin 2048) :
    bB m c t (ix2 k q) = rhs m c (0 + k) (t.val % 3 * 768 + q) := by
  have ht := lt_of_lt_of_eq t.isLt N_0
  obtain ⟨-, ⟨e0, e1⟩, -⟩ := idx t
  refine Eq.trans ?_ (mat_eq (m ((c : Thread nD τ).loc main_arg1)) ⟨0 + k, by omega⟩ ⟨t.val % 3 * 768 + q, by omega⟩)
  blk_ext [bB, iblk, V_main_arg1, e0, e1]

/-- The stretch of products a point works on. -/
theorem stretch (t : Fin cfg0.N) (p : Fin 1024) (q : Fin 768) :
    (∑ k : Fin 2048, bA m c t (ix2 p k) * bB m c t (ix2 k q))
      = part (lhs m c) (rhs m c) (t.val / 3 * 1024 + p) (t.val % 3 * 768 + q) (0) 2048 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 768), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefInFwdIdeal Cert.RefInFwdIdeal.Read

theorem ref (a : FVec Ideal ⟨2, ![4096, 2048]⟩ .bf16) (b : FVec Ideal ⟨2, ![2048, 2304]⟩ .bf16) : val_main_v2 (F := Ideal) a b = res a b := by
  funext y
  obtain ⟨p, q, rfl⟩ : ∃ (p : Fin 4096) (q : Fin 2304), y = ix2 p q := ⟨y 0, y 1, eq_ix2 y⟩
  pointwise [val_main_v0, val_main_v1, val_main_v2]
  exact prod_of (mat a) (mat b) 2048 p.val q.val _ _ (fun k => mat_eq a p k) (fun k => mat_eq b k q)

end Reference

/-- The reference runs, keeps its arguments and leaves every counter at zero. -/
theorem frame_ri : Cert.quiescent_RefInFwdIdeal := fun m ρ _ =>
  (θ_run Cert.RefInFwdIdeal.defs _ _).mono (fun r h => ⟨fun c => (h c).2, sem_eq_zero_of_no_sems (by decide) r.2⟩)
    (Cert.RefInFwdIdeal.Value.run (F := Ideal) m ρ)

theorem algebraic : Cert.algebraic_InFwdIdeal_RefInFwdIdeal := by
  intro m g m' g' _ hagree
  refine ⟨fun c => res (m ((c.tc : Thread Cert.InFwdIdeal.nD Cert.InFwdIdeal.τ).loc Cert.InFwdIdeal.main_arg0))
    (m ((c.tc : Thread Cert.InFwdIdeal.nD Cert.InFwdIdeal.τ).loc Cert.InFwdIdeal.main_arg1)), ?_, ?_⟩
  · exact (θ_run Cert.InFwdIdeal.defs _ _).mono (fun _ h c => ⟨(h c).1.trans (final m c), (h c).2⟩) (Cert.InFwdIdeal.Value.run_blocks (F := Ideal) m g)
  · refine (θ_run Cert.RefInFwdIdeal.defs _ _).mono (fun _ h c => ⟨?_, (h c).2⟩) (Cert.RefInFwdIdeal.Value.run (F := Ideal) m' g')
    obtain ⟨h0, h1⟩ := hagree c
    exact (h c).1.trans ((Cert.RefInFwdIdeal.Read.val_main_v2_eq _ _).trans ((ref _ _).trans (congrArg₂ res h0 h1)))

end Cert.Dense.InFwd
-- ==== Proof.GluFwd.lean ====
/- The state-space gate's projection: every block is one product, and together they are the whole product. -/
module

public import proofs.«01_k».proof.Defs
public import proofs.«01_k».proof.Proof.Dense
public import proofs.«01_k».proof.Proof.Gen.GluFwdIdeal.Frame
public import proofs.«01_k».proof.Proof.Gen.GluFwdIdeal.Value
public import proofs.«01_k».proof.Proof.Gen.RefGluFwdIdeal.Run
public import proofs.«01_k».proof.Proof.Gen.RefGluFwdIdeal.Read
public import Idealize.ShloMosaic.Lib.Pipeline.ValueKit
public import Idealize.ShloMosaic.Lib.Pointwise
public import Idealize.ShloMosaic.Adequacy

@[expose] public section

noncomputable section

namespace Cert.Dense.GluFwd

open Idealize.ShloMosaic Idealize.ShloMosaic.TcCoe Idealize.SL.Sem

set_option maxRecDepth 16384

/-- The result: the product of the two arguments. -/
def res (a : FVec Ideal ⟨2, ![4096, 1024]⟩ .bf16) (b : FVec Ideal ⟨2, ![1024, 1024]⟩ .bf16) : FVec Ideal ⟨2, ![4096, 1024]⟩ .f32 :=
  fun y => prod (mat a) (mat b) 1024 (y 0).val (y 1).val

section Kernel

open Cert.GluFwdIdeal Cert.GluFwdIdeal.Gen

section Body

variable (x0 : Vec Ideal S1024x1024 .bf16) (x1 : Vec Ideal S1024x1024 .bf16)

/-- The body's product at an index. -/
theorem pay1 (p : Fin 1024) (q : Fin 1024) : k0_pay1 x0 x1 (ix2 p q) = ∑ k : Fin 1024, x0 (ix2 p k) * x1 (ix2 k q) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 1 ∧ win0_0.index t 1 = 0) ∧ (win0_1.index t 0 = 0 ∧ win0_1.index t 1 = t.val % 1)
    ∧ (win0_2.index t 0 = t.val / 1 ∧ win0_2.index t 1 = t.val % 1) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := mat (m ((c : Thread nD τ).loc main_arg1))

/-- The first operand's block at a point. -/
def bA (t : Fin cfg0.N) : Vec Ideal S1024x1024 .bf16 := iblk m c 0 t
/-- The second operand's. -/
def bB (t : Fin cfg0.N) : Vec Ideal S1024x1024 .bf16 := iblk m c 1 t

/-- The first operand's block at an index. -/
theorem blkA (t : Fin cfg0.N) (p : Fin 1024) (k : Fin 1024) :
    bA m c t (ix2 p k) = lhs m c (t.val / 1 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 1 * 1024 + p, by omega⟩ ⟨0 + k, by omega⟩)
  blk_ext [bA, iblk, V_main_arg0, e0, e1]

/-- The second operand's block at an index. -/
theorem blkB (t : Fin cfg0.N) (q : Fin 1024) (k : Fin 1024) :
    bB m c t (ix2 k q) = rhs m c (0 + k) (t.val % 1 * 1024 + q) := by
  have ht := lt_of_lt_of_eq t.isLt N_0
  obtain ⟨-, ⟨e0, e1⟩, -⟩ := idx t
  refine Eq.trans ?_ (mat_eq (m ((c : Thread nD τ).loc main_arg1)) ⟨0 + k, by omega⟩ ⟨t.val % 1 * 1024 + q, by omega⟩)
  blk_ext [bB, iblk, V_main_arg1, e0, e1]

/-- The stretch of products a point works on. -/
theorem stretch (t : Fin cfg0.N) (p : Fin 1024) (q : Fin 1024) :
    (∑ k : Fin 1024, bA m c t (ix2 p k) * bB m c t (ix2 k q))
      = part (lhs m c) (rhs m c) (t.val / 1 * 1024 + p) (t.val % 1 * 1024 + q) (0) 1024 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefGluFwdIdeal Cert.RefGluFwdIdeal.Read

theorem ref (a : FVec Ideal ⟨2, ![4096, 1024]⟩ .bf16) (b : FVec Ideal ⟨2, ![1024, 1024]⟩ .bf16) : val_main_v2 (F := Ideal) a b = res a b := by
  funext y
  obtain ⟨p, q, rfl⟩ : ∃ (p : Fin 4096) (q : Fin 1024), y = ix2 p q := ⟨y 0, y 1, eq_ix2 y⟩
  pointwise [val_main_v0, val_main_v1, val_main_v2]
  exact prod_of (mat a) (mat b) 1024 p.val q.val _ _ (fun k => mat_eq a p k) (fun k => mat_eq b k q)

end Reference

/-- The reference runs, keeps its arguments and leaves every counter at zero. -/
theorem frame_ri : Cert.quiescent_RefGluFwdIdeal := fun m ρ _ =>
  (θ_run Cert.RefGluFwdIdeal.defs _ _).mono (fun r h => ⟨fun c => (h c).2, sem_eq_zero_of_no_sems (by decide) r.2⟩)
    (Cert.RefGluFwdIdeal.Value.run (F := Ideal) m ρ)

theorem algebraic : Cert.algebraic_GluFwdIdeal_RefGluFwdIdeal := by
  intro m g m' g' _ hagree
  refine ⟨fun c => res (m ((c.tc : Thread Cert.GluFwdIdeal.nD Cert.GluFwdIdeal.τ).loc Cert.GluFwdIdeal.main_arg0))
    (m ((c.tc : Thread Cert.GluFwdIdeal.nD Cert.GluFwdIdeal.τ).loc Cert.GluFwdIdeal.main_arg1)), ?_, ?_⟩
  · exact (θ_run Cert.GluFwdIdeal.defs _ _).mono (fun _ h c => ⟨(h c).1.trans (final m c), (h c).2⟩) (Cert.GluFwdIdeal.Value.run_blocks (F := Ideal) m g)
  · refine (θ_run Cert.RefGluFwdIdeal.defs _ _).mono (fun _ h c => ⟨?_, (h c).2⟩) (Cert.RefGluFwdIdeal.Value.run (F := Ideal) m' g')
    obtain ⟨h0, h1⟩ := hagree c
    exact (h c).1.trans ((Cert.RefGluFwdIdeal.Read.val_main_v2_eq _ _).trans ((ref _ _).trans (congrArg₂ res h0 h1)))

end Cert.Dense.GluFwd
-- ==== Proof.OutFwd.lean ====
/- The mixer's output projection: every block is one product, and together they are the whole product. -/
module

public import proofs.«01_k».proof.Defs
public import proofs.«01_k».proof.Proof.Dense
public import proofs.«01_k».proof.Proof.Gen.OutFwdIdeal.Frame
public import proofs.«01_k».proof.Proof.Gen.OutFwdIdeal.Value
public import proofs.«01_k».proof.Proof.Gen.RefOutFwdIdeal.Run
public import proofs.«01_k».proof.Proof.Gen.RefOutFwdIdeal.Read
public import Idealize.ShloMosaic.Lib.Pipeline.ValueKit
public import Idealize.ShloMosaic.Lib.Pointwise
public import Idealize.ShloMosaic.Adequacy

@[expose] public section

noncomputable section

namespace Cert.Dense.OutFwd

open Idealize.ShloMosaic Idealize.ShloMosaic.TcCoe Idealize.SL.Sem

set_option maxRecDepth 16384

/-- The result: the product of the two arguments. -/
def res (a : FVec Ideal ⟨2, ![4096, 2048]⟩ .bf16) (b : FVec Ideal ⟨2, ![2048, 2048]⟩ .bf16) : FVec Ideal ⟨2, ![4096, 2048]⟩ .f32 :=
  fun y => prod (mat a) (mat b) 2048 (y 0).val (y 1).val

section Kernel

open Cert.OutFwdIdeal Cert.OutFwdIdeal.Gen

section Body

variable (x0 : Vec Ideal S1024x2048 .bf16) (x1 : Vec Ideal S2048x1024 .bf16)

/-- The body's product at an index. -/
theorem pay1 (p : Fin 1024) (q : Fin 1024) : k0_pay1 x0 x1 (ix2 p q) = ∑ k : Fin 2048, x0 (ix2 p k) * x1 (ix2 k q) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := mat (m ((c : Thread nD τ).loc main_arg1))

/-- The first operand's block at a point. -/
def bA (t : Fin cfg0.N) : Vec Ideal S1024x2048 .bf16 := iblk m c 0 t
/-- The second operand's. -/
def bB (t : Fin cfg0.N) : Vec Ideal S2048x1024 .bf16 := iblk m c 1 t

/-- The first operand's block at an index. -/
theorem blkA (t : Fin cfg0.N) (p : Fin 1024) (k : Fin 2048) :
    bA m c t (ix2 p k) = lhs m c (t.val / 2 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 2 * 1024 + p, by omega⟩ ⟨0 + k, by omega⟩)
  blk_ext [bA, iblk, V_main_arg0, e0, e1]

/-- The second operand's block at an index. -/
theorem blkB (t : Fin cfg0.N) (q : Fin 1024) (k : Fin 2048) :
    bB m c t (ix2 k q) = rhs m c (0 + k) (t.val % 2 * 1024 + q) := by
  have ht := lt_of_lt_of_eq t.isLt N_0
  obtain ⟨-, ⟨e0, e1⟩, -⟩ := idx t
  refine Eq.trans ?_ (mat_eq (m ((c : Thread nD τ).loc main_arg1)) ⟨0 + k, by omega⟩ ⟨t.val % 2 * 1024 + q, by omega⟩)
  blk_ext [bB, iblk, V_main_arg1, e0, e1]

/-- The stretch of products a point works on. -/
theorem stretch (t : Fin cfg0.N) (p : Fin 1024) (q : Fin 1024) :
    (∑ k : Fin 2048, bA m c t (ix2 p k) * bB m c t (ix2 k q))
      = part (lhs m c) (rhs m c) (t.val / 2 * 1024 + p) (t.val % 2 * 1024 + q) (0) 2048 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefOutFwdIdeal Cert.RefOutFwdIdeal.Read

theorem ref (a : FVec Ideal ⟨2, ![4096, 2048]⟩ .bf16) (b : FVec Ideal ⟨2, ![2048, 2048]⟩ .bf16) : val_main_v2 (F := Ideal) a b = res a b := by
  funext y
  obtain ⟨p, q, rfl⟩ : ∃ (p : Fin 4096) (q : Fin 2048), y = ix2 p q := ⟨y 0, y 1, eq_ix2 y⟩
  pointwise [val_main_v0, val_main_v1, val_main_v2]
  exact prod_of (mat a) (mat b) 2048 p.val q.val _ _ (fun k => mat_eq a p k) (fun k => mat_eq b k q)

end Reference

/-- The reference runs, keeps its arguments and leaves every counter at zero. -/
theorem frame_ri : Cert.quiescent_RefOutFwdIdeal := fun m ρ _ =>
  (θ_run Cert.RefOutFwdIdeal.defs _ _).mono (fun r h => ⟨fun c => (h c).2, sem_eq_zero_of_no_sems (by decide) r.2⟩)
    (Cert.RefOutFwdIdeal.Value.run (F := Ideal) m ρ)

theorem algebraic : Cert.algebraic_OutFwdIdeal_RefOutFwdIdeal := by
  intro m g m' g' _ hagree
  refine ⟨fun c => res (m ((c.tc : Thread Cert.OutFwdIdeal.nD Cert.OutFwdIdeal.τ).loc Cert.OutFwdIdeal.main_arg0))
    (m ((c.tc : Thread Cert.OutFwdIdeal.nD Cert.OutFwdIdeal.τ).loc Cert.OutFwdIdeal.main_arg1)), ?_, ?_⟩
  · exact (θ_run Cert.OutFwdIdeal.defs _ _).mono (fun _ h c => ⟨(h c).1.trans (final m c), (h c).2⟩) (Cert.OutFwdIdeal.Value.run_blocks (F := Ideal) m g)
  · refine (θ_run Cert.RefOutFwdIdeal.defs _ _).mono (fun _ h c => ⟨?_, (h c).2⟩) (Cert.RefOutFwdIdeal.Value.run (F := Ideal) m' g')
    obtain ⟨h0, h1⟩ := hagree c
    exact (h c).1.trans ((Cert.RefOutFwdIdeal.Read.val_main_v2_eq _ _).trans ((ref _ _).trans (congrArg₂ res h0 h1)))

end Cert.Dense.OutFwd
-- ==== Proof.UpFwd.lean ====
/- The up projection: every block is one product, and together they are the whole product. -/
module

public import proofs.«01_k».proof.Defs
public import proofs.«01_k».proof.Proof.Dense
public import proofs.«01_k».proof.Proof.Gen.UpFwdIdeal.Frame
public import proofs.«01_k».proof.Proof.Gen.UpFwdIdeal.Value
public import proofs.«01_k».proof.Proof.Gen.RefUpFwdIdeal.Run
public import proofs.«01_k».proof.Proof.Gen.RefUpFwdIdeal.Read
public import Idealize.ShloMosaic.Lib.Pipeline.ValueKit
public import Idealize.ShloMosaic.Lib.Pointwise
public import Idealize.ShloMosaic.Adequacy

@[expose] public section

noncomputable section

namespace Cert.Dense.UpFwd

open Idealize.ShloMosaic Idealize.ShloMosaic.TcCoe Idealize.SL.Sem

set_option maxRecDepth 16384

/-- The result: the product of the two arguments. -/
def res (a : FVec Ideal ⟨2, ![4096, 2048]⟩ .bf16) (b : FVec Ideal ⟨2, ![2048, 11264]⟩ .bf16) : FVec Ideal ⟨2, ![4096, 11264]⟩ .f32 :=
  fun y => prod (mat a) (mat b) 2048 (y 0).val (y 1).val

section Kernel

open Cert.UpFwdIdeal Cert.UpFwdIdeal.Gen

section Body

variable (x0 : Vec Ideal S1024x2048 .bf16) (x1 : Vec Ideal S2048x1024 .bf16)

/-- The body's product at an index. -/
theorem pay1 (p : Fin 1024) (q : Fin 1024) : k0_pay1 x0 x1 (ix2 p q) = ∑ k : Fin 2048, x0 (ix2 p k) * x1 (ix2 k q) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val / 11 ∧ win0_0.index t 1 = 0) ∧ (win0_1.index t 0 = 0 ∧ win0_1.index t 1 = t.val % 11)
    ∧ (win0_2.index t 0 = t.val / 11 ∧ win0_2.index t 1 = t.val % 11) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := mat (m ((c : Thread nD τ).loc main_arg1))

/-- The first operand's block at a point. -/
def bA (t : Fin cfg0.N) : Vec Ideal S1024x2048 .bf16 := iblk m c 0 t
/-- The second operand's. -/
def bB (t : Fin cfg0.N) : Vec Ideal S2048x1024 .bf16 := iblk m c 1 t

/-- The first operand's block at an index. -/
theorem blkA (t : Fin cfg0.N) (p : Fin 1024) (k : Fin 2048) :
    bA m c t (ix2 p k) = lhs m c (t.val / 11 * 1024 + p) (0 + k) := by
  have ht := lt_of_lt_of_eq t.isLt N_0
  obtain ⟨⟨e0, e1⟩, -⟩ := idx t
  refine Eq.trans ?_ (mat_eq (m ((c : Thread nD τ).loc main_arg0)) ⟨t.val / 11 * 1024 + p, by omega⟩ ⟨0 + k, by omega⟩)
  blk_ext [bA, iblk, V_main_arg0, e0, e1]

/-- The second operand's block at an index. -/
theorem blkB (t : Fin cfg0.N) (q : Fin 1024) (k : Fin 2048) :
    bB m c t (ix2 k q) = rhs m c (0 + k) (t.val % 11 * 1024 + q) := by
  have ht := lt_of_lt_of_eq t.isLt N_0
  obtain ⟨-, ⟨e0, e1⟩, -⟩ := idx t
  refine Eq.trans ?_ (mat_eq (m ((c : Thread nD τ).loc main_arg1)) ⟨0 + k, by omega⟩ ⟨t.val % 11 * 1024 + q, by omega⟩)
  blk_ext [bB, iblk, V_main_arg1, e0, e1]

/-- The stretch of products a point works on. -/
theorem stretch (t : Fin cfg0.N) (p : Fin 1024) (q : Fin 1024) :
    (∑ k : Fin 2048, bA m c t (ix2 p k) * bB m c t (ix2 k q))
      = part (lhs m c) (rhs m c) (t.val / 11 * 1024 + p) (t.val % 11 * 1024 + q) (0) 2048 :=
  part_of _ _ _ _ _ _ _ _ (fun k => blkA m c t p k) (fun k => blkB m c t q k)

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2, leaves]
  refine ((pay1 (bA m c t) (bB m c t) p q).trans (stretch m c t p q)).trans ?_
  unfold res prod lhs rhs
  blk_simp [e0, e1]

end Kernel

section Reference

open Cert.RefUpFwdIdeal Cert.RefUpFwdIdeal.Read

theorem ref (a : FVec Ideal ⟨2, ![4096, 2048]⟩ .bf16) (b : FVec Ideal ⟨2, ![2048, 11264]⟩ .bf16) : val_main_v2 (F := Ideal) a b = res a b := by
  funext y
  obtain ⟨p, q, rfl⟩ : ∃ (p : Fin 4096) (q : Fin 11264), y = ix2 p q := ⟨y 0, y 1, eq_ix2 y⟩
  pointwise [val_main_v0, val_main_v1, val_main_v2]
  exact prod_of (mat a) (mat b) 2048 p.val q.val _ _ (fun k => mat_eq a p k) (fun k => mat_eq b k q)

end Reference

/-- The reference runs, keeps its arguments and leaves every counter at zero. -/
theorem frame_ri : Cert.quiescent_RefUpFwdIdeal := fun m ρ _ =>
  (θ_run Cert.RefUpFwdIdeal.defs _ _).mono (fun r h => ⟨fun c => (h c).2, sem_eq_zero_of_no_sems (by decide) r.2⟩)
    (Cert.RefUpFwdIdeal.Value.run (F := Ideal) m ρ)

theorem algebraic : Cert.algebraic_UpFwdIdeal_RefUpFwdIdeal := by
  intro m g m' g' _ hagree
  refine ⟨fun c => res (m ((c.tc : Thread Cert.UpFwdIdeal.nD Cert.UpFwdIdeal.τ).loc Cert.UpFwdIdeal.main_arg0))
    (m ((c.tc : Thread Cert.UpFwdIdeal.nD Cert.UpFwdIdeal.τ).loc Cert.UpFwdIdeal.main_arg1)), ?_, ?_⟩
  · exact (θ_run Cert.UpFwdIdeal.defs _ _).mono (fun _ h c => ⟨(h c).1.trans (final m c), (h c).2⟩) (Cert.UpFwdIdeal.Value.run_blocks (F := Ideal) m g)
  · refine (θ_run Cert.RefUpFwdIdeal.defs _ _).mono (fun _ h c => ⟨?_, (h c).2⟩) (Cert.RefUpFwdIdeal.Value.run (F := Ideal) m' g')
    obtain ⟨h0, h1⟩ := hagree c
    exact (h c).1.trans ((Cert.RefUpFwdIdeal.Read.val_main_v2_eq _ _).trans ((ref _ _).trans (congrArg₂ res h0 h1)))

end Cert.Dense.UpFwd
-- ==== Proof.DownFwd.lean ====
/- The down projection: every block is summed over 2 stretches of the contracted axis, and together they are the whole product. -/
module

public import proofs.«01_k».proof.Defs
public import proofs.«01_k».proof.Proof.Dense
public import proofs.«01_k».proof.Proof.Gen.DownFwdIdeal.Frame
public import proofs.«01_k».proof.Proof.Gen.DownFwdIdeal.Value
public import proofs.«01_k».proof.Proof.Gen.RefDownFwdIdeal.Run
public import proofs.«01_k».proof.Proof.Gen.RefDownFwdIdeal.Read
public import Idealize.ShloMosaic.Lib.Pipeline.ValueKit
public import Idealize.ShloMosaic.Lib.Pointwise
public import Idealize.ShloMosaic.Adequacy

@[expose] public section

noncomputable section

namespace Cert.Dense.DownFwd

open Idealize.ShloMosaic Idealize.ShloMosaic.TcCoe Idealize.SL.Sem

set_option maxRecDepth 16384

/-- The result: the product of the two arguments. -/
def res (a : FVec Ideal ⟨2, ![4096, 5632]⟩ .bf16) (b : FVec Ideal ⟨2, ![5632, 2048]⟩ .bf16) : FVec Ideal ⟨2, ![4096, 2048]⟩ .f32 :=
  fun y => prod (mat a) (mat b) 5632 (y 0).val (y 1).val

section Kernel

open Cert.DownFwdIdeal Cert.DownFwdIdeal.Gen

section Body

variable (x0 : Vec Ideal S1024x2816 .bf16) (x1 : Vec Ideal S2816x1024 .bf16)

/-- The first stretch's product at an index. -/
theorem pay1 (p : Fin 1024) (q : Fin 1024) : k0_pay1 x0 x1 (ix2 p q) = ∑ k : Fin 2816, x0 (ix2 p k) * x1 (ix2 k q) := by
  pointwise [k0_pay1]

/-- The last stretch, added to what is there. -/
theorem pay3 (s : Vec Ideal S1024x1024 .f32) (p : Fin 1024) (q : Fin 1024) :
    k0_pay3 s x0 x1 (ix2 p q) = s (ix2 p q) + ∑ k : Fin 2816, x0 (ix2 p k) * x1 (ix2 k q) := by
  pointwise [k0_pay3]

end Body

/-- Where the windows' blocks lie. -/
theorem idx : ∀ t : Fin cfg0.N, (win0_0.index t 0 = t.val / 4 ∧ win0_0.index t 1 = t.val % 2) ∧ (win0_1.index t 0 = t.val % 2 ∧ win0_1.index t 1 = t.val / 2 % 2)
    ∧ (win0_2.index t 0 = t.val / 4 ∧ win0_2.index t 1 = t.val / 2 % 2) :=
  (by decide +kernel : ∀ t : Fin grid0.N, _)

variable (m : (ℓ : Loc nD τ sig) → Buf (Elt Ideal) ℓ) (c : Dev nD)

/-- The first operand, as it is contracted. -/
def lhs : ℕ → ℕ → EReal := mat (m ((c : Thread nD τ).loc main_arg0))
/-- The second operand, as it is contracted. -/
def rhs : ℕ → ℕ → EReal := mat (m ((c : Thread nD τ).loc main_arg1))

/-- The first operand's block at a point. -/
def bA (t : Fin cfg0.N) : Vec Ideal S1024x2816 .bf16 := iblk m c 0 t
/-- The second operand's. -/
def bB (t : Fin cfg0.N) : Vec Ideal S2816x1024 .bf16 := iblk m c 1 t

/-- The first operand's block at an index. -/
theorem blkA (t : Fin cfg0.N) (p : Fin 1024) (k : Fin 2816) :
    bA m c t (ix2 p k) = lhs m c (t.val / 4 * 1024 + p) (t.val % 2 * 2816 + k) := by
  have ht := lt_of_lt_of_eq t.isLt N_0
  obtain ⟨⟨e0, e1⟩, -⟩ := idx t
  refine Eq.trans ?_ (mat_eq (m ((c : Thread nD τ).loc main_arg0)) ⟨t.val / 4 * 1024 + p, by omega⟩ ⟨t.val % 2 * 2816 + k, by omega⟩)
  blk_ext [bA, iblk, V_main_arg0, e0, e1]

/-- The second operand's block at an index. -/
theorem blkB (t : Fin cfg0.N) (q : Fin 1024) (k : Fin 2816) :
    bB m c t (ix2 k q) = rhs m c (t.val % 2 * 2816 + k) (t.val / 2 % 2 * 1024 + q) := by
  have ht := lt_of_lt_of_eq t.isLt N_0
  obtain ⟨-, ⟨e0, e1⟩, -⟩ := idx t
  refine Eq.trans ?_ (mat_eq (m ((c : Thread nD τ).loc main_arg1)) ⟨t.val % 2 * 2816 + k, by omega⟩ ⟨t.val / 2 % 2 * 1024 + q, by omega⟩)
  blk_ext [bB, iblk, V_main_arg1, e0, e1]

/-- The stretch of products a point works on. -/
theorem stretch (t : Fin cfg0.N) (p : Fin 1024) (q : Fin 1024) :
    (∑ k : Fin 2816, bA m c t (ix2 p k) * bB m c t (ix2 k q))
      = part (lhs m c) (rhs m c) (t.val / 4 * 1024 + p) (t.val / 2 % 2 * 1024 + q) (t.val % 2 * 2816) 2816 :=
  part_of _ _ _ _ _ _ _ _ (fun k => blkA m c t p k) (fun k => blkB m c t q k)

/-- What is kept, read where the next point finds it. -/
theorem kept (s : Vec Ideal S1024x1024 .f32) :
    View.read (Elt Ideal) (View.whole cc0_scratch0) ((Memref.isWhole_whole cc0_scratch0).unread s) = s :=
  (Memref.isWhole_whole cc0_scratch0).read_unread s

/-- What the first of a block's points keeps. -/
theorem kept0 (t : Fin cfg0.N) (h : t.val % 2 = 0) (p : Fin 1024) (q : Fin 1024) :
    (outsAt0 m c t.val t.isLt).2 (ix2 p q) = part (lhs m c) (rhs m c) (t.val / 4 * 1024 + p) (t.val / 2 % 2 * 1024 + q) 0 2816 := by
  rw [outsAt0_A m c t (by omega) (by omega)]
  frame_out
  refine (pay1 (bA m c t) (bB m c t) p q).trans ((stretch m c t p q).trans ?_)
  rw [h, Nat.zero_mul]

/-- What the last of a block's points writes. -/
theorem written (t : Fin cfg0.N) (h : t.val % 2 = 1) (p : Fin 1024) (q : Fin 1024) :
    (outsAt0 m c t.val t.isLt).1 (ix2 p q) = prod (lhs m c) (rhs m c) 5632 (t.val / 4 * 1024 + p) (t.val / 2 % 2 * 1024 + q) := by
  have hb := kept0 m c ⟨t.val - 1, Nat.lt_of_le_of_lt (Nat.sub_le _ _) t.isLt⟩ (show (t.val - 1) % 2 = 0 by omega) p q
  rw [outsAt0_B m c t (by omega) (by omega)]
  frame_out
  refine (pay3 (bA m c t) (bB m c t) _ p q).trans ?_
  dsimp only at hb
  rw [stretch m c t p q, kept, hb, h]
  refine Eq.trans ?_ (part_add _ _ _ _ 0 2816 2816)
  rw [show (t.val - 1) / 4 = t.val / 4 by omega, show (t.val - 1) / 2 = t.val / 2 by omega]

theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  obtain ⟨-, -, e0, e1⟩ := idx t
  obtain ⟨p, q, rfl⟩ : ∃ (p : Fin 1024) (q : Fin 1024), y = ix2 p q := ⟨y 0, y 1, eq_ix2 y⟩
  rw [after0_2]
  refine (written m c t ((flush0_2 t).mp hf) p q).trans ?_
  unfold res lhs rhs
  blk_simp [e0, e1]

end Kernel

section Reference

open Cert.RefDownFwdIdeal Cert.RefDownFwdIdeal.Read

theorem ref (a : FVec Ideal ⟨2, ![4096, 5632]⟩ .bf16) (b : FVec Ideal ⟨2, ![5632, 2048]⟩ .bf16) : val_main_v2 (F := Ideal) a b = res a b := by
  funext y
  obtain ⟨p, q, rfl⟩ : ∃ (p : Fin 4096) (q : Fin 2048), y = ix2 p q := ⟨y 0, y 1, eq_ix2 y⟩
  pointwise [val_main_v0, val_main_v1, val_main_v2]
  exact prod_of (mat a) (mat b) 5632 p.val q.val _ _ (fun k => mat_eq a p k) (fun k => mat_eq b k q)

end Reference

/-- The reference runs, keeps its arguments and leaves every counter at zero. -/
theorem frame_ri : Cert.quiescent_RefDownFwdIdeal := fun m ρ _ =>
  (θ_run Cert.RefDownFwdIdeal.defs _ _).mono (fun r h => ⟨fun c => (h c).2, sem_eq_zero_of_no_sems (by decide) r.2⟩)
    (Cert.RefDownFwdIdeal.Value.run (F := Ideal) m ρ)

theorem algebraic : Cert.algebraic_DownFwdIdeal_RefDownFwdIdeal := by
  intro m g m' g' _ hagree
  refine ⟨fun c => res (m ((c.tc : Thread Cert.DownFwdIdeal.nD Cert.DownFwdIdeal.τ).loc Cert.DownFwdIdeal.main_arg0))
    (m ((c.tc : Thread Cert.DownFwdIdeal.nD Cert.DownFwdIdeal.τ).loc Cert.DownFwdIdeal.main_arg1)), ?_, ?_⟩
  · exact (θ_run Cert.DownFwdIdeal.defs _ _).mono (fun _ h c => ⟨(h c).1.trans (final m c), (h c).2⟩) (Cert.DownFwdIdeal.Value.run_blocks (F := Ideal) m g)
  · refine (θ_run Cert.RefDownFwdIdeal.defs _ _).mono (fun _ h c => ⟨?_, (h c).2⟩) (Cert.RefDownFwdIdeal.Value.run (F := Ideal) m' g')
    obtain ⟨h0, h1⟩ := hagree c
    exact (h c).1.trans ((Cert.RefDownFwdIdeal.Read.val_main_v2_eq _ _).trans ((ref _ _).trans (congrArg₂ res h0 h1)))

end Cert.Dense.DownFwd
-- ==== Proof.Norm.lean ====
/- Root-mean-square normalisation of a row of extended reals, and its gradient in two forms: as the kernels write it, and as
   differentiating the plain formula writes it. The two agree at every row, infinite entries included. -/
module

public import Idealize.ShloMosaic.Lib.Pointwise
public import Idealize.ShloMosaic.PureOps.Ideal.Laws

@[expose] public section

noncomputable section

namespace Cert.Norm

open Idealize.ShloMosaic
open scoped BigOperators

/-- The small number added below the root, as the float it is written as. -/
def eps : EReal := Ideal.ofBits .f32 0x358637BD#32

/-- One over the root of the mean square: `N` is the number of entries. -/
def rs {n : ℕ} (N : EReal) (x : Fin n → EReal) : EReal := Ideal.rsqrt (Ideal.div (∑ k, x k * x k) N + eps)

/-- The gradient of a normalised row, from the gradient `d` of the normalised row: as the kernels write it. -/
def bwd {n : ℕ} (N : EReal) (x d : Fin n → EReal) (k : Fin n) : EReal :=
  rs N x * (d k - x k * rs N x * Ideal.div (∑ q, d q * (x q * rs N x)) N)

/-- What reaches the row through the root, in the plain formula's gradient. -/
def thru {n : ℕ} (N : EReal) (x d : Fin n → EReal) : EReal :=
  Ideal.div ((∑ q, x q * d q) * (Ideal.ofBits .f32 0xBF000000#32 * Ideal.div (rs N x) (Ideal.div (∑ k, x k * x k) N + eps))) N

/-- The gradient of a normalised row: as the plain formula's gradient has it. -/
def ref {n : ℕ} (N : EReal) (x d : Fin n → EReal) (k : Fin n) : EReal := d k * rs N x + x k * thru N x d + thru N x d * x k

theorem ofBits_len : Ideal.ofBits .f32 0x45000000#32 = ((2048 : ℝ) : EReal) := by
  simp [Ideal.ofBits, Ideal.ieee, -EReal.coe_mul]; norm_num

theorem ofBits_half_len : Ideal.ofBits .f32 0x44800000#32 = ((1024 : ℝ) : EReal) := by
  simp [Ideal.ofBits, Ideal.ieee, -EReal.coe_mul]; norm_num

theorem ofBits_minus_half : Ideal.ofBits .f32 0xBF000000#32 = ((-(1 / 2) : ℝ) : EReal) := by
  simp [Ideal.ofBits, Ideal.ieee, -EReal.coe_mul]; norm_num

theorem eps_eq : ∃ e : ℝ, 0 < e ∧ eps = (e : EReal) := by
  refine ⟨8796093 / 8796093022208, by norm_num, ?_⟩
  unfold eps
  simp [Ideal.ofBits, Ideal.ieee, -EReal.coe_mul]; norm_num

theorem sq_nonneg (a : EReal) : 0 ≤ a * a := by
  rcases le_total 0 a with h | h
  · exact mul_nonneg h h
  · have := EReal.mul_nonneg_iff.mpr (Or.inr ⟨h, h⟩)
    exact this

/-- An entry whose square is not infinite is a number. -/
theorem real_of_sq (a : EReal) (h : a * a ≠ ⊤) : ∃ r : ℝ, a = (r : EReal) := by
  induction a with
  | bot => exact absurd EReal.bot_mul_bot h
  | top => exact absurd EReal.top_mul_top h
  | coe r => exact ⟨r, rfl⟩

/-- A number times the same extended real, twice over. -/
theorem twice (T : EReal) (a : ℝ) : T * (a : EReal) + T * (a : EReal) = T * ((2 * a : ℝ) : EReal) := by
  induction T with
  | coe t => norm_cast; ring
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl

/-- A positive number comes out of a sum. -/
theorem sum_scale {n : ℕ} (f : Fin n → EReal) (r : ℝ) (hr : 0 ≤ r) : ∑ q, f q * (r : EReal) = (∑ q, f q) * (r : EReal) := by
  classical
  refine Finset.induction_on (Finset.univ : Finset (Fin n)) (by simp) fun a s ha ih => ?_
  rw [Finset.sum_insert ha, Finset.sum_insert ha, ih,
    EReal.right_distrib_of_nonneg_of_ne_top (EReal.coe_nonneg.mpr hr) (EReal.coe_ne_top r)]

theorem coe_sum {n : ℕ} (f : Fin n → ℝ) : ((∑ k, f k : ℝ) : EReal) = ∑ k, (f k : EReal) := by
  classical
  refine Finset.induction_on (Finset.univ : Finset (Fin n)) (by simp) fun a s ha ih => ?_
  rw [Finset.sum_insert ha, Finset.sum_insert ha, EReal.coe_add, ih]

/-- The mean square plus the small number is infinite, or every entry is a number and it is a positive number. -/
theorem cases_ms {n : ℕ} (N : ℝ) (hN : 0 < N) (x : Fin n → EReal) :
    Ideal.div (∑ k, x k * x k) (N : EReal) + eps = ⊤
      ∨ ∃ (v : ℝ) (y : Fin n → ℝ), 0 < v ∧ Ideal.div (∑ k, x k * x k) (N : EReal) + eps = (v : EReal) ∧ ∀ k, x k = (y k : EReal) := by
  obtain ⟨e, he, hE⟩ := eps_eq
  rw [hE, Ideal.div_coe hN.ne']
  by_cases h : ∀ k, x k * x k ≠ ⊤
  · right
    choose y hy using fun k => real_of_sq (x k) (h k)
    refine ⟨(∑ k, y k * y k) * (1 / N) + e, y, ?_, ?_, hy⟩
    · have : 0 ≤ ∑ k, y k * y k := Finset.sum_nonneg fun k _ => mul_self_nonneg _
      positivity
    · have hs : (∑ k, x k * x k) = ((∑ k, y k * y k : ℝ) : EReal) := by
        rw [coe_sum]
        exact Finset.sum_congr rfl fun k _ => by rw [hy k, EReal.coe_mul]
      rw [hs]; norm_cast
  · left
    push Not at h
    obtain ⟨k, hk⟩ := h
    have hs : (∑ k, x k * x k) = ⊤ := top_le_iff.mp (hk ▸ Finset.single_le_sum (fun i _ => sq_nonneg (x i)) (Finset.mem_univ k))
    rw [hs, EReal.top_mul_coe_of_pos (by positivity)]
    rfl

/-- The two forms agree. -/
theorem ref_eq {n : ℕ} (N : ℝ) (hN : 0 < N) (x d : Fin n → EReal) (k : Fin n) : ref (N : EReal) x d k = bwd (N : EReal) x d k := by
  rcases cases_ms N hN x with h | ⟨v, y, hv, h, hy⟩
  · have hr : rs (N : EReal) x = 0 := by unfold rs; rw [h, Ideal.rsqrt_top]
    have hz : Ideal.div 0 (⊤ : EReal) = 0 := by simp [Ideal.div]
    have h0 : Ideal.div 0 (N : EReal) = 0 := by rw [Ideal.div_coe hN.ne', zero_mul]
    simp only [ref, bwd, thru, h, hr, hz, mul_zero, zero_mul, h0, add_zero]
  · have hrv : rs (N : EReal) x = (((Real.sqrt v)⁻¹ : ℝ) : EReal) := by
      unfold rs; rw [h, Ideal.rsqrt_coe, if_neg (by linarith), if_neg hv.ne']
    obtain ⟨r, hr⟩ : ∃ r : ℝ, r = (Real.sqrt v)⁻¹ := ⟨_, rfl⟩
    have hr0 : 0 < r := by rw [hr]; positivity
    have hrr : r * r * v = 1 := by
      rw [hr, ← mul_inv, Real.mul_self_sqrt hv.le, inv_mul_cancel₀ hv.ne']
    rw [← hr] at hrv
    obtain ⟨T, hT⟩ : ∃ T : EReal, T = ∑ q, d q * x q := ⟨_, rfl⟩
    have hT1 : (∑ q, x q * d q) = T := by rw [hT]; exact Finset.sum_congr rfl fun q _ => mul_comm _ _
    have hT2 : (∑ q, d q * (x q * (r : EReal))) = T * (r : EReal) := by
      rw [hT, ← sum_scale _ r hr0.le]
      exact Finset.sum_congr rfl fun q _ => (mul_assoc _ _ _).symm
    have hth : thru (N : EReal) x d = T * ((-(1 / 2) * (r * (1 / v)) * (1 / N) : ℝ) : EReal) := by
      unfold thru
      rw [h, hrv, hT1, ofBits_minus_half, Ideal.div_coe hN.ne', Ideal.div_coe hv.ne', mul_assoc]
      norm_cast
    unfold ref bwd
    rw [hth, hrv, hT2, hy k, Ideal.div_coe hN.ne', mul_comm _ ((y k : ℝ) : EReal)]
    have e1 : ((y k : ℝ) : EReal) * (T * ((-(1 / 2) * (r * (1 / v)) * (1 / N) : ℝ) : EReal))
        = T * ((y k * (-(1 / 2) * (r * (1 / v)) * (1 / N)) : ℝ) : EReal) := by
      rw [mul_left_comm]; norm_cast
    have e2 : ((y k : ℝ) : EReal) * (r : EReal) * (T * (r : EReal) * ((1 / N : ℝ) : EReal)) = T * ((y k * r * (r * (1 / N)) : ℝ) : EReal) := by
      rw [mul_assoc T, mul_left_comm]; norm_cast
    rw [e1, add_assoc, twice, e2, sub_eq_add_neg, EReal.left_distrib_of_nonneg_of_ne_top (EReal.coe_nonneg.mpr hr0.le) (EReal.coe_ne_top r),
      mul_comm (r : EReal) (d k)]
    congr 1
    rw [mul_comm (r : EReal), ← mul_neg, ← EReal.coe_neg, mul_assoc T, ← EReal.coe_mul]
    refine congrArg (fun z : ℝ => T * (z : EReal)) ?_
    have h1 : 1 / v = r * r := by rw [← hrr]; field_simp
    rw [h1]
    ring

/-- The length of a whole row, as the float it is written as. -/
def len : EReal := Ideal.ofBits .f32 0x45000000#32
/-- The length of half a row. -/
def hlen : EReal := Ideal.ofBits .f32 0x44800000#32

theorem ref_len {n : ℕ} (x d : Fin n → EReal) (k : Fin n) : ref len x d k = bwd len x d k := by
  unfold len
  rw [ofBits_len]
  exact ref_eq 2048 (by norm_num) x d k

theorem ref_hlen {n : ℕ} (x d : Fin n → EReal) (k : Fin n) : ref hlen x d k = bwd hlen x d k := by
  unfold hlen
  rw [ofBits_half_len]
  exact ref_eq 1024 (by norm_num) x d k

/-- A row of a matrix. -/
def row {R C : ℕ} {φ : FTy} (a : FVec Ideal ⟨2, ![R, C]⟩ φ) (i : Fin R) : Fin C → EReal := fun k => a (ix2 i k)

/-- One summand for each of the 4096 rows, read with plain numbers. -/
def ext (F : Fin 4096 → EReal) (i : ℕ) : EReal := if h : i < 4096 then F ⟨i, h⟩ else 0

/-- The sum over the rows before row `i`. -/
def upto (F : Fin 4096 → EReal) (i : ℕ) : EReal := ∑ q ∈ Finset.range i, ext F q

theorem upto_zero (F : Fin 4096 → EReal) : upto F 0 = 0 := Finset.sum_range_zero _

theorem upto_all (F : Fin 4096 → EReal) : upto F 4096 = ∑ i, F i := by
  unfold upto
  rw [Finset.sum_range]
  exact Finset.sum_congr rfl fun i _ => dif_pos i.isLt

/-- The sum before row `i` and the `b` rows from there on. -/
theorem upto_add (F : Fin 4096 → EReal) (i b : ℕ) (h : i + b ≤ 4096) :
    upto F i + ∑ p : Fin b, F ⟨i + p.val, by have := p.isLt; omega⟩ = upto F (i + b) := by
  unfold upto
  rw [Finset.sum_range_add, Finset.sum_range (n := b)]
  congr 1
  refine Finset.sum_congr rfl fun p _ => ?_
  have hp : i + p.val < 4096 := by have := p.isLt; omega
  exact (show ext F (i + p.val) = _ from dif_pos hp).symm

/-- Adding the first block's rows to nothing. -/
theorem upto_start (F : Fin 4096 → EReal) (i b : ℕ) (hi : i = 0) (h : i + b ≤ 4096) :
    0 + ∑ p : Fin b, F ⟨i + p.val, by have := p.isLt; omega⟩ = upto F (i + b) := by
  rw [← upto_add F i b h]
  exact congrArg (· + _) (by rw [hi, upto_zero])

end Cert.Norm

end
-- ==== Proof.NormSpec.lean ====
/- What the gradients of the normalisations compute, row by row: of the residual step (`Res`), and of the modulated normalisation
   (`Mod`). Nothing is said here of tiles. -/
module

public import proofs.«01_k».proof.Proof.Norm

@[expose] public section

noncomputable section

namespace Cert.Norm

open Idealize.ShloMosaic
open scoped BigOperators

/-- The residual step: the gradient `D` of the sum, the rows `Y` that were normalised, the weights `g`, the gate `gt`. -/
structure Res where
  D : Fin 4096 → Fin 2048 → EReal
  Y : Fin 4096 → Fin 2048 → EReal
  g : Fin 2048 → EReal
  gt : Fin 2048 → EReal

namespace Res

variable (A : Res)

/-- The gradient of the normalised and weighted row. -/
def dn (i : Fin 4096) (k : Fin 2048) : EReal := A.D i k * (1 + A.gt k)
/-- The gradient of the rows. -/
def dy (i : Fin 4096) (k : Fin 2048) : EReal := bwd len (A.Y i) (fun q => A.dn i q * A.g q) k
/-- A row's share in the weights' gradient. -/
def dg (k : Fin 2048) (i : Fin 4096) : EReal := A.dn i k * (A.Y i k * rs len (A.Y i))
/-- A row's share in the gate's gradient. -/
def dgt (k : Fin 2048) (i : Fin 4096) : EReal := A.D i k * (A.Y i k * rs len (A.Y i) * A.g k)

/-- The three results, as arrays. -/
def dyArr : FVec Ideal ⟨2, ![4096, 2048]⟩ .bf16 := fun y => A.dy (y 0) (y 1)
def dgArr : FVec Ideal ⟨2, ![1, 2048]⟩ .f32 := fun y => ∑ i, A.dg (y 1) i
def dgtArr : FVec Ideal ⟨2, ![1, 2048]⟩ .f32 := fun y => ∑ i, A.dgt (y 1) i

end Res

/-- The modulated normalisation: the gradient `D` of its result, the rows `X`, the weights `g`, the scale `sc`, and the gradient `P` that
    reaches the rows beside it. -/
structure Mod where
  D : Fin 4096 → Fin 2048 → EReal
  X : Fin 4096 → Fin 2048 → EReal
  g : Fin 2048 → EReal
  sc : Fin 2048 → EReal
  P : Fin 4096 → Fin 2048 → EReal

namespace Mod

variable (A : Mod)

/-- The gradient of the normalised and weighted row. -/
def dn (i : Fin 4096) (k : Fin 2048) : EReal := A.D i k * (1 + A.sc k)
/-- The gradient of the rows. -/
def dx (i : Fin 4096) (k : Fin 2048) : EReal := bwd len (A.X i) (fun q => A.dn i q * A.g q) k + A.P i k
/-- A row's share in the weights' gradient. -/
def dg (k : Fin 2048) (i : Fin 4096) : EReal := A.dn i k * (A.X i k * rs len (A.X i))
/-- A row's share in the scale's gradient. -/
def dsc (k : Fin 2048) (i : Fin 4096) : EReal := A.D i k * (A.X i k * rs len (A.X i) * A.g k)
/-- A row's share in the shift's gradient. -/
def dsh (k : Fin 2048) (i : Fin 4096) : EReal := A.D i k

/-- The four results, as arrays. -/
def dxArr : FVec Ideal ⟨2, ![4096, 2048]⟩ .f32 := fun y => A.dx (y 0) (y 1)
def dgArr : FVec Ideal ⟨2, ![1, 2048]⟩ .f32 := fun y => ∑ i, A.dg (y 1) i
def dscArr : FVec Ideal ⟨2, ![1, 2048]⟩ .f32 := fun y => ∑ i, A.dsc (y 1) i
def dshArr : FVec Ideal ⟨2, ![1, 2048]⟩ .f32 := fun y => ∑ i, A.dsh (y 1) i

end Mod

end Cert.Norm

end
-- ==== Proof.ResBwd.lean ====
/- The gradient of the residual step: every point of the grid works on 512 rows; two of the results are sums over all rows, kept from
   one point to the next. -/
module

public import proofs.«01_k».proof.Defs
public import proofs.«01_k».proof.Proof.NormSpec
public import proofs.«01_k».proof.Proof.Gen.ResBwdIdeal.Frame
public import proofs.«01_k».proof.Proof.Gen.ResBwdIdeal.Value
public import proofs.«01_k».proof.Proof.Gen.RefResBwdIdeal.Run
public import proofs.«01_k».proof.Proof.Gen.RefResBwdIdeal.Read
public import Idealize.ShloMosaic.Lib.Pipeline.ValueKit
public import Idealize.ShloMosaic.Lib.Pointwise
public import Idealize.ShloMosaic.Adequacy

@[expose] public section

noncomputable section

namespace Cert.Norm.ResBwd

open Idealize.ShloMosaic Idealize.ShloMosaic.TcCoe Idealize.SL.Sem

set_option maxRecDepth 16384

/-- The arguments, from the arrays. -/
def args (a0 : FVec Ideal ⟨2, ![4096, 2048]⟩ .f32) (a1 : FVec Ideal ⟨2, ![4096, 2048]⟩ .f32) (a2 : FVec Ideal ⟨1, ![2048]⟩ .f32)
    (a3 : FVec Ideal ⟨2, ![1, 2048]⟩ .f32) : Res := ⟨row a0, row a1, fun k => a2 (ix1 k), fun k => a3 (ix2 0 k)⟩

section Kernel

open Cert.ResBwdIdeal Cert.ResBwdIdeal.Gen

/-- What the windows hold at a point whose first row is row `R`. -/
structure Finds (A : Res) (R : ℕ) (hR : R + 512 ≤ 4096) (x0 x1 : Vec Ideal S512x2048 .f32) (x2 x3 : Vec Ideal S1x2048 .f32) : Prop where
  h0 : ∀ (p : Fin 512) (k : Fin 2048), x0 (ix2 p k) = A.D ⟨R + p, by omega⟩ k
  h1 : ∀ (p : Fin 512) (k : Fin 2048), x1 (ix2 p k) = A.Y ⟨R + p, by omega⟩ k
  h2 : ∀ k : Fin 2048, x2 (ix2 0 k) = A.g k
  h3 : ∀ k : Fin 2048, x3 (ix2 0 k) = A.gt k

section Body

variable {A : Res} {R : ℕ} {hR : R + 512 ≤ 4096} {x0 x1 : Vec Ideal S512x2048 .f32} {x2 x3 : Vec Ideal S1x2048 .f32}
  (H : Finds A R hR x0 x1 x2 x3)
include H

theorem root (p : Fin 512) : k0_pay6 x1 (ix2 p 0) = rs len (A.Y ⟨R + p, by omega⟩) := by
  pointwise [k0_pay6]
  simp only [H.h1]
  rfl

theorem unit (p : Fin 512) (k : Fin 2048) : k0_pay7 x1 (ix2 p k) = A.Y ⟨R + p, by omega⟩ k * rs len (A.Y ⟨R + p, by omega⟩) := by
  pointwise [k0_pay7]
  rw [root H, H.h1]

theorem grad (p : Fin 512) (k : Fin 2048) : k0_pay8 x0 x3 (ix2 p k) = A.dn ⟨R + p, by omega⟩ k := by
  pointwise [k0_pay8]
  rw [H.h0, H.h3]
  rfl

theorem sumT (s : Vec Ideal S1x2048 .f32) (k : Fin 2048) :
    k0_pay9 x0 x1 x2 s (ix2 0 k) = s (ix2 0 k) + ∑ p : Fin 512, A.dgt k ⟨R + p, by omega⟩ := by
  pointwise [k0_pay9, k0_pay5]
  simp only [unit H, H.h0, H.h2]
  rfl

theorem sumG (s : Vec Ideal S1x2048 .f32) (k : Fin 2048) :
    k0_pay1 (k0_pay10 s) (k0_pay11 x0 x1 x3) (ix2 0 k) = s (ix2 0 k) + ∑ p : Fin 512, A.dg k ⟨R + p, by omega⟩ := by
  pointwise [k0_pay1, k0_pay10, k0_pay11]
  simp only [unit H, grad H]
  rfl

theorem rows (p : Fin 512) (k : Fin 2048) :
    k0_pay2 (k0_pay5 x2) (k0_pay6 x1) (k0_pay7 x1) (k0_pay8 x0 x3) (ix2 p k) = A.dy ⟨R + p, by omega⟩ k := by
  pointwise [k0_pay2, k0_pay5]
  simp only [unit H, grad H, root H, H.h2]
  rfl

end Body

theorem zero3 (x : S1x2048.Idx) : k0_pay3 (F := Ideal) x = (0 : EReal) := by
  pointwise [k0_pay3]
theorem zero4 (x : S1x2048.Idx) : k0_pay4 (F := Ideal) x = (0 : EReal) := by
  pointwise [k0_pay4]

/-- Where the windows' blocks lie. -/
theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

variable (m : (ℓ : Loc nD τ sig) → Buf (Elt Ideal) ℓ) (c : Dev nD)

theorem hN (t : Fin cfg0.N) : t.val < 8 := lt_of_lt_of_eq t.isLt N_0

/-- The arguments of core `c`. -/
def at' : Res := args (m ((c : Thread nD τ).loc main_arg0)) (m ((c : Thread nD τ).loc main_arg1)) (m ((c : Thread nD τ).loc main_arg2))
  (m ((c : Thread nD τ).loc main_arg3))

theorem finds (t : Fin cfg0.N) : Finds (at' m c) (512 * t.val) (by have := hN t; omega) (iblk m c 0 t) (iblk m c 1 t) (iblk m c 2 t) (iblk m c 3 t) where
  h0 p k := by
    have hn := hN t
    obtain ⟨⟨e0, e1⟩, -⟩ := idx t
    unfold at' args row
    blk_ext [iblk, V_main_arg0, e0, e1]
  h1 p k := by
    have hn := hN t
    obtain ⟨-, ⟨e0, e1⟩, -⟩ := idx t
    unfold at' args row
    blk_ext [iblk, V_main_arg1, e0, e1]
  h2 k := by
    have hn := hN t
    obtain ⟨-, -, ⟨e0, e1⟩, -⟩ := idx t
    unfold at' args
    blk_ext! [iblk, V, e0, e1]
  h3 k := by
    have hn := hN t
    obtain ⟨-, -, -, ⟨e0, e1⟩, -⟩ := idx t
    unfold at' args
    blk_ext [iblk, V_main_arg3, e0, e1]

/-- What a point leaves in the buffers. -/
structure Leaves (A : Res) (R : ℕ) (hR : R + 512 ≤ 4096) (o : Vec Ideal S512x2048 .bf16 × Vec Ideal S1x2048 .f32 × Vec Ideal S1x2048 .f32) : Prop where
  dy : ∀ (p : Fin 512) (k : Fin 2048), o.1 (ix2 p k) = A.dy ⟨R + p, by omega⟩ k
  dg : ∀ k : Fin 2048, o.2.1 (ix2 0 k) = upto (A.dg k) (R + 512)
  dgt : ∀ k : Fin 2048, o.2.2 (ix2 0 k) = upto (A.dgt k) (R + 512)

theorem leaves_A (t : Fin cfg0.N) (h0 : t.val % 8 = 0) : Leaves (at' m c) (512 * t.val) (by have := hN t; omega) (outsAt0 m c t.val t.isLt) := by
  have hn := hN t
  have H := finds m c t
  have hz : 512 * t.val = 0 := by omega
  rw [outsAt0_A m c t h0]
  constructor
  · intro p k
    frame_out
    exact rows H p k
  · intro k
    frame_out
    refine (sumG H _ k).trans ?_
    refine Eq.trans (congrArg (· + _) ?_) (upto_start _ (512 * t.val) 512 hz (by omega))
    exact zero3 _
  · intro k
    frame_out
    refine (sumT H _ k).trans ?_
    refine Eq.trans (congrArg (· + _) ?_) (upto_start _ (512 * t.val) 512 hz (by omega))
    exact zero4 _

theorem leaves_B (t : Fin cfg0.N) (h0 : ¬t.val % 8 = 0) (hb : 512 * (t.val - 1) + 512 ≤ 4096)
    (ih : Leaves (at' m c) (512 * (t.val - 1)) hb (outsAt0 m c (t.val - 1) (lt_of_le_of_lt (Nat.sub_le _ _) t.isLt))) :
    Leaves (at' m c) (512 * t.val) (by have := hN t; omega) (outsAt0 m c t.val t.isLt) := by
  have hn := hN t
  have H := finds m c t
  have hz : 512 * (t.val - 1) + 512 = 512 * t.val := by omega
  rw [outsAt0_B m c t h0]
  constructor
  · intro p k
    frame_out
    exact rows H p k
  · intro k
    frame_out
    refine (sumG H _ k).trans ?_
    refine Eq.trans (congrArg (· + _) ?_) (upto_add _ (512 * t.val) 512 (by omega))
    exact (ih.dg k).trans (by rw [hz])
  · intro k
    frame_out
    refine (sumT H _ k).trans ?_
    refine Eq.trans (congrArg (· + _) ?_) (upto_add _ (512 * t.val) 512 (by omega))
    exact (ih.dgt k).trans (by rw [hz])

/-- By induction on the point. -/
theorem leaves : ∀ (n : ℕ) (hn : n < cfg0.N), Leaves (at' m c) (512 * n) (by have := hN ⟨n, hn⟩; dsimp only at this; omega) (outsAt0 m c n hn)
  | 0, hn => leaves_A m c ⟨0, hn⟩ rfl
  | n + 1, hn => by
    have h8 := hN ⟨n + 1, hn⟩
    dsimp only at h8
    exact leaves_B m c ⟨n + 1, hn⟩ (by dsimp only; omega) (by dsimp only; omega) (leaves n (Nat.lt_of_succ_lt hn))

theorem final4 : (dats m 0 c).arrAt 4 cfg0.N = Res.dyArr (at' m c) := by
  refine (dats m 0 c).arrAt_eq_of_covers 4 _ (by decide +kernel) fun t hf y => ?_
  have hn := hN t
  obtain ⟨-, -, -, -, ⟨e0, e1⟩, -⟩ := idx t
  obtain ⟨p, q, rfl⟩ : ∃ (p : Fin 512) (q : Fin 2048), y = ix2 p q := ⟨y 0, y 1, eq_ix2 y⟩
  rw [after0_4]
  refine ((leaves m c t.val t.isLt).dy p q).trans ?_
  exact congrArg₂ (at' m c).dy (Fin.ext (by blk_simp [e0, Nat.mul_comm])) (Fin.ext (by blk_simp [e1]))

theorem final5 : (dats m 0 c).arrAt 5 cfg0.N = Res.dgArr (at' m c) := by
  refine (dats m 0 c).arrAt_eq_of_covers 5 _ (by decide +kernel) fun t hf y => ?_
  have hn := hN t
  have hl : t.val % 8 = 7 := (flush0_5 t).mp hf
  obtain ⟨-, -, -, -, -, ⟨e0, e1⟩, -⟩ := idx t
  obtain ⟨p, q, rfl⟩ : ∃ (p : Fin 1) (q : Fin 2048), y = ix2 p q := ⟨y 0, y 1, eq_ix2 y⟩
  obtain rfl : p = 0 := Subsingleton.elim _ _
  rw [after0_5]
  refine ((leaves m c t.val t.isLt).dg q).trans ?_
  rw [show 512 * t.val + 512 = 4096 by omega, upto_all]
  exact congrArg (fun k => ∑ i, (at' m c).dg k i) (Fin.ext (by blk_simp [e1]))

theorem final6 : (dats m 0 c).arrAt 6 cfg0.N = Res.dgtArr (at' m c) := by
  refine (dats m 0 c).arrAt_eq_of_covers 6 _ (by decide +kernel) fun t hf y => ?_
  have hn := hN t
  have hl : t.val % 8 = 7 := (flush0_6 t).mp hf
  obtain ⟨-, -, -, -, -, -, ⟨e0, e1⟩⟩ := idx t
  obtain ⟨p, q, rfl⟩ : ∃ (p : Fin 1) (q : Fin 2048), y = ix2 p q := ⟨y 0, y 1, eq_ix2 y⟩
  obtain rfl : p = 0 := Subsingleton.elim _ _
  rw [after0_6]
  refine ((leaves m c t.val t.isLt).dgt q).trans ?_
  rw [show 512 * t.val + 512 = 4096 by omega, upto_all]
  exact congrArg (fun k => ∑ i, (at' m c).dgt k i) (Fin.ext (by blk_simp [e1]))

end Kernel

section Reference

open Cert.RefResBwdIdeal Cert.RefResBwdIdeal.Read

variable (a0 : FVec Ideal ⟨2, ![4096, 2048]⟩ .f32) (a1 : FVec Ideal ⟨2, ![4096, 2048]⟩ .f32) (a2 : FVec Ideal ⟨1, ![2048]⟩ .f32)
  (a3 : FVec Ideal ⟨2, ![1, 2048]⟩ .f32)

/-- The mean square, with the small number. -/
theorem r8 (i : Fin 4096) : val_main_v8 (F := Ideal) a1 (ix2 i 0) = Ideal.div (∑ k, row a1 i k * row a1 i k) len + eps := by
  pointwise [val_main_v8, val_main_v7, val_main_v6, val_main_v5, val_main_v4, val_main_v3, val_main_v2, val_main_cst_0, val_main_cst_1,
    val_main_cst_2]
  rfl

theorem r9 (i : Fin 4096) : val_main_v9 (F := Ideal) a1 (ix2 i 0) = rs len (row a1 i) := by
  pointwise [val_main_v9]
  rw [r8]
  rfl

theorem r14 (i : Fin 4096) (k : Fin 2048) : val_main_v14 (F := Ideal) a1 (ix2 i k) = row a1 i k * rs len (row a1 i) := by
  pointwise [val_main_v14, val_main_v13]
  rw [r9]
  rfl

theorem r21 (i : Fin 4096) (k : Fin 2048) : val_main_v21 (F := Ideal) a0 a3 (ix2 i k) = (args a0 a1 a2 a3).dn i k := by
  pointwise [val_main_v21, val_main_v20, val_main_v1, val_main_v0, val_main_cst]
  exact mul_comm (1 + a3 (ix2 0 k) : EReal) (a0 (ix2 i k))

theorem r24 : val_main_v24 (F := Ideal) a0 a1 a2 = Res.dgtArr (args a0 a1 a2 a3) := by
  funext y
  obtain ⟨p, k, rfl⟩ : ∃ (p : Fin 1) (k : Fin 2048), y = ix2 p k := ⟨y 0, y 1, eq_ix2 y⟩
  obtain rfl : p = 0 := Subsingleton.elim _ _
  pointwise [val_main_v24, val_main_v23, val_main_v22, val_main_v17, val_main_v16, val_main_v15, val_main_cst_4]
  simp only [r14]
  rfl

theorem r46 : val_main_v46 (F := Ideal) a0 a1 a3 = Res.dgArr (args a0 a1 a2 a3) := by
  funext y
  obtain ⟨p, k, rfl⟩ : ∃ (p : Fin 1) (k : Fin 2048), y = ix2 p k := ⟨y 0, y 1, eq_ix2 y⟩
  obtain rfl : p = 0 := Subsingleton.elim _ _
  pointwise [val_main_v46, val_main_v30, val_main_v27, val_main_v26, val_main_v25, val_main_cst_5, val_main_cst_6]
  simp only [Fin.sum_univ_one, r14, r21 a0 a1 a2 a3]
  exact Finset.sum_congr rfl fun i _ => mul_comm (row a1 i k * rs len (row a1 i)) ((args a0 a1 a2 a3).dn i k)

theorem r29 (i : Fin 4096) (k : Fin 2048) :
    val_main_v29 (F := Ideal) a0 a2 a3 (ix2 i k) = (args a0 a1 a2 a3).dn i k * (args a0 a1 a2 a3).g k := by
  pointwise [val_main_v29, val_main_v28, val_main_v15]
  rw [r21 a0 a1 a2 a3]
  rfl

theorem r40 (i : Fin 4096) (k : Fin 2048) : val_main_v40 (F := Ideal) a0 a1 a2 a3 (ix2 i k)
    = thru len (row a1 i) (fun q => (args a0 a1 a2 a3).dn i q * (args a0 a1 a2 a3).g q) := by
  pointwise [val_main_v40, val_main_v39, val_main_v38, val_main_v37, val_main_v36, val_main_v33, val_main_v32, val_main_v31, val_main_v12,
    val_main_v11, val_main_v10, val_main_cst_3, val_main_cst_7, val_main_cst_8, val_main_cst_9]
  simp only [Fin.sum_univ_one, r8, r9, r29 a0 a1 a2 a3]
  rfl

theorem r45 : val_main_v45 (F := Ideal) a0 a1 a2 a3 = Res.dyArr (args a0 a1 a2 a3) := by
  funext y
  obtain ⟨i, k, rfl⟩ : ∃ (i : Fin 4096) (k : Fin 2048), y = ix2 i k := ⟨y 0, y 1, eq_ix2 y⟩
  refine Eq.trans ?_ (ref_len (row a1 i) (fun q => (args a0 a1 a2 a3).dn i q * (args a0 a1 a2 a3).g q) k)
  pointwise [val_main_v45, val_main_v44, val_main_v43, val_main_v42, val_main_v41, val_main_v35, val_main_v34]
  rw [r40, r9, r29 a0 a1 a2 a3]
  rfl

end Reference

/-- The reference runs, keeps its arguments and leaves every counter at zero. -/
theorem frame_ri : Cert.quiescent_RefResBwdIdeal := fun m ρ _ =>
  (θ_run Cert.RefResBwdIdeal.defs _ _).mono (fun r h => ⟨fun c => (h c).2.2.2, sem_eq_zero_of_no_sems (by decide) r.2⟩)
    (Cert.RefResBwdIdeal.Value.run (F := Ideal) m ρ)

theorem algebraic : Cert.algebraic_ResBwdIdeal_RefResBwdIdeal := by
  intro m g m' g' _ hagree
  refine ⟨fun c => Res.dyArr (at' m c), fun c => Res.dgArr (at' m c), fun c => Res.dgtArr (at' m c), ?_, ?_⟩
  · exact (θ_run Cert.ResBwdIdeal.defs _ _).mono (fun _ h c => ⟨(h c).1.trans (final4 m c), (h c).2.1.trans (final5 m c),
      (h c).2.2.1.trans (final6 m c), (h c).2.2.2⟩) (Cert.ResBwdIdeal.Value.run_blocks (F := Ideal) m g)
  · refine (θ_run Cert.RefResBwdIdeal.defs _ _).mono (fun _ h c => ?_) (Cert.RefResBwdIdeal.Value.run (F := Ideal) m' g')
    obtain ⟨h0, h1, h2, h3⟩ := hagree c
    have e : args (m' ((c.tc : Thread Cert.RefResBwdIdeal.nD Cert.RefResBwdIdeal.τ).loc Cert.RefResBwdIdeal.main_arg0))
        (m' ((c.tc : Thread Cert.RefResBwdIdeal.nD Cert.RefResBwdIdeal.τ).loc Cert.RefResBwdIdeal.main_arg1))
        (m' ((c.tc : Thread Cert.RefResBwdIdeal.nD Cert.RefResBwdIdeal.τ).loc Cert.RefResBwdIdeal.main_arg2))
        (m' ((c.tc : Thread Cert.RefResBwdIdeal.nD Cert.RefResBwdIdeal.τ).loc Cert.RefResBwdIdeal.main_arg3)) = at' m c := by
      unfold at'
      rw [h0, h1, h2, h3]
    exact ⟨(h c).1.trans ((Cert.RefResBwdIdeal.Read.val_main_v45_eq m' c).trans ((r45 _ _ _ _).trans (congrArg Res.dyArr e))),
      (h c).2.1.trans ((Cert.RefResBwdIdeal.Read.val_main_v46_eq _ _ _).trans ((r46 _ _ _ _).trans (congrArg Res.dgArr e))),
      (h c).2.2.1.trans ((Cert.RefResBwdIdeal.Read.val_main_v24_eq _ _ _).trans ((r24 _ _ _ _).trans (congrArg Res.dgtArr e))), (h c).2.2.2⟩

end Cert.Norm.ResBwd
-- ==== Proof.ModBwd.lean ====
/- The gradient of the modulated normalisation: every point of the grid works on 256 rows; the sums over all
   rows are kept from one point to the next. -/
module

public import proofs.«01_k».proof.Defs
public import proofs.«01_k».proof.Proof.NormSpec
public import proofs.«01_k».proof.Proof.Gen.ModBwdIdeal.Frame
public import proofs.«01_k».proof.Proof.Gen.ModBwdIdeal.Value
public import proofs.«01_k».proof.Proof.Gen.RefModBwdIdeal.Run
public import proofs.«01_k».proof.Proof.Gen.RefModBwdIdeal.Read
public import Idealize.ShloMosaic.Lib.Pipeline.ValueKit
public import Idealize.ShloMosaic.Lib.Pointwise
public import Idealize.ShloMosaic.Adequacy

@[expose] public section

noncomputable section

namespace Cert.Norm.ModBwd

open Idealize.ShloMosaic Idealize.ShloMosaic.TcCoe Idealize.SL.Sem

set_option maxRecDepth 16384

/-- The modulated normalisation's arguments, from the arrays. -/
def args (a0 a1 : FVec Ideal ⟨2, ![4096, 2048]⟩ .f32) (a2 : FVec Ideal ⟨1, ![2048]⟩ .f32) (a3 : FVec Ideal ⟨2, ![1, 2048]⟩ .f32) (a4 : FVec Ideal ⟨2, ![4096, 2048]⟩ .f32) : Mod :=
  ⟨row a0, row a1, fun k => a2 (ix1 k), fun k => a3 (ix2 0 k), row a4⟩

section Kernel

open Cert.ModBwdIdeal Cert.ModBwdIdeal.Gen

/-- What the windows hold at a point whose first row is row `R`. -/
structure Finds (M : Mod) (R : ℕ) (hR : R + 256 ≤ 4096) (x0 : Vec Ideal S256x2048 .f32) (x1 : Vec Ideal S256x2048 .f32) (x2 : Vec Ideal S1x2048 .f32) (x3 : Vec Ideal S1x2048 .f32) (x4 : Vec Ideal S256x2048 .f32) : Prop where
  h0 : ∀ (p : Fin 256) (k : Fin 2048), x0 (ix2 p k) = M.D ⟨R + p, by omega⟩ k
  h1 : ∀ (p : Fin 256) (k : Fin 2048), x1 (ix2 p k) = M.X ⟨R + p, by omega⟩ k
  h2 : ∀ k : Fin 2048, x2 (ix2 0 k) = M.g k
  h3 : ∀ k : Fin 2048, x3 (ix2 0 k) = M.sc k
  h4 : ∀ (p : Fin 256) (k : Fin 2048), x4 (ix2 p k) = M.P ⟨R + p, by omega⟩ k

section Body

variable {M : Mod} {R : ℕ} {hR : R + 256 ≤ 4096} {x0 : Vec Ideal S256x2048 .f32} {x1 : Vec Ideal S256x2048 .f32} {x2 : Vec Ideal S1x2048 .f32} {x3 : Vec Ideal S1x2048 .f32} {x4 : Vec Ideal S256x2048 .f32}
  (H : Finds M R hR x0 x1 x2 x3 x4)
include H

theorem root (p : Fin 256) : k0_pay8 x1 (ix2 p 0) = rs len (M.X ⟨R + p, by omega⟩) := by
  pointwise [k0_pay8]
  simp only [H.h1]
  rfl

theorem unit (p : Fin 256) (k : Fin 2048) : k0_pay9 x1 (ix2 p k) = M.X ⟨R + p, by omega⟩ k * rs len (M.X ⟨R + p, by omega⟩) := by
  pointwise [k0_pay9]
  rw [root H, H.h1]

theorem grad (p : Fin 256) (k : Fin 2048) : k0_pay10 x0 x3 (ix2 p k) = M.dn ⟨R + p, by omega⟩ k := by
  pointwise [k0_pay10]
  rw [H.h0, H.h3]
  rfl

theorem sumH (s : Vec Ideal S1x2048 .f32) (k : Fin 2048) :
    k0_pay11 x0 s (ix2 0 k) = s (ix2 0 k) + ∑ p : Fin 256, M.dsh k ⟨R + p, by omega⟩ := by
  pointwise [k0_pay11]
  simp only [H.h0]
  rfl

theorem sumC (s : Vec Ideal S1x2048 .f32) (k : Fin 2048) :
    k0_pay1 (k0_pay12 s) (k0_pay13 x0 x1 x2) (ix2 0 k) = s (ix2 0 k) + ∑ p : Fin 256, M.dsc k ⟨R + p, by omega⟩ := by
  pointwise [k0_pay1, k0_pay12, k0_pay13, k0_pay7]
  simp only [unit H, H.h0, H.h2]
  rfl

theorem sumG (s : Vec Ideal S1x2048 .f32) (k : Fin 2048) :
    k0_pay2 (k0_pay9 x1) (k0_pay10 x0 x3) s (ix2 0 k) = s (ix2 0 k) + ∑ p : Fin 256, M.dg k ⟨R + p, by omega⟩ := by
  pointwise [k0_pay2]
  simp only [unit H, grad H]
  rfl

theorem rows (p : Fin 256) (k : Fin 2048) :
    k0_pay3 (k0_pay7 x2) (k0_pay8 x1) (k0_pay9 x1) (k0_pay10 x0 x3) x4 (ix2 p k) = M.dx ⟨R + p, by omega⟩ k := by
  pointwise [k0_pay3, k0_pay7]
  simp only [unit H, grad H, root H, H.h2, H.h4]
  rfl

end Body

theorem zero4 (x : S1x2048.Idx) : k0_pay4 (F := Ideal) x = (0 : EReal) := by
  pointwise [k0_pay4]
theorem zero5 (x : S1x2048.Idx) : k0_pay5 (F := Ideal) x = (0 : EReal) := by
  pointwise [k0_pay5]
theorem zero6 (x : S1x2048.Idx) : k0_pay6 (F := Ideal) x = (0 : EReal) := by
  pointwise [k0_pay6]

/-- Where the windows' blocks lie. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, _)

variable (m : (ℓ : Loc nD τ sig) → Buf (Elt Ideal) ℓ) (c : Dev nD)

theorem hN (t : Fin cfg0.N) : t.val < 16 := lt_of_lt_of_eq t.isLt N_0

/-- The arguments of core `c`. -/
def at1 : Mod := args (m ((c : Thread nD τ).loc main_arg0)) (m ((c : Thread nD τ).loc main_arg1)) (m ((c : Thread nD τ).loc main_arg2)) (m ((c : Thread nD τ).loc main_arg3)) (m ((c : Thread nD τ).loc main_arg4))

theorem finds (t : Fin cfg0.N) : Finds (at1 m c) (256 * t.val) (by have := hN t; omega) (iblk m c 0 t) (iblk m c 1 t) (iblk m c 2 t) (iblk m c 3 t) (iblk m c 4 t) where
  h0 p k := by
    have hn := hN t
    obtain ⟨⟨e0, e1⟩, -⟩ := idx t
    unfold at1 args row
    blk_ext [iblk, V_main_arg0, e0, e1]
  h1 p k := by
    have hn := hN t
    obtain ⟨-, ⟨e0, e1⟩, -⟩ := idx t
    unfold at1 args row
    blk_ext [iblk, V_main_arg1, e0, e1]
  h2 k := by
    have hn := hN t
    obtain ⟨-, -, ⟨e0, e1⟩, -⟩ := idx t
    unfold at1 args
    blk_ext! [iblk, V, e0, e1]
  h3 k := by
    have hn := hN t
    obtain ⟨-, -, -, ⟨e0, e1⟩, -⟩ := idx t
    unfold at1 args
    blk_ext [iblk, V_main_arg3, e0, e1]
  h4 p k := by
    have hn := hN t
    obtain ⟨-, -, -, -, ⟨e0, e1⟩, -⟩ := idx t
    unfold at1 args row
    blk_ext [iblk, V_main_arg4, e0, e1]

/-- What a point leaves in the buffers. -/
structure Leaves (M : Mod) (R : ℕ) (hR : R + 256 ≤ 4096) (o : Vec Ideal S256x2048 .f32 × Vec Ideal S1x2048 .f32 × Vec Ideal S1x2048 .f32 × Vec Ideal S1x2048 .f32) : Prop where
  dx : ∀ (p : Fin 256) (k : Fin 2048), o.1 (ix2 p k) = M.dx ⟨R + p, by omega⟩ k
  dg : ∀ k : Fin 2048, o.2.1 (ix2 0 k) = upto (M.dg k) (R + 256)
  dsc : ∀ k : Fin 2048, o.2.2.1 (ix2 0 k) = upto (M.dsc k) (R + 256)
  dsh : ∀ k : Fin 2048, o.2.2.2 (ix2 0 k) = upto (M.dsh k) (R + 256)

theorem leaves_A (t : Fin cfg0.N) (h0 : t.val % 16 = 0) : Leaves (at1 m c) (256 * t.val) (by have := hN t; omega) (outsAt0 m c t.val t.isLt) := by
  have hn := hN t
  have H := finds m c t
  have hz : 256 * t.val = 0 := by omega
  rw [outsAt0_A m c t h0]
  constructor
  · intro p k
    frame_out
    exact rows H p k
  · intro k
    frame_out
    refine (sumG H _ k).trans ?_
    refine Eq.trans (congrArg (· + _) ?_) (upto_start _ (256 * t.val) 256 hz (by omega))
    exact zero4 _
  · intro k
    frame_out
    refine (sumC H _ k).trans ?_
    refine Eq.trans (congrArg (· + _) ?_) (upto_start _ (256 * t.val) 256 hz (by omega))
    exact zero5 _
  · intro k
    frame_out
    refine (sumH H _ k).trans ?_
    refine Eq.trans (congrArg (· + _) ?_) (upto_start _ (256 * t.val) 256 hz (by omega))
    exact zero6 _

theorem leaves_B (t : Fin cfg0.N) (h0 : ¬t.val % 16 = 0) (hb : 256 * (t.val - 1) + 256 ≤ 4096)
    (ih : Leaves (at1 m c) (256 * (t.val - 1)) hb (outsAt0 m c (t.val - 1) (lt_of_le_of_lt (Nat.sub_le _ _) t.isLt))) :
    Leaves (at1 m c) (256 * t.val) (by have := hN t; omega) (outsAt0 m c t.val t.isLt) := by
  have hn := hN t
  have H := finds m c t
  have hz : 256 * (t.val - 1) + 256 = 256 * t.val := by omega
  rw [outsAt0_B m c t h0]
  constructor
  · intro p k
    frame_out
    exact rows H p k
  · intro k
    frame_out
    refine (sumG H _ k).trans ?_
    refine Eq.trans (congrArg (· + _) ?_) (upto_add _ (256 * t.val) 256 (by omega))
    exact (ih.dg k).trans (by rw [hz])
  · intro k
    frame_out
    refine (sumC H _ k).trans ?_
    refine Eq.trans (congrArg (· + _) ?_) (upto_add _ (256 * t.val) 256 (by omega))
    exact (ih.dsc k).trans (by rw [hz])
  · intro k
    frame_out
    refine (sumH H _ k).trans ?_
    refine Eq.trans (congrArg (· + _) ?_) (upto_add _ (256 * t.val) 256 (by omega))
    exact (ih.dsh k).trans (by rw [hz])

/-- By induction on the point. -/
theorem leaves : ∀ (n : ℕ) (hn : n < cfg0.N), Leaves (at1 m c) (256 * n) (by have := hN ⟨n, hn⟩; dsimp only at this; omega) (outsAt0 m c n hn)
  | 0, hn => leaves_A m c ⟨0, hn⟩ rfl
  | n + 1, hn => by
    have h8 := hN ⟨n + 1, hn⟩
    dsimp only at h8
    exact leaves_B m c ⟨n + 1, hn⟩ (by dsimp only; omega) (by dsimp only; omega) (leaves n (Nat.lt_of_succ_lt hn))

theorem final5 : (dats m 0 c).arrAt 5 cfg0.N = (at1 m c).dxArr := by
  refine (dats m 0 c).arrAt_eq_of_covers 5 _ (by decide +kernel) fun t hf y => ?_
  have hn := hN t
  obtain ⟨-, -, -, -, -, ⟨e0, e1⟩, -⟩ := idx t
  obtain ⟨p, q, rfl⟩ : ∃ (p : Fin 256) (q : Fin 2048), y = ix2 p q := ⟨y 0, y 1, eq_ix2 y⟩
  rw [after0_5]
  refine ((leaves m c t.val t.isLt).dx p q).trans ?_
  exact congrArg₂ (at1 m c).dx (Fin.ext (by blk_simp [e0, Nat.mul_comm])) (Fin.ext (by blk_simp [e1]))

theorem final6 : (dats m 0 c).arrAt 6 cfg0.N = (at1 m c).dgArr := by
  refine (dats m 0 c).arrAt_eq_of_covers 6 _ (by decide +kernel) fun t hf y => ?_
  have hn := hN t
  have hl : t.val % 16 = 15 := (flush0_6 t).mp hf
  obtain ⟨-, -, -, -, -, -, ⟨e0, e1⟩, -⟩ := idx t
  obtain ⟨p, q, rfl⟩ : ∃ (p : Fin 1) (q : Fin 2048), y = ix2 p q := ⟨y 0, y 1, eq_ix2 y⟩
  obtain rfl : p = 0 := Subsingleton.elim _ _
  rw [after0_6]
  refine ((leaves m c t.val t.isLt).dg q).trans ?_
  rw [show 256 * t.val + 256 = 4096 by omega, upto_all]
  exact congrArg (fun k => ∑ i, (at1 m c).dg k i) (Fin.ext (by blk_simp [e1]))

theorem final7 : (dats m 0 c).arrAt 7 cfg0.N = (at1 m c).dscArr := by
  refine (dats m 0 c).arrAt_eq_of_covers 7 _ (by decide +kernel) fun t hf y => ?_
  have hn := hN t
  have hl : t.val % 16 = 15 := (flush0_7 t).mp hf
  obtain ⟨-, -, -, -, -, -, -, ⟨e0, e1⟩, -⟩ := idx t
  obtain ⟨p, q, rfl⟩ : ∃ (p : Fin 1) (q : Fin 2048), y = ix2 p q := ⟨y 0, y 1, eq_ix2 y⟩
  obtain rfl : p = 0 := Subsingleton.elim _ _
  rw [after0_7]
  refine ((leaves m c t.val t.isLt).dsc q).trans ?_
  rw [show 256 * t.val + 256 = 4096 by omega, upto_all]
  exact congrArg (fun k => ∑ i, (at1 m c).dsc k i) (Fin.ext (by blk_simp [e1]))

theorem final8 : (dats m 0 c).arrAt 8 cfg0.N = (at1 m c).dshArr := by
  refine (dats m 0 c).arrAt_eq_of_covers 8 _ (by decide +kernel) fun t hf y => ?_
  have hn := hN t
  have hl : t.val % 16 = 15 := (flush0_8 t).mp hf
  obtain ⟨-, -, -, -, -, -, -, -, e0, e1⟩ := idx t
  obtain ⟨p, q, rfl⟩ : ∃ (p : Fin 1) (q : Fin 2048), y = ix2 p q := ⟨y 0, y 1, eq_ix2 y⟩
  obtain rfl : p = 0 := Subsingleton.elim _ _
  rw [after0_8]
  refine ((leaves m c t.val t.isLt).dsh q).trans ?_
  rw [show 256 * t.val + 256 = 4096 by omega, upto_all]
  exact congrArg (fun k => ∑ i, (at1 m c).dsh k i) (Fin.ext (by blk_simp [e1]))

end Kernel

section Reference

open Cert.RefModBwdIdeal Cert.RefModBwdIdeal.Read

variable (a0 a1 : FVec Ideal ⟨2, ![4096, 2048]⟩ .f32) (a2 : FVec Ideal ⟨1, ![2048]⟩ .f32) (a3 : FVec Ideal ⟨2, ![1, 2048]⟩ .f32) (a4 : FVec Ideal ⟨2, ![4096, 2048]⟩ .f32)

/-- The mean square, with the small number. -/
theorem r7 (i : Fin 4096) : val_main_v7 (F := Ideal) a1 (ix2 i 0) = Ideal.div (∑ k, row a1 i k * row a1 i k) len + eps := by
  pointwise [val_main_v7, val_main_v6, val_main_v5, val_main_v4, val_main_v3, val_main_v2, val_main_v1, val_main_cst_0, val_main_cst_1, val_main_cst_2]
  rfl

theorem r8 (i : Fin 4096) : val_main_v8 (F := Ideal) a1 (ix2 i 0) = rs len (row a1 i) := by
  pointwise [val_main_v8]
  rw [r7]
  rfl

theorem r13 (i : Fin 4096) (k : Fin 2048) : val_main_v13 (F := Ideal) a1 (ix2 i k) = row a1 i k * rs len (row a1 i) := by
  pointwise [val_main_v13, val_main_v12]
  rw [r8]
  rfl

/-- A reshape that changes nothing. -/
theorem r23 (i : Fin 4096) (k : Fin 2048) : val_main_v23 (F := Ideal) a0 (ix2 i k) = a0 (ix2 i k) := by
  pointwise [val_main_v23]

theorem r30 (i : Fin 4096) (k : Fin 2048) : val_main_v30 (F := Ideal) a0 a3 (ix2 i k) = (args a0 a1 a2 a3 a4).dn i k := by
  pointwise [val_main_v30, val_main_v29, val_main_v18, val_main_v17, val_main_cst_4]
  rw [r23]
  rfl

theorem r25 : val_main_v25 (F := Ideal) a0 = (args a0 a1 a2 a3 a4).dshArr := by
  funext y
  obtain ⟨p, k, rfl⟩ : ∃ (p : Fin 1) (k : Fin 2048), y = ix2 p k := ⟨y 0, y 1, eq_ix2 y⟩
  obtain rfl : p = 0 := Subsingleton.elim _ _
  pointwise [val_main_v25, val_main_v24, val_main_cst_5]
  rfl

theorem r28 : val_main_v28 (F := Ideal) a0 a1 a2 = (args a0 a1 a2 a3 a4).dscArr := by
  funext y
  obtain ⟨p, k, rfl⟩ : ∃ (p : Fin 1) (k : Fin 2048), y = ix2 p k := ⟨y 0, y 1, eq_ix2 y⟩
  obtain rfl : p = 0 := Subsingleton.elim _ _
  pointwise [val_main_v28, val_main_v27, val_main_v26, val_main_v16, val_main_v15, val_main_v14, val_main_cst_6]
  simp only [r13, r23]
  exact Finset.sum_congr rfl fun i _ => mul_comm (row a1 i k * rs len (row a1 i) * a2 (ix1 k)) (row a0 i k)

theorem rG : val_main_v52 (F := Ideal) a0 a1 a3 = (args a0 a1 a2 a3 a4).dgArr := by
  funext y
  obtain ⟨p, k, rfl⟩ : ∃ (p : Fin 1) (k : Fin 2048), y = ix2 p k := ⟨y 0, y 1, eq_ix2 y⟩
  obtain rfl : p = 0 := Subsingleton.elim _ _
  pointwise [val_main_v52, val_main_v36, val_main_v33, val_main_v32, val_main_v31, val_main_cst_7, val_main_cst_8]
  simp only [Fin.sum_univ_one, r13, r30 a0 a1 a2 a3 a4]
  exact Finset.sum_congr rfl fun i _ => mul_comm (row a1 i k * rs len (row a1 i)) ((args a0 a1 a2 a3 a4).dn i k)

theorem r35 (i : Fin 4096) (k : Fin 2048) : val_main_v35 (F := Ideal) a0 a2 a3 (ix2 i k) = (args a0 a1 a2 a3 a4).dn i k * (args a0 a1 a2 a3 a4).g k := by
  pointwise [val_main_v35, val_main_v34, val_main_v14]
  rw [r30 a0 a1 a2 a3 a4]
  rfl

theorem r47 (i : Fin 4096) (k : Fin 2048) : val_main_v47 (F := Ideal) a0 a1 a2 a3 (ix2 i k)
    = thru len (row a1 i) (fun q => (args a0 a1 a2 a3 a4).dn i q * (args a0 a1 a2 a3 a4).g q) := by
  pointwise [val_main_v47, val_main_v46, val_main_v45, val_main_v44, val_main_v43, val_main_v39, val_main_v38, val_main_v37, val_main_v11, val_main_v10, val_main_v9, val_main_cst_3, val_main_cst_9, val_main_cst_10, val_main_cst_11]
  simp only [Fin.sum_univ_one, r7, r8, r35 a0 a1 a2 a3 a4]
  rfl

theorem r51 (i : Fin 4096) (k : Fin 2048) : val_main_v51 (F := Ideal) a0 a1 a2 a3 a4 (ix2 i k) = (args a0 a1 a2 a3 a4).dx i k := by
  refine Eq.trans ?_ (congrArg (· + row a4 i k) (ref_len (row a1 i) (fun q => (args a0 a1 a2 a3 a4).dn i q * (args a0 a1 a2 a3 a4).g q) k))
  pointwise [val_main_v51, val_main_v50, val_main_v49, val_main_v48, val_main_v42, val_main_v41, val_main_v40]
  rw [r47 a0 a1 a2 a3 a4, r8, r35 a0 a1 a2 a3 a4]
  show row a4 i k + _ + _ + _ = _
  rw [add_assoc, add_assoc, add_comm, add_assoc]
  unfold ref
  rw [add_assoc, add_assoc, add_assoc]
  rfl

theorem r51' : val_main_v51 (F := Ideal) a0 a1 a2 a3 a4 = (args a0 a1 a2 a3 a4).dxArr := by
  funext y
  obtain ⟨i, k, rfl⟩ : ∃ (i : Fin 4096) (k : Fin 2048), y = ix2 i k := ⟨y 0, y 1, eq_ix2 y⟩
  exact r51 a0 a1 a2 a3 a4 i k

end Reference

/-- The reference runs, keeps its arguments and leaves every counter at zero. -/
theorem frame_ri : Cert.quiescent_RefModBwdIdeal := fun m ρ _ =>
  (θ_run Cert.RefModBwdIdeal.defs _ _).mono (fun r h => ⟨fun c => (h c).2.2.2.2, sem_eq_zero_of_no_sems (by decide) r.2⟩)
    (Cert.RefModBwdIdeal.Value.run (F := Ideal) m ρ)

theorem algebraic : Cert.algebraic_ModBwdIdeal_RefModBwdIdeal := by
  intro m g m' g' _ hagree
  refine ⟨fun c => (at1 m c).dxArr, fun c => (at1 m c).dgArr, fun c => (at1 m c).dscArr, fun c => (at1 m c).dshArr, ?_, ?_⟩
  · exact (θ_run Cert.ModBwdIdeal.defs _ _).mono (fun _ h c => ⟨(h c).1.trans (final5 m c), (h c).2.1.trans (final6 m c), (h c).2.2.1.trans (final7 m c), (h c).2.2.2.1.trans (final8 m c),
      (h c).2.2.2.2⟩) (Cert.ModBwdIdeal.Value.run_blocks (F := Ideal) m g)
  · refine (θ_run Cert.RefModBwdIdeal.defs _ _).mono (fun _ h c => ?_) (Cert.RefModBwdIdeal.Value.run (F := Ideal) m' g')
    obtain ⟨h0, h1, h2, h3, h4⟩ := hagree c
    have e1 : args (m' ((c.tc : Thread Cert.RefModBwdIdeal.nD Cert.RefModBwdIdeal.τ).loc Cert.RefModBwdIdeal.main_arg0))
        (m' ((c.tc : Thread Cert.RefModBwdIdeal.nD Cert.RefModBwdIdeal.τ).loc Cert.RefModBwdIdeal.main_arg1))
        (m' ((c.tc : Thread Cert.RefModBwdIdeal.nD Cert.RefModBwdIdeal.τ).loc Cert.RefModBwdIdeal.main_arg2))
        (m' ((c.tc : Thread Cert.RefModBwdIdeal.nD Cert.RefModBwdIdeal.τ).loc Cert.RefModBwdIdeal.main_arg3))
        (m' ((c.tc : Thread Cert.RefModBwdIdeal.nD Cert.RefModBwdIdeal.τ).loc Cert.RefModBwdIdeal.main_arg4)) = at1 m c := by
      unfold at1
      rw [h0, h1, h2, h3, h4]
    exact ⟨(h c).1.trans ((Cert.RefModBwdIdeal.Read.val_main_v51_eq m' c).trans ((r51' _ _ _ _ _).trans (congrArg Mod.dxArr e1))),
      (h c).2.1.trans ((Cert.RefModBwdIdeal.Read.val_main_v52_eq _ _ _).trans ((rG _ _ _ _ _).trans (congrArg Mod.dgArr e1))),
      (h c).2.2.1.trans ((Cert.RefModBwdIdeal.Read.val_main_v28_eq _ _ _).trans ((r28 _ _ _ _ _).trans (congrArg Mod.dscArr e1))),
      (h c).2.2.2.1.trans ((Cert.RefModBwdIdeal.Read.val_main_v25_eq _).trans ((r25 _ _ _ _ _).trans (congrArg Mod.dshArr e1))),
      (h c).2.2.2.2⟩

end Cert.Norm.ModBwd
-- ==== Proof.ModResBwd.lean ====
/- The gradient of the modulated normalisation, and of the residual step before it in the same call: every point of the grid works on 256 rows; the sums over all
   rows are kept from one point to the next. -/
module

public import proofs.«01_k».proof.Defs
public import proofs.«01_k».proof.Proof.NormSpec
public import proofs.«01_k».proof.Proof.Gen.ModResBwdIdeal.Frame
public import proofs.«01_k».proof.Proof.Gen.ModResBwdIdeal.Value
public import proofs.«01_k».proof.Proof.Gen.RefModResBwdIdeal.Run
public import proofs.«01_k».proof.Proof.Gen.RefModResBwdIdeal.Read
public import Idealize.ShloMosaic.Lib.Pipeline.ValueKit
public import Idealize.ShloMosaic.Lib.Pointwise
public import Idealize.ShloMosaic.Adequacy

@[expose] public section

noncomputable section

namespace Cert.Norm.ModResBwd

open Idealize.ShloMosaic Idealize.ShloMosaic.TcCoe Idealize.SL.Sem

set_option maxRecDepth 16384

/-- The modulated normalisation's arguments, from the arrays. -/
def args (a0 a1 : FVec Ideal ⟨2, ![4096, 2048]⟩ .f32) (a2 : FVec Ideal ⟨1, ![2048]⟩ .f32) (a3 : FVec Ideal ⟨2, ![1, 2048]⟩ .f32) (a4 : FVec Ideal ⟨2, ![4096, 2048]⟩ .f32) : Mod :=
  ⟨row a0, row a1, fun k => a2 (ix1 k), fun k => a3 (ix2 0 k), row a4⟩

/-- The residual step's: it starts from the gradient that the modulated normalisation leaves. -/
def args2 (a0 a1 : FVec Ideal ⟨2, ![4096, 2048]⟩ .f32) (a2 : FVec Ideal ⟨1, ![2048]⟩ .f32) (a3 : FVec Ideal ⟨2, ![1, 2048]⟩ .f32) (a4 a5 : FVec Ideal ⟨2, ![4096, 2048]⟩ .f32)
    (a6 : FVec Ideal ⟨1, ![2048]⟩ .f32) (a7 : FVec Ideal ⟨2, ![1, 2048]⟩ .f32) : Res :=
  ⟨(args a0 a1 a2 a3 a4).dx, row a5, fun k => a6 (ix1 k), fun k => a7 (ix2 0 k)⟩

section Kernel

open Cert.ModResBwdIdeal Cert.ModResBwdIdeal.Gen

/-- What the windows hold at a point whose first row is row `R`. -/
structure Finds (M : Mod) (A : Res) (R : ℕ) (hR : R + 256 ≤ 4096) (x0 : Vec Ideal S256x2048 .f32) (x1 : Vec Ideal S256x2048 .f32) (x2 : Vec Ideal S1x2048 .f32) (x3 : Vec Ideal S1x2048 .f32) (x4 : Vec Ideal S256x2048 .f32) (x5 : Vec Ideal S256x2048 .f32) (x6 : Vec Ideal S1x2048 .f32) (x7 : Vec Ideal S1x2048 .f32) : Prop where
  h0 : ∀ (p : Fin 256) (k : Fin 2048), x0 (ix2 p k) = M.D ⟨R + p, by omega⟩ k
  h1 : ∀ (p : Fin 256) (k : Fin 2048), x1 (ix2 p k) = M.X ⟨R + p, by omega⟩ k
  h2 : ∀ k : Fin 2048, x2 (ix2 0 k) = M.g k
  h3 : ∀ k : Fin 2048, x3 (ix2 0 k) = M.sc k
  h4 : ∀ (p : Fin 256) (k : Fin 2048), x4 (ix2 p k) = M.P ⟨R + p, by omega⟩ k
  h5 : ∀ (p : Fin 256) (k : Fin 2048), x5 (ix2 p k) = A.Y ⟨R + p, by omega⟩ k
  h6 : ∀ k : Fin 2048, x6 (ix2 0 k) = A.g k
  h7 : ∀ k : Fin 2048, x7 (ix2 0 k) = A.gt k
  hD : A.D = M.dx

section Body

variable {M : Mod} {A : Res} {R : ℕ} {hR : R + 256 ≤ 4096} {x0 : Vec Ideal S256x2048 .f32} {x1 : Vec Ideal S256x2048 .f32} {x2 : Vec Ideal S1x2048 .f32} {x3 : Vec Ideal S1x2048 .f32} {x4 : Vec Ideal S256x2048 .f32} {x5 : Vec Ideal S256x2048 .f32} {x6 : Vec Ideal S1x2048 .f32} {x7 : Vec Ideal S1x2048 .f32}
  (H : Finds M A R hR x0 x1 x2 x3 x4 x5 x6 x7)
include H

theorem root (p : Fin 256) : k0_pay11 x1 (ix2 p 0) = rs len (M.X ⟨R + p, by omega⟩) := by
  pointwise [k0_pay11]
  simp only [H.h1]
  rfl

theorem unit (p : Fin 256) (k : Fin 2048) : k0_pay12 x1 (ix2 p k) = M.X ⟨R + p, by omega⟩ k * rs len (M.X ⟨R + p, by omega⟩) := by
  pointwise [k0_pay12]
  rw [root H, H.h1]

theorem grad (p : Fin 256) (k : Fin 2048) : k0_pay13 x0 x3 (ix2 p k) = M.dn ⟨R + p, by omega⟩ k := by
  pointwise [k0_pay13]
  rw [H.h0, H.h3]
  rfl

theorem sumH (s : Vec Ideal S1x2048 .f32) (k : Fin 2048) :
    k0_pay14 x0 s (ix2 0 k) = s (ix2 0 k) + ∑ p : Fin 256, M.dsh k ⟨R + p, by omega⟩ := by
  pointwise [k0_pay14]
  simp only [H.h0]
  rfl

theorem sumC (s : Vec Ideal S1x2048 .f32) (k : Fin 2048) :
    k0_pay17 (k0_pay15 s) (k0_pay16 x0 x1 x2) (ix2 0 k) = s (ix2 0 k) + ∑ p : Fin 256, M.dsc k ⟨R + p, by omega⟩ := by
  pointwise [k0_pay17, k0_pay15, k0_pay16, k0_pay10]
  simp only [unit H, H.h0, H.h2]
  rfl

theorem sumG (s : Vec Ideal S1x2048 .f32) (k : Fin 2048) :
    k0_pay18 (k0_pay12 x1) (k0_pay13 x0 x3) s (ix2 0 k) = s (ix2 0 k) + ∑ p : Fin 256, M.dg k ⟨R + p, by omega⟩ := by
  pointwise [k0_pay18]
  simp only [unit H, grad H]
  rfl

theorem rows (p : Fin 256) (k : Fin 2048) :
    k0_pay19 (k0_pay10 x2) (k0_pay11 x1) (k0_pay12 x1) (k0_pay13 x0 x3) x4 (ix2 p k) = M.dx ⟨R + p, by omega⟩ k := by
  pointwise [k0_pay19, k0_pay10]
  simp only [unit H, grad H, root H, H.h2, H.h4]
  rfl

/-- The second normalisation, from the rows' gradient just found. -/
theorem root2 (p : Fin 256) : k0_pay21 x5 (ix2 p 0) = rs len (A.Y ⟨R + p, by omega⟩) := by
  pointwise [k0_pay21]
  simp only [H.h5]
  rfl

theorem unit2 (p : Fin 256) (k : Fin 2048) : k0_pay22 x5 (ix2 p k) = A.Y ⟨R + p, by omega⟩ k * rs len (A.Y ⟨R + p, by omega⟩) := by
  pointwise [k0_pay22]
  rw [root2 H, H.h5]

theorem grad2 (d : Vec Ideal S256x2048 .f32) (hd : ∀ (p : Fin 256) (k : Fin 2048), d (ix2 p k) = A.D ⟨R + p, by omega⟩ k)
    (p : Fin 256) (k : Fin 2048) : k0_pay1 d x7 (ix2 p k) = A.dn ⟨R + p, by omega⟩ k := by
  pointwise [k0_pay1]
  rw [hd, H.h7]
  rfl

theorem sumT2 (d : Vec Ideal S256x2048 .f32) (hd : ∀ (p : Fin 256) (k : Fin 2048), d (ix2 p k) = A.D ⟨R + p, by omega⟩ k)
    (s : Vec Ideal S1x2048 .f32) (k : Fin 2048) :
    k0_pay2 d (k0_pay20 x6) (k0_pay22 x5) s (ix2 0 k) = s (ix2 0 k) + ∑ p : Fin 256, A.dgt k ⟨R + p, by omega⟩ := by
  pointwise [k0_pay2, k0_pay20]
  simp only [unit2 H, hd, H.h6]
  rfl

theorem sumG2 (d : Vec Ideal S256x2048 .f32) (hd : ∀ (p : Fin 256) (k : Fin 2048), d (ix2 p k) = A.D ⟨R + p, by omega⟩ k)
    (s : Vec Ideal S1x2048 .f32) (k : Fin 2048) :
    k0_pay3 d (k0_pay22 x5) x7 s (ix2 0 k) = s (ix2 0 k) + ∑ p : Fin 256, A.dg k ⟨R + p, by omega⟩ := by
  pointwise [k0_pay3]
  simp only [unit2 H, grad2 H d hd]
  rfl

theorem rows2 (d : Vec Ideal S256x2048 .f32) (hd : ∀ (p : Fin 256) (k : Fin 2048), d (ix2 p k) = A.D ⟨R + p, by omega⟩ k)
    (p : Fin 256) (k : Fin 2048) :
    k0_pay4 d (k0_pay20 x6) (k0_pay21 x5) (k0_pay22 x5) x7 (ix2 p k) = A.dy ⟨R + p, by omega⟩ k := by
  pointwise [k0_pay4, k0_pay20]
  simp only [unit2 H, grad2 H d hd, root2 H, H.h6]
  rfl

theorem link (p : Fin 256) (k : Fin 2048) : k0_pay19 (k0_pay10 x2) (k0_pay11 x1) (k0_pay12 x1) (k0_pay13 x0 x3) x4 (ix2 p k) = A.D ⟨R + p, by omega⟩ k := by
  rw [rows H, H.hD]

end Body

theorem zero5 (x : S1x2048.Idx) : k0_pay5 (F := Ideal) x = (0 : EReal) := by
  pointwise [k0_pay5]
theorem zero6 (x : S1x2048.Idx) : k0_pay6 (F := Ideal) x = (0 : EReal) := by
  pointwise [k0_pay6]
theorem zero7 (x : S1x2048.Idx) : k0_pay7 (F := Ideal) x = (0 : EReal) := by
  pointwise [k0_pay7]
theorem zero8 (x : S1x2048.Idx) : k0_pay8 (F := Ideal) x = (0 : EReal) := by
  pointwise [k0_pay8]
theorem zero9 (x : S1x2048.Idx) : k0_pay9 (F := Ideal) x = (0 : EReal) := by
  pointwise [k0_pay9]

/-- Where the windows' blocks lie. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = t.val ∧ win0_12.index t 1 = 0)
    ∧ (win0_13.index t 0 = 0 ∧ win0_13.index t 1 = 0)
    ∧ (win0_14.index t 0 = 0 ∧ win0_14.index t 1 = 0) :=
  (by decide +kernel : ∀ t : Fin grid0.N, _)

variable (m : (ℓ : Loc nD τ sig) → Buf (Elt Ideal) ℓ) (c : Dev nD)

theorem hN (t : Fin cfg0.N) : t.val < 16 := lt_of_lt_of_eq t.isLt N_0

/-- The arguments of core `c`. -/
def at1 : Mod := args (m ((c : Thread nD τ).loc main_arg0)) (m ((c : Thread nD τ).loc main_arg1)) (m ((c : Thread nD τ).loc main_arg2)) (m ((c : Thread nD τ).loc main_arg3)) (m ((c : Thread nD τ).loc main_arg4))

def at2 : Res := args2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem finds (t : Fin cfg0.N) : Finds (at1 m c) (at2 m c) (256 * t.val) (by have := hN t; omega) (iblk m c 0 t) (iblk m c 1 t) (iblk m c 2 t) (iblk m c 3 t) (iblk m c 4 t) (iblk m c 5 t) (iblk m c 6 t) (iblk m c 7 t) where
  h0 p k := by
    have hn := hN t
    obtain ⟨⟨e0, e1⟩, -⟩ := idx t
    unfold at1 args row
    blk_ext [iblk, V_main_arg0, e0, e1]
  h1 p k := by
    have hn := hN t
    obtain ⟨-, ⟨e0, e1⟩, -⟩ := idx t
    unfold at1 args row
    blk_ext [iblk, V_main_arg1, e0, e1]
  h2 k := by
    have hn := hN t
    obtain ⟨-, -, ⟨e0, e1⟩, -⟩ := idx t
    unfold at1 args
    blk_ext! [iblk, V, e0, e1]
  h3 k := by
    have hn := hN t
    obtain ⟨-, -, -, ⟨e0, e1⟩, -⟩ := idx t
    unfold at1 args
    blk_ext [iblk, V_main_arg3, e0, e1]
  h4 p k := by
    have hn := hN t
    obtain ⟨-, -, -, -, ⟨e0, e1⟩, -⟩ := idx t
    unfold at1 args row
    blk_ext [iblk, V_main_arg4, e0, e1]
  h5 p k := by
    have hn := hN t
    obtain ⟨-, -, -, -, -, ⟨e0, e1⟩, -⟩ := idx t
    unfold at2 args2 row
    blk_ext [iblk, V_main_arg5, e0, e1]
  h6 k := by
    have hn := hN t
    obtain ⟨-, -, -, -, -, -, ⟨e0, e1⟩, -⟩ := idx t
    unfold at2 args2
    blk_ext! [iblk, V, e0, e1]
  h7 k := by
    have hn := hN t
    obtain ⟨-, -, -, -, -, -, -, ⟨e0, e1⟩, -⟩ := idx t
    unfold at2 args2
    blk_ext [iblk, V_main_arg7, e0, e1]
  hD := rfl

/-- What a point leaves in the buffers. -/
structure Leaves (M : Mod) (A : Res) (R : ℕ) (hR : R + 256 ≤ 4096) (o : Vec Ideal S256x2048 .f32 × Vec Ideal S1x2048 .f32 × Vec Ideal S1x2048 .f32 × Vec Ideal S1x2048 .f32 × Vec Ideal S256x2048 .bf16 × Vec Ideal S1x2048 .f32 × Vec Ideal S1x2048 .f32) : Prop where
  dx : ∀ (p : Fin 256) (k : Fin 2048), o.1 (ix2 p k) = M.dx ⟨R + p, by omega⟩ k
  dg : ∀ k : Fin 2048, o.2.1 (ix2 0 k) = upto (M.dg k) (R + 256)
  dsc : ∀ k : Fin 2048, o.2.2.1 (ix2 0 k) = upto (M.dsc k) (R + 256)
  dsh : ∀ k : Fin 2048, o.2.2.2.1 (ix2 0 k) = upto (M.dsh k) (R + 256)
  dy2 : ∀ (p : Fin 256) (k : Fin 2048), o.2.2.2.2.1 (ix2 p k) = A.dy ⟨R + p, by omega⟩ k
  dg2 : ∀ k : Fin 2048, o.2.2.2.2.2.1 (ix2 0 k) = upto (A.dg k) (R + 256)
  dgt2 : ∀ k : Fin 2048, o.2.2.2.2.2.2 (ix2 0 k) = upto (A.dgt k) (R + 256)

theorem leaves_A (t : Fin cfg0.N) (h0 : t.val % 16 = 0) : Leaves (at1 m c) (at2 m c) (256 * t.val) (by have := hN t; omega) (outsAt0 m c t.val t.isLt) := by
  have hn := hN t
  have H := finds m c t
  have hz : 256 * t.val = 0 := by omega
  rw [outsAt0_A m c t h0]
  constructor
  · intro p k
    frame_out
    exact rows H p k
  · intro k
    frame_out
    refine (sumG H _ k).trans ?_
    refine Eq.trans (congrArg (· + _) ?_) (upto_start _ (256 * t.val) 256 hz (by omega))
    exact zero5 _
  · intro k
    frame_out
    refine (sumC H _ k).trans ?_
    refine Eq.trans (congrArg (· + _) ?_) (upto_start _ (256 * t.val) 256 hz (by omega))
    exact zero6 _
  · intro k
    frame_out
    refine (sumH H _ k).trans ?_
    refine Eq.trans (congrArg (· + _) ?_) (upto_start _ (256 * t.val) 256 hz (by omega))
    exact zero7 _
  · intro p k
    frame_out
    exact rows2 H _ (link H) p k
  · intro k
    frame_out
    refine (sumG2 H _ (link H) _ k).trans ?_
    refine Eq.trans (congrArg (· + _) ?_) (upto_start _ (256 * t.val) 256 hz (by omega))
    exact zero8 _
  · intro k
    frame_out
    refine (sumT2 H _ (link H) _ k).trans ?_
    refine Eq.trans (congrArg (· + _) ?_) (upto_start _ (256 * t.val) 256 hz (by omega))
    exact zero9 _

theorem leaves_B (t : Fin cfg0.N) (h0 : ¬t.val % 16 = 0) (hb : 256 * (t.val - 1) + 256 ≤ 4096)
    (ih : Leaves (at1 m c) (at2 m c) (256 * (t.val - 1)) hb (outsAt0 m c (t.val - 1) (lt_of_le_of_lt (Nat.sub_le _ _) t.isLt))) :
    Leaves (at1 m c) (at2 m c) (256 * t.val) (by have := hN t; omega) (outsAt0 m c t.val t.isLt) := by
  have hn := hN t
  have H := finds m c t
  have hz : 256 * (t.val - 1) + 256 = 256 * t.val := by omega
  rw [outsAt0_B m c t h0]
  constructor
  · intro p k
    frame_out
    exact rows H p k
  · intro k
    frame_out
    refine (sumG H _ k).trans ?_
    refine Eq.trans (congrArg (· + _) ?_) (upto_add _ (256 * t.val) 256 (by omega))
    exact (ih.dg k).trans (by rw [hz])
  · intro k
    frame_out
    refine (sumC H _ k).trans ?_
    refine Eq.trans (congrArg (· + _) ?_) (upto_add _ (256 * t.val) 256 (by omega))
    exact (ih.dsc k).trans (by rw [hz])
  · intro k
    frame_out
    refine (sumH H _ k).trans ?_
    refine Eq.trans (congrArg (· + _) ?_) (upto_add _ (256 * t.val) 256 (by omega))
    exact (ih.dsh k).trans (by rw [hz])
  · intro p k
    frame_out
    exact rows2 H _ (link H) p k
  · intro k
    frame_out
    refine (sumG2 H _ (link H) _ k).trans ?_
    refine Eq.trans (congrArg (· + _) ?_) (upto_add _ (256 * t.val) 256 (by omega))
    exact (ih.dg2 k).trans (by rw [hz])
  · intro k
    frame_out
    refine (sumT2 H _ (link H) _ k).trans ?_
    refine Eq.trans (congrArg (· + _) ?_) (upto_add _ (256 * t.val) 256 (by omega))
    exact (ih.dgt2 k).trans (by rw [hz])

/-- By induction on the point. -/
theorem leaves : ∀ (n : ℕ) (hn : n < cfg0.N), Leaves (at1 m c) (at2 m c) (256 * n) (by have := hN ⟨n, hn⟩; dsimp only at this; omega) (outsAt0 m c n hn)
  | 0, hn => leaves_A m c ⟨0, hn⟩ rfl
  | n + 1, hn => by
    have h8 := hN ⟨n + 1, hn⟩
    dsimp only at h8
    exact leaves_B m c ⟨n + 1, hn⟩ (by dsimp only; omega) (by dsimp only; omega) (leaves n (Nat.lt_of_succ_lt hn))

theorem final8 : (dats m 0 c).arrAt 8 cfg0.N = (at1 m c).dxArr := by
  refine (dats m 0 c).arrAt_eq_of_covers 8 _ (by decide +kernel) fun t hf y => ?_
  have hn := hN t
  obtain ⟨-, -, -, -, -, -, -, -, ⟨e0, e1⟩, -⟩ := idx t
  obtain ⟨p, q, rfl⟩ : ∃ (p : Fin 256) (q : Fin 2048), y = ix2 p q := ⟨y 0, y 1, eq_ix2 y⟩
  rw [after0_8]
  refine ((leaves m c t.val t.isLt).dx p q).trans ?_
  exact congrArg₂ (at1 m c).dx (Fin.ext (by blk_simp [e0, Nat.mul_comm])) (Fin.ext (by blk_simp [e1]))

theorem final9 : (dats m 0 c).arrAt 9 cfg0.N = (at1 m c).dgArr := by
  refine (dats m 0 c).arrAt_eq_of_covers 9 _ (by decide +kernel) fun t hf y => ?_
  have hn := hN t
  have hl : t.val % 16 = 15 := (flush0_9 t).mp hf
  obtain ⟨-, -, -, -, -, -, -, -, -, ⟨e0, e1⟩, -⟩ := idx t
  obtain ⟨p, q, rfl⟩ : ∃ (p : Fin 1) (q : Fin 2048), y = ix2 p q := ⟨y 0, y 1, eq_ix2 y⟩
  obtain rfl : p = 0 := Subsingleton.elim _ _
  rw [after0_9]
  refine ((leaves m c t.val t.isLt).dg q).trans ?_
  rw [show 256 * t.val + 256 = 4096 by omega, upto_all]
  exact congrArg (fun k => ∑ i, (at1 m c).dg k i) (Fin.ext (by blk_simp [e1]))

theorem final10 : (dats m 0 c).arrAt 10 cfg0.N = (at1 m c).dscArr := by
  refine (dats m 0 c).arrAt_eq_of_covers 10 _ (by decide +kernel) fun t hf y => ?_
  have hn := hN t
  have hl : t.val % 16 = 15 := (flush0_10 t).mp hf
  obtain ⟨-, -, -, -, -, -, -, -, -, -, ⟨e0, e1⟩, -⟩ := idx t
  obtain ⟨p, q, rfl⟩ : ∃ (p : Fin 1) (q : Fin 2048), y = ix2 p q := ⟨y 0, y 1, eq_ix2 y⟩
  obtain rfl : p = 0 := Subsingleton.elim _ _
  rw [after0_10]
  refine ((leaves m c t.val t.isLt).dsc q).trans ?_
  rw [show 256 * t.val + 256 = 4096 by omega, upto_all]
  exact congrArg (fun k => ∑ i, (at1 m c).dsc k i) (Fin.ext (by blk_simp [e1]))

theorem final11 : (dats m 0 c).arrAt 11 cfg0.N = (at1 m c).dshArr := by
  refine (dats m 0 c).arrAt_eq_of_covers 11 _ (by decide +kernel) fun t hf y => ?_
  have hn := hN t
  have hl : t.val % 16 = 15 := (flush0_11 t).mp hf
  obtain ⟨-, -, -, -, -, -, -, -, -, -, -, ⟨e0, e1⟩, -⟩ := idx t
  obtain ⟨p, q, rfl⟩ : ∃ (p : Fin 1) (q : Fin 2048), y = ix2 p q := ⟨y 0, y 1, eq_ix2 y⟩
  obtain rfl : p = 0 := Subsingleton.elim _ _
  rw [after0_11]
  refine ((leaves m c t.val t.isLt).dsh q).trans ?_
  rw [show 256 * t.val + 256 = 4096 by omega, upto_all]
  exact congrArg (fun k => ∑ i, (at1 m c).dsh k i) (Fin.ext (by blk_simp [e1]))

theorem final12 : (dats m 0 c).arrAt 12 cfg0.N = (at2 m c).dyArr := by
  refine (dats m 0 c).arrAt_eq_of_covers 12 _ (by decide +kernel) fun t hf y => ?_
  have hn := hN t
  obtain ⟨-, -, -, -, -, -, -, -, -, -, -, -, ⟨e0, e1⟩, -⟩ := idx t
  obtain ⟨p, q, rfl⟩ : ∃ (p : Fin 256) (q : Fin 2048), y = ix2 p q := ⟨y 0, y 1, eq_ix2 y⟩
  rw [after0_12]
  refine ((leaves m c t.val t.isLt).dy2 p q).trans ?_
  exact congrArg₂ (at2 m c).dy (Fin.ext (by blk_simp [e0, Nat.mul_comm])) (Fin.ext (by blk_simp [e1]))

theorem final13 : (dats m 0 c).arrAt 13 cfg0.N = (at2 m c).dgArr := by
  refine (dats m 0 c).arrAt_eq_of_covers 13 _ (by decide +kernel) fun t hf y => ?_
  have hn := hN t
  have hl : t.val % 16 = 15 := (flush0_13 t).mp hf
  obtain ⟨-, -, -, -, -, -, -, -, -, -, -, -, -, ⟨e0, e1⟩, -⟩ := idx t
  obtain ⟨p, q, rfl⟩ : ∃ (p : Fin 1) (q : Fin 2048), y = ix2 p q := ⟨y 0, y 1, eq_ix2 y⟩
  obtain rfl : p = 0 := Subsingleton.elim _ _
  rw [after0_13]
  refine ((leaves m c t.val t.isLt).dg2 q).trans ?_
  rw [show 256 * t.val + 256 = 4096 by omega, upto_all]
  exact congrArg (fun k => ∑ i, (at2 m c).dg k i) (Fin.ext (by blk_simp [e1]))

theorem final14 : (dats m 0 c).arrAt 14 cfg0.N = (at2 m c).dgtArr := by
  refine (dats m 0 c).arrAt_eq_of_covers 14 _ (by decide +kernel) fun t hf y => ?_
  have hn := hN t
  have hl : t.val % 16 = 15 := (flush0_14 t).mp hf
  obtain ⟨-, -, -, -, -, -, -, -, -, -, -, -, -, -, e0, e1⟩ := idx t
  obtain ⟨p, q, rfl⟩ : ∃ (p : Fin 1) (q : Fin 2048), y = ix2 p q := ⟨y 0, y 1, eq_ix2 y⟩
  obtain rfl : p = 0 := Subsingleton.elim _ _
  rw [after0_14]
  refine ((leaves m c t.val t.isLt).dgt2 q).trans ?_
  rw [show 256 * t.val + 256 = 4096 by omega, upto_all]
  exact congrArg (fun k => ∑ i, (at2 m c).dgt k i) (Fin.ext (by blk_simp [e1]))

end Kernel

section Reference

open Cert.RefModResBwdIdeal Cert.RefModResBwdIdeal.Read

variable (a0 a1 : FVec Ideal ⟨2, ![4096, 2048]⟩ .f32) (a2 : FVec Ideal ⟨1, ![2048]⟩ .f32) (a3 : FVec Ideal ⟨2, ![1, 2048]⟩ .f32) (a4 : FVec Ideal ⟨2, ![4096, 2048]⟩ .f32)
  (a5 : FVec Ideal ⟨2, ![4096, 2048]⟩ .f32) (a6 : FVec Ideal ⟨1, ![2048]⟩ .f32) (a7 : FVec Ideal ⟨2, ![1, 2048]⟩ .f32)

/-- The mean square, with the small number. -/
theorem r7 (i : Fin 4096) : val_main_v7 (F := Ideal) a1 (ix2 i 0) = Ideal.div (∑ k, row a1 i k * row a1 i k) len + eps := by
  pointwise [val_main_v7, val_main_v6, val_main_v5, val_main_v4, val_main_v3, val_main_v2, val_main_v1, val_main_cst_0, val_main_cst_1, val_main_cst_2]
  rfl

theorem r8 (i : Fin 4096) : val_main_v8 (F := Ideal) a1 (ix2 i 0) = rs len (row a1 i) := by
  pointwise [val_main_v8]
  rw [r7]
  rfl

theorem r13 (i : Fin 4096) (k : Fin 2048) : val_main_v13 (F := Ideal) a1 (ix2 i k) = row a1 i k * rs len (row a1 i) := by
  pointwise [val_main_v13, val_main_v12]
  rw [r8]
  rfl

/-- A reshape that changes nothing. -/
theorem r23 (i : Fin 4096) (k : Fin 2048) : val_main_v23 (F := Ideal) a0 (ix2 i k) = a0 (ix2 i k) := by
  pointwise [val_main_v23]

theorem r30 (i : Fin 4096) (k : Fin 2048) : val_main_v30 (F := Ideal) a0 a3 (ix2 i k) = (args a0 a1 a2 a3 a4).dn i k := by
  pointwise [val_main_v30, val_main_v29, val_main_v18, val_main_v17, val_main_cst_4]
  rw [r23]
  rfl

theorem r25 : val_main_v25 (F := Ideal) a0 = (args a0 a1 a2 a3 a4).dshArr := by
  funext y
  obtain ⟨p, k, rfl⟩ : ∃ (p : Fin 1) (k : Fin 2048), y = ix2 p k := ⟨y 0, y 1, eq_ix2 y⟩
  obtain rfl : p = 0 := Subsingleton.elim _ _
  pointwise [val_main_v25, val_main_v24, val_main_cst_5]
  rfl

theorem r28 : val_main_v28 (F := Ideal) a0 a1 a2 = (args a0 a1 a2 a3 a4).dscArr := by
  funext y
  obtain ⟨p, k, rfl⟩ : ∃ (p : Fin 1) (k : Fin 2048), y = ix2 p k := ⟨y 0, y 1, eq_ix2 y⟩
  obtain rfl : p = 0 := Subsingleton.elim _ _
  pointwise [val_main_v28, val_main_v27, val_main_v26, val_main_v16, val_main_v15, val_main_v14, val_main_cst_6]
  simp only [r13, r23]
  exact Finset.sum_congr rfl fun i _ => mul_comm (row a1 i k * rs len (row a1 i) * a2 (ix1 k)) (row a0 i k)

theorem rG : val_main_v97 (F := Ideal) a0 a1 a3 = (args a0 a1 a2 a3 a4).dgArr := by
  funext y
  obtain ⟨p, k, rfl⟩ : ∃ (p : Fin 1) (k : Fin 2048), y = ix2 p k := ⟨y 0, y 1, eq_ix2 y⟩
  obtain rfl : p = 0 := Subsingleton.elim _ _
  pointwise [val_main_v97, val_main_v36, val_main_v33, val_main_v32, val_main_v31, val_main_cst_7, val_main_cst_8]
  simp only [Fin.sum_univ_one, r13, r30 a0 a1 a2 a3 a4]
  exact Finset.sum_congr rfl fun i _ => mul_comm (row a1 i k * rs len (row a1 i)) ((args a0 a1 a2 a3 a4).dn i k)

theorem r35 (i : Fin 4096) (k : Fin 2048) : val_main_v35 (F := Ideal) a0 a2 a3 (ix2 i k) = (args a0 a1 a2 a3 a4).dn i k * (args a0 a1 a2 a3 a4).g k := by
  pointwise [val_main_v35, val_main_v34, val_main_v14]
  rw [r30 a0 a1 a2 a3 a4]
  rfl

theorem r47 (i : Fin 4096) (k : Fin 2048) : val_main_v47 (F := Ideal) a0 a1 a2 a3 (ix2 i k)
    = thru len (row a1 i) (fun q => (args a0 a1 a2 a3 a4).dn i q * (args a0 a1 a2 a3 a4).g q) := by
  pointwise [val_main_v47, val_main_v46, val_main_v45, val_main_v44, val_main_v43, val_main_v39, val_main_v38, val_main_v37, val_main_v11, val_main_v10, val_main_v9, val_main_cst_3, val_main_cst_9, val_main_cst_10, val_main_cst_11]
  simp only [Fin.sum_univ_one, r7, r8, r35 a0 a1 a2 a3 a4]
  rfl

theorem r51 (i : Fin 4096) (k : Fin 2048) : val_main_v51 (F := Ideal) a0 a1 a2 a3 a4 (ix2 i k) = (args a0 a1 a2 a3 a4).dx i k := by
  refine Eq.trans ?_ (congrArg (· + row a4 i k) (ref_len (row a1 i) (fun q => (args a0 a1 a2 a3 a4).dn i q * (args a0 a1 a2 a3 a4).g q) k))
  pointwise [val_main_v51, val_main_v50, val_main_v49, val_main_v48, val_main_v42, val_main_v41, val_main_v40]
  rw [r47 a0 a1 a2 a3 a4, r8, r35 a0 a1 a2 a3 a4]
  show row a4 i k + _ + _ + _ = _
  rw [add_assoc, add_assoc, add_comm, add_assoc]
  unfold ref
  rw [add_assoc, add_assoc, add_assoc]
  rfl

theorem r51' : val_main_v51 (F := Ideal) a0 a1 a2 a3 a4 = (args a0 a1 a2 a3 a4).dxArr := by
  funext y
  obtain ⟨i, k, rfl⟩ : ∃ (i : Fin 4096) (k : Fin 2048), y = ix2 i k := ⟨y 0, y 1, eq_ix2 y⟩
  exact r51 a0 a1 a2 a3 a4 i k

/-- The second normalisation: its mean square, with the small number. -/
theorem r60 (i : Fin 4096) : val_main_v60 (F := Ideal) a5 (ix2 i 0) = Ideal.div (∑ k, row a5 i k * row a5 i k) len + eps := by
  pointwise [val_main_v60, val_main_v59, val_main_v58, val_main_v57, val_main_v56, val_main_v55, val_main_v54, val_main_cst_13, val_main_cst_14, val_main_cst_15]
  rfl

theorem r61 (i : Fin 4096) : val_main_v61 (F := Ideal) a5 (ix2 i 0) = rs len (row a5 i) := by
  pointwise [val_main_v61]
  rw [r60]
  rfl

theorem r66 (i : Fin 4096) (k : Fin 2048) : val_main_v66 (F := Ideal) a5 (ix2 i k) = row a5 i k * rs len (row a5 i) := by
  pointwise [val_main_v66, val_main_v65]
  rw [r61]
  rfl

theorem r73 (i : Fin 4096) (k : Fin 2048) : val_main_v73 (F := Ideal) a0 a1 a2 a3 a4 a7 (ix2 i k) = (args2 a0 a1 a2 a3 a4 a5 a6 a7).dn i k := by
  pointwise [val_main_v73, val_main_v72, val_main_v53, val_main_v52, val_main_cst_12]
  rw [r51 a0 a1 a2 a3 a4]
  exact mul_comm (1 + a7 (ix2 0 k) : EReal) ((args a0 a1 a2 a3 a4).dx i k)

theorem r76 : val_main_v76 (F := Ideal) a0 a1 a2 a3 a4 a5 a6 = (args2 a0 a1 a2 a3 a4 a5 a6 a7).dgtArr := by
  funext y
  obtain ⟨p, k, rfl⟩ : ∃ (p : Fin 1) (k : Fin 2048), y = ix2 p k := ⟨y 0, y 1, eq_ix2 y⟩
  obtain rfl : p = 0 := Subsingleton.elim _ _
  pointwise [val_main_v76, val_main_v75, val_main_v74, val_main_v69, val_main_v68, val_main_v67, val_main_cst_17]
  simp only [r66, r51 a0 a1 a2 a3 a4]
  rfl

theorem r99 : val_main_v99 (F := Ideal) a0 a1 a2 a3 a4 a5 a7 = (args2 a0 a1 a2 a3 a4 a5 a6 a7).dgArr := by
  funext y
  obtain ⟨p, k, rfl⟩ : ∃ (p : Fin 1) (k : Fin 2048), y = ix2 p k := ⟨y 0, y 1, eq_ix2 y⟩
  obtain rfl : p = 0 := Subsingleton.elim _ _
  pointwise [val_main_v99, val_main_v82, val_main_v79, val_main_v78, val_main_v77, val_main_cst_18, val_main_cst_19]
  simp only [Fin.sum_univ_one, r66, r73 a0 a1 a2 a3 a4 a5 a6 a7]
  exact Finset.sum_congr rfl fun i _ => mul_comm (row a5 i k * rs len (row a5 i)) ((args2 a0 a1 a2 a3 a4 a5 a6 a7).dn i k)

theorem r81 (i : Fin 4096) (k : Fin 2048) : val_main_v81 (F := Ideal) a0 a1 a2 a3 a4 a6 a7 (ix2 i k) = (args2 a0 a1 a2 a3 a4 a5 a6 a7).dn i k * (args2 a0 a1 a2 a3 a4 a5 a6 a7).g k := by
  pointwise [val_main_v81, val_main_v80, val_main_v67]
  rw [r73 a0 a1 a2 a3 a4 a5 a6 a7]
  rfl

theorem r92 (i : Fin 4096) (k : Fin 2048) : val_main_v92 (F := Ideal) a0 a1 a2 a3 a4 a5 a6 a7 (ix2 i k)
    = thru len (row a5 i) (fun q => (args2 a0 a1 a2 a3 a4 a5 a6 a7).dn i q * (args2 a0 a1 a2 a3 a4 a5 a6 a7).g q) := by
  pointwise [val_main_v92, val_main_v91, val_main_v90, val_main_v89, val_main_v88, val_main_v85, val_main_v84, val_main_v83, val_main_v64, val_main_v63, val_main_v62, val_main_cst_16, val_main_cst_20, val_main_cst_21, val_main_cst_22]
  simp only [Fin.sum_univ_one, r60, r61, r81 a0 a1 a2 a3 a4 a5 a6 a7]
  rfl

theorem r98 : val_main_v98 (F := Ideal) a0 a1 a2 a3 a4 a5 a6 a7 = (args2 a0 a1 a2 a3 a4 a5 a6 a7).dyArr := by
  funext y
  obtain ⟨i, k, rfl⟩ : ∃ (i : Fin 4096) (k : Fin 2048), y = ix2 i k := ⟨y 0, y 1, eq_ix2 y⟩
  refine Eq.trans ?_ (ref_len (row a5 i) (fun q => (args2 a0 a1 a2 a3 a4 a5 a6 a7).dn i q * (args2 a0 a1 a2 a3 a4 a5 a6 a7).g q) k)
  pointwise [val_main_v98, val_main_v96, val_main_v95, val_main_v94, val_main_v93, val_main_v87, val_main_v86]
  rw [r92, r61, r81 a0 a1 a2 a3 a4 a5 a6 a7]
  rfl

end Reference

/-- The reference runs, keeps its arguments and leaves every counter at zero. -/
theorem frame_ri : Cert.quiescent_RefModResBwdIdeal := fun m ρ _ =>
  (θ_run Cert.RefModResBwdIdeal.defs _ _).mono (fun r h => ⟨fun c => (h c).2.2.2.2.2.2.2, sem_eq_zero_of_no_sems (by decide) r.2⟩)
    (Cert.RefModResBwdIdeal.Value.run (F := Ideal) m ρ)

theorem algebraic : Cert.algebraic_ModResBwdIdeal_RefModResBwdIdeal := by
  intro m g m' g' _ hagree
  refine ⟨fun c => (at1 m c).dxArr, fun c => (at1 m c).dgArr, fun c => (at1 m c).dscArr, fun c => (at1 m c).dshArr, fun c => (at2 m c).dyArr, fun c => (at2 m c).dgArr, fun c => (at2 m c).dgtArr, ?_, ?_⟩
  · exact (θ_run Cert.ModResBwdIdeal.defs _ _).mono (fun _ h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c),
      (h c).2.2.2.2.2.2.2⟩) (Cert.ModResBwdIdeal.Value.run_blocks (F := Ideal) m g)
  · refine (θ_run Cert.RefModResBwdIdeal.defs _ _).mono (fun _ h c => ?_) (Cert.RefModResBwdIdeal.Value.run (F := Ideal) m' g')
    obtain ⟨h0, h1, h2, h3, h4, h5, h6, h7⟩ := hagree c
    have e1 : args (m' ((c.tc : Thread Cert.RefModResBwdIdeal.nD Cert.RefModResBwdIdeal.τ).loc Cert.RefModResBwdIdeal.main_arg0))
        (m' ((c.tc : Thread Cert.RefModResBwdIdeal.nD Cert.RefModResBwdIdeal.τ).loc Cert.RefModResBwdIdeal.main_arg1))
        (m' ((c.tc : Thread Cert.RefModResBwdIdeal.nD Cert.RefModResBwdIdeal.τ).loc Cert.RefModResBwdIdeal.main_arg2))
        (m' ((c.tc : Thread Cert.RefModResBwdIdeal.nD Cert.RefModResBwdIdeal.τ).loc Cert.RefModResBwdIdeal.main_arg3))
        (m' ((c.tc : Thread Cert.RefModResBwdIdeal.nD Cert.RefModResBwdIdeal.τ).loc Cert.RefModResBwdIdeal.main_arg4)) = at1 m c := by
      unfold at1
      rw [h0, h1, h2, h3, h4]
    have e2 : args2 (m' ((c.tc : Thread Cert.RefModResBwdIdeal.nD Cert.RefModResBwdIdeal.τ).loc Cert.RefModResBwdIdeal.main_arg0))
        (m' ((c.tc : Thread Cert.RefModResBwdIdeal.nD Cert.RefModResBwdIdeal.τ).loc Cert.RefModResBwdIdeal.main_arg1))
        (m' ((c.tc : Thread Cert.RefModResBwdIdeal.nD Cert.RefModResBwdIdeal.τ).loc Cert.RefModResBwdIdeal.main_arg2))
        (m' ((c.tc : Thread Cert.RefModResBwdIdeal.nD Cert.RefModResBwdIdeal.τ).loc Cert.RefModResBwdIdeal.main_arg3))
        (m' ((c.tc : Thread Cert.RefModResBwdIdeal.nD Cert.RefModResBwdIdeal.τ).loc Cert.RefModResBwdIdeal.main_arg4))
        (m' ((c.tc : Thread Cert.RefModResBwdIdeal.nD Cert.RefModResBwdIdeal.τ).loc Cert.RefModResBwdIdeal.main_arg5))
        (m' ((c.tc : Thread Cert.RefModResBwdIdeal.nD Cert.RefModResBwdIdeal.τ).loc Cert.RefModResBwdIdeal.main_arg6))
        (m' ((c.tc : Thread Cert.RefModResBwdIdeal.nD Cert.RefModResBwdIdeal.τ).loc Cert.RefModResBwdIdeal.main_arg7)) = at2 m c := by
      unfold at2
      rw [h0, h1, h2, h3, h4, h5, h6, h7]
    exact ⟨(h c).1.trans ((Cert.RefModResBwdIdeal.Read.val_main_v51_eq m' c).trans ((r51' _ _ _ _ _).trans (congrArg Mod.dxArr e1))),
      (h c).2.1.trans ((Cert.RefModResBwdIdeal.Read.val_main_v97_eq _ _ _).trans ((rG _ _ _ _ _).trans (congrArg Mod.dgArr e1))),
      (h c).2.2.1.trans ((Cert.RefModResBwdIdeal.Read.val_main_v28_eq _ _ _).trans ((r28 _ _ _ _ _).trans (congrArg Mod.dscArr e1))),
      (h c).2.2.2.1.trans ((Cert.RefModResBwdIdeal.Read.val_main_v25_eq _).trans ((r25 _ _ _ _ _).trans (congrArg Mod.dshArr e1))),
      (h c).2.2.2.2.1.trans ((Cert.RefModResBwdIdeal.Read.val_main_v98_eq m' c).trans ((r98 _ _ _ _ _ _ _ _).trans (congrArg Res.dyArr e2))),
      (h c).2.2.2.2.2.1.trans ((Cert.RefModResBwdIdeal.Read.val_main_v99_eq m' c).trans ((r99 _ _ _ _ _ _ _ _).trans (congrArg Res.dgArr e2))),
      (h c).2.2.2.2.2.2.1.trans ((Cert.RefModResBwdIdeal.Read.val_main_v76_eq m' c).trans ((r76 _ _ _ _ _ _ _ _).trans (congrArg Res.dgtArr e2))),
      (h c).2.2.2.2.2.2.2⟩

end Cert.Norm.ModResBwd
-- ==== Proof.Act.lean ====
/- GELU in the two ways it is written, on every extended real. -/
module

public import proofs.«01_k».proof.Proof.Gelu
public import proofs.«01_k».proof.Proof.GateBody

@[expose] public section

noncomputable section

namespace Cert.Gate

open Idealize.ShloMosaic

/-- GELU, as the reference writes it. -/
def actR (g : EReal) : EReal := g * (kh * (1 + thR g))

theorem kc_pos : (0 : ℝ) < 13386282 / 16777216 := by norm_num
theorem ka_pos : (0 : ℝ) < 12003091 / 268435456 := by norm_num

/-- The hyperbolic tangent's argument is the same at the infinities too. -/
theorem thR_all (g : EReal) : thR g = th g := by
  induction g with
  | coe r => exact thR_eq r
  | top =>
    unfold thR th kc ka
    rw [EReal.top_mul_top, EReal.top_mul_top, EReal.coe_mul_top_of_pos ka_pos, EReal.top_add_top, EReal.coe_mul_top_of_pos kc_pos,
      EReal.add_top_of_ne_bot (show (1 : EReal) ≠ ⊥ from EReal.coe_ne_bot 1), EReal.top_mul_top]
  | bot =>
    unfold thR th kc ka
    rw [EReal.bot_mul_bot, EReal.top_mul_bot, EReal.coe_mul_bot_of_pos ka_pos, EReal.coe_mul_top_of_pos ka_pos, EReal.add_bot,
      EReal.coe_mul_bot_of_pos kc_pos, EReal.add_top_of_ne_bot (show (1 : EReal) ≠ ⊥ from EReal.coe_ne_bot 1), EReal.bot_mul_top]

theorem actR_eq (g : EReal) : actR g = act g := by
  unfold actR act
  rw [thR_all, ← mul_assoc, mul_comm g kh]

end Cert.Gate
-- ==== Proof.MergeSpec.lean ====
/- What the gradient of the merge computes, row by row. The merge sets two normalised rows side by side: the attention's, and the
   state-space rows through GELU and gated. Nothing is said here of tiles. -/
module

public import proofs.«01_k».proof.Proof.Norm
public import proofs.«01_k».proof.Proof.Act

@[expose] public section

noncomputable section

namespace Cert.Norm

open Idealize.ShloMosaic
open scoped BigOperators

/-- The merge's arguments: the gradient of its two halves, the attention rows, the state-space rows, their gate before the
    sigmoid, and the weights of the two normalisations. -/
structure Mrg where
  DA : Fin 4096 → Fin 1024 → EReal
  DS : Fin 4096 → Fin 1024 → EReal
  A : Fin 4096 → Fin 1024 → EReal
  Y : Fin 4096 → Fin 1024 → EReal
  L : Fin 4096 → Fin 1024 → EReal
  ga : Fin 1024 → EReal
  gs : Fin 1024 → EReal

namespace Mrg

variable (M : Mrg)

/-- The rows after GELU, the open share of the gate, and the gated rows. -/
def z (i : Fin 4096) (k : Fin 1024) : EReal := Cert.Gate.act (M.Y i k)
def sig (i : Fin 4096) (k : Fin 1024) : EReal := Ideal.logistic (M.L i k)
def s (i : Fin 4096) (k : Fin 1024) : EReal := M.z i k * M.sig i k
/-- The gradient of the attention rows. -/
def da (i : Fin 4096) (k : Fin 1024) : EReal := bwd hlen (M.A i) (fun q => M.DA i q * M.ga q) k
/-- The gradient of the gated rows. -/
def ds (i : Fin 4096) (k : Fin 1024) : EReal := bwd hlen (M.s i) (fun q => M.DS i q * M.gs q) k
/-- The gradient of the gate before the sigmoid, and of the rows after GELU. -/
def dl (i : Fin 4096) (k : Fin 1024) : EReal := M.ds i k * M.z i k * M.sig i k * (1 - M.sig i k)
def dz (i : Fin 4096) (k : Fin 1024) : EReal := M.ds i k * M.sig i k
/-- A row's shares in the gradients of the weights. -/
def dga (k : Fin 1024) (i : Fin 4096) : EReal := M.DA i k * (M.A i k * rs hlen (M.A i))
def dgs (k : Fin 1024) (i : Fin 4096) : EReal := M.DS i k * (M.s i k * rs hlen (M.s i))

/-- The five results, as arrays. -/
def daArr : FVec Ideal ⟨2, ![4096, 1024]⟩ .f32 := fun y => M.da (y 0) (y 1)
def dlArr : FVec Ideal ⟨2, ![4096, 1024]⟩ .bf16 := fun y => M.dl (y 0) (y 1)
def dzArr : FVec Ideal ⟨2, ![4096, 1024]⟩ .f32 := fun y => M.dz (y 0) (y 1)
def dgaArr : FVec Ideal ⟨2, ![1, 1024]⟩ .f32 := fun y => ∑ i, M.dga (y 1) i
def dgsArr : FVec Ideal ⟨2, ![1, 1024]⟩ .f32 := fun y => ∑ i, M.dgs (y 1) i

end Mrg

end Cert.Norm
-- ==== Proof.MergeBwd.lean ====
/- The gradient of the merge: every point of the grid works on 256 rows; the sums over all rows are kept from one point to the
   next. -/
module

public import proofs.«01_k».proof.Defs
public import proofs.«01_k».proof.Proof.MergeSpec
public import proofs.«01_k».proof.Proof.Gen.MergeBwdIdeal.Frame
public import proofs.«01_k».proof.Proof.Gen.MergeBwdIdeal.Value
public import proofs.«01_k».proof.Proof.Gen.RefMergeBwdIdeal.Run
public import proofs.«01_k».proof.Proof.Gen.RefMergeBwdIdeal.Read
public import Idealize.ShloMosaic.Lib.Pipeline.ValueKit
public import Idealize.ShloMosaic.Lib.Pointwise
public import Idealize.ShloMosaic.Adequacy

@[expose] public section

noncomputable section

namespace Cert.Norm.MergeBwd

open Idealize.ShloMosaic Idealize.ShloMosaic.TcCoe Idealize.SL.Sem
open Cert.Gate (ofBits_c ofBits_a ofBits_half)

set_option maxRecDepth 16384

/-- The merge's arguments, from the arrays: the first array holds the gradient's two halves side by side. -/
def args (a0 : FVec Ideal ⟨2, ![4096, 2048]⟩ .f32) (a1 a2 a3 : FVec Ideal ⟨2, ![4096, 1024]⟩ .f32) (a4 a5 : FVec Ideal ⟨1, ![1024]⟩ .f32) : Mrg where
  DA i k := a0 (ix2 i ⟨k.val, by omega⟩)
  DS i k := a0 (ix2 i ⟨1024 + k.val, by omega⟩)
  A := row a1
  Y := row a2
  L := row a3
  ga k := a4 (ix1 k)
  gs k := a5 (ix1 k)

section Kernel

open Cert.MergeBwdIdeal Cert.MergeBwdIdeal.Gen

/-- The two halves of the first window. -/
abbrev left (x : Vec Ideal S256x2048 .f32) : Vec Ideal S256x1024 .f32 := View.ld x (Rect.unit ![0, 0] ![256, 1024] inb_S256x2048_S256x1024_0_0)
abbrev right (x : Vec Ideal S256x2048 .f32) : Vec Ideal S256x1024 .f32 := View.ld x (Rect.unit ![0, 1024] ![256, 1024] inb_S256x2048_S256x1024_0_1024)

theorem left_apply (x : Vec Ideal S256x2048 .f32) (p : Fin 256) (k : Fin 1024) : left x (ix2 p k) = x (ix2 p ⟨k.val, by omega⟩) :=
  View.ld_unit_apply_of x _ _ _ _ _ fun a => by fin_cases a <;> simp [ix2]
theorem right_apply (x : Vec Ideal S256x2048 .f32) (p : Fin 256) (k : Fin 1024) : right x (ix2 p k) = x (ix2 p ⟨1024 + k.val, by omega⟩) :=
  View.ld_unit_apply_of x _ _ _ _ _ fun a => by fin_cases a <;> simp [ix2]

/-- What the windows hold at a point whose first row is row `R`. -/
structure Finds (M : Mrg) (R : ℕ) (hR : R + 256 ≤ 4096) (x0 : Vec Ideal S256x2048 .f32) (x1 x2 x3 : Vec Ideal S256x1024 .f32)
    (x4 x5 : Vec Ideal S1x1024 .f32) : Prop where
  hl : ∀ (p : Fin 256) (k : Fin 1024), left x0 (ix2 p k) = M.DA ⟨R + p, by omega⟩ k
  hr : ∀ (p : Fin 256) (k : Fin 1024), right x0 (ix2 p k) = M.DS ⟨R + p, by omega⟩ k
  h1 : ∀ (p : Fin 256) (k : Fin 1024), x1 (ix2 p k) = M.A ⟨R + p, by omega⟩ k
  h2 : ∀ (p : Fin 256) (k : Fin 1024), x2 (ix2 p k) = M.Y ⟨R + p, by omega⟩ k
  h3 : ∀ (p : Fin 256) (k : Fin 1024), x3 (ix2 p k) = M.L ⟨R + p, by omega⟩ k
  h4 : ∀ k : Fin 1024, x4 (ix2 0 k) = M.ga k
  h5 : ∀ k : Fin 1024, x5 (ix2 0 k) = M.gs k

section Body

variable {M : Mrg} {R : ℕ} {hR : R + 256 ≤ 4096} {x0 : Vec Ideal S256x2048 .f32} {x1 x2 x3 : Vec Ideal S256x1024 .f32}
  {x4 x5 : Vec Ideal S1x1024 .f32} (H : Finds M R hR x0 x1 x2 x3 x4 x5)
include H

theorem rootA (p : Fin 256) : k0_pay6 x1 (ix2 p 0) = rs hlen (M.A ⟨R + p, by omega⟩) := by
  pointwise [k0_pay6]
  simp only [H.h1]
  rfl

theorem unitA (p : Fin 256) (k : Fin 1024) : k0_pay7 x1 (ix2 p k) = M.A ⟨R + p, by omega⟩ k * rs hlen (M.A ⟨R + p, by omega⟩) := by
  pointwise [k0_pay7]
  rw [rootA H, H.h1]

theorem sumA (s : Vec Ideal S1x1024 .f32) (k : Fin 1024) :
    k0_pay8 (left x0) x1 s (ix2 0 k) = s (ix2 0 k) + ∑ p : Fin 256, M.dga k ⟨R + p, by omega⟩ := by
  pointwise [k0_pay8]
  simp only [unitA H, H.hl]
  rfl

theorem rowsA (p : Fin 256) (k : Fin 1024) : k0_pay9 (left x0) x1 x4 (ix2 p k) = M.da ⟨R + p, by omega⟩ k := by
  pointwise [k0_pay9]
  simp only [unitA H, rootA H, H.hl, H.h4]
  rfl

theorem gelu (p : Fin 256) (k : Fin 1024) : k0_pay10 x2 (ix2 p k) = M.z ⟨R + p, by omega⟩ k := by
  pointwise [k0_pay10]
  rw [H.h2, ofBits_c, ofBits_a, ofBits_half]
  rfl

theorem sigm (p : Fin 256) (k : Fin 1024) : k0_pay11 x3 (ix2 p k) = M.sig ⟨R + p, by omega⟩ k := by
  pointwise [k0_pay11]
  rw [H.h3]
  rfl

theorem gated (p : Fin 256) (k : Fin 1024) : k0_pay12 x2 x3 (ix2 p k) = M.s ⟨R + p, by omega⟩ k := by
  pointwise [k0_pay12]
  rw [gelu H, sigm H]
  rfl

theorem rootS (p : Fin 256) : k0_pay13 x2 x3 (ix2 p 0) = rs hlen (M.s ⟨R + p, by omega⟩) := by
  pointwise [k0_pay13]
  simp only [gated H]
  rfl

theorem unitS (p : Fin 256) (k : Fin 1024) : k0_pay14 x2 x3 (ix2 p k) = M.s ⟨R + p, by omega⟩ k * rs hlen (M.s ⟨R + p, by omega⟩) := by
  pointwise [k0_pay14]
  rw [rootS H, gated H]

theorem sumS (s : Vec Ideal S1x1024 .f32) (k : Fin 1024) :
    k0_pay15 (right x0) x2 x3 s (ix2 0 k) = s (ix2 0 k) + ∑ p : Fin 256, M.dgs k ⟨R + p, by omega⟩ := by
  pointwise [k0_pay15]
  simp only [unitS H, H.hr]
  rfl

theorem rowsS (p : Fin 256) (k : Fin 1024) :
    k0_pay1 (right x0) (k0_pay13 x2 x3) (k0_pay14 x2 x3) x5 (ix2 p k) = M.ds ⟨R + p, by omega⟩ k := by
  pointwise [k0_pay1]
  simp only [unitS H, rootS H, H.hr, H.h5]
  rfl

theorem rowsZ (p : Fin 256) (k : Fin 1024) :
    k0_pay2 (right x0) (k0_pay11 x3) (k0_pay13 x2 x3) (k0_pay14 x2 x3) x5 (ix2 p k) = M.dz ⟨R + p, by omega⟩ k := by
  pointwise [k0_pay2]
  rw [rowsS H, sigm H]
  rfl

theorem rowsL (p : Fin 256) (k : Fin 1024) :
    k0_pay3 (right x0) (k0_pay10 x2) (k0_pay11 x3) (k0_pay13 x2 x3) (k0_pay14 x2 x3) x5 (ix2 p k) = M.dl ⟨R + p, by omega⟩ k := by
  pointwise [k0_pay3]
  rw [rowsS H, sigm H, gelu H]
  rfl

end Body

theorem zero4 (x : S1x1024.Idx) : k0_pay4 (F := Ideal) x = (0 : EReal) := by
  pointwise [k0_pay4]
theorem zero5 (x : S1x1024.Idx) : k0_pay5 (F := Ideal) x = (0 : EReal) := by
  pointwise [k0_pay5]

/-- Where the windows' blocks lie. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0)
    ∧ (win0_10.index t 0 = 0 ∧ win0_10.index t 1 = 0) :=
  (by decide +kernel : ∀ t : Fin grid0.N, _)

variable (m : (ℓ : Loc nD τ sig) → Buf (Elt Ideal) ℓ) (c : Dev nD)

theorem hN (t : Fin cfg0.N) : t.val < 16 := lt_of_lt_of_eq t.isLt N_0

/-- The arguments of core `c`. -/
def at' : Mrg := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem finds (t : Fin cfg0.N) : Finds (at' m c) (256 * t.val) (by have := hN t; omega) (iblk m c 0 t) (iblk m c 1 t) (iblk m c 2 t) (iblk m c 3 t) (iblk m c 4 t) (iblk m c 5 t) where
  hl p k := by
    have hn := hN t
    obtain ⟨⟨e0, e1⟩, -⟩ := idx t
    rw [left_apply]
    unfold at' args
    blk_ext [iblk, V_main_arg0, e0, e1]
  hr p k := by
    have hn := hN t
    obtain ⟨⟨e0, e1⟩, -⟩ := idx t
    rw [right_apply]
    unfold at' args
    blk_ext [iblk, V_main_arg0, e0, e1]
  h1 p k := by
    have hn := hN t
    obtain ⟨-, ⟨e0, e1⟩, -⟩ := idx t
    unfold at' args row
    blk_ext [iblk, V_main_arg1, e0, e1]
  h2 p k := by
    have hn := hN t
    obtain ⟨-, -, ⟨e0, e1⟩, -⟩ := idx t
    unfold at' args row
    blk_ext [iblk, V_main_arg2, e0, e1]
  h3 p k := by
    have hn := hN t
    obtain ⟨-, -, -, ⟨e0, e1⟩, -⟩ := idx t
    unfold at' args row
    blk_ext [iblk, V_main_arg3, e0, e1]
  h4 k := by
    have hn := hN t
    obtain ⟨-, -, -, -, ⟨e0, e1⟩, -⟩ := idx t
    unfold at' args
    blk_ext! [iblk, V, e0, e1]
  h5 k := by
    have hn := hN t
    obtain ⟨-, -, -, -, -, ⟨e0, e1⟩, -⟩ := idx t
    unfold at' args
    blk_ext! [iblk, V, e0, e1]

/-- What a point leaves in the buffers. -/
structure Leaves (M : Mrg) (R : ℕ) (hR : R + 256 ≤ 4096) (o : Vec Ideal S256x1024 .f32 × Vec Ideal S256x1024 .bf16 × Vec Ideal S256x1024 .f32
    × Vec Ideal S1x1024 .f32 × Vec Ideal S1x1024 .f32) : Prop where
  da : ∀ (p : Fin 256) (k : Fin 1024), o.1 (ix2 p k) = M.da ⟨R + p, by omega⟩ k
  dl : ∀ (p : Fin 256) (k : Fin 1024), o.2.1 (ix2 p k) = M.dl ⟨R + p, by omega⟩ k
  dz : ∀ (p : Fin 256) (k : Fin 1024), o.2.2.1 (ix2 p k) = M.dz ⟨R + p, by omega⟩ k
  dga : ∀ k : Fin 1024, o.2.2.2.1 (ix2 0 k) = upto (M.dga k) (R + 256)
  dgs : ∀ k : Fin 1024, o.2.2.2.2 (ix2 0 k) = upto (M.dgs k) (R + 256)

theorem leaves_A (t : Fin cfg0.N) (h0 : t.val % 16 = 0) : Leaves (at' m c) (256 * t.val) (by have := hN t; omega) (outsAt0 m c t.val t.isLt) := by
  have hn := hN t
  have H := finds m c t
  have hz : 256 * t.val = 0 := by omega
  rw [outsAt0_A m c t h0]
  constructor
  · intro p k
    frame_out
    exact rowsA H p k
  · intro p k
    frame_out
    exact rowsL H p k
  · intro p k
    frame_out
    exact rowsZ H p k
  · intro k
    frame_out
    refine (sumA H _ k).trans ?_
    refine Eq.trans (congrArg (· + _) ?_) (upto_start _ (256 * t.val) 256 hz (by omega))
    exact zero4 _
  · intro k
    frame_out
    refine (sumS H _ k).trans ?_
    refine Eq.trans (congrArg (· + _) ?_) (upto_start _ (256 * t.val) 256 hz (by omega))
    exact zero5 _

theorem leaves_B (t : Fin cfg0.N) (h0 : ¬t.val % 16 = 0) (hb : 256 * (t.val - 1) + 256 ≤ 4096)
    (ih : Leaves (at' m c) (256 * (t.val - 1)) hb (outsAt0 m c (t.val - 1) (lt_of_le_of_lt (Nat.sub_le _ _) t.isLt))) :
    Leaves (at' m c) (256 * t.val) (by have := hN t; omega) (outsAt0 m c t.val t.isLt) := by
  have hn := hN t
  have H := finds m c t
  have hz : 256 * (t.val - 1) + 256 = 256 * t.val := by omega
  rw [outsAt0_B m c t h0]
  constructor
  · intro p k
    frame_out
    exact rowsA H p k
  · intro p k
    frame_out
    exact rowsL H p k
  · intro p k
    frame_out
    exact rowsZ H p k
  · intro k
    frame_out
    refine (sumA H _ k).trans ?_
    refine Eq.trans (congrArg (· + _) ?_) (upto_add _ (256 * t.val) 256 (by omega))
    exact (ih.dga k).trans (by rw [hz])
  · intro k
    frame_out
    refine (sumS H _ k).trans ?_
    refine Eq.trans (congrArg (· + _) ?_) (upto_add _ (256 * t.val) 256 (by omega))
    exact (ih.dgs k).trans (by rw [hz])

/-- By induction on the point. -/
theorem leaves : ∀ (n : ℕ) (hn : n < cfg0.N), Leaves (at' m c) (256 * n) (by have := hN ⟨n, hn⟩; dsimp only at this; omega) (outsAt0 m c n hn)
  | 0, hn => leaves_A m c ⟨0, hn⟩ rfl
  | n + 1, hn => by
    have h8 := hN ⟨n + 1, hn⟩
    dsimp only at h8
    exact leaves_B m c ⟨n + 1, hn⟩ (by dsimp only; omega) (by dsimp only; omega) (leaves n (Nat.lt_of_succ_lt hn))

theorem final6 : (dats m 0 c).arrAt 6 cfg0.N = (at' m c).daArr := by
  refine (dats m 0 c).arrAt_eq_of_covers 6 _ (by decide +kernel) fun t hf y => ?_
  have hn := hN t
  obtain ⟨-, -, -, -, -, -, ⟨e0, e1⟩, -⟩ := idx t
  obtain ⟨p, q, rfl⟩ : ∃ (p : Fin 256) (q : Fin 1024), y = ix2 p q := ⟨y 0, y 1, eq_ix2 y⟩
  rw [after0_6]
  refine ((leaves m c t.val t.isLt).da p q).trans ?_
  exact congrArg₂ (at' m c).da (Fin.ext (by blk_simp [e0, Nat.mul_comm])) (Fin.ext (by blk_simp [e1]))

theorem final7 : (dats m 0 c).arrAt 7 cfg0.N = (at' m c).dlArr := by
  refine (dats m 0 c).arrAt_eq_of_covers 7 _ (by decide +kernel) fun t hf y => ?_
  have hn := hN t
  obtain ⟨-, -, -, -, -, -, -, ⟨e0, e1⟩, -⟩ := idx t
  obtain ⟨p, q, rfl⟩ : ∃ (p : Fin 256) (q : Fin 1024), y = ix2 p q := ⟨y 0, y 1, eq_ix2 y⟩
  rw [after0_7]
  refine ((leaves m c t.val t.isLt).dl p q).trans ?_
  exact congrArg₂ (at' m c).dl (Fin.ext (by blk_simp [e0, Nat.mul_comm])) (Fin.ext (by blk_simp [e1]))

theorem final8 : (dats m 0 c).arrAt 8 cfg0.N = (at' m c).dzArr := by
  refine (dats m 0 c).arrAt_eq_of_covers 8 _ (by decide +kernel) fun t hf y => ?_
  have hn := hN t
  obtain ⟨-, -, -, -, -, -, -, -, ⟨e0, e1⟩, -⟩ := idx t
  obtain ⟨p, q, rfl⟩ : ∃ (p : Fin 256) (q : Fin 1024), y = ix2 p q := ⟨y 0, y 1, eq_ix2 y⟩
  rw [after0_8]
  refine ((leaves m c t.val t.isLt).dz p q).trans ?_
  exact congrArg₂ (at' m c).dz (Fin.ext (by blk_simp [e0, Nat.mul_comm])) (Fin.ext (by blk_simp [e1]))

theorem final9 : (dats m 0 c).arrAt 9 cfg0.N = (at' m c).dgaArr := by
  refine (dats m 0 c).arrAt_eq_of_covers 9 _ (by decide +kernel) fun t hf y => ?_
  have hn := hN t
  have hl : t.val % 16 = 15 := (flush0_9 t).mp hf
  obtain ⟨-, -, -, -, -, -, -, -, -, ⟨e0, e1⟩, -⟩ := idx t
  obtain ⟨p, q, rfl⟩ : ∃ (p : Fin 1) (q : Fin 1024), y = ix2 p q := ⟨y 0, y 1, eq_ix2 y⟩
  obtain rfl : p = 0 := Subsingleton.elim _ _
  rw [after0_9]
  refine ((leaves m c t.val t.isLt).dga q).trans ?_
  rw [show 256 * t.val + 256 = 4096 by omega, upto_all]
  exact congrArg (fun k => ∑ i, (at' m c).dga k i) (Fin.ext (by blk_simp [e1]))

theorem final10 : (dats m 0 c).arrAt 10 cfg0.N = (at' m c).dgsArr := by
  refine (dats m 0 c).arrAt_eq_of_covers 10 _ (by decide +kernel) fun t hf y => ?_
  have hn := hN t
  have hl : t.val % 16 = 15 := (flush0_10 t).mp hf
  obtain ⟨-, -, -, -, -, -, -, -, -, -, e0, e1⟩ := idx t
  obtain ⟨p, q, rfl⟩ : ∃ (p : Fin 1) (q : Fin 1024), y = ix2 p q := ⟨y 0, y 1, eq_ix2 y⟩
  obtain rfl : p = 0 := Subsingleton.elim _ _
  rw [after0_10]
  refine ((leaves m c t.val t.isLt).dgs q).trans ?_
  rw [show 256 * t.val + 256 = 4096 by omega, upto_all]
  exact congrArg (fun k => ∑ i, (at' m c).dgs k i) (Fin.ext (by blk_simp [e1]))

end Kernel

section Reference

open Cert.RefMergeBwdIdeal Cert.RefMergeBwdIdeal.Read

variable (a0 : FVec Ideal ⟨2, ![4096, 2048]⟩ .f32) (a1 a2 a3 : FVec Ideal ⟨2, ![4096, 1024]⟩ .f32) (a4 a5 : FVec Ideal ⟨1, ![1024]⟩ .f32)

theorem r12 (i : Fin 4096) (k : Fin 1024) : val_main_v12 (F := Ideal) a2 (ix2 i k) = (args a0 a1 a2 a3 a4 a5).z i k := by
  refine Eq.trans ?_ (Cert.Gate.actR_eq (row a2 i k))
  pointwise [val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [ofBits_c, ofBits_a, ofBits_half]
  rfl

theorem r18 (i : Fin 4096) (k : Fin 1024) : val_main_v18 (F := Ideal) a3 (ix2 i k) = (args a0 a1 a2 a3 a4 a5).sig i k := by
  pointwise [val_main_v18, val_main_v17, val_main_v16, val_main_v15, val_main_v14, val_main_v13, val_main_cst_3, val_main_cst_4]
  rfl

theorem r22 (i : Fin 4096) (k : Fin 1024) : val_main_v22 (F := Ideal) a2 a3 (ix2 i k) = (args a0 a1 a2 a3 a4 a5).s i k := by
  pointwise [val_main_v22]
  rw [r12 a0 a1 a2 a3 a4 a5, r18 a0 a1 a2 a3 a4 a5]
  rfl

/-- The attention rows' mean square, with the small number. -/
theorem r29 (i : Fin 4096) : val_main_v29 (F := Ideal) a1 (ix2 i 0) = Ideal.div (∑ k, row a1 i k * row a1 i k) hlen + eps := by
  pointwise [val_main_v29, val_main_v28, val_main_v27, val_main_v26, val_main_v25, val_main_v24, val_main_v23, val_main_cst_6, val_main_cst_7, val_main_cst_8]
  rfl

theorem r30 (i : Fin 4096) : val_main_v30 (F := Ideal) a1 (ix2 i 0) = rs hlen (row a1 i) := by
  pointwise [val_main_v30]
  rw [r29]
  rfl

theorem r35 (i : Fin 4096) (k : Fin 1024) : val_main_v35 (F := Ideal) a1 (ix2 i k) = row a1 i k * rs hlen (row a1 i) := by
  pointwise [val_main_v35, val_main_v34]
  rw [r30]
  rfl

/-- The gated rows' mean square, with the small number. -/
theorem r45 (i : Fin 4096) : val_main_v45 (F := Ideal) a2 a3 (ix2 i 0) = Ideal.div (∑ k, (args a0 a1 a2 a3 a4 a5).s i k * (args a0 a1 a2 a3 a4 a5).s i k) hlen + eps := by
  pointwise [val_main_v45, val_main_v44, val_main_v43, val_main_v42, val_main_v41, val_main_v40, val_main_v39, val_main_cst_10, val_main_cst_11, val_main_cst_12]
  simp only [r22 a0 a1 a2 a3 a4 a5]
  rfl

theorem r46 (i : Fin 4096) : val_main_v46 (F := Ideal) a2 a3 (ix2 i 0) = rs hlen ((args a0 a1 a2 a3 a4 a5).s i) := by
  pointwise [val_main_v46]
  rw [r45 a0 a1 a2 a3 a4 a5]
  rfl

theorem r51 (i : Fin 4096) (k : Fin 1024) : val_main_v51 (F := Ideal) a2 a3 (ix2 i k) = (args a0 a1 a2 a3 a4 a5).s i k * rs hlen ((args a0 a1 a2 a3 a4 a5).s i) := by
  pointwise [val_main_v51, val_main_v50]
  rw [r46 a0 a1 a2 a3 a4 a5, r22 a0 a1 a2 a3 a4 a5]

theorem r56 (i : Fin 4096) (k : Fin 1024) : val_main_v56 (F := Ideal) a0 (ix2 i k) = (args a0 a1 a2 a3 a4 a5).DA i k := by
  pointwise [val_main_v56]
  first | done | rfl

theorem r57 (i : Fin 4096) (k : Fin 1024) : val_main_v57 (F := Ideal) a0 (ix2 i k) = (args a0 a1 a2 a3 a4 a5).DS i k := by
  pointwise [val_main_v57]
  first | done | rfl

theorem r102 : val_main_v102 (F := Ideal) a0 a1 = (args a0 a1 a2 a3 a4 a5).dgaArr := by
  funext y
  obtain ⟨p, k, rfl⟩ : ∃ (p : Fin 1) (k : Fin 1024), y = ix2 p k := ⟨y 0, y 1, eq_ix2 y⟩
  obtain rfl : p = 0 := Subsingleton.elim _ _
  pointwise [val_main_v102, val_main_v83, val_main_v80, val_main_v79, val_main_v78, val_main_cst_19, val_main_cst_20]
  simp only [Fin.sum_univ_one, r35, r56 a0 a1 a2 a3 a4 a5]
  exact Finset.sum_congr rfl fun i _ => mul_comm (row a1 i k * rs hlen (row a1 i)) ((args a0 a1 a2 a3 a4 a5).DA i k)

theorem r103 : val_main_v103 (F := Ideal) a0 a2 a3 = (args a0 a1 a2 a3 a4 a5).dgsArr := by
  funext y
  obtain ⟨p, k, rfl⟩ : ∃ (p : Fin 1) (k : Fin 1024), y = ix2 p k := ⟨y 0, y 1, eq_ix2 y⟩
  obtain rfl : p = 0 := Subsingleton.elim _ _
  pointwise [val_main_v103, val_main_v63, val_main_v60, val_main_v59, val_main_v58, val_main_cst_14, val_main_cst_15]
  simp only [Fin.sum_univ_one, r51 a0 a1 a2 a3 a4 a5, r57 a0 a1 a2 a3 a4 a5]
  exact Finset.sum_congr rfl fun i _ => mul_comm ((args a0 a1 a2 a3 a4 a5).s i k * rs hlen ((args a0 a1 a2 a3 a4 a5).s i)) ((args a0 a1 a2 a3 a4 a5).DS i k)

theorem r82 (i : Fin 4096) (k : Fin 1024) : val_main_v82 (F := Ideal) a0 a4 (ix2 i k) = (args a0 a1 a2 a3 a4 a5).DA i k * (args a0 a1 a2 a3 a4 a5).ga k := by
  pointwise [val_main_v82, val_main_v81, val_main_v36]
  rw [r56 a0 a1 a2 a3 a4 a5]
  rfl

theorem r93 (i : Fin 4096) (k : Fin 1024) : val_main_v93 (F := Ideal) a0 a1 a4 (ix2 i k)
    = thru hlen (row a1 i) (fun q => (args a0 a1 a2 a3 a4 a5).DA i q * (args a0 a1 a2 a3 a4 a5).ga q) := by
  pointwise [val_main_v93, val_main_v92, val_main_v91, val_main_v90, val_main_v89, val_main_v86, val_main_v85, val_main_v84, val_main_v33, val_main_v32, val_main_v31, val_main_cst_9, val_main_cst_21, val_main_cst_22, val_main_cst_23]
  simp only [Fin.sum_univ_one, r29, r30, r82 a0 a1 a2 a3 a4 a5]
  rfl

theorem r97 : val_main_v97 (F := Ideal) a0 a1 a4 = (args a0 a1 a2 a3 a4 a5).daArr := by
  funext y
  obtain ⟨i, k, rfl⟩ : ∃ (i : Fin 4096) (k : Fin 1024), y = ix2 i k := ⟨y 0, y 1, eq_ix2 y⟩
  refine Eq.trans ?_ (ref_hlen (row a1 i) (fun q => (args a0 a1 a2 a3 a4 a5).DA i q * (args a0 a1 a2 a3 a4 a5).ga q) k)
  pointwise [val_main_v97, val_main_v96, val_main_v95, val_main_v94, val_main_v88, val_main_v87]
  rw [r93 a0 a1 a2 a3 a4 a5, r30, r82 a0 a1 a2 a3 a4 a5]
  rfl

theorem r62 (i : Fin 4096) (k : Fin 1024) : val_main_v62 (F := Ideal) a0 a5 (ix2 i k) = (args a0 a1 a2 a3 a4 a5).DS i k * (args a0 a1 a2 a3 a4 a5).gs k := by
  pointwise [val_main_v62, val_main_v61, val_main_v52]
  rw [r57 a0 a1 a2 a3 a4 a5]
  rfl

theorem r73 (i : Fin 4096) (k : Fin 1024) : val_main_v73 (F := Ideal) a0 a2 a3 a5 (ix2 i k)
    = thru hlen ((args a0 a1 a2 a3 a4 a5).s i) (fun q => (args a0 a1 a2 a3 a4 a5).DS i q * (args a0 a1 a2 a3 a4 a5).gs q) := by
  pointwise [val_main_v73, val_main_v72, val_main_v71, val_main_v70, val_main_v69, val_main_v66, val_main_v65, val_main_v64, val_main_v49, val_main_v48, val_main_v47, val_main_cst_13, val_main_cst_16, val_main_cst_17, val_main_cst_18]
  simp only [Fin.sum_univ_one, r45 a0 a1 a2 a3 a4 a5, r46 a0 a1 a2 a3 a4 a5, r62 a0 a1 a2 a3 a4 a5, r22 a0 a1 a2 a3 a4 a5]
  rfl

theorem r77 (i : Fin 4096) (k : Fin 1024) : val_main_v77 (F := Ideal) a0 a2 a3 a5 (ix2 i k) = (args a0 a1 a2 a3 a4 a5).ds i k := by
  refine Eq.trans ?_ (ref_hlen ((args a0 a1 a2 a3 a4 a5).s i) (fun q => (args a0 a1 a2 a3 a4 a5).DS i q * (args a0 a1 a2 a3 a4 a5).gs q) k)
  pointwise [val_main_v77, val_main_v76, val_main_v75, val_main_v74, val_main_v68, val_main_v67]
  rw [r73 a0 a1 a2 a3 a4 a5, r46 a0 a1 a2 a3 a4 a5, r62 a0 a1 a2 a3 a4 a5, r22 a0 a1 a2 a3 a4 a5]
  rfl

theorem r99 : val_main_v99 (F := Ideal) a0 a2 a3 a5 = (args a0 a1 a2 a3 a4 a5).dzArr := by
  funext y
  obtain ⟨i, k, rfl⟩ : ∃ (i : Fin 4096) (k : Fin 1024), y = ix2 i k := ⟨y 0, y 1, eq_ix2 y⟩
  pointwise [val_main_v99]
  rw [r77 a0 a1 a2 a3 a4 a5, r18 a0 a1 a2 a3 a4 a5]
  rfl

theorem r101 : val_main_v101 (F := Ideal) a0 a2 a3 a5 = (args a0 a1 a2 a3 a4 a5).dlArr := by
  funext y
  obtain ⟨i, k, rfl⟩ : ∃ (i : Fin 4096) (k : Fin 1024), y = ix2 i k := ⟨y 0, y 1, eq_ix2 y⟩
  pointwise [val_main_v101, val_main_v100, val_main_v98, val_main_v21, val_main_v20, val_main_v19, val_main_cst_5]
  rw [r77 a0 a1 a2 a3 a4 a5, r18 a0 a1 a2 a3 a4 a5, r12 a0 a1 a2 a3 a4 a5]
  show (args a0 a1 a2 a3 a4 a5).z i k * (args a0 a1 a2 a3 a4 a5).ds i k * ((args a0 a1 a2 a3 a4 a5).sig i k * (1 - (args a0 a1 a2 a3 a4 a5).sig i k)) = (args a0 a1 a2 a3 a4 a5).dl i k
  rw [mul_comm ((args a0 a1 a2 a3 a4 a5).z i k), ← mul_assoc]
  rfl

end Reference

/-- The reference runs, keeps its arguments and leaves every counter at zero. -/
theorem frame_ri : Cert.quiescent_RefMergeBwdIdeal := fun m ρ _ =>
  (θ_run Cert.RefMergeBwdIdeal.defs _ _).mono (fun r h => ⟨fun c => (h c).2.2.2.2.2, sem_eq_zero_of_no_sems (by decide) r.2⟩)
    (Cert.RefMergeBwdIdeal.Value.run (F := Ideal) m ρ)

theorem algebraic : Cert.algebraic_MergeBwdIdeal_RefMergeBwdIdeal := by
  intro m g m' g' _ hagree
  refine ⟨fun c => (at' m c).daArr, fun c => (at' m c).dlArr, fun c => (at' m c).dzArr, fun c => (at' m c).dgaArr, fun c => (at' m c).dgsArr, ?_, ?_⟩
  · exact (θ_run Cert.MergeBwdIdeal.defs _ _).mono (fun _ h c => ⟨(h c).1.trans (final6 m c), (h c).2.1.trans (final7 m c), (h c).2.2.1.trans (final8 m c), (h c).2.2.2.1.trans (final9 m c), (h c).2.2.2.2.1.trans (final10 m c),
      (h c).2.2.2.2.2⟩) (Cert.MergeBwdIdeal.Value.run_blocks (F := Ideal) m g)
  · refine (θ_run Cert.RefMergeBwdIdeal.defs _ _).mono (fun _ h c => ?_) (Cert.RefMergeBwdIdeal.Value.run (F := Ideal) m' g')
    obtain ⟨h0, h1, h2, h3, h4, h5⟩ := hagree c
    have e : args (m' ((c.tc : Thread Cert.RefMergeBwdIdeal.nD Cert.RefMergeBwdIdeal.τ).loc Cert.RefMergeBwdIdeal.main_arg0))
        (m' ((c.tc : Thread Cert.RefMergeBwdIdeal.nD Cert.RefMergeBwdIdeal.τ).loc Cert.RefMergeBwdIdeal.main_arg1))
        (m' ((c.tc : Thread Cert.RefMergeBwdIdeal.nD Cert.RefMergeBwdIdeal.τ).loc Cert.RefMergeBwdIdeal.main_arg2))
        (m' ((c.tc : Thread Cert.RefMergeBwdIdeal.nD Cert.RefMergeBwdIdeal.τ).loc Cert.RefMergeBwdIdeal.main_arg3))
        (m' ((c.tc : Thread Cert.RefMergeBwdIdeal.nD Cert.RefMergeBwdIdeal.τ).loc Cert.RefMergeBwdIdeal.main_arg4))
        (m' ((c.tc : Thread Cert.RefMergeBwdIdeal.nD Cert.RefMergeBwdIdeal.τ).loc Cert.RefMergeBwdIdeal.main_arg5)) = at' m c := by
      unfold at'
      rw [h0, h1, h2, h3, h4, h5]
    exact ⟨(h c).1.trans ((Cert.RefMergeBwdIdeal.Read.val_main_v97_eq m' c).trans ((r97 _ _ _ _ _ _).trans (congrArg Mrg.daArr e))),
      (h c).2.1.trans ((Cert.RefMergeBwdIdeal.Read.val_main_v101_eq m' c).trans ((r101 _ _ _ _ _ _).trans (congrArg Mrg.dlArr e))),
      (h c).2.2.1.trans ((Cert.RefMergeBwdIdeal.Read.val_main_v99_eq m' c).trans ((r99 _ _ _ _ _ _).trans (congrArg Mrg.dzArr e))),
      (h c).2.2.2.1.trans ((Cert.RefMergeBwdIdeal.Read.val_main_v102_eq _ _).trans ((r102 _ _ _ _ _ _).trans (congrArg Mrg.dgaArr e))),
      (h c).2.2.2.2.1.trans ((Cert.RefMergeBwdIdeal.Read.val_main_v103_eq _ _ _).trans ((r103 _ _ _ _ _ _).trans (congrArg Mrg.dgsArr e))),
      (h c).2.2.2.2.2⟩

end Cert.Norm.MergeBwd
-- ==== Proof.FwdSpec.lean ====
/- The rows of the forward passes that normalise: modulated rows, residual rows, and the two halves of the merged rows. -/
module

public import proofs.«01_k».proof.Proof.Norm
public import proofs.«01_k».proof.Proof.Act

@[expose] public section

noncomputable section

namespace Cert.Norm

open Idealize.ShloMosaic

/-- A row over the root of its mean square, times the weights. -/
def unitRow {n : ℕ} (N : EReal) (x g : Fin n → EReal) (k : Fin n) : EReal := x k * rs N x * g k

/-- A normalised row, scaled and shifted. -/
def modRow {n : ℕ} (N : EReal) (x g sc sh : Fin n → EReal) (k : Fin n) : EReal := unitRow N x g k * (1 + sc k) + sh k

/-- A row and the share of a normalised row that the gate lets through. -/
def resRow {n : ℕ} (N : EReal) (x y g gt : Fin n → EReal) (k : Fin n) : EReal := x k + (1 + gt k) * unitRow N y g k

/-- A row after GELU, times the open share of the gate. -/
def gatedRow {n : ℕ} (y l : Fin n → EReal) (k : Fin n) : EReal := Cert.Gate.act (y k) * Ideal.logistic (l k)

end Cert.Norm

end
-- ==== Proof.ModFwd.lean ====
/- The modulated norm, forward: every point of the grid works on 512 rows. -/
module

public import proofs.«01_k».proof.Defs
public import proofs.«01_k».proof.Proof.FwdSpec
public import proofs.«01_k».proof.Proof.Gen.ModFwdIdeal.Frame
public import proofs.«01_k».proof.Proof.Gen.ModFwdIdeal.Value
public import proofs.«01_k».proof.Proof.Gen.RefModFwdIdeal.Run
public import proofs.«01_k».proof.Proof.Gen.RefModFwdIdeal.Read
public import Idealize.ShloMosaic.Lib.Pipeline.ValueKit
public import Idealize.ShloMosaic.Lib.Pointwise
public import Idealize.ShloMosaic.Adequacy

@[expose] public section

noncomputable section

namespace Cert.Norm.ModFwd

open Idealize.ShloMosaic Idealize.ShloMosaic.TcCoe Idealize.SL.Sem

set_option maxRecDepth 16384

/-- The arguments: the rows, the weights, the scale and the shift. -/
structure Inp where
  X : Fin 4096 → Fin 2048 → EReal
  g : Fin 2048 → EReal
  sc : Fin 2048 → EReal
  sh : Fin 2048 → EReal

/-- The arguments, from the arrays. -/
def args (a0 : FVec Ideal ⟨2, ![4096, 2048]⟩ .f32) (a1 : FVec Ideal ⟨1, ![2048]⟩ .f32) (a2 a3 : FVec Ideal ⟨2, ![1, 2048]⟩ .f32) : Inp :=
  ⟨row a0, fun k => a1 (ix1 k), fun k => a2 (ix2 0 k), fun k => a3 (ix2 0 k)⟩

/-- The result, as an array. -/
def outArr (I : Inp) : FVec Ideal ⟨2, ![4096, 2048]⟩ .bf16 := fun y => modRow len (I.X (y 0)) I.g I.sc I.sh (y 1)

section Kernel

open Cert.ModFwdIdeal Cert.ModFwdIdeal.Gen

/-- A point's rows of the result. -/
theorem tile (I : Inp) (R : ℕ) (hR : R + 512 ≤ 4096) (x0 : Vec Ideal S512x2048 .f32) (x1 x2 x3 : Vec Ideal S1x2048 .f32)
    (h0 : ∀ (p : Fin 512) (k : Fin 2048), x0 (ix2 p k) = I.X ⟨R + p, by omega⟩ k) (h1 : ∀ k : Fin 2048, x1 (ix2 0 k) = I.g k)
    (h2 : ∀ k : Fin 2048, x2 (ix2 0 k) = I.sc k) (h3 : ∀ k : Fin 2048, x3 (ix2 0 k) = I.sh k) (p : Fin 512) (k : Fin 2048) :
    k0_pay1 x0 x1 x2 x3 (ix2 p k) = modRow len (I.X ⟨R + p, by omega⟩) I.g I.sc I.sh k := by
  pointwise [k0_pay1]
  simp only [h0, h1, h2, h3]
  rfl

/-- Where the windows' blocks lie. -/
theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) :=
  (by decide +kernel : ∀ t : Fin grid0.N, _)

variable (m : (ℓ : Loc nD τ sig) → Buf (Elt Ideal) ℓ) (c : Dev nD)

theorem hN (t : Fin cfg0.N) : t.val < 8 := lt_of_lt_of_eq t.isLt N_0

/-- The arguments of core `c`. -/
def at' : Inp := args (m ((c : Thread nD τ).loc main_arg0)) (m ((c : Thread nD τ).loc main_arg1)) (m ((c : Thread nD τ).loc main_arg2))
  (m ((c : Thread nD τ).loc main_arg3))

theorem final4 : (dats m 0 c).arrAt 4 cfg0.N = outArr (at' m c) := by
  refine (dats m 0 c).arrAt_eq_of_covers 4 _ (by decide +kernel) fun t hf y => ?_
  have hn := hN t
  obtain ⟨⟨e0, e1⟩, ⟨f0, f1⟩, ⟨g0, g1⟩, ⟨i0, i1⟩, ⟨j0, j1⟩⟩ := idx t
  obtain ⟨p, q, rfl⟩ : ∃ (p : Fin 512) (q : Fin 2048), y = ix2 p q := ⟨y 0, y 1, eq_ix2 y⟩
  rw [after0_4]
  frame_out
  refine (tile (at' m c) (512 * t.val) (by omega) _ _ _ _ ?_ ?_ ?_ ?_ p q).trans ?_
  · intro p k
    unfold at' args row
    blk_ext [iblk, V_main_arg0, e0, e1]
  · intro k
    unfold at' args
    blk_ext! [iblk, V, f0, f1]
  · intro k
    unfold at' args
    blk_ext [iblk, V_main_arg2, g0, g1]
  · intro k
    unfold at' args
    blk_ext [iblk, V_main_arg3, i0, i1]
  · exact congrArg₂ (fun i k => modRow len ((at' m c).X i) (at' m c).g (at' m c).sc (at' m c).sh k)
      (Fin.ext (by blk_simp [j0, Nat.mul_comm])) (Fin.ext (by blk_simp [j1]))

end Kernel

section Reference

open Cert.RefModFwdIdeal Cert.RefModFwdIdeal.Read

variable (a0 : FVec Ideal ⟨2, ![4096, 2048]⟩ .f32) (a1 : FVec Ideal ⟨1, ![2048]⟩ .f32) (a2 a3 : FVec Ideal ⟨2, ![1, 2048]⟩ .f32)

theorem r7 (i : Fin 4096) : val_main_v7 (F := Ideal) a0 (ix2 i 0) = rs len (row a0 i) := by
  pointwise [val_main_v7, val_main_v6, val_main_v5, val_main_v4, val_main_v3, val_main_v2, val_main_v1, val_main_v0, val_main_cst,
    val_main_cst_0, val_main_cst_1]
  rfl

theorem r19 : val_main_v19 (F := Ideal) a0 a1 a2 a3 = outArr (args a0 a1 a2 a3) := by
  funext y
  obtain ⟨i, k, rfl⟩ : ∃ (i : Fin 4096) (k : Fin 2048), y = ix2 i k := ⟨y 0, y 1, eq_ix2 y⟩
  pointwise [val_main_v19, val_main_v18, val_main_v17, val_main_v16, val_main_v15, val_main_v14, val_main_v13, val_main_v12, val_main_v11,
    val_main_v10, val_main_v9, val_main_v8, val_main_cst_2]
  rw [r7]
  rfl

end Reference

/-- The reference runs, keeps its arguments and leaves every counter at zero. -/
theorem frame_ri : Cert.quiescent_RefModFwdIdeal := fun m ρ _ =>
  (θ_run Cert.RefModFwdIdeal.defs _ _).mono (fun r h => ⟨fun c => (h c).2, sem_eq_zero_of_no_sems (by decide) r.2⟩)
    (Cert.RefModFwdIdeal.Value.run (F := Ideal) m ρ)

theorem algebraic : Cert.algebraic_ModFwdIdeal_RefModFwdIdeal := by
  intro m g m' g' _ hagree
  refine ⟨fun c => outArr (at' m c), ?_, ?_⟩
  · exact (θ_run Cert.ModFwdIdeal.defs _ _).mono (fun _ h c => ⟨(h c).1.trans (final4 m c), (h c).2⟩)
      (Cert.ModFwdIdeal.Value.run_blocks (F := Ideal) m g)
  · refine (θ_run Cert.RefModFwdIdeal.defs _ _).mono (fun _ h c => ?_) (Cert.RefModFwdIdeal.Value.run (F := Ideal) m' g')
    obtain ⟨h0, h1, h2, h3⟩ := hagree c
    have e : args (m' ((c.tc : Thread Cert.RefModFwdIdeal.nD Cert.RefModFwdIdeal.τ).loc Cert.RefModFwdIdeal.main_arg0))
        (m' ((c.tc : Thread Cert.RefModFwdIdeal.nD Cert.RefModFwdIdeal.τ).loc Cert.RefModFwdIdeal.main_arg1))
        (m' ((c.tc : Thread Cert.RefModFwdIdeal.nD Cert.RefModFwdIdeal.τ).loc Cert.RefModFwdIdeal.main_arg2))
        (m' ((c.tc : Thread Cert.RefModFwdIdeal.nD Cert.RefModFwdIdeal.τ).loc Cert.RefModFwdIdeal.main_arg3)) = at' m c := by
      unfold at'
      rw [h0, h1, h2, h3]
    exact ⟨(h c).1.trans ((Cert.RefModFwdIdeal.Read.val_main_v19_eq _ _ _ _).trans ((r19 _ _ _ _).trans (congrArg outArr e))), (h c).2⟩

end Cert.Norm.ModFwd
-- ==== Proof.ResModFwd.lean ====
/- The residual step and the modulated norm after it, forward: every point of the grid works on 512 rows. -/
module

public import proofs.«01_k».proof.Defs
public import proofs.«01_k».proof.Proof.FwdSpec
public import proofs.«01_k».proof.Proof.Gen.ResModFwdIdeal.Frame
public import proofs.«01_k».proof.Proof.Gen.ResModFwdIdeal.Value
public import proofs.«01_k».proof.Proof.Gen.RefResModFwdIdeal.Run
public import proofs.«01_k».proof.Proof.Gen.RefResModFwdIdeal.Read
public import Idealize.ShloMosaic.Lib.Pipeline.ValueKit
public import Idealize.ShloMosaic.Lib.Pointwise
public import Idealize.ShloMosaic.Adequacy

@[expose] public section

noncomputable section

namespace Cert.Norm.ResModFwd

open Idealize.ShloMosaic Idealize.ShloMosaic.TcCoe Idealize.SL.Sem

set_option maxRecDepth 16384

/-- The arguments: the residual rows, the added rows with their weights and gate, then the weights, scale and shift of the norm after. -/
structure Inp where
  X : Fin 4096 → Fin 2048 → EReal
  Y : Fin 4096 → Fin 2048 → EReal
  g : Fin 2048 → EReal
  gt : Fin 2048 → EReal
  g2 : Fin 2048 → EReal
  sc : Fin 2048 → EReal
  sh : Fin 2048 → EReal

/-- The arguments, from the arrays. -/
def args (a0 a1 : FVec Ideal ⟨2, ![4096, 2048]⟩ .f32) (a2 : FVec Ideal ⟨1, ![2048]⟩ .f32) (a3 : FVec Ideal ⟨2, ![1, 2048]⟩ .f32)
    (a4 : FVec Ideal ⟨1, ![2048]⟩ .f32) (a5 a6 : FVec Ideal ⟨2, ![1, 2048]⟩ .f32) : Inp :=
  ⟨row a0, row a1, fun k => a2 (ix1 k), fun k => a3 (ix2 0 k), fun k => a4 (ix1 k), fun k => a5 (ix2 0 k), fun k => a6 (ix2 0 k)⟩

/-- The new residual rows. -/
def Inp.xo (I : Inp) (i : Fin 4096) (k : Fin 2048) : EReal := resRow len (I.X i) (I.Y i) I.g I.gt k

/-- The two results, as arrays. -/
def xoArr (I : Inp) : FVec Ideal ⟨2, ![4096, 2048]⟩ .f32 := fun y => I.xo (y 0) (y 1)
def hArr (I : Inp) : FVec Ideal ⟨2, ![4096, 2048]⟩ .bf16 := fun y => modRow len (I.xo (y 0)) I.g2 I.sc I.sh (y 1)

section Kernel

open Cert.ResModFwdIdeal Cert.ResModFwdIdeal.Gen

/-- What the windows hold at a point whose first row is row `R`. -/
structure Finds (I : Inp) (R : ℕ) (hR : R + 512 ≤ 4096) (x0 x1 : Vec Ideal S512x2048 .f32) (x2 x3 x4 x5 x6 : Vec Ideal S1x2048 .f32) : Prop where
  h0 : ∀ (p : Fin 512) (k : Fin 2048), x0 (ix2 p k) = I.X ⟨R + p, by omega⟩ k
  h1 : ∀ (p : Fin 512) (k : Fin 2048), x1 (ix2 p k) = I.Y ⟨R + p, by omega⟩ k
  h2 : ∀ k : Fin 2048, x2 (ix2 0 k) = I.g k
  h3 : ∀ k : Fin 2048, x3 (ix2 0 k) = I.gt k
  h4 : ∀ k : Fin 2048, x4 (ix2 0 k) = I.g2 k
  h5 : ∀ k : Fin 2048, x5 (ix2 0 k) = I.sc k
  h6 : ∀ k : Fin 2048, x6 (ix2 0 k) = I.sh k

section Body

variable {I : Inp} {R : ℕ} {hR : R + 512 ≤ 4096} {x0 x1 : Vec Ideal S512x2048 .f32} {x2 x3 x4 x5 x6 : Vec Ideal S1x2048 .f32}
  (H : Finds I R hR x0 x1 x2 x3 x4 x5 x6)
include H

theorem rowsX (p : Fin 512) (k : Fin 2048) : k0_pay2 x1 x0 x3 x2 (ix2 p k) = I.xo ⟨R + p, by omega⟩ k := by
  pointwise [k0_pay2]
  simp only [H.h0, H.h1, H.h2, H.h3]
  rfl

theorem unit (p : Fin 512) (k : Fin 2048) : k0_pay3 x1 x0 x3 x2 x4 (ix2 p k) = unitRow len (I.xo ⟨R + p, by omega⟩) I.g2 k := by
  pointwise [k0_pay3]
  simp only [rowsX H, H.h4]
  rfl

theorem rowsH (p : Fin 512) (k : Fin 2048) :
    k0_pay1 (k0_pay3 x1 x0 x3 x2 x4) x5 x6 (ix2 p k) = modRow len (I.xo ⟨R + p, by omega⟩) I.g2 I.sc I.sh k := by
  pointwise [k0_pay1]
  simp only [unit H, H.h5, H.h6]
  rfl

end Body

/-- Where the windows' blocks lie. -/
theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0)
    ∧ (win0_7.index t 0 = t.val ∧ win0_7.index t 1 = 0) ∧ (win0_8.index t 0 = t.val ∧ win0_8.index t 1 = 0) :=
  (by decide +kernel : ∀ t : Fin grid0.N, _)

variable (m : (ℓ : Loc nD τ sig) → Buf (Elt Ideal) ℓ) (c : Dev nD)

theorem hN (t : Fin cfg0.N) : t.val < 8 := lt_of_lt_of_eq t.isLt N_0

/-- The arguments of core `c`. -/
def at' : Inp := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))

theorem finds (t : Fin cfg0.N) : Finds (at' m c) (512 * t.val) (by have := hN t; omega) (iblk m c 0 t) (iblk m c 1 t) (iblk m c 2 t)
    (iblk m c 3 t) (iblk m c 4 t) (iblk m c 5 t) (iblk m c 6 t) where
  h0 p k := by
    have hn := hN t
    obtain ⟨⟨e0, e1⟩, -⟩ := idx t
    unfold at' args row
    blk_ext [iblk, V_main_arg0, e0, e1]
  h1 p k := by
    have hn := hN t
    obtain ⟨-, ⟨e0, e1⟩, -⟩ := idx t
    unfold at' args row
    blk_ext [iblk, V_main_arg1, e0, e1]
  h2 k := by
    have hn := hN t
    obtain ⟨-, -, ⟨e0, e1⟩, -⟩ := idx t
    unfold at' args
    blk_ext! [iblk, V, e0, e1]
  h3 k := by
    have hn := hN t
    obtain ⟨-, -, -, ⟨e0, e1⟩, -⟩ := idx t
    unfold at' args
    blk_ext [iblk, V_main_arg3, e0, e1]
  h4 k := by
    have hn := hN t
    obtain ⟨-, -, -, -, ⟨e0, e1⟩, -⟩ := idx t
    unfold at' args
    blk_ext! [iblk, V, e0, e1]
  h5 k := by
    have hn := hN t
    obtain ⟨-, -, -, -, -, ⟨e0, e1⟩, -⟩ := idx t
    unfold at' args
    blk_ext [iblk, V_main_arg5, e0, e1]
  h6 k := by
    have hn := hN t
    obtain ⟨-, -, -, -, -, -, ⟨e0, e1⟩, -⟩ := idx t
    unfold at' args
    blk_ext [iblk, V_main_arg6, e0, e1]

theorem final7 : (dats m 0 c).arrAt 7 cfg0.N = xoArr (at' m c) := by
  refine (dats m 0 c).arrAt_eq_of_covers 7 _ (by decide +kernel) fun t hf y => ?_
  have hn := hN t
  obtain ⟨-, -, -, -, -, -, -, ⟨e0, e1⟩, -⟩ := idx t
  obtain ⟨p, q, rfl⟩ : ∃ (p : Fin 512) (q : Fin 2048), y = ix2 p q := ⟨y 0, y 1, eq_ix2 y⟩
  rw [after0_7]
  frame_out
  refine (rowsX (finds m c t) p q).trans ?_
  exact congrArg₂ (at' m c).xo (Fin.ext (by blk_simp [e0, Nat.mul_comm])) (Fin.ext (by blk_simp [e1]))

theorem final8 : (dats m 0 c).arrAt 8 cfg0.N = hArr (at' m c) := by
  refine (dats m 0 c).arrAt_eq_of_covers 8 _ (by decide +kernel) fun t hf y => ?_
  have hn := hN t
  obtain ⟨-, -, -, -, -, -, -, -, ⟨e0, e1⟩⟩ := idx t
  obtain ⟨p, q, rfl⟩ : ∃ (p : Fin 512) (q : Fin 2048), y = ix2 p q := ⟨y 0, y 1, eq_ix2 y⟩
  rw [after0_8]
  frame_out
  refine (rowsH (finds m c t) p q).trans ?_
  exact congrArg₂ (fun i k => modRow len ((at' m c).xo i) (at' m c).g2 (at' m c).sc (at' m c).sh k)
    (Fin.ext (by blk_simp [e0, Nat.mul_comm])) (Fin.ext (by blk_simp [e1]))

end Kernel

section Reference

open Cert.RefResModFwdIdeal Cert.RefResModFwdIdeal.Read

variable (a0 a1 : FVec Ideal ⟨2, ![4096, 2048]⟩ .f32) (a2 : FVec Ideal ⟨1, ![2048]⟩ .f32) (a3 : FVec Ideal ⟨2, ![1, 2048]⟩ .f32)
    (a4 : FVec Ideal ⟨1, ![2048]⟩ .f32) (a5 a6 : FVec Ideal ⟨2, ![1, 2048]⟩ .f32)

theorem r9 (i : Fin 4096) : val_main_v9 (F := Ideal) a1 (ix2 i 0) = rs len (row a1 i) := by
  pointwise [val_main_v9, val_main_v8, val_main_v7, val_main_v6, val_main_v5, val_main_v4, val_main_v3, val_main_v2, val_main_cst_0,
    val_main_cst_1, val_main_cst_2]
  rfl

theorem r17 (i : Fin 4096) (k : Fin 2048) : val_main_v17 (F := Ideal) a0 a1 a2 a3 (ix2 i k) = (args a0 a1 a2 a3 a4 a5 a6).xo i k := by
  pointwise [val_main_v17, val_main_v16, val_main_v15, val_main_v14, val_main_v13, val_main_v12, val_main_v11, val_main_v10, val_main_v1,
    val_main_v0, val_main_cst]
  rw [r9]
  rfl

theorem rX : val_main_v17 (F := Ideal) a0 a1 a2 a3 = xoArr (args a0 a1 a2 a3 a4 a5 a6) := by
  funext y
  obtain ⟨i, k, rfl⟩ : ∃ (i : Fin 4096) (k : Fin 2048), y = ix2 i k := ⟨y 0, y 1, eq_ix2 y⟩
  exact r17 a0 a1 a2 a3 a4 a5 a6 i k

theorem r25 (i : Fin 4096) : val_main_v25 (F := Ideal) a0 a1 a2 a3 (ix2 i 0) = rs len ((args a0 a1 a2 a3 a4 a5 a6).xo i) := by
  pointwise [val_main_v25, val_main_v24, val_main_v23, val_main_v22, val_main_v21, val_main_v20, val_main_v19, val_main_v18, val_main_cst_3,
    val_main_cst_4, val_main_cst_5]
  simp only [r17 a0 a1 a2 a3 a4 a5 a6]
  rfl

theorem rH : val_main_v37 (F := Ideal) a0 a1 a2 a3 a4 a5 a6 = hArr (args a0 a1 a2 a3 a4 a5 a6) := by
  funext y
  obtain ⟨i, k, rfl⟩ : ∃ (i : Fin 4096) (k : Fin 2048), y = ix2 i k := ⟨y 0, y 1, eq_ix2 y⟩
  pointwise [val_main_v37, val_main_v36, val_main_v35, val_main_v34, val_main_v33, val_main_v32, val_main_v31, val_main_v30, val_main_v29,
    val_main_v28, val_main_v27, val_main_v26, val_main_cst_6]
  rw [r25 a0 a1 a2 a3 a4 a5 a6, r17 a0 a1 a2 a3 a4 a5 a6]
  rfl

end Reference

/-- The reference runs, keeps its arguments and leaves every counter at zero. -/
theorem frame_ri : Cert.quiescent_RefResModFwdIdeal := fun m ρ _ =>
  (θ_run Cert.RefResModFwdIdeal.defs _ _).mono (fun r h => ⟨fun c => (h c).2.2, sem_eq_zero_of_no_sems (by decide) r.2⟩)
    (Cert.RefResModFwdIdeal.Value.run (F := Ideal) m ρ)

theorem algebraic : Cert.algebraic_ResModFwdIdeal_RefResModFwdIdeal := by
  intro m g m' g' _ hagree
  refine ⟨fun c => xoArr (at' m c), fun c => hArr (at' m c), ?_, ?_⟩
  · exact (θ_run Cert.ResModFwdIdeal.defs _ _).mono (fun _ h c => ⟨(h c).1.trans (final7 m c), (h c).2.1.trans (final8 m c), (h c).2.2⟩)
      (Cert.ResModFwdIdeal.Value.run_blocks (F := Ideal) m g)
  · refine (θ_run Cert.RefResModFwdIdeal.defs _ _).mono (fun _ h c => ?_) (Cert.RefResModFwdIdeal.Value.run (F := Ideal) m' g')
    obtain ⟨h0, h1, h2, h3, h4, h5, h6⟩ := hagree c
    have e : args (m' ((c.tc : Thread Cert.RefResModFwdIdeal.nD Cert.RefResModFwdIdeal.τ).loc Cert.RefResModFwdIdeal.main_arg0))
        (m' ((c.tc : Thread Cert.RefResModFwdIdeal.nD Cert.RefResModFwdIdeal.τ).loc Cert.RefResModFwdIdeal.main_arg1))
        (m' ((c.tc : Thread Cert.RefResModFwdIdeal.nD Cert.RefResModFwdIdeal.τ).loc Cert.RefResModFwdIdeal.main_arg2))
        (m' ((c.tc : Thread Cert.RefResModFwdIdeal.nD Cert.RefResModFwdIdeal.τ).loc Cert.RefResModFwdIdeal.main_arg3))
        (m' ((c.tc : Thread Cert.RefResModFwdIdeal.nD Cert.RefResModFwdIdeal.τ).loc Cert.RefResModFwdIdeal.main_arg4))
        (m' ((c.tc : Thread Cert.RefResModFwdIdeal.nD Cert.RefResModFwdIdeal.τ).loc Cert.RefResModFwdIdeal.main_arg5))
        (m' ((c.tc : Thread Cert.RefResModFwdIdeal.nD Cert.RefResModFwdIdeal.τ).loc Cert.RefResModFwdIdeal.main_arg6)) = at' m c := by
      unfold at'
      rw [h0, h1, h2, h3, h4, h5, h6]
    exact ⟨(h c).1.trans ((Cert.RefResModFwdIdeal.Read.val_main_v17_eq _ _ _ _).trans ((rX _ _ _ _ _ _ _).trans (congrArg xoArr e))),
      (h c).2.1.trans ((Cert.RefResModFwdIdeal.Read.val_main_v37_eq _ _ _ _ _ _ _).trans ((rH _ _ _ _ _ _ _).trans (congrArg hArr e))), (h c).2.2⟩

end Cert.Norm.ResModFwd
-- ==== Proof.ResLoss.lean ====
/- The last residual step, the loss and its gradient: every point of the grid works on 512 rows; the loss is a sum over all rows,
   kept from one point to the next. -/
module

public import proofs.«01_k».proof.Defs
public import proofs.«01_k».proof.Proof.FwdSpec
public import proofs.«01_k».proof.Proof.Gen.ResLossIdeal.Frame
public import proofs.«01_k».proof.Proof.Gen.ResLossIdeal.Value
public import proofs.«01_k».proof.Proof.Gen.RefResLossIdeal.Run
public import proofs.«01_k».proof.Proof.Gen.RefResLossIdeal.Read
public import Idealize.ShloMosaic.Lib.Pipeline.ValueKit
public import Idealize.ShloMosaic.Lib.Pointwise
public import Idealize.ShloMosaic.Adequacy

@[expose] public section

noncomputable section

namespace Cert.Norm.ResLoss

open Idealize.ShloMosaic Idealize.ShloMosaic.TcCoe Idealize.SL.Sem
open Cert.Gate (ofBits_half)

set_option maxRecDepth 16384

/-- The arguments: the residual rows, the added rows with their weights and gate, and the target. -/
structure Inp where
  X : Fin 4096 → Fin 2048 → EReal
  Y : Fin 4096 → Fin 2048 → EReal
  g : Fin 2048 → EReal
  gt : Fin 2048 → EReal
  T : Fin 4096 → Fin 2048 → EReal

/-- The arguments, from the arrays. -/
def args (a0 a1 : FVec Ideal ⟨2, ![4096, 2048]⟩ .f32) (a2 : FVec Ideal ⟨1, ![2048]⟩ .f32) (a3 : FVec Ideal ⟨2, ![1, 2048]⟩ .f32)
    (a4 : FVec Ideal ⟨2, ![4096, 2048]⟩ .f32) : Inp := ⟨row a0, row a1, fun k => a2 (ix1 k), fun k => a3 (ix2 0 k), row a4⟩

namespace Inp

variable (I : Inp)

/-- The error of an entry. -/
def err (i : Fin 4096) (k : Fin 2048) : EReal := resRow len (I.X i) (I.Y i) I.g I.gt k - I.T i k

/-- A row's summed squares, and its share in the loss: half their mean. -/
def sq (i : Fin 4096) : EReal := ∑ k, I.err i k * I.err i k
def share (i : Fin 4096) : EReal := I.sq i * ((1 / 4096 : ℝ) : EReal)

/-- The gradient at an entry. -/
def grad (i : Fin 4096) (k : Fin 2048) : EReal := I.err i k * ((1 / 2048 : ℝ) : EReal)

end Inp

/-- The two results, as arrays: every entry of the second is the loss. -/
def gradArr (I : Inp) : FVec Ideal ⟨2, ![4096, 2048]⟩ .f32 := fun y => I.grad (y 0) (y 1)
def lossArr (I : Inp) : FVec Ideal ⟨2, ![8, 128]⟩ .f32 := fun _ => ∑ i, I.share i

theorem ofBits_mean : Ideal.ofBits .f32 0x3A000000#32 = ((1 / 2048 : ℝ) : EReal) := by
  simp [Ideal.ofBits, Ideal.ieee, -EReal.coe_mul]; norm_num

theorem ofBits_half_mean : Ideal.ofBits .f32 0x39800000#32 = ((1 / 4096 : ℝ) : EReal) := by
  simp [Ideal.ofBits, Ideal.ieee, -EReal.coe_mul]; norm_num

section Kernel

open Cert.ResLossIdeal Cert.ResLossIdeal.Gen

/-- What the windows hold at a point whose first row is row `R`. -/
structure Finds (I : Inp) (R : ℕ) (hR : R + 512 ≤ 4096) (x0 x1 : Vec Ideal S512x2048 .f32) (x2 x3 : Vec Ideal S1x2048 .f32)
    (x4 : Vec Ideal S512x2048 .f32) : Prop where
  h0 : ∀ (p : Fin 512) (k : Fin 2048), x0 (ix2 p k) = I.X ⟨R + p, by omega⟩ k
  h1 : ∀ (p : Fin 512) (k : Fin 2048), x1 (ix2 p k) = I.Y ⟨R + p, by omega⟩ k
  h2 : ∀ k : Fin 2048, x2 (ix2 0 k) = I.g k
  h3 : ∀ k : Fin 2048, x3 (ix2 0 k) = I.gt k
  h4 : ∀ (p : Fin 512) (k : Fin 2048), x4 (ix2 p k) = I.T ⟨R + p, by omega⟩ k

section Body

variable {I : Inp} {R : ℕ} {hR : R + 512 ≤ 4096} {x0 x1 : Vec Ideal S512x2048 .f32} {x2 x3 : Vec Ideal S1x2048 .f32}
  {x4 : Vec Ideal S512x2048 .f32} (H : Finds I R hR x0 x1 x2 x3 x4)
include H

theorem rowsE (p : Fin 512) (k : Fin 2048) : k0_pay3 x1 x0 x3 x2 x4 (ix2 p k) = I.err ⟨R + p, by omega⟩ k := by
  pointwise [k0_pay3]
  simp only [H.h0, H.h1, H.h2, H.h3, H.h4]
  rfl

theorem rowsG (p : Fin 512) (k : Fin 2048) : k0_pay4 x1 x0 x3 x2 x4 (ix2 p k) = I.grad ⟨R + p, by omega⟩ k := by
  pointwise [k0_pay4]
  rw [rowsE H, ofBits_mean]
  rfl

theorem sumL (s : Vec Ideal S8x128 .f32) (a : Fin 8) (b : Fin 128) :
    k0_pay1 (k0_pay5 s) (k0_pay6 x1 x0 x3 x2 x4) (ix2 a b) = s (ix2 a b) + ∑ p : Fin 512, I.share ⟨R + p, by omega⟩ := by
  unfold Inp.share
  rw [sum_scale _ _ (by norm_num)]
  pointwise [k0_pay1, k0_pay5, k0_pay6]
  simp only [rowsE H, ofBits_half_mean]
  rfl

end Body

theorem zero2 (x : S8x128.Idx) : k0_pay2 (F := Ideal) x = (0 : EReal) := by
  pointwise [k0_pay2]

/-- Where the windows' blocks lie. -/
theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

variable (m : (ℓ : Loc nD τ sig) → Buf (Elt Ideal) ℓ) (c : Dev nD)

theorem hN (t : Fin cfg0.N) : t.val < 8 := lt_of_lt_of_eq t.isLt N_0

/-- The arguments of core `c`. -/
def at' : Inp := args (m ((c : Thread nD τ).loc main_arg0)) (m ((c : Thread nD τ).loc main_arg1)) (m ((c : Thread nD τ).loc main_arg2))
  (m ((c : Thread nD τ).loc main_arg3)) (m ((c : Thread nD τ).loc main_arg4))

theorem finds (t : Fin cfg0.N) : Finds (at' m c) (512 * t.val) (by have := hN t; omega) (iblk m c 0 t) (iblk m c 1 t) (iblk m c 2 t)
    (iblk m c 3 t) (iblk m c 4 t) where
  h0 p k := by
    have hn := hN t
    obtain ⟨⟨e0, e1⟩, -⟩ := idx t
    unfold at' args row
    blk_ext [iblk, V_main_arg0, e0, e1]
  h1 p k := by
    have hn := hN t
    obtain ⟨-, ⟨e0, e1⟩, -⟩ := idx t
    unfold at' args row
    blk_ext [iblk, V_main_arg1, e0, e1]
  h2 k := by
    have hn := hN t
    obtain ⟨-, -, ⟨e0, e1⟩, -⟩ := idx t
    unfold at' args
    blk_ext! [iblk, V, e0, e1]
  h3 k := by
    have hn := hN t
    obtain ⟨-, -, -, ⟨e0, e1⟩, -⟩ := idx t
    unfold at' args
    blk_ext [iblk, V_main_arg3, e0, e1]
  h4 p k := by
    have hn := hN t
    obtain ⟨-, -, -, -, ⟨e0, e1⟩, -⟩ := idx t
    unfold at' args row
    blk_ext [iblk, V_main_arg4, e0, e1]

/-- What a point leaves in the buffers. -/
structure Leaves (I : Inp) (R : ℕ) (hR : R + 512 ≤ 4096) (o : Vec Ideal S512x2048 .f32 × Vec Ideal S8x128 .f32) : Prop where
  dy : ∀ (p : Fin 512) (k : Fin 2048), o.1 (ix2 p k) = I.grad ⟨R + p, by omega⟩ k
  l : ∀ (a : Fin 8) (b : Fin 128), o.2 (ix2 a b) = upto I.share (R + 512)

theorem leaves_A (t : Fin cfg0.N) (h0 : t.val % 8 = 0) : Leaves (at' m c) (512 * t.val) (by have := hN t; omega) (outsAt0 m c t.val t.isLt) := by
  have hn := hN t
  have H := finds m c t
  have hz : 512 * t.val = 0 := by omega
  rw [outsAt0_A m c t h0]
  constructor
  · intro p k
    frame_out
    exact rowsG H p k
  · intro a b
    frame_out
    refine (sumL H _ a b).trans ?_
    refine Eq.trans (congrArg (· + _) ?_) (upto_start _ (512 * t.val) 512 hz (by omega))
    exact zero2 _

theorem leaves_B (t : Fin cfg0.N) (h0 : ¬t.val % 8 = 0) (hb : 512 * (t.val - 1) + 512 ≤ 4096)
    (ih : Leaves (at' m c) (512 * (t.val - 1)) hb (outsAt0 m c (t.val - 1) (lt_of_le_of_lt (Nat.sub_le _ _) t.isLt))) :
    Leaves (at' m c) (512 * t.val) (by have := hN t; omega) (outsAt0 m c t.val t.isLt) := by
  have hn := hN t
  have H := finds m c t
  have hz : 512 * (t.val - 1) + 512 = 512 * t.val := by omega
  rw [outsAt0_B m c t h0]
  constructor
  · intro p k
    frame_out
    exact rowsG H p k
  · intro a b
    frame_out
    refine (sumL H _ a b).trans ?_
    refine Eq.trans (congrArg (· + _) ?_) (upto_add _ (512 * t.val) 512 (by omega))
    exact (ih.l a b).trans (by rw [hz])

/-- By induction on the point. -/
theorem leaves : ∀ (n : ℕ) (hn : n < cfg0.N), Leaves (at' m c) (512 * n) (by have := hN ⟨n, hn⟩; dsimp only at this; omega) (outsAt0 m c n hn)
  | 0, hn => leaves_A m c ⟨0, hn⟩ rfl
  | n + 1, hn => by
    have h8 := hN ⟨n + 1, hn⟩
    dsimp only at h8
    exact leaves_B m c ⟨n + 1, hn⟩ (by dsimp only; omega) (by dsimp only; omega) (leaves n (Nat.lt_of_succ_lt hn))

theorem final5 : (dats m 0 c).arrAt 5 cfg0.N = gradArr (at' m c) := by
  refine (dats m 0 c).arrAt_eq_of_covers 5 _ (by decide +kernel) fun t hf y => ?_
  have hn := hN t
  obtain ⟨-, -, -, -, -, ⟨e0, e1⟩, -⟩ := idx t
  obtain ⟨p, q, rfl⟩ : ∃ (p : Fin 512) (q : Fin 2048), y = ix2 p q := ⟨y 0, y 1, eq_ix2 y⟩
  rw [after0_5]
  refine ((leaves m c t.val t.isLt).dy p q).trans ?_
  exact congrArg₂ (at' m c).grad (Fin.ext (by blk_simp [e0, Nat.mul_comm])) (Fin.ext (by blk_simp [e1]))

theorem final6 : (dats m 0 c).arrAt 6 cfg0.N = lossArr (at' m c) := by
  refine (dats m 0 c).arrAt_eq_of_covers 6 _ (by decide +kernel) fun t hf y => ?_
  have hn := hN t
  have hl : t.val % 8 = 7 := (flush0_6 t).mp hf
  obtain ⟨p, q, rfl⟩ : ∃ (p : Fin 8) (q : Fin 128), y = ix2 p q := ⟨y 0, y 1, eq_ix2 y⟩
  rw [after0_6]
  refine ((leaves m c t.val t.isLt).l p q).trans ?_
  rw [show 512 * t.val + 512 = 4096 by omega, upto_all]
  rfl

end Kernel

section Reference

open Cert.RefResLossIdeal Cert.RefResLossIdeal.Read

variable (a0 a1 : FVec Ideal ⟨2, ![4096, 2048]⟩ .f32) (a2 : FVec Ideal ⟨1, ![2048]⟩ .f32) (a3 : FVec Ideal ⟨2, ![1, 2048]⟩ .f32)
    (a4 : FVec Ideal ⟨2, ![4096, 2048]⟩ .f32)

theorem r9 (i : Fin 4096) : val_main_v9 (F := Ideal) a1 (ix2 i 0) = rs len (row a1 i) := by
  pointwise [val_main_v9, val_main_v8, val_main_v7, val_main_v6, val_main_v5, val_main_v4, val_main_v3, val_main_v2, val_main_cst_0,
    val_main_cst_1, val_main_cst_2]
  rfl

theorem r18 (i : Fin 4096) (k : Fin 2048) : val_main_v18 (F := Ideal) a0 a1 a2 a3 a4 (ix2 i k) = (args a0 a1 a2 a3 a4).err i k := by
  pointwise [val_main_v18, val_main_v17, val_main_v16, val_main_v15, val_main_v14, val_main_v13, val_main_v12, val_main_v11, val_main_v10,
    val_main_v1, val_main_v0, val_main_cst]
  rw [r9]
  rfl

theorem ofBits_two : Ideal.ofBits .f32 0x40000000#32 = 2 := by
  refine Eq.trans (b := ((2 : ℝ) : EReal)) ?_ rfl
  simp [Ideal.ofBits, Ideal.ieee, -EReal.coe_mul]; norm_num

/-- Doubling and then halving the mean's share. -/
theorem halves (x : EReal) : Ideal.div ((1 / 2 : ℝ) : EReal) len * (2 * x) = x * ((1 / 2048 : ℝ) : EReal) := by
  unfold len
  rw [ofBits_len, Ideal.div_coe (by norm_num), show (2 : EReal) = ((2 : ℝ) : EReal) from rfl, ← mul_assoc, mul_comm x]
  norm_cast
  exact congrArg (fun r : ℝ => (r : EReal) * x) (by norm_num)

theorem rG : val_main_v32 (F := Ideal) a0 a1 a2 a3 a4 = gradArr (args a0 a1 a2 a3 a4) := by
  funext y
  obtain ⟨i, k, rfl⟩ : ∃ (i : Fin 4096) (k : Fin 2048), y = ix2 i k := ⟨y 0, y 1, eq_ix2 y⟩
  refine Eq.trans ?_ (halves ((args a0 a1 a2 a3 a4).err i k))
  pointwise [val_main_v32, val_main_v31, val_main_v30, val_main_v29, val_main_v28, val_main_v27, val_main_v21, val_main_v20, val_main_cst_3,
    val_main_cst_8, val_main_cst_9, val_main_cst_10]
  rw [r18, ofBits_half, ofBits_two]
  rfl

theorem r24 (i : Fin 4096) : val_main_v24 (F := Ideal) a0 a1 a2 a3 a4 (ix1 i) = (args a0 a1 a2 a3 a4).sq i * ((1 / 2048 : ℝ) : EReal) := by
  refine Eq.trans ?_ (Ideal.div_coe (x := (args a0 a1 a2 a3 a4).sq i) (show (2048 : ℝ) ≠ 0 by norm_num))
  pointwise [val_main_v24, val_main_v23, val_main_v22, val_main_v19, val_main_cst_4, val_main_cst_5]
  simp only [r18, ofBits_len]
  rfl

theorem rL : val_main_v33 (F := Ideal) a0 a1 a2 a3 a4 = lossArr (args a0 a1 a2 a3 a4) := by
  funext y
  obtain ⟨p, q, rfl⟩ : ∃ (p : Fin 8) (q : Fin 128), y = ix2 p q := ⟨y 0, y 1, eq_ix2 y⟩
  have e : ((1 / 2 : ℝ) : EReal) * ∑ i, (args a0 a1 a2 a3 a4).sq i * ((1 / 2048 : ℝ) : EReal) = ∑ i, (args a0 a1 a2 a3 a4).share i := by
    unfold Inp.share
    rw [sum_scale _ _ (by norm_num), sum_scale _ _ (by norm_num), mul_left_comm, ← EReal.coe_mul]
    exact congrArg (fun r : ℝ => _ * (r : EReal)) (by norm_num)
  refine Eq.trans ?_ e
  pointwise [val_main_v33, val_main_v26, val_main_v25, val_main_cst_6, val_main_cst_7]
  simp only [r24, ofBits_half]
  rfl

end Reference

/-- The reference runs, keeps its arguments and leaves every counter at zero. -/
theorem frame_ri : Cert.quiescent_RefResLossIdeal := fun m ρ _ =>
  (θ_run Cert.RefResLossIdeal.defs _ _).mono (fun r h => ⟨fun c => (h c).2.2, sem_eq_zero_of_no_sems (by decide) r.2⟩)
    (Cert.RefResLossIdeal.Value.run (F := Ideal) m ρ)

theorem algebraic : Cert.algebraic_ResLossIdeal_RefResLossIdeal := by
  intro m g m' g' _ hagree
  refine ⟨fun c => gradArr (at' m c), fun c => lossArr (at' m c), ?_, ?_⟩
  · exact (θ_run Cert.ResLossIdeal.defs _ _).mono (fun _ h c => ⟨(h c).1.trans (final5 m c), (h c).2.1.trans (final6 m c), (h c).2.2⟩)
      (Cert.ResLossIdeal.Value.run_blocks (F := Ideal) m g)
  · refine (θ_run Cert.RefResLossIdeal.defs _ _).mono (fun _ h c => ?_) (Cert.RefResLossIdeal.Value.run (F := Ideal) m' g')
    obtain ⟨h0, h1, h2, h3, h4⟩ := hagree c
    have e : args (m' ((c.tc : Thread Cert.RefResLossIdeal.nD Cert.RefResLossIdeal.τ).loc Cert.RefResLossIdeal.main_arg0))
        (m' ((c.tc : Thread Cert.RefResLossIdeal.nD Cert.RefResLossIdeal.τ).loc Cert.RefResLossIdeal.main_arg1))
        (m' ((c.tc : Thread Cert.RefResLossIdeal.nD Cert.RefResLossIdeal.τ).loc Cert.RefResLossIdeal.main_arg2))
        (m' ((c.tc : Thread Cert.RefResLossIdeal.nD Cert.RefResLossIdeal.τ).loc Cert.RefResLossIdeal.main_arg3))
        (m' ((c.tc : Thread Cert.RefResLossIdeal.nD Cert.RefResLossIdeal.τ).loc Cert.RefResLossIdeal.main_arg4)) = at' m c := by
      unfold at'
      rw [h0, h1, h2, h3, h4]
    exact ⟨(h c).1.trans ((Cert.RefResLossIdeal.Read.val_main_v32_eq _ _ _ _ _).trans ((rG _ _ _ _ _).trans (congrArg gradArr e))),
      (h c).2.1.trans ((Cert.RefResLossIdeal.Read.val_main_v33_eq _ _ _ _ _).trans ((rL _ _ _ _ _).trans (congrArg lossArr e))), (h c).2.2⟩

end Cert.Norm.ResLoss
-- ==== Proof.MergeFwd.lean ====
/- The merge, forward: every point of the grid works on 256 rows; the attention half goes left and the gated half right. -/
module

public import proofs.«01_k».proof.Defs
public import proofs.«01_k».proof.Proof.FwdSpec
public import proofs.«01_k».proof.Proof.Gen.MergeFwdIdeal.Frame
public import proofs.«01_k».proof.Proof.Gen.MergeFwdIdeal.Value
public import proofs.«01_k».proof.Proof.Gen.RefMergeFwdIdeal.Run
public import proofs.«01_k».proof.Proof.Gen.RefMergeFwdIdeal.Read
public import Idealize.ShloMosaic.Lib.Pipeline.ValueKit
public import Idealize.ShloMosaic.Lib.Pointwise
public import Idealize.ShloMosaic.Adequacy

@[expose] public section

noncomputable section

namespace Cert.Norm.MergeFwd

open Idealize.ShloMosaic Idealize.ShloMosaic.TcCoe Idealize.SL.Sem
open Cert.Gate (ofBits_c ofBits_a ofBits_half)

set_option maxRecDepth 16384

/-- The arguments: the attention rows, the state-space rows, the gate's rows, and the weights of the two norms. -/
structure Inp where
  A : Fin 4096 → Fin 1024 → EReal
  Y : Fin 4096 → Fin 1024 → EReal
  L : Fin 4096 → Fin 1024 → EReal
  ga : Fin 1024 → EReal
  gs : Fin 1024 → EReal

/-- The arguments, from the arrays. -/
def args (a0 a1 a2 : FVec Ideal ⟨2, ![4096, 1024]⟩ .f32) (a3 a4 : FVec Ideal ⟨1, ![1024]⟩ .f32) : Inp :=
  ⟨row a0, row a1, row a2, fun k => a3 (ix1 k), fun k => a4 (ix1 k)⟩

/-- The left and the right half of a row. -/
def Inp.lhs (I : Inp) (i : Fin 4096) (k : Fin 1024) : EReal := unitRow hlen (I.A i) I.ga k
def Inp.rhs (I : Inp) (i : Fin 4096) (k : Fin 1024) : EReal := unitRow hlen (gatedRow (I.Y i) (I.L i)) I.gs k

/-- A row of the result: the two halves side by side. -/
def Inp.out (I : Inp) (i : Fin 4096) (k : Fin 2048) : EReal :=
  if h : k.val < 1024 then I.lhs i ⟨k.val, h⟩ else I.rhs i ⟨k.val - 1024, by omega⟩

def outArr (I : Inp) : FVec Ideal ⟨2, ![4096, 2048]⟩ .bf16 := fun y => I.out (y 0) (y 1)

theorem Inp.out_left (I : Inp) (i : Fin 4096) (k : Fin 1024) : I.out i ⟨k.val, by omega⟩ = I.lhs i k := dif_pos k.isLt
theorem Inp.out_right (I : Inp) (i : Fin 4096) (k : Fin 1024) : I.out i ⟨1024 + k.val, by omega⟩ = I.rhs i k :=
  (dif_neg (by dsimp only; omega)).trans (congrArg (I.rhs i) (Fin.ext (by dsimp only; omega)))

section Kernel

open Cert.MergeFwdIdeal Cert.MergeFwdIdeal.Gen

/-- What the windows hold at a point whose first row is row `R`. -/
structure Finds (I : Inp) (R : ℕ) (hR : R + 256 ≤ 4096) (x0 x1 x2 : Vec Ideal S256x1024 .f32) (x3 x4 : Vec Ideal S1x1024 .f32) : Prop where
  h0 : ∀ (p : Fin 256) (k : Fin 1024), x0 (ix2 p k) = I.A ⟨R + p, by omega⟩ k
  h1 : ∀ (p : Fin 256) (k : Fin 1024), x1 (ix2 p k) = I.Y ⟨R + p, by omega⟩ k
  h2 : ∀ (p : Fin 256) (k : Fin 1024), x2 (ix2 p k) = I.L ⟨R + p, by omega⟩ k
  h3 : ∀ k : Fin 1024, x3 (ix2 0 k) = I.ga k
  h4 : ∀ k : Fin 1024, x4 (ix2 0 k) = I.gs k

section Body

variable {I : Inp} {R : ℕ} {hR : R + 256 ≤ 4096} {x0 x1 x2 : Vec Ideal S256x1024 .f32} {x3 x4 : Vec Ideal S1x1024 .f32}
  (H : Finds I R hR x0 x1 x2 x3 x4)
include H

theorem attn (p : Fin 256) (k : Fin 1024) : k0_pay2 x0 x3 (ix2 p k) = I.lhs ⟨R + p, by omega⟩ k := by
  pointwise [k0_pay2]
  simp only [H.h0, H.h3]
  rfl

theorem gated (p : Fin 256) (k : Fin 1024) :
    k0_pay3 x1 x2 (ix2 p k) = gatedRow (I.Y ⟨R + p, by omega⟩) (I.L ⟨R + p, by omega⟩) k := by
  pointwise [k0_pay3]
  rw [H.h1, H.h2, ofBits_c, ofBits_a, ofBits_half]
  rfl

theorem state (p : Fin 256) (k : Fin 1024) :
    k0_pay1 (k0_pay3 x1 x2) (k0_pay4 x1 x2) (Scalar.ofBits .f32 0x44800000#32) x4 (ix2 p k) = I.rhs ⟨R + p, by omega⟩ k := by
  pointwise [k0_pay1, k0_pay4]
  simp only [gated H, H.h4]
  rfl

end Body

theorem z2 : ∀ a, (![0, 0] : Fin 2 → ℕ) a = 0 := by decide

/-- Where the windows' blocks lie. -/
theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, _)

variable (m : (ℓ : Loc nD τ sig) → Buf (Elt Ideal) ℓ) (c : Dev nD)

theorem hN (t : Fin cfg0.N) : t.val < 16 := lt_of_lt_of_eq t.isLt N_0

/-- The arguments of core `c`. -/
def at' : Inp := args (m ((c : Thread nD τ).loc main_arg0)) (m ((c : Thread nD τ).loc main_arg1)) (m ((c : Thread nD τ).loc main_arg2))
  (m ((c : Thread nD τ).loc main_arg3)) (m ((c : Thread nD τ).loc main_arg4))

theorem finds (t : Fin cfg0.N) : Finds (at' m c) (256 * t.val) (by have := hN t; omega) (iblk m c 0 t) (iblk m c 1 t) (iblk m c 2 t)
    (iblk m c 3 t) (iblk m c 4 t) where
  h0 p k := by
    have hn := hN t
    obtain ⟨⟨e0, e1⟩, -⟩ := idx t
    unfold at' args row
    blk_ext [iblk, V_main_arg0, e0, e1]
  h1 p k := by
    have hn := hN t
    obtain ⟨-, ⟨e0, e1⟩, -⟩ := idx t
    unfold at' args row
    blk_ext [iblk, V_main_arg1, e0, e1]
  h2 p k := by
    have hn := hN t
    obtain ⟨-, -, ⟨e0, e1⟩, -⟩ := idx t
    unfold at' args row
    blk_ext [iblk, V_main_arg2, e0, e1]
  h3 k := by
    have hn := hN t
    obtain ⟨-, -, -, ⟨e0, e1⟩, -⟩ := idx t
    unfold at' args
    blk_ext! [iblk, V, e0, e1]
  h4 k := by
    have hn := hN t
    obtain ⟨-, -, -, -, ⟨e0, e1⟩, -⟩ := idx t
    unfold at' args
    blk_ext! [iblk, V, e0, e1]

/-- What a point writes. -/
theorem row5 (t : Fin cfg0.N) (p : Fin 256) (q : Fin 2048) :
    out0_5 (iblk m c 0 t) (iblk m c 1 t) (iblk m c 2 t) (iblk m c 3 t) (iblk m c 4 t) (ix2 p q)
      = (at' m c).out ⟨256 * t.val + p.val, by have := hN t; omega⟩ q := by
  have H := finds m c t
  canon_tiles x h
  · obtain ⟨a, b, rfl⟩ : ∃ (a : Fin 256) (b : Fin 1024), x = ix2 a b := ⟨x 0, x 1, eq_ix2 x⟩
    simp only [View.ld_unit_lit (S := S256x1024) _ _ z2, View.ld_unit_lit (S := S1x1024) _ _ z2]
    refine (state H a b).trans ((Inp.out_right _ _ b).symm.trans ?_)
    exact congrArg₂ (at' m c).out (Fin.ext (by dsimp [ix2] at h0 ⊢; omega)) (Fin.ext (by dsimp [ix2] at h1 ⊢; omega))
  · obtain ⟨a, b, rfl⟩ : ∃ (a : Fin 256) (b : Fin 1024), x = ix2 a b := ⟨x 0, x 1, eq_ix2 x⟩
    simp only [View.ld_unit_lit (S := S256x1024) _ _ z2, View.ld_unit_lit (S := S1x1024) _ _ z2]
    refine (attn H a b).trans ((Inp.out_left _ _ b).symm.trans ?_)
    exact congrArg₂ (at' m c).out (Fin.ext (by dsimp [ix2] at h0 ⊢; omega)) (Fin.ext (by dsimp [ix2] at h1 ⊢; omega))

theorem final5 : (dats m 0 c).arrAt 5 cfg0.N = outArr (at' m c) := by
  refine (dats m 0 c).arrAt_eq_of_covers 5 _ (by decide +kernel) fun t hf y => ?_
  have hn := hN t
  obtain ⟨-, -, -, -, -, ⟨e0, e1⟩⟩ := idx t
  obtain ⟨p, q, rfl⟩ : ∃ (p : Fin 256) (q : Fin 2048), y = ix2 p q := ⟨y 0, y 1, eq_ix2 y⟩
  rw [after0_5]
  have H := row5 m c t p q
  generalize out0_5 (iblk m c 0 t) (iblk m c 1 t) (iblk m c 2 t) (iblk m c 3 t) (iblk m c 4 t) = o at H ⊢
  refine H.trans ?_
  exact congrArg₂ (at' m c).out (Fin.ext (by blk_simp [e0, Nat.mul_comm])) (Fin.ext (by blk_simp [e1]))

end Kernel

section Reference

open Cert.RefMergeFwdIdeal Cert.RefMergeFwdIdeal.Read

variable (a0 a1 a2 : FVec Ideal ⟨2, ![4096, 1024]⟩ .f32) (a3 a4 : FVec Ideal ⟨1, ![1024]⟩ .f32)

theorem r12 (i : Fin 4096) (k : Fin 1024) : val_main_v12 (F := Ideal) a1 (ix2 i k) = Cert.Gate.act (row a1 i k) := by
  refine Eq.trans ?_ (Cert.Gate.actR_eq (row a1 i k))
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rw [ofBits_c, ofBits_a, ofBits_half]
  rfl

theorem r19 (i : Fin 4096) (k : Fin 1024) : val_main_v19 (F := Ideal) a1 a2 (ix2 i k) = gatedRow (row a1 i) (row a2 i) k := by
  pointwise [val_main_v19, val_main_v18, val_main_v17, val_main_v16, val_main_v15, val_main_v14, val_main_v13, val_main_cst_3, val_main_cst_4]
  rw [r12]
  rfl

theorem r27 (i : Fin 4096) : val_main_v27 (F := Ideal) a0 (ix2 i 0) = rs hlen (row a0 i) := by
  pointwise [val_main_v27, val_main_v26, val_main_v25, val_main_v24, val_main_v23, val_main_v22, val_main_v21, val_main_v20, val_main_cst_5,
    val_main_cst_6, val_main_cst_7]
  rfl

theorem r40 (i : Fin 4096) : val_main_v40 (F := Ideal) a1 a2 (ix2 i 0) = rs hlen (gatedRow (row a1 i) (row a2 i)) := by
  pointwise [val_main_v40, val_main_v39, val_main_v38, val_main_v37, val_main_v36, val_main_v35, val_main_v34, val_main_v33, val_main_cst_8,
    val_main_cst_9, val_main_cst_10]
  simp only [r19]
  rfl

theorem r32 (i : Fin 4096) (k : Fin 1024) : val_main_v32 (F := Ideal) a0 a3 (ix2 i k) = (args a0 a1 a2 a3 a4).lhs i k := by
  pointwise [val_main_v32, val_main_v31, val_main_v30, val_main_v29, val_main_v28]
  rw [r27]
  rfl

theorem r45 (i : Fin 4096) (k : Fin 1024) : val_main_v45 (F := Ideal) a1 a2 a4 (ix2 i k) = (args a0 a1 a2 a3 a4).rhs i k := by
  pointwise [val_main_v45, val_main_v44, val_main_v43, val_main_v42, val_main_v41]
  rw [r40, r19]
  rfl

theorem r47 : val_main_v47 (F := Ideal) a0 a1 a2 a3 a4 = outArr (args a0 a1 a2 a3 a4) := by
  funext y
  obtain ⟨i, k, rfl⟩ : ∃ (i : Fin 4096) (k : Fin 2048), y = ix2 i k := ⟨y 0, y 1, eq_ix2 y⟩
  pointwise [val_main_v47, val_main_v46]
  show _ = (args a0 a1 a2 a3 a4).out i k
  unfold Inp.out
  by_cases h : k.val < 1024
  · rw [dif_pos h, dif_pos h, r32 a0 a1 a2 a3 a4]
  · rw [dif_neg h, dif_neg h, r45 a0 a1 a2 a3 a4]

end Reference

/-- The reference runs, keeps its arguments and leaves every counter at zero. -/
theorem frame_ri : Cert.quiescent_RefMergeFwdIdeal := fun m ρ _ =>
  (θ_run Cert.RefMergeFwdIdeal.defs _ _).mono (fun r h => ⟨fun c => (h c).2, sem_eq_zero_of_no_sems (by decide) r.2⟩)
    (Cert.RefMergeFwdIdeal.Value.run (F := Ideal) m ρ)

theorem algebraic : Cert.algebraic_MergeFwdIdeal_RefMergeFwdIdeal := by
  intro m g m' g' _ hagree
  refine ⟨fun c => outArr (at' m c), ?_, ?_⟩
  · exact (θ_run Cert.MergeFwdIdeal.defs _ _).mono (fun _ h c => ⟨(h c).1.trans (final5 m c), (h c).2⟩)
      (Cert.MergeFwdIdeal.Value.run_blocks (F := Ideal) m g)
  · refine (θ_run Cert.RefMergeFwdIdeal.defs _ _).mono (fun _ h c => ?_) (Cert.RefMergeFwdIdeal.Value.run (F := Ideal) m' g')
    obtain ⟨h0, h1, h2, h3, h4⟩ := hagree c
    have e : args (m' ((c.tc : Thread Cert.RefMergeFwdIdeal.nD Cert.RefMergeFwdIdeal.τ).loc Cert.RefMergeFwdIdeal.main_arg0))
        (m' ((c.tc : Thread Cert.RefMergeFwdIdeal.nD Cert.RefMergeFwdIdeal.τ).loc Cert.RefMergeFwdIdeal.main_arg1))
        (m' ((c.tc : Thread Cert.RefMergeFwdIdeal.nD Cert.RefMergeFwdIdeal.τ).loc Cert.RefMergeFwdIdeal.main_arg2))
        (m' ((c.tc : Thread Cert.RefMergeFwdIdeal.nD Cert.RefMergeFwdIdeal.τ).loc Cert.RefMergeFwdIdeal.main_arg3))
        (m' ((c.tc : Thread Cert.RefMergeFwdIdeal.nD Cert.RefMergeFwdIdeal.τ).loc Cert.RefMergeFwdIdeal.main_arg4)) = at' m c := by
      unfold at'
      rw [h0, h1, h2, h3, h4]
    exact ⟨(h c).1.trans ((Cert.RefMergeFwdIdeal.Read.val_main_v47_eq _ _ _ _ _).trans ((r47 _ _ _ _ _).trans (congrArg outArr e))), (h c).2⟩

end Cert.Norm.MergeFwd
-- ==== Proof.AdaFwd.lean ====
/- The conditioning, forward: every point of the grid works on one layer and 512 of its columns. -/
module

public import proofs.«01_k».proof.Defs
public import proofs.«01_k».proof.Proof.Gen.AdaFwdIdeal.Frame
public import proofs.«01_k».proof.Proof.Gen.AdaFwdIdeal.Value
public import proofs.«01_k».proof.Proof.Gen.RefAdaFwdIdeal.Run
public import proofs.«01_k».proof.Proof.Gen.RefAdaFwdIdeal.Read
public import Idealize.ShloMosaic.Lib.Pipeline.ValueKit
public import Idealize.ShloMosaic.Lib.Pointwise
public import Idealize.ShloMosaic.Adequacy

@[expose] public section

noncomputable section

namespace Cert.Dense.AdaFwd

open Idealize.ShloMosaic Idealize.ShloMosaic.TcCoe Idealize.SL.Sem

set_option maxRecDepth 16384

/-- A conditioning value after SiLU. -/
def sil (x : EReal) : EReal := x * Ideal.logistic x

/-- The conditioning rows after SiLU. -/
def actArr (a : FVec Ideal ⟨2, ![16, 2048]⟩ .f32) : FVec Ideal ⟨2, ![16, 2048]⟩ .f32 := fun y => sil (a y)

/-- Layer `l`'s modulation of row `i` at column `j`. -/
def modAt (a : FVec Ideal ⟨2, ![16, 2048]⟩ .f32) (w : FVec Ideal ⟨3, ![2, 2048, 1536]⟩ .f32) (b : FVec Ideal ⟨3, ![2, 1, 1536]⟩ .f32)
    (l : Fin 2) (i : Fin 16) (j : Fin 1536) : EReal :=
  (∑ k : Fin 2048, sil (a (ix2 i k)) * w (ix3 l k j)) + b (ix3 l 0 j)

theorem modAt_ext (a : FVec Ideal ⟨2, ![16, 2048]⟩ .f32) (w : FVec Ideal ⟨3, ![2, 2048, 1536]⟩ .f32) (b : FVec Ideal ⟨3, ![2, 1, 1536]⟩ .f32)
    {l l' : Fin 2} {i i' : Fin 16} {j j' : Fin 1536} (hl : l.val = l'.val) (hi : i.val = i'.val) (hj : j.val = j'.val) :
    modAt a w b l i j = modAt a w b l' i' j' := by
  rw [Fin.ext hl, Fin.ext hi, Fin.ext hj]

/-- The modulations of the two layers. -/
def modArr (a : FVec Ideal ⟨2, ![16, 2048]⟩ .f32) (w : FVec Ideal ⟨3, ![2, 2048, 1536]⟩ .f32) (b : FVec Ideal ⟨3, ![2, 1, 1536]⟩ .f32) :
    FVec Ideal ⟨3, ![2, 16, 1536]⟩ .f32 := fun y => modAt a w b (y 0) (y 1) (y 2)

section Kernel

open Cert.AdaFwdIdeal Cert.AdaFwdIdeal.Gen

section Body

variable (x0 : Vec Ideal S16x2048 .f32) (x1 : Vec Ideal S1x2048x512 .f32) (x2 : Vec Ideal S1x1x512 .f32)

/-- The activation at an index. -/
theorem pay1 (p : Fin 16) (k : Fin 2048) : k0_pay1 x0 (ix2 p k) = sil (x0 (ix2 p k)) := by
  pointwise [k0_pay1]
  rfl

/-- The product and its bias at an index. -/
theorem pay2 (p : Fin 16) (q : Fin 512) :
    k0_pay2 x0 x1 x2 (ix3 0 p q) = (∑ k : Fin 2048, sil (x0 (ix2 p k)) * x1 (ix3 0 k q)) + x2 (ix3 0 0 q) := by
  pointwise [k0_pay2]
  simp only [pay1]

theorem leaves3 : out0_3 x0 x1 x2 = k0_pay2 x0 x1 x2 := by
  frame_out

theorem leaves4 : out0_4 x0 x1 x2 = k0_pay1 x0 := by
  frame_out

end Body

/-- Where the windows' blocks lie. -/
theorem idx : ∀ t : Fin cfg0.N, (win0_0.index t 0 = 0 ∧ win0_0.index t 1 = 0)
    ∧ (win0_1.index t 0 = t.val / 3 ∧ win0_1.index t 1 = 0 ∧ win0_1.index t 2 = t.val % 3)
    ∧ (win0_2.index t 0 = t.val / 3 ∧ win0_2.index t 1 = 0 ∧ win0_2.index t 2 = t.val % 3)
    ∧ (win0_3.index t 0 = t.val / 3 ∧ win0_3.index t 1 = 0 ∧ win0_3.index t 2 = t.val % 3)
    ∧ (win0_4.index t 0 = 0 ∧ win0_4.index t 1 = 0) :=
  (by decide +kernel : ∀ t : Fin grid0.N, _)

variable (m : (ℓ : Loc nD τ sig) → Buf (Elt Ideal) ℓ) (c : Dev nD)

theorem hN (t : Fin cfg0.N) : t.val < 6 := lt_of_lt_of_eq t.isLt N_0

/-- The blocks at a point. -/
def bA (t : Fin cfg0.N) : Vec Ideal S16x2048 .f32 := iblk m c 0 t
def bW (t : Fin cfg0.N) : Vec Ideal S1x2048x512 .f32 := iblk m c 1 t
def bB (t : Fin cfg0.N) : Vec Ideal S1x1x512 .f32 := iblk m c 2 t

theorem blkA (t : Fin cfg0.N) (p : Fin 16) (k : Fin 2048) : bA m c t (ix2 p k) = m ((c : Thread nD τ).loc main_arg0) (ix2 p k) := by
  obtain ⟨⟨e0, e1⟩, -⟩ := idx t
  blk_ext [bA, iblk, V_main_arg0, e0, e1]

theorem blkW (t : Fin cfg0.N) (k : Fin 2048) (q : Fin 512) :
    bW m c t (ix3 0 k q) = m ((c : Thread nD τ).loc main_arg1)
      (ix3 ⟨t.val / 3, by have := hN t; omega⟩ k ⟨t.val % 3 * 512 + q, by have := hN t; omega⟩) := by
  have hn := hN t
  obtain ⟨-, ⟨e0, e1, e2⟩, -⟩ := idx t
  blk_ext [bW, iblk, V_main_arg1, e0, e1, e2]

theorem blkB (t : Fin cfg0.N) (q : Fin 512) :
    bB m c t (ix3 0 0 q) = m ((c : Thread nD τ).loc main_arg2)
      (ix3 ⟨t.val / 3, by have := hN t; omega⟩ 0 ⟨t.val % 3 * 512 + q, by have := hN t; omega⟩) := by
  have hn := hN t
  obtain ⟨-, -, ⟨e0, e1, e2⟩, -⟩ := idx t
  blk_ext [bB, iblk, V_main_arg2, e0, e1, e2]

/-- What a point writes. -/
theorem writes (t : Fin cfg0.N) (p : Fin 16) (q : Fin 512) :
    k0_pay2 (bA m c t) (bW m c t) (bB m c t) (ix3 0 p q)
      = modAt (m ((c : Thread nD τ).loc main_arg0)) (m ((c : Thread nD τ).loc main_arg1)) (m ((c : Thread nD τ).loc main_arg2))
          ⟨t.val / 3, by have := hN t; omega⟩ p ⟨t.val % 3 * 512 + q, by have := hN t; omega⟩ := by
  rw [pay2]
  simp only [blkA, blkW, blkB]
  rfl

theorem final3 : (dats m 0 c).arrAt 3 cfg0.N
    = modArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have hn := hN t
  obtain ⟨-, -, -, ⟨e0, e1, e2⟩, -⟩ := idx t
  obtain ⟨u, p, q, rfl⟩ : ∃ (u : Fin 1) (p : Fin 16) (q : Fin 512), y = ix3 u p q := ⟨y 0, y 1, y 2, eq_ix3 y⟩
  obtain rfl : u = 0 := Subsingleton.elim _ _
  rw [after0_3, leaves3]
  refine (writes m c t p q).trans ?_
  exact modAt_ext _ _ _ (by blk_simp [e0]; rfl) (by blk_simp [e1]) (by blk_simp [e2])

theorem final4 : (dats m 0 c).arrAt 4 cfg0.N = actArr (m ((c : Thread nD τ).loc main_arg0)) := by
  refine (dats m 0 c).arrAt_eq_of_covers 4 _ (by decide +kernel) fun t hf y => ?_
  have hn := hN t
  obtain ⟨-, -, -, -, ⟨e0, e1⟩⟩ := idx t
  obtain ⟨p, q, rfl⟩ : ∃ (p : Fin 16) (q : Fin 2048), y = ix2 p q := ⟨y 0, y 1, eq_ix2 y⟩
  rw [after0_4, leaves4]
  refine ((pay1 (bA m c t) p q).trans (congrArg sil (blkA m c t p q))).trans ?_
  refine congrArg (fun z => sil (m ((c : Thread nD τ).loc main_arg0) z)) (funext fun x => ?_)
  match x with
  | ⟨0, _⟩ => exact Fin.ext (by blk_simp [e0])
  | ⟨1, _⟩ => exact Fin.ext (by blk_simp [e1])

end Kernel

section Reference

open Cert.RefAdaFwdIdeal Cert.RefAdaFwdIdeal.Read

variable (a : FVec Ideal ⟨2, ![16, 2048]⟩ .f32) (w : FVec Ideal ⟨3, ![2, 2048, 1536]⟩ .f32) (b : FVec Ideal ⟨3, ![2, 1, 1536]⟩ .f32)

theorem r0 (p : Fin 16) (k : Fin 2048) : val_main_v0 (F := Ideal) a (ix2 p k) = sil (a (ix2 p k)) := by
  pointwise [val_main_v0, val_main_call0_v5, val_main_call0_v4, val_main_call0_v3, val_main_call0_v2, val_main_call0_v1, val_main_call0_v0,
    val_main_call0_cst, val_main_call0_cst_0]
  rfl

theorem rAct : val_main_v0 (F := Ideal) a = actArr a := by
  funext y
  obtain ⟨p, k, rfl⟩ : ∃ (p : Fin 16) (k : Fin 2048), y = ix2 p k := ⟨y 0, y 1, eq_ix2 y⟩
  exact r0 a p k

/-- The first and the second layer. -/
theorem r7 (i : Fin 16) (j : Fin 1536) : val_main_v7 (F := Ideal) a w b (ix2 i j) = modAt a w b 0 i j := by
  pointwise [val_main_v7, val_main_v6, val_main_v5, val_main_v4, val_main_v3, val_main_v2, val_main_v1]
  simp only [r0]
  rfl

theorem r14 (i : Fin 16) (j : Fin 1536) : val_main_v14 (F := Ideal) a w b (ix2 i j) = modAt a w b 1 i j := by
  pointwise [val_main_v14, val_main_v13, val_main_v12, val_main_v11, val_main_v10, val_main_v9, val_main_v8]
  simp only [r0]
  rfl

theorem rMod : val_main_v17 (F := Ideal) a w b = modArr a w b := by
  funext y
  obtain ⟨l, i, j, rfl⟩ : ∃ (l : Fin 2) (i : Fin 16) (j : Fin 1536), y = ix3 l i j := ⟨y 0, y 1, y 2, eq_ix3 y⟩
  pointwise [val_main_v17, val_main_v16, val_main_v15]
  simp only [r7, r14]
  match l with
  | ⟨0, _⟩ => rfl
  | ⟨1, _⟩ => rfl

end Reference

/-- The reference runs, keeps its arguments and leaves every counter at zero. -/
theorem frame_ri : Cert.quiescent_RefAdaFwdIdeal := fun m ρ _ =>
  (θ_run Cert.RefAdaFwdIdeal.defs _ _).mono (fun r h => ⟨fun c => (h c).2.2, sem_eq_zero_of_no_sems (by decide) r.2⟩)
    (Cert.RefAdaFwdIdeal.Value.run (F := Ideal) m ρ)

theorem algebraic : Cert.algebraic_AdaFwdIdeal_RefAdaFwdIdeal := by
  intro m g m' g' _ hagree
  refine ⟨fun c => modArr (m ((c.tc : Thread Cert.AdaFwdIdeal.nD Cert.AdaFwdIdeal.τ).loc Cert.AdaFwdIdeal.main_arg0))
      (m ((c.tc : Thread Cert.AdaFwdIdeal.nD Cert.AdaFwdIdeal.τ).loc Cert.AdaFwdIdeal.main_arg1))
      (m ((c.tc : Thread Cert.AdaFwdIdeal.nD Cert.AdaFwdIdeal.τ).loc Cert.AdaFwdIdeal.main_arg2)),
    fun c => actArr (m ((c.tc : Thread Cert.AdaFwdIdeal.nD Cert.AdaFwdIdeal.τ).loc Cert.AdaFwdIdeal.main_arg0)), ?_, ?_⟩
  · exact (θ_run Cert.AdaFwdIdeal.defs _ _).mono (fun _ h c => ⟨(h c).1.trans (final3 m c), (h c).2.1.trans (final4 m c), (h c).2.2⟩)
      (Cert.AdaFwdIdeal.Value.run_blocks (F := Ideal) m g)
  · refine (θ_run Cert.RefAdaFwdIdeal.defs _ _).mono (fun _ h c => ?_) (Cert.RefAdaFwdIdeal.Value.run (F := Ideal) m' g')
    obtain ⟨h0, h1, h2⟩ := hagree c
    have e := rMod (m' ((c.tc : Thread Cert.RefAdaFwdIdeal.nD Cert.RefAdaFwdIdeal.τ).loc Cert.RefAdaFwdIdeal.main_arg0))
      (m' ((c.tc : Thread Cert.RefAdaFwdIdeal.nD Cert.RefAdaFwdIdeal.τ).loc Cert.RefAdaFwdIdeal.main_arg1))
      (m' ((c.tc : Thread Cert.RefAdaFwdIdeal.nD Cert.RefAdaFwdIdeal.τ).loc Cert.RefAdaFwdIdeal.main_arg2))
    exact ⟨(h c).1.trans ((Cert.RefAdaFwdIdeal.Read.val_main_v17_eq _ _ _).trans (e.trans (by rw [h0, h1, h2]))),
      (h c).2.1.trans ((Cert.RefAdaFwdIdeal.Read.val_main_v0_eq _).trans ((rAct _).trans (congrArg actArr h0))), (h c).2.2⟩

end Cert.Dense.AdaFwd
-- ==== Proof.AdaDw.lean ====
/- The conditioning's weight gradient: every point of the grid works on one layer and 512 of the weight's rows. -/
module

public import proofs.«01_k».proof.Defs
public import proofs.«01_k».proof.Proof.Gen.AdaDwIdeal.Frame
public import proofs.«01_k».proof.Proof.Gen.AdaDwIdeal.Value
public import proofs.«01_k».proof.Proof.Gen.RefAdaDwIdeal.Run
public import proofs.«01_k».proof.Proof.Gen.RefAdaDwIdeal.Read
public import Idealize.ShloMosaic.Lib.Pipeline.ValueKit
public import Idealize.ShloMosaic.Lib.Pointwise
public import Idealize.ShloMosaic.Adequacy

@[expose] public section

noncomputable section

namespace Cert.Dense.AdaDw

open Idealize.ShloMosaic Idealize.ShloMosaic.TcCoe Idealize.SL.Sem

set_option maxRecDepth 16384

/-- Layer `l`'s weight gradient at row `i`, column `j`. -/
def gradAt (a : FVec Ideal ⟨2, ![2048, 128]⟩ .f32) (d : FVec Ideal ⟨3, ![2, 128, 1536]⟩ .f32) (l : Fin 2) (i : Fin 2048) (j : Fin 1536) : EReal :=
  ∑ k : Fin 128, a (ix2 i k) * d (ix3 l k j)

theorem gradAt_ext (a : FVec Ideal ⟨2, ![2048, 128]⟩ .f32) (d : FVec Ideal ⟨3, ![2, 128, 1536]⟩ .f32)
    {l l' : Fin 2} {i i' : Fin 2048} {j j' : Fin 1536} (hl : l.val = l'.val) (hi : i.val = i'.val) (hj : j.val = j'.val) :
    gradAt a d l i j = gradAt a d l' i' j' := by
  rw [Fin.ext hl, Fin.ext hi, Fin.ext hj]

/-- The weight gradients of the two layers. -/
def gradArr (a : FVec Ideal ⟨2, ![2048, 128]⟩ .f32) (d : FVec Ideal ⟨3, ![2, 128, 1536]⟩ .f32) : FVec Ideal ⟨3, ![2, 2048, 1536]⟩ .f32 :=
  fun y => gradAt a d (y 0) (y 1) (y 2)

section Kernel

open Cert.AdaDwIdeal Cert.AdaDwIdeal.Gen

section Body

variable (x0 : Vec Ideal S512x128 .f32) (x1 : Vec Ideal S1x128x1536 .f32)

/-- The body's product at an index. -/
theorem pay1 (p : Fin 512) (q : Fin 1536) : k0_pay1 x0 x1 (ix3 0 p q) = ∑ k : Fin 128, x0 (ix2 p k) * x1 (ix3 0 k q) := by
  pointwise [k0_pay1]

/-- What the body leaves in its block. -/
theorem leaves : out0_2 x0 x1 = k0_pay1 x0 x1 := by
  frame_out

end Body

/-- Where the windows' blocks lie. -/
theorem idx : ∀ t : Fin cfg0.N, (win0_0.index t 0 = t.val % 4 ∧ win0_0.index t 1 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0) :=
  (by decide +kernel : ∀ t : Fin grid0.N, _)

variable (m : (ℓ : Loc nD τ sig) → Buf (Elt Ideal) ℓ) (c : Dev nD)

theorem hN (t : Fin cfg0.N) : t.val < 8 := lt_of_lt_of_eq t.isLt N_0

/-- The blocks at a point. -/
def bA (t : Fin cfg0.N) : Vec Ideal S512x128 .f32 := iblk m c 0 t
def bD (t : Fin cfg0.N) : Vec Ideal S1x128x1536 .f32 := iblk m c 1 t

theorem blkA (t : Fin cfg0.N) (p : Fin 512) (k : Fin 128) :
    bA m c t (ix2 p k) = m ((c : Thread nD τ).loc main_arg0) (ix2 ⟨t.val % 4 * 512 + p, by omega⟩ k) := by
  obtain ⟨⟨e0, e1⟩, -⟩ := idx t
  blk_ext [bA, iblk, V_main_arg0, e0, e1]

theorem blkD (t : Fin cfg0.N) (k : Fin 128) (q : Fin 1536) :
    bD m c t (ix3 0 k q) = m ((c : Thread nD τ).loc main_arg1) (ix3 ⟨t.val / 4, by have := hN t; omega⟩ k q) := by
  have hn := hN t
  obtain ⟨-, ⟨e0, e1, e2⟩, -⟩ := idx t
  blk_ext [bD, iblk, V_main_arg1, e0, e1, e2]

/-- What a point writes. -/
theorem writes (t : Fin cfg0.N) (p : Fin 512) (q : Fin 1536) :
    k0_pay1 (bA m c t) (bD m c t) (ix3 0 p q)
      = gradAt (m ((c : Thread nD τ).loc main_arg0)) (m ((c : Thread nD τ).loc main_arg1))
          ⟨t.val / 4, by have := hN t; omega⟩ ⟨t.val % 4 * 512 + p, by omega⟩ q := by
  rw [pay1]
  simp only [blkA, blkD]
  rfl

theorem final : (dats m 0 c).arrAt 2 cfg0.N = gradArr (m ((c : Thread nD τ).loc main_arg0)) (m ((c : Thread nD τ).loc main_arg1)) := by
  refine (dats m 0 c).arrAt_eq_of_covers 2 _ (by decide +kernel) fun t hf y => ?_
  have hn := hN t
  obtain ⟨-, -, e0, e1, e2⟩ := idx t
  obtain ⟨u, p, q, rfl⟩ : ∃ (u : Fin 1) (p : Fin 512) (q : Fin 1536), y = ix3 u p q := ⟨y 0, y 1, y 2, eq_ix3 y⟩
  obtain rfl : u = 0 := Subsingleton.elim _ _
  rw [after0_2, leaves]
  refine (writes m c t p q).trans ?_
  exact gradAt_ext _ _ (by blk_simp [e0]; rfl) (by blk_simp [e1]) (by blk_simp [e2])

end Kernel

section Reference

open Cert.RefAdaDwIdeal Cert.RefAdaDwIdeal.Read

variable (a : FVec Ideal ⟨2, ![2048, 128]⟩ .f32) (d : FVec Ideal ⟨3, ![2, 128, 1536]⟩ .f32)

/-- The second and the first layer's gradient. -/
theorem r26 (i : Fin 2048) (j : Fin 1536) : val_main_v26 (F := Ideal) a d (ix3 0 i j) = gradAt a d 1 i j := by
  pointwise [val_main_v26, val_main_v25, val_main_v24, val_main_v23, val_main_v22, val_main_v1]
  exact Finset.sum_congr rfl fun k _ => mul_comm _ _

theorem r30 (i : Fin 2048) (j : Fin 1536) : val_main_v30 (F := Ideal) a d (ix3 0 i j) = gradAt a d 0 i j := by
  pointwise [val_main_v30, val_main_v29, val_main_v28, val_main_v21, val_main_v20, val_main_v1]
  exact Finset.sum_congr rfl fun k _ => mul_comm _ _

theorem ref : val_main_v32 (F := Ideal) a d = gradArr a d := by
  funext y
  obtain ⟨l, i, j, rfl⟩ : ∃ (l : Fin 2) (i : Fin 2048) (j : Fin 1536), y = ix3 l i j := ⟨y 0, y 1, y 2, eq_ix3 y⟩
  pointwise [val_main_v32, val_main_v31, val_main_v27, val_main_cst_1, val_main_cst_2]
  match l with
  | ⟨0, _⟩ => exact (zero_add _).trans (r30 a d i j)
  | ⟨1, _⟩ => exact (add_zero _).trans (r26 a d i j)

end Reference

/-- The reference runs, keeps its arguments and leaves every counter at zero. -/
theorem frame_ri : Cert.quiescent_RefAdaDwIdeal := fun m ρ _ =>
  (θ_run Cert.RefAdaDwIdeal.defs _ _).mono (fun r h => ⟨fun c => (h c).2, sem_eq_zero_of_no_sems (by decide) r.2⟩)
    (Cert.RefAdaDwIdeal.Value.run (F := Ideal) m ρ)

theorem algebraic : Cert.algebraic_AdaDwIdeal_RefAdaDwIdeal := by
  intro m g m' g' _ hagree
  refine ⟨fun c => gradArr (m ((c.tc : Thread Cert.AdaDwIdeal.nD Cert.AdaDwIdeal.τ).loc Cert.AdaDwIdeal.main_arg0))
    (m ((c.tc : Thread Cert.AdaDwIdeal.nD Cert.AdaDwIdeal.τ).loc Cert.AdaDwIdeal.main_arg1)), ?_, ?_⟩
  · exact (θ_run Cert.AdaDwIdeal.defs _ _).mono (fun _ h c => ⟨(h c).1.trans (final m c), (h c).2⟩) (Cert.AdaDwIdeal.Value.run_blocks (F := Ideal) m g)
  · refine (θ_run Cert.RefAdaDwIdeal.defs _ _).mono (fun _ h c => ⟨?_, (h c).2⟩) (Cert.RefAdaDwIdeal.Value.run (F := Ideal) m' g')
    obtain ⟨h0, h1⟩ := hagree c
    exact (h c).1.trans ((Cert.RefAdaDwIdeal.Read.val_main_v32_eq _ _).trans ((ref _ _).trans (congrArg₂ gradArr h0 h1)))

end Cert.Dense.AdaDw
-- ==== Proof.GateFwd.lean ====
/- The gate's forward pass: every point of the grid works on one tile of 512 rows and 512 columns, with the two rows above it. -/
module

public import proofs.«01_k».proof.Defs
public import proofs.«01_k».proof.Proof.Act
public import proofs.«01_k».proof.Proof.GateKernel
public import proofs.«01_k».proof.Proof.Gen.GateFwdIdeal.Frame
public import proofs.«01_k».proof.Proof.Gen.GateFwdIdeal.Value
public import proofs.«01_k».proof.Proof.Gen.RefGateFwdIdeal.Run
public import proofs.«01_k».proof.Proof.Gen.RefGateFwdIdeal.Read
public import Idealize.ShloMosaic.Lib.Pipeline.ValueKit
public import Idealize.ShloMosaic.Lib.Pointwise
public import Idealize.ShloMosaic.Lib.WordCmp
public import Idealize.ShloMosaic.Adequacy

@[expose] public section

noncomputable section

namespace Cert.Gate.Fwd

open Idealize.ShloMosaic Idealize.ShloMosaic.TcCoe Idealize.SL.Sem

set_option maxRecDepth 16384

/-- The arguments, from the arrays: the forward pass has no gradient among them. -/
def args (a0 : FVec Ideal ⟨2, ![4096, 11264]⟩ .f32) (a1 : FVec Ideal ⟨2, ![3, 11264]⟩ .f32) (a2 : FVec Ideal ⟨1, ![11264]⟩ .f32) : Inp :=
  inp a0 a1 a2 fun _ => (0 : EReal)

/-- The result: the convolved gates through GELU, times the convolved values. -/
def out (I : Inp) (t j : ℕ) : EReal := act (I.up t (j + 5632)) * I.up t j
def outArr (I : Inp) : FVec Ideal ⟨2, ![4096, 5632]⟩ .bf16 := fun y => out I (y 0) (y 1)

section Kernel

open Cert.GateFwdIdeal Cert.GateFwdIdeal.Gen

/-- What the windows hold at a point whose tile starts at row `R` and column `C`. -/
structure Finds (I : Inp) (R C : ℕ) (i : grid0.Coords) (x0 x1 : Vec Ideal S512x512 .f32) (x2 x3 : Vec Ideal S8x512 .f32)
    (x4 x5 : Vec Ideal S3x512 .f32) (x6 x7 : Vec Ideal S1x512 .f32) : Prop where
  h0 : ∀ r k : Fin 512, x0 (ix2 r k) = I.hp (R + r + 2) (C + k)
  h1 : ∀ r k : Fin 512, x1 (ix2 r k) = I.hp (R + r + 2) (C + k + 5632)
  h26 : ∀ k : Fin 512, k0_pay2 i x2 (ix2 6 k) = I.hp R (C + k)
  h27 : ∀ k : Fin 512, k0_pay2 i x2 (ix2 7 k) = I.hp (R + 1) (C + k)
  h36 : ∀ k : Fin 512, k0_pay3 i x3 (ix2 6 k) = I.hp R (C + k + 5632)
  h37 : ∀ k : Fin 512, k0_pay3 i x3 (ix2 7 k) = I.hp (R + 1) (C + k + 5632)
  h4 : ∀ (q : Fin 3) (k : Fin 512), x4 (ix2 q k) = I.W q (C + k)
  h5 : ∀ (q : Fin 3) (k : Fin 512), x5 (ix2 q k) = I.W q (C + k + 5632)
  h6 : ∀ k : Fin 512, x6 (ix2 0 k) = I.B (C + k)
  h7 : ∀ k : Fin 512, x7 (ix2 0 k) = I.B (C + k + 5632)

section Body

variable {I : Inp} {R C : ℕ} {i : grid0.Coords} {x0 x1 : Vec Ideal S512x512 .f32} {x2 x3 : Vec Ideal S8x512 .f32}
    {x4 x5 : Vec Ideal S3x512 .f32} {x6 x7 : Vec Ideal S1x512 .f32} (H : Finds I R C i x0 x1 x2 x3 x4 x5 x6 x7)
include H

/-- The convolved values. -/
theorem val (r k : Fin 512) :
    k0_pay6 x0 (k0_pay4 i x2 x0 x6 (wrow0 x4)) (wrow1 x4) (k0_pay5 i x2 x0) (wrow2 x4) (ix2 r k) = I.up (R + r) (C + k) := by
  pointwise [k0_pay6, k0_pay4, k0_pay5]
  rw [sd1 x0 (fun s => I.hp s (C + k)) R k (fun r => H.h0 r k) _ (H.h27 k),
    sd2 x0 (fun s => I.hp s (C + k)) R k (fun r => H.h0 r k) _ _ (H.h26 k) (H.h27 k), H.h0,
    wrow0_apply, wrow1_apply, wrow2_apply, H.h4, H.h4, H.h4, H.h6]
  rfl

/-- The tile of the result. -/
theorem tile (r k : Fin 512) :
    k0_pay1 (k0_pay6 x0 (k0_pay4 i x2 x0 x6 (wrow0 x4)) (wrow1 x4) (k0_pay5 i x2 x0) (wrow2 x4)) x1
      (k0_pay7 (k0_pay3 i x3) x1 x7 (wrow0 x5) (wrow1 x5)) (k0_pay8 (wrow2 x5)) (ix2 r k) = out I (R + r) (C + k) := by
  pointwise [k0_pay1, k0_pay7, k0_pay8]
  rw [sd1 x1 (fun s => I.hp s (C + k + 5632)) R k (fun r => H.h1 r k) _ (H.h37 k),
    sd2 x1 (fun s => I.hp s (C + k + 5632)) R k (fun r => H.h1 r k) _ _ (H.h36 k) (H.h37 k), H.h1,
    wrow0_apply, wrow1_apply, wrow2_apply, H.h5, H.h5, H.h5, H.h7, val H, ofBits_c, ofBits_a, ofBits_half]
  rfl

end Body

/-- Where the windows' blocks lie. -/
theorem idx : ∀ t : Fin cfg0.N,
    (win0_0.index t 0 = t.val / 11 ∧ win0_0.index t 1 = t.val % 11)
    ∧ (win0_1.index t 0 = t.val / 11 ∧ win0_1.index t 1 = t.val % 11 + 11)
    ∧ (win0_2.index t 0 = 64 * (t.val / 11) - 1 ∧ win0_2.index t 1 = t.val % 11)
    ∧ (win0_3.index t 0 = 64 * (t.val / 11) - 1 ∧ win0_3.index t 1 = t.val % 11 + 11)
    ∧ (win0_4.index t 0 = 0 ∧ win0_4.index t 1 = t.val % 11)
    ∧ (win0_5.index t 0 = 0 ∧ win0_5.index t 1 = t.val % 11 + 11)
    ∧ (win0_6.index t 0 = 0 ∧ win0_6.index t 1 = t.val % 11)
    ∧ (win0_7.index t 0 = 0 ∧ win0_7.index t 1 = t.val % 11 + 11)
    ∧ (win0_8.index t 0 = t.val / 11 ∧ win0_8.index t 1 = t.val % 11) :=
  (by decide +kernel : ∀ t : Fin grid0.N, _)

theorem coord (t : Fin cfg0.N) : (grid0.coords t 0).val = t.val / 11 % 8 :=
  Pipeline.Grid.coords_val t 0 (by decide) rfl

variable (m : (ℓ : Loc nD τ sig) → Buf (Elt Ideal) ℓ) (c : Dev nD)

theorem hN (t : Fin cfg0.N) : t.val < 88 := lt_of_lt_of_eq t.isLt N_0

/-- The arguments of core `c`. -/
def at' : Inp := args (m ((c : Thread nD τ).loc main_arg0)) (m ((c : Thread nD τ).loc main_arg1)) (m ((c : Thread nD τ).loc main_arg2))

/-- The rows above a tile: zero above the first tile, else what the window brings. -/
theorem mask2 (i : grid0.Coords) (x : Vec Ideal S8x512 .f32) (r : Fin 8) (k : Fin 512) :
    k0_pay2 i x (ix2 r k) = (if (i 0).val = 0 then 0 else x (ix2 r k) : EReal) := by
  pointwise [k0_pay2]
  have h7 : (i 0).val < 2 ^ 32 := lt_of_lt_of_le (i 0).isLt (by decide)
  by_cases h : (i 0).val = 0
  · rw [if_pos h]
    exact if_pos ((WordCmp.cmpi_eq_ofNat_eq_one_iff h7 (by decide)).mpr h)
  · rw [if_neg h]
    exact if_neg fun e => h ((WordCmp.cmpi_eq_ofNat_eq_one_iff h7 (by decide)).mp e)

theorem mask3 (i : grid0.Coords) (x : Vec Ideal S8x512 .f32) (r : Fin 8) (k : Fin 512) :
    k0_pay3 i x (ix2 r k) = (if (i 0).val = 0 then 0 else x (ix2 r k) : EReal) := mask2 i x r k

theorem iblk2 (t : Fin cfg0.N) (r : Fin 8) (k : Fin 512) (hr : 6 ≤ r.val) (ht : t.val / 11 ≠ 0) :
    iblk m c 2 t (ix2 r k) = (at' m c).hp (512 * (t.val / 11) + (r - 6)) (512 * (t.val % 11) + k) := by
  have hn := hN t
  obtain ⟨-, -, ⟨e0, e1⟩, -⟩ := idx t
  unfold at' args
  rw [show 512 * (t.val / 11) + (r.val - 6) = 512 * (t.val / 11) - 8 + r + 2 by omega, inp_hp _ _ _ _ _ _ (by omega) (by omega)]
  blk_ext [iblk, V_main_arg0, e0, e1]

theorem iblk3 (t : Fin cfg0.N) (r : Fin 8) (k : Fin 512) (hr : 6 ≤ r.val) (ht : t.val / 11 ≠ 0) :
    iblk m c 3 t (ix2 r k) = (at' m c).hp (512 * (t.val / 11) + (r - 6)) (512 * (t.val % 11) + k + 5632) := by
  have hn := hN t
  obtain ⟨-, -, -, ⟨e0, e1⟩, -⟩ := idx t
  unfold at' args
  rw [show 512 * (t.val / 11) + (r.val - 6) = 512 * (t.val / 11) - 8 + r + 2 by omega, inp_hp _ _ _ _ _ _ (by omega) (by omega)]
  blk_ext [iblk, V_main_arg0, e0, e1]

theorem finds (t : Fin cfg0.N) : Finds (at' m c) (512 * (t.val / 11)) (512 * (t.val % 11)) (grid0.coords t)
    (iblk m c 0 t) (iblk m c 1 t) (iblk m c 2 t) (iblk m c 3 t) (iblk m c 4 t) (iblk m c 5 t) (iblk m c 6 t) (iblk m c 7 t) where
  h0 r k := by
    have hn := hN t
    obtain ⟨⟨e0, e1⟩, -⟩ := idx t
    unfold at' args
    rw [inp_hp _ _ _ _ _ _ (by omega) (by omega)]
    blk_ext [iblk, V_main_arg0, e0, e1]
  h1 r k := by
    have hn := hN t
    obtain ⟨-, ⟨e0, e1⟩, -⟩ := idx t
    unfold at' args
    rw [inp_hp _ _ _ _ _ _ (by omega) (by omega)]
    blk_ext [iblk, V_main_arg0, e0, e1]
  h26 k := by
    have hn := hN t
    rw [mask2, coord]
    split
    · next h => exact (hp_zero _ _ _ (by omega)).symm
    · next h => exact iblk2 m c t 6 k (by decide) (by omega)
  h27 k := by
    have hn := hN t
    rw [mask2, coord]
    split
    · next h => exact (hp_zero _ _ _ (by omega)).symm
    · next h => exact iblk2 m c t 7 k (by decide) (by omega)
  h36 k := by
    have hn := hN t
    rw [mask3, coord]
    split
    · next h => exact (hp_zero _ _ _ (by omega)).symm
    · next h => exact iblk3 m c t 6 k (by decide) (by omega)
  h37 k := by
    have hn := hN t
    rw [mask3, coord]
    split
    · next h => exact (hp_zero _ _ _ (by omega)).symm
    · next h => exact iblk3 m c t 7 k (by decide) (by omega)
  h4 q k := by
    have hn := hN t
    obtain ⟨-, -, -, -, ⟨e0, e1⟩, -⟩ := idx t
    unfold at' args
    rw [inp_W _ _ _ _ _ _ (by omega) (by omega)]
    blk_ext [iblk, V_main_arg1, e0, e1]
  h5 q k := by
    have hn := hN t
    obtain ⟨-, -, -, -, -, ⟨e0, e1⟩, -⟩ := idx t
    unfold at' args
    rw [inp_W _ _ _ _ _ _ (by omega) (by omega)]
    blk_ext [iblk, V_main_arg1, e0, e1]
  h6 k := by
    have hn := hN t
    obtain ⟨-, -, -, -, -, -, ⟨e0, e1⟩, -⟩ := idx t
    unfold at' args
    rw [inp_B _ _ _ _ _ (by omega)]
    blk_ext! [iblk, V, e0, e1]
  h7 k := by
    have hn := hN t
    obtain ⟨-, -, -, -, -, -, -, ⟨e0, e1⟩, -⟩ := idx t
    unfold at' args
    rw [inp_B _ _ _ _ _ (by omega)]
    blk_ext! [iblk, V, e0, e1]

theorem final8 : (dats m 0 c).arrAt 8 cfg0.N = outArr (at' m c) := by
  refine (dats m 0 c).arrAt_eq_of_covers 8 _ (by decide +kernel) fun t hf y => ?_
  have hn := hN t
  obtain ⟨-, -, -, -, -, -, -, -, e0, e1⟩ := idx t
  obtain ⟨p, q, rfl⟩ : ∃ (p q : Fin 512), y = ix2 p q := ⟨y 0, y 1, eq_ix2 y⟩
  rw [after0_8]
  frame_out
  refine (tile (finds m c t) p q).trans ?_
  unfold outArr
  blk_simp [e0, e1]
  rw [Nat.mul_comm 512 (t.val / 11), Nat.mul_comm 512 (t.val % 11)]

end Kernel

section Reference

open Cert.RefGateFwdIdeal Cert.RefGateFwdIdeal.Read

variable (a0 : FVec Ideal ⟨2, ![4096, 11264]⟩ .f32) (a1 : FVec Ideal ⟨2, ![3, 11264]⟩ .f32) (a2 : FVec Ideal ⟨1, ![11264]⟩ .f32)

/-- The rows behind two rows of zeros. -/
theorem r3 (s : Fin 4098) (j : Fin 11264) : val_main_v3 (F := Ideal) a0 (ix3 0 s j) = ((args a0 a1 a2).hp s j : EReal) := by
  pointwise [val_main_v3, val_main_v2, val_main_v0, val_main_cst]
  split
  · next h => exact (if_pos h).symm
  · next h =>
    exact (inp_hp a0 a1 a2 _ (s.val - 2) j.val (by omega) j.isLt).symm.trans
      (congrArg (fun q => (args a0 a1 a2).hp q j) (show s.val - 2 + 2 = s.val by omega))

theorem r4 (t : Fin 4096) (j : Fin 11264) : val_main_v4 (F := Ideal) a0 (ix3 0 t j) = ((args a0 a1 a2).hp t j : EReal) := by
  pointwise [val_main_v4]
  exact r3 a0 a1 a2 ⟨t.val, by omega⟩ j

theorem r13 (t : Fin 4096) (j : Fin 11264) : val_main_v13 (F := Ideal) a0 (ix3 0 t j) = ((args a0 a1 a2).hp (t + 1) j : EReal) := by
  pointwise [val_main_v13]
  exact (r3 a0 a1 a2 ⟨1 + t.val, by omega⟩ j).trans (congrArg (fun q => (args a0 a1 a2).hp q j) (Nat.add_comm 1 t.val))

theorem r20 (t : Fin 4096) (j : Fin 11264) : val_main_v20 (F := Ideal) a0 (ix3 0 t j) = ((args a0 a1 a2).hp (t + 2) j : EReal) := by
  pointwise [val_main_v20]
  exact (r3 a0 a1 a2 ⟨2 + t.val, by omega⟩ j).trans (congrArg (fun q => (args a0 a1 a2).hp q j) (Nat.add_comm 2 t.val))

theorem w0 (q : Fin 3) (j : Fin 11264) : a1 (ix2 q j) = (args a0 a1 a2).W q j := (inp_W a0 a1 a2 _ q.val j.val q.isLt j.isLt).symm
theorem b0 (j : Fin 11264) : a2 (ix1 j) = (args a0 a1 a2).B j := (inp_B a0 a1 a2 _ j.val j.isLt).symm

/-- The convolved rows. -/
theorem r26 (t : Fin 4096) (j : Fin 11264) : val_main_v26 (F := Ideal) a0 a1 a2 (ix3 0 t j) = ((args a0 a1 a2).up t j : EReal) := by
  pointwise [val_main_v26, val_main_v25, val_main_v24, val_main_v23, val_main_v22, val_main_v21, val_main_v19, val_main_v18, val_main_v17, val_main_v16, val_main_v15, val_main_v14, val_main_v12, val_main_v11, val_main_v10, val_main_v9, val_main_v8, val_main_v7, val_main_v6, val_main_v5]
  rw [r4 a0 a1 a2, r13 a0 a1 a2, r20 a0 a1 a2, w0 a0 a1 a2, w0 a0 a1 a2, w0 a0 a1 a2, b0 a0 a1 a2]
  unfold Inp.up
  rw [mul_comm (Inp.hp _ _ _), mul_comm (Inp.hp _ _ _), mul_comm (Inp.hp _ _ _)]
  rfl

theorem r27 (t : Fin 4096) (j : Fin 5632) : val_main_v27 (F := Ideal) a0 a1 a2 (ix3 0 t j) = ((args a0 a1 a2).up t j : EReal) := by
  pointwise [val_main_v27]
  exact r26 a0 a1 a2 t ⟨j.val, by omega⟩

theorem r28 (t : Fin 4096) (j : Fin 5632) : val_main_v28 (F := Ideal) a0 a1 a2 (ix3 0 t j) = ((args a0 a1 a2).up t (j + 5632) : EReal) := by
  pointwise [val_main_v28]
  exact (r26 a0 a1 a2 t ⟨5632 + j.val, by omega⟩).trans (congrArg (fun q => (args a0 a1 a2).up t q) (Nat.add_comm 5632 j.val))

theorem r44 : val_main_v44 (F := Ideal) a0 a1 a2 = outArr (args a0 a1 a2) := by
  funext y
  obtain ⟨t, j, rfl⟩ : ∃ (t : Fin 4096) (j : Fin 5632), y = ix2 t j := ⟨y 0, y 1, eq_ix2 y⟩
  refine Eq.trans ?_ (congrArg (· * (args a0 a1 a2).up t j) (actR_eq ((args a0 a1 a2).up t (j + 5632))))
  pointwise [val_main_v44, val_main_v43, val_main_v42, val_main_v41, val_main_v40, val_main_v39, val_main_v38, val_main_v37, val_main_v36, val_main_v35, val_main_v34, val_main_v33, val_main_v32, val_main_v31, val_main_v30, val_main_v29, val_main_cst_0, val_main_cst_1, val_main_cst_2, val_main_cst_3]
  rw [r27, r28, ofBits_c, ofBits_a, ofBits_half]
  rfl

end Reference

/-- The reference runs, keeps its arguments and leaves every counter at zero. -/
theorem frame_ri : Cert.quiescent_RefGateFwdIdeal := fun m ρ _ =>
  (θ_run Cert.RefGateFwdIdeal.defs _ _).mono (fun r h => ⟨fun c => (h c).2, sem_eq_zero_of_no_sems (by decide) r.2⟩)
    (Cert.RefGateFwdIdeal.Value.run (F := Ideal) m ρ)

theorem algebraic : Cert.algebraic_GateFwdIdeal_RefGateFwdIdeal := by
  intro m g m' g' _ hagree
  refine ⟨fun c => outArr (at' m c), ?_, ?_⟩
  · exact (θ_run Cert.GateFwdIdeal.defs _ _).mono (fun _ h c => ⟨(h c).1.trans (final8 m c), (h c).2⟩)
      (Cert.GateFwdIdeal.Value.run_blocks (F := Ideal) m g)
  · refine (θ_run Cert.RefGateFwdIdeal.defs _ _).mono (fun _ h c => ?_) (Cert.RefGateFwdIdeal.Value.run (F := Ideal) m' g')
    obtain ⟨h0, h1, h2⟩ := hagree c
    have e : args (m' ((c.tc : Thread Cert.RefGateFwdIdeal.nD Cert.RefGateFwdIdeal.τ).loc Cert.RefGateFwdIdeal.main_arg0))
        (m' ((c.tc : Thread Cert.RefGateFwdIdeal.nD Cert.RefGateFwdIdeal.τ).loc Cert.RefGateFwdIdeal.main_arg1))
        (m' ((c.tc : Thread Cert.RefGateFwdIdeal.nD Cert.RefGateFwdIdeal.τ).loc Cert.RefGateFwdIdeal.main_arg2)) = at' m c := by
      unfold at'
      rw [h0, h1, h2]
    exact ⟨(h c).1.trans ((Cert.RefGateFwdIdeal.Read.val_main_v44_eq m' c).trans ((r44 _ _ _).trans (congrArg outArr e))), (h c).2⟩

end Cert.Gate.Fwd
-- ==== Proof.Adam.lean ====
/- One step of AdamW at one entry: the moments, and the step from the corrected moments. The kernel multiplies by the reciprocal of the
   correction where the reference divides by it. -/
module

public import Idealize.ShloMosaic.Lib.Pointwise
public import Idealize.ShloMosaic.PureOps.Ideal.Laws

@[expose] public section

noncomputable section

namespace Cert.Adam

open Idealize.ShloMosaic

/-- The two moments after the gradient `g`. -/
def mom (m g : EReal) : EReal := Ideal.ofBits .f32 0x3F666666#32 * m + Ideal.ofBits .f32 0x3DCCCCCD#32 * g
def sqm (v g : EReal) : EReal := Ideal.ofBits .f32 0x3F7FBE77#32 * v + Ideal.ofBits .f32 0x3A83126F#32 * (g * g)

/-- The step of the weight `w` from the corrected moments. -/
def step (w mh vh : EReal) : EReal :=
  Ideal.ofBits .f32 0xBA83126F#32
    * (Ideal.div mh (Ideal.sqrt vh + Ideal.ofBits .f32 0x322BCC77#32) + Ideal.ofBits .f32 0x3C23D70A#32 * w)

/-- The reciprocals of the two corrections. -/
def k1 : EReal := ((8388608 / 5463681 : ℝ) : EReal)
def k2 : EReal := ((268435456 / 2672307 : ℝ) : EReal)

def delta (w g m v : EReal) : EReal := step w (mom m g * k1) (sqm v g * k2)

theorem ofBits_c1 : Ideal.ofBits .f32 0x3F26BD02#32 = ((5463681 / 8388608 : ℝ) : EReal) := by
  simp [Ideal.ofBits, Ideal.ieee, -EReal.coe_mul]; norm_num

theorem ofBits_c2 : Ideal.ofBits .f32 0x3C231ACC#32 = ((2672307 / 268435456 : ℝ) : EReal) := by
  simp [Ideal.ofBits, Ideal.ieee, -EReal.coe_mul]; norm_num

/-- Dividing by the corrections. -/
theorem div_c1 (x : EReal) : Ideal.div x (Ideal.ofBits .f32 0x3F26BD02#32) = x * k1 := by
  rw [ofBits_c1, Ideal.div_coe (by norm_num)]
  exact congrArg (fun r : ℝ => x * (r : EReal)) (by norm_num)

theorem div_c2 (x : EReal) : Ideal.div x (Ideal.ofBits .f32 0x3C231ACC#32) = x * k2 := by
  rw [ofBits_c2, Ideal.div_coe (by norm_num)]
  exact congrArg (fun r : ℝ => x * (r : EReal)) (by norm_num)

end Cert.Adam

end
-- ==== Proof.AdamWIn.lean ====
/- AdamW on the weights of the projection in: every entry is updated by itself. -/
module

public import proofs.«01_k».proof.Defs
public import proofs.«01_k».proof.Proof.Adam
public import proofs.«01_k».proof.Proof.Gen.AdamWInIdeal.Frame
public import proofs.«01_k».proof.Proof.Gen.AdamWInIdeal.Value
public import proofs.«01_k».proof.Proof.Gen.RefAdamWInIdeal.Run
public import proofs.«01_k».proof.Proof.Gen.RefAdamWInIdeal.Read
public import Idealize.ShloMosaic.Lib.Pointwise
public import Idealize.ShloMosaic.Adequacy

@[expose] public section

noncomputable section

namespace Cert.Adam.In

open Idealize.ShloMosaic Idealize.ShloMosaic.TcCoe Idealize.SL.Sem

set_option maxRecDepth 16384

/-- The weights, the gradient and the moments are arrays of this shape. -/
abbrev Arr := FVec Ideal ⟨2, ![4096, 288]⟩ .f32

/-- The three results: the step and the two moments. -/
def deltaArr (w g a v : Arr) : Arr := fun i => delta (w i) (g i) (a i) (v i)
def momArr (g a : Arr) : Arr := fun i => mom (a i) (g i)
def sqmArr (g v : Arr) : Arr := fun i => sqm (v i) (g i)

section Kernel

open Cert.AdamWInIdeal Cert.AdamWInIdeal.Value

theorem kDelta (w g a v : Arr) : G4 (F := Ideal) g a v w = deltaArr w g a v := rfl
theorem kMom (g a : Arr) : G5 (F := Ideal) g a = momArr g a := rfl
theorem kSqm (g v : Arr) : G6 (F := Ideal) g v = sqmArr g v := rfl

end Kernel

section Reference

open Cert.RefAdamWInIdeal Cert.RefAdamWInIdeal.Read

variable (w g a v : Arr)

theorem r4 : val_main_v4 (F := Ideal) g a = momArr g a := by
  funext i
  obtain ⟨p, q, rfl⟩ : ∃ (p : Fin 4096) (q : Fin 288), i = ix2 p q := ⟨i 0, i 1, eq_ix2 i⟩
  pointwise [val_main_v4, val_main_v3, val_main_v2, val_main_v1, val_main_v0, val_main_cst, val_main_cst_0]
  rfl

theorem r10 : val_main_v10 (F := Ideal) g v = sqmArr g v := by
  funext i
  obtain ⟨p, q, rfl⟩ : ∃ (p : Fin 4096) (q : Fin 288), i = ix2 p q := ⟨i 0, i 1, eq_ix2 i⟩
  pointwise [val_main_v10, val_main_v9, val_main_v8, val_main_v7, val_main_v6, val_main_v5, val_main_cst_1, val_main_cst_2]
  rfl

theorem r23 : val_main_v23 (F := Ideal) w g a v = deltaArr w g a v := by
  funext i
  obtain ⟨p, q, rfl⟩ : ∃ (p : Fin 4096) (q : Fin 288), i = ix2 p q := ⟨i 0, i 1, eq_ix2 i⟩
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [r4, r10, div_c1, div_c2]
  rfl

end Reference

/-- The reference runs, keeps its arguments and leaves every counter at zero. -/
theorem frame_ri : Cert.quiescent_RefAdamWInIdeal := fun m ρ _ =>
  (θ_run Cert.RefAdamWInIdeal.defs _ _).mono (fun r h => ⟨fun c => (h c).2.2.2, sem_eq_zero_of_no_sems (by decide) r.2⟩)
    (Cert.RefAdamWInIdeal.Value.run (F := Ideal) m ρ)

/-- The two named constants read as the reciprocals that their names stand for. -/
theorem preserves : Cert.preserves_AdamWIn_AdamWInIdeal :=
  ⟨IdealRules.named_const.statement Cert.AdamWInIdeal.κ "adam_c1" .f32 0x3FC48605#32 ((8388608 / 5463681 : ℝ) : EReal) rfl,
    IdealRules.named_const.statement Cert.AdamWInIdeal.κ "adam_c2" .f32 0x42C8E6D3#32 ((268435456 / 2672307 : ℝ) : EReal) rfl⟩

theorem algebraic : Cert.algebraic_AdamWInIdeal_RefAdamWInIdeal := by
  intro m ρ m' ρ' _ hagree
  refine ⟨fun c => deltaArr (m ((c.tc : Thread Cert.AdamWInIdeal.nD Cert.AdamWInIdeal.τ).loc Cert.AdamWInIdeal.main_arg0)) (m ((c.tc : Thread Cert.AdamWInIdeal.nD Cert.AdamWInIdeal.τ).loc Cert.AdamWInIdeal.main_arg1))
      (m ((c.tc : Thread Cert.AdamWInIdeal.nD Cert.AdamWInIdeal.τ).loc Cert.AdamWInIdeal.main_arg2)) (m ((c.tc : Thread Cert.AdamWInIdeal.nD Cert.AdamWInIdeal.τ).loc Cert.AdamWInIdeal.main_arg3)),
    fun c => momArr (m ((c.tc : Thread Cert.AdamWInIdeal.nD Cert.AdamWInIdeal.τ).loc Cert.AdamWInIdeal.main_arg1)) (m ((c.tc : Thread Cert.AdamWInIdeal.nD Cert.AdamWInIdeal.τ).loc Cert.AdamWInIdeal.main_arg2)),
    fun c => sqmArr (m ((c.tc : Thread Cert.AdamWInIdeal.nD Cert.AdamWInIdeal.τ).loc Cert.AdamWInIdeal.main_arg1)) (m ((c.tc : Thread Cert.AdamWInIdeal.nD Cert.AdamWInIdeal.τ).loc Cert.AdamWInIdeal.main_arg3)), ?_, ?_⟩
  · exact (θ_run Cert.AdamWInIdeal.defs _ _).mono (fun _ h c => ⟨(h c).1.trans (kDelta _ _ _ _), (h c).2.1.trans (kMom _ _), (h c).2.2.1.trans (kSqm _ _),
      (h c).2.2.2⟩) (Cert.AdamWInIdeal.Value.run (F := Ideal) m ρ)
  · refine (θ_run Cert.RefAdamWInIdeal.defs _ _).mono (fun _ h c => ?_) (Cert.RefAdamWInIdeal.Value.run (F := Ideal) m' ρ')
    obtain ⟨h0, h1, h2, h3⟩ := hagree c
    have e := r23 (m' ((c.tc : Thread Cert.RefAdamWInIdeal.nD Cert.RefAdamWInIdeal.τ).loc Cert.RefAdamWInIdeal.main_arg0)) (m' ((c.tc : Thread Cert.RefAdamWInIdeal.nD Cert.RefAdamWInIdeal.τ).loc Cert.RefAdamWInIdeal.main_arg1))
      (m' ((c.tc : Thread Cert.RefAdamWInIdeal.nD Cert.RefAdamWInIdeal.τ).loc Cert.RefAdamWInIdeal.main_arg2)) (m' ((c.tc : Thread Cert.RefAdamWInIdeal.nD Cert.RefAdamWInIdeal.τ).loc Cert.RefAdamWInIdeal.main_arg3))
    have e1 := r4 (m' ((c.tc : Thread Cert.RefAdamWInIdeal.nD Cert.RefAdamWInIdeal.τ).loc Cert.RefAdamWInIdeal.main_arg1)) (m' ((c.tc : Thread Cert.RefAdamWInIdeal.nD Cert.RefAdamWInIdeal.τ).loc Cert.RefAdamWInIdeal.main_arg2))
    have e2 := r10 (m' ((c.tc : Thread Cert.RefAdamWInIdeal.nD Cert.RefAdamWInIdeal.τ).loc Cert.RefAdamWInIdeal.main_arg1)) (m' ((c.tc : Thread Cert.RefAdamWInIdeal.nD Cert.RefAdamWInIdeal.τ).loc Cert.RefAdamWInIdeal.main_arg3))
    rw [h0, h1, h2, h3] at e
    rw [h1, h2] at e1
    rw [h1, h3] at e2
    refine ⟨?_, ?_, ?_, (h c).2.2.2⟩
    · exact (h c).1.trans ((Cert.RefAdamWInIdeal.Read.val_main_v23_eq _ _ _ _).trans (by rw [h0, h1, h2, h3]; exact e))
    · exact (h c).2.1.trans ((Cert.RefAdamWInIdeal.Read.val_main_v4_eq _ _).trans (by rw [h1, h2]; exact e1))
    · exact (h c).2.2.1.trans ((Cert.RefAdamWInIdeal.Read.val_main_v10_eq _ _).trans (by rw [h1, h3]; exact e2))

end Cert.Adam.In
-- ==== Proof.AdamWGlu.lean ====
/- AdamW on the weights of the gated unit: every entry is updated by itself. -/
module

public import proofs.«01_k».proof.Defs
public import proofs.«01_k».proof.Proof.Adam
public import proofs.«01_k».proof.Proof.Gen.AdamWGluIdeal.Frame
public import proofs.«01_k».proof.Proof.Gen.AdamWGluIdeal.Value
public import proofs.«01_k».proof.Proof.Gen.RefAdamWGluIdeal.Run
public import proofs.«01_k».proof.Proof.Gen.RefAdamWGluIdeal.Read
public import Idealize.ShloMosaic.Lib.Pointwise
public import Idealize.ShloMosaic.Adequacy

@[expose] public section

noncomputable section

namespace Cert.Adam.Glu

open Idealize.ShloMosaic Idealize.ShloMosaic.TcCoe Idealize.SL.Sem

set_option maxRecDepth 16384

/-- The weights, the gradient and the moments are arrays of this shape. -/
abbrev Arr := FVec Ideal ⟨2, ![256, 1024]⟩ .f32

/-- The three results: the step and the two moments. -/
def deltaArr (w g a v : Arr) : Arr := fun i => delta (w i) (g i) (a i) (v i)
def momArr (g a : Arr) : Arr := fun i => mom (a i) (g i)
def sqmArr (g v : Arr) : Arr := fun i => sqm (v i) (g i)

section Kernel

open Cert.AdamWGluIdeal Cert.AdamWGluIdeal.Value

theorem kDelta (w g a v : Arr) : G4 (F := Ideal) g a v w = deltaArr w g a v := rfl
theorem kMom (g a : Arr) : G5 (F := Ideal) g a = momArr g a := rfl
theorem kSqm (g v : Arr) : G6 (F := Ideal) g v = sqmArr g v := rfl

end Kernel

section Reference

open Cert.RefAdamWGluIdeal Cert.RefAdamWGluIdeal.Read

variable (w g a v : Arr)

theorem r4 : val_main_v4 (F := Ideal) g a = momArr g a := by
  funext i
  obtain ⟨p, q, rfl⟩ : ∃ (p : Fin 256) (q : Fin 1024), i = ix2 p q := ⟨i 0, i 1, eq_ix2 i⟩
  pointwise [val_main_v4, val_main_v3, val_main_v2, val_main_v1, val_main_v0, val_main_cst, val_main_cst_0]
  rfl

theorem r10 : val_main_v10 (F := Ideal) g v = sqmArr g v := by
  funext i
  obtain ⟨p, q, rfl⟩ : ∃ (p : Fin 256) (q : Fin 1024), i = ix2 p q := ⟨i 0, i 1, eq_ix2 i⟩
  pointwise [val_main_v10, val_main_v9, val_main_v8, val_main_v7, val_main_v6, val_main_v5, val_main_cst_1, val_main_cst_2]
  rfl

theorem r23 : val_main_v23 (F := Ideal) w g a v = deltaArr w g a v := by
  funext i
  obtain ⟨p, q, rfl⟩ : ∃ (p : Fin 256) (q : Fin 1024), i = ix2 p q := ⟨i 0, i 1, eq_ix2 i⟩
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [r4, r10, div_c1, div_c2]
  rfl

end Reference

/-- The reference runs, keeps its arguments and leaves every counter at zero. -/
theorem frame_ri : Cert.quiescent_RefAdamWGluIdeal := fun m ρ _ =>
  (θ_run Cert.RefAdamWGluIdeal.defs _ _).mono (fun r h => ⟨fun c => (h c).2.2.2, sem_eq_zero_of_no_sems (by decide) r.2⟩)
    (Cert.RefAdamWGluIdeal.Value.run (F := Ideal) m ρ)

/-- The two named constants read as the reciprocals that their names stand for. -/
theorem preserves : Cert.preserves_AdamWGlu_AdamWGluIdeal :=
  ⟨IdealRules.named_const.statement Cert.AdamWGluIdeal.κ "adam_c1" .f32 0x3FC48605#32 ((8388608 / 5463681 : ℝ) : EReal) rfl,
    IdealRules.named_const.statement Cert.AdamWGluIdeal.κ "adam_c2" .f32 0x42C8E6D3#32 ((268435456 / 2672307 : ℝ) : EReal) rfl⟩

theorem algebraic : Cert.algebraic_AdamWGluIdeal_RefAdamWGluIdeal := by
  intro m ρ m' ρ' _ hagree
  refine ⟨fun c => deltaArr (m ((c.tc : Thread Cert.AdamWGluIdeal.nD Cert.AdamWGluIdeal.τ).loc Cert.AdamWGluIdeal.main_arg0)) (m ((c.tc : Thread Cert.AdamWGluIdeal.nD Cert.AdamWGluIdeal.τ).loc Cert.AdamWGluIdeal.main_arg1))
      (m ((c.tc : Thread Cert.AdamWGluIdeal.nD Cert.AdamWGluIdeal.τ).loc Cert.AdamWGluIdeal.main_arg2)) (m ((c.tc : Thread Cert.AdamWGluIdeal.nD Cert.AdamWGluIdeal.τ).loc Cert.AdamWGluIdeal.main_arg3)),
    fun c => momArr (m ((c.tc : Thread Cert.AdamWGluIdeal.nD Cert.AdamWGluIdeal.τ).loc Cert.AdamWGluIdeal.main_arg1)) (m ((c.tc : Thread Cert.AdamWGluIdeal.nD Cert.AdamWGluIdeal.τ).loc Cert.AdamWGluIdeal.main_arg2)),
    fun c => sqmArr (m ((c.tc : Thread Cert.AdamWGluIdeal.nD Cert.AdamWGluIdeal.τ).loc Cert.AdamWGluIdeal.main_arg1)) (m ((c.tc : Thread Cert.AdamWGluIdeal.nD Cert.AdamWGluIdeal.τ).loc Cert.AdamWGluIdeal.main_arg3)), ?_, ?_⟩
  · exact (θ_run Cert.AdamWGluIdeal.defs _ _).mono (fun _ h c => ⟨(h c).1.trans (kDelta _ _ _ _), (h c).2.1.trans (kMom _ _), (h c).2.2.1.trans (kSqm _ _),
      (h c).2.2.2⟩) (Cert.AdamWGluIdeal.Value.run (F := Ideal) m ρ)
  · refine (θ_run Cert.RefAdamWGluIdeal.defs _ _).mono (fun _ h c => ?_) (Cert.RefAdamWGluIdeal.Value.run (F := Ideal) m' ρ')
    obtain ⟨h0, h1, h2, h3⟩ := hagree c
    have e := r23 (m' ((c.tc : Thread Cert.RefAdamWGluIdeal.nD Cert.RefAdamWGluIdeal.τ).loc Cert.RefAdamWGluIdeal.main_arg0)) (m' ((c.tc : Thread Cert.RefAdamWGluIdeal.nD Cert.RefAdamWGluIdeal.τ).loc Cert.RefAdamWGluIdeal.main_arg1))
      (m' ((c.tc : Thread Cert.RefAdamWGluIdeal.nD Cert.RefAdamWGluIdeal.τ).loc Cert.RefAdamWGluIdeal.main_arg2)) (m' ((c.tc : Thread Cert.RefAdamWGluIdeal.nD Cert.RefAdamWGluIdeal.τ).loc Cert.RefAdamWGluIdeal.main_arg3))
    have e1 := r4 (m' ((c.tc : Thread Cert.RefAdamWGluIdeal.nD Cert.RefAdamWGluIdeal.τ).loc Cert.RefAdamWGluIdeal.main_arg1)) (m' ((c.tc : Thread Cert.RefAdamWGluIdeal.nD Cert.RefAdamWGluIdeal.τ).loc Cert.RefAdamWGluIdeal.main_arg2))
    have e2 := r10 (m' ((c.tc : Thread Cert.RefAdamWGluIdeal.nD Cert.RefAdamWGluIdeal.τ).loc Cert.RefAdamWGluIdeal.main_arg1)) (m' ((c.tc : Thread Cert.RefAdamWGluIdeal.nD Cert.RefAdamWGluIdeal.τ).loc Cert.RefAdamWGluIdeal.main_arg3))
    rw [h0, h1, h2, h3] at e
    rw [h1, h2] at e1
    rw [h1, h3] at e2
    refine ⟨?_, ?_, ?_, (h c).2.2.2⟩
    · exact (h c).1.trans ((Cert.RefAdamWGluIdeal.Read.val_main_v23_eq _ _ _ _).trans (by rw [h0, h1, h2, h3]; exact e))
    · exact (h c).2.1.trans ((Cert.RefAdamWGluIdeal.Read.val_main_v4_eq _ _).trans (by rw [h1, h2]; exact e1))
    · exact (h c).2.2.1.trans ((Cert.RefAdamWGluIdeal.Read.val_main_v10_eq _ _).trans (by rw [h1, h3]; exact e2))

end Cert.Adam.Glu
-- ==== Proof.AdamWOut.lean ====
/- AdamW on the weights of the projection out: every entry is updated by itself. -/
module

public import proofs.«01_k».proof.Defs
public import proofs.«01_k».proof.Proof.Adam
public import proofs.«01_k».proof.Proof.Gen.AdamWOutIdeal.Frame
public import proofs.«01_k».proof.Proof.Gen.AdamWOutIdeal.Value
public import proofs.«01_k».proof.Proof.Gen.RefAdamWOutIdeal.Run
public import proofs.«01_k».proof.Proof.Gen.RefAdamWOutIdeal.Read
public import Idealize.ShloMosaic.Lib.Pointwise
public import Idealize.ShloMosaic.Adequacy

@[expose] public section

noncomputable section

namespace Cert.Adam.Out

open Idealize.ShloMosaic Idealize.ShloMosaic.TcCoe Idealize.SL.Sem

set_option maxRecDepth 16384

/-- The weights, the gradient and the moments are arrays of this shape. -/
abbrev Arr := FVec Ideal ⟨2, ![512, 2048]⟩ .f32

/-- The three results: the step and the two moments. -/
def deltaArr (w g a v : Arr) : Arr := fun i => delta (w i) (g i) (a i) (v i)
def momArr (g a : Arr) : Arr := fun i => mom (a i) (g i)
def sqmArr (g v : Arr) : Arr := fun i => sqm (v i) (g i)

section Kernel

open Cert.AdamWOutIdeal Cert.AdamWOutIdeal.Value

theorem kDelta (w g a v : Arr) : G4 (F := Ideal) g a v w = deltaArr w g a v := rfl
theorem kMom (g a : Arr) : G5 (F := Ideal) g a = momArr g a := rfl
theorem kSqm (g v : Arr) : G6 (F := Ideal) g v = sqmArr g v := rfl

end Kernel

section Reference

open Cert.RefAdamWOutIdeal Cert.RefAdamWOutIdeal.Read

variable (w g a v : Arr)

theorem r4 : val_main_v4 (F := Ideal) g a = momArr g a := by
  funext i
  obtain ⟨p, q, rfl⟩ : ∃ (p : Fin 512) (q : Fin 2048), i = ix2 p q := ⟨i 0, i 1, eq_ix2 i⟩
  pointwise [val_main_v4, val_main_v3, val_main_v2, val_main_v1, val_main_v0, val_main_cst, val_main_cst_0]
  rfl

theorem r10 : val_main_v10 (F := Ideal) g v = sqmArr g v := by
  funext i
  obtain ⟨p, q, rfl⟩ : ∃ (p : Fin 512) (q : Fin 2048), i = ix2 p q := ⟨i 0, i 1, eq_ix2 i⟩
  pointwise [val_main_v10, val_main_v9, val_main_v8, val_main_v7, val_main_v6, val_main_v5, val_main_cst_1, val_main_cst_2]
  rfl

theorem r23 : val_main_v23 (F := Ideal) w g a v = deltaArr w g a v := by
  funext i
  obtain ⟨p, q, rfl⟩ : ∃ (p : Fin 512) (q : Fin 2048), i = ix2 p q := ⟨i 0, i 1, eq_ix2 i⟩
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [r4, r10, div_c1, div_c2]
  rfl

end Reference

/-- The reference runs, keeps its arguments and leaves every counter at zero. -/
theorem frame_ri : Cert.quiescent_RefAdamWOutIdeal := fun m ρ _ =>
  (θ_run Cert.RefAdamWOutIdeal.defs _ _).mono (fun r h => ⟨fun c => (h c).2.2.2, sem_eq_zero_of_no_sems (by decide) r.2⟩)
    (Cert.RefAdamWOutIdeal.Value.run (F := Ideal) m ρ)

/-- The two named constants read as the reciprocals that their names stand for. -/
theorem preserves : Cert.preserves_AdamWOut_AdamWOutIdeal :=
  ⟨IdealRules.named_const.statement Cert.AdamWOutIdeal.κ "adam_c1" .f32 0x3FC48605#32 ((8388608 / 5463681 : ℝ) : EReal) rfl,
    IdealRules.named_const.statement Cert.AdamWOutIdeal.κ "adam_c2" .f32 0x42C8E6D3#32 ((268435456 / 2672307 : ℝ) : EReal) rfl⟩

theorem algebraic : Cert.algebraic_AdamWOutIdeal_RefAdamWOutIdeal := by
  intro m ρ m' ρ' _ hagree
  refine ⟨fun c => deltaArr (m ((c.tc : Thread Cert.AdamWOutIdeal.nD Cert.AdamWOutIdeal.τ).loc Cert.AdamWOutIdeal.main_arg0)) (m ((c.tc : Thread Cert.AdamWOutIdeal.nD Cert.AdamWOutIdeal.τ).loc Cert.AdamWOutIdeal.main_arg1))
      (m ((c.tc : Thread Cert.AdamWOutIdeal.nD Cert.AdamWOutIdeal.τ).loc Cert.AdamWOutIdeal.main_arg2)) (m ((c.tc : Thread Cert.AdamWOutIdeal.nD Cert.AdamWOutIdeal.τ).loc Cert.AdamWOutIdeal.main_arg3)),
    fun c => momArr (m ((c.tc : Thread Cert.AdamWOutIdeal.nD Cert.AdamWOutIdeal.τ).loc Cert.AdamWOutIdeal.main_arg1)) (m ((c.tc : Thread Cert.AdamWOutIdeal.nD Cert.AdamWOutIdeal.τ).loc Cert.AdamWOutIdeal.main_arg2)),
    fun c => sqmArr (m ((c.tc : Thread Cert.AdamWOutIdeal.nD Cert.AdamWOutIdeal.τ).loc Cert.AdamWOutIdeal.main_arg1)) (m ((c.tc : Thread Cert.AdamWOutIdeal.nD Cert.AdamWOutIdeal.τ).loc Cert.AdamWOutIdeal.main_arg3)), ?_, ?_⟩
  · exact (θ_run Cert.AdamWOutIdeal.defs _ _).mono (fun _ h c => ⟨(h c).1.trans (kDelta _ _ _ _), (h c).2.1.trans (kMom _ _), (h c).2.2.1.trans (kSqm _ _),
      (h c).2.2.2⟩) (Cert.AdamWOutIdeal.Value.run (F := Ideal) m ρ)
  · refine (θ_run Cert.RefAdamWOutIdeal.defs _ _).mono (fun _ h c => ?_) (Cert.RefAdamWOutIdeal.Value.run (F := Ideal) m' ρ')
    obtain ⟨h0, h1, h2, h3⟩ := hagree c
    have e := r23 (m' ((c.tc : Thread Cert.RefAdamWOutIdeal.nD Cert.RefAdamWOutIdeal.τ).loc Cert.RefAdamWOutIdeal.main_arg0)) (m' ((c.tc : Thread Cert.RefAdamWOutIdeal.nD Cert.RefAdamWOutIdeal.τ).loc Cert.RefAdamWOutIdeal.main_arg1))
      (m' ((c.tc : Thread Cert.RefAdamWOutIdeal.nD Cert.RefAdamWOutIdeal.τ).loc Cert.RefAdamWOutIdeal.main_arg2)) (m' ((c.tc : Thread Cert.RefAdamWOutIdeal.nD Cert.RefAdamWOutIdeal.τ).loc Cert.RefAdamWOutIdeal.main_arg3))
    have e1 := r4 (m' ((c.tc : Thread Cert.RefAdamWOutIdeal.nD Cert.RefAdamWOutIdeal.τ).loc Cert.RefAdamWOutIdeal.main_arg1)) (m' ((c.tc : Thread Cert.RefAdamWOutIdeal.nD Cert.RefAdamWOutIdeal.τ).loc Cert.RefAdamWOutIdeal.main_arg2))
    have e2 := r10 (m' ((c.tc : Thread Cert.RefAdamWOutIdeal.nD Cert.RefAdamWOutIdeal.τ).loc Cert.RefAdamWOutIdeal.main_arg1)) (m' ((c.tc : Thread Cert.RefAdamWOutIdeal.nD Cert.RefAdamWOutIdeal.τ).loc Cert.RefAdamWOutIdeal.main_arg3))
    rw [h0, h1, h2, h3] at e
    rw [h1, h2] at e1
    rw [h1, h3] at e2
    refine ⟨?_, ?_, ?_, (h c).2.2.2⟩
    · exact (h c).1.trans ((Cert.RefAdamWOutIdeal.Read.val_main_v23_eq _ _ _ _).trans (by rw [h0, h1, h2, h3]; exact e))
    · exact (h c).2.1.trans ((Cert.RefAdamWOutIdeal.Read.val_main_v4_eq _ _).trans (by rw [h1, h2]; exact e1))
    · exact (h c).2.2.1.trans ((Cert.RefAdamWOutIdeal.Read.val_main_v10_eq _ _).trans (by rw [h1, h3]; exact e2))

end Cert.Adam.Out
-- ==== Proof.AdamWUp.lean ====
/- AdamW on the weights of the gate's projection: every entry is updated by itself. -/
module

public import proofs.«01_k».proof.Defs
public import proofs.«01_k».proof.Proof.Adam
public import proofs.«01_k».proof.Proof.Gen.AdamWUpIdeal.Frame
public import proofs.«01_k».proof.Proof.Gen.AdamWUpIdeal.Value
public import proofs.«01_k».proof.Proof.Gen.RefAdamWUpIdeal.Run
public import proofs.«01_k».proof.Proof.Gen.RefAdamWUpIdeal.Read
public import Idealize.ShloMosaic.Lib.Pointwise
public import Idealize.ShloMosaic.Adequacy

@[expose] public section

noncomputable section

namespace Cert.Adam.Up

open Idealize.ShloMosaic Idealize.ShloMosaic.TcCoe Idealize.SL.Sem

set_option maxRecDepth 16384

/-- The weights, the gradient and the moments are arrays of this shape. -/
abbrev Arr := FVec Ideal ⟨2, ![4096, 1408]⟩ .f32

/-- The three results: the step and the two moments. -/
def deltaArr (w g a v : Arr) : Arr := fun i => delta (w i) (g i) (a i) (v i)
def momArr (g a : Arr) : Arr := fun i => mom (a i) (g i)
def sqmArr (g v : Arr) : Arr := fun i => sqm (v i) (g i)

section Kernel

open Cert.AdamWUpIdeal Cert.AdamWUpIdeal.Value

theorem kDelta (w g a v : Arr) : G4 (F := Ideal) g a v w = deltaArr w g a v := rfl
theorem kMom (g a : Arr) : G5 (F := Ideal) g a = momArr g a := rfl
theorem kSqm (g v : Arr) : G6 (F := Ideal) g v = sqmArr g v := rfl

end Kernel

section Reference

open Cert.RefAdamWUpIdeal Cert.RefAdamWUpIdeal.Read

variable (w g a v : Arr)

theorem r4 : val_main_v4 (F := Ideal) g a = momArr g a := by
  funext i
  obtain ⟨p, q, rfl⟩ : ∃ (p : Fin 4096) (q : Fin 1408), i = ix2 p q := ⟨i 0, i 1, eq_ix2 i⟩
  pointwise [val_main_v4, val_main_v3, val_main_v2, val_main_v1, val_main_v0, val_main_cst, val_main_cst_0]
  rfl

theorem r10 : val_main_v10 (F := Ideal) g v = sqmArr g v := by
  funext i
  obtain ⟨p, q, rfl⟩ : ∃ (p : Fin 4096) (q : Fin 1408), i = ix2 p q := ⟨i 0, i 1, eq_ix2 i⟩
  pointwise [val_main_v10, val_main_v9, val_main_v8, val_main_v7, val_main_v6, val_main_v5, val_main_cst_1, val_main_cst_2]
  rfl

theorem r23 : val_main_v23 (F := Ideal) w g a v = deltaArr w g a v := by
  funext i
  obtain ⟨p, q, rfl⟩ : ∃ (p : Fin 4096) (q : Fin 1408), i = ix2 p q := ⟨i 0, i 1, eq_ix2 i⟩
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [r4, r10, div_c1, div_c2]
  rfl

end Reference

/-- The reference runs, keeps its arguments and leaves every counter at zero. -/
theorem frame_ri : Cert.quiescent_RefAdamWUpIdeal := fun m ρ _ =>
  (θ_run Cert.RefAdamWUpIdeal.defs _ _).mono (fun r h => ⟨fun c => (h c).2.2.2, sem_eq_zero_of_no_sems (by decide) r.2⟩)
    (Cert.RefAdamWUpIdeal.Value.run (F := Ideal) m ρ)

/-- The two named constants read as the reciprocals that their names stand for. -/
theorem preserves : Cert.preserves_AdamWUp_AdamWUpIdeal :=
  ⟨IdealRules.named_const.statement Cert.AdamWUpIdeal.κ "adam_c1" .f32 0x3FC48605#32 ((8388608 / 5463681 : ℝ) : EReal) rfl,
    IdealRules.named_const.statement Cert.AdamWUpIdeal.κ "adam_c2" .f32 0x42C8E6D3#32 ((268435456 / 2672307 : ℝ) : EReal) rfl⟩

theorem algebraic : Cert.algebraic_AdamWUpIdeal_RefAdamWUpIdeal := by
  intro m ρ m' ρ' _ hagree
  refine ⟨fun c => deltaArr (m ((c.tc : Thread Cert.AdamWUpIdeal.nD Cert.AdamWUpIdeal.τ).loc Cert.AdamWUpIdeal.main_arg0)) (m ((c.tc : Thread Cert.AdamWUpIdeal.nD Cert.AdamWUpIdeal.τ).loc Cert.AdamWUpIdeal.main_arg1))
      (m ((c.tc : Thread Cert.AdamWUpIdeal.nD Cert.AdamWUpIdeal.τ).loc Cert.AdamWUpIdeal.main_arg2)) (m ((c.tc : Thread Cert.AdamWUpIdeal.nD Cert.AdamWUpIdeal.τ).loc Cert.AdamWUpIdeal.main_arg3)),
    fun c => momArr (m ((c.tc : Thread Cert.AdamWUpIdeal.nD Cert.AdamWUpIdeal.τ).loc Cert.AdamWUpIdeal.main_arg1)) (m ((c.tc : Thread Cert.AdamWUpIdeal.nD Cert.AdamWUpIdeal.τ).loc Cert.AdamWUpIdeal.main_arg2)),
    fun c => sqmArr (m ((c.tc : Thread Cert.AdamWUpIdeal.nD Cert.AdamWUpIdeal.τ).loc Cert.AdamWUpIdeal.main_arg1)) (m ((c.tc : Thread Cert.AdamWUpIdeal.nD Cert.AdamWUpIdeal.τ).loc Cert.AdamWUpIdeal.main_arg3)), ?_, ?_⟩
  · exact (θ_run Cert.AdamWUpIdeal.defs _ _).mono (fun _ h c => ⟨(h c).1.trans (kDelta _ _ _ _), (h c).2.1.trans (kMom _ _), (h c).2.2.1.trans (kSqm _ _),
      (h c).2.2.2⟩) (Cert.AdamWUpIdeal.Value.run (F := Ideal) m ρ)
  · refine (θ_run Cert.RefAdamWUpIdeal.defs _ _).mono (fun _ h c => ?_) (Cert.RefAdamWUpIdeal.Value.run (F := Ideal) m' ρ')
    obtain ⟨h0, h1, h2, h3⟩ := hagree c
    have e := r23 (m' ((c.tc : Thread Cert.RefAdamWUpIdeal.nD Cert.RefAdamWUpIdeal.τ).loc Cert.RefAdamWUpIdeal.main_arg0)) (m' ((c.tc : Thread Cert.RefAdamWUpIdeal.nD Cert.RefAdamWUpIdeal.τ).loc Cert.RefAdamWUpIdeal.main_arg1))
      (m' ((c.tc : Thread Cert.RefAdamWUpIdeal.nD Cert.RefAdamWUpIdeal.τ).loc Cert.RefAdamWUpIdeal.main_arg2)) (m' ((c.tc : Thread Cert.RefAdamWUpIdeal.nD Cert.RefAdamWUpIdeal.τ).loc Cert.RefAdamWUpIdeal.main_arg3))
    have e1 := r4 (m' ((c.tc : Thread Cert.RefAdamWUpIdeal.nD Cert.RefAdamWUpIdeal.τ).loc Cert.RefAdamWUpIdeal.main_arg1)) (m' ((c.tc : Thread Cert.RefAdamWUpIdeal.nD Cert.RefAdamWUpIdeal.τ).loc Cert.RefAdamWUpIdeal.main_arg2))
    have e2 := r10 (m' ((c.tc : Thread Cert.RefAdamWUpIdeal.nD Cert.RefAdamWUpIdeal.τ).loc Cert.RefAdamWUpIdeal.main_arg1)) (m' ((c.tc : Thread Cert.RefAdamWUpIdeal.nD Cert.RefAdamWUpIdeal.τ).loc Cert.RefAdamWUpIdeal.main_arg3))
    rw [h0, h1, h2, h3] at e
    rw [h1, h2] at e1
    rw [h1, h3] at e2
    refine ⟨?_, ?_, ?_, (h c).2.2.2⟩
    · exact (h c).1.trans ((Cert.RefAdamWUpIdeal.Read.val_main_v23_eq _ _ _ _).trans (by rw [h0, h1, h2, h3]; exact e))
    · exact (h c).2.1.trans ((Cert.RefAdamWUpIdeal.Read.val_main_v4_eq _ _).trans (by rw [h1, h2]; exact e1))
    · exact (h c).2.2.1.trans ((Cert.RefAdamWUpIdeal.Read.val_main_v10_eq _ _).trans (by rw [h1, h3]; exact e2))

end Cert.Adam.Up
-- ==== Proof.AdamWDown.lean ====
/- AdamW on the weights of the projection down: every entry is updated by itself. -/
module

public import proofs.«01_k».proof.Defs
public import proofs.«01_k».proof.Proof.Adam
public import proofs.«01_k».proof.Proof.Gen.AdamWDownIdeal.Frame
public import proofs.«01_k».proof.Proof.Gen.AdamWDownIdeal.Value
public import proofs.«01_k».proof.Proof.Gen.RefAdamWDownIdeal.Run
public import proofs.«01_k».proof.Proof.Gen.RefAdamWDownIdeal.Read
public import Idealize.ShloMosaic.Lib.Pointwise
public import Idealize.ShloMosaic.Adequacy

@[expose] public section

noncomputable section

namespace Cert.Adam.Down

open Idealize.ShloMosaic Idealize.ShloMosaic.TcCoe Idealize.SL.Sem

set_option maxRecDepth 16384

/-- The weights, the gradient and the moments are arrays of this shape. -/
abbrev Arr := FVec Ideal ⟨2, ![1408, 2048]⟩ .f32

/-- The three results: the step and the two moments. -/
def deltaArr (w g a v : Arr) : Arr := fun i => delta (w i) (g i) (a i) (v i)
def momArr (g a : Arr) : Arr := fun i => mom (a i) (g i)
def sqmArr (g v : Arr) : Arr := fun i => sqm (v i) (g i)

section Kernel

open Cert.AdamWDownIdeal Cert.AdamWDownIdeal.Value

theorem kDelta (w g a v : Arr) : G4 (F := Ideal) g a v w = deltaArr w g a v := rfl
theorem kMom (g a : Arr) : G5 (F := Ideal) g a = momArr g a := rfl
theorem kSqm (g v : Arr) : G6 (F := Ideal) g v = sqmArr g v := rfl

end Kernel

section Reference

open Cert.RefAdamWDownIdeal Cert.RefAdamWDownIdeal.Read

variable (w g a v : Arr)

theorem r4 : val_main_v4 (F := Ideal) g a = momArr g a := by
  funext i
  obtain ⟨p, q, rfl⟩ : ∃ (p : Fin 1408) (q : Fin 2048), i = ix2 p q := ⟨i 0, i 1, eq_ix2 i⟩
  pointwise [val_main_v4, val_main_v3, val_main_v2, val_main_v1, val_main_v0, val_main_cst, val_main_cst_0]
  rfl

theorem r10 : val_main_v10 (F := Ideal) g v = sqmArr g v := by
  funext i
  obtain ⟨p, q, rfl⟩ : ∃ (p : Fin 1408) (q : Fin 2048), i = ix2 p q := ⟨i 0, i 1, eq_ix2 i⟩
  pointwise [val_main_v10, val_main_v9, val_main_v8, val_main_v7, val_main_v6, val_main_v5, val_main_cst_1, val_main_cst_2]
  rfl

theorem r23 : val_main_v23 (F := Ideal) w g a v = deltaArr w g a v := by
  funext i
  obtain ⟨p, q, rfl⟩ : ∃ (p : Fin 1408) (q : Fin 2048), i = ix2 p q := ⟨i 0, i 1, eq_ix2 i⟩
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [r4, r10, div_c1, div_c2]
  rfl

end Reference

/-- The reference runs, keeps its arguments and leaves every counter at zero. -/
theorem frame_ri : Cert.quiescent_RefAdamWDownIdeal := fun m ρ _ =>
  (θ_run Cert.RefAdamWDownIdeal.defs _ _).mono (fun r h => ⟨fun c => (h c).2.2.2, sem_eq_zero_of_no_sems (by decide) r.2⟩)
    (Cert.RefAdamWDownIdeal.Value.run (F := Ideal) m ρ)

/-- The two named constants read as the reciprocals that their names stand for. -/
theorem preserves : Cert.preserves_AdamWDown_AdamWDownIdeal :=
  ⟨IdealRules.named_const.statement Cert.AdamWDownIdeal.κ "adam_c1" .f32 0x3FC48605#32 ((8388608 / 5463681 : ℝ) : EReal) rfl,
    IdealRules.named_const.statement Cert.AdamWDownIdeal.κ "adam_c2" .f32 0x42C8E6D3#32 ((268435456 / 2672307 : ℝ) : EReal) rfl⟩

theorem algebraic : Cert.algebraic_AdamWDownIdeal_RefAdamWDownIdeal := by
  intro m ρ m' ρ' _ hagree
  refine ⟨fun c => deltaArr (m ((c.tc : Thread Cert.AdamWDownIdeal.nD Cert.AdamWDownIdeal.τ).loc Cert.AdamWDownIdeal.main_arg0)) (m ((c.tc : Thread Cert.AdamWDownIdeal.nD Cert.AdamWDownIdeal.τ).loc Cert.AdamWDownIdeal.main_arg1))
      (m ((c.tc : Thread Cert.AdamWDownIdeal.nD Cert.AdamWDownIdeal.τ).loc Cert.AdamWDownIdeal.main_arg2)) (m ((c.tc : Thread Cert.AdamWDownIdeal.nD Cert.AdamWDownIdeal.τ).loc Cert.AdamWDownIdeal.main_arg3)),
    fun c => momArr (m ((c.tc : Thread Cert.AdamWDownIdeal.nD Cert.AdamWDownIdeal.τ).loc Cert.AdamWDownIdeal.main_arg1)) (m ((c.tc : Thread Cert.AdamWDownIdeal.nD Cert.AdamWDownIdeal.τ).loc Cert.AdamWDownIdeal.main_arg2)),
    fun c => sqmArr (m ((c.tc : Thread Cert.AdamWDownIdeal.nD Cert.AdamWDownIdeal.τ).loc Cert.AdamWDownIdeal.main_arg1)) (m ((c.tc : Thread Cert.AdamWDownIdeal.nD Cert.AdamWDownIdeal.τ).loc Cert.AdamWDownIdeal.main_arg3)), ?_, ?_⟩
  · exact (θ_run Cert.AdamWDownIdeal.defs _ _).mono (fun _ h c => ⟨(h c).1.trans (kDelta _ _ _ _), (h c).2.1.trans (kMom _ _), (h c).2.2.1.trans (kSqm _ _),
      (h c).2.2.2⟩) (Cert.AdamWDownIdeal.Value.run (F := Ideal) m ρ)
  · refine (θ_run Cert.RefAdamWDownIdeal.defs _ _).mono (fun _ h c => ?_) (Cert.RefAdamWDownIdeal.Value.run (F := Ideal) m' ρ')
    obtain ⟨h0, h1, h2, h3⟩ := hagree c
    have e := r23 (m' ((c.tc : Thread Cert.RefAdamWDownIdeal.nD Cert.RefAdamWDownIdeal.τ).loc Cert.RefAdamWDownIdeal.main_arg0)) (m' ((c.tc : Thread Cert.RefAdamWDownIdeal.nD Cert.RefAdamWDownIdeal.τ).loc Cert.RefAdamWDownIdeal.main_arg1))
      (m' ((c.tc : Thread Cert.RefAdamWDownIdeal.nD Cert.RefAdamWDownIdeal.τ).loc Cert.RefAdamWDownIdeal.main_arg2)) (m' ((c.tc : Thread Cert.RefAdamWDownIdeal.nD Cert.RefAdamWDownIdeal.τ).loc Cert.RefAdamWDownIdeal.main_arg3))
    have e1 := r4 (m' ((c.tc : Thread Cert.RefAdamWDownIdeal.nD Cert.RefAdamWDownIdeal.τ).loc Cert.RefAdamWDownIdeal.main_arg1)) (m' ((c.tc : Thread Cert.RefAdamWDownIdeal.nD Cert.RefAdamWDownIdeal.τ).loc Cert.RefAdamWDownIdeal.main_arg2))
    have e2 := r10 (m' ((c.tc : Thread Cert.RefAdamWDownIdeal.nD Cert.RefAdamWDownIdeal.τ).loc Cert.RefAdamWDownIdeal.main_arg1)) (m' ((c.tc : Thread Cert.RefAdamWDownIdeal.nD Cert.RefAdamWDownIdeal.τ).loc Cert.RefAdamWDownIdeal.main_arg3))
    rw [h0, h1, h2, h3] at e
    rw [h1, h2] at e1
    rw [h1, h3] at e2
    refine ⟨?_, ?_, ?_, (h c).2.2.2⟩
    · exact (h c).1.trans ((Cert.RefAdamWDownIdeal.Read.val_main_v23_eq _ _ _ _).trans (by rw [h0, h1, h2, h3]; exact e))
    · exact (h c).2.1.trans ((Cert.RefAdamWDownIdeal.Read.val_main_v4_eq _ _).trans (by rw [h1, h2]; exact e1))
    · exact (h c).2.2.1.trans ((Cert.RefAdamWDownIdeal.Read.val_main_v10_eq _ _).trans (by rw [h1, h3]; exact e2))

end Cert.Adam.Down
-- ==== Proof.AdamWAda.lean ====
/- AdamW on the weights of the conditioning: every entry is updated by itself. -/
module

public import proofs.«01_k».proof.Defs
public import proofs.«01_k».proof.Proof.Adam
public import proofs.«01_k».proof.Proof.Gen.AdamWAdaIdeal.Frame
public import proofs.«01_k».proof.Proof.Gen.AdamWAdaIdeal.Value
public import proofs.«01_k».proof.Proof.Gen.RefAdamWAdaIdeal.Run
public import proofs.«01_k».proof.Proof.Gen.RefAdamWAdaIdeal.Read
public import Idealize.ShloMosaic.Lib.Pointwise
public import Idealize.ShloMosaic.Adequacy

@[expose] public section

noncomputable section

namespace Cert.Adam.Ada

open Idealize.ShloMosaic Idealize.ShloMosaic.TcCoe Idealize.SL.Sem

set_option maxRecDepth 16384

/-- The weights, the gradient and the moments are arrays of this shape. -/
abbrev Arr := FVec Ideal ⟨2, ![4096, 1536]⟩ .f32

/-- The three results: the step and the two moments. -/
def deltaArr (w g a v : Arr) : Arr := fun i => delta (w i) (g i) (a i) (v i)
def momArr (g a : Arr) : Arr := fun i => mom (a i) (g i)
def sqmArr (g v : Arr) : Arr := fun i => sqm (v i) (g i)

section Kernel

open Cert.AdamWAdaIdeal Cert.AdamWAdaIdeal.Value

theorem kDelta (w g a v : Arr) : G4 (F := Ideal) g a v w = deltaArr w g a v := rfl
theorem kMom (g a : Arr) : G5 (F := Ideal) g a = momArr g a := rfl
theorem kSqm (g v : Arr) : G6 (F := Ideal) g v = sqmArr g v := rfl

end Kernel

section Reference

open Cert.RefAdamWAdaIdeal Cert.RefAdamWAdaIdeal.Read

variable (w g a v : Arr)

theorem r4 : val_main_v4 (F := Ideal) g a = momArr g a := by
  funext i
  obtain ⟨p, q, rfl⟩ : ∃ (p : Fin 4096) (q : Fin 1536), i = ix2 p q := ⟨i 0, i 1, eq_ix2 i⟩
  pointwise [val_main_v4, val_main_v3, val_main_v2, val_main_v1, val_main_v0, val_main_cst, val_main_cst_0]
  rfl

theorem r10 : val_main_v10 (F := Ideal) g v = sqmArr g v := by
  funext i
  obtain ⟨p, q, rfl⟩ : ∃ (p : Fin 4096) (q : Fin 1536), i = ix2 p q := ⟨i 0, i 1, eq_ix2 i⟩
  pointwise [val_main_v10, val_main_v9, val_main_v8, val_main_v7, val_main_v6, val_main_v5, val_main_cst_1, val_main_cst_2]
  rfl

theorem r23 : val_main_v23 (F := Ideal) w g a v = deltaArr w g a v := by
  funext i
  obtain ⟨p, q, rfl⟩ : ∃ (p : Fin 4096) (q : Fin 1536), i = ix2 p q := ⟨i 0, i 1, eq_ix2 i⟩
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [r4, r10, div_c1, div_c2]
  rfl

end Reference

/-- The reference runs, keeps its arguments and leaves every counter at zero. -/
theorem frame_ri : Cert.quiescent_RefAdamWAdaIdeal := fun m ρ _ =>
  (θ_run Cert.RefAdamWAdaIdeal.defs _ _).mono (fun r h => ⟨fun c => (h c).2.2.2, sem_eq_zero_of_no_sems (by decide) r.2⟩)
    (Cert.RefAdamWAdaIdeal.Value.run (F := Ideal) m ρ)

/-- The two named constants read as the reciprocals that their names stand for. -/
theorem preserves : Cert.preserves_AdamWAda_AdamWAdaIdeal :=
  ⟨IdealRules.named_const.statement Cert.AdamWAdaIdeal.κ "adam_c1" .f32 0x3FC48605#32 ((8388608 / 5463681 : ℝ) : EReal) rfl,
    IdealRules.named_const.statement Cert.AdamWAdaIdeal.κ "adam_c2" .f32 0x42C8E6D3#32 ((268435456 / 2672307 : ℝ) : EReal) rfl⟩

theorem algebraic : Cert.algebraic_AdamWAdaIdeal_RefAdamWAdaIdeal := by
  intro m ρ m' ρ' _ hagree
  refine ⟨fun c => deltaArr (m ((c.tc : Thread Cert.AdamWAdaIdeal.nD Cert.AdamWAdaIdeal.τ).loc Cert.AdamWAdaIdeal.main_arg0)) (m ((c.tc : Thread Cert.AdamWAdaIdeal.nD Cert.AdamWAdaIdeal.τ).loc Cert.AdamWAdaIdeal.main_arg1))
      (m ((c.tc : Thread Cert.AdamWAdaIdeal.nD Cert.AdamWAdaIdeal.τ).loc Cert.AdamWAdaIdeal.main_arg2)) (m ((c.tc : Thread Cert.AdamWAdaIdeal.nD Cert.AdamWAdaIdeal.τ).loc Cert.AdamWAdaIdeal.main_arg3)),
    fun c => momArr (m ((c.tc : Thread Cert.AdamWAdaIdeal.nD Cert.AdamWAdaIdeal.τ).loc Cert.AdamWAdaIdeal.main_arg1)) (m ((c.tc : Thread Cert.AdamWAdaIdeal.nD Cert.AdamWAdaIdeal.τ).loc Cert.AdamWAdaIdeal.main_arg2)),
    fun c => sqmArr (m ((c.tc : Thread Cert.AdamWAdaIdeal.nD Cert.AdamWAdaIdeal.τ).loc Cert.AdamWAdaIdeal.main_arg1)) (m ((c.tc : Thread Cert.AdamWAdaIdeal.nD Cert.AdamWAdaIdeal.τ).loc Cert.AdamWAdaIdeal.main_arg3)), ?_, ?_⟩
  · exact (θ_run Cert.AdamWAdaIdeal.defs _ _).mono (fun _ h c => ⟨(h c).1.trans (kDelta _ _ _ _), (h c).2.1.trans (kMom _ _), (h c).2.2.1.trans (kSqm _ _),
      (h c).2.2.2⟩) (Cert.AdamWAdaIdeal.Value.run (F := Ideal) m ρ)
  · refine (θ_run Cert.RefAdamWAdaIdeal.defs _ _).mono (fun _ h c => ?_) (Cert.RefAdamWAdaIdeal.Value.run (F := Ideal) m' ρ')
    obtain ⟨h0, h1, h2, h3⟩ := hagree c
    have e := r23 (m' ((c.tc : Thread Cert.RefAdamWAdaIdeal.nD Cert.RefAdamWAdaIdeal.τ).loc Cert.RefAdamWAdaIdeal.main_arg0)) (m' ((c.tc : Thread Cert.RefAdamWAdaIdeal.nD Cert.RefAdamWAdaIdeal.τ).loc Cert.RefAdamWAdaIdeal.main_arg1))
      (m' ((c.tc : Thread Cert.RefAdamWAdaIdeal.nD Cert.RefAdamWAdaIdeal.τ).loc Cert.RefAdamWAdaIdeal.main_arg2)) (m' ((c.tc : Thread Cert.RefAdamWAdaIdeal.nD Cert.RefAdamWAdaIdeal.τ).loc Cert.RefAdamWAdaIdeal.main_arg3))
    have e1 := r4 (m' ((c.tc : Thread Cert.RefAdamWAdaIdeal.nD Cert.RefAdamWAdaIdeal.τ).loc Cert.RefAdamWAdaIdeal.main_arg1)) (m' ((c.tc : Thread Cert.RefAdamWAdaIdeal.nD Cert.RefAdamWAdaIdeal.τ).loc Cert.RefAdamWAdaIdeal.main_arg2))
    have e2 := r10 (m' ((c.tc : Thread Cert.RefAdamWAdaIdeal.nD Cert.RefAdamWAdaIdeal.τ).loc Cert.RefAdamWAdaIdeal.main_arg1)) (m' ((c.tc : Thread Cert.RefAdamWAdaIdeal.nD Cert.RefAdamWAdaIdeal.τ).loc Cert.RefAdamWAdaIdeal.main_arg3))
    rw [h0, h1, h2, h3] at e
    rw [h1, h2] at e1
    rw [h1, h3] at e2
    refine ⟨?_, ?_, ?_, (h c).2.2.2⟩
    · exact (h c).1.trans ((Cert.RefAdamWAdaIdeal.Read.val_main_v23_eq _ _ _ _).trans (by rw [h0, h1, h2, h3]; exact e))
    · exact (h c).2.1.trans ((Cert.RefAdamWAdaIdeal.Read.val_main_v4_eq _ _).trans (by rw [h1, h2]; exact e1))
    · exact (h c).2.2.1.trans ((Cert.RefAdamWAdaIdeal.Read.val_main_v10_eq _ _).trans (by rw [h1, h3]; exact e2))

end Cert.Adam.Ada
-- ==== Proof.SsmSpec.lean ====
/- The state-space model's parameters, state by state: the discretisation by zero-order hold and its gradient. -/
module

public import Idealize.ShloMosaic.Lib.Pointwise
public import Idealize.ShloMosaic.Lib.Pipeline.ValueKit

@[expose] public section

noncomputable section

namespace Cert.Ssm

open Idealize.ShloMosaic
open scoped BigOperators

/-- Zero and one as the floats they are written as. -/
def zero : EReal := Ideal.ofBits .f32 0x00000000#32
def one : EReal := Ideal.ofBits .f32 0x3F800000#32

theorem zero_eq : zero = 0 := by
  simp [zero, Ideal.ofBits, Ideal.ieee]

/-- A difference from zero. -/
def ng (x : EReal) : EReal := zero - x

theorem ng_eq (x : EReal) : ng x = -x := by
  rw [ng, zero_eq, zero_sub]

/-- One state: its eigenvalue and the logarithm of its time step. -/
structure State where
  re : EReal
  im : EReal
  ls : EReal

namespace State

variable (S : State)

/-- The time step, and the discrete factor's modulus, angle, cosine and sine. -/
def dt : EReal := Ideal.exp S.ls
def mag : EReal := Ideal.exp (S.re * S.dt)
def ang : EReal := S.im * S.dt
def co : EReal := Ideal.cos S.ang
def si : EReal := Ideal.sin S.ang
/-- The discrete factor. -/
def ar : EReal := S.mag * S.co
def ai : EReal := S.mag * S.si
/-- The factor of the input matrix. -/
def den : EReal := S.re * S.re + S.im * S.im
def ar1 : EReal := S.ar - one
def nr : EReal := S.ar1 * S.re + S.ai * S.im
def ni : EReal := S.ai * S.re - S.ar1 * S.im
def fr : EReal := Ideal.div S.nr S.den
def fi : EReal := Ideal.div S.ni S.den
def inv : EReal := Ideal.div one (S.den * S.den)

-- The gradients that reach a state: of the discrete factor, and of the input matrix's factor.
variable (dar dai dfr dfi : EReal)

def u : EReal := Ideal.div dfi S.den
def w : EReal := Ideal.div dfr S.den
def dden : EReal := ng (dfi * S.inv * S.ni) + ng (dfr * S.inv * S.nr)
/-- The gradient of the discrete factor, whole. -/
def p : EReal := dar + ng (S.u dfi) * S.im + S.w dfr * S.re
def q : EReal := dai + S.u dfi * S.re + S.w dfr * S.im
/-- The gradients of the angle and of the modulus' exponent. -/
def dang : EReal := S.mag * S.q dai dfr dfi * S.co + ng (S.mag * S.p dar dfr dfi) * S.si
def dexp : EReal := (S.q dai dfr dfi * S.si + S.p dar dfr dfi * S.co) * S.mag
/-- The gradients of the eigenvalue and of the step's logarithm. -/
def dre : EReal := S.ai * S.u dfi + S.ar1 * S.w dfr + S.re * S.dden dfr dfi + S.dden dfr dfi * S.re + S.dexp dar dai dfr dfi * S.dt
def dim : EReal := S.ar1 * ng (S.u dfi) + S.ai * S.w dfr + S.im * S.dden dfr dfi + S.dden dfr dfi * S.im + S.dang dar dai dfr dfi * S.dt
def dls : EReal := (S.im * S.dang dar dai dfr dfi + S.re * S.dexp dar dai dfr dfi) * S.dt

end State

end Cert.Ssm

end
-- ==== Proof.SsmParBwd.lean ====
/- The gradient of the state-space model's discretisation: one block holds every state. -/
module

public import proofs.«01_k».proof.Defs
public import proofs.«01_k».proof.Proof.SsmSpec
public import proofs.«01_k».proof.Proof.Gen.SsmParBwdIdeal.Frame
public import proofs.«01_k».proof.Proof.Gen.SsmParBwdIdeal.Value
public import proofs.«01_k».proof.Proof.Gen.RefSsmParBwdIdeal.Run
public import proofs.«01_k».proof.Proof.Gen.RefSsmParBwdIdeal.Read
public import Idealize.ShloMosaic.Lib.Pipeline.ValueKit
public import Idealize.ShloMosaic.Lib.Pointwise
public import Idealize.ShloMosaic.Adequacy

@[expose] public section

noncomputable section

namespace Cert.Ssm.ParBwd

open Idealize.ShloMosaic Idealize.ShloMosaic.TcCoe Idealize.SL.Sem

set_option maxRecDepth 16384

/-- Rows of states, the rows of the input matrix's channels, and the groups' rows. -/
abbrev Line := FVec Ideal ⟨2, ![1, 4096]⟩ .f32
abbrev Mat := FVec Ideal ⟨2, ![16, 4096]⟩ .f32
abbrev Seg := FVec Ideal ⟨2, ![4096, 128]⟩ .f32

/-- State `k`. -/
def st (lr li ls : Line) (k : Fin 4096) : State := ⟨lr (ix2 0 k), li (ix2 0 k), ls (ix2 0 k)⟩

/-- The gradients of the input matrix's factor. -/
def dfr (br bi dbr dbi : Mat) (k : Fin 4096) : EReal := ∑ h : Fin 16, (dbr (ix2 h k) * br (ix2 h k) + dbi (ix2 h k) * bi (ix2 h k))
def dfi (br bi dbr dbi : Mat) (k : Fin 4096) : EReal := ∑ h : Fin 16, (dbi (ix2 h k) * br (ix2 h k) - dbr (ix2 h k) * bi (ix2 h k))

/-- The five results. -/
def reArr (lr li ls : Line) (br bi : Mat) (dar dai : Line) (dbr dbi : Mat) : Line := fun y =>
  (st lr li ls (y 1)).dre (dar (ix2 0 (y 1))) (dai (ix2 0 (y 1))) (dfr br bi dbr dbi (y 1)) (dfi br bi dbr dbi (y 1))
def imArr (lr li ls : Line) (br bi : Mat) (dar dai : Line) (dbr dbi : Mat) : Line := fun y =>
  (st lr li ls (y 1)).dim (dar (ix2 0 (y 1))) (dai (ix2 0 (y 1))) (dfr br bi dbr dbi (y 1)) (dfi br bi dbr dbi (y 1))
def lsArr (lr li ls : Line) (br bi : Mat) (dar dai : Line) (dbr dbi : Mat) (sg : Seg) : FVec Ideal ⟨2, ![8, 128]⟩ .f32 := fun y =>
  ∑ k : Fin 4096, (st lr li ls k).dls (dar (ix2 0 k)) (dai (ix2 0 k)) (dfr br bi dbr dbi k) (dfi br bi dbr dbi k) * sg (ix2 k (y 1))
def brArr (lr li ls : Line) (dbr dbi : Mat) : Mat := fun y => dbr y * (st lr li ls (y 1)).fr + dbi y * (st lr li ls (y 1)).fi
def biArr (lr li ls : Line) (dbr dbi : Mat) : Mat := fun y => dbi y * (st lr li ls (y 1)).fr - dbr y * (st lr li ls (y 1)).fi

theorem z2 : ∀ a, (![0, 0] : Fin 2 → ℕ) a = 0 := by decide

section Kernel

open Cert.SsmParBwdIdeal Cert.SsmParBwdIdeal.Gen

section Body

variable (lr li ls : Vec Ideal S1x4096 .f32) (br bi : Vec Ideal S16x4096 .f32) (dar dai : Vec Ideal S1x4096 .f32)
  (dbr dbi : Vec Ideal S16x4096 .f32) (sg : Vec Ideal S4096x128 .f32) (k : Fin 4096)

theorem p18 : k0_pay18 lr li ls (ix2 0 k) = (st lr li ls k).nr := rfl
theorem p22 : k0_pay22 lr li ls (ix2 0 k) = (st lr li ls k).ni := rfl
theorem p19 : k0_pay19 lr li ls (ix2 0 k) = (st lr li ls k).fr := rfl
theorem p23 : k0_pay23 lr li ls (ix2 0 k) = (st lr li ls k).fi := rfl
theorem p20 : k0_pay20 lr li (ix2 0 k) = (st lr li ls k).inv := rfl
theorem p24 : k0_pay24 lr li (ix2 0 k) = (st lr li ls k).inv := rfl

/-- The two sums over the channels. -/
theorem p29 : k0_pay29 br bi dbr dbi (ix2 0 k) = dfr br bi dbr dbi k := by
  pointwise [k0_pay29]
  rfl

theorem p30 : k0_pay30 br bi dbr dbi (ix2 0 k) = dfi br bi dbr dbi k := by
  pointwise [k0_pay30]
  rfl

/-- What the body keeps apart: the gradients of the discrete factor and of the denominator. -/
def P : FVec Ideal S1x4096 .f32 := k0_pay1 lr (k0_pay33 li (k0_pay16 lr li) br bi dbr dbi dar) (k0_pay35 (k0_pay16 lr li) br bi dbr dbi)
def Q : FVec Ideal S1x4096 .f32 := k0_pay37 lr li (k0_pay16 lr li) br bi dbr dbi dai
def D : FVec Ideal S1x4096 .f32 := k0_pay34 (k0_pay18 lr li ls) (k0_pay20 lr li) (k0_pay22 lr li ls) (k0_pay24 lr li) br bi dbr dbi

theorem pP : P lr li br bi dar dbr dbi (ix2 0 k) = (st lr li ls k).p (dar (ix2 0 k)) (k0_pay29 br bi dbr dbi (ix2 0 k)) (k0_pay30 br bi dbr dbi (ix2 0 k)) := rfl
theorem pQ : Q lr li br bi dai dbr dbi (ix2 0 k) = (st lr li ls k).q (dai (ix2 0 k)) (k0_pay29 br bi dbr dbi (ix2 0 k)) (k0_pay30 br bi dbr dbi (ix2 0 k)) := rfl
theorem pD : D lr li ls br bi dbr dbi (ix2 0 k) = (st lr li ls k).dden (k0_pay29 br bi dbr dbi (ix2 0 k)) (k0_pay30 br bi dbr dbi (ix2 0 k)) := rfl

/-- What the body leaves in its five blocks. -/
theorem leaves10 : out0_10 lr li ls br bi dar dai dbr dbi sg
    = k0_pay5 lr (k0_pay7 ls) (k0_pay8 lr ls) (k0_pay10 li ls) (k0_pay13 li ls) (k0_pay33 li (k0_pay16 lr li) br bi dbr dbi dar)
        (D lr li ls br bi dbr dbi) (k0_pay35 (k0_pay16 lr li) br bi dbr dbi) (Q lr li br bi dai dbr dbi)
        (k0_pay38 (k0_pay15 lr li ls) (k0_pay16 lr li) (k0_pay17 lr li ls) br bi dbr dbi) := by
  frame_out
  simp only [k0_pay39, k0_pay40, k0_pay41, k0_pay42, k0_pay43, k0_pay44, k0_pay45, k0_pay46, k0_pay47, k0_pay48, k0_pay49, k0_pay50,
    View.ld_unit_lit (S := S1x4096) _ _ z2, View.ld_unit_lit (S := S16x4096) _ _ z2, D, Q]

theorem leaves11 : out0_11 lr li ls br bi dar dai dbr dbi sg
    = k0_pay3 lr li (k0_pay7 ls) (k0_pay8 lr ls) (k0_pay11 li ls) (k0_pay14 li ls) (k0_pay33 li (k0_pay16 lr li) br bi dbr dbi dar)
        (D lr li ls br bi dbr dbi) (k0_pay35 (k0_pay16 lr li) br bi dbr dbi)
        (k0_pay36 (k0_pay15 lr li ls) (k0_pay16 lr li) (k0_pay21 lr li ls) br bi dbr dbi) (Q lr li br bi dai dbr dbi) := by
  frame_out
  simp only [k0_pay39, k0_pay40, k0_pay41, k0_pay42, k0_pay43, k0_pay44, k0_pay45, k0_pay46, k0_pay47, k0_pay48, k0_pay49, k0_pay50,
    View.ld_unit_lit (S := S1x4096) _ _ z2, View.ld_unit_lit (S := S16x4096) _ _ z2, D, Q]

theorem leaves12 : out0_12 lr li ls br bi dar dai dbr dbi sg
    = k0_pay6 lr li (k0_pay7 ls) (k0_pay8 lr ls) (k0_pay10 li ls) (k0_pay11 li ls) (k0_pay13 li ls) (k0_pay14 li ls)
        (k0_pay33 li (k0_pay16 lr li) br bi dbr dbi dar) (k0_pay35 (k0_pay16 lr li) br bi dbr dbi) (Q lr li br bi dai dbr dbi) sg := by
  frame_out
  simp only [k0_pay39, k0_pay40, k0_pay41, k0_pay42, k0_pay43, k0_pay44, k0_pay45, k0_pay46, k0_pay47, k0_pay48, k0_pay49, k0_pay50,
    View.ld_unit_lit (S := S1x4096) _ _ z2, View.ld_unit_lit (S := S16x4096) _ _ z2, D, Q]

theorem leaves13 : out0_13 lr li ls br bi dar dai dbr dbi sg = k0_pay27 (k0_pay25 lr li ls dbr) (k0_pay26 lr li ls dbi) := by
  frame_out

theorem leaves14 : out0_14 lr li ls br bi dar dai dbr dbi sg = k0_pay28 (k0_pay19 lr li ls) (k0_pay23 lr li ls) dbr dbi := by
  frame_out

theorem out10 : out0_10 lr li ls br bi dar dai dbr dbi sg = reArr lr li ls br bi dar dai dbr dbi := by
  funext y
  obtain ⟨u, k, rfl⟩ : ∃ (u : Fin 1) (k : Fin 4096), y = ix2 u k := ⟨y 0, y 1, eq_ix2 y⟩
  obtain rfl : u = 0 := Subsingleton.elim _ _
  rw [leaves10]
  change _ = (st lr li ls k).dre (dar (ix2 0 k)) (dai (ix2 0 k)) (dfr br bi dbr dbi k) (dfi br bi dbr dbi k)
  rw [← p29, ← p30]
  rfl

theorem out11 : out0_11 lr li ls br bi dar dai dbr dbi sg = imArr lr li ls br bi dar dai dbr dbi := by
  funext y
  obtain ⟨u, k, rfl⟩ : ∃ (u : Fin 1) (k : Fin 4096), y = ix2 u k := ⟨y 0, y 1, eq_ix2 y⟩
  obtain rfl : u = 0 := Subsingleton.elim _ _
  rw [leaves11]
  change _ = (st lr li ls k).dim (dar (ix2 0 k)) (dai (ix2 0 k)) (dfr br bi dbr dbi k) (dfi br bi dbr dbi k)
  rw [← p29, ← p30]
  rfl

/-- The row that the groups' sum reads. -/
def L : FVec Ideal S1x4096 .f32 := mulf (addf (mulf li (k0_pay2 lr (k0_pay8 lr ls) (k0_pay11 li ls) (k0_pay14 li ls)
    (k0_pay33 li (k0_pay16 lr li) br bi dbr dbi dar) (k0_pay35 (k0_pay16 lr li) br bi dbr dbi) (Q lr li br bi dai dbr dbi)))
  (mulf lr (k0_pay4 lr (k0_pay8 lr ls) (k0_pay10 li ls) (k0_pay13 li ls)
    (k0_pay33 li (k0_pay16 lr li) br bi dbr dbi dar) (k0_pay35 (k0_pay16 lr li) br bi dbr dbi) (Q lr li br bi dai dbr dbi)))) (k0_pay7 ls)

theorem pL : L lr li ls br bi dar dai dbr dbi (ix2 0 k)
    = (st lr li ls k).dls (dar (ix2 0 k)) (dai (ix2 0 k)) (dfr br bi dbr dbi k) (dfi br bi dbr dbi k) := by
  rw [← p29, ← p30]
  rfl

theorem out12 : out0_12 lr li ls br bi dar dai dbr dbi sg = lsArr lr li ls br bi dar dai dbr dbi sg := by
  funext y
  obtain ⟨u, g, rfl⟩ : ∃ (u : Fin 8) (g : Fin 128), y = ix2 u g := ⟨y 0, y 1, eq_ix2 y⟩
  rw [leaves12]
  change _ = ∑ k : Fin 4096, (st lr li ls k).dls (dar (ix2 0 k)) (dai (ix2 0 k)) (dfr br bi dbr dbi k) (dfi br bi dbr dbi k) * sg (ix2 k g)
  simp only [← pL]
  have e : ∀ (a : FVec Ideal S1x4096 .f32) (b : FVec Ideal S4096x128 .f32), matmul dot_S8x4096_S4096x128_S8x128_1_0_0_1_n_n (some .fp32)
      (broadcastTo S8x4096 (shapeCast S1x4096 a shapeCasts_S1x4096_S1x4096) broadcasts_S1x4096_S8x4096) b
      (constant S8x128 .f32 0x00000000#32) (ix2 u g) = ∑ k : Fin 4096, a (ix2 0 k) * b (ix2 k g) := by
    intro a b
    pointwise []
  exact e (L lr li ls br bi dar dai dbr dbi) sg

theorem out13 : out0_13 lr li ls br bi dar dai dbr dbi sg = brArr lr li ls dbr dbi := by
  funext y
  obtain ⟨h, k, rfl⟩ : ∃ (h : Fin 16) (k : Fin 4096), y = ix2 h k := ⟨y 0, y 1, eq_ix2 y⟩
  rw [leaves13]
  pointwise [k0_pay27, k0_pay26, k0_pay25]
  rw [p19, p23]
  rfl

theorem out14 : out0_14 lr li ls br bi dar dai dbr dbi sg = biArr lr li ls dbr dbi := by
  funext y
  obtain ⟨h, k, rfl⟩ : ∃ (h : Fin 16) (k : Fin 4096), y = ix2 h k := ⟨y 0, y 1, eq_ix2 y⟩
  rw [leaves14]
  pointwise [k0_pay28]
  rw [p19, p23]
  rfl

end Body

variable (m : (ℓ : Loc nD τ sig) → Buf (Elt Ideal) ℓ) (c : Dev nD)

theorem final10 : (dats m 0 c).arrAt 10 cfg0.N
    = reArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  rw [after0_10, out10, Value.iblk0_eq, Value.iblk1_eq, Value.iblk2_eq, Value.iblk3_eq, Value.iblk4_eq, Value.iblk5_eq, Value.iblk6_eq, Value.iblk7_eq, Value.iblk8_eq, Value.emb10]
  rfl

theorem final11 : (dats m 0 c).arrAt 11 cfg0.N
    = imArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  rw [after0_11, out11, Value.iblk0_eq, Value.iblk1_eq, Value.iblk2_eq, Value.iblk3_eq, Value.iblk4_eq, Value.iblk5_eq, Value.iblk6_eq, Value.iblk7_eq, Value.iblk8_eq, Value.emb11]
  rfl

theorem final12 : (dats m 0 c).arrAt 12 cfg0.N
    = lsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  rw [after0_12, out12, Value.iblk0_eq, Value.iblk1_eq, Value.iblk2_eq, Value.iblk3_eq, Value.iblk4_eq, Value.iblk5_eq, Value.iblk6_eq, Value.iblk7_eq, Value.iblk8_eq, Value.iblk9_eq, Value.emb12]
  rfl

theorem final13 : (dats m 0 c).arrAt 13 cfg0.N
    = brArr (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 13 _ (by decide +kernel) fun t hf y => ?_
  rw [after0_13, out13, Value.iblk0_eq, Value.iblk1_eq, Value.iblk2_eq, Value.iblk7_eq, Value.iblk8_eq, Value.emb13]
  rfl

theorem final14 : (dats m 0 c).arrAt 14 cfg0.N
    = biArr (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 14 _ (by decide +kernel) fun t hf y => ?_
  rw [after0_14, out14, Value.iblk0_eq, Value.iblk1_eq, Value.iblk2_eq, Value.iblk7_eq, Value.iblk8_eq, Value.emb14]
  rfl

end Kernel

section Reference

open Cert.RefSsmParBwdIdeal Cert.RefSsmParBwdIdeal.Read

variable (lr li ls : Line) (br bi : Mat) (dar dai : Line) (dbr dbi : Mat) (sg : Seg) (k : Fin 4096)

theorem r17 : val_main_v17 (F := Ideal) lr li ls (ix2 0 k) = (st lr li ls k).nr := rfl
theorem r26 : val_main_v26 (F := Ideal) lr li ls (ix2 0 k) = (st lr li ls k).ni := rfl
theorem r18 : val_main_v18 (F := Ideal) lr li ls (ix2 0 k) = (st lr li ls k).fr := rfl
theorem r27 : val_main_v27 (F := Ideal) lr li ls (ix2 0 k) = (st lr li ls k).fi := rfl

/-- The gradients of the input matrix's factor. -/
theorem r68 : val_main_v68 (F := Ideal) br bi dbr dbi (ix2 0 k) = dfr br bi dbr dbi k := by
  pointwise [val_main_v68, val_main_v67, val_main_v66, val_main_v65, val_main_v53, val_main_v52, val_main_v51, val_main_v50, val_main_v41,
    val_main_cst_4, val_main_cst_6]
  rw [← Finset.sum_add_distrib]
  exact Finset.sum_congr rfl fun h _ => add_comm _ _

theorem r61 : val_main_v61 (F := Ideal) br bi dbr dbi (ix2 0 k) = dfi br bi dbr dbi k := by
  pointwise [val_main_v61, val_main_v60, val_main_v59, val_main_v58, val_main_v54, val_main_v47, val_main_v46, val_main_v45, val_main_v42,
    val_main_cst_3, val_main_cst_5]
  rw [← Finset.sum_add_distrib]
  refine Finset.sum_congr rfl fun h _ => ?_
  rw [EReal.neg_mul, ← sub_eq_add_neg]

/-- The gradients of the discrete factor and of the denominator. -/
theorem r92 : val_main_v92 (F := Ideal) lr li br bi dar dbr dbi (ix2 0 k)
    = (st lr li ls k).p (dar (ix2 0 k)) (dfr br bi dbr dbi k) (dfi br bi dbr dbi k) := by
  rw [State.p, ng_eq, ← r68, ← r61]
  rfl

theorem r88 : val_main_v88 (F := Ideal) lr li br bi dai dbr dbi (ix2 0 k)
    = (st lr li ls k).q (dai (ix2 0 k)) (dfr br bi dbr dbi k) (dfi br bi dbr dbi k) := by
  rw [State.q, ← r68, ← r61]
  rfl

theorem r83 : val_main_v83 (F := Ideal) lr li ls br bi dbr dbi (ix2 0 k)
    = (st lr li ls k).dden (dfr br bi dbr dbi k) (dfi br bi dbr dbi k) := by
  rw [State.dden, ng_eq, ng_eq, ← r68, ← r61]
  rfl

/-- The gradients of the rows. -/
theorem r117 : val_main_v117 (F := Ideal) lr li ls br bi dar dai dbr dbi (ix2 0 k)
    = (st lr li ls k).dre (dar (ix2 0 k)) (dai (ix2 0 k)) (dfr br bi dbr dbi k) (dfi br bi dbr dbi k) := by
  rw [State.dre, State.dexp, ← r92, ← r88, ← r83, ← r68, ← r61]
  simp only [ng_eq]
  rfl

theorem r112 : val_main_v112 (F := Ideal) lr li ls br bi dar dai dbr dbi (ix2 0 k)
    = (st lr li ls k).dim (dar (ix2 0 k)) (dai (ix2 0 k)) (dfr br bi dbr dbi k) (dfi br bi dbr dbi k) := by
  rw [State.dim, State.dang, ← r92, ← r88, ← r83, ← r68, ← r61]
  simp only [ng_eq]
  rfl

theorem r118 : val_main_v118 (F := Ideal) lr li ls br bi dar dai dbr dbi (ix2 0 k)
    = (st lr li ls k).dls (dar (ix2 0 k)) (dai (ix2 0 k)) (dfr br bi dbr dbi k) (dfi br bi dbr dbi k) := by
  rw [State.dls, State.dexp, State.dang, ← r92, ← r88]
  simp only [ng_eq]
  rfl

theorem rRe : val_main_v117 (F := Ideal) lr li ls br bi dar dai dbr dbi = reArr lr li ls br bi dar dai dbr dbi := by
  funext y
  obtain ⟨u, k, rfl⟩ : ∃ (u : Fin 1) (k : Fin 4096), y = ix2 u k := ⟨y 0, y 1, eq_ix2 y⟩
  obtain rfl : u = 0 := Subsingleton.elim _ _
  exact r117 ..

theorem rIm : val_main_v112 (F := Ideal) lr li ls br bi dar dai dbr dbi = imArr lr li ls br bi dar dai dbr dbi := by
  funext y
  obtain ⟨u, k, rfl⟩ : ∃ (u : Fin 1) (k : Fin 4096), y = ix2 u k := ⟨y 0, y 1, eq_ix2 y⟩
  obtain rfl : u = 0 := Subsingleton.elim _ _
  exact r112 ..

theorem rLs : val_main_v120 (F := Ideal) lr li ls br bi dar dai dbr dbi sg = lsArr lr li ls br bi dar dai dbr dbi sg := by
  funext y
  obtain ⟨u, g, rfl⟩ : ∃ (u : Fin 8) (g : Fin 128), y = ix2 u g := ⟨y 0, y 1, eq_ix2 y⟩
  pointwise [val_main_v120, val_main_v119]
  simp only [r118]
  rfl

theorem rBr : val_main_v64 (F := Ideal) lr li ls dbr dbi = brArr lr li ls dbr dbi := by
  funext y
  obtain ⟨h, k, rfl⟩ : ∃ (h : Fin 16) (k : Fin 4096), y = ix2 h k := ⟨y 0, y 1, eq_ix2 y⟩
  pointwise [val_main_v64, val_main_v63, val_main_v62, val_main_v53, val_main_v44, val_main_v43, val_main_v42]
  rw [r18, r27]
  change (st lr li ls k).fi * dbi (ix2 h k) + (st lr li ls k).fr * dbr (ix2 h k) = dbr (ix2 h k) * (st lr li ls k).fr + dbi (ix2 h k) * (st lr li ls k).fi
  rw [add_comm, mul_comm (st lr li ls k).fi, mul_comm (st lr li ls k).fr]

theorem rBi : val_main_v57 (F := Ideal) lr li ls dbr dbi = biArr lr li ls dbr dbi := by
  funext y
  obtain ⟨h, k, rfl⟩ : ∃ (h : Fin 16) (k : Fin 4096), y = ix2 h k := ⟨y 0, y 1, eq_ix2 y⟩
  pointwise [val_main_v57, val_main_v56, val_main_v55, val_main_v54, val_main_v49, val_main_v48, val_main_v41]
  rw [r18, r27]
  change (st lr li ls k).fr * dbi (ix2 h k) + (st lr li ls k).fi * -dbr (ix2 h k) = dbi (ix2 h k) * (st lr li ls k).fr - dbr (ix2 h k) * (st lr li ls k).fi
  rw [mul_neg, sub_eq_add_neg, mul_comm (st lr li ls k).fi, mul_comm (st lr li ls k).fr]

end Reference

/-- The reference runs, keeps its arguments and leaves every counter at zero. -/
theorem frame_ri : Cert.quiescent_RefSsmParBwdIdeal := fun m ρ _ =>
  (θ_run Cert.RefSsmParBwdIdeal.defs _ _).mono (fun r h => ⟨fun c => (h c).2.2.2.2.2, sem_eq_zero_of_no_sems (by decide) r.2⟩)
    (Cert.RefSsmParBwdIdeal.Value.run (F := Ideal) m ρ)

theorem algebraic : Cert.algebraic_SsmParBwdIdeal_RefSsmParBwdIdeal := by
  intro m g m' g' _ hagree
  refine ⟨fun c => reArr (m ((c.tc : Thread Cert.SsmParBwdIdeal.nD Cert.SsmParBwdIdeal.τ).loc Cert.SsmParBwdIdeal.main_arg0)) (m ((c.tc : Thread Cert.SsmParBwdIdeal.nD Cert.SsmParBwdIdeal.τ).loc Cert.SsmParBwdIdeal.main_arg1)) (m ((c.tc : Thread Cert.SsmParBwdIdeal.nD Cert.SsmParBwdIdeal.τ).loc Cert.SsmParBwdIdeal.main_arg2)) (m ((c.tc : Thread Cert.SsmParBwdIdeal.nD Cert.SsmParBwdIdeal.τ).loc Cert.SsmParBwdIdeal.main_arg3)) (m ((c.tc : Thread Cert.SsmParBwdIdeal.nD Cert.SsmParBwdIdeal.τ).loc Cert.SsmParBwdIdeal.main_arg4)) (m ((c.tc : Thread Cert.SsmParBwdIdeal.nD Cert.SsmParBwdIdeal.τ).loc Cert.SsmParBwdIdeal.main_arg5)) (m ((c.tc : Thread Cert.SsmParBwdIdeal.nD Cert.SsmParBwdIdeal.τ).loc Cert.SsmParBwdIdeal.main_arg6)) (m ((c.tc : Thread Cert.SsmParBwdIdeal.nD Cert.SsmParBwdIdeal.τ).loc Cert.SsmParBwdIdeal.main_arg7)) (m ((c.tc : Thread Cert.SsmParBwdIdeal.nD Cert.SsmParBwdIdeal.τ).loc Cert.SsmParBwdIdeal.main_arg8)),
    fun c => imArr (m ((c.tc : Thread Cert.SsmParBwdIdeal.nD Cert.SsmParBwdIdeal.τ).loc Cert.SsmParBwdIdeal.main_arg0)) (m ((c.tc : Thread Cert.SsmParBwdIdeal.nD Cert.SsmParBwdIdeal.τ).loc Cert.SsmParBwdIdeal.main_arg1)) (m ((c.tc : Thread Cert.SsmParBwdIdeal.nD Cert.SsmParBwdIdeal.τ).loc Cert.SsmParBwdIdeal.main_arg2)) (m ((c.tc : Thread Cert.SsmParBwdIdeal.nD Cert.SsmParBwdIdeal.τ).loc Cert.SsmParBwdIdeal.main_arg3)) (m ((c.tc : Thread Cert.SsmParBwdIdeal.nD Cert.SsmParBwdIdeal.τ).loc Cert.SsmParBwdIdeal.main_arg4)) (m ((c.tc : Thread Cert.SsmParBwdIdeal.nD Cert.SsmParBwdIdeal.τ).loc Cert.SsmParBwdIdeal.main_arg5)) (m ((c.tc : Thread Cert.SsmParBwdIdeal.nD Cert.SsmParBwdIdeal.τ).loc Cert.SsmParBwdIdeal.main_arg6)) (m ((c.tc : Thread Cert.SsmParBwdIdeal.nD Cert.SsmParBwdIdeal.τ).loc Cert.SsmParBwdIdeal.main_arg7)) (m ((c.tc : Thread Cert.SsmParBwdIdeal.nD Cert.SsmParBwdIdeal.τ).loc Cert.SsmParBwdIdeal.main_arg8)),
    fun c => lsArr (m ((c.tc : Thread Cert.SsmParBwdIdeal.nD Cert.SsmParBwdIdeal.τ).loc Cert.SsmParBwdIdeal.main_arg0)) (m ((c.tc : Thread Cert.SsmParBwdIdeal.nD Cert.SsmParBwdIdeal.τ).loc Cert.SsmParBwdIdeal.main_arg1)) (m ((c.tc : Thread Cert.SsmParBwdIdeal.nD Cert.SsmParBwdIdeal.τ).loc Cert.SsmParBwdIdeal.main_arg2)) (m ((c.tc : Thread Cert.SsmParBwdIdeal.nD Cert.SsmParBwdIdeal.τ).loc Cert.SsmParBwdIdeal.main_arg3)) (m ((c.tc : Thread Cert.SsmParBwdIdeal.nD Cert.SsmParBwdIdeal.τ).loc Cert.SsmParBwdIdeal.main_arg4)) (m ((c.tc : Thread Cert.SsmParBwdIdeal.nD Cert.SsmParBwdIdeal.τ).loc Cert.SsmParBwdIdeal.main_arg5)) (m ((c.tc : Thread Cert.SsmParBwdIdeal.nD Cert.SsmParBwdIdeal.τ).loc Cert.SsmParBwdIdeal.main_arg6)) (m ((c.tc : Thread Cert.SsmParBwdIdeal.nD Cert.SsmParBwdIdeal.τ).loc Cert.SsmParBwdIdeal.main_arg7)) (m ((c.tc : Thread Cert.SsmParBwdIdeal.nD Cert.SsmParBwdIdeal.τ).loc Cert.SsmParBwdIdeal.main_arg8)) (m ((c.tc : Thread Cert.SsmParBwdIdeal.nD Cert.SsmParBwdIdeal.τ).loc Cert.SsmParBwdIdeal.main_arg9)),
    fun c => brArr (m ((c.tc : Thread Cert.SsmParBwdIdeal.nD Cert.SsmParBwdIdeal.τ).loc Cert.SsmParBwdIdeal.main_arg0)) (m ((c.tc : Thread Cert.SsmParBwdIdeal.nD Cert.SsmParBwdIdeal.τ).loc Cert.SsmParBwdIdeal.main_arg1)) (m ((c.tc : Thread Cert.SsmParBwdIdeal.nD Cert.SsmParBwdIdeal.τ).loc Cert.SsmParBwdIdeal.main_arg2)) (m ((c.tc : Thread Cert.SsmParBwdIdeal.nD Cert.SsmParBwdIdeal.τ).loc Cert.SsmParBwdIdeal.main_arg7)) (m ((c.tc : Thread Cert.SsmParBwdIdeal.nD Cert.SsmParBwdIdeal.τ).loc Cert.SsmParBwdIdeal.main_arg8)),
    fun c => biArr (m ((c.tc : Thread Cert.SsmParBwdIdeal.nD Cert.SsmParBwdIdeal.τ).loc Cert.SsmParBwdIdeal.main_arg0)) (m ((c.tc : Thread Cert.SsmParBwdIdeal.nD Cert.SsmParBwdIdeal.τ).loc Cert.SsmParBwdIdeal.main_arg1)) (m ((c.tc : Thread Cert.SsmParBwdIdeal.nD Cert.SsmParBwdIdeal.τ).loc Cert.SsmParBwdIdeal.main_arg2)) (m ((c.tc : Thread Cert.SsmParBwdIdeal.nD Cert.SsmParBwdIdeal.τ).loc Cert.SsmParBwdIdeal.main_arg7)) (m ((c.tc : Thread Cert.SsmParBwdIdeal.nD Cert.SsmParBwdIdeal.τ).loc Cert.SsmParBwdIdeal.main_arg8)), ?_, ?_⟩
  · exact (θ_run Cert.SsmParBwdIdeal.defs _ _).mono (fun _ h c => ⟨(h c).1.trans (final10 m c), (h c).2.1.trans (final11 m c), (h c).2.2.1.trans (final12 m c), (h c).2.2.2.1.trans (final13 m c), (h c).2.2.2.2.1.trans (final14 m c), (h c).2.2.2.2.2⟩)
      (Cert.SsmParBwdIdeal.Value.run_blocks (F := Ideal) m g)
  · refine (θ_run Cert.RefSsmParBwdIdeal.defs _ _).mono (fun _ h c => ?_) (Cert.RefSsmParBwdIdeal.Value.run (F := Ideal) m' g')
    obtain ⟨h0, h1, h2, h3, h4, h5, h6, h7, h8, h9⟩ := hagree c
    have e10 := rRe (m' ((c.tc : Thread Cert.RefSsmParBwdIdeal.nD Cert.RefSsmParBwdIdeal.τ).loc Cert.RefSsmParBwdIdeal.main_arg0)) (m' ((c.tc : Thread Cert.RefSsmParBwdIdeal.nD Cert.RefSsmParBwdIdeal.τ).loc Cert.RefSsmParBwdIdeal.main_arg1)) (m' ((c.tc : Thread Cert.RefSsmParBwdIdeal.nD Cert.RefSsmParBwdIdeal.τ).loc Cert.RefSsmParBwdIdeal.main_arg2)) (m' ((c.tc : Thread Cert.RefSsmParBwdIdeal.nD Cert.RefSsmParBwdIdeal.τ).loc Cert.RefSsmParBwdIdeal.main_arg3)) (m' ((c.tc : Thread Cert.RefSsmParBwdIdeal.nD Cert.RefSsmParBwdIdeal.τ).loc Cert.RefSsmParBwdIdeal.main_arg4)) (m' ((c.tc : Thread Cert.RefSsmParBwdIdeal.nD Cert.RefSsmParBwdIdeal.τ).loc Cert.RefSsmParBwdIdeal.main_arg5)) (m' ((c.tc : Thread Cert.RefSsmParBwdIdeal.nD Cert.RefSsmParBwdIdeal.τ).loc Cert.RefSsmParBwdIdeal.main_arg6)) (m' ((c.tc : Thread Cert.RefSsmParBwdIdeal.nD Cert.RefSsmParBwdIdeal.τ).loc Cert.RefSsmParBwdIdeal.main_arg7)) (m' ((c.tc : Thread Cert.RefSsmParBwdIdeal.nD Cert.RefSsmParBwdIdeal.τ).loc Cert.RefSsmParBwdIdeal.main_arg8))
    have e11 := rIm (m' ((c.tc : Thread Cert.RefSsmParBwdIdeal.nD Cert.RefSsmParBwdIdeal.τ).loc Cert.RefSsmParBwdIdeal.main_arg0)) (m' ((c.tc : Thread Cert.RefSsmParBwdIdeal.nD Cert.RefSsmParBwdIdeal.τ).loc Cert.RefSsmParBwdIdeal.main_arg1)) (m' ((c.tc : Thread Cert.RefSsmParBwdIdeal.nD Cert.RefSsmParBwdIdeal.τ).loc Cert.RefSsmParBwdIdeal.main_arg2)) (m' ((c.tc : Thread Cert.RefSsmParBwdIdeal.nD Cert.RefSsmParBwdIdeal.τ).loc Cert.RefSsmParBwdIdeal.main_arg3)) (m' ((c.tc : Thread Cert.RefSsmParBwdIdeal.nD Cert.RefSsmParBwdIdeal.τ).loc Cert.RefSsmParBwdIdeal.main_arg4)) (m' ((c.tc : Thread Cert.RefSsmParBwdIdeal.nD Cert.RefSsmParBwdIdeal.τ).loc Cert.RefSsmParBwdIdeal.main_arg5)) (m' ((c.tc : Thread Cert.RefSsmParBwdIdeal.nD Cert.RefSsmParBwdIdeal.τ).loc Cert.RefSsmParBwdIdeal.main_arg6)) (m' ((c.tc : Thread Cert.RefSsmParBwdIdeal.nD Cert.RefSsmParBwdIdeal.τ).loc Cert.RefSsmParBwdIdeal.main_arg7)) (m' ((c.tc : Thread Cert.RefSsmParBwdIdeal.nD Cert.RefSsmParBwdIdeal.τ).loc Cert.RefSsmParBwdIdeal.main_arg8))
    have e12 := rLs (m' ((c.tc : Thread Cert.RefSsmParBwdIdeal.nD Cert.RefSsmParBwdIdeal.τ).loc Cert.RefSsmParBwdIdeal.main_arg0)) (m' ((c.tc : Thread Cert.RefSsmParBwdIdeal.nD Cert.RefSsmParBwdIdeal.τ).loc Cert.RefSsmParBwdIdeal.main_arg1)) (m' ((c.tc : Thread Cert.RefSsmParBwdIdeal.nD Cert.RefSsmParBwdIdeal.τ).loc Cert.RefSsmParBwdIdeal.main_arg2)) (m' ((c.tc : Thread Cert.RefSsmParBwdIdeal.nD Cert.RefSsmParBwdIdeal.τ).loc Cert.RefSsmParBwdIdeal.main_arg3)) (m' ((c.tc : Thread Cert.RefSsmParBwdIdeal.nD Cert.RefSsmParBwdIdeal.τ).loc Cert.RefSsmParBwdIdeal.main_arg4)) (m' ((c.tc : Thread Cert.RefSsmParBwdIdeal.nD Cert.RefSsmParBwdIdeal.τ).loc Cert.RefSsmParBwdIdeal.main_arg5)) (m' ((c.tc : Thread Cert.RefSsmParBwdIdeal.nD Cert.RefSsmParBwdIdeal.τ).loc Cert.RefSsmParBwdIdeal.main_arg6)) (m' ((c.tc : Thread Cert.RefSsmParBwdIdeal.nD Cert.RefSsmParBwdIdeal.τ).loc Cert.RefSsmParBwdIdeal.main_arg7)) (m' ((c.tc : Thread Cert.RefSsmParBwdIdeal.nD Cert.RefSsmParBwdIdeal.τ).loc Cert.RefSsmParBwdIdeal.main_arg8)) (m' ((c.tc : Thread Cert.RefSsmParBwdIdeal.nD Cert.RefSsmParBwdIdeal.τ).loc Cert.RefSsmParBwdIdeal.main_arg9))
    have e13 := rBr (m' ((c.tc : Thread Cert.RefSsmParBwdIdeal.nD Cert.RefSsmParBwdIdeal.τ).loc Cert.RefSsmParBwdIdeal.main_arg0)) (m' ((c.tc : Thread Cert.RefSsmParBwdIdeal.nD Cert.RefSsmParBwdIdeal.τ).loc Cert.RefSsmParBwdIdeal.main_arg1)) (m' ((c.tc : Thread Cert.RefSsmParBwdIdeal.nD Cert.RefSsmParBwdIdeal.τ).loc Cert.RefSsmParBwdIdeal.main_arg2)) (m' ((c.tc : Thread Cert.RefSsmParBwdIdeal.nD Cert.RefSsmParBwdIdeal.τ).loc Cert.RefSsmParBwdIdeal.main_arg7)) (m' ((c.tc : Thread Cert.RefSsmParBwdIdeal.nD Cert.RefSsmParBwdIdeal.τ).loc Cert.RefSsmParBwdIdeal.main_arg8))
    have e14 := rBi (m' ((c.tc : Thread Cert.RefSsmParBwdIdeal.nD Cert.RefSsmParBwdIdeal.τ).loc Cert.RefSsmParBwdIdeal.main_arg0)) (m' ((c.tc : Thread Cert.RefSsmParBwdIdeal.nD Cert.RefSsmParBwdIdeal.τ).loc Cert.RefSsmParBwdIdeal.main_arg1)) (m' ((c.tc : Thread Cert.RefSsmParBwdIdeal.nD Cert.RefSsmParBwdIdeal.τ).loc Cert.RefSsmParBwdIdeal.main_arg2)) (m' ((c.tc : Thread Cert.RefSsmParBwdIdeal.nD Cert.RefSsmParBwdIdeal.τ).loc Cert.RefSsmParBwdIdeal.main_arg7)) (m' ((c.tc : Thread Cert.RefSsmParBwdIdeal.nD Cert.RefSsmParBwdIdeal.τ).loc Cert.RefSsmParBwdIdeal.main_arg8))
    exact ⟨(h c).1.trans ((Cert.RefSsmParBwdIdeal.Read.val_main_v117_eq m' c).trans (e10.trans (by rw [h0, h1, h2, h3, h4, h5, h6, h7, h8]))),
      (h c).2.1.trans ((Cert.RefSsmParBwdIdeal.Read.val_main_v112_eq m' c).trans (e11.trans (by rw [h0, h1, h2, h3, h4, h5, h6, h7, h8]))),
      (h c).2.2.1.trans ((Cert.RefSsmParBwdIdeal.Read.val_main_v120_eq m' c).trans (e12.trans (by rw [h0, h1, h2, h3, h4, h5, h6, h7, h8, h9]))),
      (h c).2.2.2.1.trans ((Cert.RefSsmParBwdIdeal.Read.val_main_v64_eq _ _ _ _ _).trans (e13.trans (by rw [h0, h1, h2, h7, h8]))),
      (h c).2.2.2.2.1.trans ((Cert.RefSsmParBwdIdeal.Read.val_main_v57_eq _ _ _ _ _).trans (e14.trans (by rw [h0, h1, h2, h7, h8]))), (h c).2.2.2.2.2⟩

end Cert.Ssm.ParBwd
-- ==== Proof.SsmParFwd.lean ====
/- The state-space model's discretisation: one block holds every state, and the tables keep the powers of its factor. -/
module

public import proofs.«01_k».proof.Defs
public import proofs.«01_k».proof.Proof.SsmSpec
public import proofs.«01_k».proof.Proof.Gen.SsmParFwdIdeal.Frame
public import proofs.«01_k».proof.Proof.Gen.SsmParFwdIdeal.Value
public import proofs.«01_k».proof.Proof.Gen.RefSsmParFwdIdeal.Run
public import proofs.«01_k».proof.Proof.Gen.RefSsmParFwdIdeal.Read
public import Idealize.ShloMosaic.Lib.Pipeline.ValueKit
public import Idealize.ShloMosaic.Lib.Pointwise
public import Idealize.ShloMosaic.Adequacy

@[expose] public section

noncomputable section

namespace Cert.Ssm.ParFwd

open Idealize.ShloMosaic Idealize.ShloMosaic.TcCoe Idealize.SL.Sem

set_option maxRecDepth 16384

/-- Rows of states, the rows of the input matrix's channels, and the tables. -/
abbrev Line := FVec Ideal ⟨2, ![1, 4096]⟩ .f32
abbrev Mat := FVec Ideal ⟨2, ![16, 4096]⟩ .f32
abbrev Tab := FVec Ideal ⟨2, ![24, 4096]⟩ .f32

/-- State `k`. -/
def st (lr li ls : Line) (k : Fin 4096) : State := ⟨lr (ix2 0 k), li (ix2 0 k), ls (ix2 0 k)⟩

/-- The product of two complex numbers, each given by its real and its imaginary part. -/
def times (z w : EReal × EReal) : EReal × EReal := (z.1 * w.1 - z.2 * w.2, z.1 * w.2 + z.2 * w.1)

/-- The discrete factor squared `n` times over. -/
def sq (S : State) : ℕ → EReal × EReal
  | 0 => (S.ar, S.ai)
  | n + 1 => times (sq S n) (sq S n)

/-- The discrete factor's power `n + 1`. -/
def pw (S : State) : ℕ → EReal × EReal
  | 0 => (S.ar, S.ai)
  | n + 1 => times (pw S n) (S.ar, S.ai)

/-- The tables' row `i`: eight squarings, eight powers, and the powers from the highest down. -/
def row (S : State) (i : ℕ) : EReal × EReal := if i < 8 then sq S i else if i < 16 then pw S (i - 8) else pw S (23 - i)

/-- The four results. -/
def reArr (lr li ls : Line) (br bi : Mat) : Mat := fun y => (st lr li ls (y 1)).fr * br y - (st lr li ls (y 1)).fi * bi y
def imArr (lr li ls : Line) (br bi : Mat) : Mat := fun y => (st lr li ls (y 1)).fr * bi y + (st lr li ls (y 1)).fi * br y
def reTab (lr li ls : Line) : Tab := fun y => (row (st lr li ls (y 1)) (y 0).val).1
def imTab (lr li ls : Line) : Tab := fun y => (row (st lr li ls (y 1)) (y 0).val).2

/-- Twice a product is the sum of the product taken either way round. -/
theorem two_eq : Ideal.ofBits .f32 0x40000000#32 = 2 := by
  refine Eq.trans (b := ((2 : ℝ) : EReal)) ?_ rfl
  simp [Ideal.ofBits, Ideal.ieee, -EReal.coe_mul]
  norm_num

theorem two_mul' (x : EReal) : 2 * x = x + x := by
  have h2 : (2 : EReal) = ((2 : ℝ) : EReal) := rfl
  induction x with
  | bot => rw [h2, EReal.coe_mul_bot_of_pos (by norm_num)]; rfl
  | top => rw [h2, EReal.coe_mul_top_of_pos (by norm_num)]; rfl
  | coe a => rw [h2, ← EReal.coe_mul, ← EReal.coe_add, two_mul]

theorem twice (a b : EReal) : Ideal.ofBits .f32 0x40000000#32 * a * b = a * b + b * a := by
  rw [two_eq, mul_assoc, two_mul', mul_comm b a]

theorem z2 : ∀ a, (![0, 0] : Fin 2 → ℕ) a = 0 := by decide

section Kernel

open Cert.SsmParFwdIdeal Cert.SsmParFwdIdeal.Gen

section Body

variable (lr li ls : Vec Ideal S1x4096 .f32) (br bi : Vec Ideal S16x4096 .f32) (k : Fin 4096)

theorem pFr : k0_pay10 lr li ls (ix2 0 k) = (st lr li ls k).fr := rfl
theorem pFi : k0_pay11 lr li ls (ix2 0 k) = (st lr li ls k).fi := rfl

theorem line (x : S1x4096.Idx) : ∃ k : Fin 4096, x = ix2 0 k :=
  ⟨x 1, (eq_ix2 x).trans (congrArg (fun u : Fin 1 => (ix2 u (x 1) : S1x4096.Idx)) (Subsingleton.elim _ _))⟩

/-- The squarings and the powers that the body writes, one after the other. -/
theorem s0 : ((k0_pay7 lr li ls) (ix2 0 k), (k0_pay8 lr li ls) (ix2 0 k)) = sq (st lr li ls k) 0 := rfl
theorem s1 : ((k0_pay14 (k0_pay7 lr li ls) (k0_pay8 lr li ls)) (ix2 0 k), (k0_pay15 (k0_pay7 lr li ls) (k0_pay8 lr li ls)) (ix2 0 k)) = sq (st lr li ls k) 1 :=
  (show ((k0_pay14 (k0_pay7 lr li ls) (k0_pay8 lr li ls)) (ix2 0 k), (k0_pay15 (k0_pay7 lr li ls) (k0_pay8 lr li ls)) (ix2 0 k)) = times ((k0_pay7 lr li ls) (ix2 0 k), (k0_pay8 lr li ls) (ix2 0 k)) ((k0_pay7 lr li ls) (ix2 0 k), (k0_pay8 lr li ls) (ix2 0 k)) from Prod.ext rfl (twice _ _)).trans (by rw [s0]; rfl)
theorem s2 : ((k0_pay16 (k0_pay7 lr li ls) (k0_pay8 lr li ls)) (ix2 0 k), (k0_pay17 (k0_pay7 lr li ls) (k0_pay8 lr li ls)) (ix2 0 k)) = sq (st lr li ls k) 2 :=
  (show ((k0_pay16 (k0_pay7 lr li ls) (k0_pay8 lr li ls)) (ix2 0 k), (k0_pay17 (k0_pay7 lr li ls) (k0_pay8 lr li ls)) (ix2 0 k)) = times ((k0_pay14 (k0_pay7 lr li ls) (k0_pay8 lr li ls)) (ix2 0 k), (k0_pay15 (k0_pay7 lr li ls) (k0_pay8 lr li ls)) (ix2 0 k)) ((k0_pay14 (k0_pay7 lr li ls) (k0_pay8 lr li ls)) (ix2 0 k), (k0_pay15 (k0_pay7 lr li ls) (k0_pay8 lr li ls)) (ix2 0 k)) from Prod.ext rfl (twice _ _)).trans (by rw [s1]; rfl)
theorem s3 : ((k0_pay18 (k0_pay7 lr li ls) (k0_pay8 lr li ls)) (ix2 0 k), (k0_pay19 (k0_pay7 lr li ls) (k0_pay8 lr li ls)) (ix2 0 k)) = sq (st lr li ls k) 3 :=
  (show ((k0_pay18 (k0_pay7 lr li ls) (k0_pay8 lr li ls)) (ix2 0 k), (k0_pay19 (k0_pay7 lr li ls) (k0_pay8 lr li ls)) (ix2 0 k)) = times ((k0_pay16 (k0_pay7 lr li ls) (k0_pay8 lr li ls)) (ix2 0 k), (k0_pay17 (k0_pay7 lr li ls) (k0_pay8 lr li ls)) (ix2 0 k)) ((k0_pay16 (k0_pay7 lr li ls) (k0_pay8 lr li ls)) (ix2 0 k), (k0_pay17 (k0_pay7 lr li ls) (k0_pay8 lr li ls)) (ix2 0 k)) from Prod.ext rfl (twice _ _)).trans (by rw [s2]; rfl)
theorem s4 : ((k0_pay20 (k0_pay7 lr li ls) (k0_pay8 lr li ls)) (ix2 0 k), (k0_pay21 (k0_pay7 lr li ls) (k0_pay8 lr li ls)) (ix2 0 k)) = sq (st lr li ls k) 4 :=
  (show ((k0_pay20 (k0_pay7 lr li ls) (k0_pay8 lr li ls)) (ix2 0 k), (k0_pay21 (k0_pay7 lr li ls) (k0_pay8 lr li ls)) (ix2 0 k)) = times ((k0_pay18 (k0_pay7 lr li ls) (k0_pay8 lr li ls)) (ix2 0 k), (k0_pay19 (k0_pay7 lr li ls) (k0_pay8 lr li ls)) (ix2 0 k)) ((k0_pay18 (k0_pay7 lr li ls) (k0_pay8 lr li ls)) (ix2 0 k), (k0_pay19 (k0_pay7 lr li ls) (k0_pay8 lr li ls)) (ix2 0 k)) from Prod.ext rfl (twice _ _)).trans (by rw [s3]; rfl)
theorem s5 : ((k0_pay22 (k0_pay20 (k0_pay7 lr li ls) (k0_pay8 lr li ls)) (k0_pay21 (k0_pay7 lr li ls) (k0_pay8 lr li ls))) (ix2 0 k), (k0_pay23 (k0_pay20 (k0_pay7 lr li ls) (k0_pay8 lr li ls)) (k0_pay21 (k0_pay7 lr li ls) (k0_pay8 lr li ls))) (ix2 0 k)) = sq (st lr li ls k) 5 :=
  (show ((k0_pay22 (k0_pay20 (k0_pay7 lr li ls) (k0_pay8 lr li ls)) (k0_pay21 (k0_pay7 lr li ls) (k0_pay8 lr li ls))) (ix2 0 k), (k0_pay23 (k0_pay20 (k0_pay7 lr li ls) (k0_pay8 lr li ls)) (k0_pay21 (k0_pay7 lr li ls) (k0_pay8 lr li ls))) (ix2 0 k)) = times ((k0_pay20 (k0_pay7 lr li ls) (k0_pay8 lr li ls)) (ix2 0 k), (k0_pay21 (k0_pay7 lr li ls) (k0_pay8 lr li ls)) (ix2 0 k)) ((k0_pay20 (k0_pay7 lr li ls) (k0_pay8 lr li ls)) (ix2 0 k), (k0_pay21 (k0_pay7 lr li ls) (k0_pay8 lr li ls)) (ix2 0 k)) from Prod.ext rfl (twice _ _)).trans (by rw [s4]; rfl)
theorem s6 : ((k0_pay24 (k0_pay20 (k0_pay7 lr li ls) (k0_pay8 lr li ls)) (k0_pay21 (k0_pay7 lr li ls) (k0_pay8 lr li ls))) (ix2 0 k), (k0_pay25 (k0_pay20 (k0_pay7 lr li ls) (k0_pay8 lr li ls)) (k0_pay21 (k0_pay7 lr li ls) (k0_pay8 lr li ls))) (ix2 0 k)) = sq (st lr li ls k) 6 :=
  (show ((k0_pay24 (k0_pay20 (k0_pay7 lr li ls) (k0_pay8 lr li ls)) (k0_pay21 (k0_pay7 lr li ls) (k0_pay8 lr li ls))) (ix2 0 k), (k0_pay25 (k0_pay20 (k0_pay7 lr li ls) (k0_pay8 lr li ls)) (k0_pay21 (k0_pay7 lr li ls) (k0_pay8 lr li ls))) (ix2 0 k)) = times ((k0_pay22 (k0_pay20 (k0_pay7 lr li ls) (k0_pay8 lr li ls)) (k0_pay21 (k0_pay7 lr li ls) (k0_pay8 lr li ls))) (ix2 0 k), (k0_pay23 (k0_pay20 (k0_pay7 lr li ls) (k0_pay8 lr li ls)) (k0_pay21 (k0_pay7 lr li ls) (k0_pay8 lr li ls))) (ix2 0 k)) ((k0_pay22 (k0_pay20 (k0_pay7 lr li ls) (k0_pay8 lr li ls)) (k0_pay21 (k0_pay7 lr li ls) (k0_pay8 lr li ls))) (ix2 0 k), (k0_pay23 (k0_pay20 (k0_pay7 lr li ls) (k0_pay8 lr li ls)) (k0_pay21 (k0_pay7 lr li ls) (k0_pay8 lr li ls))) (ix2 0 k)) from Prod.ext rfl (twice _ _)).trans (by rw [s5]; rfl)
theorem s7 : ((k0_pay26 (k0_pay20 (k0_pay7 lr li ls) (k0_pay8 lr li ls)) (k0_pay21 (k0_pay7 lr li ls) (k0_pay8 lr li ls))) (ix2 0 k), (k0_pay27 (k0_pay20 (k0_pay7 lr li ls) (k0_pay8 lr li ls)) (k0_pay21 (k0_pay7 lr li ls) (k0_pay8 lr li ls))) (ix2 0 k)) = sq (st lr li ls k) 7 :=
  (show ((k0_pay26 (k0_pay20 (k0_pay7 lr li ls) (k0_pay8 lr li ls)) (k0_pay21 (k0_pay7 lr li ls) (k0_pay8 lr li ls))) (ix2 0 k), (k0_pay27 (k0_pay20 (k0_pay7 lr li ls) (k0_pay8 lr li ls)) (k0_pay21 (k0_pay7 lr li ls) (k0_pay8 lr li ls))) (ix2 0 k)) = times ((k0_pay24 (k0_pay20 (k0_pay7 lr li ls) (k0_pay8 lr li ls)) (k0_pay21 (k0_pay7 lr li ls) (k0_pay8 lr li ls))) (ix2 0 k), (k0_pay25 (k0_pay20 (k0_pay7 lr li ls) (k0_pay8 lr li ls)) (k0_pay21 (k0_pay7 lr li ls) (k0_pay8 lr li ls))) (ix2 0 k)) ((k0_pay24 (k0_pay20 (k0_pay7 lr li ls) (k0_pay8 lr li ls)) (k0_pay21 (k0_pay7 lr li ls) (k0_pay8 lr li ls))) (ix2 0 k), (k0_pay25 (k0_pay20 (k0_pay7 lr li ls) (k0_pay8 lr li ls)) (k0_pay21 (k0_pay7 lr li ls) (k0_pay8 lr li ls))) (ix2 0 k)) from Prod.ext rfl (twice _ _)).trans (by rw [s6]; rfl)
theorem p0 : ((k0_pay7 lr li ls) (ix2 0 k), (k0_pay8 lr li ls) (ix2 0 k)) = pw (st lr li ls k) 0 := rfl
theorem p1 : ((k0_pay28 (k0_pay7 lr li ls) (k0_pay8 lr li ls)) (ix2 0 k), (k0_pay29 (k0_pay7 lr li ls) (k0_pay8 lr li ls)) (ix2 0 k)) = pw (st lr li ls k) 1 :=
  (show ((k0_pay28 (k0_pay7 lr li ls) (k0_pay8 lr li ls)) (ix2 0 k), (k0_pay29 (k0_pay7 lr li ls) (k0_pay8 lr li ls)) (ix2 0 k)) = times ((k0_pay7 lr li ls) (ix2 0 k), (k0_pay8 lr li ls) (ix2 0 k)) ((k0_pay7 lr li ls) (ix2 0 k), (k0_pay8 lr li ls) (ix2 0 k)) from Prod.ext rfl rfl).trans (by rw [p0]; rfl)
theorem p2 : ((k0_pay30 (k0_pay7 lr li ls) (k0_pay8 lr li ls)) (ix2 0 k), (k0_pay31 (k0_pay7 lr li ls) (k0_pay8 lr li ls)) (ix2 0 k)) = pw (st lr li ls k) 2 :=
  (show ((k0_pay30 (k0_pay7 lr li ls) (k0_pay8 lr li ls)) (ix2 0 k), (k0_pay31 (k0_pay7 lr li ls) (k0_pay8 lr li ls)) (ix2 0 k)) = times ((k0_pay28 (k0_pay7 lr li ls) (k0_pay8 lr li ls)) (ix2 0 k), (k0_pay29 (k0_pay7 lr li ls) (k0_pay8 lr li ls)) (ix2 0 k)) ((k0_pay7 lr li ls) (ix2 0 k), (k0_pay8 lr li ls) (ix2 0 k)) from Prod.ext rfl rfl).trans (by rw [p1]; rfl)
theorem p3 : ((k0_pay32 (k0_pay7 lr li ls) (k0_pay8 lr li ls)) (ix2 0 k), (k0_pay33 (k0_pay7 lr li ls) (k0_pay8 lr li ls)) (ix2 0 k)) = pw (st lr li ls k) 3 :=
  (show ((k0_pay32 (k0_pay7 lr li ls) (k0_pay8 lr li ls)) (ix2 0 k), (k0_pay33 (k0_pay7 lr li ls) (k0_pay8 lr li ls)) (ix2 0 k)) = times ((k0_pay30 (k0_pay7 lr li ls) (k0_pay8 lr li ls)) (ix2 0 k), (k0_pay31 (k0_pay7 lr li ls) (k0_pay8 lr li ls)) (ix2 0 k)) ((k0_pay7 lr li ls) (ix2 0 k), (k0_pay8 lr li ls) (ix2 0 k)) from Prod.ext rfl rfl).trans (by rw [p2]; rfl)
theorem p4 : ((k0_pay34 (k0_pay7 lr li ls) (k0_pay8 lr li ls) (k0_pay32 (k0_pay7 lr li ls) (k0_pay8 lr li ls)) (k0_pay33 (k0_pay7 lr li ls) (k0_pay8 lr li ls))) (ix2 0 k), (k0_pay35 (k0_pay7 lr li ls) (k0_pay8 lr li ls) (k0_pay32 (k0_pay7 lr li ls) (k0_pay8 lr li ls)) (k0_pay33 (k0_pay7 lr li ls) (k0_pay8 lr li ls))) (ix2 0 k)) = pw (st lr li ls k) 4 :=
  (show ((k0_pay34 (k0_pay7 lr li ls) (k0_pay8 lr li ls) (k0_pay32 (k0_pay7 lr li ls) (k0_pay8 lr li ls)) (k0_pay33 (k0_pay7 lr li ls) (k0_pay8 lr li ls))) (ix2 0 k), (k0_pay35 (k0_pay7 lr li ls) (k0_pay8 lr li ls) (k0_pay32 (k0_pay7 lr li ls) (k0_pay8 lr li ls)) (k0_pay33 (k0_pay7 lr li ls) (k0_pay8 lr li ls))) (ix2 0 k)) = times ((k0_pay32 (k0_pay7 lr li ls) (k0_pay8 lr li ls)) (ix2 0 k), (k0_pay33 (k0_pay7 lr li ls) (k0_pay8 lr li ls)) (ix2 0 k)) ((k0_pay7 lr li ls) (ix2 0 k), (k0_pay8 lr li ls) (ix2 0 k)) from Prod.ext rfl rfl).trans (by rw [p3]; rfl)
theorem p5 : ((k0_pay36 (k0_pay7 lr li ls) (k0_pay8 lr li ls) (k0_pay32 (k0_pay7 lr li ls) (k0_pay8 lr li ls)) (k0_pay33 (k0_pay7 lr li ls) (k0_pay8 lr li ls))) (ix2 0 k), (k0_pay37 (k0_pay7 lr li ls) (k0_pay8 lr li ls) (k0_pay32 (k0_pay7 lr li ls) (k0_pay8 lr li ls)) (k0_pay33 (k0_pay7 lr li ls) (k0_pay8 lr li ls))) (ix2 0 k)) = pw (st lr li ls k) 5 :=
  (show ((k0_pay36 (k0_pay7 lr li ls) (k0_pay8 lr li ls) (k0_pay32 (k0_pay7 lr li ls) (k0_pay8 lr li ls)) (k0_pay33 (k0_pay7 lr li ls) (k0_pay8 lr li ls))) (ix2 0 k), (k0_pay37 (k0_pay7 lr li ls) (k0_pay8 lr li ls) (k0_pay32 (k0_pay7 lr li ls) (k0_pay8 lr li ls)) (k0_pay33 (k0_pay7 lr li ls) (k0_pay8 lr li ls))) (ix2 0 k)) = times ((k0_pay34 (k0_pay7 lr li ls) (k0_pay8 lr li ls) (k0_pay32 (k0_pay7 lr li ls) (k0_pay8 lr li ls)) (k0_pay33 (k0_pay7 lr li ls) (k0_pay8 lr li ls))) (ix2 0 k), (k0_pay35 (k0_pay7 lr li ls) (k0_pay8 lr li ls) (k0_pay32 (k0_pay7 lr li ls) (k0_pay8 lr li ls)) (k0_pay33 (k0_pay7 lr li ls) (k0_pay8 lr li ls))) (ix2 0 k)) ((k0_pay7 lr li ls) (ix2 0 k), (k0_pay8 lr li ls) (ix2 0 k)) from Prod.ext rfl rfl).trans (by rw [p4]; rfl)
theorem p6 : ((k0_pay38 (k0_pay7 lr li ls) (k0_pay8 lr li ls) (k0_pay32 (k0_pay7 lr li ls) (k0_pay8 lr li ls)) (k0_pay33 (k0_pay7 lr li ls) (k0_pay8 lr li ls))) (ix2 0 k), (k0_pay1 (k0_pay7 lr li ls) (k0_pay8 lr li ls) (k0_pay36 (k0_pay7 lr li ls) (k0_pay8 lr li ls) (k0_pay32 (k0_pay7 lr li ls) (k0_pay8 lr li ls)) (k0_pay33 (k0_pay7 lr li ls) (k0_pay8 lr li ls))) (k0_pay37 (k0_pay7 lr li ls) (k0_pay8 lr li ls) (k0_pay32 (k0_pay7 lr li ls) (k0_pay8 lr li ls)) (k0_pay33 (k0_pay7 lr li ls) (k0_pay8 lr li ls)))) (ix2 0 k)) = pw (st lr li ls k) 6 :=
  (show ((k0_pay38 (k0_pay7 lr li ls) (k0_pay8 lr li ls) (k0_pay32 (k0_pay7 lr li ls) (k0_pay8 lr li ls)) (k0_pay33 (k0_pay7 lr li ls) (k0_pay8 lr li ls))) (ix2 0 k), (k0_pay1 (k0_pay7 lr li ls) (k0_pay8 lr li ls) (k0_pay36 (k0_pay7 lr li ls) (k0_pay8 lr li ls) (k0_pay32 (k0_pay7 lr li ls) (k0_pay8 lr li ls)) (k0_pay33 (k0_pay7 lr li ls) (k0_pay8 lr li ls))) (k0_pay37 (k0_pay7 lr li ls) (k0_pay8 lr li ls) (k0_pay32 (k0_pay7 lr li ls) (k0_pay8 lr li ls)) (k0_pay33 (k0_pay7 lr li ls) (k0_pay8 lr li ls)))) (ix2 0 k)) = times ((k0_pay36 (k0_pay7 lr li ls) (k0_pay8 lr li ls) (k0_pay32 (k0_pay7 lr li ls) (k0_pay8 lr li ls)) (k0_pay33 (k0_pay7 lr li ls) (k0_pay8 lr li ls))) (ix2 0 k), (k0_pay37 (k0_pay7 lr li ls) (k0_pay8 lr li ls) (k0_pay32 (k0_pay7 lr li ls) (k0_pay8 lr li ls)) (k0_pay33 (k0_pay7 lr li ls) (k0_pay8 lr li ls))) (ix2 0 k)) ((k0_pay7 lr li ls) (ix2 0 k), (k0_pay8 lr li ls) (ix2 0 k)) from Prod.ext rfl rfl).trans (by rw [p5]; rfl)
theorem p7 : ((k0_pay2 (k0_pay7 lr li ls) (k0_pay8 lr li ls) (k0_pay36 (k0_pay7 lr li ls) (k0_pay8 lr li ls) (k0_pay32 (k0_pay7 lr li ls) (k0_pay8 lr li ls)) (k0_pay33 (k0_pay7 lr li ls) (k0_pay8 lr li ls))) (k0_pay37 (k0_pay7 lr li ls) (k0_pay8 lr li ls) (k0_pay32 (k0_pay7 lr li ls) (k0_pay8 lr li ls)) (k0_pay33 (k0_pay7 lr li ls) (k0_pay8 lr li ls))) (k0_pay38 (k0_pay7 lr li ls) (k0_pay8 lr li ls) (k0_pay32 (k0_pay7 lr li ls) (k0_pay8 lr li ls)) (k0_pay33 (k0_pay7 lr li ls) (k0_pay8 lr li ls)))) (ix2 0 k), (k0_pay3 (k0_pay7 lr li ls) (k0_pay8 lr li ls) (k0_pay36 (k0_pay7 lr li ls) (k0_pay8 lr li ls) (k0_pay32 (k0_pay7 lr li ls) (k0_pay8 lr li ls)) (k0_pay33 (k0_pay7 lr li ls) (k0_pay8 lr li ls))) (k0_pay37 (k0_pay7 lr li ls) (k0_pay8 lr li ls) (k0_pay32 (k0_pay7 lr li ls) (k0_pay8 lr li ls)) (k0_pay33 (k0_pay7 lr li ls) (k0_pay8 lr li ls))) (k0_pay38 (k0_pay7 lr li ls) (k0_pay8 lr li ls) (k0_pay32 (k0_pay7 lr li ls) (k0_pay8 lr li ls)) (k0_pay33 (k0_pay7 lr li ls) (k0_pay8 lr li ls)))) (ix2 0 k)) = pw (st lr li ls k) 7 :=
  (show ((k0_pay2 (k0_pay7 lr li ls) (k0_pay8 lr li ls) (k0_pay36 (k0_pay7 lr li ls) (k0_pay8 lr li ls) (k0_pay32 (k0_pay7 lr li ls) (k0_pay8 lr li ls)) (k0_pay33 (k0_pay7 lr li ls) (k0_pay8 lr li ls))) (k0_pay37 (k0_pay7 lr li ls) (k0_pay8 lr li ls) (k0_pay32 (k0_pay7 lr li ls) (k0_pay8 lr li ls)) (k0_pay33 (k0_pay7 lr li ls) (k0_pay8 lr li ls))) (k0_pay38 (k0_pay7 lr li ls) (k0_pay8 lr li ls) (k0_pay32 (k0_pay7 lr li ls) (k0_pay8 lr li ls)) (k0_pay33 (k0_pay7 lr li ls) (k0_pay8 lr li ls)))) (ix2 0 k), (k0_pay3 (k0_pay7 lr li ls) (k0_pay8 lr li ls) (k0_pay36 (k0_pay7 lr li ls) (k0_pay8 lr li ls) (k0_pay32 (k0_pay7 lr li ls) (k0_pay8 lr li ls)) (k0_pay33 (k0_pay7 lr li ls) (k0_pay8 lr li ls))) (k0_pay37 (k0_pay7 lr li ls) (k0_pay8 lr li ls) (k0_pay32 (k0_pay7 lr li ls) (k0_pay8 lr li ls)) (k0_pay33 (k0_pay7 lr li ls) (k0_pay8 lr li ls))) (k0_pay38 (k0_pay7 lr li ls) (k0_pay8 lr li ls) (k0_pay32 (k0_pay7 lr li ls) (k0_pay8 lr li ls)) (k0_pay33 (k0_pay7 lr li ls) (k0_pay8 lr li ls)))) (ix2 0 k)) = times ((k0_pay38 (k0_pay7 lr li ls) (k0_pay8 lr li ls) (k0_pay32 (k0_pay7 lr li ls) (k0_pay8 lr li ls)) (k0_pay33 (k0_pay7 lr li ls) (k0_pay8 lr li ls))) (ix2 0 k), (k0_pay1 (k0_pay7 lr li ls) (k0_pay8 lr li ls) (k0_pay36 (k0_pay7 lr li ls) (k0_pay8 lr li ls) (k0_pay32 (k0_pay7 lr li ls) (k0_pay8 lr li ls)) (k0_pay33 (k0_pay7 lr li ls) (k0_pay8 lr li ls))) (k0_pay37 (k0_pay7 lr li ls) (k0_pay8 lr li ls) (k0_pay32 (k0_pay7 lr li ls) (k0_pay8 lr li ls)) (k0_pay33 (k0_pay7 lr li ls) (k0_pay8 lr li ls)))) (ix2 0 k)) ((k0_pay7 lr li ls) (ix2 0 k), (k0_pay8 lr li ls) (ix2 0 k)) from Prod.ext rfl rfl).trans (by rw [p6]; rfl)

/-- A row of the table, where the body stores it. -/
theorem at7 (o : ℕ) (h : ∀ a, (![o, 0] : Fin 2 → ℕ) a + S1x4096.size a ≤ S24x4096.size a) (x : S1x4096.Idx) :
    reTab lr li ls ((Rect.unit (s := S24x4096) ![o, 0] S1x4096.size h).emb x) = (row (st lr li ls (x 1)) o).1 := by
  have e0 : ((Rect.unit (s := S24x4096) ![o, 0] S1x4096.size h).emb x 0).val = o := by
    show o + 1 * (x 0).val = o
    have h0 : (x 0).val < 1 := (x 0).isLt
    omega
  have e1 : (Rect.unit (s := S24x4096) ![o, 0] S1x4096.size h).emb x 1 = x 1 := by
    apply Fin.ext
    show 0 + 1 * (x 1).val = (x 1).val
    omega
  show (row (st lr li ls ((Rect.unit (s := S24x4096) ![o, 0] S1x4096.size h).emb x 1)) ((Rect.unit (s := S24x4096) ![o, 0] S1x4096.size h).emb x 0).val).1 = _
  rw [e0, e1]

theorem out7 : out0_7 lr li ls br bi = reTab lr li ls := by
  funext y
  simp only [out0_7, k0_pay39, k0_pay40, k0_pay41, k0_pay42, k0_pay43, k0_pay44, k0_pay45, k0_pay46, k0_pay47, View.ld_unit_lit (S := S1x4096) _ _ z2]
  refine View.canon_apply_of_pieces (Val := Elt Ideal) (reTab lr li ls) _ ?_ y (cover0_7 _ _ _ _ _ _ _ _ _ _ _ _ _ _ _ _ _ _ _ _ _ _ _ _ y)
  simp only [List.forall_mem_cons, List.not_mem_nil, false_implies, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · obtain ⟨k, rfl⟩ := line x; exact (congrArg Prod.fst (p7 lr li ls k)).trans (at7 lr li ls 16 _ (ix2 0 k)).symm
  · obtain ⟨k, rfl⟩ := line x; exact (congrArg Prod.fst (p7 lr li ls k)).trans (at7 lr li ls 15 _ (ix2 0 k)).symm
  · obtain ⟨k, rfl⟩ := line x; exact (congrArg Prod.fst (p6 lr li ls k)).trans (at7 lr li ls 17 _ (ix2 0 k)).symm
  · obtain ⟨k, rfl⟩ := line x; exact (congrArg Prod.fst (p6 lr li ls k)).trans (at7 lr li ls 14 _ (ix2 0 k)).symm
  · obtain ⟨k, rfl⟩ := line x; exact (congrArg Prod.fst (p5 lr li ls k)).trans (at7 lr li ls 18 _ (ix2 0 k)).symm
  · obtain ⟨k, rfl⟩ := line x; exact (congrArg Prod.fst (p5 lr li ls k)).trans (at7 lr li ls 13 _ (ix2 0 k)).symm
  · obtain ⟨k, rfl⟩ := line x; exact (congrArg Prod.fst (p4 lr li ls k)).trans (at7 lr li ls 19 _ (ix2 0 k)).symm
  · obtain ⟨k, rfl⟩ := line x; exact (congrArg Prod.fst (p4 lr li ls k)).trans (at7 lr li ls 12 _ (ix2 0 k)).symm
  · obtain ⟨k, rfl⟩ := line x; exact (congrArg Prod.fst (p3 lr li ls k)).trans (at7 lr li ls 20 _ (ix2 0 k)).symm
  · obtain ⟨k, rfl⟩ := line x; exact (congrArg Prod.fst (p3 lr li ls k)).trans (at7 lr li ls 11 _ (ix2 0 k)).symm
  · obtain ⟨k, rfl⟩ := line x; exact (congrArg Prod.fst (p2 lr li ls k)).trans (at7 lr li ls 21 _ (ix2 0 k)).symm
  · obtain ⟨k, rfl⟩ := line x; exact (congrArg Prod.fst (p2 lr li ls k)).trans (at7 lr li ls 10 _ (ix2 0 k)).symm
  · obtain ⟨k, rfl⟩ := line x; exact (congrArg Prod.fst (p1 lr li ls k)).trans (at7 lr li ls 22 _ (ix2 0 k)).symm
  · obtain ⟨k, rfl⟩ := line x; exact (congrArg Prod.fst (p1 lr li ls k)).trans (at7 lr li ls 9 _ (ix2 0 k)).symm
  · obtain ⟨k, rfl⟩ := line x; exact (congrArg Prod.fst (p0 lr li ls k)).trans (at7 lr li ls 23 _ (ix2 0 k)).symm
  · obtain ⟨k, rfl⟩ := line x; exact (congrArg Prod.fst (p0 lr li ls k)).trans (at7 lr li ls 8 _ (ix2 0 k)).symm
  · obtain ⟨k, rfl⟩ := line x; exact (congrArg Prod.fst (s7 lr li ls k)).trans (at7 lr li ls 7 _ (ix2 0 k)).symm
  · obtain ⟨k, rfl⟩ := line x; exact (congrArg Prod.fst (s6 lr li ls k)).trans (at7 lr li ls 6 _ (ix2 0 k)).symm
  · obtain ⟨k, rfl⟩ := line x; exact (congrArg Prod.fst (s5 lr li ls k)).trans (at7 lr li ls 5 _ (ix2 0 k)).symm
  · obtain ⟨k, rfl⟩ := line x; exact (congrArg Prod.fst (s4 lr li ls k)).trans (at7 lr li ls 4 _ (ix2 0 k)).symm
  · obtain ⟨k, rfl⟩ := line x; exact (congrArg Prod.fst (s3 lr li ls k)).trans (at7 lr li ls 3 _ (ix2 0 k)).symm
  · obtain ⟨k, rfl⟩ := line x; exact (congrArg Prod.fst (s2 lr li ls k)).trans (at7 lr li ls 2 _ (ix2 0 k)).symm
  · obtain ⟨k, rfl⟩ := line x; exact (congrArg Prod.fst (s1 lr li ls k)).trans (at7 lr li ls 1 _ (ix2 0 k)).symm
  · obtain ⟨k, rfl⟩ := line x; exact (congrArg Prod.fst (s0 lr li ls k)).trans (at7 lr li ls 0 _ (ix2 0 k)).symm

/-- A row of the table, where the body stores it. -/
theorem at8 (o : ℕ) (h : ∀ a, (![o, 0] : Fin 2 → ℕ) a + S1x4096.size a ≤ S24x4096.size a) (x : S1x4096.Idx) :
    imTab lr li ls ((Rect.unit (s := S24x4096) ![o, 0] S1x4096.size h).emb x) = (row (st lr li ls (x 1)) o).2 := by
  have e0 : ((Rect.unit (s := S24x4096) ![o, 0] S1x4096.size h).emb x 0).val = o := by
    show o + 1 * (x 0).val = o
    have h0 : (x 0).val < 1 := (x 0).isLt
    omega
  have e1 : (Rect.unit (s := S24x4096) ![o, 0] S1x4096.size h).emb x 1 = x 1 := by
    apply Fin.ext
    show 0 + 1 * (x 1).val = (x 1).val
    omega
  show (row (st lr li ls ((Rect.unit (s := S24x4096) ![o, 0] S1x4096.size h).emb x 1)) ((Rect.unit (s := S24x4096) ![o, 0] S1x4096.size h).emb x 0).val).2 = _
  rw [e0, e1]

theorem out8 : out0_8 lr li ls br bi = imTab lr li ls := by
  funext y
  simp only [out0_8, k0_pay39, k0_pay40, k0_pay41, k0_pay42, k0_pay43, k0_pay44, k0_pay45, k0_pay46, k0_pay47, View.ld_unit_lit (S := S1x4096) _ _ z2]
  refine View.canon_apply_of_pieces (Val := Elt Ideal) (imTab lr li ls) _ ?_ y (cover0_8 _ _ _ _ _ _ _ _ _ _ _ _ _ _ _ _ _ _ _ _ _ _ _ _ y)
  simp only [List.forall_mem_cons, List.not_mem_nil, false_implies, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · obtain ⟨k, rfl⟩ := line x; exact (congrArg Prod.snd (p7 lr li ls k)).trans (at8 lr li ls 16 _ (ix2 0 k)).symm
  · obtain ⟨k, rfl⟩ := line x; exact (congrArg Prod.snd (p7 lr li ls k)).trans (at8 lr li ls 15 _ (ix2 0 k)).symm
  · obtain ⟨k, rfl⟩ := line x; exact (congrArg Prod.snd (p6 lr li ls k)).trans (at8 lr li ls 17 _ (ix2 0 k)).symm
  · obtain ⟨k, rfl⟩ := line x; exact (congrArg Prod.snd (p6 lr li ls k)).trans (at8 lr li ls 14 _ (ix2 0 k)).symm
  · obtain ⟨k, rfl⟩ := line x; exact (congrArg Prod.snd (p5 lr li ls k)).trans (at8 lr li ls 18 _ (ix2 0 k)).symm
  · obtain ⟨k, rfl⟩ := line x; exact (congrArg Prod.snd (p5 lr li ls k)).trans (at8 lr li ls 13 _ (ix2 0 k)).symm
  · obtain ⟨k, rfl⟩ := line x; exact (congrArg Prod.snd (p4 lr li ls k)).trans (at8 lr li ls 19 _ (ix2 0 k)).symm
  · obtain ⟨k, rfl⟩ := line x; exact (congrArg Prod.snd (p4 lr li ls k)).trans (at8 lr li ls 12 _ (ix2 0 k)).symm
  · obtain ⟨k, rfl⟩ := line x; exact (congrArg Prod.snd (p3 lr li ls k)).trans (at8 lr li ls 20 _ (ix2 0 k)).symm
  · obtain ⟨k, rfl⟩ := line x; exact (congrArg Prod.snd (p3 lr li ls k)).trans (at8 lr li ls 11 _ (ix2 0 k)).symm
  · obtain ⟨k, rfl⟩ := line x; exact (congrArg Prod.snd (p2 lr li ls k)).trans (at8 lr li ls 21 _ (ix2 0 k)).symm
  · obtain ⟨k, rfl⟩ := line x; exact (congrArg Prod.snd (p2 lr li ls k)).trans (at8 lr li ls 10 _ (ix2 0 k)).symm
  · obtain ⟨k, rfl⟩ := line x; exact (congrArg Prod.snd (p1 lr li ls k)).trans (at8 lr li ls 22 _ (ix2 0 k)).symm
  · obtain ⟨k, rfl⟩ := line x; exact (congrArg Prod.snd (p1 lr li ls k)).trans (at8 lr li ls 9 _ (ix2 0 k)).symm
  · obtain ⟨k, rfl⟩ := line x; exact (congrArg Prod.snd (p0 lr li ls k)).trans (at8 lr li ls 23 _ (ix2 0 k)).symm
  · obtain ⟨k, rfl⟩ := line x; exact (congrArg Prod.snd (p0 lr li ls k)).trans (at8 lr li ls 8 _ (ix2 0 k)).symm
  · obtain ⟨k, rfl⟩ := line x; exact (congrArg Prod.snd (s7 lr li ls k)).trans (at8 lr li ls 7 _ (ix2 0 k)).symm
  · obtain ⟨k, rfl⟩ := line x; exact (congrArg Prod.snd (s6 lr li ls k)).trans (at8 lr li ls 6 _ (ix2 0 k)).symm
  · obtain ⟨k, rfl⟩ := line x; exact (congrArg Prod.snd (s5 lr li ls k)).trans (at8 lr li ls 5 _ (ix2 0 k)).symm
  · obtain ⟨k, rfl⟩ := line x; exact (congrArg Prod.snd (s4 lr li ls k)).trans (at8 lr li ls 4 _ (ix2 0 k)).symm
  · obtain ⟨k, rfl⟩ := line x; exact (congrArg Prod.snd (s3 lr li ls k)).trans (at8 lr li ls 3 _ (ix2 0 k)).symm
  · obtain ⟨k, rfl⟩ := line x; exact (congrArg Prod.snd (s2 lr li ls k)).trans (at8 lr li ls 2 _ (ix2 0 k)).symm
  · obtain ⟨k, rfl⟩ := line x; exact (congrArg Prod.snd (s1 lr li ls k)).trans (at8 lr li ls 1 _ (ix2 0 k)).symm
  · obtain ⟨k, rfl⟩ := line x; exact (congrArg Prod.snd (s0 lr li ls k)).trans (at8 lr li ls 0 _ (ix2 0 k)).symm

theorem leaves5 : out0_5 lr li ls br bi = k0_pay12 lr li ls br bi := by
  frame_out

theorem out5 : out0_5 lr li ls br bi = reArr lr li ls br bi := by
  funext y
  obtain ⟨h, k, rfl⟩ : ∃ (h : Fin 16) (k : Fin 4096), y = ix2 h k := ⟨y 0, y 1, eq_ix2 y⟩
  rw [leaves5]
  pointwise [k0_pay12]
  rw [pFr, pFi]
  rfl

theorem leaves6 : out0_6 lr li ls br bi = k0_pay13 lr li ls br bi := by
  frame_out

theorem out6 : out0_6 lr li ls br bi = imArr lr li ls br bi := by
  funext y
  obtain ⟨h, k, rfl⟩ : ∃ (h : Fin 16) (k : Fin 4096), y = ix2 h k := ⟨y 0, y 1, eq_ix2 y⟩
  rw [leaves6]
  pointwise [k0_pay13]
  rw [pFr, pFi]
  rfl

end Body

variable (m : (ℓ : Loc nD τ sig) → Buf (Elt Ideal) ℓ) (c : Dev nD)

theorem final5 : (dats m 0 c).arrAt 5 cfg0.N
    = reArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5, out5, Value.iblk0_eq, Value.iblk1_eq, Value.iblk2_eq, Value.iblk3_eq, Value.iblk4_eq, Value.emb5]
  rfl

theorem final6 : (dats m 0 c).arrAt 6 cfg0.N
    = imArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, out6, Value.iblk0_eq, Value.iblk1_eq, Value.iblk2_eq, Value.iblk3_eq, Value.iblk4_eq, Value.emb6]
  rfl

theorem final7 : (dats m 0 c).arrAt 7 cfg0.N
    = reTab (m ((c : Thread nD τ).loc main_arg0)) (m ((c : Thread nD τ).loc main_arg1)) (m ((c : Thread nD τ).loc main_arg2)) := by
  refine (dats m 0 c).arrAt_eq_of_covers 7 _ (by decide +kernel) fun t hf y => ?_
  rw [after0_7, out7, Value.iblk0_eq, Value.iblk1_eq, Value.iblk2_eq, Value.emb7]
  rfl

theorem final8 : (dats m 0 c).arrAt 8 cfg0.N
    = imTab (m ((c : Thread nD τ).loc main_arg0)) (m ((c : Thread nD τ).loc main_arg1)) (m ((c : Thread nD τ).loc main_arg2)) := by
  refine (dats m 0 c).arrAt_eq_of_covers 8 _ (by decide +kernel) fun t hf y => ?_
  rw [after0_8, out8, Value.iblk0_eq, Value.iblk1_eq, Value.iblk2_eq, Value.emb8]
  rfl

end Kernel

section Reference

open Cert.RefSsmParFwdIdeal Cert.RefSsmParFwdIdeal.Read

variable (lr li ls : Line) (br bi : Mat) (k : Fin 4096)

theorem rFr : val_main_v16 (F := Ideal) lr li ls (ix2 0 k) = (st lr li ls k).fr := rfl
theorem rFi : val_main_v22 (F := Ideal) lr li ls (ix2 0 k) = (st lr li ls k).fi := rfl

/-- The squarings and the powers, one after the other. -/
theorem rs0 : (val_main_v5 (F := Ideal) lr li ls (ix2 0 k), val_main_v7 (F := Ideal) lr li ls (ix2 0 k)) = sq (st lr li ls k) 0 := rfl
theorem rs1 : (val_main_v35 (F := Ideal) lr li ls (ix2 0 k), val_main_v38 (F := Ideal) lr li ls (ix2 0 k)) = sq (st lr li ls k) 1 :=
  (show (val_main_v35 (F := Ideal) lr li ls (ix2 0 k), val_main_v38 (F := Ideal) lr li ls (ix2 0 k)) = times (val_main_v5 (F := Ideal) lr li ls (ix2 0 k), val_main_v7 (F := Ideal) lr li ls (ix2 0 k)) (val_main_v5 (F := Ideal) lr li ls (ix2 0 k), val_main_v7 (F := Ideal) lr li ls (ix2 0 k)) from Prod.ext rfl rfl).trans (by rw [rs0]; rfl)
theorem rs2 : (val_main_v47 (F := Ideal) lr li ls (ix2 0 k), val_main_v50 (F := Ideal) lr li ls (ix2 0 k)) = sq (st lr li ls k) 2 :=
  (show (val_main_v47 (F := Ideal) lr li ls (ix2 0 k), val_main_v50 (F := Ideal) lr li ls (ix2 0 k)) = times (val_main_v35 (F := Ideal) lr li ls (ix2 0 k), val_main_v38 (F := Ideal) lr li ls (ix2 0 k)) (val_main_v35 (F := Ideal) lr li ls (ix2 0 k), val_main_v38 (F := Ideal) lr li ls (ix2 0 k)) from Prod.ext rfl rfl).trans (by rw [rs1]; rfl)
theorem rs3 : (val_main_v59 (F := Ideal) lr li ls (ix2 0 k), val_main_v62 (F := Ideal) lr li ls (ix2 0 k)) = sq (st lr li ls k) 3 :=
  (show (val_main_v59 (F := Ideal) lr li ls (ix2 0 k), val_main_v62 (F := Ideal) lr li ls (ix2 0 k)) = times (val_main_v47 (F := Ideal) lr li ls (ix2 0 k), val_main_v50 (F := Ideal) lr li ls (ix2 0 k)) (val_main_v47 (F := Ideal) lr li ls (ix2 0 k), val_main_v50 (F := Ideal) lr li ls (ix2 0 k)) from Prod.ext rfl rfl).trans (by rw [rs2]; rfl)
theorem rs4 : (val_main_v71 (F := Ideal) lr li ls (ix2 0 k), val_main_v74 (F := Ideal) lr li ls (ix2 0 k)) = sq (st lr li ls k) 4 :=
  (show (val_main_v71 (F := Ideal) lr li ls (ix2 0 k), val_main_v74 (F := Ideal) lr li ls (ix2 0 k)) = times (val_main_v59 (F := Ideal) lr li ls (ix2 0 k), val_main_v62 (F := Ideal) lr li ls (ix2 0 k)) (val_main_v59 (F := Ideal) lr li ls (ix2 0 k), val_main_v62 (F := Ideal) lr li ls (ix2 0 k)) from Prod.ext rfl rfl).trans (by rw [rs3]; rfl)
theorem rs5 : (val_main_v83 (F := Ideal) lr li ls (ix2 0 k), val_main_v86 (F := Ideal) lr li ls (ix2 0 k)) = sq (st lr li ls k) 5 :=
  (show (val_main_v83 (F := Ideal) lr li ls (ix2 0 k), val_main_v86 (F := Ideal) lr li ls (ix2 0 k)) = times (val_main_v71 (F := Ideal) lr li ls (ix2 0 k), val_main_v74 (F := Ideal) lr li ls (ix2 0 k)) (val_main_v71 (F := Ideal) lr li ls (ix2 0 k), val_main_v74 (F := Ideal) lr li ls (ix2 0 k)) from Prod.ext rfl rfl).trans (by rw [rs4]; rfl)
theorem rs6 : (val_main_v95 (F := Ideal) lr li ls (ix2 0 k), val_main_v98 (F := Ideal) lr li ls (ix2 0 k)) = sq (st lr li ls k) 6 :=
  (show (val_main_v95 (F := Ideal) lr li ls (ix2 0 k), val_main_v98 (F := Ideal) lr li ls (ix2 0 k)) = times (val_main_v83 (F := Ideal) lr li ls (ix2 0 k), val_main_v86 (F := Ideal) lr li ls (ix2 0 k)) (val_main_v83 (F := Ideal) lr li ls (ix2 0 k), val_main_v86 (F := Ideal) lr li ls (ix2 0 k)) from Prod.ext rfl rfl).trans (by rw [rs5]; rfl)
theorem rs7 : (val_main_v107 (F := Ideal) lr li ls (ix2 0 k), val_main_v110 (F := Ideal) lr li ls (ix2 0 k)) = sq (st lr li ls k) 7 :=
  (show (val_main_v107 (F := Ideal) lr li ls (ix2 0 k), val_main_v110 (F := Ideal) lr li ls (ix2 0 k)) = times (val_main_v95 (F := Ideal) lr li ls (ix2 0 k), val_main_v98 (F := Ideal) lr li ls (ix2 0 k)) (val_main_v95 (F := Ideal) lr li ls (ix2 0 k), val_main_v98 (F := Ideal) lr li ls (ix2 0 k)) from Prod.ext rfl rfl).trans (by rw [rs6]; rfl)
theorem rp0 : (val_main_v5 (F := Ideal) lr li ls (ix2 0 k), val_main_v7 (F := Ideal) lr li ls (ix2 0 k)) = pw (st lr li ls k) 0 := rfl
theorem rp1 : (val_main_v41 (F := Ideal) lr li ls (ix2 0 k), val_main_v44 (F := Ideal) lr li ls (ix2 0 k)) = pw (st lr li ls k) 1 :=
  (show (val_main_v41 (F := Ideal) lr li ls (ix2 0 k), val_main_v44 (F := Ideal) lr li ls (ix2 0 k)) = times (val_main_v5 (F := Ideal) lr li ls (ix2 0 k), val_main_v7 (F := Ideal) lr li ls (ix2 0 k)) (val_main_v5 (F := Ideal) lr li ls (ix2 0 k), val_main_v7 (F := Ideal) lr li ls (ix2 0 k)) from Prod.ext rfl rfl).trans (by rw [rp0]; rfl)
theorem rp2 : (val_main_v53 (F := Ideal) lr li ls (ix2 0 k), val_main_v56 (F := Ideal) lr li ls (ix2 0 k)) = pw (st lr li ls k) 2 :=
  (show (val_main_v53 (F := Ideal) lr li ls (ix2 0 k), val_main_v56 (F := Ideal) lr li ls (ix2 0 k)) = times (val_main_v41 (F := Ideal) lr li ls (ix2 0 k), val_main_v44 (F := Ideal) lr li ls (ix2 0 k)) (val_main_v5 (F := Ideal) lr li ls (ix2 0 k), val_main_v7 (F := Ideal) lr li ls (ix2 0 k)) from Prod.ext rfl rfl).trans (by rw [rp1]; rfl)
theorem rp3 : (val_main_v65 (F := Ideal) lr li ls (ix2 0 k), val_main_v68 (F := Ideal) lr li ls (ix2 0 k)) = pw (st lr li ls k) 3 :=
  (show (val_main_v65 (F := Ideal) lr li ls (ix2 0 k), val_main_v68 (F := Ideal) lr li ls (ix2 0 k)) = times (val_main_v53 (F := Ideal) lr li ls (ix2 0 k), val_main_v56 (F := Ideal) lr li ls (ix2 0 k)) (val_main_v5 (F := Ideal) lr li ls (ix2 0 k), val_main_v7 (F := Ideal) lr li ls (ix2 0 k)) from Prod.ext rfl rfl).trans (by rw [rp2]; rfl)
theorem rp4 : (val_main_v77 (F := Ideal) lr li ls (ix2 0 k), val_main_v80 (F := Ideal) lr li ls (ix2 0 k)) = pw (st lr li ls k) 4 :=
  (show (val_main_v77 (F := Ideal) lr li ls (ix2 0 k), val_main_v80 (F := Ideal) lr li ls (ix2 0 k)) = times (val_main_v65 (F := Ideal) lr li ls (ix2 0 k), val_main_v68 (F := Ideal) lr li ls (ix2 0 k)) (val_main_v5 (F := Ideal) lr li ls (ix2 0 k), val_main_v7 (F := Ideal) lr li ls (ix2 0 k)) from Prod.ext rfl rfl).trans (by rw [rp3]; rfl)
theorem rp5 : (val_main_v89 (F := Ideal) lr li ls (ix2 0 k), val_main_v92 (F := Ideal) lr li ls (ix2 0 k)) = pw (st lr li ls k) 5 :=
  (show (val_main_v89 (F := Ideal) lr li ls (ix2 0 k), val_main_v92 (F := Ideal) lr li ls (ix2 0 k)) = times (val_main_v77 (F := Ideal) lr li ls (ix2 0 k), val_main_v80 (F := Ideal) lr li ls (ix2 0 k)) (val_main_v5 (F := Ideal) lr li ls (ix2 0 k), val_main_v7 (F := Ideal) lr li ls (ix2 0 k)) from Prod.ext rfl rfl).trans (by rw [rp4]; rfl)
theorem rp6 : (val_main_v101 (F := Ideal) lr li ls (ix2 0 k), val_main_v104 (F := Ideal) lr li ls (ix2 0 k)) = pw (st lr li ls k) 6 :=
  (show (val_main_v101 (F := Ideal) lr li ls (ix2 0 k), val_main_v104 (F := Ideal) lr li ls (ix2 0 k)) = times (val_main_v89 (F := Ideal) lr li ls (ix2 0 k), val_main_v92 (F := Ideal) lr li ls (ix2 0 k)) (val_main_v5 (F := Ideal) lr li ls (ix2 0 k), val_main_v7 (F := Ideal) lr li ls (ix2 0 k)) from Prod.ext rfl rfl).trans (by rw [rp5]; rfl)
theorem rp7 : (val_main_v113 (F := Ideal) lr li ls (ix2 0 k), val_main_v116 (F := Ideal) lr li ls (ix2 0 k)) = pw (st lr li ls k) 7 :=
  (show (val_main_v113 (F := Ideal) lr li ls (ix2 0 k), val_main_v116 (F := Ideal) lr li ls (ix2 0 k)) = times (val_main_v101 (F := Ideal) lr li ls (ix2 0 k), val_main_v104 (F := Ideal) lr li ls (ix2 0 k)) (val_main_v5 (F := Ideal) lr li ls (ix2 0 k), val_main_v7 (F := Ideal) lr li ls (ix2 0 k)) from Prod.ext rfl rfl).trans (by rw [rp6]; rfl)

theorem rTab1 : val_main_v119 (F := Ideal) lr li ls = reTab lr li ls := by
  funext y
  obtain ⟨i, k, rfl⟩ : ∃ (i : Fin 24) (k : Fin 4096), y = ix2 i k := ⟨y 0, y 1, eq_ix2 y⟩
  match i with
  | ⟨0, h⟩ => exact (show val_main_v119 (F := Ideal) lr li ls (ix2 ⟨0, h⟩ k) = val_main_v5 (F := Ideal) lr li ls (ix2 0 k) by pointwise [val_main_v119, val_main_v117, val_main_v118]).trans (congrArg Prod.fst (rs0 lr li ls k))
  | ⟨1, h⟩ => exact (show val_main_v119 (F := Ideal) lr li ls (ix2 ⟨1, h⟩ k) = val_main_v35 (F := Ideal) lr li ls (ix2 0 k) by pointwise [val_main_v119, val_main_v117, val_main_v118]).trans (congrArg Prod.fst (rs1 lr li ls k))
  | ⟨2, h⟩ => exact (show val_main_v119 (F := Ideal) lr li ls (ix2 ⟨2, h⟩ k) = val_main_v47 (F := Ideal) lr li ls (ix2 0 k) by pointwise [val_main_v119, val_main_v117, val_main_v118]).trans (congrArg Prod.fst (rs2 lr li ls k))
  | ⟨3, h⟩ => exact (show val_main_v119 (F := Ideal) lr li ls (ix2 ⟨3, h⟩ k) = val_main_v59 (F := Ideal) lr li ls (ix2 0 k) by pointwise [val_main_v119, val_main_v117, val_main_v118]).trans (congrArg Prod.fst (rs3 lr li ls k))
  | ⟨4, h⟩ => exact (show val_main_v119 (F := Ideal) lr li ls (ix2 ⟨4, h⟩ k) = val_main_v71 (F := Ideal) lr li ls (ix2 0 k) by pointwise [val_main_v119, val_main_v117, val_main_v118]).trans (congrArg Prod.fst (rs4 lr li ls k))
  | ⟨5, h⟩ => exact (show val_main_v119 (F := Ideal) lr li ls (ix2 ⟨5, h⟩ k) = val_main_v83 (F := Ideal) lr li ls (ix2 0 k) by pointwise [val_main_v119, val_main_v117, val_main_v118]).trans (congrArg Prod.fst (rs5 lr li ls k))
  | ⟨6, h⟩ => exact (show val_main_v119 (F := Ideal) lr li ls (ix2 ⟨6, h⟩ k) = val_main_v95 (F := Ideal) lr li ls (ix2 0 k) by pointwise [val_main_v119, val_main_v117, val_main_v118]).trans (congrArg Prod.fst (rs6 lr li ls k))
  | ⟨7, h⟩ => exact (show val_main_v119 (F := Ideal) lr li ls (ix2 ⟨7, h⟩ k) = val_main_v107 (F := Ideal) lr li ls (ix2 0 k) by pointwise [val_main_v119, val_main_v117, val_main_v118]).trans (congrArg Prod.fst (rs7 lr li ls k))
  | ⟨8, h⟩ => exact (show val_main_v119 (F := Ideal) lr li ls (ix2 ⟨8, h⟩ k) = val_main_v5 (F := Ideal) lr li ls (ix2 0 k) by pointwise [val_main_v119, val_main_v117, val_main_v118]).trans (congrArg Prod.fst (rp0 lr li ls k))
  | ⟨9, h⟩ => exact (show val_main_v119 (F := Ideal) lr li ls (ix2 ⟨9, h⟩ k) = val_main_v41 (F := Ideal) lr li ls (ix2 0 k) by pointwise [val_main_v119, val_main_v117, val_main_v118]).trans (congrArg Prod.fst (rp1 lr li ls k))
  | ⟨10, h⟩ => exact (show val_main_v119 (F := Ideal) lr li ls (ix2 ⟨10, h⟩ k) = val_main_v53 (F := Ideal) lr li ls (ix2 0 k) by pointwise [val_main_v119, val_main_v117, val_main_v118]).trans (congrArg Prod.fst (rp2 lr li ls k))
  | ⟨11, h⟩ => exact (show val_main_v119 (F := Ideal) lr li ls (ix2 ⟨11, h⟩ k) = val_main_v65 (F := Ideal) lr li ls (ix2 0 k) by pointwise [val_main_v119, val_main_v117, val_main_v118]).trans (congrArg Prod.fst (rp3 lr li ls k))
  | ⟨12, h⟩ => exact (show val_main_v119 (F := Ideal) lr li ls (ix2 ⟨12, h⟩ k) = val_main_v77 (F := Ideal) lr li ls (ix2 0 k) by pointwise [val_main_v119, val_main_v117, val_main_v118]).trans (congrArg Prod.fst (rp4 lr li ls k))
  | ⟨13, h⟩ => exact (show val_main_v119 (F := Ideal) lr li ls (ix2 ⟨13, h⟩ k) = val_main_v89 (F := Ideal) lr li ls (ix2 0 k) by pointwise [val_main_v119, val_main_v117, val_main_v118]).trans (congrArg Prod.fst (rp5 lr li ls k))
  | ⟨14, h⟩ => exact (show val_main_v119 (F := Ideal) lr li ls (ix2 ⟨14, h⟩ k) = val_main_v101 (F := Ideal) lr li ls (ix2 0 k) by pointwise [val_main_v119, val_main_v117, val_main_v118]).trans (congrArg Prod.fst (rp6 lr li ls k))
  | ⟨15, h⟩ => exact (show val_main_v119 (F := Ideal) lr li ls (ix2 ⟨15, h⟩ k) = val_main_v113 (F := Ideal) lr li ls (ix2 0 k) by pointwise [val_main_v119, val_main_v117, val_main_v118]).trans (congrArg Prod.fst (rp7 lr li ls k))
  | ⟨16, h⟩ => exact (show val_main_v119 (F := Ideal) lr li ls (ix2 ⟨16, h⟩ k) = val_main_v113 (F := Ideal) lr li ls (ix2 0 k) by pointwise [val_main_v119, val_main_v117, val_main_v118]).trans (congrArg Prod.fst (rp7 lr li ls k))
  | ⟨17, h⟩ => exact (show val_main_v119 (F := Ideal) lr li ls (ix2 ⟨17, h⟩ k) = val_main_v101 (F := Ideal) lr li ls (ix2 0 k) by pointwise [val_main_v119, val_main_v117, val_main_v118]).trans (congrArg Prod.fst (rp6 lr li ls k))
  | ⟨18, h⟩ => exact (show val_main_v119 (F := Ideal) lr li ls (ix2 ⟨18, h⟩ k) = val_main_v89 (F := Ideal) lr li ls (ix2 0 k) by pointwise [val_main_v119, val_main_v117, val_main_v118]).trans (congrArg Prod.fst (rp5 lr li ls k))
  | ⟨19, h⟩ => exact (show val_main_v119 (F := Ideal) lr li ls (ix2 ⟨19, h⟩ k) = val_main_v77 (F := Ideal) lr li ls (ix2 0 k) by pointwise [val_main_v119, val_main_v117, val_main_v118]).trans (congrArg Prod.fst (rp4 lr li ls k))
  | ⟨20, h⟩ => exact (show val_main_v119 (F := Ideal) lr li ls (ix2 ⟨20, h⟩ k) = val_main_v65 (F := Ideal) lr li ls (ix2 0 k) by pointwise [val_main_v119, val_main_v117, val_main_v118]).trans (congrArg Prod.fst (rp3 lr li ls k))
  | ⟨21, h⟩ => exact (show val_main_v119 (F := Ideal) lr li ls (ix2 ⟨21, h⟩ k) = val_main_v53 (F := Ideal) lr li ls (ix2 0 k) by pointwise [val_main_v119, val_main_v117, val_main_v118]).trans (congrArg Prod.fst (rp2 lr li ls k))
  | ⟨22, h⟩ => exact (show val_main_v119 (F := Ideal) lr li ls (ix2 ⟨22, h⟩ k) = val_main_v41 (F := Ideal) lr li ls (ix2 0 k) by pointwise [val_main_v119, val_main_v117, val_main_v118]).trans (congrArg Prod.fst (rp1 lr li ls k))
  | ⟨23, h⟩ => exact (show val_main_v119 (F := Ideal) lr li ls (ix2 ⟨23, h⟩ k) = val_main_v5 (F := Ideal) lr li ls (ix2 0 k) by pointwise [val_main_v119, val_main_v117, val_main_v118]).trans (congrArg Prod.fst (rp0 lr li ls k))
  | ⟨n + 24, h⟩ => exact absurd h (by omega)

theorem rTab2 : val_main_v122 (F := Ideal) lr li ls = imTab lr li ls := by
  funext y
  obtain ⟨i, k, rfl⟩ : ∃ (i : Fin 24) (k : Fin 4096), y = ix2 i k := ⟨y 0, y 1, eq_ix2 y⟩
  match i with
  | ⟨0, h⟩ => exact (show val_main_v122 (F := Ideal) lr li ls (ix2 ⟨0, h⟩ k) = val_main_v7 (F := Ideal) lr li ls (ix2 0 k) by pointwise [val_main_v122, val_main_v120, val_main_v121]).trans (congrArg Prod.snd (rs0 lr li ls k))
  | ⟨1, h⟩ => exact (show val_main_v122 (F := Ideal) lr li ls (ix2 ⟨1, h⟩ k) = val_main_v38 (F := Ideal) lr li ls (ix2 0 k) by pointwise [val_main_v122, val_main_v120, val_main_v121]).trans (congrArg Prod.snd (rs1 lr li ls k))
  | ⟨2, h⟩ => exact (show val_main_v122 (F := Ideal) lr li ls (ix2 ⟨2, h⟩ k) = val_main_v50 (F := Ideal) lr li ls (ix2 0 k) by pointwise [val_main_v122, val_main_v120, val_main_v121]).trans (congrArg Prod.snd (rs2 lr li ls k))
  | ⟨3, h⟩ => exact (show val_main_v122 (F := Ideal) lr li ls (ix2 ⟨3, h⟩ k) = val_main_v62 (F := Ideal) lr li ls (ix2 0 k) by pointwise [val_main_v122, val_main_v120, val_main_v121]).trans (congrArg Prod.snd (rs3 lr li ls k))
  | ⟨4, h⟩ => exact (show val_main_v122 (F := Ideal) lr li ls (ix2 ⟨4, h⟩ k) = val_main_v74 (F := Ideal) lr li ls (ix2 0 k) by pointwise [val_main_v122, val_main_v120, val_main_v121]).trans (congrArg Prod.snd (rs4 lr li ls k))
  | ⟨5, h⟩ => exact (show val_main_v122 (F := Ideal) lr li ls (ix2 ⟨5, h⟩ k) = val_main_v86 (F := Ideal) lr li ls (ix2 0 k) by pointwise [val_main_v122, val_main_v120, val_main_v121]).trans (congrArg Prod.snd (rs5 lr li ls k))
  | ⟨6, h⟩ => exact (show val_main_v122 (F := Ideal) lr li ls (ix2 ⟨6, h⟩ k) = val_main_v98 (F := Ideal) lr li ls (ix2 0 k) by pointwise [val_main_v122, val_main_v120, val_main_v121]).trans (congrArg Prod.snd (rs6 lr li ls k))
  | ⟨7, h⟩ => exact (show val_main_v122 (F := Ideal) lr li ls (ix2 ⟨7, h⟩ k) = val_main_v110 (F := Ideal) lr li ls (ix2 0 k) by pointwise [val_main_v122, val_main_v120, val_main_v121]).trans (congrArg Prod.snd (rs7 lr li ls k))
  | ⟨8, h⟩ => exact (show val_main_v122 (F := Ideal) lr li ls (ix2 ⟨8, h⟩ k) = val_main_v7 (F := Ideal) lr li ls (ix2 0 k) by pointwise [val_main_v122, val_main_v120, val_main_v121]).trans (congrArg Prod.snd (rp0 lr li ls k))
  | ⟨9, h⟩ => exact (show val_main_v122 (F := Ideal) lr li ls (ix2 ⟨9, h⟩ k) = val_main_v44 (F := Ideal) lr li ls (ix2 0 k) by pointwise [val_main_v122, val_main_v120, val_main_v121]).trans (congrArg Prod.snd (rp1 lr li ls k))
  | ⟨10, h⟩ => exact (show val_main_v122 (F := Ideal) lr li ls (ix2 ⟨10, h⟩ k) = val_main_v56 (F := Ideal) lr li ls (ix2 0 k) by pointwise [val_main_v122, val_main_v120, val_main_v121]).trans (congrArg Prod.snd (rp2 lr li ls k))
  | ⟨11, h⟩ => exact (show val_main_v122 (F := Ideal) lr li ls (ix2 ⟨11, h⟩ k) = val_main_v68 (F := Ideal) lr li ls (ix2 0 k) by pointwise [val_main_v122, val_main_v120, val_main_v121]).trans (congrArg Prod.snd (rp3 lr li ls k))
  | ⟨12, h⟩ => exact (show val_main_v122 (F := Ideal) lr li ls (ix2 ⟨12, h⟩ k) = val_main_v80 (F := Ideal) lr li ls (ix2 0 k) by pointwise [val_main_v122, val_main_v120, val_main_v121]).trans (congrArg Prod.snd (rp4 lr li ls k))
  | ⟨13, h⟩ => exact (show val_main_v122 (F := Ideal) lr li ls (ix2 ⟨13, h⟩ k) = val_main_v92 (F := Ideal) lr li ls (ix2 0 k) by pointwise [val_main_v122, val_main_v120, val_main_v121]).trans (congrArg Prod.snd (rp5 lr li ls k))
  | ⟨14, h⟩ => exact (show val_main_v122 (F := Ideal) lr li ls (ix2 ⟨14, h⟩ k) = val_main_v104 (F := Ideal) lr li ls (ix2 0 k) by pointwise [val_main_v122, val_main_v120, val_main_v121]).trans (congrArg Prod.snd (rp6 lr li ls k))
  | ⟨15, h⟩ => exact (show val_main_v122 (F := Ideal) lr li ls (ix2 ⟨15, h⟩ k) = val_main_v116 (F := Ideal) lr li ls (ix2 0 k) by pointwise [val_main_v122, val_main_v120, val_main_v121]).trans (congrArg Prod.snd (rp7 lr li ls k))
  | ⟨16, h⟩ => exact (show val_main_v122 (F := Ideal) lr li ls (ix2 ⟨16, h⟩ k) = val_main_v116 (F := Ideal) lr li ls (ix2 0 k) by pointwise [val_main_v122, val_main_v120, val_main_v121]).trans (congrArg Prod.snd (rp7 lr li ls k))
  | ⟨17, h⟩ => exact (show val_main_v122 (F := Ideal) lr li ls (ix2 ⟨17, h⟩ k) = val_main_v104 (F := Ideal) lr li ls (ix2 0 k) by pointwise [val_main_v122, val_main_v120, val_main_v121]).trans (congrArg Prod.snd (rp6 lr li ls k))
  | ⟨18, h⟩ => exact (show val_main_v122 (F := Ideal) lr li ls (ix2 ⟨18, h⟩ k) = val_main_v92 (F := Ideal) lr li ls (ix2 0 k) by pointwise [val_main_v122, val_main_v120, val_main_v121]).trans (congrArg Prod.snd (rp5 lr li ls k))
  | ⟨19, h⟩ => exact (show val_main_v122 (F := Ideal) lr li ls (ix2 ⟨19, h⟩ k) = val_main_v80 (F := Ideal) lr li ls (ix2 0 k) by pointwise [val_main_v122, val_main_v120, val_main_v121]).trans (congrArg Prod.snd (rp4 lr li ls k))
  | ⟨20, h⟩ => exact (show val_main_v122 (F := Ideal) lr li ls (ix2 ⟨20, h⟩ k) = val_main_v68 (F := Ideal) lr li ls (ix2 0 k) by pointwise [val_main_v122, val_main_v120, val_main_v121]).trans (congrArg Prod.snd (rp3 lr li ls k))
  | ⟨21, h⟩ => exact (show val_main_v122 (F := Ideal) lr li ls (ix2 ⟨21, h⟩ k) = val_main_v56 (F := Ideal) lr li ls (ix2 0 k) by pointwise [val_main_v122, val_main_v120, val_main_v121]).trans (congrArg Prod.snd (rp2 lr li ls k))
  | ⟨22, h⟩ => exact (show val_main_v122 (F := Ideal) lr li ls (ix2 ⟨22, h⟩ k) = val_main_v44 (F := Ideal) lr li ls (ix2 0 k) by pointwise [val_main_v122, val_main_v120, val_main_v121]).trans (congrArg Prod.snd (rp1 lr li ls k))
  | ⟨23, h⟩ => exact (show val_main_v122 (F := Ideal) lr li ls (ix2 ⟨23, h⟩ k) = val_main_v7 (F := Ideal) lr li ls (ix2 0 k) by pointwise [val_main_v122, val_main_v120, val_main_v121]).trans (congrArg Prod.snd (rp0 lr li ls k))
  | ⟨n + 24, h⟩ => exact absurd h (by omega)

theorem rRe : val_main_v27 (F := Ideal) lr li ls br bi = reArr lr li ls br bi := by
  funext y
  obtain ⟨h, k, rfl⟩ : ∃ (h : Fin 16) (k : Fin 4096), y = ix2 h k := ⟨y 0, y 1, eq_ix2 y⟩
  pointwise [val_main_v27, val_main_v26, val_main_v25, val_main_v24, val_main_v23]
  rw [rFr, rFi]
  rfl

theorem rIm : val_main_v32 (F := Ideal) lr li ls br bi = imArr lr li ls br bi := by
  funext y
  obtain ⟨h, k, rfl⟩ : ∃ (h : Fin 16) (k : Fin 4096), y = ix2 h k := ⟨y 0, y 1, eq_ix2 y⟩
  pointwise [val_main_v32, val_main_v31, val_main_v30, val_main_v29, val_main_v28]
  rw [rFr, rFi]
  rfl

end Reference

/-- The reference runs, keeps its arguments and leaves every counter at zero. -/
theorem frame_ri : Cert.quiescent_RefSsmParFwdIdeal := fun m ρ _ =>
  (θ_run Cert.RefSsmParFwdIdeal.defs _ _).mono (fun r h => ⟨fun c => (h c).2.2.2.2, sem_eq_zero_of_no_sems (by decide) r.2⟩)
    (Cert.RefSsmParFwdIdeal.Value.run (F := Ideal) m ρ)

theorem algebraic : Cert.algebraic_SsmParFwdIdeal_RefSsmParFwdIdeal := by
  intro m g m' g' _ hagree
  refine ⟨fun c => reArr (m ((c.tc : Thread Cert.SsmParFwdIdeal.nD Cert.SsmParFwdIdeal.τ).loc Cert.SsmParFwdIdeal.main_arg0)) (m ((c.tc : Thread Cert.SsmParFwdIdeal.nD Cert.SsmParFwdIdeal.τ).loc Cert.SsmParFwdIdeal.main_arg1)) (m ((c.tc : Thread Cert.SsmParFwdIdeal.nD Cert.SsmParFwdIdeal.τ).loc Cert.SsmParFwdIdeal.main_arg2)) (m ((c.tc : Thread Cert.SsmParFwdIdeal.nD Cert.SsmParFwdIdeal.τ).loc Cert.SsmParFwdIdeal.main_arg3)) (m ((c.tc : Thread Cert.SsmParFwdIdeal.nD Cert.SsmParFwdIdeal.τ).loc Cert.SsmParFwdIdeal.main_arg4)),
    fun c => imArr (m ((c.tc : Thread Cert.SsmParFwdIdeal.nD Cert.SsmParFwdIdeal.τ).loc Cert.SsmParFwdIdeal.main_arg0)) (m ((c.tc : Thread Cert.SsmParFwdIdeal.nD Cert.SsmParFwdIdeal.τ).loc Cert.SsmParFwdIdeal.main_arg1)) (m ((c.tc : Thread Cert.SsmParFwdIdeal.nD Cert.SsmParFwdIdeal.τ).loc Cert.SsmParFwdIdeal.main_arg2)) (m ((c.tc : Thread Cert.SsmParFwdIdeal.nD Cert.SsmParFwdIdeal.τ).loc Cert.SsmParFwdIdeal.main_arg3)) (m ((c.tc : Thread Cert.SsmParFwdIdeal.nD Cert.SsmParFwdIdeal.τ).loc Cert.SsmParFwdIdeal.main_arg4)),
    fun c => reTab (m ((c.tc : Thread Cert.SsmParFwdIdeal.nD Cert.SsmParFwdIdeal.τ).loc Cert.SsmParFwdIdeal.main_arg0)) (m ((c.tc : Thread Cert.SsmParFwdIdeal.nD Cert.SsmParFwdIdeal.τ).loc Cert.SsmParFwdIdeal.main_arg1)) (m ((c.tc : Thread Cert.SsmParFwdIdeal.nD Cert.SsmParFwdIdeal.τ).loc Cert.SsmParFwdIdeal.main_arg2)),
    fun c => imTab (m ((c.tc : Thread Cert.SsmParFwdIdeal.nD Cert.SsmParFwdIdeal.τ).loc Cert.SsmParFwdIdeal.main_arg0)) (m ((c.tc : Thread Cert.SsmParFwdIdeal.nD Cert.SsmParFwdIdeal.τ).loc Cert.SsmParFwdIdeal.main_arg1)) (m ((c.tc : Thread Cert.SsmParFwdIdeal.nD Cert.SsmParFwdIdeal.τ).loc Cert.SsmParFwdIdeal.main_arg2)), ?_, ?_⟩
  · exact (θ_run Cert.SsmParFwdIdeal.defs _ _).mono (fun _ h c => ⟨(h c).1.trans (final5 m c), (h c).2.1.trans (final6 m c), (h c).2.2.1.trans (final7 m c), (h c).2.2.2.1.trans (final8 m c), (h c).2.2.2.2⟩)
      (Cert.SsmParFwdIdeal.Value.run_blocks (F := Ideal) m g)
  · refine (θ_run Cert.RefSsmParFwdIdeal.defs _ _).mono (fun _ h c => ?_) (Cert.RefSsmParFwdIdeal.Value.run (F := Ideal) m' g')
    obtain ⟨h0, h1, h2, h3, h4⟩ := hagree c
    have e5 := rRe (m' ((c.tc : Thread Cert.RefSsmParFwdIdeal.nD Cert.RefSsmParFwdIdeal.τ).loc Cert.RefSsmParFwdIdeal.main_arg0)) (m' ((c.tc : Thread Cert.RefSsmParFwdIdeal.nD Cert.RefSsmParFwdIdeal.τ).loc Cert.RefSsmParFwdIdeal.main_arg1)) (m' ((c.tc : Thread Cert.RefSsmParFwdIdeal.nD Cert.RefSsmParFwdIdeal.τ).loc Cert.RefSsmParFwdIdeal.main_arg2)) (m' ((c.tc : Thread Cert.RefSsmParFwdIdeal.nD Cert.RefSsmParFwdIdeal.τ).loc Cert.RefSsmParFwdIdeal.main_arg3)) (m' ((c.tc : Thread Cert.RefSsmParFwdIdeal.nD Cert.RefSsmParFwdIdeal.τ).loc Cert.RefSsmParFwdIdeal.main_arg4))
    have e6 := rIm (m' ((c.tc : Thread Cert.RefSsmParFwdIdeal.nD Cert.RefSsmParFwdIdeal.τ).loc Cert.RefSsmParFwdIdeal.main_arg0)) (m' ((c.tc : Thread Cert.RefSsmParFwdIdeal.nD Cert.RefSsmParFwdIdeal.τ).loc Cert.RefSsmParFwdIdeal.main_arg1)) (m' ((c.tc : Thread Cert.RefSsmParFwdIdeal.nD Cert.RefSsmParFwdIdeal.τ).loc Cert.RefSsmParFwdIdeal.main_arg2)) (m' ((c.tc : Thread Cert.RefSsmParFwdIdeal.nD Cert.RefSsmParFwdIdeal.τ).loc Cert.RefSsmParFwdIdeal.main_arg3)) (m' ((c.tc : Thread Cert.RefSsmParFwdIdeal.nD Cert.RefSsmParFwdIdeal.τ).loc Cert.RefSsmParFwdIdeal.main_arg4))
    have e7 := rTab1 (m' ((c.tc : Thread Cert.RefSsmParFwdIdeal.nD Cert.RefSsmParFwdIdeal.τ).loc Cert.RefSsmParFwdIdeal.main_arg0)) (m' ((c.tc : Thread Cert.RefSsmParFwdIdeal.nD Cert.RefSsmParFwdIdeal.τ).loc Cert.RefSsmParFwdIdeal.main_arg1)) (m' ((c.tc : Thread Cert.RefSsmParFwdIdeal.nD Cert.RefSsmParFwdIdeal.τ).loc Cert.RefSsmParFwdIdeal.main_arg2))
    have e8 := rTab2 (m' ((c.tc : Thread Cert.RefSsmParFwdIdeal.nD Cert.RefSsmParFwdIdeal.τ).loc Cert.RefSsmParFwdIdeal.main_arg0)) (m' ((c.tc : Thread Cert.RefSsmParFwdIdeal.nD Cert.RefSsmParFwdIdeal.τ).loc Cert.RefSsmParFwdIdeal.main_arg1)) (m' ((c.tc : Thread Cert.RefSsmParFwdIdeal.nD Cert.RefSsmParFwdIdeal.τ).loc Cert.RefSsmParFwdIdeal.main_arg2))
    exact ⟨(h c).1.trans ((Cert.RefSsmParFwdIdeal.Read.val_main_v27_eq _).trans (e5.trans (by rw [h0, h1, h2, h3, h4]))),
      (h c).2.1.trans ((Cert.RefSsmParFwdIdeal.Read.val_main_v32_eq _).trans (e6.trans (by rw [h0, h1, h2, h3, h4]))),
      (h c).2.2.1.trans ((Cert.RefSsmParFwdIdeal.Read.val_main_v119_eq _).trans (e7.trans (by rw [h0, h1, h2]))),
      (h c).2.2.2.1.trans ((Cert.RefSsmParFwdIdeal.Read.val_main_v122_eq _).trans (e8.trans (by rw [h0, h1, h2]))), (h c).2.2.2.2⟩

end Cert.Ssm.ParFwd
-- ==== Proof.AdamSmall.lean ====
/- AdamW on the small weights: every entry is updated by itself, whatever the weight's shape. -/
module

public import proofs.«01_k».proof.Proof.Adam

@[expose] public section

noncomputable section

namespace Cert.Adam.Small

open Idealize.ShloMosaic

variable {s : Shape}

/-- The three results on arrays of one shape: the step and the two moments. -/
def deltaArr (w g a v : FVec Ideal s .f32) : FVec Ideal s .f32 := fun i => delta (w i) (g i) (a i) (v i)
def momArr (g a : FVec Ideal s .f32) : FVec Ideal s .f32 := fun i => mom (a i) (g i)
def sqmArr (g v : FVec Ideal s .f32) : FVec Ideal s .f32 := fun i => sqm (v i) (g i)

end Cert.Adam.Small
-- ==== Proof.AdamSmallA.lean ====
/- AdamW on three of the small weights, one by one. -/
module

public import proofs.«01_k».proof.Defs
public import proofs.«01_k».proof.Proof.AdamSmall
public import proofs.«01_k».proof.Proof.Gen.AdamSmallAIdeal.Frame
public import proofs.«01_k».proof.Proof.Gen.AdamSmallAIdeal.Value
public import proofs.«01_k».proof.Proof.Gen.RefAdamSmallAIdeal.Run
public import proofs.«01_k».proof.Proof.Gen.RefAdamSmallAIdeal.Read
public import Idealize.ShloMosaic.Adequacy

@[expose] public section

noncomputable section

namespace Cert.Adam.SmallA

open Idealize.ShloMosaic Idealize.ShloMosaic.TcCoe Idealize.SL.Sem Cert.Adam.Small

set_option maxRecDepth 16384

/-- The shapes of the three weights. -/
abbrev Arr0 := FVec Ideal ⟨2, ![2, 12288]⟩ .f32
abbrev Arr1 := FVec Ideal ⟨2, ![2, 2048]⟩ .f32
abbrev Arr2 := FVec Ideal ⟨2, ![2, 2048]⟩ .f32

section Kernel

open Cert.AdamSmallAIdeal Cert.AdamSmallAIdeal.Value

theorem kDelta0 (w g a v : Arr0) : G12 (F := Ideal) g a v w = deltaArr w g a v := rfl
theorem kMom0 (g a : Arr0) : G15 (F := Ideal) g a = momArr g a := rfl
theorem kSqm0 (g v : Arr0) : G18 (F := Ideal) g v = sqmArr g v := rfl
theorem kDelta1 (w g a v : Arr1) : G13 (F := Ideal) g a v w = deltaArr w g a v := rfl
theorem kMom1 (g a : Arr1) : G16 (F := Ideal) g a = momArr g a := rfl
theorem kSqm1 (g v : Arr1) : G19 (F := Ideal) g v = sqmArr g v := rfl
theorem kDelta2 (w g a v : Arr2) : G14 (F := Ideal) g a v w = deltaArr w g a v := rfl
theorem kMom2 (g a : Arr2) : G17 (F := Ideal) g a = momArr g a := rfl
theorem kSqm2 (g v : Arr2) : G20 (F := Ideal) g v = sqmArr g v := rfl

end Kernel

section Reference

open Cert.RefAdamSmallAIdeal Cert.RefAdamSmallAIdeal.Read

theorem rMom0 (g a : Arr0) : val_main_v4 (F := Ideal) g a = momArr g a := rfl
theorem rSqm0 (g v : Arr0) : val_main_v10 (F := Ideal) g v = sqmArr g v := rfl
theorem rDelta0 (w g a v : Arr0) : val_main_v23 (F := Ideal) w g a v = deltaArr w g a v := by
  funext i
  rw [deltaArr, delta, ← div_c1, ← div_c2]
  rfl
theorem rMom1 (g a : Arr1) : val_main_v28 (F := Ideal) g a = momArr g a := rfl
theorem rSqm1 (g v : Arr1) : val_main_v34 (F := Ideal) g v = sqmArr g v := rfl
theorem rDelta1 (w g a v : Arr1) : val_main_v47 (F := Ideal) w g a v = deltaArr w g a v := by
  funext i
  rw [deltaArr, delta, ← div_c1, ← div_c2]
  rfl
theorem rMom2 (g a : Arr2) : val_main_v52 (F := Ideal) g a = momArr g a := rfl
theorem rSqm2 (g v : Arr2) : val_main_v58 (F := Ideal) g v = sqmArr g v := rfl
theorem rDelta2 (w g a v : Arr2) : val_main_v71 (F := Ideal) w g a v = deltaArr w g a v := by
  funext i
  rw [deltaArr, delta, ← div_c1, ← div_c2]
  rfl

end Reference

/-- The reference runs, keeps its arguments and leaves every counter at zero. -/
theorem frame_ri : Cert.quiescent_RefAdamSmallAIdeal := fun m ρ _ =>
  (θ_run Cert.RefAdamSmallAIdeal.defs _ _).mono (fun r h => ⟨fun c => (h c).2.2.2.2.2.2.2.2.2, sem_eq_zero_of_no_sems (by decide) r.2⟩)
    (Cert.RefAdamSmallAIdeal.Value.run (F := Ideal) m ρ)

/-- The two named constants read as the reciprocals that their names stand for. -/
theorem preserves : Cert.preserves_AdamSmallA_AdamSmallAIdeal :=
  ⟨IdealRules.named_const.statement Cert.AdamSmallAIdeal.κ "adam_c1" .f32 0x3FC48605#32 ((8388608 / 5463681 : ℝ) : EReal) rfl,
    IdealRules.named_const.statement Cert.AdamSmallAIdeal.κ "adam_c2" .f32 0x42C8E6D3#32 ((268435456 / 2672307 : ℝ) : EReal) rfl⟩

theorem algebraic : Cert.algebraic_AdamSmallAIdeal_RefAdamSmallAIdeal := by
  intro m ρ m' ρ' _ hagree
  refine ⟨fun c => deltaArr (m ((c.tc : Thread Cert.AdamSmallAIdeal.nD Cert.AdamSmallAIdeal.τ).loc Cert.AdamSmallAIdeal.main_arg0)) (m ((c.tc : Thread Cert.AdamSmallAIdeal.nD Cert.AdamSmallAIdeal.τ).loc Cert.AdamSmallAIdeal.main_arg3)) (m ((c.tc : Thread Cert.AdamSmallAIdeal.nD Cert.AdamSmallAIdeal.τ).loc Cert.AdamSmallAIdeal.main_arg6)) (m ((c.tc : Thread Cert.AdamSmallAIdeal.nD Cert.AdamSmallAIdeal.τ).loc Cert.AdamSmallAIdeal.main_arg9)),
    fun c => deltaArr (m ((c.tc : Thread Cert.AdamSmallAIdeal.nD Cert.AdamSmallAIdeal.τ).loc Cert.AdamSmallAIdeal.main_arg1)) (m ((c.tc : Thread Cert.AdamSmallAIdeal.nD Cert.AdamSmallAIdeal.τ).loc Cert.AdamSmallAIdeal.main_arg4)) (m ((c.tc : Thread Cert.AdamSmallAIdeal.nD Cert.AdamSmallAIdeal.τ).loc Cert.AdamSmallAIdeal.main_arg7)) (m ((c.tc : Thread Cert.AdamSmallAIdeal.nD Cert.AdamSmallAIdeal.τ).loc Cert.AdamSmallAIdeal.main_arg10)),
    fun c => deltaArr (m ((c.tc : Thread Cert.AdamSmallAIdeal.nD Cert.AdamSmallAIdeal.τ).loc Cert.AdamSmallAIdeal.main_arg2)) (m ((c.tc : Thread Cert.AdamSmallAIdeal.nD Cert.AdamSmallAIdeal.τ).loc Cert.AdamSmallAIdeal.main_arg5)) (m ((c.tc : Thread Cert.AdamSmallAIdeal.nD Cert.AdamSmallAIdeal.τ).loc Cert.AdamSmallAIdeal.main_arg8)) (m ((c.tc : Thread Cert.AdamSmallAIdeal.nD Cert.AdamSmallAIdeal.τ).loc Cert.AdamSmallAIdeal.main_arg11)),
    fun c => momArr (m ((c.tc : Thread Cert.AdamSmallAIdeal.nD Cert.AdamSmallAIdeal.τ).loc Cert.AdamSmallAIdeal.main_arg3)) (m ((c.tc : Thread Cert.AdamSmallAIdeal.nD Cert.AdamSmallAIdeal.τ).loc Cert.AdamSmallAIdeal.main_arg6)),
    fun c => momArr (m ((c.tc : Thread Cert.AdamSmallAIdeal.nD Cert.AdamSmallAIdeal.τ).loc Cert.AdamSmallAIdeal.main_arg4)) (m ((c.tc : Thread Cert.AdamSmallAIdeal.nD Cert.AdamSmallAIdeal.τ).loc Cert.AdamSmallAIdeal.main_arg7)),
    fun c => momArr (m ((c.tc : Thread Cert.AdamSmallAIdeal.nD Cert.AdamSmallAIdeal.τ).loc Cert.AdamSmallAIdeal.main_arg5)) (m ((c.tc : Thread Cert.AdamSmallAIdeal.nD Cert.AdamSmallAIdeal.τ).loc Cert.AdamSmallAIdeal.main_arg8)),
    fun c => sqmArr (m ((c.tc : Thread Cert.AdamSmallAIdeal.nD Cert.AdamSmallAIdeal.τ).loc Cert.AdamSmallAIdeal.main_arg3)) (m ((c.tc : Thread Cert.AdamSmallAIdeal.nD Cert.AdamSmallAIdeal.τ).loc Cert.AdamSmallAIdeal.main_arg9)),
    fun c => sqmArr (m ((c.tc : Thread Cert.AdamSmallAIdeal.nD Cert.AdamSmallAIdeal.τ).loc Cert.AdamSmallAIdeal.main_arg4)) (m ((c.tc : Thread Cert.AdamSmallAIdeal.nD Cert.AdamSmallAIdeal.τ).loc Cert.AdamSmallAIdeal.main_arg10)),
    fun c => sqmArr (m ((c.tc : Thread Cert.AdamSmallAIdeal.nD Cert.AdamSmallAIdeal.τ).loc Cert.AdamSmallAIdeal.main_arg5)) (m ((c.tc : Thread Cert.AdamSmallAIdeal.nD Cert.AdamSmallAIdeal.τ).loc Cert.AdamSmallAIdeal.main_arg11)), ?_, ?_⟩
  · exact (θ_run Cert.AdamSmallAIdeal.defs _ _).mono (fun _ h c => ⟨(h c).1.trans (kDelta0 _ _ _ _),
      (h c).2.1.trans (kDelta1 _ _ _ _),
      (h c).2.2.1.trans (kDelta2 _ _ _ _),
      (h c).2.2.2.1.trans (kMom0 _ _),
      (h c).2.2.2.2.1.trans (kMom1 _ _),
      (h c).2.2.2.2.2.1.trans (kMom2 _ _),
      (h c).2.2.2.2.2.2.1.trans (kSqm0 _ _),
      (h c).2.2.2.2.2.2.2.1.trans (kSqm1 _ _),
      (h c).2.2.2.2.2.2.2.2.1.trans (kSqm2 _ _), (h c).2.2.2.2.2.2.2.2.2⟩)
      (Cert.AdamSmallAIdeal.Value.run (F := Ideal) m ρ)
  · refine (θ_run Cert.RefAdamSmallAIdeal.defs _ _).mono (fun _ h c => ?_) (Cert.RefAdamSmallAIdeal.Value.run (F := Ideal) m' ρ')
    obtain ⟨h0, h1, h2, h3, h4, h5, h6, h7, h8, h9, h10, h11⟩ := hagree c
    have e0 := rDelta0 (m' ((c.tc : Thread Cert.RefAdamSmallAIdeal.nD Cert.RefAdamSmallAIdeal.τ).loc Cert.RefAdamSmallAIdeal.main_arg0)) (m' ((c.tc : Thread Cert.RefAdamSmallAIdeal.nD Cert.RefAdamSmallAIdeal.τ).loc Cert.RefAdamSmallAIdeal.main_arg3)) (m' ((c.tc : Thread Cert.RefAdamSmallAIdeal.nD Cert.RefAdamSmallAIdeal.τ).loc Cert.RefAdamSmallAIdeal.main_arg6)) (m' ((c.tc : Thread Cert.RefAdamSmallAIdeal.nD Cert.RefAdamSmallAIdeal.τ).loc Cert.RefAdamSmallAIdeal.main_arg9))
    have e1 := rDelta1 (m' ((c.tc : Thread Cert.RefAdamSmallAIdeal.nD Cert.RefAdamSmallAIdeal.τ).loc Cert.RefAdamSmallAIdeal.main_arg1)) (m' ((c.tc : Thread Cert.RefAdamSmallAIdeal.nD Cert.RefAdamSmallAIdeal.τ).loc Cert.RefAdamSmallAIdeal.main_arg4)) (m' ((c.tc : Thread Cert.RefAdamSmallAIdeal.nD Cert.RefAdamSmallAIdeal.τ).loc Cert.RefAdamSmallAIdeal.main_arg7)) (m' ((c.tc : Thread Cert.RefAdamSmallAIdeal.nD Cert.RefAdamSmallAIdeal.τ).loc Cert.RefAdamSmallAIdeal.main_arg10))
    have e2 := rDelta2 (m' ((c.tc : Thread Cert.RefAdamSmallAIdeal.nD Cert.RefAdamSmallAIdeal.τ).loc Cert.RefAdamSmallAIdeal.main_arg2)) (m' ((c.tc : Thread Cert.RefAdamSmallAIdeal.nD Cert.RefAdamSmallAIdeal.τ).loc Cert.RefAdamSmallAIdeal.main_arg5)) (m' ((c.tc : Thread Cert.RefAdamSmallAIdeal.nD Cert.RefAdamSmallAIdeal.τ).loc Cert.RefAdamSmallAIdeal.main_arg8)) (m' ((c.tc : Thread Cert.RefAdamSmallAIdeal.nD Cert.RefAdamSmallAIdeal.τ).loc Cert.RefAdamSmallAIdeal.main_arg11))
    have e3 := rMom0 (m' ((c.tc : Thread Cert.RefAdamSmallAIdeal.nD Cert.RefAdamSmallAIdeal.τ).loc Cert.RefAdamSmallAIdeal.main_arg3)) (m' ((c.tc : Thread Cert.RefAdamSmallAIdeal.nD Cert.RefAdamSmallAIdeal.τ).loc Cert.RefAdamSmallAIdeal.main_arg6))
    have e4 := rMom1 (m' ((c.tc : Thread Cert.RefAdamSmallAIdeal.nD Cert.RefAdamSmallAIdeal.τ).loc Cert.RefAdamSmallAIdeal.main_arg4)) (m' ((c.tc : Thread Cert.RefAdamSmallAIdeal.nD Cert.RefAdamSmallAIdeal.τ).loc Cert.RefAdamSmallAIdeal.main_arg7))
    have e5 := rMom2 (m' ((c.tc : Thread Cert.RefAdamSmallAIdeal.nD Cert.RefAdamSmallAIdeal.τ).loc Cert.RefAdamSmallAIdeal.main_arg5)) (m' ((c.tc : Thread Cert.RefAdamSmallAIdeal.nD Cert.RefAdamSmallAIdeal.τ).loc Cert.RefAdamSmallAIdeal.main_arg8))
    have e6 := rSqm0 (m' ((c.tc : Thread Cert.RefAdamSmallAIdeal.nD Cert.RefAdamSmallAIdeal.τ).loc Cert.RefAdamSmallAIdeal.main_arg3)) (m' ((c.tc : Thread Cert.RefAdamSmallAIdeal.nD Cert.RefAdamSmallAIdeal.τ).loc Cert.RefAdamSmallAIdeal.main_arg9))
    have e7 := rSqm1 (m' ((c.tc : Thread Cert.RefAdamSmallAIdeal.nD Cert.RefAdamSmallAIdeal.τ).loc Cert.RefAdamSmallAIdeal.main_arg4)) (m' ((c.tc : Thread Cert.RefAdamSmallAIdeal.nD Cert.RefAdamSmallAIdeal.τ).loc Cert.RefAdamSmallAIdeal.main_arg10))
    have e8 := rSqm2 (m' ((c.tc : Thread Cert.RefAdamSmallAIdeal.nD Cert.RefAdamSmallAIdeal.τ).loc Cert.RefAdamSmallAIdeal.main_arg5)) (m' ((c.tc : Thread Cert.RefAdamSmallAIdeal.nD Cert.RefAdamSmallAIdeal.τ).loc Cert.RefAdamSmallAIdeal.main_arg11))
    exact ⟨(h c).1.trans ((Cert.RefAdamSmallAIdeal.Read.val_main_v23_eq _ _ _ _).trans (e0.trans (by rw [h0, h3, h6, h9]))),
      (h c).2.1.trans ((Cert.RefAdamSmallAIdeal.Read.val_main_v47_eq _ _ _ _).trans (e1.trans (by rw [h1, h4, h7, h10]))),
      (h c).2.2.1.trans ((Cert.RefAdamSmallAIdeal.Read.val_main_v71_eq _ _ _ _).trans (e2.trans (by rw [h2, h5, h8, h11]))),
      (h c).2.2.2.1.trans ((Cert.RefAdamSmallAIdeal.Read.val_main_v4_eq _ _).trans (e3.trans (by rw [h3, h6]))),
      (h c).2.2.2.2.1.trans ((Cert.RefAdamSmallAIdeal.Read.val_main_v28_eq _ _).trans (e4.trans (by rw [h4, h7]))),
      (h c).2.2.2.2.2.1.trans ((Cert.RefAdamSmallAIdeal.Read.val_main_v52_eq _ _).trans (e5.trans (by rw [h5, h8]))),
      (h c).2.2.2.2.2.2.1.trans ((Cert.RefAdamSmallAIdeal.Read.val_main_v10_eq _ _).trans (e6.trans (by rw [h3, h9]))),
      (h c).2.2.2.2.2.2.2.1.trans ((Cert.RefAdamSmallAIdeal.Read.val_main_v34_eq _ _).trans (e7.trans (by rw [h4, h10]))),
      (h c).2.2.2.2.2.2.2.2.1.trans ((Cert.RefAdamSmallAIdeal.Read.val_main_v58_eq _ _).trans (e8.trans (by rw [h5, h11]))), (h c).2.2.2.2.2.2.2.2.2⟩

end Cert.Adam.SmallA
-- ==== Proof.AdamSmallB.lean ====
/- AdamW on three of the small weights, one by one. -/
module

public import proofs.«01_k».proof.Defs
public import proofs.«01_k».proof.Proof.AdamSmall
public import proofs.«01_k».proof.Proof.Gen.AdamSmallBIdeal.Frame
public import proofs.«01_k».proof.Proof.Gen.AdamSmallBIdeal.Value
public import proofs.«01_k».proof.Proof.Gen.RefAdamSmallBIdeal.Run
public import proofs.«01_k».proof.Proof.Gen.RefAdamSmallBIdeal.Read
public import Idealize.ShloMosaic.Adequacy

@[expose] public section

noncomputable section

namespace Cert.Adam.SmallB

open Idealize.ShloMosaic Idealize.ShloMosaic.TcCoe Idealize.SL.Sem Cert.Adam.Small

set_option maxRecDepth 16384

/-- The shapes of the three weights. -/
abbrev Arr0 := FVec Ideal ⟨2, ![2, 16]⟩ .f32
abbrev Arr1 := FVec Ideal ⟨2, ![8, 1024]⟩ .f32
abbrev Arr2 := FVec Ideal ⟨2, ![8, 1024]⟩ .f32

section Kernel

open Cert.AdamSmallBIdeal Cert.AdamSmallBIdeal.Value

theorem kDelta0 (w g a v : Arr0) : G12 (F := Ideal) g a v w = deltaArr w g a v := rfl
theorem kMom0 (g a : Arr0) : G15 (F := Ideal) g a = momArr g a := rfl
theorem kSqm0 (g v : Arr0) : G18 (F := Ideal) g v = sqmArr g v := rfl
theorem kDelta1 (w g a v : Arr1) : G13 (F := Ideal) g a v w = deltaArr w g a v := rfl
theorem kMom1 (g a : Arr1) : G16 (F := Ideal) g a = momArr g a := rfl
theorem kSqm1 (g v : Arr1) : G19 (F := Ideal) g v = sqmArr g v := rfl
theorem kDelta2 (w g a v : Arr2) : G14 (F := Ideal) g a v w = deltaArr w g a v := rfl
theorem kMom2 (g a : Arr2) : G17 (F := Ideal) g a = momArr g a := rfl
theorem kSqm2 (g v : Arr2) : G20 (F := Ideal) g v = sqmArr g v := rfl

end Kernel

section Reference

open Cert.RefAdamSmallBIdeal Cert.RefAdamSmallBIdeal.Read

theorem rMom0 (g a : Arr0) : val_main_v4 (F := Ideal) g a = momArr g a := rfl
theorem rSqm0 (g v : Arr0) : val_main_v10 (F := Ideal) g v = sqmArr g v := rfl
theorem rDelta0 (w g a v : Arr0) : val_main_v23 (F := Ideal) w g a v = deltaArr w g a v := by
  funext i
  rw [deltaArr, delta, ← div_c1, ← div_c2]
  rfl
theorem rMom1 (g a : Arr1) : val_main_v28 (F := Ideal) g a = momArr g a := rfl
theorem rSqm1 (g v : Arr1) : val_main_v34 (F := Ideal) g v = sqmArr g v := rfl
theorem rDelta1 (w g a v : Arr1) : val_main_v47 (F := Ideal) w g a v = deltaArr w g a v := by
  funext i
  rw [deltaArr, delta, ← div_c1, ← div_c2]
  rfl
theorem rMom2 (g a : Arr2) : val_main_v52 (F := Ideal) g a = momArr g a := rfl
theorem rSqm2 (g v : Arr2) : val_main_v58 (F := Ideal) g v = sqmArr g v := rfl
theorem rDelta2 (w g a v : Arr2) : val_main_v71 (F := Ideal) w g a v = deltaArr w g a v := by
  funext i
  rw [deltaArr, delta, ← div_c1, ← div_c2]
  rfl

end Reference

/-- The reference runs, keeps its arguments and leaves every counter at zero. -/
theorem frame_ri : Cert.quiescent_RefAdamSmallBIdeal := fun m ρ _ =>
  (θ_run Cert.RefAdamSmallBIdeal.defs _ _).mono (fun r h => ⟨fun c => (h c).2.2.2.2.2.2.2.2.2, sem_eq_zero_of_no_sems (by decide) r.2⟩)
    (Cert.RefAdamSmallBIdeal.Value.run (F := Ideal) m ρ)

/-- The two named constants read as the reciprocals that their names stand for. -/
theorem preserves : Cert.preserves_AdamSmallB_AdamSmallBIdeal :=
  ⟨IdealRules.named_const.statement Cert.AdamSmallBIdeal.κ "adam_c1" .f32 0x3FC48605#32 ((8388608 / 5463681 : ℝ) : EReal) rfl,
    IdealRules.named_const.statement Cert.AdamSmallBIdeal.κ "adam_c2" .f32 0x42C8E6D3#32 ((268435456 / 2672307 : ℝ) : EReal) rfl⟩

theorem algebraic : Cert.algebraic_AdamSmallBIdeal_RefAdamSmallBIdeal := by
  intro m ρ m' ρ' _ hagree
  refine ⟨fun c => deltaArr (m ((c.tc : Thread Cert.AdamSmallBIdeal.nD Cert.AdamSmallBIdeal.τ).loc Cert.AdamSmallBIdeal.main_arg0)) (m ((c.tc : Thread Cert.AdamSmallBIdeal.nD Cert.AdamSmallBIdeal.τ).loc Cert.AdamSmallBIdeal.main_arg3)) (m ((c.tc : Thread Cert.AdamSmallBIdeal.nD Cert.AdamSmallBIdeal.τ).loc Cert.AdamSmallBIdeal.main_arg6)) (m ((c.tc : Thread Cert.AdamSmallBIdeal.nD Cert.AdamSmallBIdeal.τ).loc Cert.AdamSmallBIdeal.main_arg9)),
    fun c => deltaArr (m ((c.tc : Thread Cert.AdamSmallBIdeal.nD Cert.AdamSmallBIdeal.τ).loc Cert.AdamSmallBIdeal.main_arg1)) (m ((c.tc : Thread Cert.AdamSmallBIdeal.nD Cert.AdamSmallBIdeal.τ).loc Cert.AdamSmallBIdeal.main_arg4)) (m ((c.tc : Thread Cert.AdamSmallBIdeal.nD Cert.AdamSmallBIdeal.τ).loc Cert.AdamSmallBIdeal.main_arg7)) (m ((c.tc : Thread Cert.AdamSmallBIdeal.nD Cert.AdamSmallBIdeal.τ).loc Cert.AdamSmallBIdeal.main_arg10)),
    fun c => deltaArr (m ((c.tc : Thread Cert.AdamSmallBIdeal.nD Cert.AdamSmallBIdeal.τ).loc Cert.AdamSmallBIdeal.main_arg2)) (m ((c.tc : Thread Cert.AdamSmallBIdeal.nD Cert.AdamSmallBIdeal.τ).loc Cert.AdamSmallBIdeal.main_arg5)) (m ((c.tc : Thread Cert.AdamSmallBIdeal.nD Cert.AdamSmallBIdeal.τ).loc Cert.AdamSmallBIdeal.main_arg8)) (m ((c.tc : Thread Cert.AdamSmallBIdeal.nD Cert.AdamSmallBIdeal.τ).loc Cert.AdamSmallBIdeal.main_arg11)),
    fun c => momArr (m ((c.tc : Thread Cert.AdamSmallBIdeal.nD Cert.AdamSmallBIdeal.τ).loc Cert.AdamSmallBIdeal.main_arg3)) (m ((c.tc : Thread Cert.AdamSmallBIdeal.nD Cert.AdamSmallBIdeal.τ).loc Cert.AdamSmallBIdeal.main_arg6)),
    fun c => momArr (m ((c.tc : Thread Cert.AdamSmallBIdeal.nD Cert.AdamSmallBIdeal.τ).loc Cert.AdamSmallBIdeal.main_arg4)) (m ((c.tc : Thread Cert.AdamSmallBIdeal.nD Cert.AdamSmallBIdeal.τ).loc Cert.AdamSmallBIdeal.main_arg7)),
    fun c => momArr (m ((c.tc : Thread Cert.AdamSmallBIdeal.nD Cert.AdamSmallBIdeal.τ).loc Cert.AdamSmallBIdeal.main_arg5)) (m ((c.tc : Thread Cert.AdamSmallBIdeal.nD Cert.AdamSmallBIdeal.τ).loc Cert.AdamSmallBIdeal.main_arg8)),
    fun c => sqmArr (m ((c.tc : Thread Cert.AdamSmallBIdeal.nD Cert.AdamSmallBIdeal.τ).loc Cert.AdamSmallBIdeal.main_arg3)) (m ((c.tc : Thread Cert.AdamSmallBIdeal.nD Cert.AdamSmallBIdeal.τ).loc Cert.AdamSmallBIdeal.main_arg9)),
    fun c => sqmArr (m ((c.tc : Thread Cert.AdamSmallBIdeal.nD Cert.AdamSmallBIdeal.τ).loc Cert.AdamSmallBIdeal.main_arg4)) (m ((c.tc : Thread Cert.AdamSmallBIdeal.nD Cert.AdamSmallBIdeal.τ).loc Cert.AdamSmallBIdeal.main_arg10)),
    fun c => sqmArr (m ((c.tc : Thread Cert.AdamSmallBIdeal.nD Cert.AdamSmallBIdeal.τ).loc Cert.AdamSmallBIdeal.main_arg5)) (m ((c.tc : Thread Cert.AdamSmallBIdeal.nD Cert.AdamSmallBIdeal.τ).loc Cert.AdamSmallBIdeal.main_arg11)), ?_, ?_⟩
  · exact (θ_run Cert.AdamSmallBIdeal.defs _ _).mono (fun _ h c => ⟨(h c).1.trans (kDelta0 _ _ _ _),
      (h c).2.1.trans (kDelta1 _ _ _ _),
      (h c).2.2.1.trans (kDelta2 _ _ _ _),
      (h c).2.2.2.1.trans (kMom0 _ _),
      (h c).2.2.2.2.1.trans (kMom1 _ _),
      (h c).2.2.2.2.2.1.trans (kMom2 _ _),
      (h c).2.2.2.2.2.2.1.trans (kSqm0 _ _),
      (h c).2.2.2.2.2.2.2.1.trans (kSqm1 _ _),
      (h c).2.2.2.2.2.2.2.2.1.trans (kSqm2 _ _), (h c).2.2.2.2.2.2.2.2.2⟩)
      (Cert.AdamSmallBIdeal.Value.run (F := Ideal) m ρ)
  · refine (θ_run Cert.RefAdamSmallBIdeal.defs _ _).mono (fun _ h c => ?_) (Cert.RefAdamSmallBIdeal.Value.run (F := Ideal) m' ρ')
    obtain ⟨h0, h1, h2, h3, h4, h5, h6, h7, h8, h9, h10, h11⟩ := hagree c
    have e0 := rDelta0 (m' ((c.tc : Thread Cert.RefAdamSmallBIdeal.nD Cert.RefAdamSmallBIdeal.τ).loc Cert.RefAdamSmallBIdeal.main_arg0)) (m' ((c.tc : Thread Cert.RefAdamSmallBIdeal.nD Cert.RefAdamSmallBIdeal.τ).loc Cert.RefAdamSmallBIdeal.main_arg3)) (m' ((c.tc : Thread Cert.RefAdamSmallBIdeal.nD Cert.RefAdamSmallBIdeal.τ).loc Cert.RefAdamSmallBIdeal.main_arg6)) (m' ((c.tc : Thread Cert.RefAdamSmallBIdeal.nD Cert.RefAdamSmallBIdeal.τ).loc Cert.RefAdamSmallBIdeal.main_arg9))
    have e1 := rDelta1 (m' ((c.tc : Thread Cert.RefAdamSmallBIdeal.nD Cert.RefAdamSmallBIdeal.τ).loc Cert.RefAdamSmallBIdeal.main_arg1)) (m' ((c.tc : Thread Cert.RefAdamSmallBIdeal.nD Cert.RefAdamSmallBIdeal.τ).loc Cert.RefAdamSmallBIdeal.main_arg4)) (m' ((c.tc : Thread Cert.RefAdamSmallBIdeal.nD Cert.RefAdamSmallBIdeal.τ).loc Cert.RefAdamSmallBIdeal.main_arg7)) (m' ((c.tc : Thread Cert.RefAdamSmallBIdeal.nD Cert.RefAdamSmallBIdeal.τ).loc Cert.RefAdamSmallBIdeal.main_arg10))
    have e2 := rDelta2 (m' ((c.tc : Thread Cert.RefAdamSmallBIdeal.nD Cert.RefAdamSmallBIdeal.τ).loc Cert.RefAdamSmallBIdeal.main_arg2)) (m' ((c.tc : Thread Cert.RefAdamSmallBIdeal.nD Cert.RefAdamSmallBIdeal.τ).loc Cert.RefAdamSmallBIdeal.main_arg5)) (m' ((c.tc : Thread Cert.RefAdamSmallBIdeal.nD Cert.RefAdamSmallBIdeal.τ).loc Cert.RefAdamSmallBIdeal.main_arg8)) (m' ((c.tc : Thread Cert.RefAdamSmallBIdeal.nD Cert.RefAdamSmallBIdeal.τ).loc Cert.RefAdamSmallBIdeal.main_arg11))
    have e3 := rMom0 (m' ((c.tc : Thread Cert.RefAdamSmallBIdeal.nD Cert.RefAdamSmallBIdeal.τ).loc Cert.RefAdamSmallBIdeal.main_arg3)) (m' ((c.tc : Thread Cert.RefAdamSmallBIdeal.nD Cert.RefAdamSmallBIdeal.τ).loc Cert.RefAdamSmallBIdeal.main_arg6))
    have e4 := rMom1 (m' ((c.tc : Thread Cert.RefAdamSmallBIdeal.nD Cert.RefAdamSmallBIdeal.τ).loc Cert.RefAdamSmallBIdeal.main_arg4)) (m' ((c.tc : Thread Cert.RefAdamSmallBIdeal.nD Cert.RefAdamSmallBIdeal.τ).loc Cert.RefAdamSmallBIdeal.main_arg7))
    have e5 := rMom2 (m' ((c.tc : Thread Cert.RefAdamSmallBIdeal.nD Cert.RefAdamSmallBIdeal.τ).loc Cert.RefAdamSmallBIdeal.main_arg5)) (m' ((c.tc : Thread Cert.RefAdamSmallBIdeal.nD Cert.RefAdamSmallBIdeal.τ).loc Cert.RefAdamSmallBIdeal.main_arg8))
    have e6 := rSqm0 (m' ((c.tc : Thread Cert.RefAdamSmallBIdeal.nD Cert.RefAdamSmallBIdeal.τ).loc Cert.RefAdamSmallBIdeal.main_arg3)) (m' ((c.tc : Thread Cert.RefAdamSmallBIdeal.nD Cert.RefAdamSmallBIdeal.τ).loc Cert.RefAdamSmallBIdeal.main_arg9))
    have e7 := rSqm1 (m' ((c.tc : Thread Cert.RefAdamSmallBIdeal.nD Cert.RefAdamSmallBIdeal.τ).loc Cert.RefAdamSmallBIdeal.main_arg4)) (m' ((c.tc : Thread Cert.RefAdamSmallBIdeal.nD Cert.RefAdamSmallBIdeal.τ).loc Cert.RefAdamSmallBIdeal.main_arg10))
    have e8 := rSqm2 (m' ((c.tc : Thread Cert.RefAdamSmallBIdeal.nD Cert.RefAdamSmallBIdeal.τ).loc Cert.RefAdamSmallBIdeal.main_arg5)) (m' ((c.tc : Thread Cert.RefAdamSmallBIdeal.nD Cert.RefAdamSmallBIdeal.τ).loc Cert.RefAdamSmallBIdeal.main_arg11))
    exact ⟨(h c).1.trans ((Cert.RefAdamSmallBIdeal.Read.val_main_v23_eq _ _ _ _).trans (e0.trans (by rw [h0, h3, h6, h9]))),
      (h c).2.1.trans ((Cert.RefAdamSmallBIdeal.Read.val_main_v47_eq _ _ _ _).trans (e1.trans (by rw [h1, h4, h7, h10]))),
      (h c).2.2.1.trans ((Cert.RefAdamSmallBIdeal.Read.val_main_v71_eq _ _ _ _).trans (e2.trans (by rw [h2, h5, h8, h11]))),
      (h c).2.2.2.1.trans ((Cert.RefAdamSmallBIdeal.Read.val_main_v4_eq _ _).trans (e3.trans (by rw [h3, h6]))),
      (h c).2.2.2.2.1.trans ((Cert.RefAdamSmallBIdeal.Read.val_main_v28_eq _ _).trans (e4.trans (by rw [h4, h7]))),
      (h c).2.2.2.2.2.1.trans ((Cert.RefAdamSmallBIdeal.Read.val_main_v52_eq _ _).trans (e5.trans (by rw [h5, h8]))),
      (h c).2.2.2.2.2.2.1.trans ((Cert.RefAdamSmallBIdeal.Read.val_main_v10_eq _ _).trans (e6.trans (by rw [h3, h9]))),
      (h c).2.2.2.2.2.2.2.1.trans ((Cert.RefAdamSmallBIdeal.Read.val_main_v34_eq _ _).trans (e7.trans (by rw [h4, h10]))),
      (h c).2.2.2.2.2.2.2.2.1.trans ((Cert.RefAdamSmallBIdeal.Read.val_main_v58_eq _ _).trans (e8.trans (by rw [h5, h11]))), (h c).2.2.2.2.2.2.2.2.2⟩

end Cert.Adam.SmallB
-- ==== Proof.AdamSmallC.lean ====
/- AdamW on three of the small weights, one by one. -/
module

public import proofs.«01_k».proof.Defs
public import proofs.«01_k».proof.Proof.AdamSmall
public import proofs.«01_k».proof.Proof.Gen.AdamSmallCIdeal.Frame
public import proofs.«01_k».proof.Proof.Gen.AdamSmallCIdeal.Value
public import proofs.«01_k».proof.Proof.Gen.RefAdamSmallCIdeal.Run
public import proofs.«01_k».proof.Proof.Gen.RefAdamSmallCIdeal.Read
public import Idealize.ShloMosaic.Adequacy

@[expose] public section

noncomputable section

namespace Cert.Adam.SmallC

open Idealize.ShloMosaic Idealize.ShloMosaic.TcCoe Idealize.SL.Sem Cert.Adam.Small

set_option maxRecDepth 16384

/-- The shapes of the three weights. -/
abbrev Arr0 := FVec Ideal ⟨2, ![2, 64]⟩ .f32
abbrev Arr1 := FVec Ideal ⟨2, ![128, 1024]⟩ .f32
abbrev Arr2 := FVec Ideal ⟨2, ![128, 1024]⟩ .f32

section Kernel

open Cert.AdamSmallCIdeal Cert.AdamSmallCIdeal.Value

theorem kDelta0 (w g a v : Arr0) : G12 (F := Ideal) g a v w = deltaArr w g a v := rfl
theorem kMom0 (g a : Arr0) : G15 (F := Ideal) g a = momArr g a := rfl
theorem kSqm0 (g v : Arr0) : G18 (F := Ideal) g v = sqmArr g v := rfl
theorem kDelta1 (w g a v : Arr1) : G13 (F := Ideal) g a v w = deltaArr w g a v := rfl
theorem kMom1 (g a : Arr1) : G16 (F := Ideal) g a = momArr g a := rfl
theorem kSqm1 (g v : Arr1) : G19 (F := Ideal) g v = sqmArr g v := rfl
theorem kDelta2 (w g a v : Arr2) : G14 (F := Ideal) g a v w = deltaArr w g a v := rfl
theorem kMom2 (g a : Arr2) : G17 (F := Ideal) g a = momArr g a := rfl
theorem kSqm2 (g v : Arr2) : G20 (F := Ideal) g v = sqmArr g v := rfl

end Kernel

section Reference

open Cert.RefAdamSmallCIdeal Cert.RefAdamSmallCIdeal.Read

theorem rMom0 (g a : Arr0) : val_main_v4 (F := Ideal) g a = momArr g a := rfl
theorem rSqm0 (g v : Arr0) : val_main_v10 (F := Ideal) g v = sqmArr g v := rfl
theorem rDelta0 (w g a v : Arr0) : val_main_v23 (F := Ideal) w g a v = deltaArr w g a v := by
  funext i
  rw [deltaArr, delta, ← div_c1, ← div_c2]
  rfl
theorem rMom1 (g a : Arr1) : val_main_v28 (F := Ideal) g a = momArr g a := rfl
theorem rSqm1 (g v : Arr1) : val_main_v34 (F := Ideal) g v = sqmArr g v := rfl
theorem rDelta1 (w g a v : Arr1) : val_main_v47 (F := Ideal) w g a v = deltaArr w g a v := by
  funext i
  rw [deltaArr, delta, ← div_c1, ← div_c2]
  rfl
theorem rMom2 (g a : Arr2) : val_main_v52 (F := Ideal) g a = momArr g a := rfl
theorem rSqm2 (g v : Arr2) : val_main_v58 (F := Ideal) g v = sqmArr g v := rfl
theorem rDelta2 (w g a v : Arr2) : val_main_v71 (F := Ideal) w g a v = deltaArr w g a v := by
  funext i
  rw [deltaArr, delta, ← div_c1, ← div_c2]
  rfl

end Reference

/-- The reference runs, keeps its arguments and leaves every counter at zero. -/
theorem frame_ri : Cert.quiescent_RefAdamSmallCIdeal := fun m ρ _ =>
  (θ_run Cert.RefAdamSmallCIdeal.defs _ _).mono (fun r h => ⟨fun c => (h c).2.2.2.2.2.2.2.2.2, sem_eq_zero_of_no_sems (by decide) r.2⟩)
    (Cert.RefAdamSmallCIdeal.Value.run (F := Ideal) m ρ)

/-- The two named constants read as the reciprocals that their names stand for. -/
theorem preserves : Cert.preserves_AdamSmallC_AdamSmallCIdeal :=
  ⟨IdealRules.named_const.statement Cert.AdamSmallCIdeal.κ "adam_c1" .f32 0x3FC48605#32 ((8388608 / 5463681 : ℝ) : EReal) rfl,
    IdealRules.named_const.statement Cert.AdamSmallCIdeal.κ "adam_c2" .f32 0x42C8E6D3#32 ((268435456 / 2672307 : ℝ) : EReal) rfl⟩

theorem algebraic : Cert.algebraic_AdamSmallCIdeal_RefAdamSmallCIdeal := by
  intro m ρ m' ρ' _ hagree
  refine ⟨fun c => deltaArr (m ((c.tc : Thread Cert.AdamSmallCIdeal.nD Cert.AdamSmallCIdeal.τ).loc Cert.AdamSmallCIdeal.main_arg0)) (m ((c.tc : Thread Cert.AdamSmallCIdeal.nD Cert.AdamSmallCIdeal.τ).loc Cert.AdamSmallCIdeal.main_arg3)) (m ((c.tc : Thread Cert.AdamSmallCIdeal.nD Cert.AdamSmallCIdeal.τ).loc Cert.AdamSmallCIdeal.main_arg6)) (m ((c.tc : Thread Cert.AdamSmallCIdeal.nD Cert.AdamSmallCIdeal.τ).loc Cert.AdamSmallCIdeal.main_arg9)),
    fun c => deltaArr (m ((c.tc : Thread Cert.AdamSmallCIdeal.nD Cert.AdamSmallCIdeal.τ).loc Cert.AdamSmallCIdeal.main_arg1)) (m ((c.tc : Thread Cert.AdamSmallCIdeal.nD Cert.AdamSmallCIdeal.τ).loc Cert.AdamSmallCIdeal.main_arg4)) (m ((c.tc : Thread Cert.AdamSmallCIdeal.nD Cert.AdamSmallCIdeal.τ).loc Cert.AdamSmallCIdeal.main_arg7)) (m ((c.tc : Thread Cert.AdamSmallCIdeal.nD Cert.AdamSmallCIdeal.τ).loc Cert.AdamSmallCIdeal.main_arg10)),
    fun c => deltaArr (m ((c.tc : Thread Cert.AdamSmallCIdeal.nD Cert.AdamSmallCIdeal.τ).loc Cert.AdamSmallCIdeal.main_arg2)) (m ((c.tc : Thread Cert.AdamSmallCIdeal.nD Cert.AdamSmallCIdeal.τ).loc Cert.AdamSmallCIdeal.main_arg5)) (m ((c.tc : Thread Cert.AdamSmallCIdeal.nD Cert.AdamSmallCIdeal.τ).loc Cert.AdamSmallCIdeal.main_arg8)) (m ((c.tc : Thread Cert.AdamSmallCIdeal.nD Cert.AdamSmallCIdeal.τ).loc Cert.AdamSmallCIdeal.main_arg11)),
    fun c => momArr (m ((c.tc : Thread Cert.AdamSmallCIdeal.nD Cert.AdamSmallCIdeal.τ).loc Cert.AdamSmallCIdeal.main_arg3)) (m ((c.tc : Thread Cert.AdamSmallCIdeal.nD Cert.AdamSmallCIdeal.τ).loc Cert.AdamSmallCIdeal.main_arg6)),
    fun c => momArr (m ((c.tc : Thread Cert.AdamSmallCIdeal.nD Cert.AdamSmallCIdeal.τ).loc Cert.AdamSmallCIdeal.main_arg4)) (m ((c.tc : Thread Cert.AdamSmallCIdeal.nD Cert.AdamSmallCIdeal.τ).loc Cert.AdamSmallCIdeal.main_arg7)),
    fun c => momArr (m ((c.tc : Thread Cert.AdamSmallCIdeal.nD Cert.AdamSmallCIdeal.τ).loc Cert.AdamSmallCIdeal.main_arg5)) (m ((c.tc : Thread Cert.AdamSmallCIdeal.nD Cert.AdamSmallCIdeal.τ).loc Cert.AdamSmallCIdeal.main_arg8)),
    fun c => sqmArr (m ((c.tc : Thread Cert.AdamSmallCIdeal.nD Cert.AdamSmallCIdeal.τ).loc Cert.AdamSmallCIdeal.main_arg3)) (m ((c.tc : Thread Cert.AdamSmallCIdeal.nD Cert.AdamSmallCIdeal.τ).loc Cert.AdamSmallCIdeal.main_arg9)),
    fun c => sqmArr (m ((c.tc : Thread Cert.AdamSmallCIdeal.nD Cert.AdamSmallCIdeal.τ).loc Cert.AdamSmallCIdeal.main_arg4)) (m ((c.tc : Thread Cert.AdamSmallCIdeal.nD Cert.AdamSmallCIdeal.τ).loc Cert.AdamSmallCIdeal.main_arg10)),
    fun c => sqmArr (m ((c.tc : Thread Cert.AdamSmallCIdeal.nD Cert.AdamSmallCIdeal.τ).loc Cert.AdamSmallCIdeal.main_arg5)) (m ((c.tc : Thread Cert.AdamSmallCIdeal.nD Cert.AdamSmallCIdeal.τ).loc Cert.AdamSmallCIdeal.main_arg11)), ?_, ?_⟩
  · exact (θ_run Cert.AdamSmallCIdeal.defs _ _).mono (fun _ h c => ⟨(h c).1.trans (kDelta0 _ _ _ _),
      (h c).2.1.trans (kDelta1 _ _ _ _),
      (h c).2.2.1.trans (kDelta2 _ _ _ _),
      (h c).2.2.2.1.trans (kMom0 _ _),
      (h c).2.2.2.2.1.trans (kMom1 _ _),
      (h c).2.2.2.2.2.1.trans (kMom2 _ _),
      (h c).2.2.2.2.2.2.1.trans (kSqm0 _ _),
      (h c).2.2.2.2.2.2.2.1.trans (kSqm1 _ _),
      (h c).2.2.2.2.2.2.2.2.1.trans (kSqm2 _ _), (h c).2.2.2.2.2.2.2.2.2⟩)
      (Cert.AdamSmallCIdeal.Value.run (F := Ideal) m ρ)
  · refine (θ_run Cert.RefAdamSmallCIdeal.defs _ _).mono (fun _ h c => ?_) (Cert.RefAdamSmallCIdeal.Value.run (F := Ideal) m' ρ')
    obtain ⟨h0, h1, h2, h3, h4, h5, h6, h7, h8, h9, h10, h11⟩ := hagree c
    have e0 := rDelta0 (m' ((c.tc : Thread Cert.RefAdamSmallCIdeal.nD Cert.RefAdamSmallCIdeal.τ).loc Cert.RefAdamSmallCIdeal.main_arg0)) (m' ((c.tc : Thread Cert.RefAdamSmallCIdeal.nD Cert.RefAdamSmallCIdeal.τ).loc Cert.RefAdamSmallCIdeal.main_arg3)) (m' ((c.tc : Thread Cert.RefAdamSmallCIdeal.nD Cert.RefAdamSmallCIdeal.τ).loc Cert.RefAdamSmallCIdeal.main_arg6)) (m' ((c.tc : Thread Cert.RefAdamSmallCIdeal.nD Cert.RefAdamSmallCIdeal.τ).loc Cert.RefAdamSmallCIdeal.main_arg9))
    have e1 := rDelta1 (m' ((c.tc : Thread Cert.RefAdamSmallCIdeal.nD Cert.RefAdamSmallCIdeal.τ).loc Cert.RefAdamSmallCIdeal.main_arg1)) (m' ((c.tc : Thread Cert.RefAdamSmallCIdeal.nD Cert.RefAdamSmallCIdeal.τ).loc Cert.RefAdamSmallCIdeal.main_arg4)) (m' ((c.tc : Thread Cert.RefAdamSmallCIdeal.nD Cert.RefAdamSmallCIdeal.τ).loc Cert.RefAdamSmallCIdeal.main_arg7)) (m' ((c.tc : Thread Cert.RefAdamSmallCIdeal.nD Cert.RefAdamSmallCIdeal.τ).loc Cert.RefAdamSmallCIdeal.main_arg10))
    have e2 := rDelta2 (m' ((c.tc : Thread Cert.RefAdamSmallCIdeal.nD Cert.RefAdamSmallCIdeal.τ).loc Cert.RefAdamSmallCIdeal.main_arg2)) (m' ((c.tc : Thread Cert.RefAdamSmallCIdeal.nD Cert.RefAdamSmallCIdeal.τ).loc Cert.RefAdamSmallCIdeal.main_arg5)) (m' ((c.tc : Thread Cert.RefAdamSmallCIdeal.nD Cert.RefAdamSmallCIdeal.τ).loc Cert.RefAdamSmallCIdeal.main_arg8)) (m' ((c.tc : Thread Cert.RefAdamSmallCIdeal.nD Cert.RefAdamSmallCIdeal.τ).loc Cert.RefAdamSmallCIdeal.main_arg11))
    have e3 := rMom0 (m' ((c.tc : Thread Cert.RefAdamSmallCIdeal.nD Cert.RefAdamSmallCIdeal.τ).loc Cert.RefAdamSmallCIdeal.main_arg3)) (m' ((c.tc : Thread Cert.RefAdamSmallCIdeal.nD Cert.RefAdamSmallCIdeal.τ).loc Cert.RefAdamSmallCIdeal.main_arg6))
    have e4 := rMom1 (m' ((c.tc : Thread Cert.RefAdamSmallCIdeal.nD Cert.RefAdamSmallCIdeal.τ).loc Cert.RefAdamSmallCIdeal.main_arg4)) (m' ((c.tc : Thread Cert.RefAdamSmallCIdeal.nD Cert.RefAdamSmallCIdeal.τ).loc Cert.RefAdamSmallCIdeal.main_arg7))
    have e5 := rMom2 (m' ((c.tc : Thread Cert.RefAdamSmallCIdeal.nD Cert.RefAdamSmallCIdeal.τ).loc Cert.RefAdamSmallCIdeal.main_arg5)) (m' ((c.tc : Thread Cert.RefAdamSmallCIdeal.nD Cert.RefAdamSmallCIdeal.τ).loc Cert.RefAdamSmallCIdeal.main_arg8))
    have e6 := rSqm0 (m' ((c.tc : Thread Cert.RefAdamSmallCIdeal.nD Cert.RefAdamSmallCIdeal.τ).loc Cert.RefAdamSmallCIdeal.main_arg3)) (m' ((c.tc : Thread Cert.RefAdamSmallCIdeal.nD Cert.RefAdamSmallCIdeal.τ).loc Cert.RefAdamSmallCIdeal.main_arg9))
    have e7 := rSqm1 (m' ((c.tc : Thread Cert.RefAdamSmallCIdeal.nD Cert.RefAdamSmallCIdeal.τ).loc Cert.RefAdamSmallCIdeal.main_arg4)) (m' ((c.tc : Thread Cert.RefAdamSmallCIdeal.nD Cert.RefAdamSmallCIdeal.τ).loc Cert.RefAdamSmallCIdeal.main_arg10))
    have e8 := rSqm2 (m' ((c.tc : Thread Cert.RefAdamSmallCIdeal.nD Cert.RefAdamSmallCIdeal.τ).loc Cert.RefAdamSmallCIdeal.main_arg5)) (m' ((c.tc : Thread Cert.RefAdamSmallCIdeal.nD Cert.RefAdamSmallCIdeal.τ).loc Cert.RefAdamSmallCIdeal.main_arg11))
    exact ⟨(h c).1.trans ((Cert.RefAdamSmallCIdeal.Read.val_main_v23_eq _ _ _ _).trans (e0.trans (by rw [h0, h3, h6, h9]))),
      (h c).2.1.trans ((Cert.RefAdamSmallCIdeal.Read.val_main_v47_eq _ _ _ _).trans (e1.trans (by rw [h1, h4, h7, h10]))),
      (h c).2.2.1.trans ((Cert.RefAdamSmallCIdeal.Read.val_main_v71_eq _ _ _ _).trans (e2.trans (by rw [h2, h5, h8, h11]))),
      (h c).2.2.2.1.trans ((Cert.RefAdamSmallCIdeal.Read.val_main_v4_eq _ _).trans (e3.trans (by rw [h3, h6]))),
      (h c).2.2.2.2.1.trans ((Cert.RefAdamSmallCIdeal.Read.val_main_v28_eq _ _).trans (e4.trans (by rw [h4, h7]))),
      (h c).2.2.2.2.2.1.trans ((Cert.RefAdamSmallCIdeal.Read.val_main_v52_eq _ _).trans (e5.trans (by rw [h5, h8]))),
      (h c).2.2.2.2.2.2.1.trans ((Cert.RefAdamSmallCIdeal.Read.val_main_v10_eq _ _).trans (e6.trans (by rw [h3, h9]))),
      (h c).2.2.2.2.2.2.2.1.trans ((Cert.RefAdamSmallCIdeal.Read.val_main_v34_eq _ _).trans (e7.trans (by rw [h4, h10]))),
      (h c).2.2.2.2.2.2.2.2.1.trans ((Cert.RefAdamSmallCIdeal.Read.val_main_v58_eq _ _).trans (e8.trans (by rw [h5, h11]))), (h c).2.2.2.2.2.2.2.2.2⟩

end Cert.Adam.SmallC
-- ==== Proof.AdamSmallD.lean ====
/- AdamW on three of the small weights, one by one. -/
module

public import proofs.«01_k».proof.Defs
public import proofs.«01_k».proof.Proof.AdamSmall
public import proofs.«01_k».proof.Proof.Gen.AdamSmallDIdeal.Frame
public import proofs.«01_k».proof.Proof.Gen.AdamSmallDIdeal.Value
public import proofs.«01_k».proof.Proof.Gen.RefAdamSmallDIdeal.Run
public import proofs.«01_k».proof.Proof.Gen.RefAdamSmallDIdeal.Read
public import Idealize.ShloMosaic.Adequacy

@[expose] public section

noncomputable section

namespace Cert.Adam.SmallD

open Idealize.ShloMosaic Idealize.ShloMosaic.TcCoe Idealize.SL.Sem Cert.Adam.Small

set_option maxRecDepth 16384

/-- The shapes of the three weights. -/
abbrev Arr0 := FVec Ideal ⟨2, ![128, 1024]⟩ .f32
abbrev Arr1 := FVec Ideal ⟨2, ![128, 1024]⟩ .f32
abbrev Arr2 := FVec Ideal ⟨2, ![2, 1024]⟩ .f32

section Kernel

open Cert.AdamSmallDIdeal Cert.AdamSmallDIdeal.Value

theorem kDelta0 (w g a v : Arr0) : G12 (F := Ideal) g a v w = deltaArr w g a v := rfl
theorem kMom0 (g a : Arr0) : G15 (F := Ideal) g a = momArr g a := rfl
theorem kSqm0 (g v : Arr0) : G18 (F := Ideal) g v = sqmArr g v := rfl
theorem kDelta1 (w g a v : Arr1) : G13 (F := Ideal) g a v w = deltaArr w g a v := rfl
theorem kMom1 (g a : Arr1) : G16 (F := Ideal) g a = momArr g a := rfl
theorem kSqm1 (g v : Arr1) : G19 (F := Ideal) g v = sqmArr g v := rfl
theorem kDelta2 (w g a v : Arr2) : G14 (F := Ideal) g a v w = deltaArr w g a v := rfl
theorem kMom2 (g a : Arr2) : G17 (F := Ideal) g a = momArr g a := rfl
theorem kSqm2 (g v : Arr2) : G20 (F := Ideal) g v = sqmArr g v := rfl

end Kernel

section Reference

open Cert.RefAdamSmallDIdeal Cert.RefAdamSmallDIdeal.Read

theorem rMom0 (g a : Arr0) : val_main_v4 (F := Ideal) g a = momArr g a := rfl
theorem rSqm0 (g v : Arr0) : val_main_v10 (F := Ideal) g v = sqmArr g v := rfl
theorem rDelta0 (w g a v : Arr0) : val_main_v23 (F := Ideal) w g a v = deltaArr w g a v := by
  funext i
  rw [deltaArr, delta, ← div_c1, ← div_c2]
  rfl
theorem rMom1 (g a : Arr1) : val_main_v28 (F := Ideal) g a = momArr g a := rfl
theorem rSqm1 (g v : Arr1) : val_main_v34 (F := Ideal) g v = sqmArr g v := rfl
theorem rDelta1 (w g a v : Arr1) : val_main_v47 (F := Ideal) w g a v = deltaArr w g a v := by
  funext i
  rw [deltaArr, delta, ← div_c1, ← div_c2]
  rfl
theorem rMom2 (g a : Arr2) : val_main_v52 (F := Ideal) g a = momArr g a := rfl
theorem rSqm2 (g v : Arr2) : val_main_v58 (F := Ideal) g v = sqmArr g v := rfl
theorem rDelta2 (w g a v : Arr2) : val_main_v71 (F := Ideal) w g a v = deltaArr w g a v := by
  funext i
  rw [deltaArr, delta, ← div_c1, ← div_c2]
  rfl

end Reference

/-- The reference runs, keeps its arguments and leaves every counter at zero. -/
theorem frame_ri : Cert.quiescent_RefAdamSmallDIdeal := fun m ρ _ =>
  (θ_run Cert.RefAdamSmallDIdeal.defs _ _).mono (fun r h => ⟨fun c => (h c).2.2.2.2.2.2.2.2.2, sem_eq_zero_of_no_sems (by decide) r.2⟩)
    (Cert.RefAdamSmallDIdeal.Value.run (F := Ideal) m ρ)

/-- The two named constants read as the reciprocals that their names stand for. -/
theorem preserves : Cert.preserves_AdamSmallD_AdamSmallDIdeal :=
  ⟨IdealRules.named_const.statement Cert.AdamSmallDIdeal.κ "adam_c1" .f32 0x3FC48605#32 ((8388608 / 5463681 : ℝ) : EReal) rfl,
    IdealRules.named_const.statement Cert.AdamSmallDIdeal.κ "adam_c2" .f32 0x42C8E6D3#32 ((268435456 / 2672307 : ℝ) : EReal) rfl⟩

theorem algebraic : Cert.algebraic_AdamSmallDIdeal_RefAdamSmallDIdeal := by
  intro m ρ m' ρ' _ hagree
  refine ⟨fun c => deltaArr (m ((c.tc : Thread Cert.AdamSmallDIdeal.nD Cert.AdamSmallDIdeal.τ).loc Cert.AdamSmallDIdeal.main_arg0)) (m ((c.tc : Thread Cert.AdamSmallDIdeal.nD Cert.AdamSmallDIdeal.τ).loc Cert.AdamSmallDIdeal.main_arg3)) (m ((c.tc : Thread Cert.AdamSmallDIdeal.nD Cert.AdamSmallDIdeal.τ).loc Cert.AdamSmallDIdeal.main_arg6)) (m ((c.tc : Thread Cert.AdamSmallDIdeal.nD Cert.AdamSmallDIdeal.τ).loc Cert.AdamSmallDIdeal.main_arg9)),
    fun c => deltaArr (m ((c.tc : Thread Cert.AdamSmallDIdeal.nD Cert.AdamSmallDIdeal.τ).loc Cert.AdamSmallDIdeal.main_arg1)) (m ((c.tc : Thread Cert.AdamSmallDIdeal.nD Cert.AdamSmallDIdeal.τ).loc Cert.AdamSmallDIdeal.main_arg4)) (m ((c.tc : Thread Cert.AdamSmallDIdeal.nD Cert.AdamSmallDIdeal.τ).loc Cert.AdamSmallDIdeal.main_arg7)) (m ((c.tc : Thread Cert.AdamSmallDIdeal.nD Cert.AdamSmallDIdeal.τ).loc Cert.AdamSmallDIdeal.main_arg10)),
    fun c => deltaArr (m ((c.tc : Thread Cert.AdamSmallDIdeal.nD Cert.AdamSmallDIdeal.τ).loc Cert.AdamSmallDIdeal.main_arg2)) (m ((c.tc : Thread Cert.AdamSmallDIdeal.nD Cert.AdamSmallDIdeal.τ).loc Cert.AdamSmallDIdeal.main_arg5)) (m ((c.tc : Thread Cert.AdamSmallDIdeal.nD Cert.AdamSmallDIdeal.τ).loc Cert.AdamSmallDIdeal.main_arg8)) (m ((c.tc : Thread Cert.AdamSmallDIdeal.nD Cert.AdamSmallDIdeal.τ).loc Cert.AdamSmallDIdeal.main_arg11)),
    fun c => momArr (m ((c.tc : Thread Cert.AdamSmallDIdeal.nD Cert.AdamSmallDIdeal.τ).loc Cert.AdamSmallDIdeal.main_arg3)) (m ((c.tc : Thread Cert.AdamSmallDIdeal.nD Cert.AdamSmallDIdeal.τ).loc Cert.AdamSmallDIdeal.main_arg6)),
    fun c => momArr (m ((c.tc : Thread Cert.AdamSmallDIdeal.nD Cert.AdamSmallDIdeal.τ).loc Cert.AdamSmallDIdeal.main_arg4)) (m ((c.tc : Thread Cert.AdamSmallDIdeal.nD Cert.AdamSmallDIdeal.τ).loc Cert.AdamSmallDIdeal.main_arg7)),
    fun c => momArr (m ((c.tc : Thread Cert.AdamSmallDIdeal.nD Cert.AdamSmallDIdeal.τ).loc Cert.AdamSmallDIdeal.main_arg5)) (m ((c.tc : Thread Cert.AdamSmallDIdeal.nD Cert.AdamSmallDIdeal.τ).loc Cert.AdamSmallDIdeal.main_arg8)),
    fun c => sqmArr (m ((c.tc : Thread Cert.AdamSmallDIdeal.nD Cert.AdamSmallDIdeal.τ).loc Cert.AdamSmallDIdeal.main_arg3)) (m ((c.tc : Thread Cert.AdamSmallDIdeal.nD Cert.AdamSmallDIdeal.τ).loc Cert.AdamSmallDIdeal.main_arg9)),
    fun c => sqmArr (m ((c.tc : Thread Cert.AdamSmallDIdeal.nD Cert.AdamSmallDIdeal.τ).loc Cert.AdamSmallDIdeal.main_arg4)) (m ((c.tc : Thread Cert.AdamSmallDIdeal.nD Cert.AdamSmallDIdeal.τ).loc Cert.AdamSmallDIdeal.main_arg10)),
    fun c => sqmArr (m ((c.tc : Thread Cert.AdamSmallDIdeal.nD Cert.AdamSmallDIdeal.τ).loc Cert.AdamSmallDIdeal.main_arg5)) (m ((c.tc : Thread Cert.AdamSmallDIdeal.nD Cert.AdamSmallDIdeal.τ).loc Cert.AdamSmallDIdeal.main_arg11)), ?_, ?_⟩
  · exact (θ_run Cert.AdamSmallDIdeal.defs _ _).mono (fun _ h c => ⟨(h c).1.trans (kDelta0 _ _ _ _),
      (h c).2.1.trans (kDelta1 _ _ _ _),
      (h c).2.2.1.trans (kDelta2 _ _ _ _),
      (h c).2.2.2.1.trans (kMom0 _ _),
      (h c).2.2.2.2.1.trans (kMom1 _ _),
      (h c).2.2.2.2.2.1.trans (kMom2 _ _),
      (h c).2.2.2.2.2.2.1.trans (kSqm0 _ _),
      (h c).2.2.2.2.2.2.2.1.trans (kSqm1 _ _),
      (h c).2.2.2.2.2.2.2.2.1.trans (kSqm2 _ _), (h c).2.2.2.2.2.2.2.2.2⟩)
      (Cert.AdamSmallDIdeal.Value.run (F := Ideal) m ρ)
  · refine (θ_run Cert.RefAdamSmallDIdeal.defs _ _).mono (fun _ h c => ?_) (Cert.RefAdamSmallDIdeal.Value.run (F := Ideal) m' ρ')
    obtain ⟨h0, h1, h2, h3, h4, h5, h6, h7, h8, h9, h10, h11⟩ := hagree c
    have e0 := rDelta0 (m' ((c.tc : Thread Cert.RefAdamSmallDIdeal.nD Cert.RefAdamSmallDIdeal.τ).loc Cert.RefAdamSmallDIdeal.main_arg0)) (m' ((c.tc : Thread Cert.RefAdamSmallDIdeal.nD Cert.RefAdamSmallDIdeal.τ).loc Cert.RefAdamSmallDIdeal.main_arg3)) (m' ((c.tc : Thread Cert.RefAdamSmallDIdeal.nD Cert.RefAdamSmallDIdeal.τ).loc Cert.RefAdamSmallDIdeal.main_arg6)) (m' ((c.tc : Thread Cert.RefAdamSmallDIdeal.nD Cert.RefAdamSmallDIdeal.τ).loc Cert.RefAdamSmallDIdeal.main_arg9))
    have e1 := rDelta1 (m' ((c.tc : Thread Cert.RefAdamSmallDIdeal.nD Cert.RefAdamSmallDIdeal.τ).loc Cert.RefAdamSmallDIdeal.main_arg1)) (m' ((c.tc : Thread Cert.RefAdamSmallDIdeal.nD Cert.RefAdamSmallDIdeal.τ).loc Cert.RefAdamSmallDIdeal.main_arg4)) (m' ((c.tc : Thread Cert.RefAdamSmallDIdeal.nD Cert.RefAdamSmallDIdeal.τ).loc Cert.RefAdamSmallDIdeal.main_arg7)) (m' ((c.tc : Thread Cert.RefAdamSmallDIdeal.nD Cert.RefAdamSmallDIdeal.τ).loc Cert.RefAdamSmallDIdeal.main_arg10))
    have e2 := rDelta2 (m' ((c.tc : Thread Cert.RefAdamSmallDIdeal.nD Cert.RefAdamSmallDIdeal.τ).loc Cert.RefAdamSmallDIdeal.main_arg2)) (m' ((c.tc : Thread Cert.RefAdamSmallDIdeal.nD Cert.RefAdamSmallDIdeal.τ).loc Cert.RefAdamSmallDIdeal.main_arg5)) (m' ((c.tc : Thread Cert.RefAdamSmallDIdeal.nD Cert.RefAdamSmallDIdeal.τ).loc Cert.RefAdamSmallDIdeal.main_arg8)) (m' ((c.tc : Thread Cert.RefAdamSmallDIdeal.nD Cert.RefAdamSmallDIdeal.τ).loc Cert.RefAdamSmallDIdeal.main_arg11))
    have e3 := rMom0 (m' ((c.tc : Thread Cert.RefAdamSmallDIdeal.nD Cert.RefAdamSmallDIdeal.τ).loc Cert.RefAdamSmallDIdeal.main_arg3)) (m' ((c.tc : Thread Cert.RefAdamSmallDIdeal.nD Cert.RefAdamSmallDIdeal.τ).loc Cert.RefAdamSmallDIdeal.main_arg6))
    have e4 := rMom1 (m' ((c.tc : Thread Cert.RefAdamSmallDIdeal.nD Cert.RefAdamSmallDIdeal.τ).loc Cert.RefAdamSmallDIdeal.main_arg4)) (m' ((c.tc : Thread Cert.RefAdamSmallDIdeal.nD Cert.RefAdamSmallDIdeal.τ).loc Cert.RefAdamSmallDIdeal.main_arg7))
    have e5 := rMom2 (m' ((c.tc : Thread Cert.RefAdamSmallDIdeal.nD Cert.RefAdamSmallDIdeal.τ).loc Cert.RefAdamSmallDIdeal.main_arg5)) (m' ((c.tc : Thread Cert.RefAdamSmallDIdeal.nD Cert.RefAdamSmallDIdeal.τ).loc Cert.RefAdamSmallDIdeal.main_arg8))
    have e6 := rSqm0 (m' ((c.tc : Thread Cert.RefAdamSmallDIdeal.nD Cert.RefAdamSmallDIdeal.τ).loc Cert.RefAdamSmallDIdeal.main_arg3)) (m' ((c.tc : Thread Cert.RefAdamSmallDIdeal.nD Cert.RefAdamSmallDIdeal.τ).loc Cert.RefAdamSmallDIdeal.main_arg9))
    have e7 := rSqm1 (m' ((c.tc : Thread Cert.RefAdamSmallDIdeal.nD Cert.RefAdamSmallDIdeal.τ).loc Cert.RefAdamSmallDIdeal.main_arg4)) (m' ((c.tc : Thread Cert.RefAdamSmallDIdeal.nD Cert.RefAdamSmallDIdeal.τ).loc Cert.RefAdamSmallDIdeal.main_arg10))
    have e8 := rSqm2 (m' ((c.tc : Thread Cert.RefAdamSmallDIdeal.nD Cert.RefAdamSmallDIdeal.τ).loc Cert.RefAdamSmallDIdeal.main_arg5)) (m' ((c.tc : Thread Cert.RefAdamSmallDIdeal.nD Cert.RefAdamSmallDIdeal.τ).loc Cert.RefAdamSmallDIdeal.main_arg11))
    exact ⟨(h c).1.trans ((Cert.RefAdamSmallDIdeal.Read.val_main_v23_eq _ _ _ _).trans (e0.trans (by rw [h0, h3, h6, h9]))),
      (h c).2.1.trans ((Cert.RefAdamSmallDIdeal.Read.val_main_v47_eq _ _ _ _).trans (e1.trans (by rw [h1, h4, h7, h10]))),
      (h c).2.2.1.trans ((Cert.RefAdamSmallDIdeal.Read.val_main_v71_eq _ _ _ _).trans (e2.trans (by rw [h2, h5, h8, h11]))),
      (h c).2.2.2.1.trans ((Cert.RefAdamSmallDIdeal.Read.val_main_v4_eq _ _).trans (e3.trans (by rw [h3, h6]))),
      (h c).2.2.2.2.1.trans ((Cert.RefAdamSmallDIdeal.Read.val_main_v28_eq _ _).trans (e4.trans (by rw [h4, h7]))),
      (h c).2.2.2.2.2.1.trans ((Cert.RefAdamSmallDIdeal.Read.val_main_v52_eq _ _).trans (e5.trans (by rw [h5, h8]))),
      (h c).2.2.2.2.2.2.1.trans ((Cert.RefAdamSmallDIdeal.Read.val_main_v10_eq _ _).trans (e6.trans (by rw [h3, h9]))),
      (h c).2.2.2.2.2.2.2.1.trans ((Cert.RefAdamSmallDIdeal.Read.val_main_v34_eq _ _).trans (e7.trans (by rw [h4, h10]))),
      (h c).2.2.2.2.2.2.2.2.1.trans ((Cert.RefAdamSmallDIdeal.Read.val_main_v58_eq _ _).trans (e8.trans (by rw [h5, h11]))), (h c).2.2.2.2.2.2.2.2.2⟩

end Cert.Adam.SmallD
-- ==== Proof.AdamSmallE.lean ====
/- AdamW on three of the small weights, one by one. -/
module

public import proofs.«01_k».proof.Defs
public import proofs.«01_k».proof.Proof.AdamSmall
public import proofs.«01_k».proof.Proof.Gen.AdamSmallEIdeal.Frame
public import proofs.«01_k».proof.Proof.Gen.AdamSmallEIdeal.Value
public import proofs.«01_k».proof.Proof.Gen.RefAdamSmallEIdeal.Run
public import proofs.«01_k».proof.Proof.Gen.RefAdamSmallEIdeal.Read
public import Idealize.ShloMosaic.Adequacy

@[expose] public section

noncomputable section

namespace Cert.Adam.SmallE

open Idealize.ShloMosaic Idealize.ShloMosaic.TcCoe Idealize.SL.Sem Cert.Adam.Small

set_option maxRecDepth 16384

/-- The shapes of the three weights. -/
abbrev Arr0 := FVec Ideal ⟨2, ![2, 1024]⟩ .f32
abbrev Arr1 := FVec Ideal ⟨2, ![2, 1024]⟩ .f32
abbrev Arr2 := FVec Ideal ⟨2, ![2, 2048]⟩ .f32

section Kernel

open Cert.AdamSmallEIdeal Cert.AdamSmallEIdeal.Value

theorem kDelta0 (w g a v : Arr0) : G12 (F := Ideal) g a v w = deltaArr w g a v := rfl
theorem kMom0 (g a : Arr0) : G15 (F := Ideal) g a = momArr g a := rfl
theorem kSqm0 (g v : Arr0) : G18 (F := Ideal) g v = sqmArr g v := rfl
theorem kDelta1 (w g a v : Arr1) : G13 (F := Ideal) g a v w = deltaArr w g a v := rfl
theorem kMom1 (g a : Arr1) : G16 (F := Ideal) g a = momArr g a := rfl
theorem kSqm1 (g v : Arr1) : G19 (F := Ideal) g v = sqmArr g v := rfl
theorem kDelta2 (w g a v : Arr2) : G14 (F := Ideal) g a v w = deltaArr w g a v := rfl
theorem kMom2 (g a : Arr2) : G17 (F := Ideal) g a = momArr g a := rfl
theorem kSqm2 (g v : Arr2) : G20 (F := Ideal) g v = sqmArr g v := rfl

end Kernel

section Reference

open Cert.RefAdamSmallEIdeal Cert.RefAdamSmallEIdeal.Read

theorem rMom0 (g a : Arr0) : val_main_v4 (F := Ideal) g a = momArr g a := rfl
theorem rSqm0 (g v : Arr0) : val_main_v10 (F := Ideal) g v = sqmArr g v := rfl
theorem rDelta0 (w g a v : Arr0) : val_main_v23 (F := Ideal) w g a v = deltaArr w g a v := by
  funext i
  rw [deltaArr, delta, ← div_c1, ← div_c2]
  rfl
theorem rMom1 (g a : Arr1) : val_main_v28 (F := Ideal) g a = momArr g a := rfl
theorem rSqm1 (g v : Arr1) : val_main_v34 (F := Ideal) g v = sqmArr g v := rfl
theorem rDelta1 (w g a v : Arr1) : val_main_v47 (F := Ideal) w g a v = deltaArr w g a v := by
  funext i
  rw [deltaArr, delta, ← div_c1, ← div_c2]
  rfl
theorem rMom2 (g a : Arr2) : val_main_v52 (F := Ideal) g a = momArr g a := rfl
theorem rSqm2 (g v : Arr2) : val_main_v58 (F := Ideal) g v = sqmArr g v := rfl
theorem rDelta2 (w g a v : Arr2) : val_main_v71 (F := Ideal) w g a v = deltaArr w g a v := by
  funext i
  rw [deltaArr, delta, ← div_c1, ← div_c2]
  rfl

end Reference

/-- The reference runs, keeps its arguments and leaves every counter at zero. -/
theorem frame_ri : Cert.quiescent_RefAdamSmallEIdeal := fun m ρ _ =>
  (θ_run Cert.RefAdamSmallEIdeal.defs _ _).mono (fun r h => ⟨fun c => (h c).2.2.2.2.2.2.2.2.2, sem_eq_zero_of_no_sems (by decide) r.2⟩)
    (Cert.RefAdamSmallEIdeal.Value.run (F := Ideal) m ρ)

/-- The two named constants read as the reciprocals that their names stand for. -/
theorem preserves : Cert.preserves_AdamSmallE_AdamSmallEIdeal :=
  ⟨IdealRules.named_const.statement Cert.AdamSmallEIdeal.κ "adam_c1" .f32 0x3FC48605#32 ((8388608 / 5463681 : ℝ) : EReal) rfl,
    IdealRules.named_const.statement Cert.AdamSmallEIdeal.κ "adam_c2" .f32 0x42C8E6D3#32 ((268435456 / 2672307 : ℝ) : EReal) rfl⟩

theorem algebraic : Cert.algebraic_AdamSmallEIdeal_RefAdamSmallEIdeal := by
  intro m ρ m' ρ' _ hagree
  refine ⟨fun c => deltaArr (m ((c.tc : Thread Cert.AdamSmallEIdeal.nD Cert.AdamSmallEIdeal.τ).loc Cert.AdamSmallEIdeal.main_arg0)) (m ((c.tc : Thread Cert.AdamSmallEIdeal.nD Cert.AdamSmallEIdeal.τ).loc Cert.AdamSmallEIdeal.main_arg3)) (m ((c.tc : Thread Cert.AdamSmallEIdeal.nD Cert.AdamSmallEIdeal.τ).loc Cert.AdamSmallEIdeal.main_arg6)) (m ((c.tc : Thread Cert.AdamSmallEIdeal.nD Cert.AdamSmallEIdeal.τ).loc Cert.AdamSmallEIdeal.main_arg9)),
    fun c => deltaArr (m ((c.tc : Thread Cert.AdamSmallEIdeal.nD Cert.AdamSmallEIdeal.τ).loc Cert.AdamSmallEIdeal.main_arg1)) (m ((c.tc : Thread Cert.AdamSmallEIdeal.nD Cert.AdamSmallEIdeal.τ).loc Cert.AdamSmallEIdeal.main_arg4)) (m ((c.tc : Thread Cert.AdamSmallEIdeal.nD Cert.AdamSmallEIdeal.τ).loc Cert.AdamSmallEIdeal.main_arg7)) (m ((c.tc : Thread Cert.AdamSmallEIdeal.nD Cert.AdamSmallEIdeal.τ).loc Cert.AdamSmallEIdeal.main_arg10)),
    fun c => deltaArr (m ((c.tc : Thread Cert.AdamSmallEIdeal.nD Cert.AdamSmallEIdeal.τ).loc Cert.AdamSmallEIdeal.main_arg2)) (m ((c.tc : Thread Cert.AdamSmallEIdeal.nD Cert.AdamSmallEIdeal.τ).loc Cert.AdamSmallEIdeal.main_arg5)) (m ((c.tc : Thread Cert.AdamSmallEIdeal.nD Cert.AdamSmallEIdeal.τ).loc Cert.AdamSmallEIdeal.main_arg8)) (m ((c.tc : Thread Cert.AdamSmallEIdeal.nD Cert.AdamSmallEIdeal.τ).loc Cert.AdamSmallEIdeal.main_arg11)),
    fun c => momArr (m ((c.tc : Thread Cert.AdamSmallEIdeal.nD Cert.AdamSmallEIdeal.τ).loc Cert.AdamSmallEIdeal.main_arg3)) (m ((c.tc : Thread Cert.AdamSmallEIdeal.nD Cert.AdamSmallEIdeal.τ).loc Cert.AdamSmallEIdeal.main_arg6)),
    fun c => momArr (m ((c.tc : Thread Cert.AdamSmallEIdeal.nD Cert.AdamSmallEIdeal.τ).loc Cert.AdamSmallEIdeal.main_arg4)) (m ((c.tc : Thread Cert.AdamSmallEIdeal.nD Cert.AdamSmallEIdeal.τ).loc Cert.AdamSmallEIdeal.main_arg7)),
    fun c => momArr (m ((c.tc : Thread Cert.AdamSmallEIdeal.nD Cert.AdamSmallEIdeal.τ).loc Cert.AdamSmallEIdeal.main_arg5)) (m ((c.tc : Thread Cert.AdamSmallEIdeal.nD Cert.AdamSmallEIdeal.τ).loc Cert.AdamSmallEIdeal.main_arg8)),
    fun c => sqmArr (m ((c.tc : Thread Cert.AdamSmallEIdeal.nD Cert.AdamSmallEIdeal.τ).loc Cert.AdamSmallEIdeal.main_arg3)) (m ((c.tc : Thread Cert.AdamSmallEIdeal.nD Cert.AdamSmallEIdeal.τ).loc Cert.AdamSmallEIdeal.main_arg9)),
    fun c => sqmArr (m ((c.tc : Thread Cert.AdamSmallEIdeal.nD Cert.AdamSmallEIdeal.τ).loc Cert.AdamSmallEIdeal.main_arg4)) (m ((c.tc : Thread Cert.AdamSmallEIdeal.nD Cert.AdamSmallEIdeal.τ).loc Cert.AdamSmallEIdeal.main_arg10)),
    fun c => sqmArr (m ((c.tc : Thread Cert.AdamSmallEIdeal.nD Cert.AdamSmallEIdeal.τ).loc Cert.AdamSmallEIdeal.main_arg5)) (m ((c.tc : Thread Cert.AdamSmallEIdeal.nD Cert.AdamSmallEIdeal.τ).loc Cert.AdamSmallEIdeal.main_arg11)), ?_, ?_⟩
  · exact (θ_run Cert.AdamSmallEIdeal.defs _ _).mono (fun _ h c => ⟨(h c).1.trans (kDelta0 _ _ _ _),
      (h c).2.1.trans (kDelta1 _ _ _ _),
      (h c).2.2.1.trans (kDelta2 _ _ _ _),
      (h c).2.2.2.1.trans (kMom0 _ _),
      (h c).2.2.2.2.1.trans (kMom1 _ _),
      (h c).2.2.2.2.2.1.trans (kMom2 _ _),
      (h c).2.2.2.2.2.2.1.trans (kSqm0 _ _),
      (h c).2.2.2.2.2.2.2.1.trans (kSqm1 _ _),
      (h c).2.2.2.2.2.2.2.2.1.trans (kSqm2 _ _), (h c).2.2.2.2.2.2.2.2.2⟩)
      (Cert.AdamSmallEIdeal.Value.run (F := Ideal) m ρ)
  · refine (θ_run Cert.RefAdamSmallEIdeal.defs _ _).mono (fun _ h c => ?_) (Cert.RefAdamSmallEIdeal.Value.run (F := Ideal) m' ρ')
    obtain ⟨h0, h1, h2, h3, h4, h5, h6, h7, h8, h9, h10, h11⟩ := hagree c
    have e0 := rDelta0 (m' ((c.tc : Thread Cert.RefAdamSmallEIdeal.nD Cert.RefAdamSmallEIdeal.τ).loc Cert.RefAdamSmallEIdeal.main_arg0)) (m' ((c.tc : Thread Cert.RefAdamSmallEIdeal.nD Cert.RefAdamSmallEIdeal.τ).loc Cert.RefAdamSmallEIdeal.main_arg3)) (m' ((c.tc : Thread Cert.RefAdamSmallEIdeal.nD Cert.RefAdamSmallEIdeal.τ).loc Cert.RefAdamSmallEIdeal.main_arg6)) (m' ((c.tc : Thread Cert.RefAdamSmallEIdeal.nD Cert.RefAdamSmallEIdeal.τ).loc Cert.RefAdamSmallEIdeal.main_arg9))
    have e1 := rDelta1 (m' ((c.tc : Thread Cert.RefAdamSmallEIdeal.nD Cert.RefAdamSmallEIdeal.τ).loc Cert.RefAdamSmallEIdeal.main_arg1)) (m' ((c.tc : Thread Cert.RefAdamSmallEIdeal.nD Cert.RefAdamSmallEIdeal.τ).loc Cert.RefAdamSmallEIdeal.main_arg4)) (m' ((c.tc : Thread Cert.RefAdamSmallEIdeal.nD Cert.RefAdamSmallEIdeal.τ).loc Cert.RefAdamSmallEIdeal.main_arg7)) (m' ((c.tc : Thread Cert.RefAdamSmallEIdeal.nD Cert.RefAdamSmallEIdeal.τ).loc Cert.RefAdamSmallEIdeal.main_arg10))
    have e2 := rDelta2 (m' ((c.tc : Thread Cert.RefAdamSmallEIdeal.nD Cert.RefAdamSmallEIdeal.τ).loc Cert.RefAdamSmallEIdeal.main_arg2)) (m' ((c.tc : Thread Cert.RefAdamSmallEIdeal.nD Cert.RefAdamSmallEIdeal.τ).loc Cert.RefAdamSmallEIdeal.main_arg5)) (m' ((c.tc : Thread Cert.RefAdamSmallEIdeal.nD Cert.RefAdamSmallEIdeal.τ).loc Cert.RefAdamSmallEIdeal.main_arg8)) (m' ((c.tc : Thread Cert.RefAdamSmallEIdeal.nD Cert.RefAdamSmallEIdeal.τ).loc Cert.RefAdamSmallEIdeal.main_arg11))
    have e3 := rMom0 (m' ((c.tc : Thread Cert.RefAdamSmallEIdeal.nD Cert.RefAdamSmallEIdeal.τ).loc Cert.RefAdamSmallEIdeal.main_arg3)) (m' ((c.tc : Thread Cert.RefAdamSmallEIdeal.nD Cert.RefAdamSmallEIdeal.τ).loc Cert.RefAdamSmallEIdeal.main_arg6))
    have e4 := rMom1 (m' ((c.tc : Thread Cert.RefAdamSmallEIdeal.nD Cert.RefAdamSmallEIdeal.τ).loc Cert.RefAdamSmallEIdeal.main_arg4)) (m' ((c.tc : Thread Cert.RefAdamSmallEIdeal.nD Cert.RefAdamSmallEIdeal.τ).loc Cert.RefAdamSmallEIdeal.main_arg7))
    have e5 := rMom2 (m' ((c.tc : Thread Cert.RefAdamSmallEIdeal.nD Cert.RefAdamSmallEIdeal.τ).loc Cert.RefAdamSmallEIdeal.main_arg5)) (m' ((c.tc : Thread Cert.RefAdamSmallEIdeal.nD Cert.RefAdamSmallEIdeal.τ).loc Cert.RefAdamSmallEIdeal.main_arg8))
    have e6 := rSqm0 (m' ((c.tc : Thread Cert.RefAdamSmallEIdeal.nD Cert.RefAdamSmallEIdeal.τ).loc Cert.RefAdamSmallEIdeal.main_arg3)) (m' ((c.tc : Thread Cert.RefAdamSmallEIdeal.nD Cert.RefAdamSmallEIdeal.τ).loc Cert.RefAdamSmallEIdeal.main_arg9))
    have e7 := rSqm1 (m' ((c.tc : Thread Cert.RefAdamSmallEIdeal.nD Cert.RefAdamSmallEIdeal.τ).loc Cert.RefAdamSmallEIdeal.main_arg4)) (m' ((c.tc : Thread Cert.RefAdamSmallEIdeal.nD Cert.RefAdamSmallEIdeal.τ).loc Cert.RefAdamSmallEIdeal.main_arg10))
    have e8 := rSqm2 (m' ((c.tc : Thread Cert.RefAdamSmallEIdeal.nD Cert.RefAdamSmallEIdeal.τ).loc Cert.RefAdamSmallEIdeal.main_arg5)) (m' ((c.tc : Thread Cert.RefAdamSmallEIdeal.nD Cert.RefAdamSmallEIdeal.τ).loc Cert.RefAdamSmallEIdeal.main_arg11))
    exact ⟨(h c).1.trans ((Cert.RefAdamSmallEIdeal.Read.val_main_v23_eq _ _ _ _).trans (e0.trans (by rw [h0, h3, h6, h9]))),
      (h c).2.1.trans ((Cert.RefAdamSmallEIdeal.Read.val_main_v47_eq _ _ _ _).trans (e1.trans (by rw [h1, h4, h7, h10]))),
      (h c).2.2.1.trans ((Cert.RefAdamSmallEIdeal.Read.val_main_v71_eq _ _ _ _).trans (e2.trans (by rw [h2, h5, h8, h11]))),
      (h c).2.2.2.1.trans ((Cert.RefAdamSmallEIdeal.Read.val_main_v4_eq _ _).trans (e3.trans (by rw [h3, h6]))),
      (h c).2.2.2.2.1.trans ((Cert.RefAdamSmallEIdeal.Read.val_main_v28_eq _ _).trans (e4.trans (by rw [h4, h7]))),
      (h c).2.2.2.2.2.1.trans ((Cert.RefAdamSmallEIdeal.Read.val_main_v52_eq _ _).trans (e5.trans (by rw [h5, h8]))),
      (h c).2.2.2.2.2.2.1.trans ((Cert.RefAdamSmallEIdeal.Read.val_main_v10_eq _ _).trans (e6.trans (by rw [h3, h9]))),
      (h c).2.2.2.2.2.2.2.1.trans ((Cert.RefAdamSmallEIdeal.Read.val_main_v34_eq _ _).trans (e7.trans (by rw [h4, h10]))),
      (h c).2.2.2.2.2.2.2.2.1.trans ((Cert.RefAdamSmallEIdeal.Read.val_main_v58_eq _ _).trans (e8.trans (by rw [h5, h11]))), (h c).2.2.2.2.2.2.2.2.2⟩

end Cert.Adam.SmallE
-- ==== Proof.AdamSmallF.lean ====
/- AdamW on three of the small weights, one by one. -/
module

public import proofs.«01_k».proof.Defs
public import proofs.«01_k».proof.Proof.AdamSmall
public import proofs.«01_k».proof.Proof.Gen.AdamSmallFIdeal.Frame
public import proofs.«01_k».proof.Proof.Gen.AdamSmallFIdeal.Value
public import proofs.«01_k».proof.Proof.Gen.RefAdamSmallFIdeal.Run
public import proofs.«01_k».proof.Proof.Gen.RefAdamSmallFIdeal.Read
public import Idealize.ShloMosaic.Adequacy

@[expose] public section

noncomputable section

namespace Cert.Adam.SmallF

open Idealize.ShloMosaic Idealize.ShloMosaic.TcCoe Idealize.SL.Sem Cert.Adam.Small

set_option maxRecDepth 16384

/-- The shapes of the three weights. -/
abbrev Arr0 := FVec Ideal ⟨2, ![2, 2048]⟩ .f32
abbrev Arr1 := FVec Ideal ⟨2, ![2, 11264]⟩ .f32
abbrev Arr2 := FVec Ideal ⟨3, ![2, 3, 1408]⟩ .f32

section Kernel

open Cert.AdamSmallFIdeal Cert.AdamSmallFIdeal.Value

theorem kDelta0 (w g a v : Arr0) : G12 (F := Ideal) g a v w = deltaArr w g a v := rfl
theorem kMom0 (g a : Arr0) : G15 (F := Ideal) g a = momArr g a := rfl
theorem kSqm0 (g v : Arr0) : G18 (F := Ideal) g v = sqmArr g v := rfl
theorem kDelta1 (w g a v : Arr1) : G13 (F := Ideal) g a v w = deltaArr w g a v := rfl
theorem kMom1 (g a : Arr1) : G16 (F := Ideal) g a = momArr g a := rfl
theorem kSqm1 (g v : Arr1) : G19 (F := Ideal) g v = sqmArr g v := rfl
theorem kDelta2 (w g a v : Arr2) : G14 (F := Ideal) g a v w = deltaArr w g a v := rfl
theorem kMom2 (g a : Arr2) : G17 (F := Ideal) g a = momArr g a := rfl
theorem kSqm2 (g v : Arr2) : G20 (F := Ideal) g v = sqmArr g v := rfl

end Kernel

section Reference

open Cert.RefAdamSmallFIdeal Cert.RefAdamSmallFIdeal.Read

theorem rMom0 (g a : Arr0) : val_main_v4 (F := Ideal) g a = momArr g a := rfl
theorem rSqm0 (g v : Arr0) : val_main_v10 (F := Ideal) g v = sqmArr g v := rfl
theorem rDelta0 (w g a v : Arr0) : val_main_v23 (F := Ideal) w g a v = deltaArr w g a v := by
  funext i
  rw [deltaArr, delta, ← div_c1, ← div_c2]
  rfl
theorem rMom1 (g a : Arr1) : val_main_v28 (F := Ideal) g a = momArr g a := rfl
theorem rSqm1 (g v : Arr1) : val_main_v34 (F := Ideal) g v = sqmArr g v := rfl
theorem rDelta1 (w g a v : Arr1) : val_main_v47 (F := Ideal) w g a v = deltaArr w g a v := by
  funext i
  rw [deltaArr, delta, ← div_c1, ← div_c2]
  rfl
theorem rMom2 (g a : Arr2) : val_main_v52 (F := Ideal) g a = momArr g a := rfl
theorem rSqm2 (g v : Arr2) : val_main_v58 (F := Ideal) g v = sqmArr g v := rfl
theorem rDelta2 (w g a v : Arr2) : val_main_v71 (F := Ideal) w g a v = deltaArr w g a v := by
  funext i
  rw [deltaArr, delta, ← div_c1, ← div_c2]
  rfl

end Reference

/-- The reference runs, keeps its arguments and leaves every counter at zero. -/
theorem frame_ri : Cert.quiescent_RefAdamSmallFIdeal := fun m ρ _ =>
  (θ_run Cert.RefAdamSmallFIdeal.defs _ _).mono (fun r h => ⟨fun c => (h c).2.2.2.2.2.2.2.2.2, sem_eq_zero_of_no_sems (by decide) r.2⟩)
    (Cert.RefAdamSmallFIdeal.Value.run (F := Ideal) m ρ)

/-- The two named constants read as the reciprocals that their names stand for. -/
theorem preserves : Cert.preserves_AdamSmallF_AdamSmallFIdeal :=
  ⟨IdealRules.named_const.statement Cert.AdamSmallFIdeal.κ "adam_c1" .f32 0x3FC48605#32 ((8388608 / 5463681 : ℝ) : EReal) rfl,
    IdealRules.named_const.statement Cert.AdamSmallFIdeal.κ "adam_c2" .f32 0x42C8E6D3#32 ((268435456 / 2672307 : ℝ) : EReal) rfl⟩

theorem algebraic : Cert.algebraic_AdamSmallFIdeal_RefAdamSmallFIdeal := by
  intro m ρ m' ρ' _ hagree
  refine ⟨fun c => deltaArr (m ((c.tc : Thread Cert.AdamSmallFIdeal.nD Cert.AdamSmallFIdeal.τ).loc Cert.AdamSmallFIdeal.main_arg0)) (m ((c.tc : Thread Cert.AdamSmallFIdeal.nD Cert.AdamSmallFIdeal.τ).loc Cert.AdamSmallFIdeal.main_arg3)) (m ((c.tc : Thread Cert.AdamSmallFIdeal.nD Cert.AdamSmallFIdeal.τ).loc Cert.AdamSmallFIdeal.main_arg6)) (m ((c.tc : Thread Cert.AdamSmallFIdeal.nD Cert.AdamSmallFIdeal.τ).loc Cert.AdamSmallFIdeal.main_arg9)),
    fun c => deltaArr (m ((c.tc : Thread Cert.AdamSmallFIdeal.nD Cert.AdamSmallFIdeal.τ).loc Cert.AdamSmallFIdeal.main_arg1)) (m ((c.tc : Thread Cert.AdamSmallFIdeal.nD Cert.AdamSmallFIdeal.τ).loc Cert.AdamSmallFIdeal.main_arg4)) (m ((c.tc : Thread Cert.AdamSmallFIdeal.nD Cert.AdamSmallFIdeal.τ).loc Cert.AdamSmallFIdeal.main_arg7)) (m ((c.tc : Thread Cert.AdamSmallFIdeal.nD Cert.AdamSmallFIdeal.τ).loc Cert.AdamSmallFIdeal.main_arg10)),
    fun c => deltaArr (m ((c.tc : Thread Cert.AdamSmallFIdeal.nD Cert.AdamSmallFIdeal.τ).loc Cert.AdamSmallFIdeal.main_arg2)) (m ((c.tc : Thread Cert.AdamSmallFIdeal.nD Cert.AdamSmallFIdeal.τ).loc Cert.AdamSmallFIdeal.main_arg5)) (m ((c.tc : Thread Cert.AdamSmallFIdeal.nD Cert.AdamSmallFIdeal.τ).loc Cert.AdamSmallFIdeal.main_arg8)) (m ((c.tc : Thread Cert.AdamSmallFIdeal.nD Cert.AdamSmallFIdeal.τ).loc Cert.AdamSmallFIdeal.main_arg11)),
    fun c => momArr (m ((c.tc : Thread Cert.AdamSmallFIdeal.nD Cert.AdamSmallFIdeal.τ).loc Cert.AdamSmallFIdeal.main_arg3)) (m ((c.tc : Thread Cert.AdamSmallFIdeal.nD Cert.AdamSmallFIdeal.τ).loc Cert.AdamSmallFIdeal.main_arg6)),
    fun c => momArr (m ((c.tc : Thread Cert.AdamSmallFIdeal.nD Cert.AdamSmallFIdeal.τ).loc Cert.AdamSmallFIdeal.main_arg4)) (m ((c.tc : Thread Cert.AdamSmallFIdeal.nD Cert.AdamSmallFIdeal.τ).loc Cert.AdamSmallFIdeal.main_arg7)),
    fun c => momArr (m ((c.tc : Thread Cert.AdamSmallFIdeal.nD Cert.AdamSmallFIdeal.τ).loc Cert.AdamSmallFIdeal.main_arg5)) (m ((c.tc : Thread Cert.AdamSmallFIdeal.nD Cert.AdamSmallFIdeal.τ).loc Cert.AdamSmallFIdeal.main_arg8)),
    fun c => sqmArr (m ((c.tc : Thread Cert.AdamSmallFIdeal.nD Cert.AdamSmallFIdeal.τ).loc Cert.AdamSmallFIdeal.main_arg3)) (m ((c.tc : Thread Cert.AdamSmallFIdeal.nD Cert.AdamSmallFIdeal.τ).loc Cert.AdamSmallFIdeal.main_arg9)),
    fun c => sqmArr (m ((c.tc : Thread Cert.AdamSmallFIdeal.nD Cert.AdamSmallFIdeal.τ).loc Cert.AdamSmallFIdeal.main_arg4)) (m ((c.tc : Thread Cert.AdamSmallFIdeal.nD Cert.AdamSmallFIdeal.τ).loc Cert.AdamSmallFIdeal.main_arg10)),
    fun c => sqmArr (m ((c.tc : Thread Cert.AdamSmallFIdeal.nD Cert.AdamSmallFIdeal.τ).loc Cert.AdamSmallFIdeal.main_arg5)) (m ((c.tc : Thread Cert.AdamSmallFIdeal.nD Cert.AdamSmallFIdeal.τ).loc Cert.AdamSmallFIdeal.main_arg11)), ?_, ?_⟩
  · exact (θ_run Cert.AdamSmallFIdeal.defs _ _).mono (fun _ h c => ⟨(h c).1.trans (kDelta0 _ _ _ _),
      (h c).2.1.trans (kDelta1 _ _ _ _),
      (h c).2.2.1.trans (kDelta2 _ _ _ _),
      (h c).2.2.2.1.trans (kMom0 _ _),
      (h c).2.2.2.2.1.trans (kMom1 _ _),
      (h c).2.2.2.2.2.1.trans (kMom2 _ _),
      (h c).2.2.2.2.2.2.1.trans (kSqm0 _ _),
      (h c).2.2.2.2.2.2.2.1.trans (kSqm1 _ _),
      (h c).2.2.2.2.2.2.2.2.1.trans (kSqm2 _ _), (h c).2.2.2.2.2.2.2.2.2⟩)
      (Cert.AdamSmallFIdeal.Value.run (F := Ideal) m ρ)
  · refine (θ_run Cert.RefAdamSmallFIdeal.defs _ _).mono (fun _ h c => ?_) (Cert.RefAdamSmallFIdeal.Value.run (F := Ideal) m' ρ')
    obtain ⟨h0, h1, h2, h3, h4, h5, h6, h7, h8, h9, h10, h11⟩ := hagree c
    have e0 := rDelta0 (m' ((c.tc : Thread Cert.RefAdamSmallFIdeal.nD Cert.RefAdamSmallFIdeal.τ).loc Cert.RefAdamSmallFIdeal.main_arg0)) (m' ((c.tc : Thread Cert.RefAdamSmallFIdeal.nD Cert.RefAdamSmallFIdeal.τ).loc Cert.RefAdamSmallFIdeal.main_arg3)) (m' ((c.tc : Thread Cert.RefAdamSmallFIdeal.nD Cert.RefAdamSmallFIdeal.τ).loc Cert.RefAdamSmallFIdeal.main_arg6)) (m' ((c.tc : Thread Cert.RefAdamSmallFIdeal.nD Cert.RefAdamSmallFIdeal.τ).loc Cert.RefAdamSmallFIdeal.main_arg9))
    have e1 := rDelta1 (m' ((c.tc : Thread Cert.RefAdamSmallFIdeal.nD Cert.RefAdamSmallFIdeal.τ).loc Cert.RefAdamSmallFIdeal.main_arg1)) (m' ((c.tc : Thread Cert.RefAdamSmallFIdeal.nD Cert.RefAdamSmallFIdeal.τ).loc Cert.RefAdamSmallFIdeal.main_arg4)) (m' ((c.tc : Thread Cert.RefAdamSmallFIdeal.nD Cert.RefAdamSmallFIdeal.τ).loc Cert.RefAdamSmallFIdeal.main_arg7)) (m' ((c.tc : Thread Cert.RefAdamSmallFIdeal.nD Cert.RefAdamSmallFIdeal.τ).loc Cert.RefAdamSmallFIdeal.main_arg10))
    have e2 := rDelta2 (m' ((c.tc : Thread Cert.RefAdamSmallFIdeal.nD Cert.RefAdamSmallFIdeal.τ).loc Cert.RefAdamSmallFIdeal.main_arg2)) (m' ((c.tc : Thread Cert.RefAdamSmallFIdeal.nD Cert.RefAdamSmallFIdeal.τ).loc Cert.RefAdamSmallFIdeal.main_arg5)) (m' ((c.tc : Thread Cert.RefAdamSmallFIdeal.nD Cert.RefAdamSmallFIdeal.τ).loc Cert.RefAdamSmallFIdeal.main_arg8)) (m' ((c.tc : Thread Cert.RefAdamSmallFIdeal.nD Cert.RefAdamSmallFIdeal.τ).loc Cert.RefAdamSmallFIdeal.main_arg11))
    have e3 := rMom0 (m' ((c.tc : Thread Cert.RefAdamSmallFIdeal.nD Cert.RefAdamSmallFIdeal.τ).loc Cert.RefAdamSmallFIdeal.main_arg3)) (m' ((c.tc : Thread Cert.RefAdamSmallFIdeal.nD Cert.RefAdamSmallFIdeal.τ).loc Cert.RefAdamSmallFIdeal.main_arg6))
    have e4 := rMom1 (m' ((c.tc : Thread Cert.RefAdamSmallFIdeal.nD Cert.RefAdamSmallFIdeal.τ).loc Cert.RefAdamSmallFIdeal.main_arg4)) (m' ((c.tc : Thread Cert.RefAdamSmallFIdeal.nD Cert.RefAdamSmallFIdeal.τ).loc Cert.RefAdamSmallFIdeal.main_arg7))
    have e5 := rMom2 (m' ((c.tc : Thread Cert.RefAdamSmallFIdeal.nD Cert.RefAdamSmallFIdeal.τ).loc Cert.RefAdamSmallFIdeal.main_arg5)) (m' ((c.tc : Thread Cert.RefAdamSmallFIdeal.nD Cert.RefAdamSmallFIdeal.τ).loc Cert.RefAdamSmallFIdeal.main_arg8))
    have e6 := rSqm0 (m' ((c.tc : Thread Cert.RefAdamSmallFIdeal.nD Cert.RefAdamSmallFIdeal.τ).loc Cert.RefAdamSmallFIdeal.main_arg3)) (m' ((c.tc : Thread Cert.RefAdamSmallFIdeal.nD Cert.RefAdamSmallFIdeal.τ).loc Cert.RefAdamSmallFIdeal.main_arg9))
    have e7 := rSqm1 (m' ((c.tc : Thread Cert.RefAdamSmallFIdeal.nD Cert.RefAdamSmallFIdeal.τ).loc Cert.RefAdamSmallFIdeal.main_arg4)) (m' ((c.tc : Thread Cert.RefAdamSmallFIdeal.nD Cert.RefAdamSmallFIdeal.τ).loc Cert.RefAdamSmallFIdeal.main_arg10))
    have e8 := rSqm2 (m' ((c.tc : Thread Cert.RefAdamSmallFIdeal.nD Cert.RefAdamSmallFIdeal.τ).loc Cert.RefAdamSmallFIdeal.main_arg5)) (m' ((c.tc : Thread Cert.RefAdamSmallFIdeal.nD Cert.RefAdamSmallFIdeal.τ).loc Cert.RefAdamSmallFIdeal.main_arg11))
    exact ⟨(h c).1.trans ((Cert.RefAdamSmallFIdeal.Read.val_main_v23_eq _ _ _ _).trans (e0.trans (by rw [h0, h3, h6, h9]))),
      (h c).2.1.trans ((Cert.RefAdamSmallFIdeal.Read.val_main_v47_eq _ _ _ _).trans (e1.trans (by rw [h1, h4, h7, h10]))),
      (h c).2.2.1.trans ((Cert.RefAdamSmallFIdeal.Read.val_main_v71_eq _ _ _ _).trans (e2.trans (by rw [h2, h5, h8, h11]))),
      (h c).2.2.2.1.trans ((Cert.RefAdamSmallFIdeal.Read.val_main_v4_eq _ _).trans (e3.trans (by rw [h3, h6]))),
      (h c).2.2.2.2.1.trans ((Cert.RefAdamSmallFIdeal.Read.val_main_v28_eq _ _).trans (e4.trans (by rw [h4, h7]))),
      (h c).2.2.2.2.2.1.trans ((Cert.RefAdamSmallFIdeal.Read.val_main_v52_eq _ _).trans (e5.trans (by rw [h5, h8]))),
      (h c).2.2.2.2.2.2.1.trans ((Cert.RefAdamSmallFIdeal.Read.val_main_v10_eq _ _).trans (e6.trans (by rw [h3, h9]))),
      (h c).2.2.2.2.2.2.2.1.trans ((Cert.RefAdamSmallFIdeal.Read.val_main_v34_eq _ _).trans (e7.trans (by rw [h4, h10]))),
      (h c).2.2.2.2.2.2.2.2.1.trans ((Cert.RefAdamSmallFIdeal.Read.val_main_v58_eq _ _).trans (e8.trans (by rw [h5, h11]))), (h c).2.2.2.2.2.2.2.2.2⟩

end Cert.Adam.SmallF
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.GateClaims
public import proofs.«01_k».proof.Proof.Gen.DownDx
public import proofs.«01_k».proof.Proof.Gen.DownDx.Frame
public import proofs.«01_k».proof.Proof.DownDx
public import proofs.«01_k».proof.Proof.Gen.DownDw
public import proofs.«01_k».proof.Proof.Gen.DownDw.Frame
public import proofs.«01_k».proof.Proof.DownDw
public import proofs.«01_k».proof.Proof.Gen.UpDx
public import proofs.«01_k».proof.Proof.Gen.UpDx.Frame
public import proofs.«01_k».proof.Proof.UpDx
public import proofs.«01_k».proof.Proof.Gen.UpDw
public import proofs.«01_k».proof.Proof.Gen.UpDw.Frame
public import proofs.«01_k».proof.Proof.UpDw
public import proofs.«01_k».proof.Proof.Gen.OutDx
public import proofs.«01_k».proof.Proof.Gen.OutDx.Frame
public import proofs.«01_k».proof.Proof.OutDx
public import proofs.«01_k».proof.Proof.Gen.OutDw
public import proofs.«01_k».proof.Proof.Gen.OutDw.Frame
public import proofs.«01_k».proof.Proof.OutDw
public import proofs.«01_k».proof.Proof.Gen.GluDx
public import proofs.«01_k».proof.Proof.Gen.GluDx.Frame
public import proofs.«01_k».proof.Proof.GluDx
public import proofs.«01_k».proof.Proof.Gen.GluDw
public import proofs.«01_k».proof.Proof.Gen.GluDw.Frame
public import proofs.«01_k».proof.Proof.GluDw
public import proofs.«01_k».proof.Proof.Gen.InDx
public import proofs.«01_k».proof.Proof.Gen.InDx.Frame
public import proofs.«01_k».proof.Proof.InDx
public import proofs.«01_k».proof.Proof.Gen.InDw
public import proofs.«01_k».proof.Proof.Gen.InDw.Frame
public import proofs.«01_k».proof.Proof.InDw
public import proofs.«01_k».proof.Proof.Gen.InFwd
public import proofs.«01_k».proof.Proof.Gen.InFwd.Frame
public import proofs.«01_k».proof.Proof.InFwd
public import proofs.«01_k».proof.Proof.Gen.GluFwd
public import proofs.«01_k».proof.Proof.Gen.GluFwd.Frame
public import proofs.«01_k».proof.Proof.GluFwd
public import proofs.«01_k».proof.Proof.Gen.OutFwd
public import proofs.«01_k».proof.Proof.Gen.OutFwd.Frame
public import proofs.«01_k».proof.Proof.OutFwd
public import proofs.«01_k».proof.Proof.Gen.UpFwd
public import proofs.«01_k».proof.Proof.Gen.UpFwd.Frame
public import proofs.«01_k».proof.Proof.UpFwd
public import proofs.«01_k».proof.Proof.Gen.DownFwd
public import proofs.«01_k».proof.Proof.Gen.DownFwd.Frame
public import proofs.«01_k».proof.Proof.DownFwd
public import proofs.«01_k».proof.Proof.Gen.ResBwd
public import proofs.«01_k».proof.Proof.Gen.ResBwd.Frame
public import proofs.«01_k».proof.Proof.ResBwd
public import proofs.«01_k».proof.Proof.Gen.ModBwd
public import proofs.«01_k».proof.Proof.Gen.ModBwd.Frame
public import proofs.«01_k».proof.Proof.ModBwd
public import proofs.«01_k».proof.Proof.Gen.ModResBwd
public import proofs.«01_k».proof.Proof.Gen.ModResBwd.Frame
public import proofs.«01_k».proof.Proof.ModResBwd
public import proofs.«01_k».proof.Proof.Gen.MergeBwd
public import proofs.«01_k».proof.Proof.Gen.MergeBwd.Frame
public import proofs.«01_k».proof.Proof.MergeBwd
public import proofs.«01_k».proof.Proof.Gen.ModFwd
public import proofs.«01_k».proof.Proof.Gen.ModFwd.Frame
public import proofs.«01_k».proof.Proof.ModFwd
public import proofs.«01_k».proof.Proof.Gen.ResModFwd
public import proofs.«01_k».proof.Proof.Gen.ResModFwd.Frame
public import proofs.«01_k».proof.Proof.ResModFwd
public import proofs.«01_k».proof.Proof.Gen.ResLoss
public import proofs.«01_k».proof.Proof.Gen.ResLoss.Frame
public import proofs.«01_k».proof.Proof.ResLoss
public import proofs.«01_k».proof.Proof.Gen.MergeFwd
public import proofs.«01_k».proof.Proof.Gen.MergeFwd.Frame
public import proofs.«01_k».proof.Proof.MergeFwd
public import proofs.«01_k».proof.Proof.Gen.AdaFwd
public import proofs.«01_k».proof.Proof.Gen.AdaFwd.Frame
public import proofs.«01_k».proof.Proof.AdaFwd
public import proofs.«01_k».proof.Proof.Gen.AdaDw
public import proofs.«01_k».proof.Proof.Gen.AdaDw.Frame
public import proofs.«01_k».proof.Proof.AdaDw
public import proofs.«01_k».proof.Proof.Gen.GateFwd
public import proofs.«01_k».proof.Proof.Gen.GateFwd.Frame
public import proofs.«01_k».proof.Proof.GateFwd
public import proofs.«01_k».proof.Proof.Gen.AdamWIn
public import proofs.«01_k».proof.Proof.Gen.AdamWIn.Frame
public import proofs.«01_k».proof.Proof.AdamWIn
public import proofs.«01_k».proof.Proof.Gen.AdamWGlu
public import proofs.«01_k».proof.Proof.Gen.AdamWGlu.Frame
public import proofs.«01_k».proof.Proof.AdamWGlu
public import proofs.«01_k».proof.Proof.Gen.AdamWOut
public import proofs.«01_k».proof.Proof.Gen.AdamWOut.Frame
public import proofs.«01_k».proof.Proof.AdamWOut
public import proofs.«01_k».proof.Proof.Gen.AdamWUp
public import proofs.«01_k».proof.Proof.Gen.AdamWUp.Frame
public import proofs.«01_k».proof.Proof.AdamWUp
public import proofs.«01_k».proof.Proof.Gen.AdamWDown
public import proofs.«01_k».proof.Proof.Gen.AdamWDown.Frame
public import proofs.«01_k».proof.Proof.AdamWDown
public import proofs.«01_k».proof.Proof.Gen.AdamWAda
public import proofs.«01_k».proof.Proof.Gen.AdamWAda.Frame
public import proofs.«01_k».proof.Proof.AdamWAda
public import proofs.«01_k».proof.Proof.Gen.SsmParBwd
public import proofs.«01_k».proof.Proof.Gen.SsmParBwd.Frame
public import proofs.«01_k».proof.Proof.SsmParBwd
public import proofs.«01_k».proof.Proof.Gen.SsmParFwd
public import proofs.«01_k».proof.Proof.Gen.SsmParFwd.Frame
public import proofs.«01_k».proof.Proof.SsmParFwd
public import proofs.«01_k».proof.Proof.Gen.AdamSmallA
public import proofs.«01_k».proof.Proof.Gen.AdamSmallA.Frame
public import proofs.«01_k».proof.Proof.AdamSmallA
public import proofs.«01_k».proof.Proof.Gen.AdamSmallB
public import proofs.«01_k».proof.Proof.Gen.AdamSmallB.Frame
public import proofs.«01_k».proof.Proof.AdamSmallB
public import proofs.«01_k».proof.Proof.Gen.AdamSmallC
public import proofs.«01_k».proof.Proof.Gen.AdamSmallC.Frame
public import proofs.«01_k».proof.Proof.AdamSmallC
public import proofs.«01_k».proof.Proof.Gen.AdamSmallD
public import proofs.«01_k».proof.Proof.Gen.AdamSmallD.Frame
public import proofs.«01_k».proof.Proof.AdamSmallD
public import proofs.«01_k».proof.Proof.Gen.AdamSmallE
public import proofs.«01_k».proof.Proof.Gen.AdamSmallE.Frame
public import proofs.«01_k».proof.Proof.AdamSmallE
public import proofs.«01_k».proof.Proof.Gen.AdamSmallF
public import proofs.«01_k».proof.Proof.Gen.AdamSmallF.Frame
public import proofs.«01_k».proof.Proof.AdamSmallF

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DownDx.Gen.facts, Cert.DownDxIdeal.Gen.facts, Cert.RefDownDxIdeal.Gen.facts,
  Cert.DownDw.Gen.facts, Cert.DownDwIdeal.Gen.facts, Cert.RefDownDwIdeal.Gen.facts,
  Cert.UpDx.Gen.facts, Cert.UpDxIdeal.Gen.facts, Cert.RefUpDxIdeal.Gen.facts,
  Cert.UpDw.Gen.facts, Cert.UpDwIdeal.Gen.facts, Cert.RefUpDwIdeal.Gen.facts,
  Cert.OutDx.Gen.facts, Cert.OutDxIdeal.Gen.facts, Cert.RefOutDxIdeal.Gen.facts,
  Cert.OutDw.Gen.facts, Cert.OutDwIdeal.Gen.facts, Cert.RefOutDwIdeal.Gen.facts,
  Cert.GluDx.Gen.facts, Cert.GluDxIdeal.Gen.facts, Cert.RefGluDxIdeal.Gen.facts,
  Cert.GluDw.Gen.facts, Cert.GluDwIdeal.Gen.facts, Cert.RefGluDwIdeal.Gen.facts,
  Cert.InDx.Gen.facts, Cert.InDxIdeal.Gen.facts, Cert.RefInDxIdeal.Gen.facts,
  Cert.InDw.Gen.facts, Cert.InDwIdeal.Gen.facts, Cert.RefInDwIdeal.Gen.facts,
  Cert.InFwd.Gen.facts, Cert.InFwdIdeal.Gen.facts, Cert.RefInFwdIdeal.Gen.facts,
  Cert.GluFwd.Gen.facts, Cert.GluFwdIdeal.Gen.facts, Cert.RefGluFwdIdeal.Gen.facts,
  Cert.OutFwd.Gen.facts, Cert.OutFwdIdeal.Gen.facts, Cert.RefOutFwdIdeal.Gen.facts,
  Cert.UpFwd.Gen.facts, Cert.UpFwdIdeal.Gen.facts, Cert.RefUpFwdIdeal.Gen.facts,
  Cert.DownFwd.Gen.facts, Cert.DownFwdIdeal.Gen.facts, Cert.RefDownFwdIdeal.Gen.facts,
  Cert.ResBwd.Gen.facts, Cert.ResBwdIdeal.Gen.facts, Cert.RefResBwdIdeal.Gen.facts,
  Cert.ModBwd.Gen.facts, Cert.ModBwdIdeal.Gen.facts, Cert.RefModBwdIdeal.Gen.facts,
  Cert.ModResBwd.Gen.facts, Cert.ModResBwdIdeal.Gen.facts, Cert.RefModResBwdIdeal.Gen.facts,
  Cert.MergeBwd.Gen.facts, Cert.MergeBwdIdeal.Gen.facts, Cert.RefMergeBwdIdeal.Gen.facts,
  Cert.ModFwd.Gen.facts, Cert.ModFwdIdeal.Gen.facts, Cert.RefModFwdIdeal.Gen.facts,
  Cert.ResModFwd.Gen.facts, Cert.ResModFwdIdeal.Gen.facts, Cert.RefResModFwdIdeal.Gen.facts,
  Cert.ResLoss.Gen.facts, Cert.ResLossIdeal.Gen.facts, Cert.RefResLossIdeal.Gen.facts,
  Cert.MergeFwd.Gen.facts, Cert.MergeFwdIdeal.Gen.facts, Cert.RefMergeFwdIdeal.Gen.facts,
  Cert.AdaFwd.Gen.facts, Cert.AdaFwdIdeal.Gen.facts, Cert.RefAdaFwdIdeal.Gen.facts,
  Cert.AdaDw.Gen.facts, Cert.AdaDwIdeal.Gen.facts, Cert.RefAdaDwIdeal.Gen.facts,
  Cert.GateFwd.Gen.facts, Cert.GateFwdIdeal.Gen.facts, Cert.RefGateFwdIdeal.Gen.facts,
  Cert.AdamWIn.Gen.facts, Cert.AdamWInIdeal.Gen.facts, Cert.RefAdamWInIdeal.Gen.facts,
  Cert.AdamWGlu.Gen.facts, Cert.AdamWGluIdeal.Gen.facts, Cert.RefAdamWGluIdeal.Gen.facts,
  Cert.AdamWOut.Gen.facts, Cert.AdamWOutIdeal.Gen.facts, Cert.RefAdamWOutIdeal.Gen.facts,
  Cert.AdamWUp.Gen.facts, Cert.AdamWUpIdeal.Gen.facts, Cert.RefAdamWUpIdeal.Gen.facts,
  Cert.AdamWDown.Gen.facts, Cert.AdamWDownIdeal.Gen.facts, Cert.RefAdamWDownIdeal.Gen.facts,
  Cert.AdamWAda.Gen.facts, Cert.AdamWAdaIdeal.Gen.facts, Cert.RefAdamWAdaIdeal.Gen.facts,
  Cert.SsmParBwd.Gen.facts, Cert.SsmParBwdIdeal.Gen.facts, Cert.RefSsmParBwdIdeal.Gen.facts,
  Cert.SsmParFwd.Gen.facts, Cert.SsmParFwdIdeal.Gen.facts, Cert.RefSsmParFwdIdeal.Gen.facts,
  Cert.AdamSmallA.Gen.facts, Cert.AdamSmallAIdeal.Gen.facts, Cert.RefAdamSmallAIdeal.Gen.facts,
  Cert.AdamSmallB.Gen.facts, Cert.AdamSmallBIdeal.Gen.facts, Cert.RefAdamSmallBIdeal.Gen.facts,
  Cert.AdamSmallC.Gen.facts, Cert.AdamSmallCIdeal.Gen.facts, Cert.RefAdamSmallCIdeal.Gen.facts,
  Cert.AdamSmallD.Gen.facts, Cert.AdamSmallDIdeal.Gen.facts, Cert.RefAdamSmallDIdeal.Gen.facts,
  Cert.AdamSmallE.Gen.facts, Cert.AdamSmallEIdeal.Gen.facts, Cert.RefAdamSmallEIdeal.Gen.facts,
  Cert.AdamSmallF.Gen.facts, Cert.AdamSmallFIdeal.Gen.facts, Cert.RefAdamSmallFIdeal.Gen.facts,
  Cert.Pre_all_finite.Gen.facts,
  fun m ρ _ => Cert.Kernel.Gen.frame m ρ, fun m ρ _ => Cert.KernelIdeal.Gen.frame m ρ, fun m ρ _ => Cert.KernelIdeal.Gen.frame m ρ,
  Cert.Gate.frame_ri, fun m ρ _ => Cert.Gate.frame_ri m ρ trivial,
  fun m ρ _ => Cert.DownDx.Gen.frame m ρ, fun m ρ _ => Cert.DownDxIdeal.Gen.frame m ρ, Cert.Dense.DownDx.frame_ri,
  fun m ρ _ => Cert.DownDw.Gen.frame m ρ, fun m ρ _ => Cert.DownDwIdeal.Gen.frame m ρ, Cert.Dense.DownDw.frame_ri,
  fun m ρ _ => Cert.UpDx.Gen.frame m ρ, fun m ρ _ => Cert.UpDxIdeal.Gen.frame m ρ, Cert.Dense.UpDx.frame_ri,
  fun m ρ _ => Cert.UpDw.Gen.frame m ρ, fun m ρ _ => Cert.UpDwIdeal.Gen.frame m ρ, Cert.Dense.UpDw.frame_ri,
  fun m ρ _ => Cert.OutDx.Gen.frame m ρ, fun m ρ _ => Cert.OutDxIdeal.Gen.frame m ρ, Cert.Dense.OutDx.frame_ri,
  fun m ρ _ => Cert.OutDw.Gen.frame m ρ, fun m ρ _ => Cert.OutDwIdeal.Gen.frame m ρ, Cert.Dense.OutDw.frame_ri,
  fun m ρ _ => Cert.GluDx.Gen.frame m ρ, fun m ρ _ => Cert.GluDxIdeal.Gen.frame m ρ, Cert.Dense.GluDx.frame_ri,
  fun m ρ _ => Cert.GluDw.Gen.frame m ρ, fun m ρ _ => Cert.GluDwIdeal.Gen.frame m ρ, Cert.Dense.GluDw.frame_ri,
  fun m ρ _ => Cert.InDx.Gen.frame m ρ, fun m ρ _ => Cert.InDxIdeal.Gen.frame m ρ, Cert.Dense.InDx.frame_ri,
  fun m ρ _ => Cert.InDw.Gen.frame m ρ, fun m ρ _ => Cert.InDwIdeal.Gen.frame m ρ, Cert.Dense.InDw.frame_ri,
  fun m ρ _ => Cert.InFwd.Gen.frame m ρ, fun m ρ _ => Cert.InFwdIdeal.Gen.frame m ρ, Cert.Dense.InFwd.frame_ri,
  fun m ρ _ => Cert.GluFwd.Gen.frame m ρ, fun m ρ _ => Cert.GluFwdIdeal.Gen.frame m ρ, Cert.Dense.GluFwd.frame_ri,
  fun m ρ _ => Cert.OutFwd.Gen.frame m ρ, fun m ρ _ => Cert.OutFwdIdeal.Gen.frame m ρ, Cert.Dense.OutFwd.frame_ri,
  fun m ρ _ => Cert.UpFwd.Gen.frame m ρ, fun m ρ _ => Cert.UpFwdIdeal.Gen.frame m ρ, Cert.Dense.UpFwd.frame_ri,
  fun m ρ _ => Cert.DownFwd.Gen.frame m ρ, fun m ρ _ => Cert.DownFwdIdeal.Gen.frame m ρ, Cert.Dense.DownFwd.frame_ri,
  fun m ρ _ => Cert.ResBwd.Gen.frame m ρ, fun m ρ _ => Cert.ResBwdIdeal.Gen.frame m ρ, Cert.Norm.ResBwd.frame_ri,
  fun m ρ _ => Cert.ModBwd.Gen.frame m ρ, fun m ρ _ => Cert.ModBwdIdeal.Gen.frame m ρ, Cert.Norm.ModBwd.frame_ri,
  fun m ρ _ => Cert.ModResBwd.Gen.frame m ρ, fun m ρ _ => Cert.ModResBwdIdeal.Gen.frame m ρ, Cert.Norm.ModResBwd.frame_ri,
  fun m ρ _ => Cert.MergeBwd.Gen.frame m ρ, fun m ρ _ => Cert.MergeBwdIdeal.Gen.frame m ρ, Cert.Norm.MergeBwd.frame_ri,
  fun m ρ _ => Cert.ModFwd.Gen.frame m ρ, fun m ρ _ => Cert.ModFwdIdeal.Gen.frame m ρ, Cert.Norm.ModFwd.frame_ri,
  fun m ρ _ => Cert.ResModFwd.Gen.frame m ρ, fun m ρ _ => Cert.ResModFwdIdeal.Gen.frame m ρ, Cert.Norm.ResModFwd.frame_ri,
  fun m ρ _ => Cert.ResLoss.Gen.frame m ρ, fun m ρ _ => Cert.ResLossIdeal.Gen.frame m ρ, Cert.Norm.ResLoss.frame_ri,
  fun m ρ _ => Cert.MergeFwd.Gen.frame m ρ, fun m ρ _ => Cert.MergeFwdIdeal.Gen.frame m ρ, Cert.Norm.MergeFwd.frame_ri,
  fun m ρ _ => Cert.AdaFwd.Gen.frame m ρ, fun m ρ _ => Cert.AdaFwdIdeal.Gen.frame m ρ, Cert.Dense.AdaFwd.frame_ri,
  fun m ρ _ => Cert.AdaDw.Gen.frame m ρ, fun m ρ _ => Cert.AdaDwIdeal.Gen.frame m ρ, Cert.Dense.AdaDw.frame_ri,
  fun m ρ _ => Cert.GateFwd.Gen.frame m ρ, fun m ρ _ => Cert.GateFwdIdeal.Gen.frame m ρ, Cert.Gate.Fwd.frame_ri,
  fun m ρ _ => Cert.AdamWIn.Gen.frame m ρ, fun m ρ _ => Cert.AdamWInIdeal.Gen.frame m ρ, Cert.Adam.In.frame_ri,
  fun m ρ _ => Cert.AdamWGlu.Gen.frame m ρ, fun m ρ _ => Cert.AdamWGluIdeal.Gen.frame m ρ, Cert.Adam.Glu.frame_ri,
  fun m ρ _ => Cert.AdamWOut.Gen.frame m ρ, fun m ρ _ => Cert.AdamWOutIdeal.Gen.frame m ρ, Cert.Adam.Out.frame_ri,
  fun m ρ _ => Cert.AdamWUp.Gen.frame m ρ, fun m ρ _ => Cert.AdamWUpIdeal.Gen.frame m ρ, Cert.Adam.Up.frame_ri,
  fun m ρ _ => Cert.AdamWDown.Gen.frame m ρ, fun m ρ _ => Cert.AdamWDownIdeal.Gen.frame m ρ, Cert.Adam.Down.frame_ri,
  fun m ρ _ => Cert.AdamWAda.Gen.frame m ρ, fun m ρ _ => Cert.AdamWAdaIdeal.Gen.frame m ρ, Cert.Adam.Ada.frame_ri,
  fun m ρ _ => Cert.SsmParBwd.Gen.frame m ρ, fun m ρ _ => Cert.SsmParBwdIdeal.Gen.frame m ρ, Cert.Ssm.ParBwd.frame_ri,
  fun m ρ _ => Cert.SsmParFwd.Gen.frame m ρ, fun m ρ _ => Cert.SsmParFwdIdeal.Gen.frame m ρ, Cert.Ssm.ParFwd.frame_ri,
  fun m ρ _ => Cert.AdamSmallA.Gen.frame m ρ, fun m ρ _ => Cert.AdamSmallAIdeal.Gen.frame m ρ, Cert.Adam.SmallA.frame_ri,
  fun m ρ _ => Cert.AdamSmallB.Gen.frame m ρ, fun m ρ _ => Cert.AdamSmallBIdeal.Gen.frame m ρ, Cert.Adam.SmallB.frame_ri,
  fun m ρ _ => Cert.AdamSmallC.Gen.frame m ρ, fun m ρ _ => Cert.AdamSmallCIdeal.Gen.frame m ρ, Cert.Adam.SmallC.frame_ri,
  fun m ρ _ => Cert.AdamSmallD.Gen.frame m ρ, fun m ρ _ => Cert.AdamSmallDIdeal.Gen.frame m ρ, Cert.Adam.SmallD.frame_ri,
  fun m ρ _ => Cert.AdamSmallE.Gen.frame m ρ, fun m ρ _ => Cert.AdamSmallEIdeal.Gen.frame m ρ, Cert.Adam.SmallE.frame_ri,
  fun m ρ _ => Cert.AdamSmallF.Gen.frame m ρ, fun m ρ _ => Cert.AdamSmallFIdeal.Gen.frame m ρ, Cert.Adam.SmallF.frame_ri,
  Cert.Gate.preserves, Cert.Gate.algebraic,
  trivial, Cert.Dense.DownDx.algebraic,
  trivial, Cert.Dense.DownDw.algebraic,
  trivial, Cert.Dense.UpDx.algebraic,
  trivial, Cert.Dense.UpDw.algebraic,
  trivial, Cert.Dense.OutDx.algebraic,
  trivial, Cert.Dense.OutDw.algebraic,
  trivial, Cert.Dense.GluDx.algebraic,
  trivial, Cert.Dense.GluDw.algebraic,
  trivial, Cert.Dense.InDx.algebraic,
  trivial, Cert.Dense.InDw.algebraic,
  trivial, Cert.Dense.InFwd.algebraic,
  trivial, Cert.Dense.GluFwd.algebraic,
  trivial, Cert.Dense.OutFwd.algebraic,
  trivial, Cert.Dense.UpFwd.algebraic,
  trivial, Cert.Dense.DownFwd.algebraic,
  trivial, Cert.Norm.ResBwd.algebraic,
  trivial, Cert.Norm.ModBwd.algebraic,
  trivial, Cert.Norm.ModResBwd.algebraic,
  trivial, Cert.Norm.MergeBwd.algebraic,
  trivial, Cert.Norm.ModFwd.algebraic,
  trivial, Cert.Norm.ResModFwd.algebraic,
  trivial, Cert.Norm.ResLoss.algebraic,
  trivial, Cert.Norm.MergeFwd.algebraic,
  trivial, Cert.Dense.AdaFwd.algebraic,
  trivial, Cert.Dense.AdaDw.algebraic,
  trivial, Cert.Gate.Fwd.algebraic,
  Cert.Adam.In.preserves, Cert.Adam.In.algebraic,
  Cert.Adam.Glu.preserves, Cert.Adam.Glu.algebraic,
  Cert.Adam.Out.preserves, Cert.Adam.Out.algebraic,
  Cert.Adam.Up.preserves, Cert.Adam.Up.algebraic,
  Cert.Adam.Down.preserves, Cert.Adam.Down.algebraic,
  Cert.Adam.Ada.preserves, Cert.Adam.Ada.algebraic,
  trivial, Cert.Ssm.ParBwd.algebraic,
  trivial, Cert.Ssm.ParFwd.algebraic,
  Cert.Adam.SmallA.preserves, Cert.Adam.SmallA.algebraic,
  Cert.Adam.SmallB.preserves, Cert.Adam.SmallB.algebraic,
  Cert.Adam.SmallC.preserves, Cert.Adam.SmallC.algebraic,
  Cert.Adam.SmallD.preserves, Cert.Adam.SmallD.algebraic,
  Cert.Adam.SmallE.preserves, Cert.Adam.SmallE.algebraic,
  Cert.Adam.SmallF.preserves, Cert.Adam.SmallF.algebraic⟩

end Cert.Proof

end
